-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_experts_exist : Cert.Pre_experts_exist.Facts] (m : (ℓ : Loc Cert.Kernel2.nD Cert.Kernel2.τ Cert.Kernel2.sig) → Buf (Elt Bits) ℓ) : Prop :=
  ∀ c : Dev Cert.Kernel2.nD,
    (Cert.Pre_experts_exist.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Reference2 [hPre_experts_exist : Cert.Pre_experts_exist.Facts] (m : (ℓ : Loc Cert.Reference2.nD Cert.Reference2.τ Cert.Reference2.sig) → Buf (Elt Bits) ℓ) : Prop :=
  ∀ c : Dev Cert.Reference2.nD,
    (Cert.Pre_experts_exist.fn (F := Bits) (m ((c.tc : Thread Cert.Reference2.nD Cert.Reference2.τ).loc Cert.Reference2.main_arg0)) (m ((c.tc : Thread Cert.Reference2.nD Cert.Reference2.τ).loc Cert.Reference2.main_arg1)) (m ((c.tc : Thread Cert.Reference2.nD Cert.Reference2.τ).loc Cert.Reference2.main_arg2)) (m ((c.tc : Thread Cert.Reference2.nD Cert.Reference2.τ).loc Cert.Reference2.main_arg3)) (m ((c.tc : Thread Cert.Reference2.nD Cert.Reference2.τ).loc Cert.Reference2.main_arg4)) (m ((c.tc : Thread Cert.Reference2.nD Cert.Reference2.τ).loc Cert.Reference2.main_arg5)) (m ((c.tc : Thread Cert.Reference2.nD Cert.Reference2.τ).loc Cert.Reference2.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_experts_exist : Cert.Pre_experts_exist.Facts] (m : (ℓ : Loc Cert.Kernel4.nD Cert.Kernel4.τ Cert.Kernel4.sig) → Buf (Elt Bits) ℓ) : Prop :=
  ∀ c : Dev Cert.Kernel4.nD,
    (Cert.Pre_experts_exist.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6))) = (fun _ => 1#1)

def Pre_Reference4 [hPre_experts_exist : Cert.Pre_experts_exist.Facts] (m : (ℓ : Loc Cert.Reference4.nD Cert.Reference4.τ Cert.Reference4.sig) → Buf (Elt Bits) ℓ) : Prop :=
  ∀ c : Dev Cert.Reference4.nD,
    (Cert.Pre_experts_exist.fn (F := Bits) (m ((c.tc : Thread Cert.Reference4.nD Cert.Reference4.τ).loc Cert.Reference4.main_arg0)) (m ((c.tc : Thread Cert.Reference4.nD Cert.Reference4.τ).loc Cert.Reference4.main_arg1)) (m ((c.tc : Thread Cert.Reference4.nD Cert.Reference4.τ).loc Cert.Reference4.main_arg2)) (m ((c.tc : Thread Cert.Reference4.nD Cert.Reference4.τ).loc Cert.Reference4.main_arg3)) (m ((c.tc : Thread Cert.Reference4.nD Cert.Reference4.τ).loc Cert.Reference4.main_arg4)) (m ((c.tc : Thread Cert.Reference4.nD Cert.Reference4.τ).loc Cert.Reference4.main_arg5)) (m ((c.tc : Thread Cert.Reference4.nD Cert.Reference4.τ).loc Cert.Reference4.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] [hPre_experts_exist : Cert.Pre_experts_exist.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Reference2 [hReference2 : Cert.Reference2.Facts] [hPre_experts_exist : Cert.Pre_experts_exist.Facts] : Prop :=
  ∀ (m : (ℓ : Loc Cert.Reference2.nD Cert.Reference2.τ Cert.Reference2.sig) → Buf (Elt Bits) ℓ) (g : Dev Cert.Reference2.nD → PrngReg), Pre_Reference2 m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0)
      ∧ r.2.mem ((c.tc : Thread Cert.Reference2.nD Cert.Reference2.τ).loc Cert.Reference2.main_arg1) = m ((c.tc : Thread Cert.Reference2.nD Cert.Reference2.τ).loc Cert.Reference2.main_arg1)
      ∧ r.2.mem ((c.tc : Thread Cert.Reference2.nD Cert.Reference2.τ).loc Cert.Reference2.main_arg2) = m ((c.tc : Thread Cert.Reference2.nD Cert.Reference2.τ).loc Cert.Reference2.main_arg2)
      ∧ r.2.mem ((c.tc : Thread Cert.Reference2.nD Cert.Reference2.τ).loc Cert.Reference2.main_arg3) = m ((c.tc : Thread Cert.Reference2.nD Cert.Reference2.τ).loc Cert.Reference2.main_arg3)
      ∧ r.2.mem ((c.tc : Thread Cert.Reference2.nD Cert.Reference2.τ).loc Cert.Reference2.main_arg4) = m ((c.tc : Thread Cert.Reference2.nD Cert.Reference2.τ).loc Cert.Reference2.main_arg4)
      ∧ r.2.mem ((c.tc : Thread Cert.Reference2.nD Cert.Reference2.τ).loc Cert.Reference2.main_arg5) = m ((c.tc : Thread Cert.Reference2.nD Cert.Reference2.τ).loc Cert.Reference2.main_arg5)
      ∧ r.2.mem ((c.tc : Thread Cert.Reference2.nD Cert.Reference2.τ).loc Cert.Reference2.main_arg6) = m ((c.tc : Thread Cert.Reference2.nD Cert.Reference2.τ).loc Cert.Reference2.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] [hPre_experts_exist : Cert.Pre_experts_exist.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Reference4 [hReference4 : Cert.Reference4.Facts] [hPre_experts_exist : Cert.Pre_experts_exist.Facts] : Prop :=
  ∀ (m : (ℓ : Loc Cert.Reference4.nD Cert.Reference4.τ Cert.Reference4.sig) → Buf (Elt Bits) ℓ) (g : Dev Cert.Reference4.nD → PrngReg), Pre_Reference4 m →
    θ_run (Cert.Reference4.defs (F := Bits)) (onTc (τ := Cert.Reference4.τ) (Cert.Reference4.main (F := Bits))) ⟨m, fun _ => 0, g⟩ (fun r => (∀ c : Dev Cert.Reference4.nD,
      r.2.mem ((c.tc : Thread Cert.Reference4.nD Cert.Reference4.τ).loc Cert.Reference4.main_arg0) = m ((c.tc : Thread Cert.Reference4.nD Cert.Reference4.τ).loc Cert.Reference4.main_arg0)
      ∧ r.2.mem ((c.tc : Thread Cert.Reference4.nD Cert.Reference4.τ).loc Cert.Reference4.main_arg1) = m ((c.tc : Thread Cert.Reference4.nD Cert.Reference4.τ).loc Cert.Reference4.main_arg1)
      ∧ r.2.mem ((c.tc : Thread Cert.Reference4.nD Cert.Reference4.τ).loc Cert.Reference4.main_arg2) = m ((c.tc : Thread Cert.Reference4.nD Cert.Reference4.τ).loc Cert.Reference4.main_arg2)
      ∧ r.2.mem ((c.tc : Thread Cert.Reference4.nD Cert.Reference4.τ).loc Cert.Reference4.main_arg3) = m ((c.tc : Thread Cert.Reference4.nD Cert.Reference4.τ).loc Cert.Reference4.main_arg3)
      ∧ r.2.mem ((c.tc : Thread Cert.Reference4.nD Cert.Reference4.τ).loc Cert.Reference4.main_arg4) = m ((c.tc : Thread Cert.Reference4.nD Cert.Reference4.τ).loc Cert.Reference4.main_arg4)
      ∧ r.2.mem ((c.tc : Thread Cert.Reference4.nD Cert.Reference4.τ).loc Cert.Reference4.main_arg5) = m ((c.tc : Thread Cert.Reference4.nD Cert.Reference4.τ).loc Cert.Reference4.main_arg5)
      ∧ r.2.mem ((c.tc : Thread Cert.Reference4.nD Cert.Reference4.τ).loc Cert.Reference4.main_arg6) = m ((c.tc : Thread Cert.Reference4.nD Cert.Reference4.τ).loc Cert.Reference4.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def bitexact_Kernel2_Reference2 [hKernel2 : Cert.Kernel2.Facts] [hReference2 : Cert.Reference2.Facts] [hPre_experts_exist : Cert.Pre_experts_exist.Facts] : Prop :=
  ∀ (m : (ℓ : Loc Cert.Kernel2.nD Cert.Kernel2.τ Cert.Kernel2.sig) → Buf (Elt Bits) ℓ) (g : Dev Cert.Kernel2.nD → PrngReg)
    (m' : (ℓ : Loc Cert.Reference2.nD Cert.Reference2.τ Cert.Reference2.sig) → Buf (Elt Bits) ℓ) (g' : Dev Cert.Reference2.nD → PrngReg), Pre_Kernel2 m →
    (∀ c : Dev Cert.Kernel2.nD,
      m' ((c.tc : Thread Cert.Reference2.nD Cert.Reference2.τ).loc Cert.Reference2.main_arg0) = m ((c.tc : Thread Cert.Kernel2.nD Cert.Kernel2.τ).loc Cert.Kernel2.main_arg0)
      ∧ m' ((c.tc : Thread Cert.Reference2.nD Cert.Reference2.τ).loc Cert.Reference2.main_arg1) = m ((c.tc : Thread Cert.Kernel2.nD Cert.Kernel2.τ).loc Cert.Kernel2.main_arg1)
      ∧ m' ((c.tc : Thread Cert.Reference2.nD Cert.Reference2.τ).loc Cert.Reference2.main_arg2) = m ((c.tc : Thread Cert.Kernel2.nD Cert.Kernel2.τ).loc Cert.Kernel2.main_arg2)
      ∧ m' ((c.tc : Thread Cert.Reference2.nD Cert.Reference2.τ).loc Cert.Reference2.main_arg3) = m ((c.tc : Thread Cert.Kernel2.nD Cert.Kernel2.τ).loc Cert.Kernel2.main_arg3)
      ∧ m' ((c.tc : Thread Cert.Reference2.nD Cert.Reference2.τ).loc Cert.Reference2.main_arg4) = m ((c.tc : Thread Cert.Kernel2.nD Cert.Kernel2.τ).loc Cert.Kernel2.main_arg4)
      ∧ m' ((c.tc : Thread Cert.Reference2.nD Cert.Reference2.τ).loc Cert.Reference2.main_arg5) = m ((c.tc : Thread Cert.Kernel2.nD Cert.Kernel2.τ).loc Cert.Kernel2.main_arg5)
      ∧ m' ((c.tc : Thread Cert.Reference2.nD Cert.Reference2.τ).loc Cert.Reference2.main_arg6) = m ((c.tc : Thread Cert.Kernel2.nD Cert.Kernel2.τ).loc Cert.Kernel2.main_arg6)) →
    ∃ (v0 : (c : Dev Cert.Kernel2.nD) → Buf (Elt Bits) ((c.tc : Thread Cert.Kernel2.nD Cert.Kernel2.τ).loc Cert.Kernel2.main_v14)),
      θ_run (Cert.Kernel2.defs (F := Bits)) (onTc (τ := Cert.Kernel2.τ) (Cert.Kernel2.main (F := Bits))) ⟨m, fun _ => 0, g⟩ (fun r => ∀ c : Dev Cert.Kernel2.nD,
          r.2.mem ((c.tc : Thread Cert.Kernel2.nD Cert.Kernel2.τ).loc Cert.Kernel2.main_v14) = v0 c
          ∧ r.2.mem ((c.tc : Thread Cert.Kernel2.nD Cert.Kernel2.τ).loc Cert.Kernel2.main_arg0) = m ((c.tc : Thread Cert.Kernel2.nD Cert.Kernel2.τ).loc Cert.Kernel2.main_arg0)
          ∧ r.2.mem ((c.tc : Thread Cert.Kernel2.nD Cert.Kernel2.τ).loc Cert.Kernel2.main_arg1) = m ((c.tc : Thread Cert.Kernel2.nD Cert.Kernel2.τ).loc Cert.Kernel2.main_arg1)
          ∧ r.2.mem ((c.tc : Thread Cert.Kernel2.nD Cert.Kernel2.τ).loc Cert.Kernel2.main_arg2) = m ((c.tc : Thread Cert.Kernel2.nD Cert.Kernel2.τ).loc Cert.Kernel2.main_arg2)
          ∧ r.2.mem ((c.tc : Thread Cert.Kernel2.nD Cert.Kernel2.τ).loc Cert.Kernel2.main_arg3) = m ((c.tc : Thread Cert.Kernel2.nD Cert.Kernel2.τ).loc Cert.Kernel2.main_arg3)
          ∧ r.2.mem ((c.tc : Thread Cert.Kernel2.nD Cert.Kernel2.τ).loc Cert.Kernel2.main_arg4) = m ((c.tc : Thread Cert.Kernel2.nD Cert.Kernel2.τ).loc Cert.Kernel2.main_arg4)
          ∧ r.2.mem ((c.tc : Thread Cert.Kernel2.nD Cert.Kernel2.τ).loc Cert.Kernel2.main_arg5) = m ((c.tc : Thread Cert.Kernel2.nD Cert.Kernel2.τ).loc Cert.Kernel2.main_arg5)
          ∧ r.2.mem ((c.tc : Thread Cert.Kernel2.nD Cert.Kernel2.τ).loc Cert.Kernel2.main_arg6) = m ((c.tc : Thread Cert.Kernel2.nD Cert.Kernel2.τ).loc Cert.Kernel2.main_arg6))
      ∧ θ_run (Cert.Reference2.defs (F := Bits)) (onTc (τ := Cert.Reference2.τ) (Cert.Reference2.main (F := Bits))) ⟨m', fun _ => 0, g'⟩ (fun r => ∀ c : Dev Cert.Reference2.nD,
          r.2.mem ((c.tc : Thread Cert.Reference2.nD Cert.Reference2.τ).loc Cert.Reference2.main_v0) = v0 c
          ∧ r.2.mem ((c.tc : Thread Cert.Reference2.nD Cert.Reference2.τ).loc Cert.Reference2.main_arg0) = m' ((c.tc : Thread Cert.Reference2.nD Cert.Reference2.τ).loc Cert.Reference2.main_arg0)
          ∧ r.2.mem ((c.tc : Thread Cert.Reference2.nD Cert.Reference2.τ).loc Cert.Reference2.main_arg1) = m' ((c.tc : Thread Cert.Reference2.nD Cert.Reference2.τ).loc Cert.Reference2.main_arg1)
          ∧ r.2.mem ((c.tc : Thread Cert.Reference2.nD Cert.Reference2.τ).loc Cert.Reference2.main_arg2) = m' ((c.tc : Thread Cert.Reference2.nD Cert.Reference2.τ).loc Cert.Reference2.main_arg2)
          ∧ r.2.mem ((c.tc : Thread Cert.Reference2.nD Cert.Reference2.τ).loc Cert.Reference2.main_arg3) = m' ((c.tc : Thread Cert.Reference2.nD Cert.Reference2.τ).loc Cert.Reference2.main_arg3)
          ∧ r.2.mem ((c.tc : Thread Cert.Reference2.nD Cert.Reference2.τ).loc Cert.Reference2.main_arg4) = m' ((c.tc : Thread Cert.Reference2.nD Cert.Reference2.τ).loc Cert.Reference2.main_arg4)
          ∧ r.2.mem ((c.tc : Thread Cert.Reference2.nD Cert.Reference2.τ).loc Cert.Reference2.main_arg5) = m' ((c.tc : Thread Cert.Reference2.nD Cert.Reference2.τ).loc Cert.Reference2.main_arg5)
          ∧ r.2.mem ((c.tc : Thread Cert.Reference2.nD Cert.Reference2.τ).loc Cert.Reference2.main_arg6) = m' ((c.tc : Thread Cert.Reference2.nD Cert.Reference2.τ).loc Cert.Reference2.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v27) = v1 c
          ∧ r.2.mem ((c.tc : Thread Cert.Reference3Ideal.nD Cert.Reference3Ideal.τ).loc Cert.Reference3Ideal.main_v30) = v2 c
          ∧ r.2.mem ((c.tc : Thread Cert.Reference3Ideal.nD Cert.Reference3Ideal.τ).loc Cert.Reference3Ideal.main_v32) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def bitexact_Kernel4_Reference4 [hKernel4 : Cert.Kernel4.Facts] [hReference4 : Cert.Reference4.Facts] [hPre_experts_exist : Cert.Pre_experts_exist.Facts] : Prop :=
  ∀ (m : (ℓ : Loc Cert.Kernel4.nD Cert.Kernel4.τ Cert.Kernel4.sig) → Buf (Elt Bits) ℓ) (g : Dev Cert.Kernel4.nD → PrngReg)
    (m' : (ℓ : Loc Cert.Reference4.nD Cert.Reference4.τ Cert.Reference4.sig) → Buf (Elt Bits) ℓ) (g' : Dev Cert.Reference4.nD → PrngReg), Pre_Kernel4 m →
    (∀ c : Dev Cert.Kernel4.nD,
      m' ((c.tc : Thread Cert.Reference4.nD Cert.Reference4.τ).loc Cert.Reference4.main_arg0) = m ((c.tc : Thread Cert.Kernel4.nD Cert.Kernel4.τ).loc Cert.Kernel4.main_arg0)
      ∧ m' ((c.tc : Thread Cert.Reference4.nD Cert.Reference4.τ).loc Cert.Reference4.main_arg1) = m ((c.tc : Thread Cert.Kernel4.nD Cert.Kernel4.τ).loc Cert.Kernel4.main_arg1)
      ∧ m' ((c.tc : Thread Cert.Reference4.nD Cert.Reference4.τ).loc Cert.Reference4.main_arg2) = m ((c.tc : Thread Cert.Kernel4.nD Cert.Kernel4.τ).loc Cert.Kernel4.main_arg2)
      ∧ m' ((c.tc : Thread Cert.Reference4.nD Cert.Reference4.τ).loc Cert.Reference4.main_arg3) = m ((c.tc : Thread Cert.Kernel4.nD Cert.Kernel4.τ).loc Cert.Kernel4.main_arg3)
      ∧ m' ((c.tc : Thread Cert.Reference4.nD Cert.Reference4.τ).loc Cert.Reference4.main_arg4) = m ((c.tc : Thread Cert.Kernel4.nD Cert.Kernel4.τ).loc Cert.Kernel4.main_arg4)
      ∧ m' ((c.tc : Thread Cert.Reference4.nD Cert.Reference4.τ).loc Cert.Reference4.main_arg5) = m ((c.tc : Thread Cert.Kernel4.nD Cert.Kernel4.τ).loc Cert.Kernel4.main_arg5)
      ∧ m' ((c.tc : Thread Cert.Reference4.nD Cert.Reference4.τ).loc Cert.Reference4.main_arg6) = m ((c.tc : Thread Cert.Kernel4.nD Cert.Kernel4.τ).loc Cert.Kernel4.main_arg6)) →
    ∃ (v0 : (c : Dev Cert.Kernel4.nD) → Buf (Elt Bits) ((c.tc : Thread Cert.Kernel4.nD Cert.Kernel4.τ).loc Cert.Kernel4.main_v14)),
      θ_run (Cert.Kernel4.defs (F := Bits)) (onTc (τ := Cert.Kernel4.τ) (Cert.Kernel4.main (F := Bits))) ⟨m, fun _ => 0, g⟩ (fun r => ∀ c : Dev Cert.Kernel4.nD,
          r.2.mem ((c.tc : Thread Cert.Kernel4.nD Cert.Kernel4.τ).loc Cert.Kernel4.main_v14) = v0 c
          ∧ r.2.mem ((c.tc : Thread Cert.Kernel4.nD Cert.Kernel4.τ).loc Cert.Kernel4.main_arg0) = m ((c.tc : Thread Cert.Kernel4.nD Cert.Kernel4.τ).loc Cert.Kernel4.main_arg0)
          ∧ r.2.mem ((c.tc : Thread Cert.Kernel4.nD Cert.Kernel4.τ).loc Cert.Kernel4.main_arg1) = m ((c.tc : Thread Cert.Kernel4.nD Cert.Kernel4.τ).loc Cert.Kernel4.main_arg1)
          ∧ r.2.mem ((c.tc : Thread Cert.Kernel4.nD Cert.Kernel4.τ).loc Cert.Kernel4.main_arg2) = m ((c.tc : Thread Cert.Kernel4.nD Cert.Kernel4.τ).loc Cert.Kernel4.main_arg2)
          ∧ r.2.mem ((c.tc : Thread Cert.Kernel4.nD Cert.Kernel4.τ).loc Cert.Kernel4.main_arg3) = m ((c.tc : Thread Cert.Kernel4.nD Cert.Kernel4.τ).loc Cert.Kernel4.main_arg3)
          ∧ r.2.mem ((c.tc : Thread Cert.Kernel4.nD Cert.Kernel4.τ).loc Cert.Kernel4.main_arg4) = m ((c.tc : Thread Cert.Kernel4.nD Cert.Kernel4.τ).loc Cert.Kernel4.main_arg4)
          ∧ r.2.mem ((c.tc : Thread Cert.Kernel4.nD Cert.Kernel4.τ).loc Cert.Kernel4.main_arg5) = m ((c.tc : Thread Cert.Kernel4.nD Cert.Kernel4.τ).loc Cert.Kernel4.main_arg5)
          ∧ r.2.mem ((c.tc : Thread Cert.Kernel4.nD Cert.Kernel4.τ).loc Cert.Kernel4.main_arg6) = m ((c.tc : Thread Cert.Kernel4.nD Cert.Kernel4.τ).loc Cert.Kernel4.main_arg6))
      ∧ θ_run (Cert.Reference4.defs (F := Bits)) (onTc (τ := Cert.Reference4.τ) (Cert.Reference4.main (F := Bits))) ⟨m', fun _ => 0, g'⟩ (fun r => ∀ c : Dev Cert.Reference4.nD,
          r.2.mem ((c.tc : Thread Cert.Reference4.nD Cert.Reference4.τ).loc Cert.Reference4.main_v0) = v0 c
          ∧ r.2.mem ((c.tc : Thread Cert.Reference4.nD Cert.Reference4.τ).loc Cert.Reference4.main_arg0) = m' ((c.tc : Thread Cert.Reference4.nD Cert.Reference4.τ).loc Cert.Reference4.main_arg0)
          ∧ r.2.mem ((c.tc : Thread Cert.Reference4.nD Cert.Reference4.τ).loc Cert.Reference4.main_arg1) = m' ((c.tc : Thread Cert.Reference4.nD Cert.Reference4.τ).loc Cert.Reference4.main_arg1)
          ∧ r.2.mem ((c.tc : Thread Cert.Reference4.nD Cert.Reference4.τ).loc Cert.Reference4.main_arg2) = m' ((c.tc : Thread Cert.Reference4.nD Cert.Reference4.τ).loc Cert.Reference4.main_arg2)
          ∧ r.2.mem ((c.tc : Thread Cert.Reference4.nD Cert.Reference4.τ).loc Cert.Reference4.main_arg3) = m' ((c.tc : Thread Cert.Reference4.nD Cert.Reference4.τ).loc Cert.Reference4.main_arg3)
          ∧ r.2.mem ((c.tc : Thread Cert.Reference4.nD Cert.Reference4.τ).loc Cert.Reference4.main_arg4) = m' ((c.tc : Thread Cert.Reference4.nD Cert.Reference4.τ).loc Cert.Reference4.main_arg4)
          ∧ r.2.mem ((c.tc : Thread Cert.Reference4.nD Cert.Reference4.τ).loc Cert.Reference4.main_arg5) = m' ((c.tc : Thread Cert.Reference4.nD Cert.Reference4.τ).loc Cert.Reference4.main_arg5)
          ∧ r.2.mem ((c.tc : Thread Cert.Reference4.nD Cert.Reference4.τ).loc Cert.Reference4.main_arg6) = m' ((c.tc : Thread Cert.Reference4.nD Cert.Reference4.τ).loc Cert.Reference4.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)) (v2 : (c : Dev Cert.Kernel5Ideal.nD) → Buf (Elt Ideal) ((c.tc : Thread Cert.Kernel5Ideal.nD Cert.Kernel5Ideal.τ).loc Cert.Kernel5Ideal.main_v11_2)) (v3 : (c : Dev Cert.Kernel5Ideal.nD) → Buf (Elt Ideal) ((c.tc : Thread Cert.Kernel5Ideal.nD Cert.Kernel5Ideal.τ).loc Cert.Kernel5Ideal.main_v11_3)) (v4 : (c : Dev Cert.Kernel5Ideal.nD) → Buf (Elt Ideal) ((c.tc : Thread Cert.Kernel5Ideal.nD Cert.Kernel5Ideal.τ).loc Cert.Kernel5Ideal.main_v11_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_v11_2) = v2 c
          ∧ r.2.mem ((c.tc : Thread Cert.Kernel5Ideal.nD Cert.Kernel5Ideal.τ).loc Cert.Kernel5Ideal.main_v11_3) = v3 c
          ∧ r.2.mem ((c.tc : Thread Cert.Kernel5Ideal.nD Cert.Kernel5Ideal.τ).loc Cert.Kernel5Ideal.main_v11_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_v32) = v1 c
          ∧ r.2.mem ((c.tc : Thread Cert.Reference5Ideal.nD Cert.Reference5Ideal.τ).loc Cert.Reference5Ideal.main_v33) = v2 c
          ∧ r.2.mem ((c.tc : Thread Cert.Reference5Ideal.nD Cert.Reference5Ideal.τ).loc Cert.Reference5Ideal.main_v40) = v3 c
          ∧ r.2.mem ((c.tc : Thread Cert.Reference5Ideal.nD Cert.Reference5Ideal.τ).loc Cert.Reference5Ideal.main_v42) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v66) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v56) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v72) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hReference2 : Cert.Reference2.Facts) (hKernel3 : Cert.Kernel3.Facts) (hKernel3Ideal : Cert.Kernel3Ideal.Facts) (hReference3Ideal : Cert.Reference3Ideal.Facts) (hKernel4 : Cert.Kernel4.Facts) (hReference4 : Cert.Reference4.Facts) (hKernel5 : Cert.Kernel5.Facts) (hKernel5Ideal : Cert.Kernel5Ideal.Facts) (hReference5Ideal : Cert.Reference5Ideal.Facts) (hKernel8 : Cert.Kernel8.Facts) (hKernel8Ideal : Cert.Kernel8Ideal.Facts) (hReference8Ideal : Cert.Reference8Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_experts_exist : Cert.Pre_experts_exist.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_experts_exist := hPre_experts_exist)
    ∧ quiescent_Reference2 (hReference2 := hReference2) (hPre_experts_exist := hPre_experts_exist)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_experts_exist := hPre_experts_exist)
    ∧ quiescent_Reference4 (hReference4 := hReference4) (hPre_experts_exist := hPre_experts_exist)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ bitexact_Kernel2_Reference2 (hKernel2 := hKernel2) (hReference2 := hReference2) (hPre_experts_exist := hPre_experts_exist)
    ∧ preserves_Kernel3_Kernel3Ideal
    ∧ algebraic_Kernel3Ideal_Reference3Ideal (hKernel3Ideal := hKernel3Ideal) (hReference3Ideal := hReference3Ideal)
    ∧ bitexact_Kernel4_Reference4 (hKernel4 := hKernel4) (hReference4 := hReference4) (hPre_experts_exist := hPre_experts_exist)
    ∧ preserves_Kernel5_Kernel5Ideal
    ∧ algebraic_Kernel5Ideal_Reference5Ideal (hKernel5Ideal := hKernel5Ideal) (hReference5Ideal := hReference5Ideal)
    ∧ preserves_Kernel8_Kernel8Ideal
    ∧ algebraic_Kernel8Ideal_Reference8Ideal (hKernel8Ideal := hKernel8Ideal) (hReference8Ideal := hReference8Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_experts_exist.lean ====
abbrev S2x229376x256 : Shape := ⟨3, ![2, 229376, 256]⟩
abbrev S224 : Shape := ⟨1, ![224]⟩
abbrev S1 : Shape := ⟨1, ![1]⟩
abbrev S2x64x1024x256 : Shape := ⟨4, ![2, 64, 1024, 256]⟩
abbrev S2x64x256x1024 : Shape := ⟨4, ![2, 64, 256, 1024]⟩
abbrev S_ : Shape := ⟨0, ![]⟩

class Facts : Prop where
  bcast_S_S224 : S_.BroadcastsInDim S224 (![] : Fin 0 → Fin S224.rank)
  reducesTo_S224_S_d0 : S224.ReducesTo [0] S_
  h_S_ : 0 < S_.numel

variable [Facts]

def fn {F : FTy → Type} [FloatOps F] (main_arg0 : IVec S2x229376x256 32) (main_arg1 : IVec S224 32) (main_arg2 : IVec S224 32) (main_arg3 : IVec S1 32) (main_arg4 : FVec F S2x64x1024x256 .f32) (main_arg5 : FVec F S2x64x1024x256 .f32) (main_arg6 : FVec F S2x64x256x1024 .f32) : IVec S_ 1 :=
  let main_c : IVec S_ 32 := constantI S_ 32 0#32
  let main_v0 : IVec S224 32 := broadcastInDim S224 ![] bcast_S_S224 main_c
  let main_v1 : IVec S224 1 := cmpi .sge main_arg1 main_v0
  let main_c_0 : IVec S_ 32 := constantI S_ 32 64#32
  let main_v2 : IVec S224 32 := broadcastInDim S224 ![] bcast_S_S224 main_c_0
  let main_v3 : IVec S224 1 := cmpi .slt main_arg1 main_v2
  let main_v4 : IVec S224 1 := andi main_v1 main_v3
  let main_c_1 : IVec S_ 1 := constantI S_ 1 1#1
  let main_v5 : IVec S_ 1 := (fun x v => Host.reduce IntOp.andi x v reducesTo_S224_S_d0 h_S_) main_v4 main_c_1
  main_v5
-- ==== Kernel.lean ====
abbrev S20480x1024 : Shape := ⟨2, ![20480, 1024]⟩
abbrev S8x6x1024 : Shape := ⟨3, ![8, 6, 1024]⟩
abbrev S20480x8 : Shape := ⟨2, ![20480, 8]⟩
abbrev S2x8x20480x256 : Shape := ⟨4, ![2, 8, 20480, 256]⟩
abbrev S1024x256 : Shape := ⟨2, ![1024, 256]⟩
abbrev S256x1024 : Shape := ⟨2, ![256, 1024]⟩
abbrev S1024 : Shape := ⟨1, ![1024]⟩
abbrev S1x1024 : Shape := ⟨2, ![1, 1024]⟩
abbrev S4096x1024 : Shape := ⟨2, ![4096, 1024]⟩
abbrev S16384x1024 : Shape := ⟨2, ![16384, 1024]⟩
abbrev S512x1024 : Shape := ⟨2, ![512, 1024]⟩
abbrev S1x6x1024 : Shape := ⟨3, ![1, 6, 1024]⟩
abbrev S512x8 : Shape := ⟨2, ![512, 8]⟩
abbrev S2x8x512x256 : Shape := ⟨4, ![2, 8, 512, 256]⟩
abbrev S1x1x1024 : Shape := ⟨3, ![1, 1, 1024]⟩
abbrev S512x256 : Shape := ⟨2, ![512, 256]⟩
abbrev S1x1x512x256 : Shape := ⟨4, ![1, 1, 512, 256]⟩
abbrev S512x512 : Shape := ⟨2, ![512, 512]⟩
abbrev S512x1 : Shape := ⟨2, ![512, 1]⟩
abbrev S512 : Shape := ⟨1, ![512]⟩

abbrev nBuf : Space → Nat
  | .hbm => 16
  | .vmem => 17
  | .smem => 0
  | _ => 0

abbrev bufTy : (tb : Table) → Fin (tcTables nBuf tb) → BufTy
  | .hbm, ⟨0, _⟩ => ⟨S20480x1024, .f32⟩
  | .hbm, ⟨1, _⟩ => ⟨S8x6x1024, .f32⟩
  | .hbm, ⟨2, _⟩ => ⟨S20480x8, .f32⟩
  | .hbm, ⟨3, _⟩ => ⟨S2x8x20480x256, .i32⟩
  | .hbm, ⟨4, _⟩ => ⟨S1024x256, .f32⟩
  | .hbm, ⟨5, _⟩ => ⟨S1024x256, .f32⟩
  | .hbm, ⟨6, _⟩ => ⟨S256x1024, .f32⟩
  | .hbm, ⟨7, _⟩ => ⟨S1024, .f32⟩
  | .hbm, ⟨8, _⟩ => ⟨S1024, .f32⟩
  | .hbm, ⟨9, _⟩ => ⟨S1024x256, .bf16⟩
  | .hbm, ⟨10, _⟩ => ⟨S1024x256, .bf16⟩
  | .hbm, ⟨11, _⟩ => ⟨S256x1024, .bf16⟩
  | .hbm, ⟨12, _⟩ => ⟨S1x1024, .f32⟩
  | .hbm, ⟨13, _⟩ => ⟨S1x1024, .f32⟩
  | .hbm, ⟨14, _⟩ => ⟨S4096x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S512x8, .f32⟩
  | .local _ .vmem, ⟨5, _⟩ => ⟨S512x8, .f32⟩
  | .local _ .vmem, ⟨6, _⟩ => ⟨S2x8x512x256, .i32⟩
  | .local _ .vmem, ⟨7, _⟩ => ⟨S2x8x512x256, .i32⟩
  | .local _ .vmem, ⟨8, _⟩ => ⟨S1024x256, .bf16⟩
  | .local _ .vmem, ⟨9, _⟩ => ⟨S1024x256, .bf16⟩
  | .local _ .vmem, ⟨10, _⟩ => ⟨S256x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![40], ![false]⟩

def k0_cond1 (i : grid0.Coords) : BitVec 1 :=
  let arg0 : BitVec 32 := BitVec.ofNat 32 (i 0).val
  let c8_i32 : BitVec 32 := 8#32
  let v152 : BitVec 1 := Scalar.cmpi .slt arg0 c8_i32
  let v153 : BitVec 32 := Scalar.extui v152
  let c0_i32 : BitVec 32 := 0#32
  let v154 : BitVec 1 := Scalar.cmpi .ne v153 c0_i32
  v154

def k0_cond2 (i : grid0.Coords) : BitVec 1 :=
  let arg0 : BitVec 32 := BitVec.ofNat 32 (i 0).val
  let c8_i32 : BitVec 32 := 8#32
  let v152 : BitVec 1 := Scalar.cmpi .slt arg0 c8_i32
  let v_true : BitVec 1 := 1#1
  let v155 : BitVec 1 := Scalar.xori v152 v_true
  let v156 : BitVec 32 := Scalar.extui v155
  let c0_i32_102 : BitVec 32 := 0#32
  let v157 : BitVec 1 := Scalar.cmpi .ne v156 c0_i32_102
  v157

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c8_i32_1 : BitVec 32 := 8#32
  let v2 : BitVec 32 := Scalar.divsi v1 c8_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_1 c0_i32_3
  let v9 : BitVec 32 := Scalar.extui v8
  let c0_i32_4 : BitVec 32 := 0#32
  let v10 : BitVec 1 := Scalar.cmpi .slt c8_i32_1 c0_i32_4
  let v11 : BitVec 32 := Scalar.extui v10
  let v12 : BitVec 32 := Scalar.subi v9 v11
  let v13 : BitVec 1 := Scalar.cmpi .ne v7 v12
  let v14 : BitVec 32 := Scalar.remsi v1 c8_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x8x512x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S20480x1024 : Shape := ⟨2, ![20480, 1024]⟩
abbrev S8x6x1024 : Shape := ⟨3, ![8, 6, 1024]⟩
abbrev S20480x8 : Shape := ⟨2, ![20480, 8]⟩
abbrev S2x8x20480x256 : Shape := ⟨4, ![2, 8, 20480, 256]⟩
abbrev S1024x256 : Shape := ⟨2, ![1024, 256]⟩
abbrev S256x1024 : Shape := ⟨2, ![256, 1024]⟩
abbrev S1024 : Shape := ⟨1, ![1024]⟩
abbrev S2x8x20480x256x2 : Shape := ⟨5, ![2, 8, 20480, 256, 2]⟩
abbrev S1x8x20480x256x1 : Shape := ⟨5, ![1, 8, 20480, 256, 1]⟩
abbrev S8x20480x256 : Shape := ⟨3, ![8, 20480, 256]⟩
abbrev S8x20480x1024 : Shape := ⟨3, ![8, 20480, 1024]⟩
abbrev S4096x1024 : Shape := ⟨2, ![4096, 1024]⟩
abbrev S1x6x1024 : Shape := ⟨3, ![1, 6, 1024]⟩
abbrev S4096x8 : Shape := ⟨2, ![4096, 8]⟩
abbrev S8x4096x1024 : Shape := ⟨3, ![8, 4096, 1024]⟩
abbrev S1x1x1024 : Shape := ⟨3, ![1, 1, 1024]⟩
abbrev S1x1024 : Shape := ⟨2, ![1, 1024]⟩
abbrev S1x4096x1024 : Shape := ⟨3, ![1, 4096, 1024]⟩
abbrev S_ : Shape := ⟨0, ![]⟩
abbrev S8x4096 : Shape := ⟨2, ![8, 4096]⟩
abbrev S8x4096x1 : Shape := ⟨3, ![8, 4096, 1]⟩
abbrev S4096x256 : Shape := ⟨2, ![4096, 256]⟩
abbrev S4096 : Shape := ⟨1, ![4096]⟩
abbrev S4096x1 : Shape := ⟨2, ![4096, 1]⟩
abbrev S16384x1024 : Shape := ⟨2, ![16384, 1024]⟩
abbrev S4x6x1024 : Shape := ⟨3, ![4, 6, 1024]⟩
abbrev S16384x8 : Shape := ⟨2, ![16384, 8]⟩
abbrev S8x16384x1024 : Shape := ⟨3, ![8, 16384, 1024]⟩
abbrev S4x1x1024 : Shape := ⟨3, ![4, 1, 1024]⟩
abbrev S4x1024 : Shape := ⟨2, ![4, 1024]⟩
abbrev S4x4096x1024 : Shape := ⟨3, ![4, 4096, 1024]⟩
abbrev S8x16384 : Shape := ⟨2, ![8, 16384]⟩
abbrev S8x16384x1 : Shape := ⟨3, ![8, 16384, 1]⟩
abbrev S16384x256 : Shape := ⟨2, ![16384, 256]⟩
abbrev S16384 : Shape := ⟨1, ![16384]⟩
abbrev S16384x1 : Shape := ⟨2, ![16384, 1]⟩

abbrev nBuf : Space → Nat
  | .hbm => 170
  | .vmem => 0
  | .smem => 0
  | _ => 0

abbrev hbmTy0_0 (i : Nat) : BufTy := match i % 128 with
  | 0 => ⟨S20480x1024, .f32⟩
  | 1 => ⟨S8x6x1024, .f32⟩
  | 2 => ⟨S20480x8, .f32⟩
  | 3 => ⟨S2x8x20480x256, .i32⟩
  | 4 => ⟨S1024x256, .f32⟩
  | 5 => ⟨S1024x256, .f32⟩
  | 6 => ⟨S256x1024, .f32⟩
  | 7 => ⟨S1024, .f32⟩
  | 8 => ⟨S1024, .f32⟩
  | 9 => ⟨S2x8x20480x256x2, .bf16⟩
  | 10 => ⟨S2x8x20480x256x2, .f32⟩
  | 11 => ⟨S1x8x20480x256x1, .f32⟩
  | 12 => ⟨S8x20480x256, .f32⟩
  | 13 => ⟨S1x8x20480x256x1, .f32⟩
  | 14 => ⟨S8x20480x256, .f32⟩
  | 15 => ⟨S1x8x20480x256x1, .f32⟩
  | 16 => ⟨S8x20480x256, .f32⟩
  | 17 => ⟨S1x8x20480x256x1, .f32⟩
  | 18 => ⟨S8x20480x256, .f32⟩
  | 19 => ⟨S8x20480x1024, .f32⟩
  | 20 => ⟨S4096x1024, .f32⟩
  | 21 => ⟨S1x6x1024, .f32⟩
  | 22 => ⟨S4096x8, .f32⟩
  | 23 => ⟨S8x4096x1024, .f32⟩
  | 24 => ⟨S1x1x1024, .f32⟩
  | 25 => ⟨S1x1024, .f32⟩
  | 26 => ⟨S1x4096x1024, .f32⟩
  | 27 => ⟨S4096x1024, .f32⟩
  | 28 => ⟨S1x1x1024, .f32⟩
  | 29 => ⟨S1x1024, .f32⟩
  | 30 => ⟨S1x4096x1024, .f32⟩
  | 31 => ⟨S4096x1024, .f32⟩
  | 32 => ⟨S1x1x1024, .f32⟩
  | 33 => ⟨S1x1024, .f32⟩
  | 34 => ⟨S1x4096x1024, .f32⟩
  | 35 => ⟨S4096x1024, .f32⟩
  | 36 => ⟨S_, .f32⟩
  | 37 => ⟨S4096x1024, .f32⟩
  | 38 => ⟨S4096x1024, .f32⟩
  | 39 => ⟨S4096x1024, .f32⟩
  | 40 => ⟨S4096x1024, .f32⟩
  | 41 => ⟨S8x4096, .f32⟩
  | 42 => ⟨S8x4096x1, .f32⟩
  | 43 => ⟨S8x4096x1024, .f32⟩
  | 44 => ⟨S8x4096x1024, .f32⟩
  | 45 => ⟨S_, .f32⟩
  | 46 => ⟨S4096x1024, .f32⟩
  | 47 => ⟨S4096x256, .f32⟩
  | 48 => ⟨S4096x256, .f32⟩
  | 49 => ⟨S4096x256, .f32⟩
  | 50 => ⟨S_, .f32⟩
  | 51 => ⟨S4096x256, .f32⟩
  | 52 => ⟨S4096x256, .f32⟩
  | 53 => ⟨S_, .f32⟩
  | 54 => ⟨S4096x256, .f32⟩
  | 55 => ⟨S4096x256, .f32⟩
  | 56 => ⟨S4096x256, .f32⟩
  | 57 => ⟨S4096x256, .f32⟩
  | 58 => ⟨S4096x256, .f32⟩
  | 59 => ⟨S4096x1024, .f32⟩
  | 60 => ⟨S_, .f32⟩
  | 61 => ⟨S4096x1024, .f32⟩
  | 62 => ⟨S4096x1024, .f32⟩
  | 63 => ⟨S4096x1024, .f32⟩
  | 64 => ⟨S4096x1024, .f32⟩
  | 65 => ⟨S4096x1024, .f32⟩
  | 66 => ⟨S_, .f32⟩
  | 67 => ⟨S4096, .f32⟩
  | 68 => ⟨S4096x1, .f32⟩
  | 69 => ⟨S_, .f32⟩
  | 70 => ⟨S4096x1, .f32⟩
  | 71 => ⟨S4096x1, .f32⟩
  | 72 => ⟨S4096x1024, .f32⟩
  | 73 => ⟨S4096x1024, .f32⟩
  | 74 => ⟨S4096x1024, .f32⟩
  | 75 => ⟨S_, .f32⟩
  | 76 => ⟨S4096, .f32⟩
  | 77 => ⟨S4096x1, .f32⟩
  | 78 => ⟨S_, .f32⟩
  | 79 => ⟨S4096x1, .f32⟩
  | 80 => ⟨S4096x1, .f32⟩
  | 81 => ⟨S4096x1024, .f32⟩
  | 82 => ⟨S4096x1024, .f32⟩
  | 83 => ⟨S_, .f32⟩
  | 84 => ⟨S4096x1, .f32⟩
  | 85 => ⟨S4096x1, .f32⟩
  | 86 => ⟨S4096x1, .f32⟩
  | 87 => ⟨S4096x1024, .f32⟩
  | 88 => ⟨S4096x1024, .f32⟩
  | 89 => ⟨S1x1024, .f32⟩
  | 90 => ⟨S4096x1024, .f32⟩
  | 91 => ⟨S4096x1024, .f32⟩
  | 92 => ⟨S1x1024, .f32⟩
  | 93 => ⟨S4096x1024, .f32⟩
  | 94 => ⟨S4096x1024, .f32⟩
  | 95 => ⟨S16384x1024, .f32⟩
  | 96 => ⟨S4x6x1024, .f32⟩
  | 97 => ⟨S16384x8, .f32⟩
  | 98 => ⟨S8x16384x1024, .f32⟩
  | 99 => ⟨S4x1x1024, .f32⟩
  | 100 => ⟨S4x1024, .f32⟩
  | 101 => ⟨S4x4096x1024, .f32⟩
  | 102 => ⟨S16384x1024, .f32⟩
  | 103 => ⟨S4x1x1024, .f32⟩
  | 104 => ⟨S4x1024, .f32⟩
  | 105 => ⟨S4x4096x1024, .f32⟩
  | 106 => ⟨S16384x1024, .f32⟩
  | 107 => ⟨S4x1x1024, .f32⟩
  | 108 => ⟨S4x1024, .f32⟩
  | 109 => ⟨S4x4096x1024, .f32⟩
  | 110 => ⟨S16384x1024, .f32⟩
  | 111 => ⟨S_, .f32⟩
  | 112 => ⟨S16384x1024, .f32⟩
  | 113 => ⟨S16384x1024, .f32⟩
  | 114 => ⟨S16384x1024, .f32⟩
  | 115 => ⟨S16384x1024, .f32⟩
  | 116 => ⟨S8x16384, .f32⟩
  | 117 => ⟨S8x16384x1, .f32⟩
  | 118 => ⟨S8x16384x1024, .f32⟩
  | 119 => ⟨S8x16384x1024, .f32⟩
  | 120 => ⟨S_, .f32⟩
  | 121 => ⟨S16384x1024, .f32⟩
  | 122 => ⟨S16384x256, .f32⟩
  | 123 => ⟨S16384x256, .f32⟩
  | 124 => ⟨S16384x256, .f32⟩
  | 125 => ⟨S_, .f32⟩
  | 126 => ⟨S16384x256, .f32⟩
  | 127 => ⟨S16384x256, .f32⟩
  | _ => ⟨S20480x1024, .f32⟩

abbrev hbmTy0_1 (i : Nat) : BufTy := match i % 128 with
  | 0 => ⟨S_, .f32⟩
  | 1 => ⟨S16384x256, .f32⟩
  | 2 => ⟨S16384x256, .f32⟩
  | 3 => ⟨S16384x256, .f32⟩
  | 4 => ⟨S16384x256, .f32⟩
  | 5 => ⟨S16384x256, .f32⟩
  | 6 => ⟨S16384x1024, .f32⟩
  | 7 => ⟨S_, .f32⟩
  | 8 => ⟨S16384x1024, .f32⟩
  | 9 => ⟨S16384x1024, .f32⟩
  | 10 => ⟨S16384x1024, .f32⟩
  | 11 => ⟨S16384x1024, .f32⟩
  | 12 => ⟨S16384x1024, .f32⟩
  | 13 => ⟨S_, .f32⟩
  | 14 => ⟨S16384, .f32⟩
  | 15 => ⟨S16384x1, .f32⟩
  | 16 => ⟨S_, .f32⟩
  | 17 => ⟨S16384x1, .f32⟩
  | 18 => ⟨S16384x1, .f32⟩
  | 19 => ⟨S16384x1024, .f32⟩
  | 20 => ⟨S16384x1024, .f32⟩
  | 21 => ⟨S16384x1024, .f32⟩
  | 22 => ⟨S_, .f32⟩
  | 23 => ⟨S16384, .f32⟩
  | 24 => ⟨S16384x1, .f32⟩
  | 25 => ⟨S_, .f32⟩
  | 26 => ⟨S16384x1, .f32⟩
  | 27 => ⟨S16384x1, .f32⟩
  | 28 => ⟨S16384x1024, .f32⟩
  | 29 => ⟨S16384x1024, .f32⟩
  | 30 => ⟨S_, .f32⟩
  | 31 => ⟨S16384x1, .f32⟩
  | 32 => ⟨S16384x1, .f32⟩
  | 33 => ⟨S16384x1, .f32⟩
  | 34 => ⟨S16384x1024, .f32⟩
  | 35 => ⟨S16384x1024, .f32⟩
  | 36 => ⟨S1x1024, .f32⟩
  | 37 => ⟨S16384x1024, .f32⟩
  | 38 => ⟨S16384x1024, .f32⟩
  | 39 => ⟨S1x1024, .f32⟩
  | 40 => ⟨S16384x1024, .f32⟩
  | 41 => ⟨S16384x1024, .f32⟩
  | _ => ⟨S20480x1024, .f32⟩

abbrev hbmTy (i : Nat) : BufTy := match i / 128 with
  | 0 => hbmTy0_0 i
  | 1 => hbmTy0_1 i
  | _ => ⟨S20480x1024, .f32⟩

abbrev bufTy : (tb : Table) → Fin (tcTables nBuf tb) → BufTy
  | .hbm, ⟨i, _⟩ => hbmTy i
  | _, _ => ⟨S20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_0 : Ref sig .tc := ⟨.hbm, 45, rfl⟩
abbrev main_v35 : Ref sig .tc := ⟨.hbm, 46, rfl⟩
abbrev main_v36 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_1 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_2 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_4 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_6 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_7 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_8 : Ref sig .tc := ⟨.hbm, 120, rfl⟩
abbrev main_v94 : Ref sig .tc := ⟨.hbm, 121, rfl⟩
abbrev main_v95 : Ref sig .tc := ⟨.hbm, 122, rfl⟩
abbrev main_call1_v0 : Ref sig .tc := ⟨.hbm, 123, rfl⟩
abbrev main_call1_v1 : Ref sig .tc := ⟨.hbm, 124, rfl⟩
abbrev main_call1_cst : Ref sig .tc := ⟨.hbm, 125, rfl⟩
abbrev main_call1_v2 : Ref sig .tc := ⟨.hbm, 126, rfl⟩
abbrev main_call1_v3 : Ref sig .tc := ⟨.hbm, 127, rfl⟩
abbrev main_call1_cst_0 : Ref sig .tc := ⟨.hbm, 128, rfl⟩
abbrev main_call1_v4 : Ref sig .tc := ⟨.hbm, 129, rfl⟩
abbrev main_call1_v5 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_9 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_10 : Ref sig .tc := ⟨.hbm, 141, rfl⟩
abbrev main_v105 : Ref sig .tc := ⟨.hbm, 142, rfl⟩
abbrev main_v106 : Ref sig .tc := ⟨.hbm, 143, rfl⟩
abbrev main_cst_11 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_12 : Ref sig .tc := ⟨.hbm, 150, rfl⟩
abbrev main_v112 : Ref sig .tc := ⟨.hbm, 151, rfl⟩
abbrev main_v113 : Ref sig .tc := ⟨.hbm, 152, rfl⟩
abbrev main_cst_13 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_14 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩

abbrev nD : Nat := 1
abbrev τ : Topo := Topo.v7x

variable {F : FTy → Type} [FloatOps F]
-- ==== Kernel2.lean ====
abbrev S2x229376x256 : Shape := ⟨3, ![2, 229376, 256]⟩
abbrev S224 : Shape := ⟨1, ![224]⟩
abbrev S1 : Shape := ⟨1, ![1]⟩
abbrev S2x64x1024x256 : Shape := ⟨4, ![2, 64, 1024, 256]⟩
abbrev S2x64x256x1024 : Shape := ⟨4, ![2, 64, 256, 1024]⟩
abbrev S_ : Shape := ⟨0, ![]⟩
abbrev S224x1 : Shape := ⟨2, ![224, 1]⟩
abbrev S2x1024x256 : Shape := ⟨3, ![2, 1024, 256]⟩
abbrev S1x1x1024x256 : Shape := ⟨4, ![1, 1, 1024, 256]⟩
abbrev S1x1x256x1024 : Shape := ⟨4, ![1, 1, 256, 1024]⟩
abbrev S1024x256 : Shape := ⟨2, ![1024, 256]⟩
abbrev S256x1024 : Shape := ⟨2, ![256, 1024]⟩
abbrev S1x1024x256 : Shape := ⟨3, ![1, 1024, 256]⟩
abbrev S1024x512 : Shape := ⟨2, ![1024, 512]⟩
abbrev S1024x1 : Shape := ⟨2, ![1024, 1]⟩
abbrev S1024x1024 : Shape := ⟨2, ![1024, 1024]⟩

abbrev nBuf : Space → Nat
  | .hbm => 23
  | .vmem => 13
  | .smem => 3
  | _ => 0

abbrev bufTy : (tb : Table) → Fin (tcTables nBuf tb) → BufTy
  | .hbm, ⟨0, _⟩ => ⟨S2x229376x256, .i32⟩
  | .hbm, ⟨1, _⟩ => ⟨S224, .i32⟩
  | .hbm, ⟨2, _⟩ => ⟨S2x64x1024x256, .f32⟩
  | .hbm, ⟨3, _⟩ => ⟨S2x64x1024x256, .f32⟩
  | .hbm, ⟨4, _⟩ => ⟨S2x64x256x1024, .f32⟩
  | .hbm, ⟨5, _⟩ => ⟨S224, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S224, .i32⟩
  | .hbm, ⟨10, _⟩ => ⟨S224, .i32⟩
  | .hbm, ⟨11, _⟩ => ⟨S_, .i32⟩
  | .hbm, ⟨12, _⟩ => ⟨S224, .i32⟩
  | .hbm, ⟨13, _⟩ => ⟨S224, .i32⟩
  | .hbm, ⟨14, _⟩ => ⟨S_, .i32⟩
  | .hbm, ⟨15, _⟩ => ⟨S224, .i32⟩
  | .hbm, ⟨16, _⟩ => ⟨S224, .i1⟩
  | .hbm, ⟨17, _⟩ => ⟨S_, .i32⟩
  | .hbm, ⟨18, _⟩ => ⟨S224, .i32⟩
  | .hbm, ⟨19, _⟩ => ⟨S224, .i32⟩
  | .hbm, ⟨20, _⟩ => ⟨S224, .i32⟩
  | .hbm, ⟨21, _⟩ => ⟨S224x1, .i32⟩
  | .hbm, ⟨22, _⟩ => ⟨S2x229376x256, .i32⟩
  | .local _ .vmem, ⟨0, _⟩ => ⟨S2x1024x256, .i32⟩
  | .local _ .vmem, ⟨1, _⟩ => ⟨S2x1024x256, .i32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S2x1024x256, .i32⟩
  | .local _ .vmem, ⟨9, _⟩ => ⟨S2x1024x256, .i32⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .smem, ⟨0, _⟩ => ⟨S224, .i32⟩
  | .local _ .smem, ⟨1, _⟩ => ⟨S224, .i32⟩
  | .local _ .smem, ⟨2, _⟩ => ⟨S1, .i32⟩
  | _, _ => ⟨S2x229376x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v14 : Ref sig .tc := ⟨.hbm, 22, rfl⟩
abbrev main_v13 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨1, ![224], ![false]⟩

abbrev pre0 : Pipeline.Prefetch sig := ⟨3, ![main_v13.idx, main_arg2.idx, main_arg3.idx], fun | 0 => main_v13.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_off3 (i : grid0.Coords) : Fin 1 → Nat :=
  let arg0 : BitVec 32 := BitVec.ofNat 32 (i 0).val
  let v19 : Index := Scalar.indexCast arg0
  ![v19.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![c0_i32_0.toNat, v3.toNat, c0_i32_1.toNat]

def cc0_transform_1 (k0_off1_inb : ∀ i : grid0.Coords, ∀ a, (k0_off1 i) a + S1.size a ≤ S224.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S224) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S224.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S224) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S224.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S224) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x1024x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1024x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2.lean ====
abbrev S2x229376x256 : Shape := ⟨3, ![2, 229376, 256]⟩
abbrev S224 : Shape := ⟨1, ![224]⟩
abbrev S1 : Shape := ⟨1, ![1]⟩
abbrev S2x64x1024x256 : Shape := ⟨4, ![2, 64, 1024, 256]⟩
abbrev S2x64x256x1024 : Shape := ⟨4, ![2, 64, 256, 1024]⟩
abbrev S1x1024x256 : Shape := ⟨3, ![1, 1024, 256]⟩
abbrev S1024x256 : Shape := ⟨2, ![1024, 256]⟩
abbrev S1024x512 : Shape := ⟨2, ![1024, 512]⟩
abbrev S1024x1 : Shape := ⟨2, ![1024, 1]⟩
abbrev S1024x1024 : Shape := ⟨2, ![1024, 1024]⟩
abbrev S1x1x1024x256 : Shape := ⟨4, ![1, 1, 1024, 256]⟩
abbrev S1x1x256x1024 : Shape := ⟨4, ![1, 1, 256, 1024]⟩
abbrev S256x1024 : Shape := ⟨2, ![256, 1024]⟩

abbrev nBuf : Space → Nat
  | .hbm => 8
  | .vmem => 5
  | .smem => 3
  | _ => 0

abbrev bufTy : (tb : Table) → Fin (tcTables nBuf tb) → BufTy
  | .hbm, ⟨0, _⟩ => ⟨S2x229376x256, .i32⟩
  | .hbm, ⟨1, _⟩ => ⟨S224, .i32⟩
  | .hbm, ⟨2, _⟩ => ⟨S224, .i32⟩
  | .hbm, ⟨3, _⟩ => ⟨S1, .i32⟩
  | .hbm, ⟨4, _⟩ => ⟨S2x64x1024x256, .f32⟩
  | .hbm, ⟨5, _⟩ => ⟨S2x64x1024x256, .f32⟩
  | .hbm, ⟨6, _⟩ => ⟨S2x64x256x1024, .f32⟩
  | .hbm, ⟨7, _⟩ => ⟨S2x229376x256, .i32⟩
  | .local _ .vmem, ⟨0, _⟩ => ⟨S2x229376x256, .i32⟩
  | .local _ .vmem, ⟨1, _⟩ => ⟨S2x64x1024x256, .f32⟩
  | .local _ .vmem, ⟨2, _⟩ => ⟨S2x64x1024x256, .f32⟩
  | .local _ .vmem, ⟨3, _⟩ => ⟨S2x64x256x1024, .f32⟩
  | .local _ .vmem, ⟨4, _⟩ => ⟨S2x229376x256, .i32⟩
  | .local _ .smem, ⟨0, _⟩ => ⟨S224, .i32⟩
  | .local _ .smem, ⟨1, _⟩ => ⟨S224, .i32⟩
  | .local _ .smem, ⟨2, _⟩ => ⟨S1, .i32⟩
  | _, _ => ⟨S2x229376x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c224_i32 : BitVec 32 := 224#32
  let v0 : BitVec 32 := Scalar.addi c0_i32 c224_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg8 : BitVec 32 := Scf.iv c0_i32 c1_i32 k0_t1
  let v1 : Index := Scalar.indexCast arg8
  ![v1.toNat]
def k0_off2 (k0_t1 : Fin k0_t1_loop.trips) : Fin 3 → Nat :=
  let c0 : Index := 0#32
  let c0_i32 : BitVec 32 := 0#32
  let c1_i32 : BitVec 32 := 1#32
  let arg8 : BitVec 32 := Scf.iv c0_i32 c1_i32 k0_t1
  let c1024_i32 : BitVec 32 := 1024#32
  let v3 : BitVec 32 := Scalar.muli arg8 c1024_i32
  let v4 : Index := Scalar.indexCast v3
  let c0_1 : Index := 0#32
  ![0, v4.toNat, 0]
def k0_off3 (k0_t1 : Fin k0_t1_loop.trips) : Fin 3 → Nat :=
  let c1 : Index := 1#32
  let c0_i32 : BitVec 32 := 0#32
  let c1_i32 : BitVec 32 := 1#32
  let arg8 : BitVec 32 := Scf.iv c0_i32 c1_i32 k0_t1
  let c1024_i32 : BitVec 32 := 1024#32
  let v3 : BitVec 32 := Scalar.muli arg8 c1024_i32
  let v7 : Index := Scalar.indexCast v3
  let c0_2 : Index := 0#32
  ![1, v7.toNat, 0]
def k0_off4 (v2 : BitVec 32) : Fin 4 → Nat :=
  let c0_4 : Index := 0#32
  let v24 : Index := Scalar.indexCast v2
  let c0_5 : Index := 0#32
  let c0_6 : Index := 0#32
  ![0, v24.toNat, 0, 0]

def k0_off5 (v2 : BitVec 32) : Fin 4 → Nat :=
  let c0_11 : Index := 0#32
  let v38 : Index := Scalar.indexCast v2
  let c0_12 : Index := 0#32
  let c0_13 : Index := 0#32
  ![0, v38.toNat, 0, 0]

def k0_chk1 (v2 : BitVec 32) : Prop :=
  (∀ a, (k0_off4 v2) a + S1x1x1024x256.size a ≤ S2x64x1024x256.size a) ∧
  (∀ a, (k0_off5 v2) a + S1x1x256x1024.size a ≤ S2x64x256x1024.size a)
theorem k0_off4_inb : ∀ (v2 : BitVec 32) (k0_hw1 : k0_chk1 v2), ∀ a, (k0_off4 v2) a + S1x1x1024x256.size a ≤ S2x64x1024x256.size a := fun v2 k0_hw1 => k0_hw1.1
theorem k0_off5_inb : ∀ (v2 : BitVec 32) (k0_hw1 : k0_chk1 v2), ∀ a, (k0_off5 v2) a + S1x1x256x1024.size a ≤ S2x64x256x1024.size a := fun v2 k0_hw1 => k0_hw1.2

def k0_off6 (k0_t1 : Fin k0_t1_loop.trips) : Fin 3 → Nat :=
  let c0_17 : Index := 0#32
  let c0_i32 : BitVec 32 := 0#32
  let c1_i32 : BitVec 32 := 1#32
  let arg8 : BitVec 32 := Scf.iv c0_i32 c1_i32 k0_t1
  let c1024_i32 : BitVec 32 := 1024#32
  let v3 : BitVec 32 := Scalar.muli arg8 c1024_i32
  let v51 : Index := Scalar.indexCast v3
  let c0_18 : Index := 0#32
  ![0, v51.toNat, 0]
def k0_off7 (k0_t1 : Fin k0_t1_loop.trips) : Fin 3 → Nat :=
  let c1_19 : Index := 1#32
  let c0_i32 : BitVec 32 := 0#32
  let c1_i32 : BitVec 32 := 1#32
  let arg8 : BitVec 32 := Scf.iv c0_i32 c1_i32 k0_t1
  let c1024_i32 : BitVec 32 := 1024#32
  let v3 : BitVec 32 := Scalar.muli arg8 c1024_i32
  let v56 : Index := Scalar.indexCast v3
  let c0_20 : Index := 0#32
  ![1, v56.toNat, 0]
abbrev stage0_0 : Fin 1 → Memref sig .tc .smem S224 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S224 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x229376x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x64x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x64x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x64x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x229376x256 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Kernel3.lean ====
abbrev S20480x1024 : Shape := ⟨2, ![20480, 1024]⟩
abbrev S8x6x1024 : Shape := ⟨3, ![8, 6, 1024]⟩
abbrev S1024x5120 : Shape := ⟨2, ![1024, 5120]⟩
abbrev S8x20480x128 : Shape := ⟨3, ![8, 20480, 128]⟩
abbrev S2x8x20480x128 : Shape := ⟨4, ![2, 8, 20480, 128]⟩
abbrev S256x1024 : Shape := ⟨2, ![256, 1024]⟩
abbrev S1x6x1024 : Shape := ⟨3, ![1, 6, 1024]⟩
abbrev S8x256x128 : Shape := ⟨3, ![8, 256, 128]⟩
abbrev S2x8x256x128 : Shape := ⟨4, ![2, 8, 256, 128]⟩
abbrev S1x1x1024 : Shape := ⟨3, ![1, 1, 1024]⟩
abbrev S1x1024 : Shape := ⟨2, ![1, 1024]⟩
abbrev S256x5120 : Shape := ⟨2, ![256, 5120]⟩
abbrev S256x128 : Shape := ⟨2, ![256, 128]⟩
abbrev S1x256x128 : Shape := ⟨3, ![1, 256, 128]⟩
abbrev S1x1x256x128 : Shape := ⟨4, ![1, 1, 256, 128]⟩

abbrev nBuf : Space → Nat
  | .hbm => 8
  | .vmem => 13
  | .smem => 0
  | _ => 0

abbrev bufTy : (tb : Table) → Fin (tcTables nBuf tb) → BufTy
  | .hbm, ⟨0, _⟩ => ⟨S20480x1024, .f32⟩
  | .hbm, ⟨1, _⟩ => ⟨S8x6x1024, .f32⟩
  | .hbm, ⟨2, _⟩ => ⟨S1024x5120, .f32⟩
  | .hbm, ⟨3, _⟩ => ⟨S1024x5120, .bf16⟩
  | .hbm, ⟨4, _⟩ => ⟨S8x20480x128, .f32⟩
  | .hbm, ⟨5, _⟩ => ⟨S2x8x20480x128, .f32⟩
  | .hbm, ⟨6, _⟩ => ⟨S8x20480x128, .bf16⟩
  | .hbm, ⟨7, _⟩ => ⟨S20480x1024, .bf16⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x5120, .bf16⟩
  | .local _ .vmem, ⟨5, _⟩ => ⟨S8x256x128, .f32⟩
  | .local _ .vmem, ⟨6, _⟩ => ⟨S8x256x128, .f32⟩
  | .local _ .vmem, ⟨7, _⟩ => ⟨S2x8x256x128, .f32⟩
  | .local _ .vmem, ⟨8, _⟩ => ⟨S2x8x256x128, .f32⟩
  | .local _ .vmem, ⟨9, _⟩ => ⟨S8x256x128, .bf16⟩
  | .local _ .vmem, ⟨10, _⟩ => ⟨S8x256x128, .bf16⟩
  | .local _ .vmem, ⟨11, _⟩ => ⟨S256x1024, .bf16⟩
  | .local _ .vmem, ⟨12, _⟩ => ⟨S256x1024, .bf16⟩
  | _, _ => ⟨S20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c16_i32_1 : BitVec 32 := 16#32
  let v2 : BitVec 32 := Scalar.divsi v1 c16_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c16_i32_1 c0_i32_3
  let v9 : BitVec 32 := Scalar.extui v8
  let c0_i32_4 : BitVec 32 := 0#32
  let v10 : BitVec 1 := Scalar.cmpi .slt c16_i32_1 c0_i32_4
  let v11 : BitVec 32 := Scalar.extui v10
  let v12 : BitVec 32 := Scalar.subi v9 v11
  let v13 : BitVec 1 := Scalar.cmpi .ne v7 v12
  let v14 : BitVec 32 := Scalar.remsi v1 c16_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S20480x1024 : Shape := ⟨2, ![20480, 1024]⟩
abbrev S8x6x1024 : Shape := ⟨3, ![8, 6, 1024]⟩
abbrev S1024x5120 : Shape := ⟨2, ![1024, 5120]⟩
abbrev S5x1x1024 : Shape := ⟨3, ![5, 1, 1024]⟩
abbrev S5x1024 : Shape := ⟨2, ![5, 1024]⟩
abbrev S5x4096x1024 : Shape := ⟨3, ![5, 4096, 1024]⟩
abbrev S_ : Shape := ⟨0, ![]⟩
abbrev S20480x5120 : Shape := ⟨2, ![20480, 5120]⟩
abbrev S20480x8x128 : Shape := ⟨3, ![20480, 8, 128]⟩
abbrev S8x20480x128 : Shape := ⟨3, ![8, 20480, 128]⟩
abbrev S1x8x20480x128 : Shape := ⟨4, ![1, 8, 20480, 128]⟩
abbrev S2x8x20480x128 : Shape := ⟨4, ![2, 8, 20480, 128]⟩

abbrev nBuf : Space → Nat
  | .hbm => 53
  | .vmem => 0
  | .smem => 0
  | _ => 0

abbrev bufTy : (tb : Table) → Fin (tcTables nBuf tb) → BufTy
  | .hbm, ⟨0, _⟩ => ⟨S20480x1024, .f32⟩
  | .hbm, ⟨1, _⟩ => ⟨S8x6x1024, .f32⟩
  | .hbm, ⟨2, _⟩ => ⟨S1024x5120, .f32⟩
  | .hbm, ⟨3, _⟩ => ⟨S5x1x1024, .f32⟩
  | .hbm, ⟨4, _⟩ => ⟨S5x1024, .f32⟩
  | .hbm, ⟨5, _⟩ => ⟨S5x4096x1024, .f32⟩
  | .hbm, ⟨6, _⟩ => ⟨S20480x1024, .f32⟩
  | .hbm, ⟨7, _⟩ => ⟨S5x1x1024, .f32⟩
  | .hbm, ⟨8, _⟩ => ⟨S5x1024, .f32⟩
  | .hbm, ⟨9, _⟩ => ⟨S5x4096x1024, .f32⟩
  | .hbm, ⟨10, _⟩ => ⟨S20480x1024, .f32⟩
  | .hbm, ⟨11, _⟩ => ⟨S_, .f32⟩
  | .hbm, ⟨12, _⟩ => ⟨S20480x1024, .f32⟩
  | .hbm, ⟨13, _⟩ => ⟨S20480x1024, .f32⟩
  | .hbm, ⟨14, _⟩ => ⟨S20480x1024, .f32⟩
  | .hbm, ⟨15, _⟩ => ⟨S20480x1024, .f32⟩
  | .hbm, ⟨16, _⟩ => ⟨S20480x5120, .f32⟩
  | .hbm, ⟨17, _⟩ => ⟨S20480x1024, .f32⟩
  | .hbm, ⟨18, _⟩ => ⟨S20480x1024, .f32⟩
  | .hbm, ⟨19, _⟩ => ⟨S20480x1024, .f32⟩
  | .hbm, ⟨20, _⟩ => ⟨S20480x1024, .f32⟩
  | .hbm, ⟨21, _⟩ => ⟨S20480x1024, .f32⟩
  | .hbm, ⟨22, _⟩ => ⟨S20480x1024, .f32⟩
  | .hbm, ⟨23, _⟩ => ⟨S20480x1024, .f32⟩
  | .hbm, ⟨24, _⟩ => ⟨S_, .f32⟩
  | .hbm, ⟨25, _⟩ => ⟨S20480x1024, .f32⟩
  | .hbm, ⟨26, _⟩ => ⟨S20480x1024, .f32⟩
  | .hbm, ⟨27, _⟩ => ⟨S_, .f32⟩
  | .hbm, ⟨28, _⟩ => ⟨S20480x1024, .f32⟩
  | .hbm, ⟨29, _⟩ => ⟨S20480x1024, .f32⟩
  | .hbm, ⟨30, _⟩ => ⟨S20480x1024, .f32⟩
  | .hbm, ⟨31, _⟩ => ⟨S20480x8x128, .f32⟩
  | .hbm, ⟨32, _⟩ => ⟨S8x20480x128, .f32⟩
  | .hbm, ⟨33, _⟩ => ⟨S20480x8x128, .f32⟩
  | .hbm, ⟨34, _⟩ => ⟨S8x20480x128, .f32⟩
  | .hbm, ⟨35, _⟩ => ⟨S20480x8x128, .f32⟩
  | .hbm, ⟨36, _⟩ => ⟨S8x20480x128, .f32⟩
  | .hbm, ⟨37, _⟩ => ⟨S1x8x20480x128, .f32⟩
  | .hbm, ⟨38, _⟩ => ⟨S1x8x20480x128, .f32⟩
  | .hbm, ⟨39, _⟩ => ⟨S2x8x20480x128, .f32⟩
  | .hbm, ⟨40, _⟩ => ⟨S20480x8x128, .f32⟩
  | .hbm, ⟨41, _⟩ => ⟨S8x20480x128, .f32⟩
  | .hbm, ⟨42, _⟩ => ⟨S8x20480x128, .bf16⟩
  | .hbm, ⟨43, _⟩ => ⟨S20480x1024, .f32⟩
  | .hbm, ⟨44, _⟩ => ⟨S20480x1024, .f32⟩
  | .hbm, ⟨45, _⟩ => ⟨S_, .f32⟩
  | .hbm, ⟨46, _⟩ => ⟨S20480x1024, .f32⟩
  | .hbm, ⟨47, _⟩ => ⟨S20480x1024, .f32⟩
  | .hbm, ⟨48, _⟩ => ⟨S_, .f32⟩
  | .hbm, ⟨49, _⟩ => ⟨S20480x1024, .f32⟩
  | .hbm, ⟨50, _⟩ => ⟨S20480x1024, .f32⟩
  | .hbm, ⟨51, _⟩ => ⟨S20480x1024, .f32⟩
  | .hbm, ⟨52, _⟩ => ⟨S20480x1024, .bf16⟩
  | _, _ => ⟨S20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel4.lean ====
abbrev S2x229376x256 : Shape := ⟨3, ![2, 229376, 256]⟩
abbrev S224 : Shape := ⟨1, ![224]⟩
abbrev S1 : Shape := ⟨1, ![1]⟩
abbrev S2x64x1024x256 : Shape := ⟨4, ![2, 64, 1024, 256]⟩
abbrev S2x64x256x1024 : Shape := ⟨4, ![2, 64, 256, 1024]⟩
abbrev S_ : Shape := ⟨0, ![]⟩
abbrev S224x1 : Shape := ⟨2, ![224, 1]⟩
abbrev S2x1024x256 : Shape := ⟨3, ![2, 1024, 256]⟩
abbrev S1x1x1024x256 : Shape := ⟨4, ![1, 1, 1024, 256]⟩
abbrev S1x1x256x1024 : Shape := ⟨4, ![1, 1, 256, 1024]⟩
abbrev S1024x256 : Shape := ⟨2, ![1024, 256]⟩
abbrev S256x1024 : Shape := ⟨2, ![256, 1024]⟩
abbrev S1x1024x256 : Shape := ⟨3, ![1, 1024, 256]⟩
abbrev S1024x512 : Shape := ⟨2, ![1024, 512]⟩
abbrev S1024x1 : Shape := ⟨2, ![1024, 1]⟩
abbrev S1024x1024 : Shape := ⟨2, ![1024, 1024]⟩

abbrev nBuf : Space → Nat
  | .hbm => 23
  | .vmem => 13
  | .smem => 3
  | _ => 0

abbrev bufTy : (tb : Table) → Fin (tcTables nBuf tb) → BufTy
  | .hbm, ⟨0, _⟩ => ⟨S2x229376x256, .i32⟩
  | .hbm, ⟨1, _⟩ => ⟨S224, .i32⟩
  | .hbm, ⟨2, _⟩ => ⟨S2x64x1024x256, .f32⟩
  | .hbm, ⟨3, _⟩ => ⟨S2x64x1024x256, .f32⟩
  | .hbm, ⟨4, _⟩ => ⟨S2x64x256x1024, .f32⟩
  | .hbm, ⟨5, _⟩ => ⟨S224, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S224, .i32⟩
  | .hbm, ⟨10, _⟩ => ⟨S224, .i32⟩
  | .hbm, ⟨11, _⟩ => ⟨S_, .i32⟩
  | .hbm, ⟨12, _⟩ => ⟨S224, .i32⟩
  | .hbm, ⟨13, _⟩ => ⟨S224, .i32⟩
  | .hbm, ⟨14, _⟩ => ⟨S_, .i32⟩
  | .hbm, ⟨15, _⟩ => ⟨S224, .i32⟩
  | .hbm, ⟨16, _⟩ => ⟨S224, .i1⟩
  | .hbm, ⟨17, _⟩ => ⟨S_, .i32⟩
  | .hbm, ⟨18, _⟩ => ⟨S224, .i32⟩
  | .hbm, ⟨19, _⟩ => ⟨S224, .i32⟩
  | .hbm, ⟨20, _⟩ => ⟨S224, .i32⟩
  | .hbm, ⟨21, _⟩ => ⟨S224x1, .i32⟩
  | .hbm, ⟨22, _⟩ => ⟨S2x229376x256, .i32⟩
  | .local _ .vmem, ⟨0, _⟩ => ⟨S2x1024x256, .i32⟩
  | .local _ .vmem, ⟨1, _⟩ => ⟨S2x1024x256, .i32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S2x1024x256, .i32⟩
  | .local _ .vmem, ⟨9, _⟩ => ⟨S2x1024x256, .i32⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .smem, ⟨0, _⟩ => ⟨S224, .i32⟩
  | .local _ .smem, ⟨1, _⟩ => ⟨S224, .i32⟩
  | .local _ .smem, ⟨2, _⟩ => ⟨S1, .i32⟩
  | _, _ => ⟨S2x229376x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v14 : Ref sig .tc := ⟨.hbm, 22, rfl⟩
abbrev main_v13 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨1, ![224], ![false]⟩

abbrev pre0 : Pipeline.Prefetch sig := ⟨3, ![main_v13.idx, main_arg2.idx, main_arg3.idx], fun | 0 => main_v13.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_off3 (i : grid0.Coords) : Fin 1 → Nat :=
  let arg0 : BitVec 32 := BitVec.ofNat 32 (i 0).val
  let v19 : Index := Scalar.indexCast arg0
  ![v19.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![c0_i32_0.toNat, v3.toNat, c0_i32_1.toNat]

def cc0_transform_1 (k0_off1_inb : ∀ i : grid0.Coords, ∀ a, (k0_off1 i) a + S1.size a ≤ S224.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S224) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S224.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S224) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S224.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S224) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x1024x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1024x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4.lean ====
abbrev S2x229376x256 : Shape := ⟨3, ![2, 229376, 256]⟩
abbrev S224 : Shape := ⟨1, ![224]⟩
abbrev S1 : Shape := ⟨1, ![1]⟩
abbrev S2x64x1024x256 : Shape := ⟨4, ![2, 64, 1024, 256]⟩
abbrev S2x64x256x1024 : Shape := ⟨4, ![2, 64, 256, 1024]⟩
abbrev S1x1024x256 : Shape := ⟨3, ![1, 1024, 256]⟩
abbrev S1024x256 : Shape := ⟨2, ![1024, 256]⟩
abbrev S1024x512 : Shape := ⟨2, ![1024, 512]⟩
abbrev S1024x1 : Shape := ⟨2, ![1024, 1]⟩
abbrev S1024x1024 : Shape := ⟨2, ![1024, 1024]⟩
abbrev S1x1x1024x256 : Shape := ⟨4, ![1, 1, 1024, 256]⟩
abbrev S1x1x256x1024 : Shape := ⟨4, ![1, 1, 256, 1024]⟩
abbrev S256x1024 : Shape := ⟨2, ![256, 1024]⟩

abbrev nBuf : Space → Nat
  | .hbm => 8
  | .vmem => 5
  | .smem => 3
  | _ => 0

abbrev bufTy : (tb : Table) → Fin (tcTables nBuf tb) → BufTy
  | .hbm, ⟨0, _⟩ => ⟨S2x229376x256, .i32⟩
  | .hbm, ⟨1, _⟩ => ⟨S224, .i32⟩
  | .hbm, ⟨2, _⟩ => ⟨S224, .i32⟩
  | .hbm, ⟨3, _⟩ => ⟨S1, .i32⟩
  | .hbm, ⟨4, _⟩ => ⟨S2x64x1024x256, .f32⟩
  | .hbm, ⟨5, _⟩ => ⟨S2x64x1024x256, .f32⟩
  | .hbm, ⟨6, _⟩ => ⟨S2x64x256x1024, .f32⟩
  | .hbm, ⟨7, _⟩ => ⟨S2x229376x256, .i32⟩
  | .local _ .vmem, ⟨0, _⟩ => ⟨S2x229376x256, .i32⟩
  | .local _ .vmem, ⟨1, _⟩ => ⟨S2x64x1024x256, .f32⟩
  | .local _ .vmem, ⟨2, _⟩ => ⟨S2x64x1024x256, .f32⟩
  | .local _ .vmem, ⟨3, _⟩ => ⟨S2x64x256x1024, .f32⟩
  | .local _ .vmem, ⟨4, _⟩ => ⟨S2x229376x256, .i32⟩
  | .local _ .smem, ⟨0, _⟩ => ⟨S224, .i32⟩
  | .local _ .smem, ⟨1, _⟩ => ⟨S224, .i32⟩
  | .local _ .smem, ⟨2, _⟩ => ⟨S1, .i32⟩
  | _, _ => ⟨S2x229376x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c224_i32 : BitVec 32 := 224#32
  let v0 : BitVec 32 := Scalar.addi c0_i32 c224_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg8 : BitVec 32 := Scf.iv c0_i32 c1_i32 k0_t1
  let v1 : Index := Scalar.indexCast arg8
  ![v1.toNat]
def k0_off2 (k0_t1 : Fin k0_t1_loop.trips) : Fin 3 → Nat :=
  let c0 : Index := 0#32
  let c0_i32 : BitVec 32 := 0#32
  let c1_i32 : BitVec 32 := 1#32
  let arg8 : BitVec 32 := Scf.iv c0_i32 c1_i32 k0_t1
  let c1024_i32 : BitVec 32 := 1024#32
  let v3 : BitVec 32 := Scalar.muli arg8 c1024_i32
  let v4 : Index := Scalar.indexCast v3
  let c0_1 : Index := 0#32
  ![0, v4.toNat, 0]
def k0_off3 (k0_t1 : Fin k0_t1_loop.trips) : Fin 3 → Nat :=
  let c1 : Index := 1#32
  let c0_i32 : BitVec 32 := 0#32
  let c1_i32 : BitVec 32 := 1#32
  let arg8 : BitVec 32 := Scf.iv c0_i32 c1_i32 k0_t1
  let c1024_i32 : BitVec 32 := 1024#32
  let v3 : BitVec 32 := Scalar.muli arg8 c1024_i32
  let v7 : Index := Scalar.indexCast v3
  let c0_2 : Index := 0#32
  ![1, v7.toNat, 0]
def k0_off4 (v2 : BitVec 32) : Fin 4 → Nat :=
  let c1_4 : Index := 1#32
  let v24 : Index := Scalar.indexCast v2
  let c0_5 : Index := 0#32
  let c0_6 : Index := 0#32
  ![1, v24.toNat, 0, 0]

def k0_off5 (v2 : BitVec 32) : Fin 4 → Nat :=
  let c1_11 : Index := 1#32
  let v38 : Index := Scalar.indexCast v2
  let c0_12 : Index := 0#32
  let c0_13 : Index := 0#32
  ![1, v38.toNat, 0, 0]

def k0_chk1 (v2 : BitVec 32) : Prop :=
  (∀ a, (k0_off4 v2) a + S1x1x1024x256.size a ≤ S2x64x1024x256.size a) ∧
  (∀ a, (k0_off5 v2) a + S1x1x256x1024.size a ≤ S2x64x256x1024.size a)
theorem k0_off4_inb : ∀ (v2 : BitVec 32) (k0_hw1 : k0_chk1 v2), ∀ a, (k0_off4 v2) a + S1x1x1024x256.size a ≤ S2x64x1024x256.size a := fun v2 k0_hw1 => k0_hw1.1
theorem k0_off5_inb : ∀ (v2 : BitVec 32) (k0_hw1 : k0_chk1 v2), ∀ a, (k0_off5 v2) a + S1x1x256x1024.size a ≤ S2x64x256x1024.size a := fun v2 k0_hw1 => k0_hw1.2

def k0_off6 (k0_t1 : Fin k0_t1_loop.trips) : Fin 3 → Nat :=
  let c0_17 : Index := 0#32
  let c0_i32 : BitVec 32 := 0#32
  let c1_i32 : BitVec 32 := 1#32
  let arg8 : BitVec 32 := Scf.iv c0_i32 c1_i32 k0_t1
  let c1024_i32 : BitVec 32 := 1024#32
  let v3 : BitVec 32 := Scalar.muli arg8 c1024_i32
  let v51 : Index := Scalar.indexCast v3
  let c0_18 : Index := 0#32
  ![0, v51.toNat, 0]
def k0_off7 (k0_t1 : Fin k0_t1_loop.trips) : Fin 3 → Nat :=
  let c1_19 : Index := 1#32
  let c0_i32 : BitVec 32 := 0#32
  let c1_i32 : BitVec 32 := 1#32
  let arg8 : BitVec 32 := Scf.iv c0_i32 c1_i32 k0_t1
  let c1024_i32 : BitVec 32 := 1024#32
  let v3 : BitVec 32 := Scalar.muli arg8 c1024_i32
  let v56 : Index := Scalar.indexCast v3
  let c0_20 : Index := 0#32
  ![1, v56.toNat, 0]
abbrev stage0_0 : Fin 1 → Memref sig .tc .smem S224 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S224 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x229376x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x64x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x64x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x64x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x229376x256 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Kernel5.lean ====
abbrev S4096x1024 : Shape := ⟨2, ![4096, 1024]⟩
abbrev S16384x1024 : Shape := ⟨2, ![16384, 1024]⟩
abbrev S8x6x1024 : Shape := ⟨3, ![8, 6, 1024]⟩
abbrev S1024x3088 : Shape := ⟨2, ![1024, 3088]⟩
abbrev S2x2x4 : Shape := ⟨3, ![2, 2, 4]⟩
abbrev S1024x512 : Shape := ⟨2, ![1024, 512]⟩
abbrev S512x1024 : Shape := ⟨2, ![512, 1024]⟩
abbrev S1024x2048 : Shape := ⟨2, ![1024, 2048]⟩
abbrev S1024x16 : Shape := ⟨2, ![1024, 16]⟩
abbrev S16 : Shape := ⟨1, ![16]⟩
abbrev S16x1024 : Shape := ⟨2, ![16, 1024]⟩
abbrev S16x1 : Shape := ⟨2, ![16, 1]⟩
abbrev S20480x512 : Shape := ⟨2, ![20480, 512]⟩
abbrev S512x20480 : Shape := ⟨2, ![512, 20480]⟩
abbrev S20480x1024 : Shape := ⟨2, ![20480, 1024]⟩
abbrev S16x20480 : Shape := ⟨2, ![16, 20480]⟩
abbrev S1x6x1024 : Shape := ⟨3, ![1, 6, 1024]⟩
abbrev S512x512 : Shape := ⟨2, ![512, 512]⟩
abbrev S16x512 : Shape := ⟨2, ![16, 512]⟩
abbrev S1x1x1024 : Shape := ⟨3, ![1, 1, 1024]⟩
abbrev S1x1024 : Shape := ⟨2, ![1, 1024]⟩
abbrev S512x2048 : Shape := ⟨2, ![512, 2048]⟩

abbrev nBuf : Space → Nat
  | .hbm => 22
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S16384x1024, .f32⟩
  | .hbm, ⟨2, _⟩ => ⟨S4096x1024, .f32⟩
  | .hbm, ⟨3, _⟩ => ⟨S8x6x1024, .f32⟩
  | .hbm, ⟨4, _⟩ => ⟨S1024x3088, .f32⟩
  | .hbm, ⟨5, _⟩ => ⟨S2x2x4, .f32⟩
  | .hbm, ⟨6, _⟩ => ⟨S1024x512, .f32⟩
  | .hbm, ⟨7, _⟩ => ⟨S1024x512, .bf16⟩
  | .hbm, ⟨8, _⟩ => ⟨S1024x512, .f32⟩
  | .hbm, ⟨9, _⟩ => ⟨S512x1024, .f32⟩
  | .hbm, ⟨10, _⟩ => ⟨S512x1024, .bf16⟩
  | .hbm, ⟨11, _⟩ => ⟨S1024x2048, .f32⟩
  | .hbm, ⟨12, _⟩ => ⟨S1024x2048, .bf16⟩
  | .hbm, ⟨13, _⟩ => ⟨S1024x16, .f32⟩
  | .hbm, ⟨14, _⟩ => ⟨S16, .f32⟩
  | .hbm, ⟨15, _⟩ => ⟨S16x1024, .f32⟩
  | .hbm, ⟨16, _⟩ => ⟨S16x1, .f32⟩
  | .hbm, ⟨17, _⟩ => ⟨S20480x512, .bf16⟩
  | .hbm, ⟨18, _⟩ => ⟨S512x20480, .bf16⟩
  | .hbm, ⟨19, _⟩ => ⟨S20480x1024, .bf16⟩
  | .hbm, ⟨20, _⟩ => ⟨S20480x1024, .bf16⟩
  | .hbm, ⟨21, _⟩ => ⟨S16x20480, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x6x1024, .f32⟩
  | .local _ .vmem, ⟨7, _⟩ => ⟨S1x6x1024, .f32⟩
  | .local _ .vmem, ⟨8, _⟩ => ⟨S1024x512, .bf16⟩
  | .local _ .vmem, ⟨9, _⟩ => ⟨S512x1024, .bf16⟩
  | .local _ .vmem, ⟨10, _⟩ => ⟨S1024x2048, .bf16⟩
  | .local _ .vmem, ⟨11, _⟩ => ⟨S16x1024, .f32⟩
  | .local _ .vmem, ⟨12, _⟩ => ⟨S16x1, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S16x512, .f32⟩
  | .local _ .vmem, ⟨22, _⟩ => ⟨S16x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let v1 : BitVec 32 := Scalar.addi c0_i32 v0
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let v2 : BitVec 32 := Scalar.addi c0_i32_0 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let c0_i32_1 : BitVec 32 := 0#32
  let v2 : BitVec 1 := Scalar.cmpi .eq c8_i32_0 c0_i32_1
  let c1_i32 : BitVec 32 := 1#32
  let v3 : BitVec 32 := Scalar.select v2 c1_i32 c8_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_3 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c8_i32_1 : BitVec 32 := 8#32
  let v2 : BitVec 32 := Scalar.divsi v1 c8_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_1 c0_i32_3
  let v9 : BitVec 32 := Scalar.extui v8
  let c0_i32_4 : BitVec 32 := 0#32
  let v10 : BitVec 1 := Scalar.cmpi .slt c8_i32_1 c0_i32_4
  let v11 : BitVec 32 := Scalar.extui v10
  let v12 : BitVec 32 := Scalar.subi v9 v11
  let v13 : BitVec 1 := Scalar.cmpi .ne v7 v12
  let v14 : BitVec 32 := Scalar.remsi v1 c8_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S4096x1024 : Shape := ⟨2, ![4096, 1024]⟩
abbrev S16384x1024 : Shape := ⟨2, ![16384, 1024]⟩
abbrev S8x6x1024 : Shape := ⟨3, ![8, 6, 1024]⟩
abbrev S1024x3088 : Shape := ⟨2, ![1024, 3088]⟩
abbrev S2x2x4 : Shape := ⟨3, ![2, 2, 4]⟩
abbrev S4x4096x1024 : Shape := ⟨3, ![4, 4096, 1024]⟩
abbrev S1x4096x1024 : Shape := ⟨3, ![1, 4096, 1024]⟩
abbrev S20480x1024 : Shape := ⟨2, ![20480, 1024]⟩
abbrev S5x1x1024 : Shape := ⟨3, ![5, 1, 1024]⟩
abbrev S5x1024 : Shape := ⟨2, ![5, 1024]⟩
abbrev S5x4096x1024 : Shape := ⟨3, ![5, 4096, 1024]⟩
abbrev S_ : Shape := ⟨0, ![]⟩
abbrev S20480x3088 : Shape := ⟨2, ![20480, 3088]⟩
abbrev S20480x512 : Shape := ⟨2, ![20480, 512]⟩
abbrev S20480x16 : Shape := ⟨2, ![20480, 16]⟩
abbrev S20480x2x2x4 : Shape := ⟨4, ![20480, 2, 2, 4]⟩
abbrev S1x2x2x4 : Shape := ⟨4, ![1, 2, 2, 4]⟩
abbrev S512x20480 : Shape := ⟨2, ![512, 20480]⟩
abbrev S2x2x4x20480 : Shape := ⟨4, ![2, 2, 4, 20480]⟩
abbrev S16x20480 : Shape := ⟨2, ![16, 20480]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16384x1024, .f32⟩
  | .hbm, ⟨2, _⟩ => ⟨S4096x1024, .f32⟩
  | .hbm, ⟨3, _⟩ => ⟨S8x6x1024, .f32⟩
  | .hbm, ⟨4, _⟩ => ⟨S1024x3088, .f32⟩
  | .hbm, ⟨5, _⟩ => ⟨S2x2x4, .f32⟩
  | .hbm, ⟨6, _⟩ => ⟨S4x4096x1024, .f32⟩
  | .hbm, ⟨7, _⟩ => ⟨S1x4096x1024, .f32⟩
  | .hbm, ⟨8, _⟩ => ⟨S4x4096x1024, .f32⟩
  | .hbm, ⟨9, _⟩ => ⟨S4x4096x1024, .f32⟩
  | .hbm, ⟨10, _⟩ => ⟨S16384x1024, .f32⟩
  | .hbm, ⟨11, _⟩ => ⟨S20480x1024, .f32⟩
  | .hbm, ⟨12, _⟩ => ⟨S5x1x1024, .f32⟩
  | .hbm, ⟨13, _⟩ => ⟨S5x1024, .f32⟩
  | .hbm, ⟨14, _⟩ => ⟨S5x4096x1024, .f32⟩
  | .hbm, ⟨15, _⟩ => ⟨S20480x1024, .f32⟩
  | .hbm, ⟨16, _⟩ => ⟨S5x1x1024, .f32⟩
  | .hbm, ⟨17, _⟩ => ⟨S5x1024, .f32⟩
  | .hbm, ⟨18, _⟩ => ⟨S5x4096x1024, .f32⟩
  | .hbm, ⟨19, _⟩ => ⟨S20480x1024, .f32⟩
  | .hbm, ⟨20, _⟩ => ⟨S_, .f32⟩
  | .hbm, ⟨21, _⟩ => ⟨S20480x1024, .f32⟩
  | .hbm, ⟨22, _⟩ => ⟨S20480x1024, .f32⟩
  | .hbm, ⟨23, _⟩ => ⟨S20480x1024, .f32⟩
  | .hbm, ⟨24, _⟩ => ⟨S20480x1024, .f32⟩
  | .hbm, ⟨25, _⟩ => ⟨S20480x3088, .f32⟩
  | .hbm, ⟨26, _⟩ => ⟨S20480x512, .f32⟩
  | .hbm, ⟨27, _⟩ => ⟨S20480x512, .f32⟩
  | .hbm, ⟨28, _⟩ => ⟨S20480x1024, .f32⟩
  | .hbm, ⟨29, _⟩ => ⟨S20480x1024, .f32⟩
  | .hbm, ⟨30, _⟩ => ⟨S20480x16, .f32⟩
  | .hbm, ⟨31, _⟩ => ⟨S20480x2x2x4, .f32⟩
  | .hbm, ⟨32, _⟩ => ⟨S1x2x2x4, .f32⟩
  | .hbm, ⟨33, _⟩ => ⟨S20480x2x2x4, .f32⟩
  | .hbm, ⟨34, _⟩ => ⟨S20480x2x2x4, .f32⟩
  | .hbm, ⟨35, _⟩ => ⟨S20480x512, .bf16⟩
  | .hbm, ⟨36, _⟩ => ⟨S_, .f32⟩
  | .hbm, ⟨37, _⟩ => ⟨S20480x512, .f32⟩
  | .hbm, ⟨38, _⟩ => ⟨S20480x512, .f32⟩
  | .hbm, ⟨39, _⟩ => ⟨S512x20480, .f32⟩
  | .hbm, ⟨40, _⟩ => ⟨S512x20480, .bf16⟩
  | .hbm, ⟨41, _⟩ => ⟨S20480x1024, .bf16⟩
  | .hbm, ⟨42, _⟩ => ⟨S20480x1024, .f32⟩
  | .hbm, ⟨43, _⟩ => ⟨S20480x1024, .f32⟩
  | .hbm, ⟨44, _⟩ => ⟨S_, .f32⟩
  | .hbm, ⟨45, _⟩ => ⟨S20480x1024, .f32⟩
  | .hbm, ⟨46, _⟩ => ⟨S20480x1024, .f32⟩
  | .hbm, ⟨47, _⟩ => ⟨S_, .f32⟩
  | .hbm, ⟨48, _⟩ => ⟨S20480x1024, .f32⟩
  | .hbm, ⟨49, _⟩ => ⟨S20480x1024, .f32⟩
  | .hbm, ⟨50, _⟩ => ⟨S20480x1024, .bf16⟩
  | .hbm, ⟨51, _⟩ => ⟨S2x2x4x20480, .f32⟩
  | .hbm, ⟨52, _⟩ => ⟨S16x20480, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_0 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_1 : Ref sig .tc := ⟨.hbm, 44, rfl⟩
abbrev main_v36 : Ref sig .tc := ⟨.hbm, 45, rfl⟩
abbrev main_v37 : Ref sig .tc := ⟨.hbm, 46, rfl⟩
abbrev main_cst_2 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== Kernel8.lean ====
abbrev S20480x1024 : Shape := ⟨2, ![20480, 1024]⟩
abbrev S8x6x1024 : Shape := ⟨3, ![8, 6, 1024]⟩
abbrev S20480x8 : Shape := ⟨2, ![20480, 8]⟩
abbrev S2x8x20480x256 : Shape := ⟨4, ![2, 8, 20480, 256]⟩
abbrev S1024x256 : Shape := ⟨2, ![1024, 256]⟩
abbrev S256x1024 : Shape := ⟨2, ![256, 1024]⟩
abbrev S1024 : Shape := ⟨1, ![1024]⟩
abbrev S1x1024 : Shape := ⟨2, ![1, 1024]⟩
abbrev S512x1024 : Shape := ⟨2, ![512, 1024]⟩
abbrev S1x6x1024 : Shape := ⟨3, ![1, 6, 1024]⟩
abbrev S512x8 : Shape := ⟨2, ![512, 8]⟩
abbrev S2x8x512x256 : Shape := ⟨4, ![2, 8, 512, 256]⟩
abbrev S1x1x1024 : Shape := ⟨3, ![1, 1, 1024]⟩
abbrev S512x256 : Shape := ⟨2, ![512, 256]⟩
abbrev S1x1x512x256 : Shape := ⟨4, ![1, 1, 512, 256]⟩
abbrev S512x512 : Shape := ⟨2, ![512, 512]⟩
abbrev S512x1 : Shape := ⟨2, ![512, 1]⟩
abbrev S512 : Shape := ⟨1, ![512]⟩

abbrev nBuf : Space → Nat
  | .hbm => 15
  | .vmem => 15
  | .smem => 0
  | _ => 0

abbrev bufTy : (tb : Table) → Fin (tcTables nBuf tb) → BufTy
  | .hbm, ⟨0, _⟩ => ⟨S20480x1024, .f32⟩
  | .hbm, ⟨1, _⟩ => ⟨S8x6x1024, .f32⟩
  | .hbm, ⟨2, _⟩ => ⟨S20480x8, .f32⟩
  | .hbm, ⟨3, _⟩ => ⟨S2x8x20480x256, .i32⟩
  | .hbm, ⟨4, _⟩ => ⟨S1024x256, .f32⟩
  | .hbm, ⟨5, _⟩ => ⟨S1024x256, .f32⟩
  | .hbm, ⟨6, _⟩ => ⟨S256x1024, .f32⟩
  | .hbm, ⟨7, _⟩ => ⟨S1024, .f32⟩
  | .hbm, ⟨8, _⟩ => ⟨S1024, .f32⟩
  | .hbm, ⟨9, _⟩ => ⟨S1024x256, .bf16⟩
  | .hbm, ⟨10, _⟩ => ⟨S1024x256, .bf16⟩
  | .hbm, ⟨11, _⟩ => ⟨S256x1024, .bf16⟩
  | .hbm, ⟨12, _⟩ => ⟨S1x1024, .f32⟩
  | .hbm, ⟨13, _⟩ => ⟨S1x1024, .f32⟩
  | .hbm, ⟨14, _⟩ => ⟨S20480x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S512x8, .f32⟩
  | .local _ .vmem, ⟨5, _⟩ => ⟨S512x8, .f32⟩
  | .local _ .vmem, ⟨6, _⟩ => ⟨S2x8x512x256, .i32⟩
  | .local _ .vmem, ⟨7, _⟩ => ⟨S2x8x512x256, .i32⟩
  | .local _ .vmem, ⟨8, _⟩ => ⟨S1024x256, .bf16⟩
  | .local _ .vmem, ⟨9, _⟩ => ⟨S1024x256, .bf16⟩
  | .local _ .vmem, ⟨10, _⟩ => ⟨S256x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c8_i32_1 : BitVec 32 := 8#32
  let v2 : BitVec 32 := Scalar.divsi v1 c8_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_1 c0_i32_3
  let v9 : BitVec 32 := Scalar.extui v8
  let c0_i32_4 : BitVec 32 := 0#32
  let v10 : BitVec 1 := Scalar.cmpi .slt c8_i32_1 c0_i32_4
  let v11 : BitVec 32 := Scalar.extui v10
  let v12 : BitVec 32 := Scalar.subi v9 v11
  let v13 : BitVec 1 := Scalar.cmpi .ne v7 v12
  let v14 : BitVec 32 := Scalar.remsi v1 c8_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x8x512x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference8Ideal.lean ====
abbrev S20480x1024 : Shape := ⟨2, ![20480, 1024]⟩
abbrev S8x6x1024 : Shape := ⟨3, ![8, 6, 1024]⟩
abbrev S20480x8 : Shape := ⟨2, ![20480, 8]⟩
abbrev S2x8x20480x256 : Shape := ⟨4, ![2, 8, 20480, 256]⟩
abbrev S1024x256 : Shape := ⟨2, ![1024, 256]⟩
abbrev S256x1024 : Shape := ⟨2, ![256, 1024]⟩
abbrev S1024 : Shape := ⟨1, ![1024]⟩
abbrev S2x8x20480x256x2 : Shape := ⟨5, ![2, 8, 20480, 256, 2]⟩
abbrev S1x8x20480x256x1 : Shape := ⟨5, ![1, 8, 20480, 256, 1]⟩
abbrev S8x20480x256 : Shape := ⟨3, ![8, 20480, 256]⟩
abbrev S8x20480x1024 : Shape := ⟨3, ![8, 20480, 1024]⟩
abbrev S5x6x1024 : Shape := ⟨3, ![5, 6, 1024]⟩
abbrev S5x1x1024 : Shape := ⟨3, ![5, 1, 1024]⟩
abbrev S5x1024 : Shape := ⟨2, ![5, 1024]⟩
abbrev S5x4096x1024 : Shape := ⟨3, ![5, 4096, 1024]⟩
abbrev S_ : Shape := ⟨0, ![]⟩
abbrev S8x20480 : Shape := ⟨2, ![8, 20480]⟩
abbrev S8x20480x1 : Shape := ⟨3, ![8, 20480, 1]⟩
abbrev S20480x256 : Shape := ⟨2, ![20480, 256]⟩
abbrev S20480 : Shape := ⟨1, ![20480]⟩
abbrev S20480x1 : Shape := ⟨2, ![20480, 1]⟩
abbrev S1x1024 : Shape := ⟨2, ![1, 1024]⟩

abbrev nBuf : Space → Nat
  | .hbm => 92
  | .vmem => 0
  | .smem => 0
  | _ => 0

abbrev bufTy : (tb : Table) → Fin (tcTables nBuf tb) → BufTy
  | .hbm, ⟨0, _⟩ => ⟨S20480x1024, .f32⟩
  | .hbm, ⟨1, _⟩ => ⟨S8x6x1024, .f32⟩
  | .hbm, ⟨2, _⟩ => ⟨S20480x8, .f32⟩
  | .hbm, ⟨3, _⟩ => ⟨S2x8x20480x256, .i32⟩
  | .hbm, ⟨4, _⟩ => ⟨S1024x256, .f32⟩
  | .hbm, ⟨5, _⟩ => ⟨S1024x256, .f32⟩
  | .hbm, ⟨6, _⟩ => ⟨S256x1024, .f32⟩
  | .hbm, ⟨7, _⟩ => ⟨S1024, .f32⟩
  | .hbm, ⟨8, _⟩ => ⟨S1024, .f32⟩
  | .hbm, ⟨9, _⟩ => ⟨S2x8x20480x256x2, .bf16⟩
  | .hbm, ⟨10, _⟩ => ⟨S2x8x20480x256x2, .f32⟩
  | .hbm, ⟨11, _⟩ => ⟨S1x8x20480x256x1, .f32⟩
  | .hbm, ⟨12, _⟩ => ⟨S8x20480x256, .f32⟩
  | .hbm, ⟨13, _⟩ => ⟨S1x8x20480x256x1, .f32⟩
  | .hbm, ⟨14, _⟩ => ⟨S8x20480x256, .f32⟩
  | .hbm, ⟨15, _⟩ => ⟨S1x8x20480x256x1, .f32⟩
  | .hbm, ⟨16, _⟩ => ⟨S8x20480x256, .f32⟩
  | .hbm, ⟨17, _⟩ => ⟨S1x8x20480x256x1, .f32⟩
  | .hbm, ⟨18, _⟩ => ⟨S8x20480x256, .f32⟩
  | .hbm, ⟨19, _⟩ => ⟨S8x20480x1024, .f32⟩
  | .hbm, ⟨20, _⟩ => ⟨S5x6x1024, .f32⟩
  | .hbm, ⟨21, _⟩ => ⟨S5x1x1024, .f32⟩
  | .hbm, ⟨22, _⟩ => ⟨S5x1024, .f32⟩
  | .hbm, ⟨23, _⟩ => ⟨S5x4096x1024, .f32⟩
  | .hbm, ⟨24, _⟩ => ⟨S20480x1024, .f32⟩
  | .hbm, ⟨25, _⟩ => ⟨S5x1x1024, .f32⟩
  | .hbm, ⟨26, _⟩ => ⟨S5x1024, .f32⟩
  | .hbm, ⟨27, _⟩ => ⟨S5x4096x1024, .f32⟩
  | .hbm, ⟨28, _⟩ => ⟨S20480x1024, .f32⟩
  | .hbm, ⟨29, _⟩ => ⟨S5x1x1024, .f32⟩
  | .hbm, ⟨30, _⟩ => ⟨S5x1024, .f32⟩
  | .hbm, ⟨31, _⟩ => ⟨S5x4096x1024, .f32⟩
  | .hbm, ⟨32, _⟩ => ⟨S20480x1024, .f32⟩
  | .hbm, ⟨33, _⟩ => ⟨S_, .f32⟩
  | .hbm, ⟨34, _⟩ => ⟨S20480x1024, .f32⟩
  | .hbm, ⟨35, _⟩ => ⟨S20480x1024, .f32⟩
  | .hbm, ⟨36, _⟩ => ⟨S20480x1024, .f32⟩
  | .hbm, ⟨37, _⟩ => ⟨S20480x1024, .f32⟩
  | .hbm, ⟨38, _⟩ => ⟨S8x20480, .f32⟩
  | .hbm, ⟨39, _⟩ => ⟨S8x20480x1, .f32⟩
  | .hbm, ⟨40, _⟩ => ⟨S8x20480x1024, .f32⟩
  | .hbm, ⟨41, _⟩ => ⟨S8x20480x1024, .f32⟩
  | .hbm, ⟨42, _⟩ => ⟨S_, .f32⟩
  | .hbm, ⟨43, _⟩ => ⟨S20480x1024, .f32⟩
  | .hbm, ⟨44, _⟩ => ⟨S20480x256, .f32⟩
  | .hbm, ⟨45, _⟩ => ⟨S20480x256, .f32⟩
  | .hbm, ⟨46, _⟩ => ⟨S20480x256, .f32⟩
  | .hbm, ⟨47, _⟩ => ⟨S_, .f32⟩
  | .hbm, ⟨48, _⟩ => ⟨S20480x256, .f32⟩
  | .hbm, ⟨49, _⟩ => ⟨S20480x256, .f32⟩
  | .hbm, ⟨50, _⟩ => ⟨S_, .f32⟩
  | .hbm, ⟨51, _⟩ => ⟨S20480x256, .f32⟩
  | .hbm, ⟨52, _⟩ => ⟨S20480x256, .f32⟩
  | .hbm, ⟨53, _⟩ => ⟨S20480x256, .f32⟩
  | .hbm, ⟨54, _⟩ => ⟨S20480x256, .f32⟩
  | .hbm, ⟨55, _⟩ => ⟨S20480x256, .f32⟩
  | .hbm, ⟨56, _⟩ => ⟨S20480x1024, .f32⟩
  | .hbm, ⟨57, _⟩ => ⟨S_, .f32⟩
  | .hbm, ⟨58, _⟩ => ⟨S20480x1024, .f32⟩
  | .hbm, ⟨59, _⟩ => ⟨S20480x1024, .f32⟩
  | .hbm, ⟨60, _⟩ => ⟨S20480x1024, .f32⟩
  | .hbm, ⟨61, _⟩ => ⟨S20480x1024, .f32⟩
  | .hbm, ⟨62, _⟩ => ⟨S20480x1024, .f32⟩
  | .hbm, ⟨63, _⟩ => ⟨S_, .f32⟩
  | .hbm, ⟨64, _⟩ => ⟨S20480, .f32⟩
  | .hbm, ⟨65, _⟩ => ⟨S20480x1, .f32⟩
  | .hbm, ⟨66, _⟩ => ⟨S_, .f32⟩
  | .hbm, ⟨67, _⟩ => ⟨S20480x1, .f32⟩
  | .hbm, ⟨68, _⟩ => ⟨S20480x1, .f32⟩
  | .hbm, ⟨69, _⟩ => ⟨S20480x1024, .f32⟩
  | .hbm, ⟨70, _⟩ => ⟨S20480x1024, .f32⟩
  | .hbm, ⟨71, _⟩ => ⟨S20480x1024, .f32⟩
  | .hbm, ⟨72, _⟩ => ⟨S_, .f32⟩
  | .hbm, ⟨73, _⟩ => ⟨S20480, .f32⟩
  | .hbm, ⟨74, _⟩ => ⟨S20480x1, .f32⟩
  | .hbm, ⟨75, _⟩ => ⟨S_, .f32⟩
  | .hbm, ⟨76, _⟩ => ⟨S20480x1, .f32⟩
  | .hbm, ⟨77, _⟩ => ⟨S20480x1, .f32⟩
  | .hbm, ⟨78, _⟩ => ⟨S20480x1024, .f32⟩
  | .hbm, ⟨79, _⟩ => ⟨S20480x1024, .f32⟩
  | .hbm, ⟨80, _⟩ => ⟨S_, .f32⟩
  | .hbm, ⟨81, _⟩ => ⟨S20480x1, .f32⟩
  | .hbm, ⟨82, _⟩ => ⟨S20480x1, .f32⟩
  | .hbm, ⟨83, _⟩ => ⟨S20480x1, .f32⟩
  | .hbm, ⟨84, _⟩ => ⟨S20480x1024, .f32⟩
  | .hbm, ⟨85, _⟩ => ⟨S20480x1024, .f32⟩
  | .hbm, ⟨86, _⟩ => ⟨S1x1024, .f32⟩
  | .hbm, ⟨87, _⟩ => ⟨S20480x1024, .f32⟩
  | .hbm, ⟨88, _⟩ => ⟨S20480x1024, .f32⟩
  | .hbm, ⟨89, _⟩ => ⟨S1x1024, .f32⟩
  | .hbm, ⟨90, _⟩ => ⟨S20480x1024, .f32⟩
  | .hbm, ⟨91, _⟩ => ⟨S20480x1024, .f32⟩
  | _, _ => ⟨S20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_0 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_1 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_2 : Ref sig .tc := ⟨.hbm, 63, rfl⟩
abbrev main_v43 : Ref sig .tc := ⟨.hbm, 64, rfl⟩
abbrev main_v44 : Ref sig .tc := ⟨.hbm, 65, rfl⟩
abbrev main_cst_3 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_cst_5 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_6 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]
-- ==== Kernel6.lean ====
abbrev S2x8x4096x128 : Shape := ⟨4, ![2, 8, 4096, 128]⟩
abbrev S2x8x16384x128 : Shape := ⟨4, ![2, 8, 16384, 128]⟩
abbrev S20480x1024 : Shape := ⟨2, ![20480, 1024]⟩
abbrev S1024 : Shape := ⟨1, ![1024]⟩
abbrev S1024x1024 : Shape := ⟨2, ![1024, 1024]⟩
abbrev S8x6x1024 : Shape := ⟨3, ![8, 6, 1024]⟩
abbrev S1x1024 : Shape := ⟨2, ![1, 1024]⟩
abbrev S2x8x512x128 : Shape := ⟨4, ![2, 8, 512, 128]⟩
abbrev S512x1024 : Shape := ⟨2, ![512, 1024]⟩
abbrev S1x6x1024 : Shape := ⟨3, ![1, 6, 1024]⟩
abbrev S1x1x512x128 : Shape := ⟨4, ![1, 1, 512, 128]⟩
abbrev S512x128 : Shape := ⟨2, ![512, 128]⟩
abbrev S512 : Shape := ⟨1, ![512]⟩
abbrev S512x1 : Shape := ⟨2, ![512, 1]⟩
abbrev S1x1x1024 : Shape := ⟨3, ![1, 1, 1024]⟩

abbrev nBuf : Space → Nat
  | .hbm => 14
  | .vmem => 16
  | .smem => 0
  | _ => 0

abbrev bufTy : (tb : Table) → Fin (tcTables nBuf tb) → BufTy
  | .hbm, ⟨0, _⟩ => ⟨S2x8x4096x128, .bf16⟩
  | .hbm, ⟨1, _⟩ => ⟨S2x8x16384x128, .bf16⟩
  | .hbm, ⟨2, _⟩ => ⟨S20480x1024, .bf16⟩
  | .hbm, ⟨3, _⟩ => ⟨S1024, .f32⟩
  | .hbm, ⟨4, _⟩ => ⟨S1024x1024, .f32⟩
  | .hbm, ⟨5, _⟩ => ⟨S20480x1024, .f32⟩
  | .hbm, ⟨6, _⟩ => ⟨S8x6x1024, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S20480x1024, .f32⟩
  | .local _ .vmem, ⟨0, _⟩ => ⟨S2x8x512x128, .bf16⟩
  | .local _ .vmem, ⟨1, _⟩ => ⟨S2x8x512x128, .bf16⟩
  | .local _ .vmem, ⟨2, _⟩ => ⟨S2x8x512x128, .bf16⟩
  | .local _ .vmem, ⟨3, _⟩ => ⟨S2x8x512x128, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S1x6x1024, .f32⟩
  | .local _ .vmem, ⟨11, _⟩ => ⟨S1x6x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S2x8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![40], ![false]⟩

def cc0_transform_0 (i : grid0.Coords) : Fin 4 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_1 (i : grid0.Coords) : Fin 4 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c8_i32_1 : BitVec 32 := 8#32
  let v2 : BitVec 32 := Scalar.divsi v1 c8_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_1 c0_i32_3
  let v9 : BitVec 32 := Scalar.extui v8
  let c0_i32_4 : BitVec 32 := 0#32
  let v10 : BitVec 1 := Scalar.cmpi .slt c8_i32_1 c0_i32_4
  let v11 : BitVec 32 := Scalar.extui v10
  let v12 : BitVec 32 := Scalar.subi v9 v11
  let v13 : BitVec 1 := Scalar.cmpi .ne v7 v12
  let v14 : BitVec 32 := Scalar.remsi v1 c8_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S2x8x4096x128 : Shape := ⟨4, ![2, 8, 4096, 128]⟩
abbrev S2x8x16384x128 : Shape := ⟨4, ![2, 8, 16384, 128]⟩
abbrev S20480x1024 : Shape := ⟨2, ![20480, 1024]⟩
abbrev S1024 : Shape := ⟨1, ![1024]⟩
abbrev S1024x1024 : Shape := ⟨2, ![1024, 1024]⟩
abbrev S8x6x1024 : Shape := ⟨3, ![8, 6, 1024]⟩
abbrev S2x8x20480x128 : Shape := ⟨4, ![2, 8, 20480, 128]⟩
abbrev S1x8x20480x128 : Shape := ⟨4, ![1, 8, 20480, 128]⟩
abbrev S8x20480x128 : Shape := ⟨3, ![8, 20480, 128]⟩
abbrev S_ : Shape := ⟨0, ![]⟩
abbrev S8x20480 : Shape := ⟨2, ![8, 20480]⟩
abbrev S8x20480x1 : Shape := ⟨3, ![8, 20480, 1]⟩
abbrev S20480x8x128 : Shape := ⟨3, ![20480, 8, 128]⟩
abbrev S1x1024 : Shape := ⟨2, ![1, 1024]⟩
abbrev S5x1x1024 : Shape := ⟨3, ![5, 1, 1024]⟩
abbrev S5x1024 : Shape := ⟨2, ![5, 1024]⟩
abbrev S5x4096x1024 : Shape := ⟨3, ![5, 4096, 1024]⟩
abbrev S20480 : Shape := ⟨1, ![20480]⟩
abbrev S20480x1 : Shape := ⟨2, ![20480, 1]⟩

abbrev nBuf : Space → Nat
  | .hbm => 75
  | .vmem => 0
  | .smem => 0
  | _ => 0

abbrev bufTy : (tb : Table) → Fin (tcTables nBuf tb) → BufTy
  | .hbm, ⟨0, _⟩ => ⟨S2x8x4096x128, .bf16⟩
  | .hbm, ⟨1, _⟩ => ⟨S2x8x16384x128, .bf16⟩
  | .hbm, ⟨2, _⟩ => ⟨S20480x1024, .bf16⟩
  | .hbm, ⟨3, _⟩ => ⟨S1024, .f32⟩
  | .hbm, ⟨4, _⟩ => ⟨S1024x1024, .f32⟩
  | .hbm, ⟨5, _⟩ => ⟨S20480x1024, .f32⟩
  | .hbm, ⟨6, _⟩ => ⟨S8x6x1024, .f32⟩
  | .hbm, ⟨7, _⟩ => ⟨S1024, .f32⟩
  | .hbm, ⟨8, _⟩ => ⟨S1024, .f32⟩
  | .hbm, ⟨9, _⟩ => ⟨S2x8x20480x128, .bf16⟩
  | .hbm, ⟨10, _⟩ => ⟨S2x8x20480x128, .f32⟩
  | .hbm, ⟨11, _⟩ => ⟨S1x8x20480x128, .f32⟩
  | .hbm, ⟨12, _⟩ => ⟨S8x20480x128, .f32⟩
  | .hbm, ⟨13, _⟩ => ⟨S1x8x20480x128, .f32⟩
  | .hbm, ⟨14, _⟩ => ⟨S8x20480x128, .f32⟩
  | .hbm, ⟨15, _⟩ => ⟨S8x20480x128, .f32⟩
  | .hbm, ⟨16, _⟩ => ⟨S8x20480x128, .f32⟩
  | .hbm, ⟨17, _⟩ => ⟨S_, .f32⟩
  | .hbm, ⟨18, _⟩ => ⟨S8x20480, .f32⟩
  | .hbm, ⟨19, _⟩ => ⟨S8x20480x1, .f32⟩
  | .hbm, ⟨20, _⟩ => ⟨S_, .f32⟩
  | .hbm, ⟨21, _⟩ => ⟨S8x20480x1, .f32⟩
  | .hbm, ⟨22, _⟩ => ⟨S8x20480x1, .f32⟩
  | .hbm, ⟨23, _⟩ => ⟨S_, .f32⟩
  | .hbm, ⟨24, _⟩ => ⟨S8x20480x1, .f32⟩
  | .hbm, ⟨25, _⟩ => ⟨S8x20480x1, .f32⟩
  | .hbm, ⟨26, _⟩ => ⟨S8x20480x1, .f32⟩
  | .hbm, ⟨27, _⟩ => ⟨S8x20480x128, .f32⟩
  | .hbm, ⟨28, _⟩ => ⟨S8x20480x128, .f32⟩
  | .hbm, ⟨29, _⟩ => ⟨S20480x8x128, .f32⟩
  | .hbm, ⟨30, _⟩ => ⟨S20480x1024, .f32⟩
  | .hbm, ⟨31, _⟩ => ⟨S1x1024, .f32⟩
  | .hbm, ⟨32, _⟩ => ⟨S20480x1024, .f32⟩
  | .hbm, ⟨33, _⟩ => ⟨S20480x1024, .f32⟩
  | .hbm, ⟨34, _⟩ => ⟨S20480x1024, .f32⟩
  | .hbm, ⟨35, _⟩ => ⟨S20480x1024, .f32⟩
  | .hbm, ⟨36, _⟩ => ⟨S5x1x1024, .f32⟩
  | .hbm, ⟨37, _⟩ => ⟨S5x1024, .f32⟩
  | .hbm, ⟨38, _⟩ => ⟨S5x4096x1024, .f32⟩
  | .hbm, ⟨39, _⟩ => ⟨S20480x1024, .f32⟩
  | .hbm, ⟨40, _⟩ => ⟨S_, .f32⟩
  | .hbm, ⟨41, _⟩ => ⟨S20480x1024, .f32⟩
  | .hbm, ⟨42, _⟩ => ⟨S20480x1024, .f32⟩
  | .hbm, ⟨43, _⟩ => ⟨S20480x1024, .f32⟩
  | .hbm, ⟨44, _⟩ => ⟨S20480x1024, .f32⟩
  | .hbm, ⟨45, _⟩ => ⟨S20480x1024, .f32⟩
  | .hbm, ⟨46, _⟩ => ⟨S_, .f32⟩
  | .hbm, ⟨47, _⟩ => ⟨S20480, .f32⟩
  | .hbm, ⟨48, _⟩ => ⟨S20480x1, .f32⟩
  | .hbm, ⟨49, _⟩ => ⟨S_, .f32⟩
  | .hbm, ⟨50, _⟩ => ⟨S20480x1, .f32⟩
  | .hbm, ⟨51, _⟩ => ⟨S20480x1, .f32⟩
  | .hbm, ⟨52, _⟩ => ⟨S20480x1024, .f32⟩
  | .hbm, ⟨53, _⟩ => ⟨S20480x1024, .f32⟩
  | .hbm, ⟨54, _⟩ => ⟨S20480x1024, .f32⟩
  | .hbm, ⟨55, _⟩ => ⟨S_, .f32⟩
  | .hbm, ⟨56, _⟩ => ⟨S20480, .f32⟩
  | .hbm, ⟨57, _⟩ => ⟨S20480x1, .f32⟩
  | .hbm, ⟨58, _⟩ => ⟨S_, .f32⟩
  | .hbm, ⟨59, _⟩ => ⟨S20480x1, .f32⟩
  | .hbm, ⟨60, _⟩ => ⟨S20480x1, .f32⟩
  | .hbm, ⟨61, _⟩ => ⟨S20480x1024, .f32⟩
  | .hbm, ⟨62, _⟩ => ⟨S20480x1024, .f32⟩
  | .hbm, ⟨63, _⟩ => ⟨S_, .f32⟩
  | .hbm, ⟨64, _⟩ => ⟨S20480x1, .f32⟩
  | .hbm, ⟨65, _⟩ => ⟨S20480x1, .f32⟩
  | .hbm, ⟨66, _⟩ => ⟨S20480x1, .f32⟩
  | .hbm, ⟨67, _⟩ => ⟨S20480x1024, .f32⟩
  | .hbm, ⟨68, _⟩ => ⟨S20480x1024, .f32⟩
  | .hbm, ⟨69, _⟩ => ⟨S1x1024, .f32⟩
  | .hbm, ⟨70, _⟩ => ⟨S20480x1024, .f32⟩
  | .hbm, ⟨71, _⟩ => ⟨S20480x1024, .f32⟩
  | .hbm, ⟨72, _⟩ => ⟨S1x1024, .f32⟩
  | .hbm, ⟨73, _⟩ => ⟨S20480x1024, .f32⟩
  | .hbm, ⟨74, _⟩ => ⟨S20480x1024, .f32⟩
  | _, _ => ⟨S2x8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== Kernel7.lean ====
abbrev S2x4096x1024 : Shape := ⟨3, ![2, 4096, 1024]⟩
abbrev S2x16384x1024 : Shape := ⟨3, ![2, 16384, 1024]⟩
abbrev S20480x1024 : Shape := ⟨2, ![20480, 1024]⟩
abbrev S1024 : Shape := ⟨1, ![1024]⟩
abbrev S1024x1024 : Shape := ⟨2, ![1024, 1024]⟩
abbrev S4096x1024 : Shape := ⟨2, ![4096, 1024]⟩
abbrev S16384x1024 : Shape := ⟨2, ![16384, 1024]⟩
abbrev S8x6x1024 : Shape := ⟨3, ![8, 6, 1024]⟩
abbrev S1x1024 : Shape := ⟨2, ![1, 1024]⟩
abbrev S2x512x1024 : Shape := ⟨3, ![2, 512, 1024]⟩
abbrev S512x1024 : Shape := ⟨2, ![512, 1024]⟩
abbrev S1x6x1024 : Shape := ⟨3, ![1, 6, 1024]⟩
abbrev S1x512x1024 : Shape := ⟨3, ![1, 512, 1024]⟩
abbrev S512x256 : Shape := ⟨2, ![512, 256]⟩
abbrev S512 : Shape := ⟨1, ![512]⟩
abbrev S512x1 : Shape := ⟨2, ![512, 1]⟩
abbrev S1x1x1024 : Shape := ⟨3, ![1, 1, 1024]⟩

abbrev nBuf : Space → Nat
  | .hbm => 16
  | .vmem => 20
  | .smem => 0
  | _ => 0

abbrev bufTy : (tb : Table) → Fin (tcTables nBuf tb) → BufTy
  | .hbm, ⟨0, _⟩ => ⟨S2x4096x1024, .bf16⟩
  | .hbm, ⟨1, _⟩ => ⟨S2x16384x1024, .bf16⟩
  | .hbm, ⟨2, _⟩ => ⟨S20480x1024, .bf16⟩
  | .hbm, ⟨3, _⟩ => ⟨S1024, .f32⟩
  | .hbm, ⟨4, _⟩ => ⟨S1024x1024, .f32⟩
  | .hbm, ⟨5, _⟩ => ⟨S4096x1024, .f32⟩
  | .hbm, ⟨6, _⟩ => ⟨S16384x1024, .f32⟩
  | .hbm, ⟨7, _⟩ => ⟨S4096x1024, .f32⟩
  | .hbm, ⟨8, _⟩ => ⟨S8x6x1024, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S20480x1024, .f32⟩
  | .local _ .vmem, ⟨0, _⟩ => ⟨S2x512x1024, .bf16⟩
  | .local _ .vmem, ⟨1, _⟩ => ⟨S2x512x1024, .bf16⟩
  | .local _ .vmem, ⟨2, _⟩ => ⟨S2x512x1024, .bf16⟩
  | .local _ .vmem, ⟨3, _⟩ => ⟨S2x512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x6x1024, .f32⟩
  | .local _ .vmem, ⟨15, _⟩ => ⟨S1x6x1024, .f32⟩
  | .local _ .vmem, ⟨16, _⟩ => ⟨S1x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![40], ![false]⟩

def cc0_transform_0 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let v1 : BitVec 32 := Scalar.addi c0_i32 v0
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let v2 : BitVec 32 := Scalar.addi c0_i32_0 v1
  let c0_i32_1 : BitVec 32 := 0#32
  let c0_i32_2 : BitVec 32 := 0#32
  ![v2.toNat, c0_i32_1.toNat]

def cc0_transform_7 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let c0_i32_1 : BitVec 32 := 0#32
  let v2 : BitVec 1 := Scalar.cmpi .eq c8_i32_0 c0_i32_1
  let c1_i32 : BitVec 32 := 1#32
  let v3 : BitVec 32 := Scalar.select v2 c1_i32 c8_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_8 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c8_i32_1 : BitVec 32 := 8#32
  let v2 : BitVec 32 := Scalar.divsi v1 c8_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_1 c0_i32_3
  let v9 : BitVec 32 := Scalar.extui v8
  let c0_i32_4 : BitVec 32 := 0#32
  let v10 : BitVec 1 := Scalar.cmpi .slt c8_i32_1 c0_i32_4
  let v11 : BitVec 32 := Scalar.extui v10
  let v12 : BitVec 32 := Scalar.subi v9 v11
  let v13 : BitVec 1 := Scalar.cmpi .ne v7 v12
  let v14 : BitVec 32 := Scalar.remsi v1 c8_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x6x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference7Ideal.lean ====
abbrev S2x4096x1024 : Shape := ⟨3, ![2, 4096, 1024]⟩
abbrev S2x16384x1024 : Shape := ⟨3, ![2, 16384, 1024]⟩
abbrev S20480x1024 : Shape := ⟨2, ![20480, 1024]⟩
abbrev S1024 : Shape := ⟨1, ![1024]⟩
abbrev S1024x1024 : Shape := ⟨2, ![1024, 1024]⟩
abbrev S4096x1024 : Shape := ⟨2, ![4096, 1024]⟩
abbrev S16384x1024 : Shape := ⟨2, ![16384, 1024]⟩
abbrev S8x6x1024 : Shape := ⟨3, ![8, 6, 1024]⟩
abbrev S2x20480x1024 : Shape := ⟨3, ![2, 20480, 1024]⟩
abbrev S2x20480x4x256 : Shape := ⟨4, ![2, 20480, 4, 256]⟩
abbrev S2x4x20480x256 : Shape := ⟨4, ![2, 4, 20480, 256]⟩
abbrev S1x4x20480x256 : Shape := ⟨4, ![1, 4, 20480, 256]⟩
abbrev S4x20480x256 : Shape := ⟨3, ![4, 20480, 256]⟩
abbrev S_ : Shape := ⟨0, ![]⟩
abbrev S4x20480 : Shape := ⟨2, ![4, 20480]⟩
abbrev S4x20480x1 : Shape := ⟨3, ![4, 20480, 1]⟩
abbrev S20480x4x256 : Shape := ⟨3, ![20480, 4, 256]⟩
abbrev S1x1024 : Shape := ⟨2, ![1, 1024]⟩
abbrev S4x4096x1024 : Shape := ⟨3, ![4, 4096, 1024]⟩
abbrev S1x4096x1024 : Shape := ⟨3, ![1, 4096, 1024]⟩
abbrev S5x1x1024 : Shape := ⟨3, ![5, 1, 1024]⟩
abbrev S5x1024 : Shape := ⟨2, ![5, 1024]⟩
abbrev S5x4096x1024 : Shape := ⟨3, ![5, 4096, 1024]⟩
abbrev S20480 : Shape := ⟨1, ![20480]⟩
abbrev S20480x1 : Shape := ⟨2, ![20480, 1]⟩

abbrev nBuf : Space → Nat
  | .hbm => 95
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2x16384x1024, .bf16⟩
  | .hbm, ⟨2, _⟩ => ⟨S20480x1024, .bf16⟩
  | .hbm, ⟨3, _⟩ => ⟨S1024, .f32⟩
  | .hbm, ⟨4, _⟩ => ⟨S1024x1024, .f32⟩
  | .hbm, ⟨5, _⟩ => ⟨S4096x1024, .f32⟩
  | .hbm, ⟨6, _⟩ => ⟨S16384x1024, .f32⟩
  | .hbm, ⟨7, _⟩ => ⟨S4096x1024, .f32⟩
  | .hbm, ⟨8, _⟩ => ⟨S8x6x1024, .f32⟩
  | .hbm, ⟨9, _⟩ => ⟨S1024, .f32⟩
  | .hbm, ⟨10, _⟩ => ⟨S1024, .f32⟩
  | .hbm, ⟨11, _⟩ => ⟨S2x20480x1024, .bf16⟩
  | .hbm, ⟨12, _⟩ => ⟨S2x20480x1024, .f32⟩
  | .hbm, ⟨13, _⟩ => ⟨S2x20480x4x256, .f32⟩
  | .hbm, ⟨14, _⟩ => ⟨S2x4x20480x256, .f32⟩
  | .hbm, ⟨15, _⟩ => ⟨S1x4x20480x256, .f32⟩
  | .hbm, ⟨16, _⟩ => ⟨S4x20480x256, .f32⟩
  | .hbm, ⟨17, _⟩ => ⟨S1x4x20480x256, .f32⟩
  | .hbm, ⟨18, _⟩ => ⟨S4x20480x256, .f32⟩
  | .hbm, ⟨19, _⟩ => ⟨S4x20480x256, .f32⟩
  | .hbm, ⟨20, _⟩ => ⟨S_, .f32⟩
  | .hbm, ⟨21, _⟩ => ⟨S4x20480, .f32⟩
  | .hbm, ⟨22, _⟩ => ⟨S4x20480x1, .f32⟩
  | .hbm, ⟨23, _⟩ => ⟨S_, .f32⟩
  | .hbm, ⟨24, _⟩ => ⟨S4x20480x1, .f32⟩
  | .hbm, ⟨25, _⟩ => ⟨S4x20480x1, .f32⟩
  | .hbm, ⟨26, _⟩ => ⟨S4x20480x256, .f32⟩
  | .hbm, ⟨27, _⟩ => ⟨S4x20480x256, .f32⟩
  | .hbm, ⟨28, _⟩ => ⟨S4x20480x256, .f32⟩
  | .hbm, ⟨29, _⟩ => ⟨S_, .f32⟩
  | .hbm, ⟨30, _⟩ => ⟨S4x20480, .f32⟩
  | .hbm, ⟨31, _⟩ => ⟨S4x20480x1, .f32⟩
  | .hbm, ⟨32, _⟩ => ⟨S_, .f32⟩
  | .hbm, ⟨33, _⟩ => ⟨S4x20480x1, .f32⟩
  | .hbm, ⟨34, _⟩ => ⟨S4x20480x1, .f32⟩
  | .hbm, ⟨35, _⟩ => ⟨S4x20480x256, .f32⟩
  | .hbm, ⟨36, _⟩ => ⟨S4x20480x256, .f32⟩
  | .hbm, ⟨37, _⟩ => ⟨S_, .f32⟩
  | .hbm, ⟨38, _⟩ => ⟨S4x20480x1, .f32⟩
  | .hbm, ⟨39, _⟩ => ⟨S4x20480x1, .f32⟩
  | .hbm, ⟨40, _⟩ => ⟨S4x20480x1, .f32⟩
  | .hbm, ⟨41, _⟩ => ⟨S4x20480x256, .f32⟩
  | .hbm, ⟨42, _⟩ => ⟨S4x20480x256, .f32⟩
  | .hbm, ⟨43, _⟩ => ⟨S20480x4x256, .f32⟩
  | .hbm, ⟨44, _⟩ => ⟨S20480x1024, .f32⟩
  | .hbm, ⟨45, _⟩ => ⟨S1x1024, .f32⟩
  | .hbm, ⟨46, _⟩ => ⟨S20480x1024, .f32⟩
  | .hbm, ⟨47, _⟩ => ⟨S20480x1024, .f32⟩
  | .hbm, ⟨48, _⟩ => ⟨S20480x1024, .f32⟩
  | .hbm, ⟨49, _⟩ => ⟨S20480x1024, .f32⟩
  | .hbm, ⟨50, _⟩ => ⟨S4x4096x1024, .f32⟩
  | .hbm, ⟨51, _⟩ => ⟨S1x4096x1024, .f32⟩
  | .hbm, ⟨52, _⟩ => ⟨S4x4096x1024, .f32⟩
  | .hbm, ⟨53, _⟩ => ⟨S4x4096x1024, .f32⟩
  | .hbm, ⟨54, _⟩ => ⟨S16384x1024, .f32⟩
  | .hbm, ⟨55, _⟩ => ⟨S20480x1024, .f32⟩
  | .hbm, ⟨56, _⟩ => ⟨S5x1x1024, .f32⟩
  | .hbm, ⟨57, _⟩ => ⟨S5x1024, .f32⟩
  | .hbm, ⟨58, _⟩ => ⟨S5x4096x1024, .f32⟩
  | .hbm, ⟨59, _⟩ => ⟨S20480x1024, .f32⟩
  | .hbm, ⟨60, _⟩ => ⟨S_, .f32⟩
  | .hbm, ⟨61, _⟩ => ⟨S20480x1024, .f32⟩
  | .hbm, ⟨62, _⟩ => ⟨S20480x1024, .f32⟩
  | .hbm, ⟨63, _⟩ => ⟨S20480x1024, .f32⟩
  | .hbm, ⟨64, _⟩ => ⟨S20480x1024, .f32⟩
  | .hbm, ⟨65, _⟩ => ⟨S20480x1024, .f32⟩
  | .hbm, ⟨66, _⟩ => ⟨S_, .f32⟩
  | .hbm, ⟨67, _⟩ => ⟨S20480, .f32⟩
  | .hbm, ⟨68, _⟩ => ⟨S20480x1, .f32⟩
  | .hbm, ⟨69, _⟩ => ⟨S_, .f32⟩
  | .hbm, ⟨70, _⟩ => ⟨S20480x1, .f32⟩
  | .hbm, ⟨71, _⟩ => ⟨S20480x1, .f32⟩
  | .hbm, ⟨72, _⟩ => ⟨S20480x1024, .f32⟩
  | .hbm, ⟨73, _⟩ => ⟨S20480x1024, .f32⟩
  | .hbm, ⟨74, _⟩ => ⟨S20480x1024, .f32⟩
  | .hbm, ⟨75, _⟩ => ⟨S_, .f32⟩
  | .hbm, ⟨76, _⟩ => ⟨S20480, .f32⟩
  | .hbm, ⟨77, _⟩ => ⟨S20480x1, .f32⟩
  | .hbm, ⟨78, _⟩ => ⟨S_, .f32⟩
  | .hbm, ⟨79, _⟩ => ⟨S20480x1, .f32⟩
  | .hbm, ⟨80, _⟩ => ⟨S20480x1, .f32⟩
  | .hbm, ⟨81, _⟩ => ⟨S20480x1024, .f32⟩
  | .hbm, ⟨82, _⟩ => ⟨S20480x1024, .f32⟩
  | .hbm, ⟨83, _⟩ => ⟨S_, .f32⟩
  | .hbm, ⟨84, _⟩ => ⟨S20480x1, .f32⟩
  | .hbm, ⟨85, _⟩ => ⟨S20480x1, .f32⟩
  | .hbm, ⟨86, _⟩ => ⟨S20480x1, .f32⟩
  | .hbm, ⟨87, _⟩ => ⟨S20480x1024, .f32⟩
  | .hbm, ⟨88, _⟩ => ⟨S20480x1024, .f32⟩
  | .hbm, ⟨89, _⟩ => ⟨S1x1024, .f32⟩
  | .hbm, ⟨90, _⟩ => ⟨S20480x1024, .f32⟩
  | .hbm, ⟨91, _⟩ => ⟨S20480x1024, .f32⟩
  | .hbm, ⟨92, _⟩ => ⟨S1x1024, .f32⟩
  | .hbm, ⟨93, _⟩ => ⟨S20480x1024, .f32⟩
  | .hbm, ⟨94, _⟩ => ⟨S20480x1024, .f32⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_4 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_5 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_7 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_9 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]
-- ==== Proof.FfnBlock.lean ====
/- What the expert FFN leaves of one block of 1024 rows, and the memory its body works on. -/
module

public import proofs.«01_k».proof.Proof.Gen.Kernel2.Launch
public import proofs.«01_k».proof.Proof.Gen.Kernel2.Skeleton
public import Idealize.ShloMosaic.Lib.Pipeline.Frame
public import Idealize.ShloMosaic.Lib.Pipeline.FrameBody
public import Idealize.ShloMosaic.Lib.Pipeline.TableIdle
public import Idealize.ShloMosaic.Lib.VecWindow
public import Idealize.ShloMosaic.Lib.Writes
public import Idealize.ShloMosaic.Lib.Exec
public import Idealize.ShloMosaic.Lib.Ring
public import Idealize.ShloMosaic.Lib.Tactic

@[expose] public section

set_option maxRecDepth 16384

noncomputable section

namespace Cert.Kernel2.Ffn

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

/-- The prefetched tables, whole: each block's expert, each block's count of valid rows, the count of used blocks. -/
abbrev tblE : Memref sig .tc .smem S224 .i32 := Memref.whole main_v13
abbrev tblV : Memref sig .tc .smem S224 .i32 := Memref.whole main_arg2
abbrev tblN : Memref sig .tc .smem S1 .i32 := Memref.whole main_arg3
/-- The scratches, whole: the current expert's three weights, as bf16. -/
abbrev scG : Memref sig .tc .vmem S1024x256 .bf16 := Memref.whole cc0_scratch0
abbrev scU : Memref sig .tc .vmem S1024x256 .bf16 := Memref.whole cc0_scratch1
abbrev scD : Memref sig .tc .vmem S256x1024 .bf16 := Memref.whole cc0_scratch2

/-- The words the body reads of the tables at a point: the count of used blocks, -/
abbrev wordN (T : S1.Idx → Elt F .i32) : BitVec 32 :=
  View.readAt (Elt F) tblN.view (Rect.unit (s := S1) ![0] S1.size inb_S1_S1_0).toLoadRect T (Shape.Idx.first (numel1_S1.symm ▸ Nat.one_pos))
/-- the block's expert, -/
abbrev wordE (i : grid0.Coords) (T : S224.Idx → Elt F .i32) : BitVec 32 :=
  View.readAt (Elt F) tblE.view (Rect.unit (s := S224) (k0_off1 i) S1.size (k0_off1_inb i)).toLoadRect T (Shape.Idx.first (numel1_S1.symm ▸ Nat.one_pos))
/-- the expert of the block before it, -/
abbrev wordP (i : grid0.Coords) (T : S224.Idx → Elt F .i32) : BitVec 32 :=
  View.readAt (Elt F) tblE.view (Rect.unit (s := S224) (k0_off2 i) S1.size (k0_off2_inb i)).toLoadRect T (Shape.Idx.first (numel1_S1.symm ▸ Nat.one_pos))
/-- and the block's count of valid rows. -/
abbrev wordV (i : grid0.Coords) (T : S224.Idx → Elt F .i32) : BitVec 32 :=
  View.readAt (Elt F) tblV.view (Rect.unit (s := S224) (k0_off3 i) S1.size (k0_off3_inb i)).toLoadRect T (Shape.Idx.first (numel1_S1.symm ▸ Nat.one_pos))

/-- Whether the body refills the scratches: the block is used, and it is the first or its expert is not the one before. -/
abbrev refill (i : grid0.Coords) (n e p : BitVec 32) : BitVec 1 :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne e p)))) 0#32

/-- The two column chunks of a block of rows, 256 words each. -/
def chunk0 (x : Vec F S2x1024x256 .i32) : Vec F S1x1024x256 .i32 := VecWindow.window x ![0, 0, 0] S1x1024x256.size inb_S2x1024x256_S1x1024x256_0_0_0
def chunk1 (x : Vec F S2x1024x256 .i32) : Vec F S1x1024x256 .i32 := VecWindow.window x ![1, 0, 0] S1x1024x256.size inb_S2x1024x256_S1x1024x256_1_0_0

/-- The two stores of a used block, the later one first. -/
abbrev stores (w1 w0 : IVec S1x1024x256 32) : List (View.Piece (Elt F) S2x1024x256 .i32) :=
  [⟨Rect.unit (s := S2x1024x256) ![1, 0, 0] S1x1024x256.size inb_S2x1024x256_S1x1024x256_1_0_0, w1⟩,
   ⟨Rect.unit (s := S2x1024x256) ![0, 0, 0] S1x1024x256.size inb_S2x1024x256_S1x1024x256_0_0_0, w0⟩]

/-- They are the whole block. -/
theorem stores_cover (w1 w0 : IVec S1x1024x256 32) (y : S2x1024x256.Idx) : ∃ p ∈ stores (F := F) w1 w0, y ∈ p.1.set :=
  View.cover_of_tiledL (stores (F := F) w1 w0) S1x1024x256.size (by sl_kernel_rfl) y

/-- The block the body leaves of a used block: the words of `valid` rows of `x` through the expert with weights
    `g`, `u`, `d`, chunk by chunk. -/
def used (valid : BitVec 32) (x : Vec F S2x1024x256 .i32) (g u : Vec F S1024x256 .bf16) (d : Vec F S256x1024 .bf16) : Vec F S2x1024x256 .i32 :=
  View.canon (stores (F := F) (k0_pay4 (k0_pay8 valid (chunk0 x) (chunk1 x) g u d)) (k0_pay7 valid (chunk0 x) (chunk1 x) g u d))

/-- The block it leaves of an unused one. -/
abbrev unused : Vec F S2x1024x256 .i32 := k0_pay5

end Cert.Kernel2.Ffn

end
-- ==== Proof.RefTrip.lean ====
/- One block of the reference's loop: what it stores, and where. -/
module

public import proofs.«01_k».proof.Proof.Gen.Reference2.Frame
public import Idealize.ShloMosaic.Lib.Pipeline.ValueKit
public import Idealize.ShloMosaic.Lib.WritesUnit

@[expose] public section

set_option maxRecDepth 16384

noncomputable section

namespace Cert.Reference2.Blocks

open Cert.Reference2 Cert.Reference2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]
variable (c : Dev nD)
  (arg0 : Memref sig .tc .smem S224 .i32) (harg0 : arg0.IsWhole)
  (arg1 : Memref sig .tc .smem S224 .i32) (harg1 : arg1.IsWhole)
  (arg2 : Memref sig .tc .smem S1 .i32) (harg2 : arg2.IsWhole)
  (arg3 : Memref sig .tc .vmem S2x229376x256 .i32) (harg3 : arg3.IsWhole)
  (arg4 : Memref sig .tc .vmem S2x64x1024x256 .f32) (harg4 : arg4.IsWhole)
  (arg5 : Memref sig .tc .vmem S2x64x1024x256 .f32) (harg5 : arg5.IsWhole)
  (arg6 : Memref sig .tc .vmem S2x64x256x1024 .f32) (harg6 : arg6.IsWhole)
  (arg7 : Memref sig .tc .vmem S2x229376x256 .i32) (harg7 : arg7.IsWhole)
  (x0 : Vec F S224 .i32) (x1 : Vec F S224 .i32) (x2 : Vec F S1 .i32) (x3 : Vec F S2x229376x256 .i32) (x4 : Vec F S2x64x1024x256 .f32) (x5 : Vec F S2x64x1024x256 .f32) (x6 : Vec F S2x64x256x1024 .f32)

/-- The two pieces block `k` stores: the packed words of its columns 256 to 511, and of its columns 0 to 255. -/
theorem trip_pieces (k : Fin k0_t1_loop.trips) (hw : k0_chk1 ((arg0.view.readAt (Elt F) (Rect.unit (s := S224) (k0_off1 k) S1.size (k0_off1_inb k)).toLoadRect (harg0.unread x0)) (Shape.Idx.first (numel1_S1.symm ▸ Nat.one_pos)))) :
    tripL_k0_t1 Variants.none c none arg0 harg0 arg1 harg1 arg2 harg2 arg3 harg3 arg4 harg4 arg5 harg5 arg6 harg6 arg7 harg7 (harg0.unread x0) (harg1.unread x1) (harg2.unread x2) (harg3.unread x3) (harg4.unread x4) (harg5.unread x5) (harg6.unread x6) k hw
    = [⟨Rect.unit (s := S2x229376x256) (k0_off7 k) S1x1024x256.size (k0_off7_inb k), k0_pay3 (Scf.iv 0#32 1#32 k)
      (k0_pay4 (arg3.view.readAt (Elt F) (Rect.unit (s := S2x229376x256) (k0_off2 k) S1x1024x256.size (k0_off2_inb k)).toLoadRect (harg3.unread x3)) (arg3.view.readAt (Elt F) (Rect.unit (s := S2x229376x256) (k0_off3 k) S1x1024x256.size (k0_off3_inb k)).toLoadRect (harg3.unread x3))
        ((arg1.view.readAt (Elt F) (Rect.unit (s := S224) (k0_off1 k) S1.size (k0_off1_inb k)).toLoadRect (harg1.unread x1)) (Shape.Idx.first (numel1_S1.symm ▸ Nat.one_pos)))
        (arg4.view.readAt (Elt F) (Rect.unit (s := S2x64x1024x256) (k0_off4 ((arg0.view.readAt (Elt F) (Rect.unit (s := S224) (k0_off1 k) S1.size (k0_off1_inb k)).toLoadRect (harg0.unread x0)) (Shape.Idx.first (numel1_S1.symm ▸ Nat.one_pos)))) S1x1x1024x256.size (k0_off4_inb _ hw)).toLoadRect (harg4.unread x4))
        (arg5.view.readAt (Elt F) (Rect.unit (s := S2x64x1024x256) (k0_off4 ((arg0.view.readAt (Elt F) (Rect.unit (s := S224) (k0_off1 k) S1.size (k0_off1_inb k)).toLoadRect (harg0.unread x0)) (Shape.Idx.first (numel1_S1.symm ▸ Nat.one_pos)))) S1x1x1024x256.size (k0_off4_inb _ hw)).toLoadRect (harg5.unread x5)))
      (k0_pay5 (arg6.view.readAt (Elt F) (Rect.unit (s := S2x64x256x1024) (k0_off5 ((arg0.view.readAt (Elt F) (Rect.unit (s := S224) (k0_off1 k) S1.size (k0_off1_inb k)).toLoadRect (harg0.unread x0)) (Shape.Idx.first (numel1_S1.symm ▸ Nat.one_pos)))) S1x1x256x1024.size (k0_off5_inb _ hw)).toLoadRect (harg6.unread x6)))
      ((arg2.view.readAt (Elt F) (Rect.unit (s := S1) ![0] S1.size inb_S1_S1_0).toLoadRect (harg2.unread x2)) (Shape.Idx.first (numel1_S1.symm ▸ Nat.one_pos)))⟩,
       ⟨Rect.unit (s := S2x229376x256) (k0_off6 k) S1x1024x256.size (k0_off6_inb k), k0_pay2 (Scf.iv 0#32 1#32 k)
      (k0_pay4 (arg3.view.readAt (Elt F) (Rect.unit (s := S2x229376x256) (k0_off2 k) S1x1024x256.size (k0_off2_inb k)).toLoadRect (harg3.unread x3)) (arg3.view.readAt (Elt F) (Rect.unit (s := S2x229376x256) (k0_off3 k) S1x1024x256.size (k0_off3_inb k)).toLoadRect (harg3.unread x3))
        ((arg1.view.readAt (Elt F) (Rect.unit (s := S224) (k0_off1 k) S1.size (k0_off1_inb k)).toLoadRect (harg1.unread x1)) (Shape.Idx.first (numel1_S1.symm ▸ Nat.one_pos)))
        (arg4.view.readAt (Elt F) (Rect.unit (s := S2x64x1024x256) (k0_off4 ((arg0.view.readAt (Elt F) (Rect.unit (s := S224) (k0_off1 k) S1.size (k0_off1_inb k)).toLoadRect (harg0.unread x0)) (Shape.Idx.first (numel1_S1.symm ▸ Nat.one_pos)))) S1x1x1024x256.size (k0_off4_inb _ hw)).toLoadRect (harg4.unread x4))
        (arg5.view.readAt (Elt F) (Rect.unit (s := S2x64x1024x256) (k0_off4 ((arg0.view.readAt (Elt F) (Rect.unit (s := S224) (k0_off1 k) S1.size (k0_off1_inb k)).toLoadRect (harg0.unread x0)) (Shape.Idx.first (numel1_S1.symm ▸ Nat.one_pos)))) S1x1x1024x256.size (k0_off4_inb _ hw)).toLoadRect (harg5.unread x5)))
      (k0_pay5 (arg6.view.readAt (Elt F) (Rect.unit (s := S2x64x256x1024) (k0_off5 ((arg0.view.readAt (Elt F) (Rect.unit (s := S224) (k0_off1 k) S1.size (k0_off1_inb k)).toLoadRect (harg0.unread x0)) (Shape.Idx.first (numel1_S1.symm ▸ Nat.one_pos)))) S1x1x256x1024.size (k0_off5_inb _ hw)).toLoadRect (harg6.unread x6)))
      ((arg2.view.readAt (Elt F) (Rect.unit (s := S1) ![0] S1.size inb_S1_S1_0).toLoadRect (harg2.unread x2)) (Shape.Idx.first (numel1_S1.symm ▸ Nat.one_pos)))⟩] := by
  unfold tripL_k0_t1 trip_k0_t1
  rfl

end Cert.Reference2.Blocks

end
-- ==== Proof.RefReads.lean ====
/- What one block of the reference's loop reads: its rows, its expert's weights, its words. -/
module

public import proofs.«01_k».proof.Proof.RefTrip
public import Idealize.ShloMosaic.Lib.WholeRead
public import Idealize.ShloMosaic.Lib.Pipeline.ValueKit

@[expose] public section

set_option maxRecDepth 16384

noncomputable section

namespace Cert.Reference2.Blocks

open Cert.Reference2 Cert.Reference2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

/-- The loop runs over the 224 blocks. -/
theorem trips_eq : k0_t1_loop.trips = 224 := by decide +kernel

/-- Chunk `p` of block `k`'s rows. -/
def rows (x : Vec F S2x229376x256 .i32) (k : Fin 224) (p : Fin 2) : Vec F S1x1024x256 .i32 := fun y => x (ix3 p ⟨1024 * k.val + (y 1).val, by
  have h1 := k.isLt; have h2 : (y 1).val < 1024 := (y 1).isLt; show _ < 229376; omega⟩ (y 2))

/-- Expert `e`'s gate or up projection, of the first layer. -/
def wide (x : Vec F S2x64x1024x256 .f32) (e : Fin 64) : Vec F S1x1x1024x256 .f32 := fun y => x (ix4 (0 : Fin 2) e (y 2) (y 3))

/-- Expert `e`'s down projection. -/
def down (x : Vec F S2x64x256x1024 .f32) (e : Fin 64) : Vec F S1x1x256x1024 .f32 := fun y => x (ix4 (0 : Fin 2) e (y 2) (y 3))

theorem rows_read {sp : Space} (M : Memref sig .tc sp S2x229376x256 .i32) (hM : M.IsWhole) (x : Vec F S2x229376x256 .i32) (k : Fin 224) (p : Fin 2)
    (off : Fin 3 → ℕ) (ho : off = ![p.val, 1024 * k.val, 0]) (inb) :
    (M.view.readAt (Elt F) (Rect.unit (s := S2x229376x256) off S1x1024x256.size inb).toLoadRect (hM.unread x)) = rows x k p := by
  subst ho
  refine funext fun y => (Memref.IsWhole.readAt_unread hM x _ y).trans (congrArg x (funext fun a => Fin.ext ?_))
  match a with
  | ⟨0, _⟩ => show p.val + 1 * (y 0).val = p.val; have : (y 0).val < 1 := (y 0).isLt; omega
  | ⟨1, _⟩ => show 1024 * k.val + 1 * (y 1).val = 1024 * k.val + (y 1).val; omega
  | ⟨2, _⟩ => show 0 + 1 * (y 2).val = (y 2).val; omega

theorem wide_read {sp : Space} (M : Memref sig .tc sp S2x64x1024x256 .f32) (hM : M.IsWhole) (x : Vec F S2x64x1024x256 .f32) (e : Fin 64)
    (w : BitVec 32) (hw : w.toNat = e.val) (inb) :
    (M.view.readAt (Elt F) (Rect.unit (s := S2x64x1024x256) (k0_off4 w) S1x1x1024x256.size inb).toLoadRect (hM.unread x)) = wide x e := by
  refine funext fun y => (Memref.IsWhole.readAt_unread hM x _ y).trans (congrArg x (funext fun a => Fin.ext ?_))
  match a with
  | ⟨0, _⟩ => show 0 + 1 * (y 0).val = 0; have : (y 0).val < 1 := (y 0).isLt; omega
  | ⟨1, _⟩ => show w.toNat + 1 * (y 1).val = e.val; have : (y 1).val < 1 := (y 1).isLt; omega
  | ⟨2, _⟩ => show 0 + 1 * (y 2).val = (y 2).val; omega
  | ⟨3, _⟩ => show 0 + 1 * (y 3).val = (y 3).val; omega

theorem down_read {sp : Space} (M : Memref sig .tc sp S2x64x256x1024 .f32) (hM : M.IsWhole) (x : Vec F S2x64x256x1024 .f32) (e : Fin 64)
    (w : BitVec 32) (hw : w.toNat = e.val) (inb) :
    (M.view.readAt (Elt F) (Rect.unit (s := S2x64x256x1024) (k0_off5 w) S1x1x256x1024.size inb).toLoadRect (hM.unread x)) = down x e := by
  refine funext fun y => (Memref.IsWhole.readAt_unread hM x _ y).trans (congrArg x (funext fun a => Fin.ext ?_))
  match a with
  | ⟨0, _⟩ => show 0 + 1 * (y 0).val = 0; have : (y 0).val < 1 := (y 0).isLt; omega
  | ⟨1, _⟩ => show w.toNat + 1 * (y 1).val = e.val; have : (y 1).val < 1 := (y 1).isLt; omega
  | ⟨2, _⟩ => show 0 + 1 * (y 2).val = (y 2).val; omega
  | ⟨3, _⟩ => show 0 + 1 * (y 3).val = (y 3).val; omega

theorem word_read {sp : Space} (M : Memref sig .tc sp S224 .i32) (hM : M.IsWhole) (x : Vec F S224 .i32) (k : Fin 224)
    (off : Fin 1 → ℕ) (ho : off = ![k.val]) (inb) (y) :
    (M.view.readAt (Elt F) (Rect.unit (s := S224) off S1.size inb).toLoadRect (hM.unread x)) y = x (ix1 k) := by
  subst ho
  refine (Memref.IsWhole.readAt_unread hM x _ y).trans (congrArg x (funext fun a => Fin.ext ?_))
  match a with
  | ⟨0, _⟩ => show k.val + 1 * (y 0).val = k.val; have : (y 0).val < 1 := (y 0).isLt; omega

theorem count_read {sp : Space} (M : Memref sig .tc sp S1 .i32) (hM : M.IsWhole) (x : Vec F S1 .i32) (inb) (y) :
    (M.view.readAt (Elt F) (Rect.unit (s := S1) ![0] S1.size inb).toLoadRect (hM.unread x)) y = x (ix1 (0 : Fin 1)) := by
  refine (Memref.IsWhole.readAt_unread hM x _ y).trans (congrArg x (funext fun a => Fin.ext ?_))
  match a with
  | ⟨0, _⟩ => show 0 + 1 * (y 0).val = 0; have : (y 0).val < 1 := (y 0).isLt; omega

/-- A block's hidden rows, from its two chunks, its live row count and its expert's gate and up projections, -/
def hidden (x1 : Vec F S224 .i32) (x3 : Vec F S2x229376x256 .i32) (x4 x5 : Vec F S2x64x1024x256 .f32) (k : Fin 224) (e : Fin 64) : FVec F S1024x256 .bf16 :=
  k0_pay4 (rows x3 k 0) (rows x3 k 1) (x1 (ix1 k)) (wide x4 e) (wide x5 e)

/-- and its stored columns 0 to 255, -/
def left (x1 : Vec F S224 .i32) (x2 : Vec F S1 .i32) (x3 : Vec F S2x229376x256 .i32) (x4 x5 : Vec F S2x64x1024x256 .f32) (x6 : Vec F S2x64x256x1024 .f32) (k : Fin 224) (e : Fin 64) : Vec F S1x1024x256 .i32 :=
  k0_pay2 (BitVec.ofNat 32 k.val) (hidden x1 x3 x4 x5 k e) (k0_pay5 (down x6 e)) (x2 (ix1 (0 : Fin 1)))

/-- and 256 to 511. -/
def right (x1 : Vec F S224 .i32) (x2 : Vec F S1 .i32) (x3 : Vec F S2x229376x256 .i32) (x4 x5 : Vec F S2x64x1024x256 .f32) (x6 : Vec F S2x64x256x1024 .f32) (k : Fin 224) (e : Fin 64) : Vec F S1x1024x256 .i32 :=
  k0_pay3 (BitVec.ofNat 32 k.val) (hidden x1 x3 x4 x5 k e) (k0_pay5 (down x6 e)) (x2 (ix1 (0 : Fin 1)))

theorem iv_eq : ∀ k : Fin k0_t1_loop.trips, Scf.iv 0#32 1#32 k.val = BitVec.ofNat 32 k.val := by decide +kernel

variable (c : Dev nD)
  (arg0 : Memref sig .tc .smem S224 .i32) (harg0 : arg0.IsWhole)
  (arg1 : Memref sig .tc .smem S224 .i32) (harg1 : arg1.IsWhole)
  (arg2 : Memref sig .tc .smem S1 .i32) (harg2 : arg2.IsWhole)
  (arg3 : Memref sig .tc .vmem S2x229376x256 .i32) (harg3 : arg3.IsWhole)
  (arg4 : Memref sig .tc .vmem S2x64x1024x256 .f32) (harg4 : arg4.IsWhole)
  (arg5 : Memref sig .tc .vmem S2x64x1024x256 .f32) (harg5 : arg5.IsWhole)
  (arg6 : Memref sig .tc .vmem S2x64x256x1024 .f32) (harg6 : arg6.IsWhole)
  (arg7 : Memref sig .tc .vmem S2x229376x256 .i32) (harg7 : arg7.IsWhole)
  (x0 : Vec F S224 .i32) (x1 : Vec F S224 .i32) (x2 : Vec F S1 .i32) (x3 : Vec F S2x229376x256 .i32) (x4 : Vec F S2x64x1024x256 .f32) (x5 : Vec F S2x64x1024x256 .f32) (x6 : Vec F S2x64x256x1024 .f32)

/-- The two pieces block `k` stores, from the arrays. -/
theorem trip_stores (k : Fin k0_t1_loop.trips) (hk : k.val < 224) (e : Fin 64) (he : (x0 (ix1 ⟨k.val, hk⟩) : BitVec 32).toNat = e.val) (hw : k0_chk1 ((arg0.view.readAt (Elt F) (Rect.unit (s := S224) (k0_off1 k) S1.size (k0_off1_inb k)).toLoadRect (harg0.unread x0)) (Shape.Idx.first (numel1_S1.symm ▸ Nat.one_pos)))) :
    tripL_k0_t1 Variants.none c none arg0 harg0 arg1 harg1 arg2 harg2 arg3 harg3 arg4 harg4 arg5 harg5 arg6 harg6 arg7 harg7 (harg0.unread x0) (harg1.unread x1) (harg2.unread x2) (harg3.unread x3) (harg4.unread x4) (harg5.unread x5) (harg6.unread x6) k hw
    = [⟨Rect.unit (s := S2x229376x256) (k0_off7 k) S1x1024x256.size (k0_off7_inb k), right x1 x2 x3 x4 x5 x6 ⟨k.val, hk⟩ e⟩,
       ⟨Rect.unit (s := S2x229376x256) (k0_off6 k) S1x1024x256.size (k0_off6_inb k), left x1 x2 x3 x4 x5 x6 ⟨k.val, hk⟩ e⟩] := by
  rw [trip_pieces]
  have h0 : (((arg0.view.readAt (Elt F) (Rect.unit (s := S224) (k0_off1 k) S1.size (k0_off1_inb k)).toLoadRect (harg0.unread x0)) (Shape.Idx.first (numel1_S1.symm ▸ Nat.one_pos))) : BitVec 32).toNat = e.val := by rw [word_read arg0 harg0 x0 ⟨k.val, hk⟩ _ (k0_off1_eq k)]; exact he
  rw [rows_read arg3 harg3 x3 ⟨k.val, hk⟩ 0 _ (k0_off2_eq k), rows_read arg3 harg3 x3 ⟨k.val, hk⟩ 1 _ (k0_off3_eq k), word_read arg1 harg1 x1 ⟨k.val, hk⟩ _ (k0_off1_eq k),
    count_read, wide_read arg4 harg4 x4 e _ h0, wide_read arg5 harg5 x5 e _ h0, down_read arg6 harg6 x6 e _ h0, iv_eq k]
  rfl

end Cert.Reference2.Blocks

end
-- ==== Proof.FfnEqual.lean ====
/- One block of the expert FFN and one block of the reference's loop are the same words. -/
module

public import proofs.«01_k».proof.Proof.FfnBlock
public import proofs.«01_k».proof.Proof.RefReads
public import Idealize.ShloMosaic.Lib.Pipeline.Value
public import Idealize.ShloMosaic.Lib.Pipeline.ValueKit

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

theorem subi_zero (v : BitVec 32) : Scalar.subi v 0#32 = v := by
  show v - 0#32 = v
  exact BitVec.sub_zero v

/-- The kernel rounds the weights when it keeps them, the reference when it multiplies by them. -/
theorem gate_eq (v : Vec F Cert.Kernel2.S1x1x1024x256 .f32) : Cert.Kernel2.Gen.k0_pay1 v
    = truncf .bf16 (shapeCast Cert.Kernel2.S1024x256 v Cert.Kernel2.Facts₀.shapeCasts_S1x1x1024x256_S1024x256) Cert.Kernel2.Facts₀.bitsLt_bf16_f32 := shapeCast_self _ _

theorem up_eq (v : Vec F Cert.Kernel2.S1x1x1024x256 .f32) : Cert.Kernel2.Gen.k0_pay2 v
    = truncf .bf16 (shapeCast Cert.Kernel2.S1024x256 v Cert.Kernel2.Facts₀.shapeCasts_S1x1x1024x256_S1024x256) Cert.Kernel2.Facts₀.bitsLt_bf16_f32 := shapeCast_self _ _

theorem down_eq (v : Vec F Cert.Kernel2.S1x1x256x1024 .f32) : Cert.Kernel2.Gen.k0_pay3 v = Cert.Reference2.Gen.k0_pay5 v := shapeCast_self _ _

/-- A used block: the reference's packed words are the kernel's. -/
theorem words_used (b n v : BitVec 32) (hs : b.slt n = true) (x0 x1 : Vec F Cert.Kernel2.S1x1024x256 .i32) (g u : Vec F Cert.Kernel2.S1x1x1024x256 .f32) (d : Vec F Cert.Kernel2.S1x1x256x1024 .f32) :
    Cert.Reference2.Gen.k0_pay1 b (Cert.Reference2.Gen.k0_pay4 x0 x1 v g u) (Cert.Reference2.Gen.k0_pay5 d) n
      = Cert.Kernel2.Gen.k0_pay6 v x0 x1 (Cert.Kernel2.Gen.k0_pay1 g) (Cert.Kernel2.Gen.k0_pay2 u) (Cert.Kernel2.Gen.k0_pay3 d) := by
  rw [gate_eq, up_eq, down_eq]
  unfold Cert.Reference2.Gen.k0_pay1 Cert.Kernel2.Gen.k0_pay6
  rw [subi_zero, show Scalar.cmpi .slt b n = 1#1 from by show BitVec.ofBool (b.slt n) = 1#1; rw [hs]; rfl]
  rfl

/-- An unused block: its words are zeros. -/
theorem words_unused (b n : BitVec 32) (hs : ¬ b.slt n = true) (h : FVec F Cert.Reference2.S1024x256 .bf16) (d : FVec F Cert.Reference2.S256x1024 .bf16) :
    Cert.Reference2.Gen.k0_pay1 b h d n = fun _ => 0#32 := by
  unfold Cert.Reference2.Gen.k0_pay1
  rw [show Scalar.cmpi .slt b n = 0#1 from by show BitVec.ofBool (b.slt n) = 0#1; rw [Bool.eq_false_iff.mpr hs]; rfl]
  rfl

/-- The kernel's used block, entry by entry: the stores' windows. -/
theorem used_apply (v : BitVec 32) (x : Vec F Cert.Kernel2.S2x1024x256 .i32) (g u d) (y : Cert.Kernel2.S2x1024x256.Idx) :
    Cert.Kernel2.Ffn.used v x g u d y
      = (if (y 0).val = 0 then Cert.Kernel2.Gen.k0_pay7 v (Cert.Kernel2.Ffn.chunk0 x) (Cert.Kernel2.Ffn.chunk1 x) g u d
          else Cert.Kernel2.Gen.k0_pay4 (Cert.Kernel2.Gen.k0_pay8 v (Cert.Kernel2.Ffn.chunk0 x) (Cert.Kernel2.Ffn.chunk1 x) g u d)) (ix3 (0 : Fin 1) (y 1) (y 2)) := by
  have b0 : (y 0).val < 2 := (y 0).isLt
  unfold Cert.Kernel2.Ffn.used
  by_cases hp : (y 0).val = 0
  · rw [if_pos hp, View.canon_cons_of_not_mem _ _ (by
      rw [Rect.mem_set_unit]; intro hm; have h0 := (hm 0).1; change 1 ≤ (y 0).val at h0; omega)]
    have e : y = (Rect.unit (s := Cert.Kernel2.S2x1024x256) ![0, 0, 0] Cert.Kernel2.S1x1024x256.size Cert.Kernel2.Facts₀.inb_S2x1024x256_S1x1024x256_0_0_0).emb (ix3 (0 : Fin 1) (y 1) (y 2)) := by
      refine funext fun a => Fin.ext ?_
      match a with
      | ⟨0, _⟩ => show (y 0).val = 0 + 1 * 0; omega
      | ⟨1, _⟩ => show (y 1).val = 0 + 1 * (y 1).val; omega
      | ⟨2, _⟩ => show (y 2).val = 0 + 1 * (y 2).val; omega
    conv_lhs => rw [e]
    exact View.canon_cons_emb _ _ _ _
  · rw [if_neg hp]
    have e : y = (Rect.unit (s := Cert.Kernel2.S2x1024x256) ![1, 0, 0] Cert.Kernel2.S1x1024x256.size Cert.Kernel2.Facts₀.inb_S2x1024x256_S1x1024x256_1_0_0).emb (ix3 (0 : Fin 1) (y 1) (y 2)) := by
      refine funext fun a => Fin.ext ?_
      match a with
      | ⟨0, _⟩ => show (y 0).val = 1 + 1 * 0; omega
      | ⟨1, _⟩ => show (y 1).val = 0 + 1 * (y 1).val; omega
      | ⟨2, _⟩ => show (y 2).val = 0 + 1 * (y 2).val; omega
    conv_lhs => rw [e]
    exact View.canon_cons_emb _ _ _ _

end Cert.Experts

end
-- ==== Proof.FfnWords.lean ====
/- The tables the expert FFN runs at: which block's expert each block takes, and that it exists. -/
module

public import proofs.«01_k».proof.Proof.FfnBlock
public import proofs.«01_k».proof.Defs
public import proofs.«01_k».proof.Proof.Gen.Kernel2
public import proofs.«01_k».proof.Proof.Gen.Kernel2
public import Idealize.ShloMosaic.Lib.ReduceAll
public import Idealize.ShloMosaic.Lib.Routing.OpsSet
public import Idealize.ShloMosaic.Lib.Pipeline.ValueKit
public import Idealize.ShloMosaic.Lib.Pointwise

@[expose] public section

set_option maxRecDepth 16384

noncomputable section

namespace Cert.Kernel2.Ffn

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The block whose expert block `b` takes when `n` blocks are used: itself, or the last used one (the first, if none is). -/
def blockOf (b n : BitVec 32) : BitVec 32 := IntOp.maxsi (IntOp.minsi b (IntOp.subi n 1#32)) 0#32

theorem blockOf_le (b n : BitVec 32) (hb : b.toNat < 224) : (blockOf b n).toNat ≤ b.toNat := by
  unfold blockOf IntOp.maxsi IntOp.minsi IntOp.subi
  simp only [BitVec.slt_eq_decide, decide_eq_true_eq]
  have hi : b.toInt = b.toNat := BitVec.toInt_eq_toNat_of_lt (by omega)
  have h0 : (0#32 : BitVec 32).toInt = 0 := rfl
  by_cases h : b.toInt < (n - 1#32).toInt
  · rw [if_pos h]
    split
    · exact Nat.le_refl _
    · exact Nat.zero_le _
  · rw [if_neg h]
    split
    · rename_i h1
      have h2 := BitVec.toInt_eq_toNat_cond (n - 1#32)
      have h3 := (n - 1#32).isLt
      split at h2 <;> omega
    · exact Nat.zero_le _

/-- A used block takes its own expert. -/
theorem blockOf_used (b n : BitVec 32) (hb : b.toNat < 224) (h : b.toInt < n.toInt) : blockOf b n = b := by
  have hi : b.toInt = b.toNat := BitVec.toInt_eq_toNat_of_lt (by omega)
  have h0 : (0#32 : BitVec 32).toInt = 0 := rfl
  have hn := BitVec.toInt_eq_toNat_cond n
  have hn' := n.isLt
  have hs : (n - 1#32).toNat = n.toNat - 1 := by
    rw [BitVec.toNat_sub]; simp only [BitVec.toNat_ofNat]
    split at hn <;> omega
  have h2 := BitVec.toInt_eq_toNat_cond (n - 1#32)
  unfold blockOf IntOp.maxsi IntOp.minsi IntOp.subi
  simp only [BitVec.slt_eq_decide, decide_eq_true_eq]
  by_cases hlt : b.toInt < (n - 1#32).toInt
  · rw [if_pos hlt]
    split
    · rfl
    · exact BitVec.eq_of_toNat_eq (by simp only [BitVec.toNat_ofNat]; omega)
  · have e : n - 1#32 = b := BitVec.eq_of_toNat_eq (by split at hn <;> split at h2 <;> omega)
    rw [if_neg hlt, e]
    split
    · rfl
    · exact BitVec.eq_of_toNat_eq (by simp only [BitVec.toNat_ofNat]; omega)

variable (m : (ℓ : Loc nD τ sig) → Buf (Elt Bits) ℓ)

/-- The precondition: every block's expert is one of the 64. -/
theorem expert_lt [Cert.Pre_experts_exist.Facts] (h : Cert.Pre_Kernel2 m) (c : Dev nD) (i : S224.Idx) :
    (m ((c.tc : Thread nD τ).loc main_arg1) i : BitVec 32).toNat < 64 := by
  have hc := congrFun (h c) (fun a => a.elim0)
  have := Host.reduce_andi_all _ _ _ _ _ hc i
  revert this
  generalize (m ((c.tc : Thread nD τ).loc main_arg1)) = T
  intro this
  change IntOp.andi (IntOp.cmpi .sge (T i) 0#32) (IntOp.cmpi .slt (T i) 64#32) = 1#1 at this
  unfold IntOp.andi IntOp.cmpi at this
  simp only [BitVec.slt_eq_decide, BitVec.sle_eq_decide] at this
  have h0 : (0#32 : BitVec 32).toInt = 0 := rfl
  have h64 : (64#32 : BitVec 32).toInt = 64 := rfl
  rw [h0, h64] at this
  have hT := BitVec.toInt_eq_toNat_cond (T i)
  have hT' := (T i).isLt
  by_cases h1 : (0 : Int) ≤ (T i).toInt
  · by_cases h2 : (T i).toInt < 64
    · split at hT <;> omega
    · rw [decide_eq_false h2] at this
      generalize decide ((0 : Int) ≤ (T i).toInt) = q at this
      cases q <;> exact absurd this (by decide)
  · rw [decide_eq_false h1] at this
    generalize decide ((T i).toInt < 64) = q at this
    cases q <;> exact absurd this (by decide)

/-- The memory the region finds, after the operations before it. -/
abbrev V (c : Dev nD) (b : Ref sig .tc) : Buf (Elt Bits) ((c.tc : Thread nD τ).loc b) :=
  StableHlo.after hostOps0 (fun b => m (c, b)) b

/-- Block `p` runs with the expert of the block it takes. -/
theorem V_expert (c : Dev nD) (p : Fin 224) :
    V m c main_v13 (ix1 p) = m ((c.tc : Thread nD τ).loc main_arg1) (ix1 ⟨(blockOf (BitVec.ofNat 32 p.val) (m ((c.tc : Thread nD τ).loc main_arg3) (ix1 0))).toNat,
      Nat.lt_of_le_of_lt (blockOf_le _ _ (by rw [BitVec.toNat_ofNat]; omega)) (by rw [BitVec.toNat_ofNat]; omega)⟩) := by
  entry_read
  refine Routing.gather_take1 _ rfl rfl rfl rfl _ _ p ⟨_, _⟩ ?_ (by norm_num)
  have hlt := blockOf_le (BitVec.ofNat 32 p.val) (m ((c.tc : Thread nD τ).loc main_arg3) (ix1 0)) (by rw [BitVec.toNat_ofNat]; omega)
  rw [BitVec.toNat_ofNat] at hlt
  have key : ∀ b : BitVec 32, b.toNat < 224 → Scalar.select (IntOp.cmpi .slt b 0#32) (IntOp.addi b 224#32) b = BitVec.ofNat 32 b.toNat := fun b hb => by
    unfold Scalar.select
    rw [if_neg, BitVec.ofNat_toNat, BitVec.setWidth_eq]
    unfold IntOp.cmpi
    simp only [BitVec.slt_eq_decide, BitVec.toInt_eq_toNat_of_lt (show 2 * b.toNat < 2 ^ 32 by omega)]
    rw [decide_eq_false (by show ¬(_ < (0 : Int)); omega)]
    decide
  pointwise
  have h224 : (blockOf (BitVec.ofNat 32 p.val) (m ((c.tc : Thread nD τ).loc main_arg3) (ix1 0))).toNat < 224 := by omega
  exact key _ h224

end Cert.Kernel2.Ffn

end
-- ==== Proof.FfnTables.lean ====
/- The tables at the region and the blocks the index maps name: each inside its array when every expert exists. -/
module

public import proofs.«01_k».proof.Proof.FfnWords

@[expose] public section

set_option maxRecDepth 16384

noncomputable section

namespace Cert.Kernel2.Ffn

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Bits) ℓ)

/-! The operations before the region leave the arguments. -/

theorem V_main_arg0 (c : Dev nD) : V m c main_arg0 = m ((c.tc : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))

theorem V_main_arg1 (c : Dev nD) : V m c main_arg1 = m ((c.tc : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))

theorem V_main_arg2 (c : Dev nD) : V m c main_arg2 = m ((c.tc : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))

theorem V_main_arg3 (c : Dev nD) : V m c main_arg3 = m ((c.tc : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))

theorem V_main_arg4 (c : Dev nD) : V m c main_arg4 = m ((c.tc : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))

theorem V_main_arg5 (c : Dev nD) : V m c main_arg5 = m ((c.tc : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))

theorem V_main_arg6 (c : Dev nD) : V m c main_arg6 = m ((c.tc : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))

/-- The tables' contents at the region. -/
def tables : pre0.Contents (Elt Bits) := fun k => V m 0 (pre0.ref k)

/-- The expert block `b` runs with, -/
abbrev expert (b : Fin 224) : BitVec 32 := V m 0 main_v13 (ix1 b)
/-- and the count of used blocks. -/
abbrev count : BitVec 32 := m (((0 : Dev nD).tc : Thread nD τ).loc main_arg3) (ix1 0)

/-- The block of a grid point. -/
abbrev block (i : grid0.Coords) : Fin 224 := i 0

theorem expert_word_lt [Cert.Pre_experts_exist.Facts] (h : Cert.Pre_Kernel2 m) (b : Fin 224) : (expert m b).toNat < 64 := by
  unfold expert; rw [V_expert]; exact expert_lt m h 0 _

/-- The block's number as the body and the index maps have it. -/
theorem off1_val (i : grid0.Coords) : k0_off1 i 0 = (i 0).val := by
  have : (i 0).val < 224 := (i 0).isLt
  show (BitVec.ofNat 32 (i 0).val).toNat = _
  rw [BitVec.toNat_ofNat]; exact Nat.mod_eq_of_lt (by omega)

theorem emb_off1 (i : grid0.Coords) : (Rect.unit (s := S224) (k0_off1 i) S1.size (k0_off1_inb i)).emb (Shape.Idx.first (numel1_S1.symm ▸ Nat.one_pos)) = ix1 (block i) := by
  funext a
  match a with
  | ⟨0, _⟩ => exact Fin.ext (by
      show k0_off1 i 0 + 1 * 0 = (i 0).val
      rw [off1_val]; omega)

theorem tables_expert (i : grid0.Coords) : (tables m).at 0 (Rect.unit (s := S224) (k0_off1 i) S1.size (k0_off1_inb i)) numel1_S1 = expert m (block i) := by
  exact congrArg (V m 0 main_v13) (emb_off1 i)

theorem tables_count : (tables m).at 2 (Rect.unit (s := S1) ![0] S1.size inb_S1_S1_0) numel1_S1 = count m := by
  refine (congrFun (V_main_arg3 m 0) _).trans (congrArg (m (((0 : Dev nD).tc : Thread nD τ).loc main_arg3)) ?_)
  funext a
  match a with
  | ⟨0, _⟩ => exact Fin.ext rfl

/-- The block of rows block `b` is fed: its own if it is used. -/
def rowsOf (b : Fin 224) : BitVec 32 := blockOf (BitVec.ofNat 32 b.val) (count m)

theorem rowsOf_lt (b : Fin 224) : (rowsOf m b).toNat < 224 := by
  have hb : (BitVec.ofNat 32 b.val).toNat = b.val := by rw [BitVec.toNat_ofNat]; exact Nat.mod_eq_of_lt (by omega)
  have := blockOf_le (BitVec.ofNat 32 b.val) (count m) (by omega)
  unfold rowsOf; omega

variable [Cert.Pre_experts_exist.Facts]

theorem inb_0 (i : grid0.Coords) (a : Fin 3) :
    (cc0_transform_0 inb_S1_S1_0 numel1_S1 (tables m) i a + 1) * S2x1024x256.size a ≤ S2x229376x256.size a := by
  have e : cc0_transform_0 inb_S1_S1_0 numel1_S1 (tables m) i = ![0, (rowsOf m (block i)).toNat, 0] := by
    unfold rowsOf; rw [← tables_count m]; rfl
  have hl := rowsOf_lt m (block i)
  rw [e]
  match a with
  | ⟨0, _⟩ => exact (by decide : (0 + 1) * S2x1024x256.size 0 ≤ S2x229376x256.size 0)
  | ⟨1, _⟩ => show ((rowsOf m (block i)).toNat + 1) * 1024 ≤ 229376; omega
  | ⟨2, _⟩ => exact (by decide : (0 + 1) * S2x1024x256.size 2 ≤ S2x229376x256.size 2)

theorem inb_1 (h : Cert.Pre_Kernel2 m) (i : grid0.Coords) (a : Fin 4) :
    (cc0_transform_1 k0_off1_inb numel1_S1 (tables m) i a + 1) * S1x1x1024x256.size a ≤ S2x64x1024x256.size a := by
  have e : cc0_transform_1 k0_off1_inb numel1_S1 (tables m) i = ![0, (expert m (block i)).toNat, 0, 0] := by
    rw [← tables_expert m i]; rfl
  have hl := expert_word_lt m h (block i)
  rw [e]
  match a with
  | ⟨0, _⟩ => exact (by decide : (0 + 1) * S1x1x1024x256.size 0 ≤ S2x64x1024x256.size 0)
  | ⟨1, _⟩ => show ((expert m (block i)).toNat + 1) * 1 ≤ 64; omega
  | ⟨2, _⟩ => exact (by decide : (0 + 1) * S1x1x1024x256.size 2 ≤ S2x64x1024x256.size 2)
  | ⟨3, _⟩ => exact (by decide : (0 + 1) * S1x1x1024x256.size 3 ≤ S2x64x1024x256.size 3)

theorem inb_2 (h : Cert.Pre_Kernel2 m) (i : grid0.Coords) (a : Fin 4) :
    (cc0_transform_2 k0_off1_inb numel1_S1 (tables m) i a + 1) * S1x1x1024x256.size a ≤ S2x64x1024x256.size a := by
  have e : cc0_transform_2 k0_off1_inb numel1_S1 (tables m) i = ![0, (expert m (block i)).toNat, 0, 0] := by
    rw [← tables_expert m i]; rfl
  have hl := expert_word_lt m h (block i)
  rw [e]
  match a with
  | ⟨0, _⟩ => exact (by decide : (0 + 1) * S1x1x1024x256.size 0 ≤ S2x64x1024x256.size 0)
  | ⟨1, _⟩ => show ((expert m (block i)).toNat + 1) * 1 ≤ 64; omega
  | ⟨2, _⟩ => exact (by decide : (0 + 1) * S1x1x1024x256.size 2 ≤ S2x64x1024x256.size 2)
  | ⟨3, _⟩ => exact (by decide : (0 + 1) * S1x1x1024x256.size 3 ≤ S2x64x1024x256.size 3)

theorem inb_3 (h : Cert.Pre_Kernel2 m) (i : grid0.Coords) (a : Fin 4) :
    (cc0_transform_3 k0_off1_inb numel1_S1 (tables m) i a + 1) * S1x1x256x1024.size a ≤ S2x64x256x1024.size a := by
  have e : cc0_transform_3 k0_off1_inb numel1_S1 (tables m) i = ![0, (expert m (block i)).toNat, 0, 0] := by
    rw [← tables_expert m i]; rfl
  have hl := expert_word_lt m h (block i)
  rw [e]
  match a with
  | ⟨0, _⟩ => exact (by decide : (0 + 1) * S1x1x256x1024.size 0 ≤ S2x64x256x1024.size 0)
  | ⟨1, _⟩ => show ((expert m (block i)).toNat + 1) * 1 ≤ 64; omega
  | ⟨2, _⟩ => exact (by decide : (0 + 1) * S1x1x256x1024.size 2 ≤ S2x64x256x1024.size 2)
  | ⟨3, _⟩ => exact (by decide : (0 + 1) * S1x1x256x1024.size 3 ≤ S2x64x256x1024.size 3)

/-- Every block the index maps name is inside its array. -/
theorem tables_ok (h : Cert.Pre_Kernel2 m) : ok0 (F := Bits) (tables m) :=
  ⟨fun i => ⟨inb_0 m i, Or.inl rfl⟩, fun i => ⟨inb_1 m h i, Or.inl rfl⟩, fun i => ⟨inb_2 m h i, Or.inl rfl⟩, fun i => ⟨inb_3 m h i, Or.inl rfl⟩⟩

end Cert.Kernel2.Ffn

end
-- ==== Proof.FfnConds.lean ====
/- When the body takes which path, and the words it reads of the tables. -/
module

public import proofs.«01_k».proof.Proof.FfnTables

@[expose] public section

set_option maxRecDepth 16384

noncomputable section

namespace Cert.Kernel2.Ffn

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The body's two conditions at a point: the block's number is below the count of used blocks, -/
theorem cond2_iff (i : grid0.Coords) (n : BitVec 32) : k0_cond2 i n = 1#1 ↔ (BitVec.ofNat 32 (i 0).val).slt n = true := by
  unfold k0_cond2 Scalar.cmpi Scalar.extui IntOp.cmpi
  dsimp only
  generalize (BitVec.ofNat 32 (i 0).val).slt n = q
  revert q; decide

/-- and it is not. -/
theorem cond3_iff (i : grid0.Coords) (n : BitVec 32) : k0_cond3 i n = 1#1 ↔ (BitVec.ofNat 32 (i 0).val).slt n = false := by
  unfold k0_cond3 Scalar.cmpi Scalar.extui Scalar.xori IntOp.cmpi
  dsimp only
  generalize (BitVec.ofNat 32 (i 0).val).slt n = q
  revert q; decide

/-- One of them holds. -/
theorem idle_false (i : grid0.Coords) (n : BitVec 32) : (!(k0_cond2 i n == 1#1) && !(k0_cond3 i n == 1#1)) = false := by
  unfold k0_cond2 k0_cond3 Scalar.cmpi Scalar.extui Scalar.xori IntOp.cmpi
  dsimp only
  generalize (BitVec.ofNat 32 (i 0).val).slt n = q
  revert q; decide

/-- The body refills the scratches at a used block that is the first or has not the expert of the one before. -/
theorem refill_iff (i : grid0.Coords) (n e p : BitVec 32) :
    refill i n e p = 1#1 ↔ (BitVec.ofNat 32 (i 0).val).slt n = true ∧ ((i 0).val = 0 ∨ e ≠ p) := by
  have h0 : (BitVec.ofNat 32 (i 0).val == 0#32) = decide ((i 0).val = 0) := by
    have : (i 0).val < 224 := (i 0).isLt
    rw [Bool.eq_iff_iff]
    simp only [beq_iff_eq, decide_eq_true_eq]
    constructor
    · intro h; have := congrArg BitVec.toNat h; rw [BitVec.toNat_ofNat, BitVec.toNat_ofNat] at this; omega
    · intro h; rw [h]
  unfold refill Scalar.cmpi Scalar.extui Scalar.andi Scalar.ori IntOp.cmpi IntOp.andi IntOp.ori
  dsimp only
  rw [h0, show (e != p) = !decide (e = p) from by rw [bne, beq_eq_decide]]
  generalize (BitVec.ofNat 32 (i 0).val).slt n = q
  by_cases hz : (i 0).val = 0 <;> by_cases he : e = p <;> simp only [hz, he, decide_true, decide_false, ne_eq, not_true, not_false_eq_true, or_true, or_false, true_or, and_true, and_false] <;> revert q <;> decide

variable (m : (ℓ : Loc nD τ sig) → Buf (Elt Bits) ℓ)

/-- Block `b` is used. -/
def usedAt (b : Nat) : Prop := (BitVec.ofNat 32 b).slt (count m) = true
instance (b : Nat) : Decidable (usedAt m b) := by unfold usedAt; infer_instance

/-- The words the body reads: the count, -/
theorem wordN_eq : wordN (tables m 2) = count m := tables_count m
/-- the expert of the block, -/
theorem wordE_eq (i : grid0.Coords) : wordE i (tables m 0) = expert m (block i) := tables_expert m i
/-- that of the block before, -/
theorem wordP_eq (i : grid0.Coords) (b : Fin 224) (hb : (i 0).val = b.val + 1) : wordP i (tables m 0) = expert m b := by
  refine congrArg (V m 0 main_v13) ?_
  funext a
  match a with
  | ⟨0, _⟩ => exact Fin.ext (by
      show k0_off2 i 0 + 1 * 0 = b.val
      have : (i 0).val < 224 := (i 0).isLt
      show (IntOp.maxsi (BitVec.ofNat 32 (i 0).val - 1#32) 0#32).toNat + 1 * 0 = b.val
      have e : BitVec.ofNat 32 (i 0).val - 1#32 = BitVec.ofNat 32 b.val := by
        rw [hb]; exact BitVec.eq_of_toNat_eq (by rw [BitVec.toNat_sub]; simp only [BitVec.toNat_ofNat]; omega)
      have hn : (BitVec.ofNat 32 b.val).toNat = b.val := by rw [BitVec.toNat_ofNat]; omega
      rw [e]
      unfold IntOp.maxsi
      split
      · omega
      · rename_i h
        rw [BitVec.slt_eq_decide, decide_eq_true_eq, BitVec.toInt_eq_toNat_of_lt (show 2 * (BitVec.ofNat 32 b.val).toNat < 2 ^ 32 by omega), hn] at h
        have h0 : (0#32 : BitVec 32).toInt = 0 := rfl
        rw [h0] at h
        show (0#32 : BitVec 32).toNat + 1 * 0 = _
        have : (0#32 : BitVec 32).toNat = 0 := rfl
        omega)
/-- and the block's count of valid rows. -/
theorem wordV_eq (i : grid0.Coords) : wordV i (tables m 1) = m (((0 : Dev nD).tc : Thread nD τ).loc main_arg2) (ix1 (block i)) :=
  (congrArg (V m 0 main_arg2) (emb_off1 i)).trans (congrFun (V_main_arg2 m 0) _)

end Cert.Kernel2.Ffn

end
-- ==== Proof.FfnData.lean ====
/- The pipeline at its tables, the blocks its windows name, and what its proof carries from a point to the next. -/
module

public import proofs.«01_k».proof.Proof.FfnConds
public import Idealize.ShloMosaic.Lib.Pipeline.Quiescent
public import Idealize.ShloMosaic.Lib.Pipeline.FrameBody
public import Idealize.ShloMosaic.Lib.Pipeline.TableIdle

@[expose] public section

set_option maxRecDepth 16384

noncomputable section

namespace Cert.Kernel2.Ffn

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable [Cert.Pre_experts_exist.Facts]
variable (m : (ℓ : Loc nD τ sig) → Buf (Elt Bits) ℓ) (h : Cert.Pre_Kernel2 m)

/-- The tables, admissible, and the pipeline at them. -/
def adm : (pcfg0 (F := Bits)).Adm := ⟨tables m, tables_ok m h⟩
abbrev cfgA : Pipeline.Cfg sig Λ₀ := cfg0 (F := Bits) (adm m h)
abbrev pcs : Fin 1 → Pipeline.Cfg sig Λ₀ := Pipeline.pin (pcfgs (F := Bits)) fun _ => adm m h

/-- Point `t`'s coordinates, -/
abbrev crd (t : Fin (cfgA m h).N) : (cfgA m h).grid.Coords := (cfgA m h).grid.coords t

theorem coord_all : ∀ t : Fin grid0.N, (grid0.coords t 0).val = t.val := by decide +kernel
/-- the one of which is its number. -/
theorem crd_val (t : Fin (cfgA m h).N) : (crd m h t 0).val = t.val := coord_all t
theorem pt_lt (t : Fin (cfgA m h).N) : t.val < 224 := by have := coord_all t; have : (grid0.coords t 0).val < 224 := (grid0.coords t 0).isLt; omega

/-- Each window's current staging memref. -/
abbrev ms0_0 (t : Fin (cfgA m h).N) : Memref sig .tc .vmem S2x1024x256 .i32 := spec0_0.stage ((cfgA m h).slots t (0 : Fin 5))
abbrev hs0_0 (t : Fin (cfgA m h).N) : (ms0_0 m h t).IsWhole := hstage0_0 (((cfgA m h).slots t (0 : Fin 5)).cast nbuf0_0)
abbrev ms0_1 (t : Fin (cfgA m h).N) : Memref sig .tc .vmem S1x1x1024x256 .f32 := spec0_1.stage ((cfgA m h).slots t (1 : Fin 5))
abbrev hs0_1 (t : Fin (cfgA m h).N) : (ms0_1 m h t).IsWhole := hstage0_1 (((cfgA m h).slots t (1 : Fin 5)).cast nbuf0_1)
abbrev ms0_2 (t : Fin (cfgA m h).N) : Memref sig .tc .vmem S1x1x1024x256 .f32 := spec0_2.stage ((cfgA m h).slots t (2 : Fin 5))
abbrev hs0_2 (t : Fin (cfgA m h).N) : (ms0_2 m h t).IsWhole := hstage0_2 (((cfgA m h).slots t (2 : Fin 5)).cast nbuf0_2)
abbrev ms0_3 (t : Fin (cfgA m h).N) : Memref sig .tc .vmem S1x1x256x1024 .f32 := spec0_3.stage ((cfgA m h).slots t (3 : Fin 5))
abbrev hs0_3 (t : Fin (cfgA m h).N) : (ms0_3 m h t).IsWhole := hstage0_3 (((cfgA m h).slots t (3 : Fin 5)).cast nbuf0_3)
abbrev ms0_4 (t : Fin (cfgA m h).N) : Memref sig .tc .vmem S2x1024x256 .i32 := spec0_4.stage ((cfgA m h).slots t (4 : Fin 5))
abbrev hs0_4 (t : Fin (cfgA m h).N) : (ms0_4 m h t).IsWhole := hstage0_4 (((cfgA m h).slots t (4 : Fin 5)).cast nbuf0_4)

/-- Window `w`'s block at point `t`, read off its array at the region. -/
def iblk (c : Dev nD) (w : Fin (cfgA m h).W) (t : Fin (cfgA m h).N) : (((cfgA m h).win w).xblock (crd m h t)).Idx → Elt Bits ((cfgA m h).win w).elt :=
  (((cfgA m h).win w).blk t).view.read (Elt Bits) (V m c (Pipeline.arrRef (cfgA m h).spec w))

/-- The expert of block `b`, as a number. -/
def who (b : Fin 224) : Fin 64 := ⟨(expert m b).toNat, expert_word_lt m h b⟩
/-- The block of rows fed to block `b`, as a number. -/
def src (b : Fin 224) : Fin 224 := ⟨(rowsOf m b).toNat, rowsOf_lt m b⟩

/-- Block `b` of the routed rows, packed. -/
def rowsAt (c : Dev nD) (b : Fin 224) : Vec Bits S2x1024x256 .i32 := fun y =>
  m (c.tc.loc main_arg0) (ix3 (y 0) ⟨1024 * b.val + (y 1).val, by have h1 : (y 1).val < 1024 := (y 1).isLt; have := b.isLt; omega⟩ (y 2))
/-- Expert `e`'s three matrices. -/
def gateAt (c : Dev nD) (e : Fin 64) : Vec Bits S1x1x1024x256 .f32 := fun y => m (c.tc.loc main_arg4) (ix4 (0 : Fin 2) e (y 2) (y 3))
def upAt (c : Dev nD) (e : Fin 64) : Vec Bits S1x1x1024x256 .f32 := fun y => m (c.tc.loc main_arg5) (ix4 (0 : Fin 2) e (y 2) (y 3))
def downAt (c : Dev nD) (e : Fin 64) : Vec Bits S1x1x256x1024 .f32 := fun y => m (c.tc.loc main_arg6) (ix4 (0 : Fin 2) e (y 2) (y 3))

theorem index_0 (t : Fin (cfgA m h).N) : ((cfgA m h).win (0 : Fin 5)).index t = ![0, (src m (block (crd m h t))).val, 0] := by
  show cc0_transform_0 inb_S1_S1_0 numel1_S1 (tables m) (crd m h t) = _
  show _ = ![0, (rowsOf m (block (crd m h t))).toNat, 0]
  unfold rowsOf; rw [← tables_count m]; rfl
theorem index_1 (t : Fin (cfgA m h).N) : ((cfgA m h).win (1 : Fin 5)).index t = ![0, (who m h (block (crd m h t))).val, 0, 0] := by
  show cc0_transform_1 k0_off1_inb numel1_S1 (tables m) (crd m h t) = _
  unfold who; dsimp only; rw [← tables_expert m (crd m h t)]; rfl
theorem index_2 (t : Fin (cfgA m h).N) : ((cfgA m h).win (2 : Fin 5)).index t = ![0, (who m h (block (crd m h t))).val, 0, 0] := by
  show cc0_transform_2 k0_off1_inb numel1_S1 (tables m) (crd m h t) = _
  unfold who; dsimp only; rw [← tables_expert m (crd m h t)]; rfl
theorem index_3 (t : Fin (cfgA m h).N) : ((cfgA m h).win (3 : Fin 5)).index t = ![0, (who m h (block (crd m h t))).val, 0, 0] := by
  show cc0_transform_3 k0_off1_inb numel1_S1 (tables m) (crd m h t) = _
  unfold who; dsimp only; rw [← tables_expert m (crd m h t)]; rfl

/-- The blocks the windows name, in coordinates. -/
theorem iblk_0 (c : Dev nD) (t : Fin (cfgA m h).N) : iblk m h c (0 : Fin 5) t = rowsAt m c (src m (block (crd m h t))) := by
  funext y
  show V m c main_arg0 ((((cfgA m h).win (0 : Fin 5)).rect t).emb y) = _
  rw [V_main_arg0]
  refine congrArg (m (c.tc.loc main_arg0)) (funext fun a => Fin.ext ?_)
  have e := index_0 m h t
  match a with
  | ⟨0, _⟩ => exact Window.rect_emb_val_of_index_zero ((cfgA m h).win (0 : Fin 5)) t (0 : Fin 3) (congrFun e (0 : Fin 3)) y
  | ⟨1, _⟩ => exact (Window.rect_emb_val ((cfgA m h).win (0 : Fin 5)) t y (1 : Fin 3)).trans (by
      rw [show ((cfgA m h).win (0 : Fin 5)).index t (1 : Fin 3) = (src m (block (crd m h t))).val from congrFun e (1 : Fin 3)]
      show (src m (block (crd m h t))).val * 1024 + (y (1 : Fin 3)).val = 1024 * (src m (block (crd m h t))).val + (y (1 : Fin 3)).val
      omega)
  | ⟨2, _⟩ => exact Window.rect_emb_val_of_index_zero ((cfgA m h).win (0 : Fin 5)) t (2 : Fin 3) (congrFun e (2 : Fin 3)) y

theorem iblk_1 (c : Dev nD) (t : Fin (cfgA m h).N) : iblk m h c (1 : Fin 5) t = gateAt m c (who m h (block (crd m h t))) := by
  funext y
  show V m c main_arg4 ((((cfgA m h).win (1 : Fin 5)).rect t).emb y) = _
  rw [V_main_arg4]
  refine congrArg (m (c.tc.loc main_arg4)) (funext fun a => Fin.ext ?_)
  have e := index_1 m h t
  match a with
  | ⟨0, _⟩ => exact (Window.rect_emb_val_of_index_zero ((cfgA m h).win (1 : Fin 5)) t (0 : Fin 4) (congrFun e (0 : Fin 4)) y).trans (by
      have h0 : (y (0 : Fin 4)).val < 1 := (y (0 : Fin 4)).isLt
      show (y (0 : Fin 4)).val = 0
      omega)
  | ⟨1, _⟩ => exact (Window.rect_emb_val ((cfgA m h).win (1 : Fin 5)) t y (1 : Fin 4)).trans (by
      rw [show ((cfgA m h).win (1 : Fin 5)).index t (1 : Fin 4) = (who m h (block (crd m h t))).val from congrFun e (1 : Fin 4)]
      have h1 : (y (1 : Fin 4)).val < 1 := (y (1 : Fin 4)).isLt
      show (who m h (block (crd m h t))).val * 1 + (y (1 : Fin 4)).val = (who m h (block (crd m h t))).val
      omega)
  | ⟨2, _⟩ => exact Window.rect_emb_val_of_index_zero ((cfgA m h).win (1 : Fin 5)) t (2 : Fin 4) (congrFun e (2 : Fin 4)) y
  | ⟨3, _⟩ => exact Window.rect_emb_val_of_index_zero ((cfgA m h).win (1 : Fin 5)) t (3 : Fin 4) (congrFun e (3 : Fin 4)) y

theorem iblk_2 (c : Dev nD) (t : Fin (cfgA m h).N) : iblk m h c (2 : Fin 5) t = upAt m c (who m h (block (crd m h t))) := by
  funext y
  show V m c main_arg5 ((((cfgA m h).win (2 : Fin 5)).rect t).emb y) = _
  rw [V_main_arg5]
  refine congrArg (m (c.tc.loc main_arg5)) (funext fun a => Fin.ext ?_)
  have e := index_2 m h t
  match a with
  | ⟨0, _⟩ => exact (Window.rect_emb_val_of_index_zero ((cfgA m h).win (2 : Fin 5)) t (0 : Fin 4) (congrFun e (0 : Fin 4)) y).trans (by
      have h0 : (y (0 : Fin 4)).val < 1 := (y (0 : Fin 4)).isLt
      show (y (0 : Fin 4)).val = 0
      omega)
  | ⟨1, _⟩ => exact (Window.rect_emb_val ((cfgA m h).win (2 : Fin 5)) t y (1 : Fin 4)).trans (by
      rw [show ((cfgA m h).win (2 : Fin 5)).index t (1 : Fin 4) = (who m h (block (crd m h t))).val from congrFun e (1 : Fin 4)]
      have h1 : (y (1 : Fin 4)).val < 1 := (y (1 : Fin 4)).isLt
      show (who m h (block (crd m h t))).val * 1 + (y (1 : Fin 4)).val = (who m h (block (crd m h t))).val
      omega)
  | ⟨2, _⟩ => exact Window.rect_emb_val_of_index_zero ((cfgA m h).win (2 : Fin 5)) t (2 : Fin 4) (congrFun e (2 : Fin 4)) y
  | ⟨3, _⟩ => exact Window.rect_emb_val_of_index_zero ((cfgA m h).win (2 : Fin 5)) t (3 : Fin 4) (congrFun e (3 : Fin 4)) y

theorem iblk_3 (c : Dev nD) (t : Fin (cfgA m h).N) : iblk m h c (3 : Fin 5) t = downAt m c (who m h (block (crd m h t))) := by
  funext y
  show V m c main_arg6 ((((cfgA m h).win (3 : Fin 5)).rect t).emb y) = _
  rw [V_main_arg6]
  refine congrArg (m (c.tc.loc main_arg6)) (funext fun a => Fin.ext ?_)
  have e := index_3 m h t
  match a with
  | ⟨0, _⟩ => exact (Window.rect_emb_val_of_index_zero ((cfgA m h).win (3 : Fin 5)) t (0 : Fin 4) (congrFun e (0 : Fin 4)) y).trans (by
      have h0 : (y (0 : Fin 4)).val < 1 := (y (0 : Fin 4)).isLt
      show (y (0 : Fin 4)).val = 0
      omega)
  | ⟨1, _⟩ => exact (Window.rect_emb_val ((cfgA m h).win (3 : Fin 5)) t y (1 : Fin 4)).trans (by
      rw [show ((cfgA m h).win (3 : Fin 5)).index t (1 : Fin 4) = (who m h (block (crd m h t))).val from congrFun e (1 : Fin 4)]
      have h1 : (y (1 : Fin 4)).val < 1 := (y (1 : Fin 4)).isLt
      show (who m h (block (crd m h t))).val * 1 + (y (1 : Fin 4)).val = (who m h (block (crd m h t))).val
      omega)
  | ⟨2, _⟩ => exact Window.rect_emb_val_of_index_zero ((cfgA m h).win (3 : Fin 5)) t (2 : Fin 4) (congrFun e (2 : Fin 4)) y
  | ⟨3, _⟩ => exact Window.rect_emb_val_of_index_zero ((cfgA m h).win (3 : Fin 5)) t (3 : Fin 4) (congrFun e (3 : Fin 4)) y

/-- What block `b` of the result is: the expert's network on the rows of a used block, zeros else. -/
def outAt (c : Dev nD) (b : Fin 224) : Vec Bits S2x1024x256 .i32 :=
  if usedAt m b.val then
    used (m (((0 : Dev nD).tc : Thread nD τ).loc main_arg2) (ix1 b)) (rowsAt m c (src m b)) (k0_pay1 (gateAt m c (who m h b))) (k0_pay2 (upAt m c (who m h b))) (k0_pay3 (downAt m c (who m h b)))
  else unused

/-- Between the points: after a used block the scratches hold its expert's weights, cast; the tables are as they were. -/
def Phi (c : Dev nD) (t : Fin ((cfgA m h).N + 1)) : sProp 𝕄 :=
  iprop((∃ a : Buf (Elt Bits) ((c : Thread nD τ).loc cc0_scratch0), ⌜∀ b : Fin 224, b.val + 1 = t.val → usedAt m b.val → scG.view.read (Elt Bits) a = k0_pay1 (gateAt m c (who m h b))⌝ ∗ (scG.view.loc (c : Thread nD τ) ↦{fullShare} a))
    ∗ (∃ a : Buf (Elt Bits) ((c : Thread nD τ).loc cc0_scratch1), ⌜∀ b : Fin 224, b.val + 1 = t.val → usedAt m b.val → scU.view.read (Elt Bits) a = k0_pay2 (upAt m c (who m h b))⌝ ∗ (scU.view.loc (c : Thread nD τ) ↦{fullShare} a))
    ∗ (∃ a : Buf (Elt Bits) ((c : Thread nD τ).loc cc0_scratch2), ⌜∀ b : Fin 224, b.val + 1 = t.val → usedAt m b.val → scD.view.read (Elt Bits) a = k0_pay3 (downAt m c (who m h b))⌝ ∗ (scD.view.loc (c : Thread nD τ) ↦{fullShare} a))
    ∗ (tblE.view.loc (c : Thread nD τ) ↦{fullShare.right} tables m 0) ∗ (tblV.view.loc (c : Thread nD τ) ↦{fullShare.right} tables m 1) ∗ (tblN.view.loc (c : Thread nD τ) ↦{fullShare.right} tables m 2)
    ∗ ∃ r, prngReg c r)

/-- The proof data. -/
def dats (_ : Fin 1) (c : Dev nD) : Dat τ (Elt Bits) Unit ℕ (UR sig nD τ) ℕ (cfgA m h) c where
  A w := V m c (Pipeline.arrRef (cfgA m h).spec w)
  after w t := match w with
    | ⟨0, _⟩ => iblk m h c (0 : Fin 5) t
    | ⟨1, _⟩ => iblk m h c (1 : Fin 5) t
    | ⟨2, _⟩ => iblk m h c (2 : Fin 5) t
    | ⟨3, _⟩ => iblk m h c (3 : Fin 5) t
    | ⟨4, _⟩ => outAt m h c (block (crd m h t))
  Φ t := Phi m h c t
  q _ := fullShare
  owed _ := 0

theorem after0_0 (c : Dev nD) (t : Fin (cfgA m h).N) : (dats m h 0 c).after (0 : Fin 5) t = iblk m h c (0 : Fin 5) t := rfl
theorem before0_0 (c : Dev nD) (t : Fin (cfgA m h).N) (d) : (dats m h 0 c).before (0 : Fin 5) t d = iblk m h c (0 : Fin 5) t :=
  ((dats m h 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem after0_1 (c : Dev nD) (t : Fin (cfgA m h).N) : (dats m h 0 c).after (1 : Fin 5) t = iblk m h c (1 : Fin 5) t := rfl
theorem before0_1 (c : Dev nD) (t : Fin (cfgA m h).N) (d) : (dats m h 0 c).before (1 : Fin 5) t d = iblk m h c (1 : Fin 5) t :=
  ((dats m h 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem after0_2 (c : Dev nD) (t : Fin (cfgA m h).N) : (dats m h 0 c).after (2 : Fin 5) t = iblk m h c (2 : Fin 5) t := rfl
theorem before0_2 (c : Dev nD) (t : Fin (cfgA m h).N) (d) : (dats m h 0 c).before (2 : Fin 5) t d = iblk m h c (2 : Fin 5) t :=
  ((dats m h 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem after0_3 (c : Dev nD) (t : Fin (cfgA m h).N) : (dats m h 0 c).after (3 : Fin 5) t = iblk m h c (3 : Fin 5) t := rfl
theorem before0_3 (c : Dev nD) (t : Fin (cfgA m h).N) (d) : (dats m h 0 c).before (3 : Fin 5) t d = iblk m h c (3 : Fin 5) t :=
  ((dats m h 0 c).before_in_eq_fetched (3 : Fin 5) rfl (fun _ => rfl) (fun _ _ _ => rfl) (fun t => by rw [after0_3]; unfold Dat.blockOf iblk; rfl) t d).trans
    (by unfold Dat.fetched Dat.blockOf iblk; rfl)
theorem after0_4 (c : Dev nD) (t : Fin (cfgA m h).N) : (dats m h 0 c).after (4 : Fin 5) t = outAt m h c (block (crd m h t)) := rfl

end Cert.Kernel2.Ffn

end
-- ==== Proof.FfnFill.lean ====
/- The body of the expert FFN at a used block of a new expert: it refills the scratches, then leaves the block. -/
module

public import proofs.«01_k».proof.Proof.FfnBlock

@[expose] public section

set_option maxRecDepth 16384

noncomputable section

namespace Cert.Kernel2.Ffn

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

local notation "𝕄" => MT nD τ sig Unit (Elt F) ℕ (UR sig nD τ) ℕ

set_option maxHeartbeats 8000000 in
/-- At a used block of a new expert the body ends with the scratches at that expert's weights and the block the expert's. -/
theorem body_fill (c : Dev nD) (i : grid0.Coords) (arg4 : Memref sig .tc .vmem S2x1024x256 .i32) (harg4 : arg4.IsWhole) (arg5 : Memref sig .tc .vmem S1x1x1024x256 .f32) (harg5 : arg5.IsWhole) (arg6 : Memref sig .tc .vmem S1x1x1024x256 .f32) (harg6 : arg6.IsWhole) (arg7 : Memref sig .tc .vmem S1x1x256x1024 .f32) (harg7 : arg7.IsWhole) (arg8 : Memref sig .tc .vmem S2x1024x256 .i32) (harg8 : arg8.IsWhole)
    (TE TV : S224.Idx → Elt F .i32) (TN : S1.Idx → Elt F .i32) (x0 : Vec F S2x1024x256 .i32) (x1 x2 : Vec F S1x1x1024x256 .f32) (x3 : Vec F S1x1x256x1024 .f32)
    (a0 : Buf (Elt F) ((c : Thread nD τ).loc cc0_scratch0)) (a1 : Buf (Elt F) ((c : Thread nD τ).loc cc0_scratch1)) (a2 : Buf (Elt F) ((c : Thread nD τ).loc cc0_scratch2))
    (hc0 : refill i (wordN TN) (wordE i TE) (wordP i TE) = 1#1) (h2 : k0_cond2 i (wordN TN) = 1#1) (h3 : ¬k0_cond3 i (wordN TN) = 1#1) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3
        ∗ (tblE.view.loc (c : Thread nD τ) ↦{fullShare.right} TE) ∗ (tblV.view.loc (c : Thread nD τ) ↦{fullShare.right} TV) ∗ (tblN.view.loc (c : Thread nD τ) ↦{fullShare.right} TN)
        ∗ (∃ d, owns (c : Thread nD τ) arg8 fullShare d)
        ∗ (scG.view.loc (c : Thread nD τ) ↦{fullShare} a0) ∗ (scU.view.loc (c : Thread nD τ) ↦{fullShare} a1) ∗ (scD.view.loc (c : Thread nD τ) ↦{fullShare} a2)
        ∗ (iprop(owns (c : Thread nD τ) arg4 fullShare x0 ∗ owns (c : Thread nD τ) arg5 fullShare x1 ∗ owns (c : Thread nD τ) arg6 fullShare x2 ∗ owns (c : Thread nD τ) arg7 fullShare x3
            ∗ (tblE.view.loc (c : Thread nD τ) ↦{fullShare.right} TE) ∗ (tblV.view.loc (c : Thread nD τ) ↦{fullShare.right} TV) ∗ (tblN.view.loc (c : Thread nD τ) ↦{fullShare.right} TN)
            ∗ owns (c : Thread nD τ) arg8 fullShare (used (wordV i TV) x0 (k0_pay1 x1) (k0_pay2 x2) (k0_pay3 x3))
            ∗ (∃ a : Buf (Elt F) ((c : Thread nD τ).loc cc0_scratch0), ⌜scG.view.read (Elt F) a = k0_pay1 x1⌝ ∗ (scG.view.loc (c : Thread nD τ) ↦{fullShare} a))
            ∗ (∃ a : Buf (Elt F) ((c : Thread nD τ).loc cc0_scratch1), ⌜scU.view.read (Elt F) a = k0_pay2 x2⌝ ∗ (scU.view.loc (c : Thread nD τ) ↦{fullShare} a))
            ∗ (∃ a : Buf (Elt F) ((c : Thread nD τ).loc cc0_scratch2), ⌜scD.view.read (Elt F) a = k0_pay3 x3⌝ ∗ (scD.view.loc (c : Thread nD τ) ↦{fullShare} a))) -∗ K ⟨⟩))
      ⊢ wp frame (wpE (defs₀ (F := F)) Variants.none c none) Set.univ (cc0_expert_ffn i tblE (Memref.isWhole_whole _) tblV (Memref.isWhole_whole _) tblN (Memref.isWhole_whole _) arg4 harg4 arg5 harg5 arg6 harg6 arg7 harg7 arg8 harg8 scG (Memref.isWhole_whole _) scU (Memref.isWhole_whole _) scD (Memref.isWhole_whole _)) K := by
  rw [cc0_expert_ffn_eq_skeleton]; unfold cc0_expert_ffn_skel
  rw [owns_eq_rep (c : Thread nD τ) arg4, owns_eq_rep (c : Thread nD τ) arg5, owns_eq_rep (c : Thread nD τ) arg6, owns_eq_rep (c : Thread nD τ) arg7]
  unfold owns
  iintro ⟨H0, H1, H2, H3, HTE, HTV, HTN, ⟨%d4, %f4, -, HO⟩, HG, HU, HD, Hk⟩
  have hG : scG.IsWhole := Memref.isWhole_whole _
  have hU : scU.IsWhole := Memref.isWhole_whole _
  have hD : scD.IsWhole := Memref.isWhole_whole _
  have hTE : tblE.IsWhole := Memref.isWhole_whole _
  have hTV : tblV.IsWhole := Memref.isWhole_whole _
  have hTN : tblN.IsWhole := Memref.isWhole_whole _
  sl_exec! (disch := first | (guard_target = Scalar.cmpi _ _ _ = _; exact hc0) | (guard_target = k0_cond2 _ _ = _; exact h2) | (guard_target = ¬(k0_cond3 _ _ = _); exact h3))
  sl_step
  iapply Hk
  isplitl [H0]; · iexact H0
  isplitl [H1]; · iexact H1
  isplitl [H2]; · iexact H2
  isplitl [H3]; · iexact H3
  isplitl [HTE]; · iexact HTE
  isplitl [HTV]; · iexact HTV
  isplitl [HTN]; · iexact HTN
  isplitl [HO]
  · iexists _; isplitr; swap; · iexact HO
    ipureintro
    have e0 : View.readAt (Elt F) arg4.view (Rect.unit (s := S2x1024x256) ![0, 0, 0] S1x1024x256.size inb_S2x1024x256_S1x1024x256_0_0_0).toLoadRect (arg4.view.rep x0) = chunk0 x0 :=
      View.readAt_rep_unit _ _ _ rfl _
    have e1 : View.readAt (Elt F) arg4.view (Rect.unit (s := S2x1024x256) ![1, 0, 0] S1x1024x256.size inb_S2x1024x256_S1x1024x256_1_0_0).toLoadRect (arg4.view.rep x0) = chunk1 x0 :=
      View.readAt_rep_unit _ _ _ rfl _
    have eG : body_fill.sl.v38 c arg5 x1 = k0_pay1 x1 := by
      unfold body_fill.sl.v38 body_fill.sl.HG_1 body_fill.sl.v19
      rw [View.readAt_rep_full]; exact View.readCov_full _ _ _ _ _
    have eU : body_fill.sl.v40 c arg6 x2 = k0_pay2 x2 := by
      unfold body_fill.sl.v40 body_fill.sl.HU_1 body_fill.sl.v25
      rw [View.readAt_rep_full]; exact View.readCov_full _ _ _ _ _
    have eD : body_fill.sl.v46 c arg7 x3 = k0_pay3 x3 := by
      unfold body_fill.sl.v46 body_fill.sl.HD_1 body_fill.sl.v31
      rw [View.readAt_rep_full]; exact View.readCov_full _ _ _ _ _
    unfold body_fill.sl.HO_2 body_fill.sl.r_4 body_fill.sl.r_3
    rw [e0, e1, eG, eU, eD]
    exact View.read_writes_eq_canon _ _ (stores (F := F) _ _) (stores_cover _ _)
  isplitl [HG]
  · iexists _; isplitr; swap; · iexact HG
    ipureintro
    unfold body_fill.sl.HG_1 body_fill.sl.v19
    rw [View.readAt_rep_full]; exact View.read_writes_full _ _ _ _ _
  isplitl [HU]
  · iexists _; isplitr; swap; · iexact HU
    ipureintro
    unfold body_fill.sl.HU_1 body_fill.sl.v25
    rw [View.readAt_rep_full]; exact View.read_writes_full _ _ _ _ _
  iexists _; isplitr; swap; · iexact HD
  ipureintro
  unfold body_fill.sl.HD_1 body_fill.sl.v31
  rw [View.readAt_rep_full]; exact View.read_writes_full _ _ _ _ _

end Cert.Kernel2.Ffn

end
-- ==== Proof.FfnKeep.lean ====
/- The body of the expert FFN at a used block of the same expert as the block before. -/
module

public import proofs.«01_k».proof.Proof.FfnBlock

@[expose] public section

set_option maxRecDepth 16384

noncomputable section

namespace Cert.Kernel2.Ffn

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

local notation "𝕄" => MT nD τ sig Unit (Elt F) ℕ (UR sig nD τ) ℕ

set_option maxHeartbeats 8000000 in
/-- At a used block of the same expert as before the body keeps the scratches and leaves the block their weights give. -/
theorem body_keep (c : Dev nD) (i : grid0.Coords) (arg4 : Memref sig .tc .vmem S2x1024x256 .i32) (harg4 : arg4.IsWhole) (arg5 : Memref sig .tc .vmem S1x1x1024x256 .f32) (harg5 : arg5.IsWhole) (arg6 : Memref sig .tc .vmem S1x1x1024x256 .f32) (harg6 : arg6.IsWhole) (arg7 : Memref sig .tc .vmem S1x1x256x1024 .f32) (harg7 : arg7.IsWhole) (arg8 : Memref sig .tc .vmem S2x1024x256 .i32) (harg8 : arg8.IsWhole)
    (TE TV : S224.Idx → Elt F .i32) (TN : S1.Idx → Elt F .i32) (x0 : Vec F S2x1024x256 .i32) (x1 x2 : Vec F S1x1x1024x256 .f32) (x3 : Vec F S1x1x256x1024 .f32)
    (a0 : Buf (Elt F) ((c : Thread nD τ).loc cc0_scratch0)) (a1 : Buf (Elt F) ((c : Thread nD τ).loc cc0_scratch1)) (a2 : Buf (Elt F) ((c : Thread nD τ).loc cc0_scratch2))
    (hc0 : ¬refill i (wordN TN) (wordE i TE) (wordP i TE) = 1#1) (h2 : k0_cond2 i (wordN TN) = 1#1) (h3 : ¬k0_cond3 i (wordN TN) = 1#1) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3
        ∗ (tblE.view.loc (c : Thread nD τ) ↦{fullShare.right} TE) ∗ (tblV.view.loc (c : Thread nD τ) ↦{fullShare.right} TV) ∗ (tblN.view.loc (c : Thread nD τ) ↦{fullShare.right} TN)
        ∗ (∃ d, owns (c : Thread nD τ) arg8 fullShare d)
        ∗ (scG.view.loc (c : Thread nD τ) ↦{fullShare} a0) ∗ (scU.view.loc (c : Thread nD τ) ↦{fullShare} a1) ∗ (scD.view.loc (c : Thread nD τ) ↦{fullShare} a2)
        ∗ (iprop(owns (c : Thread nD τ) arg4 fullShare x0 ∗ owns (c : Thread nD τ) arg5 fullShare x1 ∗ owns (c : Thread nD τ) arg6 fullShare x2 ∗ owns (c : Thread nD τ) arg7 fullShare x3
            ∗ (tblE.view.loc (c : Thread nD τ) ↦{fullShare.right} TE) ∗ (tblV.view.loc (c : Thread nD τ) ↦{fullShare.right} TV) ∗ (tblN.view.loc (c : Thread nD τ) ↦{fullShare.right} TN)
            ∗ owns (c : Thread nD τ) arg8 fullShare (used (wordV i TV) x0 (scG.view.read (Elt F) a0) (scU.view.read (Elt F) a1) (scD.view.read (Elt F) a2))
            ∗ (∃ a : Buf (Elt F) ((c : Thread nD τ).loc cc0_scratch0), ⌜a = a0⌝ ∗ (scG.view.loc (c : Thread nD τ) ↦{fullShare} a))
            ∗ (∃ a : Buf (Elt F) ((c : Thread nD τ).loc cc0_scratch1), ⌜a = a1⌝ ∗ (scU.view.loc (c : Thread nD τ) ↦{fullShare} a))
            ∗ (∃ a : Buf (Elt F) ((c : Thread nD τ).loc cc0_scratch2), ⌜a = a2⌝ ∗ (scD.view.loc (c : Thread nD τ) ↦{fullShare} a))) -∗ K ⟨⟩))
      ⊢ wp frame (wpE (defs₀ (F := F)) Variants.none c none) Set.univ (cc0_expert_ffn i tblE (Memref.isWhole_whole _) tblV (Memref.isWhole_whole _) tblN (Memref.isWhole_whole _) arg4 harg4 arg5 harg5 arg6 harg6 arg7 harg7 arg8 harg8 scG (Memref.isWhole_whole _) scU (Memref.isWhole_whole _) scD (Memref.isWhole_whole _)) K := by
  rw [cc0_expert_ffn_eq_skeleton]; unfold cc0_expert_ffn_skel
  rw [owns_eq_rep (c : Thread nD τ) arg4, owns_eq_rep (c : Thread nD τ) arg5, owns_eq_rep (c : Thread nD τ) arg6, owns_eq_rep (c : Thread nD τ) arg7]
  unfold owns
  iintro ⟨H0, H1, H2, H3, HTE, HTV, HTN, ⟨%d4, %f4, -, HO⟩, HG, HU, HD, Hk⟩
  have hG : scG.IsWhole := Memref.isWhole_whole _
  have hU : scU.IsWhole := Memref.isWhole_whole _
  have hD : scD.IsWhole := Memref.isWhole_whole _
  have hTE : tblE.IsWhole := Memref.isWhole_whole _
  have hTV : tblV.IsWhole := Memref.isWhole_whole _
  have hTN : tblN.IsWhole := Memref.isWhole_whole _
  sl_exec! (disch := first | (guard_target = ¬(Scalar.cmpi _ _ _ = _); exact hc0) | (guard_target = k0_cond2 _ _ = _; exact h2) | (guard_target = ¬(k0_cond3 _ _ = _); exact h3))
  sl_step
  iapply Hk
  isplitl [H0]; · iexact H0
  isplitl [H1]; · iexact H1
  isplitl [H2]; · iexact H2
  isplitl [H3]; · iexact H3
  isplitl [HTE]; · iexact HTE
  isplitl [HTV]; · iexact HTV
  isplitl [HTN]; · iexact HTN
  isplitl [HO]
  · iexists _; isplitr; swap; · iexact HO
    ipureintro
    have e0 : View.readAt (Elt F) arg4.view (Rect.unit (s := S2x1024x256) ![0, 0, 0] S1x1024x256.size inb_S2x1024x256_S1x1024x256_0_0_0).toLoadRect (arg4.view.rep x0) = chunk0 x0 :=
      View.readAt_rep_unit _ _ _ rfl _
    have e1 : View.readAt (Elt F) arg4.view (Rect.unit (s := S2x1024x256) ![1, 0, 0] S1x1024x256.size inb_S2x1024x256_S1x1024x256_1_0_0).toLoadRect (arg4.view.rep x0) = chunk1 x0 :=
      View.readAt_rep_unit _ _ _ rfl _
    unfold body_keep.sl.HO_2 body_keep.sl.r_4 body_keep.sl.r_3
    rw [e0, e1, View.readAt_full, View.readAt_full, View.readAt_full]
    exact View.read_writes_eq_canon _ _ (stores (F := F) _ _) (stores_cover _ _)
  isplitl [HG]
  · iexists _; isplitr; swap; · iexact HG
    ipureintro; rfl
  isplitl [HU]
  · iexists _; isplitr; swap; · iexact HU
    ipureintro; rfl
  iexists _; isplitr; swap; · iexact HD
  ipureintro; rfl

end Cert.Kernel2.Ffn

end
-- ==== Proof.FfnRest.lean ====
/- The body of the expert FFN at an unused block. -/
module

public import proofs.«01_k».proof.Proof.FfnBlock

@[expose] public section

set_option maxRecDepth 16384

noncomputable section

namespace Cert.Kernel2.Ffn

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

local notation "𝕄" => MT nD τ sig Unit (Elt F) ℕ (UR sig nD τ) ℕ

set_option maxHeartbeats 8000000 in
/-- At an unused block the body keeps the scratches and leaves zeros. -/
theorem body_rest (c : Dev nD) (i : grid0.Coords) (arg4 : Memref sig .tc .vmem S2x1024x256 .i32) (harg4 : arg4.IsWhole) (arg5 : Memref sig .tc .vmem S1x1x1024x256 .f32) (harg5 : arg5.IsWhole) (arg6 : Memref sig .tc .vmem S1x1x1024x256 .f32) (harg6 : arg6.IsWhole) (arg7 : Memref sig .tc .vmem S1x1x256x1024 .f32) (harg7 : arg7.IsWhole) (arg8 : Memref sig .tc .vmem S2x1024x256 .i32) (harg8 : arg8.IsWhole)
    (TE TV : S224.Idx → Elt F .i32) (TN : S1.Idx → Elt F .i32) (x0 : Vec F S2x1024x256 .i32) (x1 x2 : Vec F S1x1x1024x256 .f32) (x3 : Vec F S1x1x256x1024 .f32)
    (a0 : Buf (Elt F) ((c : Thread nD τ).loc cc0_scratch0)) (a1 : Buf (Elt F) ((c : Thread nD τ).loc cc0_scratch1)) (a2 : Buf (Elt F) ((c : Thread nD τ).loc cc0_scratch2))
    (hc0 : ¬refill i (wordN TN) (wordE i TE) (wordP i TE) = 1#1) (h2 : ¬k0_cond2 i (wordN TN) = 1#1) (h3 : k0_cond3 i (wordN TN) = 1#1) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3
        ∗ (tblE.view.loc (c : Thread nD τ) ↦{fullShare.right} TE) ∗ (tblV.view.loc (c : Thread nD τ) ↦{fullShare.right} TV) ∗ (tblN.view.loc (c : Thread nD τ) ↦{fullShare.right} TN)
        ∗ (∃ d, owns (c : Thread nD τ) arg8 fullShare d)
        ∗ (scG.view.loc (c : Thread nD τ) ↦{fullShare} a0) ∗ (scU.view.loc (c : Thread nD τ) ↦{fullShare} a1) ∗ (scD.view.loc (c : Thread nD τ) ↦{fullShare} a2)
        ∗ (iprop(owns (c : Thread nD τ) arg4 fullShare x0 ∗ owns (c : Thread nD τ) arg5 fullShare x1 ∗ owns (c : Thread nD τ) arg6 fullShare x2 ∗ owns (c : Thread nD τ) arg7 fullShare x3
            ∗ (tblE.view.loc (c : Thread nD τ) ↦{fullShare.right} TE) ∗ (tblV.view.loc (c : Thread nD τ) ↦{fullShare.right} TV) ∗ (tblN.view.loc (c : Thread nD τ) ↦{fullShare.right} TN)
            ∗ owns (c : Thread nD τ) arg8 fullShare (unused)
            ∗ (∃ a : Buf (Elt F) ((c : Thread nD τ).loc cc0_scratch0), ⌜a = a0⌝ ∗ (scG.view.loc (c : Thread nD τ) ↦{fullShare} a))
            ∗ (∃ a : Buf (Elt F) ((c : Thread nD τ).loc cc0_scratch1), ⌜a = a1⌝ ∗ (scU.view.loc (c : Thread nD τ) ↦{fullShare} a))
            ∗ (∃ a : Buf (Elt F) ((c : Thread nD τ).loc cc0_scratch2), ⌜a = a2⌝ ∗ (scD.view.loc (c : Thread nD τ) ↦{fullShare} a))) -∗ K ⟨⟩))
      ⊢ wp frame (wpE (defs₀ (F := F)) Variants.none c none) Set.univ (cc0_expert_ffn i tblE (Memref.isWhole_whole _) tblV (Memref.isWhole_whole _) tblN (Memref.isWhole_whole _) arg4 harg4 arg5 harg5 arg6 harg6 arg7 harg7 arg8 harg8 scG (Memref.isWhole_whole _) scU (Memref.isWhole_whole _) scD (Memref.isWhole_whole _)) K := by
  rw [cc0_expert_ffn_eq_skeleton]; unfold cc0_expert_ffn_skel
  rw [owns_eq_rep (c : Thread nD τ) arg4, owns_eq_rep (c : Thread nD τ) arg5, owns_eq_rep (c : Thread nD τ) arg6, owns_eq_rep (c : Thread nD τ) arg7]
  unfold owns
  iintro ⟨H0, H1, H2, H3, HTE, HTV, HTN, ⟨%d4, %f4, -, HO⟩, HG, HU, HD, Hk⟩
  have hG : scG.IsWhole := Memref.isWhole_whole _
  have hU : scU.IsWhole := Memref.isWhole_whole _
  have hD : scD.IsWhole := Memref.isWhole_whole _
  have hTE : tblE.IsWhole := Memref.isWhole_whole _
  have hTV : tblV.IsWhole := Memref.isWhole_whole _
  have hTN : tblN.IsWhole := Memref.isWhole_whole _
  sl_exec! (disch := first | (guard_target = ¬(Scalar.cmpi _ _ _ = _); exact hc0) | (guard_target = ¬(k0_cond2 _ _ = _); exact h2) | (guard_target = k0_cond3 _ _ = _; exact h3))
  sl_step
  iapply Hk
  isplitl [H0]; · iexact H0
  isplitl [H1]; · iexact H1
  isplitl [H2]; · iexact H2
  isplitl [H3]; · iexact H3
  isplitl [HTE]; · iexact HTE
  isplitl [HTV]; · iexact HTV
  isplitl [HTN]; · iexact HTN
  isplitl [HO]
  · iexists _; isplitr; swap; · iexact HO
    ipureintro
    exact View.read_writes_full _ _ _ _ _
  isplitl [HG]
  · iexists _; isplitr; swap; · iexact HG
    ipureintro; rfl
  isplitl [HU]
  · iexists _; isplitr; swap; · iexact HU
    ipureintro; rfl
  iexists _; isplitr; swap; · iexact HD
  ipureintro; rfl

end Cert.Kernel2.Ffn

end
-- ==== Proof.FfnPoint.lean ====
/- The kernel's run: the body at every point, and the whole program. -/
module

public import proofs.«01_k».proof.Proof.FfnData
public import proofs.«01_k».proof.Proof.FfnFill
public import proofs.«01_k».proof.Proof.FfnKeep
public import proofs.«01_k».proof.Proof.FfnRest

@[expose] public section

set_option maxRecDepth 16384

noncomputable section

namespace Cert.Kernel2.Ffn

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (m : (ℓ : Loc nD τ sig) → Buf (Elt Bits) ℓ)

/-- The block before a used block is used. -/
theorem used_before (b : Nat) (hb : b + 1 < 224) (h : usedAt m (b + 1)) : usedAt m b := by
  unfold usedAt at h ⊢
  rw [BitVec.slt_eq_decide, decide_eq_true_eq] at h ⊢
  have e : ∀ k : Nat, k < 224 → (BitVec.ofNat 32 k).toInt = (k : Int) := fun k hk => by
    rw [BitVec.toInt_eq_toNat_of_lt (by rw [BitVec.toNat_ofNat]; omega), BitVec.toNat_ofNat]; omega
  rw [e _ hb] at h
  rw [e b (by omega)]
  omega

variable [Cert.Pre_experts_exist.Facts] (h : Cert.Pre_Kernel2 m) (ρ : Dev nD → PrngReg)

/-- The body at point `t` on its staging memrefs. -/
abbrev bodyAt0 (t : Fin (cfgA m h).N) : Prog (TpuEff nD τ sig (Elt Bits) Λ₀ .tc) PUnit :=
  cc0_expert_ffn (crd m h t) tblE (Memref.isWhole_whole _) tblV (Memref.isWhole_whole _) tblN (Memref.isWhole_whole _) (ms0_0 m h t) (hs0_0 m h t) (ms0_1 m h t) (hs0_1 m h t) (ms0_2 m h t) (hs0_2 m h t) (ms0_3 m h t) (hs0_3 m h t) (ms0_4 m h t) (hs0_4 m h t) scG (Memref.isWhole_whole _) scU (Memref.isWhole_whole _) scD (Memref.isWhole_whole _)

/-- The result's block is stored at every point. -/
theorem idle_any (i : grid0.Coords) (pf : pre0.Contents (Elt Bits)) : idle0 pf 4 i = false := by
  unfold idle0
  generalize pf.atD 2 ![0] = n
  exact idle_false i n
set_option maxHeartbeats 4000000 in
theorem idle_4 (i : grid0.Coords) : (cfgA m h).idle (4 : Fin 5) i = false :=
  idle_any i (adm m h).1

set_option maxHeartbeats 4000000 in
/-- The body at point `t`: from the state between the points to the next, its block stored. -/
theorem sound_body (c : Dev nD) (t : Fin (cfgA m h).N) :
    iprop((dats m h 0 c).Φ t.castSucc ∗ (dats m h 0 c).owesAt () t.castSucc
        ∗ (∃ d, owns (c : Thread nD τ) (ms0_0 m h t) fullShare ((dats m h 0 c).before (0 : Fin 5) t d))
        ∗ (∃ d, owns (c : Thread nD τ) (ms0_1 m h t) fullShare ((dats m h 0 c).before (1 : Fin 5) t d))
        ∗ (∃ d, owns (c : Thread nD τ) (ms0_2 m h t) fullShare ((dats m h 0 c).before (2 : Fin 5) t d))
        ∗ (∃ d, owns (c : Thread nD τ) (ms0_3 m h t) fullShare ((dats m h 0 c).before (3 : Fin 5) t d))
        ∗ (∃ d, owns (c : Thread nD τ) (ms0_4 m h t) fullShare ((dats m h 0 c).before (4 : Fin 5) t d)))
      ⊢ wp frame (wpE (defs₀ (F := Bits)) Variants.none c none) Set.univ (bodyAt0 m h t) fun _ =>
          iprop((dats m h 0 c).Φ t.succ ∗ (dats m h 0 c).owesAt () t.succ
            ∗ bigSep Finset.univ fun w : Fin (cfgA m h).W =>
                match (cfgA m h).idle w ((cfgA m h).grid.coords t) with
                | true =>
                  match ((cfgA m h).win w).flush t with
                  | false => iprop(∃ d, owns (c : Thread nD τ) (((cfgA m h).win w).stage ((cfgA m h).slots t w)) fullShare ((dats m h 0 c).before w t d))
                  | true => owns (c : Thread nD τ) (((cfgA m h).win w).stage ((cfgA m h).slots t w)) fullShare ((dats m h 0 c).after w t)
                | false => owns (c : Thread nD τ) (((cfgA m h).win w).stage ((cfgA m h).slots t w)) fullShare ((dats m h 0 c).after w t)) := by
  rw [bigSep_W0]
  rewrite [idle_4 m h ((cfgA m h).grid.coords t)]
  simp only [before0_0, before0_1, before0_2, before0_3, after0_0, after0_1, after0_2, after0_3, after0_4]
  rewrite [show (dats m h 0 c).Φ t.succ = Phi m h c t.succ from rfl, show (dats m h 0 c).Φ t.castSucc = Phi m h c t.castSucc from rfl,
    show (dats m h 0 c).owesAt () t.succ = (dats m h 0 c).owesAt () t.castSucc from rfl]
  unfold Phi; simp only [Fin.val_castSucc, Fin.val_succ]
  have hbt : (block (crd m h t)).val = t.val := crd_val m h t
  have hblk : ∀ b : Fin 224, b.val + 1 = t.val + 1 → b = block (crd m h t) := fun b hb => Fin.ext (by omega)
  iintro ⟨⟨⟨%a0, %ha0, HS0⟩, ⟨%a1, %ha1, HS1⟩, ⟨%a2, %ha2, HS2⟩, HT0, HT1, HT2, HP⟩, Ho, ⟨%d0, H0⟩, ⟨%d1, H1⟩, ⟨%d2, H2⟩, ⟨%d3, H3⟩, ⟨%d4, H4⟩⟩
  by_cases hun : usedAt m (block (crd m h t)).val
  · have hc2 : k0_cond2 (crd m h t) (wordN (tables m 2)) = 1#1 := by rw [wordN_eq]; exact (cond2_iff _ _).mpr hun
    have hc3 : ¬k0_cond3 (crd m h t) (wordN (tables m 2)) = 1#1 := by
      rw [wordN_eq]; exact fun hx => absurd (hun.symm.trans ((cond3_iff _ _).mp hx)) (by decide)
    have hout : outAt m h c (block (crd m h t)) = _ := if_pos hun
    by_cases hc : refill (crd m h t) (wordN (tables m 2)) (wordE (crd m h t) (tables m 0)) (wordP (crd m h t) (tables m 0)) = 1#1
    · skip
      iapply (body_fill c (crd m h t) (ms0_0 m h t) (hs0_0 m h t) (ms0_1 m h t) (hs0_1 m h t) (ms0_2 m h t) (hs0_2 m h t) (ms0_3 m h t) (hs0_3 m h t) (ms0_4 m h t) (hs0_4 m h t) (tables m 0) (tables m 1) (tables m 2) (iblk m h c (0 : Fin 5) t) (iblk m h c (1 : Fin 5) t) (iblk m h c (2 : Fin 5) t) (iblk m h c (3 : Fin 5) t) a0 a1 a2 hc hc2 hc3)
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      isplitl [H4]; · iexists _; iexact H4
      isplitl [HS0]; · iexact HS0
      isplitl [HS1]; · iexact HS1
      isplitl [HS2]; · iexact HS2
      iintro ⟨H0, H1, H2, H3, HT0, HT1, HT2, H4, ⟨%b0, %hb0, HS0⟩, ⟨%b1, %hb1, HS1⟩, ⟨%b2, %hb2, HS2⟩⟩
      isplitl [HS0 HS1 HS2 HT0 HT1 HT2 HP]
      · isplitl [HS0]
        · iexists b0; isplitr; swap
          · iexact HS0
          · ipureintro; intro b hb hu; rw [hblk b hb, hb0, iblk_1]
        isplitl [HS1]
        · iexists b1; isplitr; swap
          · iexact HS1
          · ipureintro; intro b hb hu; rw [hblk b hb, hb1, iblk_2]
        isplitl [HS2]
        · iexists b2; isplitr; swap
          · iexact HS2
          · ipureintro; intro b hb hu; rw [hblk b hb, hb2, iblk_3]
        isplitl [HT0]; · iexact HT0
        isplitl [HT1]; · iexact HT1
        isplitl [HT2]; · iexact HT2
        iexact HP
      isplitl [Ho]; · iexact Ho
      isplitl [H0]; · iexact H0
      isplitl [H1]; · iexact H1
      isplitl [H2]; · iexact H2
      isplitl [H3]; · iexact H3
      rw [hout, wordV_eq, iblk_0, iblk_1, iblk_2, iblk_3]
      iexact H4

    · have hne : ¬((crd m h t 0).val = 0 ∨ wordE (crd m h t) (tables m 0) ≠ wordP (crd m h t) (tables m 0)) := fun hx =>
        hc ((refill_iff _ _ _ _).mpr ⟨by rw [wordN_eq]; exact hun, hx⟩)
      have hne := not_or.mp hne
      have ht0 : t.val ≠ 0 := fun hx => hne.1 (hbt.trans hx)
      have hlt := pt_lt m h t
      let p : Fin 224 := ⟨t.val - 1, by omega⟩
      have hpt : p.val + 1 = t.val := by show t.val - 1 + 1 = t.val; omega
      have hex : expert m (block (crd m h t)) = expert m p := by
        have := Decidable.not_not.mp hne.2
        rw [wordE_eq, wordP_eq m _ p (hbt.trans hpt.symm)] at this; exact this
      have hwho : who m h (block (crd m h t)) = who m h p := by
        unfold who; apply Fin.ext; show (expert m (block (crd m h t))).toNat = (expert m p).toNat; rw [hex]
      have hup : usedAt m p.val := used_before m p.val (by omega) (by rw [hpt, ← hbt]; exact hun)
      iapply (body_keep c (crd m h t) (ms0_0 m h t) (hs0_0 m h t) (ms0_1 m h t) (hs0_1 m h t) (ms0_2 m h t) (hs0_2 m h t) (ms0_3 m h t) (hs0_3 m h t) (ms0_4 m h t) (hs0_4 m h t) (tables m 0) (tables m 1) (tables m 2) (iblk m h c (0 : Fin 5) t) (iblk m h c (1 : Fin 5) t) (iblk m h c (2 : Fin 5) t) (iblk m h c (3 : Fin 5) t) a0 a1 a2 hc hc2 hc3)
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      isplitl [H4]; · iexists _; iexact H4
      isplitl [HS0]; · iexact HS0
      isplitl [HS1]; · iexact HS1
      isplitl [HS2]; · iexact HS2
      iintro ⟨H0, H1, H2, H3, HT0, HT1, HT2, H4, ⟨%b0, %hb0, HS0⟩, ⟨%b1, %hb1, HS1⟩, ⟨%b2, %hb2, HS2⟩⟩
      isplitl [HS0 HS1 HS2 HT0 HT1 HT2 HP]
      · isplitl [HS0]
        · iexists b0; isplitr; swap
          · iexact HS0
          · ipureintro; intro b hb hu; rw [hb0, hblk b hb, hwho]; exact ha0 p hpt hup
        isplitl [HS1]
        · iexists b1; isplitr; swap
          · iexact HS1
          · ipureintro; intro b hb hu; rw [hb1, hblk b hb, hwho]; exact ha1 p hpt hup
        isplitl [HS2]
        · iexists b2; isplitr; swap
          · iexact HS2
          · ipureintro; intro b hb hu; rw [hb2, hblk b hb, hwho]; exact ha2 p hpt hup
        isplitl [HT0]; · iexact HT0
        isplitl [HT1]; · iexact HT1
        isplitl [HT2]; · iexact HT2
        iexact HP
      isplitl [Ho]; · iexact Ho
      isplitl [H0]; · iexact H0
      isplitl [H1]; · iexact H1
      isplitl [H2]; · iexact H2
      isplitl [H3]; · iexact H3
      rw [hout, wordV_eq, iblk_0, ha0 p hpt hup, ha1 p hpt hup, ha2 p hpt hup, ← hwho]
      iexact H4

  · have hf : (BitVec.ofNat 32 (crd m h t 0).val).slt (count m) = false := Bool.eq_false_iff.mpr hun
    have hc2 : ¬k0_cond2 (crd m h t) (wordN (tables m 2)) = 1#1 := by rw [wordN_eq]; exact fun hx => hun ((cond2_iff _ _).mp hx)
    have hc3 : k0_cond3 (crd m h t) (wordN (tables m 2)) = 1#1 := by rw [wordN_eq]; exact (cond3_iff _ _).mpr hf
    have hc : ¬refill (crd m h t) (wordN (tables m 2)) (wordE (crd m h t) (tables m 0)) (wordP (crd m h t) (tables m 0)) = 1#1 := by
      rw [wordN_eq]; exact fun hx => hun ((refill_iff _ _ _ _).mp hx).1
    have hout : outAt m h c (block (crd m h t)) = unused := if_neg hun
    iapply (body_rest c (crd m h t) (ms0_0 m h t) (hs0_0 m h t) (ms0_1 m h t) (hs0_1 m h t) (ms0_2 m h t) (hs0_2 m h t) (ms0_3 m h t) (hs0_3 m h t) (ms0_4 m h t) (hs0_4 m h t) (tables m 0) (tables m 1) (tables m 2) (iblk m h c (0 : Fin 5) t) (iblk m h c (1 : Fin 5) t) (iblk m h c (2 : Fin 5) t) (iblk m h c (3 : Fin 5) t) a0 a1 a2 hc hc2 hc3)
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [H4]; · iexists _; iexact H4
    isplitl [HS0]; · iexact HS0
    isplitl [HS1]; · iexact HS1
    isplitl [HS2]; · iexact HS2
    iintro ⟨H0, H1, H2, H3, HT0, HT1, HT2, H4, ⟨%b0, %hb0, HS0⟩, ⟨%b1, %hb1, HS1⟩, ⟨%b2, %hb2, HS2⟩⟩
    isplitl [HS0 HS1 HS2 HT0 HT1 HT2 HP]
    · isplitl [HS0]
      · iexists b0; isplitr; swap
        · iexact HS0
        · ipureintro; intro b hb hu; rw [hblk b hb] at hu; exact absurd hu hun
      isplitl [HS1]
      · iexists b1; isplitr; swap
        · iexact HS1
        · ipureintro; intro b hb hu; rw [hblk b hb] at hu; exact absurd hu hun
      isplitl [HS2]
      · iexists b2; isplitr; swap
        · iexact HS2
        · ipureintro; intro b hb hu; rw [hblk b hb] at hu; exact absurd hu hun
      isplitl [HT0]; · iexact HT0
      isplitl [HT1]; · iexact HT1
      isplitl [HT2]; · iexact HT2
      iexact HP
    isplitl [Ho]; · iexact Ho
    isplitl [H0]; · iexact H0
    isplitl [H1]; · iexact H1
    isplitl [H2]; · iexact H2
    isplitl [H3]; · iexact H3
    rw [hout]
    iexact H4

/-- The body table's row at point `t` is the body there. -/
theorem defs₀_row (t : Fin (cfgA m h).N) : defs₀ (F := Bits) .tc (cfgA m h).body ((cfgA m h).bodyArgs t ((cfgA m h).slots t)) = bodyAt0 m h t := by
  unfold defs₀; rw [Defs.onTc_tc]

/-- The pipeline's obligation at every point. -/
theorem body_obligation (c : Dev nD) : BodyObligation (dats m h 0 c) (defs₀ (F := Bits)) Variants.none () Set.univ := fun t => by
  rw [bigSep_W0]
  exact sound_body m h c t

end Cert.Kernel2.Ffn

end
-- ==== Proof.FfnRun.lean ====
/- The whole program's run, and what it leaves. -/
module

public import proofs.«01_k».proof.Proof.FfnPoint
public import Idealize.ShloMosaic.Lib.Pipeline.Frame
public import Idealize.ShloMosaic.Lib.Claim

@[expose] public section

set_option maxRecDepth 16384

noncomputable section

namespace Cert.Kernel2.Ffn

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable [Cert.Pre_experts_exist.Facts]
variable (m : (ℓ : Loc nD τ sig) → Buf (Elt Bits) ℓ) (h : Cert.Pre_Kernel2 m) (ρ : Dev nD → PrngReg)

/-- The tables as the region is handed them. -/
theorem prefHeld_eq (c : Dev nD) (q : Fin 3 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_v13) ↦{q 0} v 0) ∗ (((c : Thread nD τ).loc main_arg2) ↦{q 1} v 1) ∗ (((c : Thread nD τ).loc main_arg3) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The state before the first point, from the scratches and the tables, -/
theorem phi0_intro (c : Dev nD) : iprop(Pipeline.ΦA spec0 c ∗ Pipeline.ΦT pre0 (tables m) c) ⊢ (dats m h 0 c).Φ 0 := by
  unfold Pipeline.ΦA
  rw [show (Pipeline.ΦT pre0 (tables m) c : sProp 𝕄) = _ from prefHeld_eq c (fun _ => fullShare.right) (tables m), scopedRest0_eq, show (dats m h 0 c).Φ 0 = Phi m h c 0 from rfl]
  unfold Phi
  iintro ⟨⟨⟨⟨%a0, HS0⟩, ⟨%a1, HS1⟩, ⟨%a2, HS2⟩⟩, HP⟩, HT0, HT1, HT2⟩
  isplitl [HS0]
  · iexists a0; isplitr; swap
    · iexact HS0
    · ipureintro; intro b hb; exact absurd hb (Nat.succ_ne_zero _)
  isplitl [HS1]
  · iexists a1; isplitr; swap
    · iexact HS1
    · ipureintro; intro b hb; exact absurd hb (Nat.succ_ne_zero _)
  isplitl [HS2]
  · iexists a2; isplitr; swap
    · iexact HS2
    · ipureintro; intro b hb; exact absurd hb (Nat.succ_ne_zero _)
  isplitl [HT0]; · iexact HT0
  isplitl [HT1]; · iexact HT1
  isplitl [HT2]; · iexact HT2
  iexact HP

/-- and the scratches back after the last. -/
theorem phiN_exit (c : Dev nD) : (dats m h 0 c).Φ (Fin.last (cfgA m h).N) ⊢ Pipeline.ΦA spec0 c := by
  unfold Pipeline.ΦA
  rw [scopedRest0_eq, show (dats m h 0 c).Φ (Fin.last (cfgA m h).N) = Phi m h c (Fin.last _) from rfl]
  unfold Phi
  iintro ⟨⟨%a0, -, HS0⟩, ⟨%a1, -, HS1⟩, ⟨%a2, -, HS2⟩, -, -, -, HP⟩
  isplitl [HS0 HS1 HS2]
  · isplitl [HS0]
    · iexists a0; iexact HS0
    isplitl [HS1]
    · iexists a1; iexact HS1
    iexists a2; iexact HS2
  iexact HP

theorem hostOps0_fresh : (hostOps0 : List (HloOp τ sig (Elt Bits))).Forall fun op => op.fresh = ∅ := by
  simp only [List.Forall]; repeat' constructor

set_option backward.isDefEq.respectTransparency.types false in
/-- Every weakly fair execution ends with each array as its write-backs left it and every counter at zero. -/
theorem run_main : θ_run (defs (F := Bits)) (onTc (τ := τ) (main (F := Bits))) (s₀ m ρ)
    (fun r => Pipeline.FramePost (pcs m h) (dats m h) 0 (V m) r ∧ r.2.sem = fun _ => 0) :=
  Pipeline.θ_run_frameP_track (pcfgs (F := Bits)) (fun _ => adm m h) (dats m h) (0 : Fin 1) launch0 defs₀ Variants.none m ρ main
    (hbody := fun c => (body_obligation m h c).loose) (hshare := fun c => (dats m h 0 c).share_full fun _ => rfl)
    (howed := fun _ _ => rfl) (V := V m)
    (hmain := Pipeline.hmainP_prefix (pcfgs (F := Bits)) 0 defs₀ Variants.none m main hostOps0 hostOps0_sub hostOps0_fresh main_chain)
    (hA := fun _ _ => rfl) (hpf := fun c k => by rw [Subsingleton.elim c 0]; rfl)
    (hin := phi0_intro m h) (hout := phiN_exit m h)
    (Q' := fun r => Pipeline.FramePost (pcs m h) (dats m h) 0 (V m) r ∧ r.2.sem = fun _ => 0)

theorem arr_ne (b : Ref sig .tc) (hb : ∀ w : Fin 5, (spec0 w).arr.view.ref ≠ b) (w : Fin (cfgA m h).W) : ((cfgA m h).spec w).arr.view.ref ≠ b := hb w

/-- The arguments end as they were. -/
theorem unchanged (c : Dev nD) (r : PUnit × MemSt nD τ sig (Elt Bits)) (hr : Pipeline.FramePost (pcs m h) (dats m h) 0 (V m) r) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) :=
  ⟨((hr c).1 (0 : Fin 5)).trans (((dats m h 0 c).arrAt_in (0 : Fin 5) rfl _).trans (V_main_arg0 m c)),
    ((hr c).2 main_arg1 (Pipeline.mem_restRefs_of main_arg1 rfl (arr_ne m h main_arg1 (by decide)))).trans (V_main_arg1 m c),
    ((hr c).2 main_arg2 (Pipeline.mem_restRefs_of main_arg2 rfl (arr_ne m h main_arg2 (by decide)))).trans (V_main_arg2 m c),
    ((hr c).2 main_arg3 (Pipeline.mem_restRefs_of main_arg3 rfl (arr_ne m h main_arg3 (by decide)))).trans (V_main_arg3 m c),
    ((hr c).1 (1 : Fin 5)).trans (((dats m h 0 c).arrAt_in (1 : Fin 5) rfl _).trans (V_main_arg4 m c)),
    ((hr c).1 (2 : Fin 5)).trans (((dats m h 0 c).arrAt_in (2 : Fin 5) rfl _).trans (V_main_arg5 m c)),
    ((hr c).1 (3 : Fin 5)).trans (((dats m h 0 c).arrAt_in (3 : Fin 5) rfl _).trans (V_main_arg6 m c))⟩

/-- The result: block `b` of it is the block stored at point `b`. -/
def outArr (c : Dev nD) : Vec Bits S2x229376x256 .i32 := fun j =>
  outAt m h c ⟨(j 1).val / 1024, by have : (j 1).val < 229376 := (j 1).isLt; omega⟩ (ix3 (j 0) ⟨(j 1).val % 1024, by omega⟩ (j 2))

theorem index_4 (t : Fin (cfgA m h).N) : ((cfgA m h).win (4 : Fin 5)).index t = ![0, t.val, 0] := by
  show ![0, (BitVec.ofNat 32 (crd m h t 0).val).toNat, 0] = _
  rw [crd_val]
  have := pt_lt m h t
  rw [BitVec.toNat_ofNat, Nat.mod_eq_of_lt (by omega)]

theorem flushed_4 (c : Dev nD) (t : Fin (cfgA m h).N) :
    (dats m h 0 c).flushed (4 : Fin 5) t = (((cfgA m h).win (4 : Fin 5)).blk t).view.read (Elt Bits) (outArr m h c) := by
  show ((cfgA m h).win (4 : Fin 5)).cut (crd m h t) ((dats m h 0 c).after (4 : Fin 5) t) = _
  rw [after0_4]
  funext y
  show outAt m h c (block (crd m h t)) y = outArr m h c ((((cfgA m h).win (4 : Fin 5)).rect t).emb y)
  have e := index_4 m h t
  have hl := pt_lt m h t
  have h1 : (y (1 : Fin 3)).val < 1024 := (y (1 : Fin 3)).isLt
  have e0 : ((((cfgA m h).win (4 : Fin 5)).rect t).emb y (0 : Fin 3)).val = (y (0 : Fin 3)).val :=
    Window.rect_emb_val_of_index_zero ((cfgA m h).win (4 : Fin 5)) t (0 : Fin 3) (congrFun e (0 : Fin 3)) y
  have e1 : ((((cfgA m h).win (4 : Fin 5)).rect t).emb y (1 : Fin 3)).val = t.val * 1024 + (y (1 : Fin 3)).val :=
    (Window.rect_emb_val ((cfgA m h).win (4 : Fin 5)) t y (1 : Fin 3)).trans (by
      rw [show ((cfgA m h).win (4 : Fin 5)).index t (1 : Fin 3) = t.val from congrFun e (1 : Fin 3)]; rfl)
  have e2 : ((((cfgA m h).win (4 : Fin 5)).rect t).emb y (2 : Fin 3)).val = (y (2 : Fin 3)).val :=
    Window.rect_emb_val_of_index_zero ((cfgA m h).win (4 : Fin 5)) t (2 : Fin 3) (congrFun e (2 : Fin 3)) y
  unfold outArr
  congr 1
  · refine Fin.ext ((crd_val m h t).trans ?_)
    show t.val = ((((cfgA m h).win (4 : Fin 5)).rect t).emb y (1 : Fin 3)).val / 1024
    rw [e1]; omega
  · funext a
    match a with
    | ⟨0, _⟩ => exact Fin.ext e0.symm
    | ⟨1, _⟩ => exact Fin.ext (by
        show (y (1 : Fin 3)).val = ((((cfgA m h).win (4 : Fin 5)).rect t).emb y (1 : Fin 3)).val % 1024
        rw [e1]; omega)
    | ⟨2, _⟩ => exact Fin.ext e2.symm

/-- Every point writes its block back: the next point's is another. -/
theorem flush_4 (t : Fin (cfgA m h).N) : ((cfgA m h).win (4 : Fin 5)).flush t = true := by
  have e := index_4 m h t
  have hl := pt_lt m h t
  show ((cfgA m h).win (4 : Fin 5)).flush t = true
  unfold Window.flush
  rw [Bool.and_eq_true, Bool.or_eq_true, decide_eq_true_eq, decide_eq_true_eq]
  refine ⟨rfl, ?_⟩
  by_cases hn : t.val + 1 = (cfgA m h).N
  · exact Or.inl hn
  · refine Or.inr ⟨by have := t.isLt; have : (cfgA m h).N = (cfgA m h).grid.N := rfl; omega, fun he => ?_⟩
    rw [e, index_4] at he
    exact absurd (congrFun he 1) (by show ¬(t.val + 1 = t.val); omega)

theorem cover_4 (i : S2x229376x256.Idx) : ∃ t : Fin (cfgA m h).N, ((cfgA m h).win (4 : Fin 5)).flush t = true ∧ i ∈ (((cfgA m h).win (4 : Fin 5)).blk t).view.set := by
  have h1 : (i 1 : Nat) < 229376 := (i 1).isLt
  have h0 : (i 0 : Nat) < 2 := (i 0).isLt
  have h2 : (i 2 : Nat) < 256 := (i 2).isLt
  have hN : (cfgA m h).N = 224 := N_0
  have hd : (i 1).val / 1024 < (cfgA m h).N := by omega
  refine ⟨⟨(i 1).val / 1024, hd⟩, flush_4 m h _, ?_⟩
  refine (View.set_slice_whole main_v14 (((cfgA m h).win (4 : Fin 5)).rect ⟨(i 1).val / 1024, hd⟩)).symm ▸ (Rect.mem_set_unit ..).mpr ?_
  intro a
  have e := index_4 m h ⟨(i 1).val / 1024, hd⟩
  match a with
  | ⟨0, _⟩ =>
    show ((cfgA m h).win (4 : Fin 5)).index _ (0 : Fin 3) * 2 ≤ (i 0 : Nat) ∧ (i 0 : Nat) < ((cfgA m h).win (4 : Fin 5)).index _ (0 : Fin 3) * 2 + 2
    rw [e]; show 0 * 2 ≤ _ ∧ _ < 0 * 2 + 2; omega
  | ⟨1, _⟩ =>
    show ((cfgA m h).win (4 : Fin 5)).index _ (1 : Fin 3) * 1024 ≤ (i 1 : Nat) ∧ (i 1 : Nat) < ((cfgA m h).win (4 : Fin 5)).index _ (1 : Fin 3) * 1024 + 1024
    rw [e]; show (i 1).val / 1024 * 1024 ≤ _ ∧ _ < (i 1).val / 1024 * 1024 + 1024; omega
  | ⟨2, _⟩ =>
    show ((cfgA m h).win (4 : Fin 5)).index _ (2 : Fin 3) * 256 ≤ (i 2 : Nat) ∧ (i 2 : Nat) < ((cfgA m h).win (4 : Fin 5)).index _ (2 : Fin 3) * 256 + 256
    rw [e]; show 0 * 256 ≤ _ ∧ _ < 0 * 256 + 256; omega

theorem arrAt_4 (c : Dev nD) : (dats m h 0 c).arrAt (4 : Fin 5) (cfgA m h).N = outArr m h c :=
  (dats m h 0 c).arrAt_eq_of_cover (4 : Fin 5) (outArr m h c) (fun t _ => flushed_4 m h c t) (cover_4 m h)

/-- The program ends with its arguments as they were, every counter at zero, and the result the blocks'. -/
theorem run_result : θ_run (defs (F := Bits)) (onTc (τ := τ) (main (F := Bits))) ⟨m, fun _ => 0, ρ⟩ (fun r => (∀ c : Dev nD,
      r.2.mem ((c.tc : Thread nD τ).loc main_v14) = outArr m h c ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6))
      ∧ r.2.sem = fun _ => 0) :=
  (θ_run defs _ _).mono (fun r hr => ⟨fun c => ⟨((hr.1 c).1 (4 : Fin 5)).trans (arrAt_4 m h c), unchanged m h c r hr.1⟩, hr.2⟩) (run_main m h ρ)

end Cert.Kernel2.Ffn

end
-- ==== Proof.RefBlocks.lean ====
/- What the reference's loop leaves: each row from its own block. -/
module

public import proofs.«01_k».proof.Proof.RefReads
public import Idealize.ShloMosaic.Lib.Pipeline.ValueKit

@[expose] public section

set_option maxRecDepth 16384

noncomputable section

namespace Cert.Reference2.Blocks

open Cert.Reference2 Cert.Reference2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

/-- Two stores at block `k`'s rows, one per chunk, in front of older ones: inside the block they are read, outside it the older ones are. -/
theorem canon_pair (k : ℕ) (o1 o0 : Fin 3 → ℕ) (h1 : o1 = ![1, 1024 * k, 0]) (h0 : o0 = ![0, 1024 * k, 0]) (i1 i0)
    (w1 w0 : Vec F S1x1024x256 .i32) (L : List (View.Piece (Elt F) S2x229376x256 .i32)) (y : S2x229376x256.Idx) :
    View.canon ((⟨Rect.unit (s := S2x229376x256) o1 S1x1024x256.size i1, w1⟩ : View.Piece (Elt F) S2x229376x256 .i32)
        :: ⟨Rect.unit (s := S2x229376x256) o0 S1x1024x256.size i0, w0⟩ :: L) y
      = if (y 1).val / 1024 = k then (if (y 0).val = 0 then w0 else w1) (ix3 (0 : Fin 1) (⟨(y 1).val % 1024, Nat.mod_lt _ (by decide)⟩ : Fin 1024) (y 2)) else View.canon L y := by
  subst h1 h0
  have b0 : (y 0).val < 2 := (y 0).isLt
  have b2 : (y 2).val < 256 := (y 2).isLt
  by_cases hk : (y 1).val / 1024 = k
  · rw [if_pos hk]
    by_cases hp : (y 0).val = 0
    · rw [if_pos hp, View.canon_cons_of_not_mem _ _ (by
        rw [Rect.mem_set_unit]; intro hm; have h0 := (hm 0).1; change 1 ≤ (y 0).val at h0; omega)]
      have e : y = (Rect.unit (s := S2x229376x256) ![0, 1024 * k, 0] S1x1024x256.size i0).emb (ix3 (0 : Fin 1) (⟨(y 1).val % 1024, Nat.mod_lt _ (by decide)⟩ : Fin 1024) (y 2)) := by
        refine funext fun a => Fin.ext ?_
        match a with
        | ⟨0, _⟩ => show (y 0).val = 0 + 1 * 0; omega
        | ⟨1, _⟩ => show (y 1).val = 1024 * k + 1 * ((y 1).val % 1024); omega
        | ⟨2, _⟩ => show (y 2).val = 0 + 1 * (y 2).val; omega
      conv_lhs => rw [e]
      exact View.canon_cons_emb _ _ _ _
    · rw [if_neg hp]
      have e : y = (Rect.unit (s := S2x229376x256) ![1, 1024 * k, 0] S1x1024x256.size i1).emb (ix3 (0 : Fin 1) (⟨(y 1).val % 1024, Nat.mod_lt _ (by decide)⟩ : Fin 1024) (y 2)) := by
        refine funext fun a => Fin.ext ?_
        match a with
        | ⟨0, _⟩ => show (y 0).val = 1 + 1 * 0; omega
        | ⟨1, _⟩ => show (y 1).val = 1024 * k + 1 * ((y 1).val % 1024); omega
        | ⟨2, _⟩ => show (y 2).val = 0 + 1 * (y 2).val; omega
      conv_lhs => rw [e]
      exact View.canon_cons_emb _ _ _ _
  · rw [if_neg hk, View.canon_cons_of_not_mem _ _ (by
        rw [Rect.mem_set_unit]; intro hm; have h := hm 1
        change 1024 * k ≤ (y 1).val ∧ (y 1).val < 1024 * k + 1024 at h; omega),
      View.canon_cons_of_not_mem _ _ (by
        rw [Rect.mem_set_unit]; intro hm; have h := hm 1
        change 1024 * k ≤ (y 1).val ∧ (y 1).val < 1024 * k + 1024 at h; omega)]

variable (c : Dev nD)
  (arg0 : Memref sig .tc .smem S224 .i32) (harg0 : arg0.IsWhole)
  (arg1 : Memref sig .tc .smem S224 .i32) (harg1 : arg1.IsWhole)
  (arg2 : Memref sig .tc .smem S1 .i32) (harg2 : arg2.IsWhole)
  (arg3 : Memref sig .tc .vmem S2x229376x256 .i32) (harg3 : arg3.IsWhole)
  (arg4 : Memref sig .tc .vmem S2x64x1024x256 .f32) (harg4 : arg4.IsWhole)
  (arg5 : Memref sig .tc .vmem S2x64x1024x256 .f32) (harg5 : arg5.IsWhole)
  (arg6 : Memref sig .tc .vmem S2x64x256x1024 .f32) (harg6 : arg6.IsWhole)
  (arg7 : Memref sig .tc .vmem S2x229376x256 .i32) (harg7 : arg7.IsWhole)
  (x0 : Vec F S224 .i32) (x1 : Vec F S224 .i32) (x2 : Vec F S1 .i32) (x3 : Vec F S2x229376x256 .i32) (x4 : Vec F S2x64x1024x256 .f32) (x5 : Vec F S2x64x1024x256 .f32) (x6 : Vec F S2x64x256x1024 .f32)

/-- The array of all blocks: row `1024 k + r` is row `r` of block `k`. -/
def blocks (hlt : ∀ i : S224.Idx, (x0 i : BitVec 32).toNat < 64) : Vec F S2x229376x256 .i32 := fun y =>
  let k : Fin 224 := ⟨(y 1).val / 1024, by have h : (y 1).val < 229376 := (y 1).isLt; omega⟩
  (if (y 0).val = 0 then left x1 x2 x3 x4 x5 x6 k ⟨(x0 (ix1 k) : BitVec 32).toNat, hlt _⟩ else right x1 x2 x3 x4 x5 x6 k ⟨(x0 (ix1 k) : BitVec 32).toNat, hlt _⟩)
    (ix3 (0 : Fin 1) (⟨(y 1).val % 1024, Nat.mod_lt _ (by decide)⟩ : Fin 1024) (y 2))

/-- After `n` blocks, their rows hold them. -/
theorem loop_holds (hwL : (∀ (kq : ℕ) (hkq : kq < k0_t1_loop.trips), k0_chk1 (arg0.view.readAt (Elt F) (Rect.unit (s := S224) (k0_off1 ⟨kq, hkq⟩) S1.size (k0_off1_inb ⟨kq, hkq⟩)).toLoadRect (harg0.unread x0) (Shape.Idx.first (numel1_S1.symm ▸ Nat.one_pos))))) (hlt : ∀ i : S224.Idx, (x0 i : BitVec 32).toNat < 64) : ∀ n : ℕ, n ≤ k0_t1_loop.trips → ∀ y : S2x229376x256.Idx, (y 1).val / 1024 < n →
    View.canon (pb_k0_t1 Variants.none c none arg0 harg0 arg1 harg1 arg2 harg2 arg3 harg3 arg4 harg4 arg5 harg5 arg6 harg6 arg7 harg7 (harg0.unread x0) (harg1.unread x1) (harg2.unread x2) (harg3.unread x3) (harg4.unread x4) (harg5.unread x5) (harg6.unread x6) hwL n) y = blocks x0 x1 x2 x3 x4 x5 x6 hlt y
  | 0, _, _, h => absurd h (Nat.not_lt_zero _)
  | n + 1, hn, y, h => by
    have hb : n < 224 := trips_eq ▸ hn
    rw [pb_k0_t1_succ Variants.none c none arg0 harg0 arg1 harg1 arg2 harg2 arg3 harg3 arg4 harg4 arg5 harg5 arg6 harg6 arg7 harg7 (harg0.unread x0) (harg1.unread x1) (harg2.unread x2) (harg3.unread x3) (harg4.unread x4) (harg5.unread x5) (harg6.unread x6) hwL ⟨n, hn⟩,
      trip_stores c arg0 harg0 arg1 harg1 arg2 harg2 arg3 harg3 arg4 harg4 arg5 harg5 arg6 harg6 arg7 harg7 x0 x1 x2 x3 x4 x5 x6 ⟨n, hn⟩ hb ⟨(x0 (ix1 ⟨n, hb⟩) : BitVec 32).toNat, hlt _⟩ rfl, List.cons_append, List.cons_append, List.nil_append,
      canon_pair n _ _ (k0_off7_eq _) (k0_off6_eq _)]
    by_cases e : (y 1).val / 1024 = n
    · rw [if_pos e]
      subst e
      rfl
    · rw [if_neg e]
      exact loop_holds hwL hlt n (Nat.le_of_succ_le hn) y (by omega)

/-- What the reference's body leaves in its result's buffer. -/
theorem out_eq (hwL : (∀ (kq : ℕ) (hkq : kq < k0_t1_loop.trips), k0_chk1 (arg0.view.readAt (Elt F) (Rect.unit (s := S224) (k0_off1 ⟨kq, hkq⟩) S1.size (k0_off1_inb ⟨kq, hkq⟩)).toLoadRect (harg0.unread x0) (Shape.Idx.first (numel1_S1.symm ▸ Nat.one_pos))))) (hlt : ∀ i : S224.Idx, (x0 i : BitVec 32).toNat < 64) : out0_A_7 c arg0 harg0 arg1 harg1 arg2 harg2 arg3 harg3 arg4 harg4 arg5 harg5 arg6 harg6 arg7 harg7 x0 x1 x2 x3 x4 x5 x6 hwL = blocks x0 x1 x2 x3 x4 x5 x6 hlt := by
  unfold out0_A_7
  rw [View.read_writes_junk_eq_canon]
  refine funext fun y => ?_
  refine Eq.trans ?_ (loop_holds c arg0 harg0 arg1 harg1 arg2 harg2 arg3 harg3 arg4 harg4 arg5 harg5 arg6 harg6 arg7 harg7 x0 x1 x2 x3 x4 x5 x6 hwL hlt k0_t1_loop.trips (Nat.le_refl _) y ?_)
  · rfl
  · rw [trips_eq]; have h : (y 1).val < 229376 := (y 1).isLt; omega

end Cert.Reference2.Blocks

end
-- ==== Proof.RefRun.lean ====
/- The reference's run, and the array it leaves. -/
module

public import proofs.«01_k».proof.Proof.RefBlocks
public import Idealize.ShloMosaic.Lib.Pipeline.Value
public import Idealize.ShloMosaic.Lib.Pipeline.ValueKit

@[expose] public section

set_option maxRecDepth 16384

noncomputable section

namespace Cert.Reference2.Blocks

open Cert.Reference2 Cert.Reference2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Bits) ℓ) (ρ : Dev nD → PrngReg)

/-- Every block's expert is one of the 64. -/
def Experts : Prop := ∀ (c : Dev nD) (i : S224.Idx), (m (c.tc.loc main_arg1) i : BitVec 32).toNat < 64

/-- A window that is its whole array holds it. -/
theorem iblk_0 (c : Dev nD) (t : Fin cfg0.N) : iblk m c 0 t = (m (c.tc.loc main_arg1) : Vec Bits S224 .i32) := by
  refine funext fun y => ?_
  show m (c.tc.loc main_arg1) (((cfg0.win 0).rect t).emb y) = m (c.tc.loc main_arg1) y
  refine congrArg (m (c.tc.loc main_arg1)) (funext fun a => Fin.ext ?_)
  match a with
  | ⟨0, _⟩ => exact Window.rect_emb_val_of_index_zero (cfg0.win 0) t (0 : Fin 1) rfl y

theorem iblk_1 (c : Dev nD) (t : Fin cfg0.N) : iblk m c 1 t = (m (c.tc.loc main_arg2) : Vec Bits S224 .i32) := by
  refine funext fun y => ?_
  show m (c.tc.loc main_arg2) (((cfg0.win 1).rect t).emb y) = m (c.tc.loc main_arg2) y
  refine congrArg (m (c.tc.loc main_arg2)) (funext fun a => Fin.ext ?_)
  match a with
  | ⟨0, _⟩ => exact Window.rect_emb_val_of_index_zero (cfg0.win 1) t (0 : Fin 1) rfl y

theorem iblk_2 (c : Dev nD) (t : Fin cfg0.N) : iblk m c 2 t = (m (c.tc.loc main_arg3) : Vec Bits S1 .i32) := by
  refine funext fun y => ?_
  show m (c.tc.loc main_arg3) (((cfg0.win 2).rect t).emb y) = m (c.tc.loc main_arg3) y
  refine congrArg (m (c.tc.loc main_arg3)) (funext fun a => Fin.ext ?_)
  match a with
  | ⟨0, _⟩ => exact Window.rect_emb_val_of_index_zero (cfg0.win 2) t (0 : Fin 1) rfl y

theorem iblk_3 (c : Dev nD) (t : Fin cfg0.N) : iblk m c 3 t = (m (c.tc.loc main_arg0) : Vec Bits S2x229376x256 .i32) := by
  refine funext fun y => ?_
  show m (c.tc.loc main_arg0) (((cfg0.win 3).rect t).emb y) = m (c.tc.loc main_arg0) y
  refine congrArg (m (c.tc.loc main_arg0)) (funext fun a => Fin.ext ?_)
  match a with
  | ⟨0, _⟩ => exact Window.rect_emb_val_of_index_zero (cfg0.win 3) t (0 : Fin 3) rfl y
  | ⟨1, _⟩ => exact Window.rect_emb_val_of_index_zero (cfg0.win 3) t (1 : Fin 3) rfl y
  | ⟨2, _⟩ => exact Window.rect_emb_val_of_index_zero (cfg0.win 3) t (2 : Fin 3) rfl y

theorem iblk_4 (c : Dev nD) (t : Fin cfg0.N) : iblk m c 4 t = (m (c.tc.loc main_arg4) : Vec Bits S2x64x1024x256 .f32) := by
  refine funext fun y => ?_
  show m (c.tc.loc main_arg4) (((cfg0.win 4).rect t).emb y) = m (c.tc.loc main_arg4) y
  refine congrArg (m (c.tc.loc main_arg4)) (funext fun a => Fin.ext ?_)
  match a with
  | ⟨0, _⟩ => exact Window.rect_emb_val_of_index_zero (cfg0.win 4) t (0 : Fin 4) rfl y
  | ⟨1, _⟩ => exact Window.rect_emb_val_of_index_zero (cfg0.win 4) t (1 : Fin 4) rfl y
  | ⟨2, _⟩ => exact Window.rect_emb_val_of_index_zero (cfg0.win 4) t (2 : Fin 4) rfl y
  | ⟨3, _⟩ => exact Window.rect_emb_val_of_index_zero (cfg0.win 4) t (3 : Fin 4) rfl y

theorem iblk_5 (c : Dev nD) (t : Fin cfg0.N) : iblk m c 5 t = (m (c.tc.loc main_arg5) : Vec Bits S2x64x1024x256 .f32) := by
  refine funext fun y => ?_
  show m (c.tc.loc main_arg5) (((cfg0.win 5).rect t).emb y) = m (c.tc.loc main_arg5) y
  refine congrArg (m (c.tc.loc main_arg5)) (funext fun a => Fin.ext ?_)
  match a with
  | ⟨0, _⟩ => exact Window.rect_emb_val_of_index_zero (cfg0.win 5) t (0 : Fin 4) rfl y
  | ⟨1, _⟩ => exact Window.rect_emb_val_of_index_zero (cfg0.win 5) t (1 : Fin 4) rfl y
  | ⟨2, _⟩ => exact Window.rect_emb_val_of_index_zero (cfg0.win 5) t (2 : Fin 4) rfl y
  | ⟨3, _⟩ => exact Window.rect_emb_val_of_index_zero (cfg0.win 5) t (3 : Fin 4) rfl y

theorem iblk_6 (c : Dev nD) (t : Fin cfg0.N) : iblk m c 6 t = (m (c.tc.loc main_arg6) : Vec Bits S2x64x256x1024 .f32) := by
  refine funext fun y => ?_
  show m (c.tc.loc main_arg6) (((cfg0.win 6).rect t).emb y) = m (c.tc.loc main_arg6) y
  refine congrArg (m (c.tc.loc main_arg6)) (funext fun a => Fin.ext ?_)
  match a with
  | ⟨0, _⟩ => exact Window.rect_emb_val_of_index_zero (cfg0.win 6) t (0 : Fin 4) rfl y
  | ⟨1, _⟩ => exact Window.rect_emb_val_of_index_zero (cfg0.win 6) t (1 : Fin 4) rfl y
  | ⟨2, _⟩ => exact Window.rect_emb_val_of_index_zero (cfg0.win 6) t (2 : Fin 4) rfl y
  | ⟨3, _⟩ => exact Window.rect_emb_val_of_index_zero (cfg0.win 6) t (3 : Fin 4) rfl y

/-- The loads of an expert's weights are inside the arrays. -/
theorem inside (w : BitVec 32) (hw : w.toNat < 64) : k0_chk1 w := by
  unfold k0_chk1
  constructor
  · intro a
    match a with
    | ⟨0, _⟩ => show 0 + 1 ≤ 2; omega
    | ⟨1, _⟩ => show w.toNat + 1 ≤ 64; omega
    | ⟨2, _⟩ => show 0 + 1024 ≤ 1024; omega
    | ⟨3, _⟩ => show 0 + 256 ≤ 256; omega
  · intro a
    match a with
    | ⟨0, _⟩ => show 0 + 1 ≤ 2; omega
    | ⟨1, _⟩ => show w.toNat + 1 ≤ 64; omega
    | ⟨2, _⟩ => show 0 + 256 ≤ 256; omega
    | ⟨3, _⟩ => show 0 + 1024 ≤ 1024; omega

theorem hyps (h : Experts m) : Hyps m := Hyps.of fun c t kq hkq => by
  rw [word_read (ms0_0 t) (hs0_0 t) (iblk m c 0 t) ⟨kq, trips_eq ▸ hkq⟩ _ (k0_off1_eq ⟨kq, hkq⟩), iblk_0]
  exact inside _ (h c _)

/-- The array the reference leaves. -/
def result (h : Experts m) (c : Dev nD) : Vec Bits S2x229376x256 .i32 :=
  blocks (m (c.tc.loc main_arg1)) (m (c.tc.loc main_arg2)) (m (c.tc.loc main_arg3)) (m (c.tc.loc main_arg0)) (m (c.tc.loc main_arg4)) (m (c.tc.loc main_arg5)) (m (c.tc.loc main_arg6)) (h c)

theorem outs_eq (h : Experts m) (c : Dev nD) (t : Fin cfg0.N) : outsAt0 m (hyps m h) c t = result m h c := by
  have hlt : ∀ i : S224.Idx, (iblk m c 0 t i : BitVec 32).toNat < 64 := fun i => by rw [iblk_0]; exact h c i
  unfold outsAt0
  rw [out_eq (F := Bits) (hlt := hlt)]
  unfold result
  congr 1
  · exact iblk_0 m c t
  · exact iblk_1 m c t
  · exact iblk_2 m c t
  · exact iblk_3 m c t
  · exact iblk_4 m c t
  · exact iblk_5 m c t
  · exact iblk_6 m c t

theorem emb_7 (t : Fin cfg0.N) (y : S2x229376x256.Idx) : ((cfg0.win 7).rect t).emb y = y := by
  refine funext fun a => Fin.ext ?_
  match a with
  | ⟨0, _⟩ => exact Window.rect_emb_val_of_index_zero (cfg0.win 7) t (0 : Fin 3) rfl y
  | ⟨1, _⟩ => exact Window.rect_emb_val_of_index_zero (cfg0.win 7) t (1 : Fin 3) rfl y
  | ⟨2, _⟩ => exact Window.rect_emb_val_of_index_zero (cfg0.win 7) t (2 : Fin 3) rfl y

theorem flushed_7 (h : Experts m) (c : Dev nD) (t : Fin cfg0.N) :
    (dats m (hyps m h) 0 c).flushed 7 t = ((cfg0.win 7).blk t).view.read (Elt Bits) (result m h c) := by
  show (cfg0.win 7).cut (cfg0.grid.coords t) ((dats m (hyps m h) 0 c).after 7 t) = _
  rw [after0_7, outs_eq]
  refine funext fun y => ?_
  show result m h c y = result m h c (((cfg0.win 7).rect t).emb y)
  exact congrArg (result m h c) (emb_7 t y).symm

theorem cover_7 (i : S2x229376x256.Idx) : ∃ t : Fin cfg0.N, (cfg0.win 7).flush t = true ∧ i ∈ ((cfg0.win 7).blk t).view.set := by
  refine ⟨t0_0, flush0_7 _, ?_⟩
  refine (View.set_slice_whole main_v0 ((cfg0.win 7).rect t0_0)).symm ▸ (Rect.mem_set_unit ..).mpr ?_
  intro a
  have h0 : (i 0 : Nat) < 2 := (i 0).isLt
  have h1 : (i 1 : Nat) < 229376 := (i 1).isLt
  have h2 : (i 2 : Nat) < 256 := (i 2).isLt
  match a with
  | ⟨0, _⟩ => show 0 * 2 ≤ (i 0 : Nat) ∧ (i 0 : Nat) < 0 * 2 + 2; omega
  | ⟨1, _⟩ => show 0 * 229376 ≤ (i 1 : Nat) ∧ (i 1 : Nat) < 0 * 229376 + 229376; omega
  | ⟨2, _⟩ => show 0 * 256 ≤ (i 2 : Nat) ∧ (i 2 : Nat) < 0 * 256 + 256; omega

theorem arrAt_7 (h : Experts m) (c : Dev nD) : (dats m (hyps m h) 0 c).arrAt 7 cfg0.N = result m h c :=
  (dats m (hyps m h) 0 c).arrAt_eq_of_cover 7 (result m h c) (fun t _ => flushed_7 m h c t) cover_7

/-- The reference ends with its arguments as they were and the result the blocks'. -/
theorem run_result (h : Experts m) : θ_run (defs (F := Bits)) (onTc (τ := τ) (main (F := Bits))) ⟨m, fun _ => 0, ρ⟩ (fun r => ∀ c : Dev nD,
      r.2.mem ((c.tc : Thread nD τ).loc main_v0) = result m h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r hr c => ⟨(hr.1 c).trans (arrAt_7 m h c), hr.2 c⟩)
    (θ_run_and ((θ_run defs _ _).mono (fun r hr c => (hr c).1 7) (run_main m ρ (hyps m h))) (unchanged m ρ (hyps m h)))

end Cert.Reference2.Blocks

end
-- ==== Proof.FfnArrays.lean ====
/- The expert FFN and its reference leave the same array. -/
module

public import proofs.«01_k».proof.Proof.FfnEqual
public import proofs.«01_k».proof.Proof.FfnRun
public import proofs.«01_k».proof.Proof.RefRun
public import Idealize.ShloMosaic.Lib.ReduceAll

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable [Cert.Pre_experts_exist.Facts]
variable (m : (ℓ : Loc Cert.Kernel2.nD Cert.Kernel2.τ Cert.Kernel2.sig) → Buf (Elt Bits) ℓ) (h : Cert.Pre_Kernel2 m)
variable (m' : (ℓ : Loc Cert.Reference2.nD Cert.Reference2.τ Cert.Reference2.sig) → Buf (Elt Bits) ℓ)

open Cert.Kernel2.Ffn Cert.Reference2.Blocks

/-- The precondition, of the reference's arguments. -/
theorem experts_of_pre (h : Cert.Pre_Reference2 m') : Experts m' := by
  intro c i
  have hc := congrFun (h c) (fun a => a.elim0)
  have := Host.reduce_andi_all _ _ _ _ _ hc i
  revert this
  generalize (m' ((c.tc : Thread Cert.Reference2.nD Cert.Reference2.τ).loc Cert.Reference2.main_arg1)) = T
  intro this
  change IntOp.andi (IntOp.cmpi .sge (T i) 0#32) (IntOp.cmpi .slt (T i) 64#32) = 1#1 at this
  unfold IntOp.andi IntOp.cmpi at this
  simp only [BitVec.slt_eq_decide, BitVec.sle_eq_decide] at this
  have h0 : (0#32 : BitVec 32).toInt = 0 := rfl
  have h64 : (64#32 : BitVec 32).toInt = 64 := rfl
  rw [h0, h64] at this
  have hT := BitVec.toInt_eq_toNat_cond (T i)
  have hT' := (T i).isLt
  by_cases h1 : (0 : Int) ≤ (T i).toInt
  · by_cases h2 : (T i).toInt < 64
    · split at hT <;> omega
    · rw [decide_eq_false h2] at this
      generalize decide ((0 : Int) ≤ (T i).toInt) = q at this
      cases q <;> exact absurd this (by decide)
  · rw [decide_eq_false h1] at this
    generalize decide ((T i).toInt < 64) = q at this
    cases q <;> exact absurd this (by decide)

/-- The chunks of a block of the kernel's rows are those of the reference's. -/
theorem chunk0_eq (k : Fin 224) : chunk0 (rowsAt m 0 k) = rows (m (((0 : Dev Cert.Kernel2.nD).tc : Thread Cert.Kernel2.nD Cert.Kernel2.τ).loc Cert.Kernel2.main_arg0)) k 0 := by
  refine funext fun y => congrArg (m (((0 : Dev Cert.Kernel2.nD).tc : Thread Cert.Kernel2.nD Cert.Kernel2.τ).loc Cert.Kernel2.main_arg0)) (funext fun a => Fin.ext ?_)
  have b0 : (y 0).val < 1 := (y 0).isLt
  match a with
  | ⟨0, _⟩ => show 0 + 1 * (y 0).val = 0; omega
  | ⟨1, _⟩ => show 1024 * k.val + (0 + 1 * (y 1).val) = 1024 * k.val + (y 1).val; omega
  | ⟨2, _⟩ => show 0 + 1 * (y 2).val = (y 2).val; omega

theorem chunk1_eq (k : Fin 224) : chunk1 (rowsAt m 0 k) = rows (m (((0 : Dev Cert.Kernel2.nD).tc : Thread Cert.Kernel2.nD Cert.Kernel2.τ).loc Cert.Kernel2.main_arg0)) k 1 := by
  refine funext fun y => congrArg (m (((0 : Dev Cert.Kernel2.nD).tc : Thread Cert.Kernel2.nD Cert.Kernel2.τ).loc Cert.Kernel2.main_arg0)) (funext fun a => Fin.ext ?_)
  have b0 : (y 0).val < 1 := (y 0).isLt
  match a with
  | ⟨0, _⟩ => show 1 + 1 * (y 0).val = 1; omega
  | ⟨1, _⟩ => show 1024 * k.val + (0 + 1 * (y 1).val) = 1024 * k.val + (y 1).val; omega
  | ⟨2, _⟩ => show 0 + 1 * (y 2).val = (y 2).val; omega

/-- A used block is fed its own rows -/
theorem rowsOf_used (k : Fin 224) (hu : usedAt m k.val) : blockOf (BitVec.ofNat 32 k.val) (count m) = BitVec.ofNat 32 k.val := by
  have hk : (BitVec.ofNat 32 k.val).toNat < 224 := by rw [BitVec.toNat_ofNat, Nat.mod_eq_of_lt (by omega)]; exact k.isLt
  refine blockOf_used _ _ hk ?_
  have := hu
  unfold usedAt at this
  rwa [BitVec.slt_eq_decide, decide_eq_true_eq] at this

theorem src_used (k : Fin 224) (hu : usedAt m k.val) : src m k = k := by
  refine Fin.ext ?_
  show (blockOf (BitVec.ofNat 32 k.val) (count m)).toNat = k.val
  rw [rowsOf_used m k hu, BitVec.toNat_ofNat, Nat.mod_eq_of_lt (by omega)]

/-- and its own expert's weights. -/
theorem who_used (k : Fin 224) (hu : usedAt m k.val) : who m h k = ⟨((m (((0 : Dev Cert.Kernel2.nD).tc : Thread Cert.Kernel2.nD Cert.Kernel2.τ).loc Cert.Kernel2.main_arg1)) (ix1 k) : BitVec 32).toNat, expert_lt m h 0 _⟩ := by
  refine Fin.ext ?_
  show (expert m k).toNat = ((m (((0 : Dev Cert.Kernel2.nD).tc : Thread Cert.Kernel2.nD Cert.Kernel2.τ).loc Cert.Kernel2.main_arg1)) (ix1 k) : BitVec 32).toNat
  unfold expert
  rw [V_expert]
  refine congrArg (fun p : Fin 224 => ((m (((0 : Dev Cert.Kernel2.nD).tc : Thread Cert.Kernel2.nD Cert.Kernel2.τ).loc Cert.Kernel2.main_arg1)) (ix1 p) : BitVec 32).toNat) (Fin.ext ?_)
  show (blockOf (BitVec.ofNat 32 k.val) (count m)).toNat = k.val
  rw [rowsOf_used m k hu, BitVec.toNat_ofNat, Nat.mod_eq_of_lt (by omega)]

/-- One block, entry by entry. -/
theorem block_eq (k : Fin 224) (y : Cert.Kernel2.S2x1024x256.Idx) :
    outAt m h 0 k y = (if (y 0).val = 0 then left (m (((0 : Dev Cert.Kernel2.nD).tc : Thread Cert.Kernel2.nD Cert.Kernel2.τ).loc Cert.Kernel2.main_arg2)) (m (((0 : Dev Cert.Kernel2.nD).tc : Thread Cert.Kernel2.nD Cert.Kernel2.τ).loc Cert.Kernel2.main_arg3)) (m (((0 : Dev Cert.Kernel2.nD).tc : Thread Cert.Kernel2.nD Cert.Kernel2.τ).loc Cert.Kernel2.main_arg0)) (m (((0 : Dev Cert.Kernel2.nD).tc : Thread Cert.Kernel2.nD Cert.Kernel2.τ).loc Cert.Kernel2.main_arg4)) (m (((0 : Dev Cert.Kernel2.nD).tc : Thread Cert.Kernel2.nD Cert.Kernel2.τ).loc Cert.Kernel2.main_arg5)) (m (((0 : Dev Cert.Kernel2.nD).tc : Thread Cert.Kernel2.nD Cert.Kernel2.τ).loc Cert.Kernel2.main_arg6)) k ⟨((m (((0 : Dev Cert.Kernel2.nD).tc : Thread Cert.Kernel2.nD Cert.Kernel2.τ).loc Cert.Kernel2.main_arg1)) (ix1 k) : BitVec 32).toNat, expert_lt m h 0 _⟩
      else right (m (((0 : Dev Cert.Kernel2.nD).tc : Thread Cert.Kernel2.nD Cert.Kernel2.τ).loc Cert.Kernel2.main_arg2)) (m (((0 : Dev Cert.Kernel2.nD).tc : Thread Cert.Kernel2.nD Cert.Kernel2.τ).loc Cert.Kernel2.main_arg3)) (m (((0 : Dev Cert.Kernel2.nD).tc : Thread Cert.Kernel2.nD Cert.Kernel2.τ).loc Cert.Kernel2.main_arg0)) (m (((0 : Dev Cert.Kernel2.nD).tc : Thread Cert.Kernel2.nD Cert.Kernel2.τ).loc Cert.Kernel2.main_arg4)) (m (((0 : Dev Cert.Kernel2.nD).tc : Thread Cert.Kernel2.nD Cert.Kernel2.τ).loc Cert.Kernel2.main_arg5)) (m (((0 : Dev Cert.Kernel2.nD).tc : Thread Cert.Kernel2.nD Cert.Kernel2.τ).loc Cert.Kernel2.main_arg6)) k ⟨((m (((0 : Dev Cert.Kernel2.nD).tc : Thread Cert.Kernel2.nD Cert.Kernel2.τ).loc Cert.Kernel2.main_arg1)) (ix1 k) : BitVec 32).toNat, expert_lt m h 0 _⟩) (ix3 (0 : Fin 1) (y 1) (y 2)) := by
  unfold outAt
  by_cases hu : usedAt m k.val
  · rw [if_pos hu, src_used m k hu, who_used m h k hu, used_apply, chunk0_eq, chunk1_eq]
    have hw := words_used (F := Bits) (BitVec.ofNat 32 k.val) (count m) ((m (((0 : Dev Cert.Kernel2.nD).tc : Thread Cert.Kernel2.nD Cert.Kernel2.τ).loc Cert.Kernel2.main_arg2)) (ix1 k)) hu (rows (m (((0 : Dev Cert.Kernel2.nD).tc : Thread Cert.Kernel2.nD Cert.Kernel2.τ).loc Cert.Kernel2.main_arg0)) k 0) (rows (m (((0 : Dev Cert.Kernel2.nD).tc : Thread Cert.Kernel2.nD Cert.Kernel2.τ).loc Cert.Kernel2.main_arg0)) k 1)
      (gateAt m 0 ⟨((m (((0 : Dev Cert.Kernel2.nD).tc : Thread Cert.Kernel2.nD Cert.Kernel2.τ).loc Cert.Kernel2.main_arg1)) (ix1 k) : BitVec 32).toNat, expert_lt m h 0 _⟩) (upAt m 0 ⟨((m (((0 : Dev Cert.Kernel2.nD).tc : Thread Cert.Kernel2.nD Cert.Kernel2.τ).loc Cert.Kernel2.main_arg1)) (ix1 k) : BitVec 32).toNat, expert_lt m h 0 _⟩) (downAt m 0 ⟨((m (((0 : Dev Cert.Kernel2.nD).tc : Thread Cert.Kernel2.nD Cert.Kernel2.τ).loc Cert.Kernel2.main_arg1)) (ix1 k) : BitVec 32).toNat, expert_lt m h 0 _⟩)
    unfold Cert.Kernel2.Gen.k0_pay7 Cert.Kernel2.Gen.k0_pay8
    rw [← hw]
    rfl
  · rw [if_neg hu]
    unfold left right Cert.Reference2.Gen.k0_pay2 Cert.Reference2.Gen.k0_pay3
    rw [words_unused _ _ hu]
    split <;> rfl

/-- The whole array. -/
theorem arrays_eq (h' : Experts m') (hargs : ∀ c : Dev Cert.Kernel2.nD, m' ((c.tc : Thread Cert.Reference2.nD Cert.Reference2.τ).loc Cert.Reference2.main_arg0) = m ((c.tc : Thread Cert.Kernel2.nD Cert.Kernel2.τ).loc Cert.Kernel2.main_arg0)
      ∧ m' ((c.tc : Thread Cert.Reference2.nD Cert.Reference2.τ).loc Cert.Reference2.main_arg1) = m ((c.tc : Thread Cert.Kernel2.nD Cert.Kernel2.τ).loc Cert.Kernel2.main_arg1)
      ∧ m' ((c.tc : Thread Cert.Reference2.nD Cert.Reference2.τ).loc Cert.Reference2.main_arg2) = m ((c.tc : Thread Cert.Kernel2.nD Cert.Kernel2.τ).loc Cert.Kernel2.main_arg2)
      ∧ m' ((c.tc : Thread Cert.Reference2.nD Cert.Reference2.τ).loc Cert.Reference2.main_arg3) = m ((c.tc : Thread Cert.Kernel2.nD Cert.Kernel2.τ).loc Cert.Kernel2.main_arg3)
      ∧ m' ((c.tc : Thread Cert.Reference2.nD Cert.Reference2.τ).loc Cert.Reference2.main_arg4) = m ((c.tc : Thread Cert.Kernel2.nD Cert.Kernel2.τ).loc Cert.Kernel2.main_arg4)
      ∧ m' ((c.tc : Thread Cert.Reference2.nD Cert.Reference2.τ).loc Cert.Reference2.main_arg5) = m ((c.tc : Thread Cert.Kernel2.nD Cert.Kernel2.τ).loc Cert.Kernel2.main_arg5)
      ∧ m' ((c.tc : Thread Cert.Reference2.nD Cert.Reference2.τ).loc Cert.Reference2.main_arg6) = m ((c.tc : Thread Cert.Kernel2.nD Cert.Kernel2.τ).loc Cert.Kernel2.main_arg6)) (c : Dev Cert.Kernel2.nD) : result m' h' c = outArr m h c := by
  obtain rfl : c = 0 := Subsingleton.elim _ _
  obtain ⟨a0, a1, a2, a3, a4, a5, a6⟩ := hargs 0
  have e : result m' h' 0 = blocks (m (((0 : Dev Cert.Kernel2.nD).tc : Thread Cert.Kernel2.nD Cert.Kernel2.τ).loc Cert.Kernel2.main_arg1)) (m (((0 : Dev Cert.Kernel2.nD).tc : Thread Cert.Kernel2.nD Cert.Kernel2.τ).loc Cert.Kernel2.main_arg2)) (m (((0 : Dev Cert.Kernel2.nD).tc : Thread Cert.Kernel2.nD Cert.Kernel2.τ).loc Cert.Kernel2.main_arg3)) (m (((0 : Dev Cert.Kernel2.nD).tc : Thread Cert.Kernel2.nD Cert.Kernel2.τ).loc Cert.Kernel2.main_arg0)) (m (((0 : Dev Cert.Kernel2.nD).tc : Thread Cert.Kernel2.nD Cert.Kernel2.τ).loc Cert.Kernel2.main_arg4)) (m (((0 : Dev Cert.Kernel2.nD).tc : Thread Cert.Kernel2.nD Cert.Kernel2.τ).loc Cert.Kernel2.main_arg5)) (m (((0 : Dev Cert.Kernel2.nD).tc : Thread Cert.Kernel2.nD Cert.Kernel2.τ).loc Cert.Kernel2.main_arg6)) (expert_lt m h 0) := by
    unfold result
    congr 1
  rw [e]
  refine funext fun j => ?_
  unfold outArr
  rw [block_eq]
  rfl

end Cert.Experts

end
-- ==== Proof.Ffn2Block.lean ====
/- Of the second layer: what the expert FFN leaves of one block of 1024 rows, and the memory its body works on. -/
module

public import proofs.«01_k».proof.Proof.Gen.Kernel4.Launch
public import proofs.«01_k».proof.Proof.Gen.Kernel4.Skeleton
public import Idealize.ShloMosaic.Lib.Pipeline.Frame
public import Idealize.ShloMosaic.Lib.Pipeline.FrameBody
public import Idealize.ShloMosaic.Lib.Pipeline.TableIdle
public import Idealize.ShloMosaic.Lib.VecWindow
public import Idealize.ShloMosaic.Lib.Writes
public import Idealize.ShloMosaic.Lib.Exec
public import Idealize.ShloMosaic.Lib.Ring
public import Idealize.ShloMosaic.Lib.Tactic

@[expose] public section

set_option maxRecDepth 16384

noncomputable section

namespace Cert.Kernel4.Ffn

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

/-- The prefetched tables, whole: each block's expert, each block's count of valid rows, the count of used blocks. -/
abbrev tblE : Memref sig .tc .smem S224 .i32 := Memref.whole main_v13
abbrev tblV : Memref sig .tc .smem S224 .i32 := Memref.whole main_arg2
abbrev tblN : Memref sig .tc .smem S1 .i32 := Memref.whole main_arg3
/-- The scratches, whole: the current expert's three weights, as bf16. -/
abbrev scG : Memref sig .tc .vmem S1024x256 .bf16 := Memref.whole cc0_scratch0
abbrev scU : Memref sig .tc .vmem S1024x256 .bf16 := Memref.whole cc0_scratch1
abbrev scD : Memref sig .tc .vmem S256x1024 .bf16 := Memref.whole cc0_scratch2

/-- The words the body reads of the tables at a point: the count of used blocks, -/
abbrev wordN (T : S1.Idx → Elt F .i32) : BitVec 32 :=
  View.readAt (Elt F) tblN.view (Rect.unit (s := S1) ![0] S1.size inb_S1_S1_0).toLoadRect T (Shape.Idx.first (numel1_S1.symm ▸ Nat.one_pos))
/-- the block's expert, -/
abbrev wordE (i : grid0.Coords) (T : S224.Idx → Elt F .i32) : BitVec 32 :=
  View.readAt (Elt F) tblE.view (Rect.unit (s := S224) (k0_off1 i) S1.size (k0_off1_inb i)).toLoadRect T (Shape.Idx.first (numel1_S1.symm ▸ Nat.one_pos))
/-- the expert of the block before it, -/
abbrev wordP (i : grid0.Coords) (T : S224.Idx → Elt F .i32) : BitVec 32 :=
  View.readAt (Elt F) tblE.view (Rect.unit (s := S224) (k0_off2 i) S1.size (k0_off2_inb i)).toLoadRect T (Shape.Idx.first (numel1_S1.symm ▸ Nat.one_pos))
/-- and the block's count of valid rows. -/
abbrev wordV (i : grid0.Coords) (T : S224.Idx → Elt F .i32) : BitVec 32 :=
  View.readAt (Elt F) tblV.view (Rect.unit (s := S224) (k0_off3 i) S1.size (k0_off3_inb i)).toLoadRect T (Shape.Idx.first (numel1_S1.symm ▸ Nat.one_pos))

/-- Whether the body refills the scratches: the block is used, and it is the first or its expert is not the one before. -/
abbrev refill (i : grid0.Coords) (n e p : BitVec 32) : BitVec 1 :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne e p)))) 0#32

/-- The two column chunks of a block of rows, 256 words each. -/
def chunk0 (x : Vec F S2x1024x256 .i32) : Vec F S1x1024x256 .i32 := VecWindow.window x ![0, 0, 0] S1x1024x256.size inb_S2x1024x256_S1x1024x256_0_0_0
def chunk1 (x : Vec F S2x1024x256 .i32) : Vec F S1x1024x256 .i32 := VecWindow.window x ![1, 0, 0] S1x1024x256.size inb_S2x1024x256_S1x1024x256_1_0_0

/-- The two stores of a used block, the later one first. -/
abbrev stores (w1 w0 : IVec S1x1024x256 32) : List (View.Piece (Elt F) S2x1024x256 .i32) :=
  [⟨Rect.unit (s := S2x1024x256) ![1, 0, 0] S1x1024x256.size inb_S2x1024x256_S1x1024x256_1_0_0, w1⟩,
   ⟨Rect.unit (s := S2x1024x256) ![0, 0, 0] S1x1024x256.size inb_S2x1024x256_S1x1024x256_0_0_0, w0⟩]

/-- They are the whole block. -/
theorem stores_cover (w1 w0 : IVec S1x1024x256 32) (y : S2x1024x256.Idx) : ∃ p ∈ stores (F := F) w1 w0, y ∈ p.1.set :=
  View.cover_of_tiledL (stores (F := F) w1 w0) S1x1024x256.size (by sl_kernel_rfl) y

/-- The block the body leaves of a used block: the words of `valid` rows of `x` through the expert with weights
    `g`, `u`, `d`, chunk by chunk. -/
def used (valid : BitVec 32) (x : Vec F S2x1024x256 .i32) (g u : Vec F S1024x256 .bf16) (d : Vec F S256x1024 .bf16) : Vec F S2x1024x256 .i32 :=
  View.canon (stores (F := F) (k0_pay4 (k0_pay8 valid (chunk0 x) (chunk1 x) g u d)) (k0_pay7 valid (chunk0 x) (chunk1 x) g u d))

/-- The block it leaves of an unused one. -/
abbrev unused : Vec F S2x1024x256 .i32 := k0_pay5

end Cert.Kernel4.Ffn

end
-- ==== Proof.Ref2Trip.lean ====
/- Of the second layer: one block of the reference's loop: what it stores, and where. -/
module

public import proofs.«01_k».proof.Proof.Gen.Reference4.Frame
public import Idealize.ShloMosaic.Lib.Pipeline.ValueKit
public import Idealize.ShloMosaic.Lib.WritesUnit

@[expose] public section

set_option maxRecDepth 16384

noncomputable section

namespace Cert.Reference4.Blocks

open Cert.Reference4 Cert.Reference4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]
variable (c : Dev nD)
  (arg0 : Memref sig .tc .smem S224 .i32) (harg0 : arg0.IsWhole)
  (arg1 : Memref sig .tc .smem S224 .i32) (harg1 : arg1.IsWhole)
  (arg2 : Memref sig .tc .smem S1 .i32) (harg2 : arg2.IsWhole)
  (arg3 : Memref sig .tc .vmem S2x229376x256 .i32) (harg3 : arg3.IsWhole)
  (arg4 : Memref sig .tc .vmem S2x64x1024x256 .f32) (harg4 : arg4.IsWhole)
  (arg5 : Memref sig .tc .vmem S2x64x1024x256 .f32) (harg5 : arg5.IsWhole)
  (arg6 : Memref sig .tc .vmem S2x64x256x1024 .f32) (harg6 : arg6.IsWhole)
  (arg7 : Memref sig .tc .vmem S2x229376x256 .i32) (harg7 : arg7.IsWhole)
  (x0 : Vec F S224 .i32) (x1 : Vec F S224 .i32) (x2 : Vec F S1 .i32) (x3 : Vec F S2x229376x256 .i32) (x4 : Vec F S2x64x1024x256 .f32) (x5 : Vec F S2x64x1024x256 .f32) (x6 : Vec F S2x64x256x1024 .f32)

/-- The two pieces block `k` stores: the packed words of its columns 256 to 511, and of its columns 0 to 255. -/
theorem trip_pieces (k : Fin k0_t1_loop.trips) (hw : k0_chk1 ((arg0.view.readAt (Elt F) (Rect.unit (s := S224) (k0_off1 k) S1.size (k0_off1_inb k)).toLoadRect (harg0.unread x0)) (Shape.Idx.first (numel1_S1.symm ▸ Nat.one_pos)))) :
    tripL_k0_t1 Variants.none c none arg0 harg0 arg1 harg1 arg2 harg2 arg3 harg3 arg4 harg4 arg5 harg5 arg6 harg6 arg7 harg7 (harg0.unread x0) (harg1.unread x1) (harg2.unread x2) (harg3.unread x3) (harg4.unread x4) (harg5.unread x5) (harg6.unread x6) k hw
    = [⟨Rect.unit (s := S2x229376x256) (k0_off7 k) S1x1024x256.size (k0_off7_inb k), k0_pay3 (Scf.iv 0#32 1#32 k)
      (k0_pay4 (arg3.view.readAt (Elt F) (Rect.unit (s := S2x229376x256) (k0_off2 k) S1x1024x256.size (k0_off2_inb k)).toLoadRect (harg3.unread x3)) (arg3.view.readAt (Elt F) (Rect.unit (s := S2x229376x256) (k0_off3 k) S1x1024x256.size (k0_off3_inb k)).toLoadRect (harg3.unread x3))
        ((arg1.view.readAt (Elt F) (Rect.unit (s := S224) (k0_off1 k) S1.size (k0_off1_inb k)).toLoadRect (harg1.unread x1)) (Shape.Idx.first (numel1_S1.symm ▸ Nat.one_pos)))
        (arg4.view.readAt (Elt F) (Rect.unit (s := S2x64x1024x256) (k0_off4 ((arg0.view.readAt (Elt F) (Rect.unit (s := S224) (k0_off1 k) S1.size (k0_off1_inb k)).toLoadRect (harg0.unread x0)) (Shape.Idx.first (numel1_S1.symm ▸ Nat.one_pos)))) S1x1x1024x256.size (k0_off4_inb _ hw)).toLoadRect (harg4.unread x4))
        (arg5.view.readAt (Elt F) (Rect.unit (s := S2x64x1024x256) (k0_off4 ((arg0.view.readAt (Elt F) (Rect.unit (s := S224) (k0_off1 k) S1.size (k0_off1_inb k)).toLoadRect (harg0.unread x0)) (Shape.Idx.first (numel1_S1.symm ▸ Nat.one_pos)))) S1x1x1024x256.size (k0_off4_inb _ hw)).toLoadRect (harg5.unread x5)))
      (k0_pay5 (arg6.view.readAt (Elt F) (Rect.unit (s := S2x64x256x1024) (k0_off5 ((arg0.view.readAt (Elt F) (Rect.unit (s := S224) (k0_off1 k) S1.size (k0_off1_inb k)).toLoadRect (harg0.unread x0)) (Shape.Idx.first (numel1_S1.symm ▸ Nat.one_pos)))) S1x1x256x1024.size (k0_off5_inb _ hw)).toLoadRect (harg6.unread x6)))
      ((arg2.view.readAt (Elt F) (Rect.unit (s := S1) ![0] S1.size inb_S1_S1_0).toLoadRect (harg2.unread x2)) (Shape.Idx.first (numel1_S1.symm ▸ Nat.one_pos)))⟩,
       ⟨Rect.unit (s := S2x229376x256) (k0_off6 k) S1x1024x256.size (k0_off6_inb k), k0_pay2 (Scf.iv 0#32 1#32 k)
      (k0_pay4 (arg3.view.readAt (Elt F) (Rect.unit (s := S2x229376x256) (k0_off2 k) S1x1024x256.size (k0_off2_inb k)).toLoadRect (harg3.unread x3)) (arg3.view.readAt (Elt F) (Rect.unit (s := S2x229376x256) (k0_off3 k) S1x1024x256.size (k0_off3_inb k)).toLoadRect (harg3.unread x3))
        ((arg1.view.readAt (Elt F) (Rect.unit (s := S224) (k0_off1 k) S1.size (k0_off1_inb k)).toLoadRect (harg1.unread x1)) (Shape.Idx.first (numel1_S1.symm ▸ Nat.one_pos)))
        (arg4.view.readAt (Elt F) (Rect.unit (s := S2x64x1024x256) (k0_off4 ((arg0.view.readAt (Elt F) (Rect.unit (s := S224) (k0_off1 k) S1.size (k0_off1_inb k)).toLoadRect (harg0.unread x0)) (Shape.Idx.first (numel1_S1.symm ▸ Nat.one_pos)))) S1x1x1024x256.size (k0_off4_inb _ hw)).toLoadRect (harg4.unread x4))
        (arg5.view.readAt (Elt F) (Rect.unit (s := S2x64x1024x256) (k0_off4 ((arg0.view.readAt (Elt F) (Rect.unit (s := S224) (k0_off1 k) S1.size (k0_off1_inb k)).toLoadRect (harg0.unread x0)) (Shape.Idx.first (numel1_S1.symm ▸ Nat.one_pos)))) S1x1x1024x256.size (k0_off4_inb _ hw)).toLoadRect (harg5.unread x5)))
      (k0_pay5 (arg6.view.readAt (Elt F) (Rect.unit (s := S2x64x256x1024) (k0_off5 ((arg0.view.readAt (Elt F) (Rect.unit (s := S224) (k0_off1 k) S1.size (k0_off1_inb k)).toLoadRect (harg0.unread x0)) (Shape.Idx.first (numel1_S1.symm ▸ Nat.one_pos)))) S1x1x256x1024.size (k0_off5_inb _ hw)).toLoadRect (harg6.unread x6)))
      ((arg2.view.readAt (Elt F) (Rect.unit (s := S1) ![0] S1.size inb_S1_S1_0).toLoadRect (harg2.unread x2)) (Shape.Idx.first (numel1_S1.symm ▸ Nat.one_pos)))⟩] := by
  unfold tripL_k0_t1 trip_k0_t1
  rfl

end Cert.Reference4.Blocks

end
-- ==== Proof.Ref2Reads.lean ====
/- Of the second layer: what one block of the reference's loop reads: its rows, its expert's weights, its words. -/
module

public import proofs.«01_k».proof.Proof.Ref2Trip
public import Idealize.ShloMosaic.Lib.WholeRead
public import Idealize.ShloMosaic.Lib.Pipeline.ValueKit

@[expose] public section

set_option maxRecDepth 16384

noncomputable section

namespace Cert.Reference4.Blocks

open Cert.Reference4 Cert.Reference4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

/-- The loop runs over the 224 blocks. -/
theorem trips_eq : k0_t1_loop.trips = 224 := by decide +kernel

/-- Chunk `p` of block `k`'s rows. -/
def rows (x : Vec F S2x229376x256 .i32) (k : Fin 224) (p : Fin 2) : Vec F S1x1024x256 .i32 := fun y => x (ix3 p ⟨1024 * k.val + (y 1).val, by
  have h1 := k.isLt; have h2 : (y 1).val < 1024 := (y 1).isLt; show _ < 229376; omega⟩ (y 2))

/-- Expert `e`'s gate or up projection, of the second layer. -/
def wide (x : Vec F S2x64x1024x256 .f32) (e : Fin 64) : Vec F S1x1x1024x256 .f32 := fun y => x (ix4 (1 : Fin 2) e (y 2) (y 3))

/-- Expert `e`'s down projection. -/
def down (x : Vec F S2x64x256x1024 .f32) (e : Fin 64) : Vec F S1x1x256x1024 .f32 := fun y => x (ix4 (1 : Fin 2) e (y 2) (y 3))

theorem rows_read {sp : Space} (M : Memref sig .tc sp S2x229376x256 .i32) (hM : M.IsWhole) (x : Vec F S2x229376x256 .i32) (k : Fin 224) (p : Fin 2)
    (off : Fin 3 → ℕ) (ho : off = ![p.val, 1024 * k.val, 0]) (inb) :
    (M.view.readAt (Elt F) (Rect.unit (s := S2x229376x256) off S1x1024x256.size inb).toLoadRect (hM.unread x)) = rows x k p := by
  subst ho
  refine funext fun y => (Memref.IsWhole.readAt_unread hM x _ y).trans (congrArg x (funext fun a => Fin.ext ?_))
  match a with
  | ⟨0, _⟩ => show p.val + 1 * (y 0).val = p.val; have : (y 0).val < 1 := (y 0).isLt; omega
  | ⟨1, _⟩ => show 1024 * k.val + 1 * (y 1).val = 1024 * k.val + (y 1).val; omega
  | ⟨2, _⟩ => show 0 + 1 * (y 2).val = (y 2).val; omega

theorem wide_read {sp : Space} (M : Memref sig .tc sp S2x64x1024x256 .f32) (hM : M.IsWhole) (x : Vec F S2x64x1024x256 .f32) (e : Fin 64)
    (w : BitVec 32) (hw : w.toNat = e.val) (inb) :
    (M.view.readAt (Elt F) (Rect.unit (s := S2x64x1024x256) (k0_off4 w) S1x1x1024x256.size inb).toLoadRect (hM.unread x)) = wide x e := by
  refine funext fun y => (Memref.IsWhole.readAt_unread hM x _ y).trans (congrArg x (funext fun a => Fin.ext ?_))
  match a with
  | ⟨0, _⟩ => show 1 + 1 * (y 0).val = 1; have : (y 0).val < 1 := (y 0).isLt; omega
  | ⟨1, _⟩ => show w.toNat + 1 * (y 1).val = e.val; have : (y 1).val < 1 := (y 1).isLt; omega
  | ⟨2, _⟩ => show 0 + 1 * (y 2).val = (y 2).val; omega
  | ⟨3, _⟩ => show 0 + 1 * (y 3).val = (y 3).val; omega

theorem down_read {sp : Space} (M : Memref sig .tc sp S2x64x256x1024 .f32) (hM : M.IsWhole) (x : Vec F S2x64x256x1024 .f32) (e : Fin 64)
    (w : BitVec 32) (hw : w.toNat = e.val) (inb) :
    (M.view.readAt (Elt F) (Rect.unit (s := S2x64x256x1024) (k0_off5 w) S1x1x256x1024.size inb).toLoadRect (hM.unread x)) = down x e := by
  refine funext fun y => (Memref.IsWhole.readAt_unread hM x _ y).trans (congrArg x (funext fun a => Fin.ext ?_))
  match a with
  | ⟨0, _⟩ => show 1 + 1 * (y 0).val = 1; have : (y 0).val < 1 := (y 0).isLt; omega
  | ⟨1, _⟩ => show w.toNat + 1 * (y 1).val = e.val; have : (y 1).val < 1 := (y 1).isLt; omega
  | ⟨2, _⟩ => show 0 + 1 * (y 2).val = (y 2).val; omega
  | ⟨3, _⟩ => show 0 + 1 * (y 3).val = (y 3).val; omega

theorem word_read {sp : Space} (M : Memref sig .tc sp S224 .i32) (hM : M.IsWhole) (x : Vec F S224 .i32) (k : Fin 224)
    (off : Fin 1 → ℕ) (ho : off = ![k.val]) (inb) (y) :
    (M.view.readAt (Elt F) (Rect.unit (s := S224) off S1.size inb).toLoadRect (hM.unread x)) y = x (ix1 k) := by
  subst ho
  refine (Memref.IsWhole.readAt_unread hM x _ y).trans (congrArg x (funext fun a => Fin.ext ?_))
  match a with
  | ⟨0, _⟩ => show k.val + 1 * (y 0).val = k.val; have : (y 0).val < 1 := (y 0).isLt; omega

theorem count_read {sp : Space} (M : Memref sig .tc sp S1 .i32) (hM : M.IsWhole) (x : Vec F S1 .i32) (inb) (y) :
    (M.view.readAt (Elt F) (Rect.unit (s := S1) ![0] S1.size inb).toLoadRect (hM.unread x)) y = x (ix1 (0 : Fin 1)) := by
  refine (Memref.IsWhole.readAt_unread hM x _ y).trans (congrArg x (funext fun a => Fin.ext ?_))
  match a with
  | ⟨0, _⟩ => show 0 + 1 * (y 0).val = 0; have : (y 0).val < 1 := (y 0).isLt; omega

/-- A block's hidden rows, from its two chunks, its live row count and its expert's gate and up projections, -/
def hidden (x1 : Vec F S224 .i32) (x3 : Vec F S2x229376x256 .i32) (x4 x5 : Vec F S2x64x1024x256 .f32) (k : Fin 224) (e : Fin 64) : FVec F S1024x256 .bf16 :=
  k0_pay4 (rows x3 k 0) (rows x3 k 1) (x1 (ix1 k)) (wide x4 e) (wide x5 e)

/-- and its stored columns 0 to 255, -/
def left (x1 : Vec F S224 .i32) (x2 : Vec F S1 .i32) (x3 : Vec F S2x229376x256 .i32) (x4 x5 : Vec F S2x64x1024x256 .f32) (x6 : Vec F S2x64x256x1024 .f32) (k : Fin 224) (e : Fin 64) : Vec F S1x1024x256 .i32 :=
  k0_pay2 (BitVec.ofNat 32 k.val) (hidden x1 x3 x4 x5 k e) (k0_pay5 (down x6 e)) (x2 (ix1 (0 : Fin 1)))

/-- and 256 to 511. -/
def right (x1 : Vec F S224 .i32) (x2 : Vec F S1 .i32) (x3 : Vec F S2x229376x256 .i32) (x4 x5 : Vec F S2x64x1024x256 .f32) (x6 : Vec F S2x64x256x1024 .f32) (k : Fin 224) (e : Fin 64) : Vec F S1x1024x256 .i32 :=
  k0_pay3 (BitVec.ofNat 32 k.val) (hidden x1 x3 x4 x5 k e) (k0_pay5 (down x6 e)) (x2 (ix1 (0 : Fin 1)))

theorem iv_eq : ∀ k : Fin k0_t1_loop.trips, Scf.iv 0#32 1#32 k.val = BitVec.ofNat 32 k.val := by decide +kernel

variable (c : Dev nD)
  (arg0 : Memref sig .tc .smem S224 .i32) (harg0 : arg0.IsWhole)
  (arg1 : Memref sig .tc .smem S224 .i32) (harg1 : arg1.IsWhole)
  (arg2 : Memref sig .tc .smem S1 .i32) (harg2 : arg2.IsWhole)
  (arg3 : Memref sig .tc .vmem S2x229376x256 .i32) (harg3 : arg3.IsWhole)
  (arg4 : Memref sig .tc .vmem S2x64x1024x256 .f32) (harg4 : arg4.IsWhole)
  (arg5 : Memref sig .tc .vmem S2x64x1024x256 .f32) (harg5 : arg5.IsWhole)
  (arg6 : Memref sig .tc .vmem S2x64x256x1024 .f32) (harg6 : arg6.IsWhole)
  (arg7 : Memref sig .tc .vmem S2x229376x256 .i32) (harg7 : arg7.IsWhole)
  (x0 : Vec F S224 .i32) (x1 : Vec F S224 .i32) (x2 : Vec F S1 .i32) (x3 : Vec F S2x229376x256 .i32) (x4 : Vec F S2x64x1024x256 .f32) (x5 : Vec F S2x64x1024x256 .f32) (x6 : Vec F S2x64x256x1024 .f32)

/-- The two pieces block `k` stores, from the arrays. -/
theorem trip_stores (k : Fin k0_t1_loop.trips) (hk : k.val < 224) (e : Fin 64) (he : (x0 (ix1 ⟨k.val, hk⟩) : BitVec 32).toNat = e.val) (hw : k0_chk1 ((arg0.view.readAt (Elt F) (Rect.unit (s := S224) (k0_off1 k) S1.size (k0_off1_inb k)).toLoadRect (harg0.unread x0)) (Shape.Idx.first (numel1_S1.symm ▸ Nat.one_pos)))) :
    tripL_k0_t1 Variants.none c none arg0 harg0 arg1 harg1 arg2 harg2 arg3 harg3 arg4 harg4 arg5 harg5 arg6 harg6 arg7 harg7 (harg0.unread x0) (harg1.unread x1) (harg2.unread x2) (harg3.unread x3) (harg4.unread x4) (harg5.unread x5) (harg6.unread x6) k hw
    = [⟨Rect.unit (s := S2x229376x256) (k0_off7 k) S1x1024x256.size (k0_off7_inb k), right x1 x2 x3 x4 x5 x6 ⟨k.val, hk⟩ e⟩,
       ⟨Rect.unit (s := S2x229376x256) (k0_off6 k) S1x1024x256.size (k0_off6_inb k), left x1 x2 x3 x4 x5 x6 ⟨k.val, hk⟩ e⟩] := by
  rw [trip_pieces]
  have h0 : (((arg0.view.readAt (Elt F) (Rect.unit (s := S224) (k0_off1 k) S1.size (k0_off1_inb k)).toLoadRect (harg0.unread x0)) (Shape.Idx.first (numel1_S1.symm ▸ Nat.one_pos))) : BitVec 32).toNat = e.val := by rw [word_read arg0 harg0 x0 ⟨k.val, hk⟩ _ (k0_off1_eq k)]; exact he
  rw [rows_read arg3 harg3 x3 ⟨k.val, hk⟩ 0 _ (k0_off2_eq k), rows_read arg3 harg3 x3 ⟨k.val, hk⟩ 1 _ (k0_off3_eq k), word_read arg1 harg1 x1 ⟨k.val, hk⟩ _ (k0_off1_eq k),
    count_read, wide_read arg4 harg4 x4 e _ h0, wide_read arg5 harg5 x5 e _ h0, down_read arg6 harg6 x6 e _ h0, iv_eq k]
  rfl

end Cert.Reference4.Blocks

end
-- ==== Proof.Ffn2Equal.lean ====
/- Of the second layer: one block of the expert FFN and one block of the reference's loop are the same words. -/
module

public import proofs.«01_k».proof.Proof.Ffn2Block
public import proofs.«01_k».proof.Proof.Ref2Reads
public import Idealize.ShloMosaic.Lib.Pipeline.Value
public import Idealize.ShloMosaic.Lib.Pipeline.ValueKit

@[expose] public section

set_option maxRecDepth 16384

noncomputable section

namespace Cert.Experts2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

theorem subi_zero (v : BitVec 32) : Scalar.subi v 0#32 = v := by
  show v - 0#32 = v
  exact BitVec.sub_zero v

/-- The kernel rounds the weights when it keeps them, the reference when it multiplies by them. -/
theorem gate_eq (v : Vec F Cert.Kernel4.S1x1x1024x256 .f32) : Cert.Kernel4.Gen.k0_pay1 v
    = truncf .bf16 (shapeCast Cert.Kernel4.S1024x256 v Cert.Kernel4.Facts₀.shapeCasts_S1x1x1024x256_S1024x256) Cert.Kernel4.Facts₀.bitsLt_bf16_f32 := shapeCast_self _ _

theorem up_eq (v : Vec F Cert.Kernel4.S1x1x1024x256 .f32) : Cert.Kernel4.Gen.k0_pay2 v
    = truncf .bf16 (shapeCast Cert.Kernel4.S1024x256 v Cert.Kernel4.Facts₀.shapeCasts_S1x1x1024x256_S1024x256) Cert.Kernel4.Facts₀.bitsLt_bf16_f32 := shapeCast_self _ _

theorem down_eq (v : Vec F Cert.Kernel4.S1x1x256x1024 .f32) : Cert.Kernel4.Gen.k0_pay3 v = Cert.Reference4.Gen.k0_pay5 v := shapeCast_self _ _

/-- A used block: the reference's packed words are the kernel's. -/
theorem words_used (b n v : BitVec 32) (hs : b.slt n = true) (x0 x1 : Vec F Cert.Kernel4.S1x1024x256 .i32) (g u : Vec F Cert.Kernel4.S1x1x1024x256 .f32) (d : Vec F Cert.Kernel4.S1x1x256x1024 .f32) :
    Cert.Reference4.Gen.k0_pay1 b (Cert.Reference4.Gen.k0_pay4 x0 x1 v g u) (Cert.Reference4.Gen.k0_pay5 d) n
      = Cert.Kernel4.Gen.k0_pay6 v x0 x1 (Cert.Kernel4.Gen.k0_pay1 g) (Cert.Kernel4.Gen.k0_pay2 u) (Cert.Kernel4.Gen.k0_pay3 d) := by
  rw [gate_eq, up_eq, down_eq]
  unfold Cert.Reference4.Gen.k0_pay1 Cert.Kernel4.Gen.k0_pay6
  rw [subi_zero, show Scalar.cmpi .slt b n = 1#1 from by show BitVec.ofBool (b.slt n) = 1#1; rw [hs]; rfl]
  rfl

/-- An unused block: its words are zeros. -/
theorem words_unused (b n : BitVec 32) (hs : ¬ b.slt n = true) (h : FVec F Cert.Reference4.S1024x256 .bf16) (d : FVec F Cert.Reference4.S256x1024 .bf16) :
    Cert.Reference4.Gen.k0_pay1 b h d n = fun _ => 0#32 := by
  unfold Cert.Reference4.Gen.k0_pay1
  rw [show Scalar.cmpi .slt b n = 0#1 from by show BitVec.ofBool (b.slt n) = 0#1; rw [Bool.eq_false_iff.mpr hs]; rfl]
  rfl

/-- The kernel's used block, entry by entry: the stores' windows. -/
theorem used_apply (v : BitVec 32) (x : Vec F Cert.Kernel4.S2x1024x256 .i32) (g u d) (y : Cert.Kernel4.S2x1024x256.Idx) :
    Cert.Kernel4.Ffn.used v x g u d y
      = (if (y 0).val = 0 then Cert.Kernel4.Gen.k0_pay7 v (Cert.Kernel4.Ffn.chunk0 x) (Cert.Kernel4.Ffn.chunk1 x) g u d
          else Cert.Kernel4.Gen.k0_pay4 (Cert.Kernel4.Gen.k0_pay8 v (Cert.Kernel4.Ffn.chunk0 x) (Cert.Kernel4.Ffn.chunk1 x) g u d)) (ix3 (0 : Fin 1) (y 1) (y 2)) := by
  have b0 : (y 0).val < 2 := (y 0).isLt
  unfold Cert.Kernel4.Ffn.used
  by_cases hp : (y 0).val = 0
  · rw [if_pos hp, View.canon_cons_of_not_mem _ _ (by
      rw [Rect.mem_set_unit]; intro hm; have h0 := (hm 0).1; change 1 ≤ (y 0).val at h0; omega)]
    have e : y = (Rect.unit (s := Cert.Kernel4.S2x1024x256) ![0, 0, 0] Cert.Kernel4.S1x1024x256.size Cert.Kernel4.Facts₀.inb_S2x1024x256_S1x1024x256_0_0_0).emb (ix3 (0 : Fin 1) (y 1) (y 2)) := by
      refine funext fun a => Fin.ext ?_
      match a with
      | ⟨0, _⟩ => show (y 0).val = 0 + 1 * 0; omega
      | ⟨1, _⟩ => show (y 1).val = 0 + 1 * (y 1).val; omega
      | ⟨2, _⟩ => show (y 2).val = 0 + 1 * (y 2).val; omega
    conv_lhs => rw [e]
    exact View.canon_cons_emb _ _ _ _
  · rw [if_neg hp]
    have e : y = (Rect.unit (s := Cert.Kernel4.S2x1024x256) ![1, 0, 0] Cert.Kernel4.S1x1024x256.size Cert.Kernel4.Facts₀.inb_S2x1024x256_S1x1024x256_1_0_0).emb (ix3 (0 : Fin 1) (y 1) (y 2)) := by
      refine funext fun a => Fin.ext ?_
      match a with
      | ⟨0, _⟩ => show (y 0).val = 1 + 1 * 0; omega
      | ⟨1, _⟩ => show (y 1).val = 0 + 1 * (y 1).val; omega
      | ⟨2, _⟩ => show (y 2).val = 0 + 1 * (y 2).val; omega
    conv_lhs => rw [e]
    exact View.canon_cons_emb _ _ _ _

end Cert.Experts2

end
-- ==== Proof.Ffn2Words.lean ====
/- Of the second layer: the tables the expert FFN runs at: which block's expert each block takes, and that it exists. -/
module

public import proofs.«01_k».proof.Proof.Ffn2Block
public import proofs.«01_k».proof.Defs
public import proofs.«01_k».proof.Proof.Gen.Kernel4
public import proofs.«01_k».proof.Proof.Gen.Kernel4
public import Idealize.ShloMosaic.Lib.ReduceAll
public import Idealize.ShloMosaic.Lib.Routing.OpsSet
public import Idealize.ShloMosaic.Lib.Pipeline.ValueKit
public import Idealize.ShloMosaic.Lib.Pointwise

@[expose] public section

set_option maxRecDepth 16384

noncomputable section

namespace Cert.Kernel4.Ffn

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The block whose expert block `b` takes when `n` blocks are used: itself, or the last used one (the first, if none is). -/
def blockOf (b n : BitVec 32) : BitVec 32 := IntOp.maxsi (IntOp.minsi b (IntOp.subi n 1#32)) 0#32

theorem blockOf_le (b n : BitVec 32) (hb : b.toNat < 224) : (blockOf b n).toNat ≤ b.toNat := by
  unfold blockOf IntOp.maxsi IntOp.minsi IntOp.subi
  simp only [BitVec.slt_eq_decide, decide_eq_true_eq]
  have hi : b.toInt = b.toNat := BitVec.toInt_eq_toNat_of_lt (by omega)
  have h0 : (0#32 : BitVec 32).toInt = 0 := rfl
  by_cases h : b.toInt < (n - 1#32).toInt
  · rw [if_pos h]
    split
    · exact Nat.le_refl _
    · exact Nat.zero_le _
  · rw [if_neg h]
    split
    · rename_i h1
      have h2 := BitVec.toInt_eq_toNat_cond (n - 1#32)
      have h3 := (n - 1#32).isLt
      split at h2 <;> omega
    · exact Nat.zero_le _

/-- A used block takes its own expert. -/
theorem blockOf_used (b n : BitVec 32) (hb : b.toNat < 224) (h : b.toInt < n.toInt) : blockOf b n = b := by
  have hi : b.toInt = b.toNat := BitVec.toInt_eq_toNat_of_lt (by omega)
  have h0 : (0#32 : BitVec 32).toInt = 0 := rfl
  have hn := BitVec.toInt_eq_toNat_cond n
  have hn' := n.isLt
  have hs : (n - 1#32).toNat = n.toNat - 1 := by
    rw [BitVec.toNat_sub]; simp only [BitVec.toNat_ofNat]
    split at hn <;> omega
  have h2 := BitVec.toInt_eq_toNat_cond (n - 1#32)
  unfold blockOf IntOp.maxsi IntOp.minsi IntOp.subi
  simp only [BitVec.slt_eq_decide, decide_eq_true_eq]
  by_cases hlt : b.toInt < (n - 1#32).toInt
  · rw [if_pos hlt]
    split
    · rfl
    · exact BitVec.eq_of_toNat_eq (by simp only [BitVec.toNat_ofNat]; omega)
  · have e : n - 1#32 = b := BitVec.eq_of_toNat_eq (by split at hn <;> split at h2 <;> omega)
    rw [if_neg hlt, e]
    split
    · rfl
    · exact BitVec.eq_of_toNat_eq (by simp only [BitVec.toNat_ofNat]; omega)

variable (m : (ℓ : Loc nD τ sig) → Buf (Elt Bits) ℓ)

/-- The precondition: every block's expert is one of the 64. -/
theorem expert_lt [Cert.Pre_experts_exist.Facts] (h : Cert.Pre_Kernel4 m) (c : Dev nD) (i : S224.Idx) :
    (m ((c.tc : Thread nD τ).loc main_arg1) i : BitVec 32).toNat < 64 := by
  have hc := congrFun (h c) (fun a => a.elim0)
  have := Host.reduce_andi_all _ _ _ _ _ hc i
  revert this
  generalize (m ((c.tc : Thread nD τ).loc main_arg1)) = T
  intro this
  change IntOp.andi (IntOp.cmpi .sge (T i) 0#32) (IntOp.cmpi .slt (T i) 64#32) = 1#1 at this
  unfold IntOp.andi IntOp.cmpi at this
  simp only [BitVec.slt_eq_decide, BitVec.sle_eq_decide] at this
  have h0 : (0#32 : BitVec 32).toInt = 0 := rfl
  have h64 : (64#32 : BitVec 32).toInt = 64 := rfl
  rw [h0, h64] at this
  have hT := BitVec.toInt_eq_toNat_cond (T i)
  have hT' := (T i).isLt
  by_cases h1 : (0 : Int) ≤ (T i).toInt
  · by_cases h2 : (T i).toInt < 64
    · split at hT <;> omega
    · rw [decide_eq_false h2] at this
      generalize decide ((0 : Int) ≤ (T i).toInt) = q at this
      cases q <;> exact absurd this (by decide)
  · rw [decide_eq_false h1] at this
    generalize decide ((T i).toInt < 64) = q at this
    cases q <;> exact absurd this (by decide)

/-- The memory the region finds, after the operations before it. -/
abbrev V (c : Dev nD) (b : Ref sig .tc) : Buf (Elt Bits) ((c.tc : Thread nD τ).loc b) :=
  StableHlo.after hostOps0 (fun b => m (c, b)) b

/-- Block `p` runs with the expert of the block it takes. -/
theorem V_expert (c : Dev nD) (p : Fin 224) :
    V m c main_v13 (ix1 p) = m ((c.tc : Thread nD τ).loc main_arg1) (ix1 ⟨(blockOf (BitVec.ofNat 32 p.val) (m ((c.tc : Thread nD τ).loc main_arg3) (ix1 0))).toNat,
      Nat.lt_of_le_of_lt (blockOf_le _ _ (by rw [BitVec.toNat_ofNat]; omega)) (by rw [BitVec.toNat_ofNat]; omega)⟩) := by
  entry_read
  refine Routing.gather_take1 _ rfl rfl rfl rfl _ _ p ⟨_, _⟩ ?_ (by norm_num)
  have hlt := blockOf_le (BitVec.ofNat 32 p.val) (m ((c.tc : Thread nD τ).loc main_arg3) (ix1 0)) (by rw [BitVec.toNat_ofNat]; omega)
  rw [BitVec.toNat_ofNat] at hlt
  have key : ∀ b : BitVec 32, b.toNat < 224 → Scalar.select (IntOp.cmpi .slt b 0#32) (IntOp.addi b 224#32) b = BitVec.ofNat 32 b.toNat := fun b hb => by
    unfold Scalar.select
    rw [if_neg, BitVec.ofNat_toNat, BitVec.setWidth_eq]
    unfold IntOp.cmpi
    simp only [BitVec.slt_eq_decide, BitVec.toInt_eq_toNat_of_lt (show 2 * b.toNat < 2 ^ 32 by omega)]
    rw [decide_eq_false (by show ¬(_ < (0 : Int)); omega)]
    decide
  pointwise
  have h224 : (blockOf (BitVec.ofNat 32 p.val) (m ((c.tc : Thread nD τ).loc main_arg3) (ix1 0))).toNat < 224 := by omega
  exact key _ h224

end Cert.Kernel4.Ffn

end
-- ==== Proof.Ffn2Tables.lean ====
/- Of the second layer: the tables at the region and the blocks the index maps name: each inside its array when every expert exists. -/
module

public import proofs.«01_k».proof.Proof.Ffn2Words

@[expose] public section

set_option maxRecDepth 16384

noncomputable section

namespace Cert.Kernel4.Ffn

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Bits) ℓ)

/-! The operations before the region leave the arguments. -/

theorem V_main_arg0 (c : Dev nD) : V m c main_arg0 = m ((c.tc : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))

theorem V_main_arg1 (c : Dev nD) : V m c main_arg1 = m ((c.tc : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))

theorem V_main_arg2 (c : Dev nD) : V m c main_arg2 = m ((c.tc : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))

theorem V_main_arg3 (c : Dev nD) : V m c main_arg3 = m ((c.tc : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))

theorem V_main_arg4 (c : Dev nD) : V m c main_arg4 = m ((c.tc : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))

theorem V_main_arg5 (c : Dev nD) : V m c main_arg5 = m ((c.tc : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))

theorem V_main_arg6 (c : Dev nD) : V m c main_arg6 = m ((c.tc : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, Finset.mem_singleton]
    repeat' apply And.intro
    all_goals exact StableHlo.devRef_ne_of_ne (by decide)))

/-- The tables' contents at the region. -/
def tables : pre0.Contents (Elt Bits) := fun k => V m 0 (pre0.ref k)

/-- The expert block `b` runs with, -/
abbrev expert (b : Fin 224) : BitVec 32 := V m 0 main_v13 (ix1 b)
/-- and the count of used blocks. -/
abbrev count : BitVec 32 := m (((0 : Dev nD).tc : Thread nD τ).loc main_arg3) (ix1 0)

/-- The block of a grid point. -/
abbrev block (i : grid0.Coords) : Fin 224 := i 0

theorem expert_word_lt [Cert.Pre_experts_exist.Facts] (h : Cert.Pre_Kernel4 m) (b : Fin 224) : (expert m b).toNat < 64 := by
  unfold expert; rw [V_expert]; exact expert_lt m h 0 _

/-- The block's number as the body and the index maps have it. -/
theorem off1_val (i : grid0.Coords) : k0_off1 i 0 = (i 0).val := by
  have : (i 0).val < 224 := (i 0).isLt
  show (BitVec.ofNat 32 (i 0).val).toNat = _
  rw [BitVec.toNat_ofNat]; exact Nat.mod_eq_of_lt (by omega)

theorem emb_off1 (i : grid0.Coords) : (Rect.unit (s := S224) (k0_off1 i) S1.size (k0_off1_inb i)).emb (Shape.Idx.first (numel1_S1.symm ▸ Nat.one_pos)) = ix1 (block i) := by
  funext a
  match a with
  | ⟨0, _⟩ => exact Fin.ext (by
      show k0_off1 i 0 + 1 * 0 = (i 0).val
      rw [off1_val]; omega)

theorem tables_expert (i : grid0.Coords) : (tables m).at 0 (Rect.unit (s := S224) (k0_off1 i) S1.size (k0_off1_inb i)) numel1_S1 = expert m (block i) := by
  exact congrArg (V m 0 main_v13) (emb_off1 i)

theorem tables_count : (tables m).at 2 (Rect.unit (s := S1) ![0] S1.size inb_S1_S1_0) numel1_S1 = count m := by
  refine (congrFun (V_main_arg3 m 0) _).trans (congrArg (m (((0 : Dev nD).tc : Thread nD τ).loc main_arg3)) ?_)
  funext a
  match a with
  | ⟨0, _⟩ => exact Fin.ext rfl

/-- The block of rows block `b` is fed: its own if it is used. -/
def rowsOf (b : Fin 224) : BitVec 32 := blockOf (BitVec.ofNat 32 b.val) (count m)

theorem rowsOf_lt (b : Fin 224) : (rowsOf m b).toNat < 224 := by
  have hb : (BitVec.ofNat 32 b.val).toNat = b.val := by rw [BitVec.toNat_ofNat]; exact Nat.mod_eq_of_lt (by omega)
  have := blockOf_le (BitVec.ofNat 32 b.val) (count m) (by omega)
  unfold rowsOf; omega

variable [Cert.Pre_experts_exist.Facts]

theorem inb_0 (i : grid0.Coords) (a : Fin 3) :
    (cc0_transform_0 inb_S1_S1_0 numel1_S1 (tables m) i a + 1) * S2x1024x256.size a ≤ S2x229376x256.size a := by
  have e : cc0_transform_0 inb_S1_S1_0 numel1_S1 (tables m) i = ![0, (rowsOf m (block i)).toNat, 0] := by
    unfold rowsOf; rw [← tables_count m]; rfl
  have hl := rowsOf_lt m (block i)
  rw [e]
  match a with
  | ⟨0, _⟩ => exact (by decide : (0 + 1) * S2x1024x256.size 0 ≤ S2x229376x256.size 0)
  | ⟨1, _⟩ => show ((rowsOf m (block i)).toNat + 1) * 1024 ≤ 229376; omega
  | ⟨2, _⟩ => exact (by decide : (0 + 1) * S2x1024x256.size 2 ≤ S2x229376x256.size 2)

theorem inb_1 (h : Cert.Pre_Kernel4 m) (i : grid0.Coords) (a : Fin 4) :
    (cc0_transform_1 k0_off1_inb numel1_S1 (tables m) i a + 1) * S1x1x1024x256.size a ≤ S2x64x1024x256.size a := by
  have e : cc0_transform_1 k0_off1_inb numel1_S1 (tables m) i = ![1, (expert m (block i)).toNat, 0, 0] := by
    rw [← tables_expert m i]; rfl
  have hl := expert_word_lt m h (block i)
  rw [e]
  match a with
  | ⟨0, _⟩ => exact (by decide : (1 + 1) * S1x1x1024x256.size 0 ≤ S2x64x1024x256.size 0)
  | ⟨1, _⟩ => show ((expert m (block i)).toNat + 1) * 1 ≤ 64; omega
  | ⟨2, _⟩ => exact (by decide : (0 + 1) * S1x1x1024x256.size 2 ≤ S2x64x1024x256.size 2)
  | ⟨3, _⟩ => exact (by decide : (0 + 1) * S1x1x1024x256.size 3 ≤ S2x64x1024x256.size 3)

theorem inb_2 (h : Cert.Pre_Kernel4 m) (i : grid0.Coords) (a : Fin 4) :
    (cc0_transform_2 k0_off1_inb numel1_S1 (tables m) i a + 1) * S1x1x1024x256.size a ≤ S2x64x1024x256.size a := by
  have e : cc0_transform_2 k0_off1_inb numel1_S1 (tables m) i = ![1, (expert m (block i)).toNat, 0, 0] := by
    rw [← tables_expert m i]; rfl
  have hl := expert_word_lt m h (block i)
  rw [e]
  match a with
  | ⟨0, _⟩ => exact (by decide : (1 + 1) * S1x1x1024x256.size 0 ≤ S2x64x1024x256.size 0)
  | ⟨1, _⟩ => show ((expert m (block i)).toNat + 1) * 1 ≤ 64; omega
  | ⟨2, _⟩ => exact (by decide : (0 + 1) * S1x1x1024x256.size 2 ≤ S2x64x1024x256.size 2)
  | ⟨3, _⟩ => exact (by decide : (0 + 1) * S1x1x1024x256.size 3 ≤ S2x64x1024x256.size 3)

theorem inb_3 (h : Cert.Pre_Kernel4 m) (i : grid0.Coords) (a : Fin 4) :
    (cc0_transform_3 k0_off1_inb numel1_S1 (tables m) i a + 1) * S1x1x256x1024.size a ≤ S2x64x256x1024.size a := by
  have e : cc0_transform_3 k0_off1_inb numel1_S1 (tables m) i = ![1, (expert m (block i)).toNat, 0, 0] := by
    rw [← tables_expert m i]; rfl
  have hl := expert_word_lt m h (block i)
  rw [e]
  match a with
  | ⟨0, _⟩ => exact (by decide : (1 + 1) * S1x1x256x1024.size 0 ≤ S2x64x256x1024.size 0)
  | ⟨1, _⟩ => show ((expert m (block i)).toNat + 1) * 1 ≤ 64; omega
  | ⟨2, _⟩ => exact (by decide : (0 + 1) * S1x1x256x1024.size 2 ≤ S2x64x256x1024.size 2)
  | ⟨3, _⟩ => exact (by decide : (0 + 1) * S1x1x256x1024.size 3 ≤ S2x64x256x1024.size 3)

/-- Every block the index maps name is inside its array. -/
theorem tables_ok (h : Cert.Pre_Kernel4 m) : ok0 (F := Bits) (tables m) :=
  ⟨fun i => ⟨inb_0 m i, Or.inl rfl⟩, fun i => ⟨inb_1 m h i, Or.inl rfl⟩, fun i => ⟨inb_2 m h i, Or.inl rfl⟩, fun i => ⟨inb_3 m h i, Or.inl rfl⟩⟩

end Cert.Kernel4.Ffn

end
-- ==== Proof.Ffn2Conds.lean ====
/- Of the second layer: when the body takes which path, and the words it reads of the tables. -/
module

public import proofs.«01_k».proof.Proof.Ffn2Tables

@[expose] public section

set_option maxRecDepth 16384

noncomputable section

namespace Cert.Kernel4.Ffn

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The body's two conditions at a point: the block's number is below the count of used blocks, -/
theorem cond2_iff (i : grid0.Coords) (n : BitVec 32) : k0_cond2 i n = 1#1 ↔ (BitVec.ofNat 32 (i 0).val).slt n = true := by
  unfold k0_cond2 Scalar.cmpi Scalar.extui IntOp.cmpi
  dsimp only
  generalize (BitVec.ofNat 32 (i 0).val).slt n = q
  revert q; decide

/-- and it is not. -/
theorem cond3_iff (i : grid0.Coords) (n : BitVec 32) : k0_cond3 i n = 1#1 ↔ (BitVec.ofNat 32 (i 0).val).slt n = false := by
  unfold k0_cond3 Scalar.cmpi Scalar.extui Scalar.xori IntOp.cmpi
  dsimp only
  generalize (BitVec.ofNat 32 (i 0).val).slt n = q
  revert q; decide

/-- One of them holds. -/
theorem idle_false (i : grid0.Coords) (n : BitVec 32) : (!(k0_cond2 i n == 1#1) && !(k0_cond3 i n == 1#1)) = false := by
  unfold k0_cond2 k0_cond3 Scalar.cmpi Scalar.extui Scalar.xori IntOp.cmpi
  dsimp only
  generalize (BitVec.ofNat 32 (i 0).val).slt n = q
  revert q; decide

/-- The body refills the scratches at a used block that is the first or has not the expert of the one before. -/
theorem refill_iff (i : grid0.Coords) (n e p : BitVec 32) :
    refill i n e p = 1#1 ↔ (BitVec.ofNat 32 (i 0).val).slt n = true ∧ ((i 0).val = 0 ∨ e ≠ p) := by
  have h0 : (BitVec.ofNat 32 (i 0).val == 0#32) = decide ((i 0).val = 0) := by
    have : (i 0).val < 224 := (i 0).isLt
    rw [Bool.eq_iff_iff]
    simp only [beq_iff_eq, decide_eq_true_eq]
    constructor
    · intro h; have := congrArg BitVec.toNat h; rw [BitVec.toNat_ofNat, BitVec.toNat_ofNat] at this; omega
    · intro h; rw [h]
  unfold refill Scalar.cmpi Scalar.extui Scalar.andi Scalar.ori IntOp.cmpi IntOp.andi IntOp.ori
  dsimp only
  rw [h0, show (e != p) = !decide (e = p) from by rw [bne, beq_eq_decide]]
  generalize (BitVec.ofNat 32 (i 0).val).slt n = q
  by_cases hz : (i 0).val = 0 <;> by_cases he : e = p <;> simp only [hz, he, decide_true, decide_false, ne_eq, not_true, not_false_eq_true, or_true, or_false, true_or, and_true, and_false] <;> revert q <;> decide

variable (m : (ℓ : Loc nD τ sig) → Buf (Elt Bits) ℓ)

/-- Block `b` is used. -/
def usedAt (b : Nat) : Prop := (BitVec.ofNat 32 b).slt (count m) = true
instance (b : Nat) : Decidable (usedAt m b) := by unfold usedAt; infer_instance

/-- The words the body reads: the count, -/
theorem wordN_eq : wordN (tables m 2) = count m := tables_count m
/-- the expert of the block, -/
theorem wordE_eq (i : grid0.Coords) : wordE i (tables m 0) = expert m (block i) := tables_expert m i
/-- that of the block before, -/
theorem wordP_eq (i : grid0.Coords) (b : Fin 224) (hb : (i 0).val = b.val + 1) : wordP i (tables m 0) = expert m b := by
  refine congrArg (V m 0 main_v13) ?_
  funext a
  match a with
  | ⟨0, _⟩ => exact Fin.ext (by
      show k0_off2 i 0 + 1 * 0 = b.val
      have : (i 0).val < 224 := (i 0).isLt
      show (IntOp.maxsi (BitVec.ofNat 32 (i 0).val - 1#32) 0#32).toNat + 1 * 0 = b.val
      have e : BitVec.ofNat 32 (i 0).val - 1#32 = BitVec.ofNat 32 b.val := by
        rw [hb]; exact BitVec.eq_of_toNat_eq (by rw [BitVec.toNat_sub]; simp only [BitVec.toNat_ofNat]; omega)
      have hn : (BitVec.ofNat 32 b.val).toNat = b.val := by rw [BitVec.toNat_ofNat]; omega
      rw [e]
      unfold IntOp.maxsi
      split
      · omega
      · rename_i h
        rw [BitVec.slt_eq_decide, decide_eq_true_eq, BitVec.toInt_eq_toNat_of_lt (show 2 * (BitVec.ofNat 32 b.val).toNat < 2 ^ 32 by omega), hn] at h
        have h0 : (0#32 : BitVec 32).toInt = 0 := rfl
        rw [h0] at h
        show (0#32 : BitVec 32).toNat + 1 * 0 = _
        have : (0#32 : BitVec 32).toNat = 0 := rfl
        omega)
/-- and the block's count of valid rows. -/
theorem wordV_eq (i : grid0.Coords) : wordV i (tables m 1) = m (((0 : Dev nD).tc : Thread nD τ).loc main_arg2) (ix1 (block i)) :=
  (congrArg (V m 0 main_arg2) (emb_off1 i)).trans (congrFun (V_main_arg2 m 0) _)

end Cert.Kernel4.Ffn

end
-- ==== Proof.Ffn2Data.lean ====
/- Of the second layer: the pipeline at its tables, the blocks its windows name, and what its proof carries from a point to the next. -/
module

public import proofs.«01_k».proof.Proof.Ffn2Conds
public import Idealize.ShloMosaic.Lib.Pipeline.Quiescent
public import Idealize.ShloMosaic.Lib.Pipeline.FrameBody
public import Idealize.ShloMosaic.Lib.Pipeline.TableIdle

@[expose] public section

set_option maxRecDepth 16384

noncomputable section

namespace Cert.Kernel4.Ffn

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable [Cert.Pre_experts_exist.Facts]
variable (m : (ℓ : Loc nD τ sig) → Buf (Elt Bits) ℓ) (h : Cert.Pre_Kernel4 m)

/-- The tables, admissible, and the pipeline at them. -/
def adm : (pcfg0 (F := Bits)).Adm := ⟨tables m, tables_ok m h⟩
abbrev cfgA : Pipeline.Cfg sig Λ₀ := cfg0 (F := Bits) (adm m h)
abbrev pcs : Fin 1 → Pipeline.Cfg sig Λ₀ := Pipeline.pin (pcfgs (F := Bits)) fun _ => adm m h

/-- Point `t`'s coordinates, -/
abbrev crd (t : Fin (cfgA m h).N) : (cfgA m h).grid.Coords := (cfgA m h).grid.coords t

theorem coord_all : ∀ t : Fin grid0.N, (grid0.coords t 0).val = t.val := by decide +kernel
/-- the one of which is its number. -/
theorem crd_val (t : Fin (cfgA m h).N) : (crd m h t 0).val = t.val := coord_all t
theorem pt_lt (t : Fin (cfgA m h).N) : t.val < 224 := by have := coord_all t; have : (grid0.coords t 0).val < 224 := (grid0.coords t 0).isLt; omega

/-- Each window's current staging memref. -/
abbrev ms0_0 (t : Fin (cfgA m h).N) : Memref sig .tc .vmem S2x1024x256 .i32 := spec0_0.stage ((cfgA m h).slots t (0 : Fin 5))
abbrev hs0_0 (t : Fin (cfgA m h).N) : (ms0_0 m h t).IsWhole := hstage0_0 (((cfgA m h).slots t (0 : Fin 5)).cast nbuf0_0)
abbrev ms0_1 (t : Fin (cfgA m h).N) : Memref sig .tc .vmem S1x1x1024x256 .f32 := spec0_1.stage ((cfgA m h).slots t (1 : Fin 5))
abbrev hs0_1 (t : Fin (cfgA m h).N) : (ms0_1 m h t).IsWhole := hstage0_1 (((cfgA m h).slots t (1 : Fin 5)).cast nbuf0_1)
abbrev ms0_2 (t : Fin (cfgA m h).N) : Memref sig .tc .vmem S1x1x1024x256 .f32 := spec0_2.stage ((cfgA m h).slots t (2 : Fin 5))
abbrev hs0_2 (t : Fin (cfgA m h).N) : (ms0_2 m h t).IsWhole := hstage0_2 (((cfgA m h).slots t (2 : Fin 5)).cast nbuf0_2)
abbrev ms0_3 (t : Fin (cfgA m h).N) : Memref sig .tc .vmem S1x1x256x1024 .f32 := spec0_3.stage ((cfgA m h).slots t (3 : Fin 5))
abbrev hs0_3 (t : Fin (cfgA m h).N) : (ms0_3 m h t).IsWhole := hstage0_3 (((cfgA m h).slots t (3 : Fin 5)).cast nbuf0_3)
abbrev ms0_4 (t : Fin (cfgA m h).N) : Memref sig .tc .vmem S2x1024x256 .i32 := spec0_4.stage ((cfgA m h).slots t (4 : Fin 5))
abbrev hs0_4 (t : Fin (cfgA m h).N) : (ms0_4 m h t).IsWhole := hstage0_4 (((cfgA m h).slots t (4 : Fin 5)).cast nbuf0_4)

/-- Window `w`'s block at point `t`, read off its array at the region. -/
def iblk (c : Dev nD) (w : Fin (cfgA m h).W) (t : Fin (cfgA m h).N) : (((cfgA m h).win w).xblock (crd m h t)).Idx → Elt Bits ((cfgA m h).win w).elt :=
  (((cfgA m h).win w).blk t).view.read (Elt Bits) (V m c (Pipeline.arrRef (cfgA m h).spec w))

/-- The expert of block `b`, as a number. -/
def who (b : Fin 224) : Fin 64 := ⟨(expert m b).toNat, expert_word_lt m h b⟩
/-- The block of rows fed to block `b`, as a number. -/
def src (b : Fin 224) : Fin 224 := ⟨(rowsOf m b).toNat, rowsOf_lt m b⟩

/-- Block `b` of the routed rows, packed. -/
def rowsAt (c : Dev nD) (b : Fin 224) : Vec Bits S2x1024x256 .i32 := fun y =>
  m (c.tc.loc main_arg0) (ix3 (y 0) ⟨1024 * b.val + (y 1).val, by have h1 : (y 1).val < 1024 := (y 1).isLt; have := b.isLt; omega⟩ (y 2))
/-- Expert `e`'s three matrices. -/
def gateAt (c : Dev nD) (e : Fin 64) : Vec Bits S1x1x1024x256 .f32 := fun y => m (c.tc.loc main_arg4) (ix4 (1 : Fin 2) e (y 2) (y 3))
def upAt (c : Dev nD) (e : Fin 64) : Vec Bits S1x1x1024x256 .f32 := fun y => m (c.tc.loc main_arg5) (ix4 (1 : Fin 2) e (y 2) (y 3))
def downAt (c : Dev nD) (e : Fin 64) : Vec Bits S1x1x256x1024 .f32 := fun y => m (c.tc.loc main_arg6) (ix4 (1 : Fin 2) e (y 2) (y 3))

theorem index_0 (t : Fin (cfgA m h).N) : ((cfgA m h).win (0 : Fin 5)).index t = ![0, (src m (block (crd m h t))).val, 0] := by
  show cc0_transform_0 inb_S1_S1_0 numel1_S1 (tables m) (crd m h t) = _
  show _ = ![0, (rowsOf m (block (crd m h t))).toNat, 0]
  unfold rowsOf; rw [← tables_count m]; rfl
theorem index_1 (t : Fin (cfgA m h).N) : ((cfgA m h).win (1 : Fin 5)).index t = ![1, (who m h (block (crd m h t))).val, 0, 0] := by
  show cc0_transform_1 k0_off1_inb numel1_S1 (tables m) (crd m h t) = _
  unfold who; dsimp only; rw [← tables_expert m (crd m h t)]; rfl
theorem index_2 (t : Fin (cfgA m h).N) : ((cfgA m h).win (2 : Fin 5)).index t = ![1, (who m h (block (crd m h t))).val, 0, 0] := by
  show cc0_transform_2 k0_off1_inb numel1_S1 (tables m) (crd m h t) = _
  unfold who; dsimp only; rw [← tables_expert m (crd m h t)]; rfl
theorem index_3 (t : Fin (cfgA m h).N) : ((cfgA m h).win (3 : Fin 5)).index t = ![1, (who m h (block (crd m h t))).val, 0, 0] := by
  show cc0_transform_3 k0_off1_inb numel1_S1 (tables m) (crd m h t) = _
  unfold who; dsimp only; rw [← tables_expert m (crd m h t)]; rfl

/-- The blocks the windows name, in coordinates. -/
theorem iblk_0 (c : Dev nD) (t : Fin (cfgA m h).N) : iblk m h c (0 : Fin 5) t = rowsAt m c (src m (block (crd m h t))) := by
  funext y
  show V m c main_arg0 ((((cfgA m h).win (0 : Fin 5)).rect t).emb y) = _
  rw [V_main_arg0]
  refine congrArg (m (c.tc.loc main_arg0)) (funext fun a => Fin.ext ?_)
  have e := index_0 m h t
  match a with
  | ⟨0, _⟩ => exact Window.rect_emb_val_of_index_zero ((cfgA m h).win (0 : Fin 5)) t (0 : Fin 3) (congrFun e (0 : Fin 3)) y
  | ⟨1, _⟩ => exact (Window.rect_emb_val ((cfgA m h).win (0 : Fin 5)) t y (1 : Fin 3)).trans (by
      rw [show ((cfgA m h).win (0 : Fin 5)).index t (1 : Fin 3) = (src m (block (crd m h t))).val from congrFun e (1 : Fin 3)]
      show (src m (block (crd m h t))).val * 1024 + (y (1 : Fin 3)).val = 1024 * (src m (block (crd m h t))).val + (y (1 : Fin 3)).val
      omega)
  | ⟨2, _⟩ => exact Window.rect_emb_val_of_index_zero ((cfgA m h).win (0 : Fin 5)) t (2 : Fin 3) (congrFun e (2 : Fin 3)) y

theorem iblk_1 (c : Dev nD) (t : Fin (cfgA m h).N) : iblk m h c (1 : Fin 5) t = gateAt m c (who m h (block (crd m h t))) := by
  funext y
  show V m c main_arg4 ((((cfgA m h).win (1 : Fin 5)).rect t).emb y) = _
  rw [V_main_arg4]
  refine congrArg (m (c.tc.loc main_arg4)) (funext fun a => Fin.ext ?_)
  have e := index_1 m h t
  match a with
  | ⟨0, _⟩ => exact (Window.rect_emb_val ((cfgA m h).win (1 : Fin 5)) t y (0 : Fin 4)).trans (by
      rw [show ((cfgA m h).win (1 : Fin 5)).index t (0 : Fin 4) = 1 from congrFun e (0 : Fin 4)]
      have h0 : (y (0 : Fin 4)).val < 1 := (y (0 : Fin 4)).isLt
      show 1 * 1 + (y (0 : Fin 4)).val = 1
      omega)
  | ⟨1, _⟩ => exact (Window.rect_emb_val ((cfgA m h).win (1 : Fin 5)) t y (1 : Fin 4)).trans (by
      rw [show ((cfgA m h).win (1 : Fin 5)).index t (1 : Fin 4) = (who m h (block (crd m h t))).val from congrFun e (1 : Fin 4)]
      have h1 : (y (1 : Fin 4)).val < 1 := (y (1 : Fin 4)).isLt
      show (who m h (block (crd m h t))).val * 1 + (y (1 : Fin 4)).val = (who m h (block (crd m h t))).val
      omega)
  | ⟨2, _⟩ => exact Window.rect_emb_val_of_index_zero ((cfgA m h).win (1 : Fin 5)) t (2 : Fin 4) (congrFun e (2 : Fin 4)) y
  | ⟨3, _⟩ => exact Window.rect_emb_val_of_index_zero ((cfgA m h).win (1 : Fin 5)) t (3 : Fin 4) (congrFun e (3 : Fin 4)) y

theorem iblk_2 (c : Dev nD) (t : Fin (cfgA m h).N) : iblk m h c (2 : Fin 5) t = upAt m c (who m h (block (crd m h t))) := by
  funext y
  show V m c main_arg5 ((((cfgA m h).win (2 : Fin 5)).rect t).emb y) = _
  rw [V_main_arg5]
  refine congrArg (m (c.tc.loc main_arg5)) (funext fun a => Fin.ext ?_)
  have e := index_2 m h t
  match a with
  | ⟨0, _⟩ => exact (Window.rect_emb_val ((cfgA m h).win (2 : Fin 5)) t y (0 : Fin 4)).trans (by
      rw [show ((cfgA m h).win (2 : Fin 5)).index t (0 : Fin 4) = 1 from congrFun e (0 : Fin 4)]
      have h0 : (y (0 : Fin 4)).val < 1 := (y (0 : Fin 4)).isLt
      show 1 * 1 + (y (0 : Fin 4)).val = 1
      omega)
  | ⟨1, _⟩ => exact (Window.rect_emb_val ((cfgA m h).win (2 : Fin 5)) t y (1 : Fin 4)).trans (by
      rw [show ((cfgA m h).win (2 : Fin 5)).index t (1 : Fin 4) = (who m h (block (crd m h t))).val from congrFun e (1 : Fin 4)]
      have h1 : (y (1 : Fin 4)).val < 1 := (y (1 : Fin 4)).isLt
      show (who m h (block (crd m h t))).val * 1 + (y (1 : Fin 4)).val = (who m h (block (crd m h t))).val
      omega)
  | ⟨2, _⟩ => exact Window.rect_emb_val_of_index_zero ((cfgA m h).win (2 : Fin 5)) t (2 : Fin 4) (congrFun e (2 : Fin 4)) y
  | ⟨3, _⟩ => exact Window.rect_emb_val_of_index_zero ((cfgA m h).win (2 : Fin 5)) t (3 : Fin 4) (congrFun e (3 : Fin 4)) y

theorem iblk_3 (c : Dev nD) (t : Fin (cfgA m h).N) : iblk m h c (3 : Fin 5) t = downAt m c (who m h (block (crd m h t))) := by
  funext y
  show V m c main_arg6 ((((cfgA m h).win (3 : Fin 5)).rect t).emb y) = _
  rw [V_main_arg6]
  refine congrArg (m (c.tc.loc main_arg6)) (funext fun a => Fin.ext ?_)
  have e := index_3 m h t
  match a with
  | ⟨0, _⟩ => exact (Window.rect_emb_val ((cfgA m h).win (3 : Fin 5)) t y (0 : Fin 4)).trans (by
      rw [show ((cfgA m h).win (3 : Fin 5)).index t (0 : Fin 4) = 1 from congrFun e (0 : Fin 4)]
      have h0 : (y (0 : Fin 4)).val < 1 := (y (0 : Fin 4)).isLt
      show 1 * 1 + (y (0 : Fin 4)).val = 1
      omega)
  | ⟨1, _⟩ => exact (Window.rect_emb_val ((cfgA m h).win (3 : Fin 5)) t y (1 : Fin 4)).trans (by
      rw [show ((cfgA m h).win (3 : Fin 5)).index t (1 : Fin 4) = (who m h (block (crd m h t))).val from congrFun e (1 : Fin 4)]
      have h1 : (y (1 : Fin 4)).val < 1 := (y (1 : Fin 4)).isLt
      show (who m h (block (crd m h t))).val * 1 + (y (1 : Fin 4)).val = (who m h (block (crd m h t))).val
      omega)
  | ⟨2, _⟩ => exact Window.rect_emb_val_of_index_zero ((cfgA m h).win (3 : Fin 5)) t (2 : Fin 4) (congrFun e (2 : Fin 4)) y
  | ⟨3, _⟩ => exact Window.rect_emb_val_of_index_zero ((cfgA m h).win (3 : Fin 5)) t (3 : Fin 4) (congrFun e (3 : Fin 4)) y

/-- What block `b` of the result is: the expert's network on the rows of a used block, zeros else. -/
def outAt (c : Dev nD) (b : Fin 224) : Vec Bits S2x1024x256 .i32 :=
  if usedAt m b.val then
    used (m (((0 : Dev nD).tc : Thread nD τ).loc main_arg2) (ix1 b)) (rowsAt m c (src m b)) (k0_pay1 (gateAt m c (who m h b))) (k0_pay2 (upAt m c (who m h b))) (k0_pay3 (downAt m c (who m h b)))
  else unused

/-- Between the points: after a used block the scratches hold its expert's weights, cast; the tables are as they were. -/
def Phi (c : Dev nD) (t : Fin ((cfgA m h).N + 1)) : sProp 𝕄 :=
  iprop((∃ a : Buf (Elt Bits) ((c : Thread nD τ).loc cc0_scratch0), ⌜∀ b : Fin 224, b.val + 1 = t.val → usedAt m b.val → scG.view.read (Elt Bits) a = k0_pay1 (gateAt m c (who m h b))⌝ ∗ (scG.view.loc (c : Thread nD τ) ↦{fullShare} a))
    ∗ (∃ a : Buf (Elt Bits) ((c : Thread nD τ).loc cc0_scratch1), ⌜∀ b : Fin 224, b.val + 1 = t.val → usedAt m b.val → scU.view.read (Elt Bits) a = k0_pay2 (upAt m c (who m h b))⌝ ∗ (scU.view.loc (c : Thread nD τ) ↦{fullShare} a))
    ∗ (∃ a : Buf (Elt Bits) ((c : Thread nD τ).loc cc0_scratch2), ⌜∀ b : Fin 224, b.val + 1 = t.val → usedAt m b.val → scD.view.read (Elt Bits) a = k0_pay3 (downAt m c (who m h b))⌝ ∗ (scD.view.loc (c : Thread nD τ) ↦{fullShare} a))
    ∗ (tblE.view.loc (c : Thread nD τ) ↦{fullShare.right} tables m 0) ∗ (tblV.view.loc (c : Thread nD τ) ↦{fullShare.right} tables m 1) ∗ (tblN.view.loc (c : Thread nD τ) ↦{fullShare.right} tables m 2)
    ∗ ∃ r, prngReg c r)

/-- The proof data. -/
def dats (_ : Fin 1) (c : Dev nD) : Dat τ (Elt Bits) Unit ℕ (UR sig nD τ) ℕ (cfgA m h) c where
  A w := V m c (Pipeline.arrRef (cfgA m h).spec w)
  after w t := match w with
    | ⟨0, _⟩ => iblk m h c (0 : Fin 5) t
    | ⟨1, _⟩ => iblk m h c (1 : Fin 5) t
    | ⟨2, _⟩ => iblk m h c (2 : Fin 5) t
    | ⟨3, _⟩ => iblk m h c (3 : Fin 5) t
    | ⟨4, _⟩ => outAt m h c (block (crd m h t))
  Φ t := Phi m h c t
  q _ := fullShare
  owed _ := 0

theorem after0_0 (c : Dev nD) (t : Fin (cfgA m h).N) : (dats m h 0 c).after (0 : Fin 5) t = iblk m h c (0 : Fin 5) t := rfl
theorem before0_0 (c : Dev nD) (t : Fin (cfgA m h).N) (d) : (dats m h 0 c).before (0 : Fin 5) t d = iblk m h c (0 : Fin 5) t :=
  ((dats m h 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem after0_1 (c : Dev nD) (t : Fin (cfgA m h).N) : (dats m h 0 c).after (1 : Fin 5) t = iblk m h c (1 : Fin 5) t := rfl
theorem before0_1 (c : Dev nD) (t : Fin (cfgA m h).N) (d) : (dats m h 0 c).before (1 : Fin 5) t d = iblk m h c (1 : Fin 5) t :=
  ((dats m h 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem after0_2 (c : Dev nD) (t : Fin (cfgA m h).N) : (dats m h 0 c).after (2 : Fin 5) t = iblk m h c (2 : Fin 5) t := rfl
theorem before0_2 (c : Dev nD) (t : Fin (cfgA m h).N) (d) : (dats m h 0 c).before (2 : Fin 5) t d = iblk m h c (2 : Fin 5) t :=
  ((dats m h 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem after0_3 (c : Dev nD) (t : Fin (cfgA m h).N) : (dats m h 0 c).after (3 : Fin 5) t = iblk m h c (3 : Fin 5) t := rfl
theorem before0_3 (c : Dev nD) (t : Fin (cfgA m h).N) (d) : (dats m h 0 c).before (3 : Fin 5) t d = iblk m h c (3 : Fin 5) t :=
  ((dats m h 0 c).before_in_eq_fetched (3 : Fin 5) rfl (fun _ => rfl) (fun _ _ _ => rfl) (fun t => by rw [after0_3]; unfold Dat.blockOf iblk; rfl) t d).trans
    (by unfold Dat.fetched Dat.blockOf iblk; rfl)
theorem after0_4 (c : Dev nD) (t : Fin (cfgA m h).N) : (dats m h 0 c).after (4 : Fin 5) t = outAt m h c (block (crd m h t)) := rfl

end Cert.Kernel4.Ffn

end
-- ==== Proof.Ffn2Fill.lean ====
/- Of the second layer: the body of the expert FFN at a used block of a new expert: it refills the scratches, then leaves the block. -/
module

public import proofs.«01_k».proof.Proof.Ffn2Block

@[expose] public section

set_option maxRecDepth 16384

noncomputable section

namespace Cert.Kernel4.Ffn

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

local notation "𝕄" => MT nD τ sig Unit (Elt F) ℕ (UR sig nD τ) ℕ

set_option maxHeartbeats 8000000 in
/-- At a used block of a new expert the body ends with the scratches at that expert's weights and the block the expert's. -/
theorem body_fill (c : Dev nD) (i : grid0.Coords) (arg4 : Memref sig .tc .vmem S2x1024x256 .i32) (harg4 : arg4.IsWhole) (arg5 : Memref sig .tc .vmem S1x1x1024x256 .f32) (harg5 : arg5.IsWhole) (arg6 : Memref sig .tc .vmem S1x1x1024x256 .f32) (harg6 : arg6.IsWhole) (arg7 : Memref sig .tc .vmem S1x1x256x1024 .f32) (harg7 : arg7.IsWhole) (arg8 : Memref sig .tc .vmem S2x1024x256 .i32) (harg8 : arg8.IsWhole)
    (TE TV : S224.Idx → Elt F .i32) (TN : S1.Idx → Elt F .i32) (x0 : Vec F S2x1024x256 .i32) (x1 x2 : Vec F S1x1x1024x256 .f32) (x3 : Vec F S1x1x256x1024 .f32)
    (a0 : Buf (Elt F) ((c : Thread nD τ).loc cc0_scratch0)) (a1 : Buf (Elt F) ((c : Thread nD τ).loc cc0_scratch1)) (a2 : Buf (Elt F) ((c : Thread nD τ).loc cc0_scratch2))
    (hc0 : refill i (wordN TN) (wordE i TE) (wordP i TE) = 1#1) (h2 : k0_cond2 i (wordN TN) = 1#1) (h3 : ¬k0_cond3 i (wordN TN) = 1#1) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3
        ∗ (tblE.view.loc (c : Thread nD τ) ↦{fullShare.right} TE) ∗ (tblV.view.loc (c : Thread nD τ) ↦{fullShare.right} TV) ∗ (tblN.view.loc (c : Thread nD τ) ↦{fullShare.right} TN)
        ∗ (∃ d, owns (c : Thread nD τ) arg8 fullShare d)
        ∗ (scG.view.loc (c : Thread nD τ) ↦{fullShare} a0) ∗ (scU.view.loc (c : Thread nD τ) ↦{fullShare} a1) ∗ (scD.view.loc (c : Thread nD τ) ↦{fullShare} a2)
        ∗ (iprop(owns (c : Thread nD τ) arg4 fullShare x0 ∗ owns (c : Thread nD τ) arg5 fullShare x1 ∗ owns (c : Thread nD τ) arg6 fullShare x2 ∗ owns (c : Thread nD τ) arg7 fullShare x3
            ∗ (tblE.view.loc (c : Thread nD τ) ↦{fullShare.right} TE) ∗ (tblV.view.loc (c : Thread nD τ) ↦{fullShare.right} TV) ∗ (tblN.view.loc (c : Thread nD τ) ↦{fullShare.right} TN)
            ∗ owns (c : Thread nD τ) arg8 fullShare (used (wordV i TV) x0 (k0_pay1 x1) (k0_pay2 x2) (k0_pay3 x3))
            ∗ (∃ a : Buf (Elt F) ((c : Thread nD τ).loc cc0_scratch0), ⌜scG.view.read (Elt F) a = k0_pay1 x1⌝ ∗ (scG.view.loc (c : Thread nD τ) ↦{fullShare} a))
            ∗ (∃ a : Buf (Elt F) ((c : Thread nD τ).loc cc0_scratch1), ⌜scU.view.read (Elt F) a = k0_pay2 x2⌝ ∗ (scU.view.loc (c : Thread nD τ) ↦{fullShare} a))
            ∗ (∃ a : Buf (Elt F) ((c : Thread nD τ).loc cc0_scratch2), ⌜scD.view.read (Elt F) a = k0_pay3 x3⌝ ∗ (scD.view.loc (c : Thread nD τ) ↦{fullShare} a))) -∗ K ⟨⟩))
      ⊢ wp frame (wpE (defs₀ (F := F)) Variants.none c none) Set.univ (cc0_expert_ffn i tblE (Memref.isWhole_whole _) tblV (Memref.isWhole_whole _) tblN (Memref.isWhole_whole _) arg4 harg4 arg5 harg5 arg6 harg6 arg7 harg7 arg8 harg8 scG (Memref.isWhole_whole _) scU (Memref.isWhole_whole _) scD (Memref.isWhole_whole _)) K := by
  rw [cc0_expert_ffn_eq_skeleton]; unfold cc0_expert_ffn_skel
  rw [owns_eq_rep (c : Thread nD τ) arg4, owns_eq_rep (c : Thread nD τ) arg5, owns_eq_rep (c : Thread nD τ) arg6, owns_eq_rep (c : Thread nD τ) arg7]
  unfold owns
  iintro ⟨H0, H1, H2, H3, HTE, HTV, HTN, ⟨%d4, %f4, -, HO⟩, HG, HU, HD, Hk⟩
  have hG : scG.IsWhole := Memref.isWhole_whole _
  have hU : scU.IsWhole := Memref.isWhole_whole _
  have hD : scD.IsWhole := Memref.isWhole_whole _
  have hTE : tblE.IsWhole := Memref.isWhole_whole _
  have hTV : tblV.IsWhole := Memref.isWhole_whole _
  have hTN : tblN.IsWhole := Memref.isWhole_whole _
  sl_exec! (disch := first | (guard_target = Scalar.cmpi _ _ _ = _; exact hc0) | (guard_target = k0_cond2 _ _ = _; exact h2) | (guard_target = ¬(k0_cond3 _ _ = _); exact h3))
  sl_step
  iapply Hk
  isplitl [H0]; · iexact H0
  isplitl [H1]; · iexact H1
  isplitl [H2]; · iexact H2
  isplitl [H3]; · iexact H3
  isplitl [HTE]; · iexact HTE
  isplitl [HTV]; · iexact HTV
  isplitl [HTN]; · iexact HTN
  isplitl [HO]
  · iexists _; isplitr; swap; · iexact HO
    ipureintro
    have e0 : View.readAt (Elt F) arg4.view (Rect.unit (s := S2x1024x256) ![0, 0, 0] S1x1024x256.size inb_S2x1024x256_S1x1024x256_0_0_0).toLoadRect (arg4.view.rep x0) = chunk0 x0 :=
      View.readAt_rep_unit _ _ _ rfl _
    have e1 : View.readAt (Elt F) arg4.view (Rect.unit (s := S2x1024x256) ![1, 0, 0] S1x1024x256.size inb_S2x1024x256_S1x1024x256_1_0_0).toLoadRect (arg4.view.rep x0) = chunk1 x0 :=
      View.readAt_rep_unit _ _ _ rfl _
    have eG : body_fill.sl.v38 c arg5 x1 = k0_pay1 x1 := by
      unfold body_fill.sl.v38 body_fill.sl.HG_1 body_fill.sl.v19
      rw [View.readAt_rep_full]; exact View.readCov_full _ _ _ _ _
    have eU : body_fill.sl.v40 c arg6 x2 = k0_pay2 x2 := by
      unfold body_fill.sl.v40 body_fill.sl.HU_1 body_fill.sl.v25
      rw [View.readAt_rep_full]; exact View.readCov_full _ _ _ _ _
    have eD : body_fill.sl.v46 c arg7 x3 = k0_pay3 x3 := by
      unfold body_fill.sl.v46 body_fill.sl.HD_1 body_fill.sl.v31
      rw [View.readAt_rep_full]; exact View.readCov_full _ _ _ _ _
    unfold body_fill.sl.HO_2 body_fill.sl.r_4 body_fill.sl.r_3
    rw [e0, e1, eG, eU, eD]
    exact View.read_writes_eq_canon _ _ (stores (F := F) _ _) (stores_cover _ _)
  isplitl [HG]
  · iexists _; isplitr; swap; · iexact HG
    ipureintro
    unfold body_fill.sl.HG_1 body_fill.sl.v19
    rw [View.readAt_rep_full]; exact View.read_writes_full _ _ _ _ _
  isplitl [HU]
  · iexists _; isplitr; swap; · iexact HU
    ipureintro
    unfold body_fill.sl.HU_1 body_fill.sl.v25
    rw [View.readAt_rep_full]; exact View.read_writes_full _ _ _ _ _
  iexists _; isplitr; swap; · iexact HD
  ipureintro
  unfold body_fill.sl.HD_1 body_fill.sl.v31
  rw [View.readAt_rep_full]; exact View.read_writes_full _ _ _ _ _

end Cert.Kernel4.Ffn

end
-- ==== Proof.Ffn2Keep.lean ====
/- Of the second layer: the body of the expert FFN at a used block of the same expert as the block before. -/
module

public import proofs.«01_k».proof.Proof.Ffn2Block

@[expose] public section

set_option maxRecDepth 16384

noncomputable section

namespace Cert.Kernel4.Ffn

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

local notation "𝕄" => MT nD τ sig Unit (Elt F) ℕ (UR sig nD τ) ℕ

set_option maxHeartbeats 8000000 in
/-- At a used block of the same expert as before the body keeps the scratches and leaves the block their weights give. -/
theorem body_keep (c : Dev nD) (i : grid0.Coords) (arg4 : Memref sig .tc .vmem S2x1024x256 .i32) (harg4 : arg4.IsWhole) (arg5 : Memref sig .tc .vmem S1x1x1024x256 .f32) (harg5 : arg5.IsWhole) (arg6 : Memref sig .tc .vmem S1x1x1024x256 .f32) (harg6 : arg6.IsWhole) (arg7 : Memref sig .tc .vmem S1x1x256x1024 .f32) (harg7 : arg7.IsWhole) (arg8 : Memref sig .tc .vmem S2x1024x256 .i32) (harg8 : arg8.IsWhole)
    (TE TV : S224.Idx → Elt F .i32) (TN : S1.Idx → Elt F .i32) (x0 : Vec F S2x1024x256 .i32) (x1 x2 : Vec F S1x1x1024x256 .f32) (x3 : Vec F S1x1x256x1024 .f32)
    (a0 : Buf (Elt F) ((c : Thread nD τ).loc cc0_scratch0)) (a1 : Buf (Elt F) ((c : Thread nD τ).loc cc0_scratch1)) (a2 : Buf (Elt F) ((c : Thread nD τ).loc cc0_scratch2))
    (hc0 : ¬refill i (wordN TN) (wordE i TE) (wordP i TE) = 1#1) (h2 : k0_cond2 i (wordN TN) = 1#1) (h3 : ¬k0_cond3 i (wordN TN) = 1#1) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3
        ∗ (tblE.view.loc (c : Thread nD τ) ↦{fullShare.right} TE) ∗ (tblV.view.loc (c : Thread nD τ) ↦{fullShare.right} TV) ∗ (tblN.view.loc (c : Thread nD τ) ↦{fullShare.right} TN)
        ∗ (∃ d, owns (c : Thread nD τ) arg8 fullShare d)
        ∗ (scG.view.loc (c : Thread nD τ) ↦{fullShare} a0) ∗ (scU.view.loc (c : Thread nD τ) ↦{fullShare} a1) ∗ (scD.view.loc (c : Thread nD τ) ↦{fullShare} a2)
        ∗ (iprop(owns (c : Thread nD τ) arg4 fullShare x0 ∗ owns (c : Thread nD τ) arg5 fullShare x1 ∗ owns (c : Thread nD τ) arg6 fullShare x2 ∗ owns (c : Thread nD τ) arg7 fullShare x3
            ∗ (tblE.view.loc (c : Thread nD τ) ↦{fullShare.right} TE) ∗ (tblV.view.loc (c : Thread nD τ) ↦{fullShare.right} TV) ∗ (tblN.view.loc (c : Thread nD τ) ↦{fullShare.right} TN)
            ∗ owns (c : Thread nD τ) arg8 fullShare (used (wordV i TV) x0 (scG.view.read (Elt F) a0) (scU.view.read (Elt F) a1) (scD.view.read (Elt F) a2))
            ∗ (∃ a : Buf (Elt F) ((c : Thread nD τ).loc cc0_scratch0), ⌜a = a0⌝ ∗ (scG.view.loc (c : Thread nD τ) ↦{fullShare} a))
            ∗ (∃ a : Buf (Elt F) ((c : Thread nD τ).loc cc0_scratch1), ⌜a = a1⌝ ∗ (scU.view.loc (c : Thread nD τ) ↦{fullShare} a))
            ∗ (∃ a : Buf (Elt F) ((c : Thread nD τ).loc cc0_scratch2), ⌜a = a2⌝ ∗ (scD.view.loc (c : Thread nD τ) ↦{fullShare} a))) -∗ K ⟨⟩))
      ⊢ wp frame (wpE (defs₀ (F := F)) Variants.none c none) Set.univ (cc0_expert_ffn i tblE (Memref.isWhole_whole _) tblV (Memref.isWhole_whole _) tblN (Memref.isWhole_whole _) arg4 harg4 arg5 harg5 arg6 harg6 arg7 harg7 arg8 harg8 scG (Memref.isWhole_whole _) scU (Memref.isWhole_whole _) scD (Memref.isWhole_whole _)) K := by
  rw [cc0_expert_ffn_eq_skeleton]; unfold cc0_expert_ffn_skel
  rw [owns_eq_rep (c : Thread nD τ) arg4, owns_eq_rep (c : Thread nD τ) arg5, owns_eq_rep (c : Thread nD τ) arg6, owns_eq_rep (c : Thread nD τ) arg7]
  unfold owns
  iintro ⟨H0, H1, H2, H3, HTE, HTV, HTN, ⟨%d4, %f4, -, HO⟩, HG, HU, HD, Hk⟩
  have hG : scG.IsWhole := Memref.isWhole_whole _
  have hU : scU.IsWhole := Memref.isWhole_whole _
  have hD : scD.IsWhole := Memref.isWhole_whole _
  have hTE : tblE.IsWhole := Memref.isWhole_whole _
  have hTV : tblV.IsWhole := Memref.isWhole_whole _
  have hTN : tblN.IsWhole := Memref.isWhole_whole _
  sl_exec! (disch := first | (guard_target = ¬(Scalar.cmpi _ _ _ = _); exact hc0) | (guard_target = k0_cond2 _ _ = _; exact h2) | (guard_target = ¬(k0_cond3 _ _ = _); exact h3))
  sl_step
  iapply Hk
  isplitl [H0]; · iexact H0
  isplitl [H1]; · iexact H1
  isplitl [H2]; · iexact H2
  isplitl [H3]; · iexact H3
  isplitl [HTE]; · iexact HTE
  isplitl [HTV]; · iexact HTV
  isplitl [HTN]; · iexact HTN
  isplitl [HO]
  · iexists _; isplitr; swap; · iexact HO
    ipureintro
    have e0 : View.readAt (Elt F) arg4.view (Rect.unit (s := S2x1024x256) ![0, 0, 0] S1x1024x256.size inb_S2x1024x256_S1x1024x256_0_0_0).toLoadRect (arg4.view.rep x0) = chunk0 x0 :=
      View.readAt_rep_unit _ _ _ rfl _
    have e1 : View.readAt (Elt F) arg4.view (Rect.unit (s := S2x1024x256) ![1, 0, 0] S1x1024x256.size inb_S2x1024x256_S1x1024x256_1_0_0).toLoadRect (arg4.view.rep x0) = chunk1 x0 :=
      View.readAt_rep_unit _ _ _ rfl _
    unfold body_keep.sl.HO_2 body_keep.sl.r_4 body_keep.sl.r_3
    rw [e0, e1, View.readAt_full, View.readAt_full, View.readAt_full]
    exact View.read_writes_eq_canon _ _ (stores (F := F) _ _) (stores_cover _ _)
  isplitl [HG]
  · iexists _; isplitr; swap; · iexact HG
    ipureintro; rfl
  isplitl [HU]
  · iexists _; isplitr; swap; · iexact HU
    ipureintro; rfl
  iexists _; isplitr; swap; · iexact HD
  ipureintro; rfl

end Cert.Kernel4.Ffn

end
-- ==== Proof.Ffn2Rest.lean ====
/- Of the second layer: the body of the expert FFN at an unused block. -/
module

public import proofs.«01_k».proof.Proof.Ffn2Block

@[expose] public section

set_option maxRecDepth 16384

noncomputable section

namespace Cert.Kernel4.Ffn

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

local notation "𝕄" => MT nD τ sig Unit (Elt F) ℕ (UR sig nD τ) ℕ

set_option maxHeartbeats 8000000 in
/-- At an unused block the body keeps the scratches and leaves zeros. -/
theorem body_rest (c : Dev nD) (i : grid0.Coords) (arg4 : Memref sig .tc .vmem S2x1024x256 .i32) (harg4 : arg4.IsWhole) (arg5 : Memref sig .tc .vmem S1x1x1024x256 .f32) (harg5 : arg5.IsWhole) (arg6 : Memref sig .tc .vmem S1x1x1024x256 .f32) (harg6 : arg6.IsWhole) (arg7 : Memref sig .tc .vmem S1x1x256x1024 .f32) (harg7 : arg7.IsWhole) (arg8 : Memref sig .tc .vmem S2x1024x256 .i32) (harg8 : arg8.IsWhole)
    (TE TV : S224.Idx → Elt F .i32) (TN : S1.Idx → Elt F .i32) (x0 : Vec F S2x1024x256 .i32) (x1 x2 : Vec F S1x1x1024x256 .f32) (x3 : Vec F S1x1x256x1024 .f32)
    (a0 : Buf (Elt F) ((c : Thread nD τ).loc cc0_scratch0)) (a1 : Buf (Elt F) ((c : Thread nD τ).loc cc0_scratch1)) (a2 : Buf (Elt F) ((c : Thread nD τ).loc cc0_scratch2))
    (hc0 : ¬refill i (wordN TN) (wordE i TE) (wordP i TE) = 1#1) (h2 : ¬k0_cond2 i (wordN TN) = 1#1) (h3 : k0_cond3 i (wordN TN) = 1#1) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3
        ∗ (tblE.view.loc (c : Thread nD τ) ↦{fullShare.right} TE) ∗ (tblV.view.loc (c : Thread nD τ) ↦{fullShare.right} TV) ∗ (tblN.view.loc (c : Thread nD τ) ↦{fullShare.right} TN)
        ∗ (∃ d, owns (c : Thread nD τ) arg8 fullShare d)
        ∗ (scG.view.loc (c : Thread nD τ) ↦{fullShare} a0) ∗ (scU.view.loc (c : Thread nD τ) ↦{fullShare} a1) ∗ (scD.view.loc (c : Thread nD τ) ↦{fullShare} a2)
        ∗ (iprop(owns (c : Thread nD τ) arg4 fullShare x0 ∗ owns (c : Thread nD τ) arg5 fullShare x1 ∗ owns (c : Thread nD τ) arg6 fullShare x2 ∗ owns (c : Thread nD τ) arg7 fullShare x3
            ∗ (tblE.view.loc (c : Thread nD τ) ↦{fullShare.right} TE) ∗ (tblV.view.loc (c : Thread nD τ) ↦{fullShare.right} TV) ∗ (tblN.view.loc (c : Thread nD τ) ↦{fullShare.right} TN)
            ∗ owns (c : Thread nD τ) arg8 fullShare (unused)
            ∗ (∃ a : Buf (Elt F) ((c : Thread nD τ).loc cc0_scratch0), ⌜a = a0⌝ ∗ (scG.view.loc (c : Thread nD τ) ↦{fullShare} a))
            ∗ (∃ a : Buf (Elt F) ((c : Thread nD τ).loc cc0_scratch1), ⌜a = a1⌝ ∗ (scU.view.loc (c : Thread nD τ) ↦{fullShare} a))
            ∗ (∃ a : Buf (Elt F) ((c : Thread nD τ).loc cc0_scratch2), ⌜a = a2⌝ ∗ (scD.view.loc (c : Thread nD τ) ↦{fullShare} a))) -∗ K ⟨⟩))
      ⊢ wp frame (wpE (defs₀ (F := F)) Variants.none c none) Set.univ (cc0_expert_ffn i tblE (Memref.isWhole_whole _) tblV (Memref.isWhole_whole _) tblN (Memref.isWhole_whole _) arg4 harg4 arg5 harg5 arg6 harg6 arg7 harg7 arg8 harg8 scG (Memref.isWhole_whole _) scU (Memref.isWhole_whole _) scD (Memref.isWhole_whole _)) K := by
  rw [cc0_expert_ffn_eq_skeleton]; unfold cc0_expert_ffn_skel
  rw [owns_eq_rep (c : Thread nD τ) arg4, owns_eq_rep (c : Thread nD τ) arg5, owns_eq_rep (c : Thread nD τ) arg6, owns_eq_rep (c : Thread nD τ) arg7]
  unfold owns
  iintro ⟨H0, H1, H2, H3, HTE, HTV, HTN, ⟨%d4, %f4, -, HO⟩, HG, HU, HD, Hk⟩
  have hG : scG.IsWhole := Memref.isWhole_whole _
  have hU : scU.IsWhole := Memref.isWhole_whole _
  have hD : scD.IsWhole := Memref.isWhole_whole _
  have hTE : tblE.IsWhole := Memref.isWhole_whole _
  have hTV : tblV.IsWhole := Memref.isWhole_whole _
  have hTN : tblN.IsWhole := Memref.isWhole_whole _
  sl_exec! (disch := first | (guard_target = ¬(Scalar.cmpi _ _ _ = _); exact hc0) | (guard_target = ¬(k0_cond2 _ _ = _); exact h2) | (guard_target = k0_cond3 _ _ = _; exact h3))
  sl_step
  iapply Hk
  isplitl [H0]; · iexact H0
  isplitl [H1]; · iexact H1
  isplitl [H2]; · iexact H2
  isplitl [H3]; · iexact H3
  isplitl [HTE]; · iexact HTE
  isplitl [HTV]; · iexact HTV
  isplitl [HTN]; · iexact HTN
  isplitl [HO]
  · iexists _; isplitr; swap; · iexact HO
    ipureintro
    exact View.read_writes_full _ _ _ _ _
  isplitl [HG]
  · iexists _; isplitr; swap; · iexact HG
    ipureintro; rfl
  isplitl [HU]
  · iexists _; isplitr; swap; · iexact HU
    ipureintro; rfl
  iexists _; isplitr; swap; · iexact HD
  ipureintro; rfl

end Cert.Kernel4.Ffn

end
-- ==== Proof.Ffn2Point.lean ====
/- Of the second layer: the kernel's run: the body at every point, and the whole program. -/
module

public import proofs.«01_k».proof.Proof.Ffn2Data
public import proofs.«01_k».proof.Proof.Ffn2Fill
public import proofs.«01_k».proof.Proof.Ffn2Keep
public import proofs.«01_k».proof.Proof.Ffn2Rest

@[expose] public section

set_option maxRecDepth 16384

noncomputable section

namespace Cert.Kernel4.Ffn

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (m : (ℓ : Loc nD τ sig) → Buf (Elt Bits) ℓ)

/-- The block before a used block is used. -/
theorem used_before (b : Nat) (hb : b + 1 < 224) (h : usedAt m (b + 1)) : usedAt m b := by
  unfold usedAt at h ⊢
  rw [BitVec.slt_eq_decide, decide_eq_true_eq] at h ⊢
  have e : ∀ k : Nat, k < 224 → (BitVec.ofNat 32 k).toInt = (k : Int) := fun k hk => by
    rw [BitVec.toInt_eq_toNat_of_lt (by rw [BitVec.toNat_ofNat]; omega), BitVec.toNat_ofNat]; omega
  rw [e _ hb] at h
  rw [e b (by omega)]
  omega

variable [Cert.Pre_experts_exist.Facts] (h : Cert.Pre_Kernel4 m) (ρ : Dev nD → PrngReg)

/-- The body at point `t` on its staging memrefs. -/
abbrev bodyAt0 (t : Fin (cfgA m h).N) : Prog (TpuEff nD τ sig (Elt Bits) Λ₀ .tc) PUnit :=
  cc0_expert_ffn (crd m h t) tblE (Memref.isWhole_whole _) tblV (Memref.isWhole_whole _) tblN (Memref.isWhole_whole _) (ms0_0 m h t) (hs0_0 m h t) (ms0_1 m h t) (hs0_1 m h t) (ms0_2 m h t) (hs0_2 m h t) (ms0_3 m h t) (hs0_3 m h t) (ms0_4 m h t) (hs0_4 m h t) scG (Memref.isWhole_whole _) scU (Memref.isWhole_whole _) scD (Memref.isWhole_whole _)

/-- The result's block is stored at every point. -/
theorem idle_any (i : grid0.Coords) (pf : pre0.Contents (Elt Bits)) : idle0 pf 4 i = false := by
  unfold idle0
  generalize pf.atD 2 ![0] = n
  exact idle_false i n
set_option maxHeartbeats 4000000 in
theorem idle_4 (i : grid0.Coords) : (cfgA m h).idle (4 : Fin 5) i = false :=
  idle_any i (adm m h).1

set_option maxHeartbeats 4000000 in
/-- The body at point `t`: from the state between the points to the next, its block stored. -/
theorem sound_body (c : Dev nD) (t : Fin (cfgA m h).N) :
    iprop((dats m h 0 c).Φ t.castSucc ∗ (dats m h 0 c).owesAt () t.castSucc
        ∗ (∃ d, owns (c : Thread nD τ) (ms0_0 m h t) fullShare ((dats m h 0 c).before (0 : Fin 5) t d))
        ∗ (∃ d, owns (c : Thread nD τ) (ms0_1 m h t) fullShare ((dats m h 0 c).before (1 : Fin 5) t d))
        ∗ (∃ d, owns (c : Thread nD τ) (ms0_2 m h t) fullShare ((dats m h 0 c).before (2 : Fin 5) t d))
        ∗ (∃ d, owns (c : Thread nD τ) (ms0_3 m h t) fullShare ((dats m h 0 c).before (3 : Fin 5) t d))
        ∗ (∃ d, owns (c : Thread nD τ) (ms0_4 m h t) fullShare ((dats m h 0 c).before (4 : Fin 5) t d)))
      ⊢ wp frame (wpE (defs₀ (F := Bits)) Variants.none c none) Set.univ (bodyAt0 m h t) fun _ =>
          iprop((dats m h 0 c).Φ t.succ ∗ (dats m h 0 c).owesAt () t.succ
            ∗ bigSep Finset.univ fun w : Fin (cfgA m h).W =>
                match (cfgA m h).idle w ((cfgA m h).grid.coords t) with
                | true =>
                  match ((cfgA m h).win w).flush t with
                  | false => iprop(∃ d, owns (c : Thread nD τ) (((cfgA m h).win w).stage ((cfgA m h).slots t w)) fullShare ((dats m h 0 c).before w t d))
                  | true => owns (c : Thread nD τ) (((cfgA m h).win w).stage ((cfgA m h).slots t w)) fullShare ((dats m h 0 c).after w t)
                | false => owns (c : Thread nD τ) (((cfgA m h).win w).stage ((cfgA m h).slots t w)) fullShare ((dats m h 0 c).after w t)) := by
  rw [bigSep_W0]
  rewrite [idle_4 m h ((cfgA m h).grid.coords t)]
  simp only [before0_0, before0_1, before0_2, before0_3, after0_0, after0_1, after0_2, after0_3, after0_4]
  rewrite [show (dats m h 0 c).Φ t.succ = Phi m h c t.succ from rfl, show (dats m h 0 c).Φ t.castSucc = Phi m h c t.castSucc from rfl,
    show (dats m h 0 c).owesAt () t.succ = (dats m h 0 c).owesAt () t.castSucc from rfl]
  unfold Phi; simp only [Fin.val_castSucc, Fin.val_succ]
  have hbt : (block (crd m h t)).val = t.val := crd_val m h t
  have hblk : ∀ b : Fin 224, b.val + 1 = t.val + 1 → b = block (crd m h t) := fun b hb => Fin.ext (by omega)
  iintro ⟨⟨⟨%a0, %ha0, HS0⟩, ⟨%a1, %ha1, HS1⟩, ⟨%a2, %ha2, HS2⟩, HT0, HT1, HT2, HP⟩, Ho, ⟨%d0, H0⟩, ⟨%d1, H1⟩, ⟨%d2, H2⟩, ⟨%d3, H3⟩, ⟨%d4, H4⟩⟩
  by_cases hun : usedAt m (block (crd m h t)).val
  · have hc2 : k0_cond2 (crd m h t) (wordN (tables m 2)) = 1#1 := by rw [wordN_eq]; exact (cond2_iff _ _).mpr hun
    have hc3 : ¬k0_cond3 (crd m h t) (wordN (tables m 2)) = 1#1 := by
      rw [wordN_eq]; exact fun hx => absurd (hun.symm.trans ((cond3_iff _ _).mp hx)) (by decide)
    have hout : outAt m h c (block (crd m h t)) = _ := if_pos hun
    by_cases hc : refill (crd m h t) (wordN (tables m 2)) (wordE (crd m h t) (tables m 0)) (wordP (crd m h t) (tables m 0)) = 1#1
    · skip
      iapply (body_fill c (crd m h t) (ms0_0 m h t) (hs0_0 m h t) (ms0_1 m h t) (hs0_1 m h t) (ms0_2 m h t) (hs0_2 m h t) (ms0_3 m h t) (hs0_3 m h t) (ms0_4 m h t) (hs0_4 m h t) (tables m 0) (tables m 1) (tables m 2) (iblk m h c (0 : Fin 5) t) (iblk m h c (1 : Fin 5) t) (iblk m h c (2 : Fin 5) t) (iblk m h c (3 : Fin 5) t) a0 a1 a2 hc hc2 hc3)
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      isplitl [H4]; · iexists _; iexact H4
      isplitl [HS0]; · iexact HS0
      isplitl [HS1]; · iexact HS1
      isplitl [HS2]; · iexact HS2
      iintro ⟨H0, H1, H2, H3, HT0, HT1, HT2, H4, ⟨%b0, %hb0, HS0⟩, ⟨%b1, %hb1, HS1⟩, ⟨%b2, %hb2, HS2⟩⟩
      isplitl [HS0 HS1 HS2 HT0 HT1 HT2 HP]
      · isplitl [HS0]
        · iexists b0; isplitr; swap
          · iexact HS0
          · ipureintro; intro b hb hu; rw [hblk b hb, hb0, iblk_1]
        isplitl [HS1]
        · iexists b1; isplitr; swap
          · iexact HS1
          · ipureintro; intro b hb hu; rw [hblk b hb, hb1, iblk_2]
        isplitl [HS2]
        · iexists b2; isplitr; swap
          · iexact HS2
          · ipureintro; intro b hb hu; rw [hblk b hb, hb2, iblk_3]
        isplitl [HT0]; · iexact HT0
        isplitl [HT1]; · iexact HT1
        isplitl [HT2]; · iexact HT2
        iexact HP
      isplitl [Ho]; · iexact Ho
      isplitl [H0]; · iexact H0
      isplitl [H1]; · iexact H1
      isplitl [H2]; · iexact H2
      isplitl [H3]; · iexact H3
      rw [hout, wordV_eq, iblk_0, iblk_1, iblk_2, iblk_3]
      iexact H4

    · have hne : ¬((crd m h t 0).val = 0 ∨ wordE (crd m h t) (tables m 0) ≠ wordP (crd m h t) (tables m 0)) := fun hx =>
        hc ((refill_iff _ _ _ _).mpr ⟨by rw [wordN_eq]; exact hun, hx⟩)
      have hne := not_or.mp hne
      have ht0 : t.val ≠ 0 := fun hx => hne.1 (hbt.trans hx)
      have hlt := pt_lt m h t
      let p : Fin 224 := ⟨t.val - 1, by omega⟩
      have hpt : p.val + 1 = t.val := by show t.val - 1 + 1 = t.val; omega
      have hex : expert m (block (crd m h t)) = expert m p := by
        have := Decidable.not_not.mp hne.2
        rw [wordE_eq, wordP_eq m _ p (hbt.trans hpt.symm)] at this; exact this
      have hwho : who m h (block (crd m h t)) = who m h p := by
        unfold who; apply Fin.ext; show (expert m (block (crd m h t))).toNat = (expert m p).toNat; rw [hex]
      have hup : usedAt m p.val := used_before m p.val (by omega) (by rw [hpt, ← hbt]; exact hun)
      iapply (body_keep c (crd m h t) (ms0_0 m h t) (hs0_0 m h t) (ms0_1 m h t) (hs0_1 m h t) (ms0_2 m h t) (hs0_2 m h t) (ms0_3 m h t) (hs0_3 m h t) (ms0_4 m h t) (hs0_4 m h t) (tables m 0) (tables m 1) (tables m 2) (iblk m h c (0 : Fin 5) t) (iblk m h c (1 : Fin 5) t) (iblk m h c (2 : Fin 5) t) (iblk m h c (3 : Fin 5) t) a0 a1 a2 hc hc2 hc3)
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      isplitl [H4]; · iexists _; iexact H4
      isplitl [HS0]; · iexact HS0
      isplitl [HS1]; · iexact HS1
      isplitl [HS2]; · iexact HS2
      iintro ⟨H0, H1, H2, H3, HT0, HT1, HT2, H4, ⟨%b0, %hb0, HS0⟩, ⟨%b1, %hb1, HS1⟩, ⟨%b2, %hb2, HS2⟩⟩
      isplitl [HS0 HS1 HS2 HT0 HT1 HT2 HP]
      · isplitl [HS0]
        · iexists b0; isplitr; swap
          · iexact HS0
          · ipureintro; intro b hb hu; rw [hb0, hblk b hb, hwho]; exact ha0 p hpt hup
        isplitl [HS1]
        · iexists b1; isplitr; swap
          · iexact HS1
          · ipureintro; intro b hb hu; rw [hb1, hblk b hb, hwho]; exact ha1 p hpt hup
        isplitl [HS2]
        · iexists b2; isplitr; swap
          · iexact HS2
          · ipureintro; intro b hb hu; rw [hb2, hblk b hb, hwho]; exact ha2 p hpt hup
        isplitl [HT0]; · iexact HT0
        isplitl [HT1]; · iexact HT1
        isplitl [HT2]; · iexact HT2
        iexact HP
      isplitl [Ho]; · iexact Ho
      isplitl [H0]; · iexact H0
      isplitl [H1]; · iexact H1
      isplitl [H2]; · iexact H2
      isplitl [H3]; · iexact H3
      rw [hout, wordV_eq, iblk_0, ha0 p hpt hup, ha1 p hpt hup, ha2 p hpt hup, ← hwho]
      iexact H4

  · have hf : (BitVec.ofNat 32 (crd m h t 0).val).slt (count m) = false := Bool.eq_false_iff.mpr hun
    have hc2 : ¬k0_cond2 (crd m h t) (wordN (tables m 2)) = 1#1 := by rw [wordN_eq]; exact fun hx => hun ((cond2_iff _ _).mp hx)
    have hc3 : k0_cond3 (crd m h t) (wordN (tables m 2)) = 1#1 := by rw [wordN_eq]; exact (cond3_iff _ _).mpr hf
    have hc : ¬refill (crd m h t) (wordN (tables m 2)) (wordE (crd m h t) (tables m 0)) (wordP (crd m h t) (tables m 0)) = 1#1 := by
      rw [wordN_eq]; exact fun hx => hun ((refill_iff _ _ _ _).mp hx).1
    have hout : outAt m h c (block (crd m h t)) = unused := if_neg hun
    iapply (body_rest c (crd m h t) (ms0_0 m h t) (hs0_0 m h t) (ms0_1 m h t) (hs0_1 m h t) (ms0_2 m h t) (hs0_2 m h t) (ms0_3 m h t) (hs0_3 m h t) (ms0_4 m h t) (hs0_4 m h t) (tables m 0) (tables m 1) (tables m 2) (iblk m h c (0 : Fin 5) t) (iblk m h c (1 : Fin 5) t) (iblk m h c (2 : Fin 5) t) (iblk m h c (3 : Fin 5) t) a0 a1 a2 hc hc2 hc3)
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [H4]; · iexists _; iexact H4
    isplitl [HS0]; · iexact HS0
    isplitl [HS1]; · iexact HS1
    isplitl [HS2]; · iexact HS2
    iintro ⟨H0, H1, H2, H3, HT0, HT1, HT2, H4, ⟨%b0, %hb0, HS0⟩, ⟨%b1, %hb1, HS1⟩, ⟨%b2, %hb2, HS2⟩⟩
    isplitl [HS0 HS1 HS2 HT0 HT1 HT2 HP]
    · isplitl [HS0]
      · iexists b0; isplitr; swap
        · iexact HS0
        · ipureintro; intro b hb hu; rw [hblk b hb] at hu; exact absurd hu hun
      isplitl [HS1]
      · iexists b1; isplitr; swap
        · iexact HS1
        · ipureintro; intro b hb hu; rw [hblk b hb] at hu; exact absurd hu hun
      isplitl [HS2]
      · iexists b2; isplitr; swap
        · iexact HS2
        · ipureintro; intro b hb hu; rw [hblk b hb] at hu; exact absurd hu hun
      isplitl [HT0]; · iexact HT0
      isplitl [HT1]; · iexact HT1
      isplitl [HT2]; · iexact HT2
      iexact HP
    isplitl [Ho]; · iexact Ho
    isplitl [H0]; · iexact H0
    isplitl [H1]; · iexact H1
    isplitl [H2]; · iexact H2
    isplitl [H3]; · iexact H3
    rw [hout]
    iexact H4

/-- The body table's row at point `t` is the body there. -/
theorem defs₀_row (t : Fin (cfgA m h).N) : defs₀ (F := Bits) .tc (cfgA m h).body ((cfgA m h).bodyArgs t ((cfgA m h).slots t)) = bodyAt0 m h t := by
  unfold defs₀; rw [Defs.onTc_tc]

/-- The pipeline's obligation at every point. -/
theorem body_obligation (c : Dev nD) : BodyObligation (dats m h 0 c) (defs₀ (F := Bits)) Variants.none () Set.univ := fun t => by
  rw [bigSep_W0]
  exact sound_body m h c t

end Cert.Kernel4.Ffn

end
-- ==== Proof.Ffn2Run.lean ====
/- Of the second layer: the whole program's run, and what it leaves. -/
module

public import proofs.«01_k».proof.Proof.Ffn2Point
public import Idealize.ShloMosaic.Lib.Pipeline.Frame
public import Idealize.ShloMosaic.Lib.Claim

@[expose] public section

set_option maxRecDepth 16384

noncomputable section

namespace Cert.Kernel4.Ffn

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable [Cert.Pre_experts_exist.Facts]
variable (m : (ℓ : Loc nD τ sig) → Buf (Elt Bits) ℓ) (h : Cert.Pre_Kernel4 m) (ρ : Dev nD → PrngReg)

/-- The tables as the region is handed them. -/
theorem prefHeld_eq (c : Dev nD) (q : Fin 3 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_v13) ↦{q 0} v 0) ∗ (((c : Thread nD τ).loc main_arg2) ↦{q 1} v 1) ∗ (((c : Thread nD τ).loc main_arg3) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The state before the first point, from the scratches and the tables, -/
theorem phi0_intro (c : Dev nD) : iprop(Pipeline.ΦA spec0 c ∗ Pipeline.ΦT pre0 (tables m) c) ⊢ (dats m h 0 c).Φ 0 := by
  unfold Pipeline.ΦA
  rw [show (Pipeline.ΦT pre0 (tables m) c : sProp 𝕄) = _ from prefHeld_eq c (fun _ => fullShare.right) (tables m), scopedRest0_eq, show (dats m h 0 c).Φ 0 = Phi m h c 0 from rfl]
  unfold Phi
  iintro ⟨⟨⟨⟨%a0, HS0⟩, ⟨%a1, HS1⟩, ⟨%a2, HS2⟩⟩, HP⟩, HT0, HT1, HT2⟩
  isplitl [HS0]
  · iexists a0; isplitr; swap
    · iexact HS0
    · ipureintro; intro b hb; exact absurd hb (Nat.succ_ne_zero _)
  isplitl [HS1]
  · iexists a1; isplitr; swap
    · iexact HS1
    · ipureintro; intro b hb; exact absurd hb (Nat.succ_ne_zero _)
  isplitl [HS2]
  · iexists a2; isplitr; swap
    · iexact HS2
    · ipureintro; intro b hb; exact absurd hb (Nat.succ_ne_zero _)
  isplitl [HT0]; · iexact HT0
  isplitl [HT1]; · iexact HT1
  isplitl [HT2]; · iexact HT2
  iexact HP

/-- and the scratches back after the last. -/
theorem phiN_exit (c : Dev nD) : (dats m h 0 c).Φ (Fin.last (cfgA m h).N) ⊢ Pipeline.ΦA spec0 c := by
  unfold Pipeline.ΦA
  rw [scopedRest0_eq, show (dats m h 0 c).Φ (Fin.last (cfgA m h).N) = Phi m h c (Fin.last _) from rfl]
  unfold Phi
  iintro ⟨⟨%a0, -, HS0⟩, ⟨%a1, -, HS1⟩, ⟨%a2, -, HS2⟩, -, -, -, HP⟩
  isplitl [HS0 HS1 HS2]
  · isplitl [HS0]
    · iexists a0; iexact HS0
    isplitl [HS1]
    · iexists a1; iexact HS1
    iexists a2; iexact HS2
  iexact HP

theorem hostOps0_fresh : (hostOps0 : List (HloOp τ sig (Elt Bits))).Forall fun op => op.fresh = ∅ := by
  simp only [List.Forall]; repeat' constructor

set_option backward.isDefEq.respectTransparency.types false in
/-- Every weakly fair execution ends with each array as its write-backs left it and every counter at zero. -/
theorem run_main : θ_run (defs (F := Bits)) (onTc (τ := τ) (main (F := Bits))) (s₀ m ρ)
    (fun r => Pipeline.FramePost (pcs m h) (dats m h) 0 (V m) r ∧ r.2.sem = fun _ => 0) :=
  Pipeline.θ_run_frameP_track (pcfgs (F := Bits)) (fun _ => adm m h) (dats m h) (0 : Fin 1) launch0 defs₀ Variants.none m ρ main
    (hbody := fun c => (body_obligation m h c).loose) (hshare := fun c => (dats m h 0 c).share_full fun _ => rfl)
    (howed := fun _ _ => rfl) (V := V m)
    (hmain := Pipeline.hmainP_prefix (pcfgs (F := Bits)) 0 defs₀ Variants.none m main hostOps0 hostOps0_sub hostOps0_fresh main_chain)
    (hA := fun _ _ => rfl) (hpf := fun c k => by rw [Subsingleton.elim c 0]; rfl)
    (hin := phi0_intro m h) (hout := phiN_exit m h)
    (Q' := fun r => Pipeline.FramePost (pcs m h) (dats m h) 0 (V m) r ∧ r.2.sem = fun _ => 0)

theorem arr_ne (b : Ref sig .tc) (hb : ∀ w : Fin 5, (spec0 w).arr.view.ref ≠ b) (w : Fin (cfgA m h).W) : ((cfgA m h).spec w).arr.view.ref ≠ b := hb w

/-- The arguments end as they were. -/
theorem unchanged (c : Dev nD) (r : PUnit × MemSt nD τ sig (Elt Bits)) (hr : Pipeline.FramePost (pcs m h) (dats m h) 0 (V m) r) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) :=
  ⟨((hr c).1 (0 : Fin 5)).trans (((dats m h 0 c).arrAt_in (0 : Fin 5) rfl _).trans (V_main_arg0 m c)),
    ((hr c).2 main_arg1 (Pipeline.mem_restRefs_of main_arg1 rfl (arr_ne m h main_arg1 (by decide)))).trans (V_main_arg1 m c),
    ((hr c).2 main_arg2 (Pipeline.mem_restRefs_of main_arg2 rfl (arr_ne m h main_arg2 (by decide)))).trans (V_main_arg2 m c),
    ((hr c).2 main_arg3 (Pipeline.mem_restRefs_of main_arg3 rfl (arr_ne m h main_arg3 (by decide)))).trans (V_main_arg3 m c),
    ((hr c).1 (1 : Fin 5)).trans (((dats m h 0 c).arrAt_in (1 : Fin 5) rfl _).trans (V_main_arg4 m c)),
    ((hr c).1 (2 : Fin 5)).trans (((dats m h 0 c).arrAt_in (2 : Fin 5) rfl _).trans (V_main_arg5 m c)),
    ((hr c).1 (3 : Fin 5)).trans (((dats m h 0 c).arrAt_in (3 : Fin 5) rfl _).trans (V_main_arg6 m c))⟩

/-- The result: block `b` of it is the block stored at point `b`. -/
def outArr (c : Dev nD) : Vec Bits S2x229376x256 .i32 := fun j =>
  outAt m h c ⟨(j 1).val / 1024, by have : (j 1).val < 229376 := (j 1).isLt; omega⟩ (ix3 (j 0) ⟨(j 1).val % 1024, by omega⟩ (j 2))

theorem index_4 (t : Fin (cfgA m h).N) : ((cfgA m h).win (4 : Fin 5)).index t = ![0, t.val, 0] := by
  show ![0, (BitVec.ofNat 32 (crd m h t 0).val).toNat, 0] = _
  rw [crd_val]
  have := pt_lt m h t
  rw [BitVec.toNat_ofNat, Nat.mod_eq_of_lt (by omega)]

theorem flushed_4 (c : Dev nD) (t : Fin (cfgA m h).N) :
    (dats m h 0 c).flushed (4 : Fin 5) t = (((cfgA m h).win (4 : Fin 5)).blk t).view.read (Elt Bits) (outArr m h c) := by
  show ((cfgA m h).win (4 : Fin 5)).cut (crd m h t) ((dats m h 0 c).after (4 : Fin 5) t) = _
  rw [after0_4]
  funext y
  show outAt m h c (block (crd m h t)) y = outArr m h c ((((cfgA m h).win (4 : Fin 5)).rect t).emb y)
  have e := index_4 m h t
  have hl := pt_lt m h t
  have h1 : (y (1 : Fin 3)).val < 1024 := (y (1 : Fin 3)).isLt
  have e0 : ((((cfgA m h).win (4 : Fin 5)).rect t).emb y (0 : Fin 3)).val = (y (0 : Fin 3)).val :=
    Window.rect_emb_val_of_index_zero ((cfgA m h).win (4 : Fin 5)) t (0 : Fin 3) (congrFun e (0 : Fin 3)) y
  have e1 : ((((cfgA m h).win (4 : Fin 5)).rect t).emb y (1 : Fin 3)).val = t.val * 1024 + (y (1 : Fin 3)).val :=
    (Window.rect_emb_val ((cfgA m h).win (4 : Fin 5)) t y (1 : Fin 3)).trans (by
      rw [show ((cfgA m h).win (4 : Fin 5)).index t (1 : Fin 3) = t.val from congrFun e (1 : Fin 3)]; rfl)
  have e2 : ((((cfgA m h).win (4 : Fin 5)).rect t).emb y (2 : Fin 3)).val = (y (2 : Fin 3)).val :=
    Window.rect_emb_val_of_index_zero ((cfgA m h).win (4 : Fin 5)) t (2 : Fin 3) (congrFun e (2 : Fin 3)) y
  unfold outArr
  congr 1
  · refine Fin.ext ((crd_val m h t).trans ?_)
    show t.val = ((((cfgA m h).win (4 : Fin 5)).rect t).emb y (1 : Fin 3)).val / 1024
    rw [e1]; omega
  · funext a
    match a with
    | ⟨0, _⟩ => exact Fin.ext e0.symm
    | ⟨1, _⟩ => exact Fin.ext (by
        show (y (1 : Fin 3)).val = ((((cfgA m h).win (4 : Fin 5)).rect t).emb y (1 : Fin 3)).val % 1024
        rw [e1]; omega)
    | ⟨2, _⟩ => exact Fin.ext e2.symm

/-- Every point writes its block back: the next point's is another. -/
theorem flush_4 (t : Fin (cfgA m h).N) : ((cfgA m h).win (4 : Fin 5)).flush t = true := by
  have e := index_4 m h t
  have hl := pt_lt m h t
  show ((cfgA m h).win (4 : Fin 5)).flush t = true
  unfold Window.flush
  rw [Bool.and_eq_true, Bool.or_eq_true, decide_eq_true_eq, decide_eq_true_eq]
  refine ⟨rfl, ?_⟩
  by_cases hn : t.val + 1 = (cfgA m h).N
  · exact Or.inl hn
  · refine Or.inr ⟨by have := t.isLt; have : (cfgA m h).N = (cfgA m h).grid.N := rfl; omega, fun he => ?_⟩
    rw [e, index_4] at he
    exact absurd (congrFun he 1) (by show ¬(t.val + 1 = t.val); omega)

theorem cover_4 (i : S2x229376x256.Idx) : ∃ t : Fin (cfgA m h).N, ((cfgA m h).win (4 : Fin 5)).flush t = true ∧ i ∈ (((cfgA m h).win (4 : Fin 5)).blk t).view.set := by
  have h1 : (i 1 : Nat) < 229376 := (i 1).isLt
  have h0 : (i 0 : Nat) < 2 := (i 0).isLt
  have h2 : (i 2 : Nat) < 256 := (i 2).isLt
  have hN : (cfgA m h).N = 224 := N_0
  have hd : (i 1).val / 1024 < (cfgA m h).N := by omega
  refine ⟨⟨(i 1).val / 1024, hd⟩, flush_4 m h _, ?_⟩
  refine (View.set_slice_whole main_v14 (((cfgA m h).win (4 : Fin 5)).rect ⟨(i 1).val / 1024, hd⟩)).symm ▸ (Rect.mem_set_unit ..).mpr ?_
  intro a
  have e := index_4 m h ⟨(i 1).val / 1024, hd⟩
  match a with
  | ⟨0, _⟩ =>
    show ((cfgA m h).win (4 : Fin 5)).index _ (0 : Fin 3) * 2 ≤ (i 0 : Nat) ∧ (i 0 : Nat) < ((cfgA m h).win (4 : Fin 5)).index _ (0 : Fin 3) * 2 + 2
    rw [e]; show 0 * 2 ≤ _ ∧ _ < 0 * 2 + 2; omega
  | ⟨1, _⟩ =>
    show ((cfgA m h).win (4 : Fin 5)).index _ (1 : Fin 3) * 1024 ≤ (i 1 : Nat) ∧ (i 1 : Nat) < ((cfgA m h).win (4 : Fin 5)).index _ (1 : Fin 3) * 1024 + 1024
    rw [e]; show (i 1).val / 1024 * 1024 ≤ _ ∧ _ < (i 1).val / 1024 * 1024 + 1024; omega
  | ⟨2, _⟩ =>
    show ((cfgA m h).win (4 : Fin 5)).index _ (2 : Fin 3) * 256 ≤ (i 2 : Nat) ∧ (i 2 : Nat) < ((cfgA m h).win (4 : Fin 5)).index _ (2 : Fin 3) * 256 + 256
    rw [e]; show 0 * 256 ≤ _ ∧ _ < 0 * 256 + 256; omega

theorem arrAt_4 (c : Dev nD) : (dats m h 0 c).arrAt (4 : Fin 5) (cfgA m h).N = outArr m h c :=
  (dats m h 0 c).arrAt_eq_of_cover (4 : Fin 5) (outArr m h c) (fun t _ => flushed_4 m h c t) (cover_4 m h)

/-- The program ends with its arguments as they were, every counter at zero, and the result the blocks'. -/
theorem run_result : θ_run (defs (F := Bits)) (onTc (τ := τ) (main (F := Bits))) ⟨m, fun _ => 0, ρ⟩ (fun r => (∀ c : Dev nD,
      r.2.mem ((c.tc : Thread nD τ).loc main_v14) = outArr m h c ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6))
      ∧ r.2.sem = fun _ => 0) :=
  (θ_run defs _ _).mono (fun r hr => ⟨fun c => ⟨((hr.1 c).1 (4 : Fin 5)).trans (arrAt_4 m h c), unchanged m h c r hr.1⟩, hr.2⟩) (run_main m h ρ)

end Cert.Kernel4.Ffn

end
-- ==== Proof.Ref2Blocks.lean ====
/- Of the second layer: what the reference's loop leaves: each row from its own block. -/
module

public import proofs.«01_k».proof.Proof.Ref2Reads
public import Idealize.ShloMosaic.Lib.Pipeline.ValueKit

@[expose] public section

set_option maxRecDepth 16384

noncomputable section

namespace Cert.Reference4.Blocks

open Cert.Reference4 Cert.Reference4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

/-- Two stores at block `k`'s rows, one per chunk, in front of older ones: inside the block they are read, outside it the older ones are. -/
theorem canon_pair (k : ℕ) (o1 o0 : Fin 3 → ℕ) (h1 : o1 = ![1, 1024 * k, 0]) (h0 : o0 = ![0, 1024 * k, 0]) (i1 i0)
    (w1 w0 : Vec F S1x1024x256 .i32) (L : List (View.Piece (Elt F) S2x229376x256 .i32)) (y : S2x229376x256.Idx) :
    View.canon ((⟨Rect.unit (s := S2x229376x256) o1 S1x1024x256.size i1, w1⟩ : View.Piece (Elt F) S2x229376x256 .i32)
        :: ⟨Rect.unit (s := S2x229376x256) o0 S1x1024x256.size i0, w0⟩ :: L) y
      = if (y 1).val / 1024 = k then (if (y 0).val = 0 then w0 else w1) (ix3 (0 : Fin 1) (⟨(y 1).val % 1024, Nat.mod_lt _ (by decide)⟩ : Fin 1024) (y 2)) else View.canon L y := by
  subst h1 h0
  have b0 : (y 0).val < 2 := (y 0).isLt
  have b2 : (y 2).val < 256 := (y 2).isLt
  by_cases hk : (y 1).val / 1024 = k
  · rw [if_pos hk]
    by_cases hp : (y 0).val = 0
    · rw [if_pos hp, View.canon_cons_of_not_mem _ _ (by
        rw [Rect.mem_set_unit]; intro hm; have h0 := (hm 0).1; change 1 ≤ (y 0).val at h0; omega)]
      have e : y = (Rect.unit (s := S2x229376x256) ![0, 1024 * k, 0] S1x1024x256.size i0).emb (ix3 (0 : Fin 1) (⟨(y 1).val % 1024, Nat.mod_lt _ (by decide)⟩ : Fin 1024) (y 2)) := by
        refine funext fun a => Fin.ext ?_
        match a with
        | ⟨0, _⟩ => show (y 0).val = 0 + 1 * 0; omega
        | ⟨1, _⟩ => show (y 1).val = 1024 * k + 1 * ((y 1).val % 1024); omega
        | ⟨2, _⟩ => show (y 2).val = 0 + 1 * (y 2).val; omega
      conv_lhs => rw [e]
      exact View.canon_cons_emb _ _ _ _
    · rw [if_neg hp]
      have e : y = (Rect.unit (s := S2x229376x256) ![1, 1024 * k, 0] S1x1024x256.size i1).emb (ix3 (0 : Fin 1) (⟨(y 1).val % 1024, Nat.mod_lt _ (by decide)⟩ : Fin 1024) (y 2)) := by
        refine funext fun a => Fin.ext ?_
        match a with
        | ⟨0, _⟩ => show (y 0).val = 1 + 1 * 0; omega
        | ⟨1, _⟩ => show (y 1).val = 1024 * k + 1 * ((y 1).val % 1024); omega
        | ⟨2, _⟩ => show (y 2).val = 0 + 1 * (y 2).val; omega
      conv_lhs => rw [e]
      exact View.canon_cons_emb _ _ _ _
  · rw [if_neg hk, View.canon_cons_of_not_mem _ _ (by
        rw [Rect.mem_set_unit]; intro hm; have h := hm 1
        change 1024 * k ≤ (y 1).val ∧ (y 1).val < 1024 * k + 1024 at h; omega),
      View.canon_cons_of_not_mem _ _ (by
        rw [Rect.mem_set_unit]; intro hm; have h := hm 1
        change 1024 * k ≤ (y 1).val ∧ (y 1).val < 1024 * k + 1024 at h; omega)]

variable (c : Dev nD)
  (arg0 : Memref sig .tc .smem S224 .i32) (harg0 : arg0.IsWhole)
  (arg1 : Memref sig .tc .smem S224 .i32) (harg1 : arg1.IsWhole)
  (arg2 : Memref sig .tc .smem S1 .i32) (harg2 : arg2.IsWhole)
  (arg3 : Memref sig .tc .vmem S2x229376x256 .i32) (harg3 : arg3.IsWhole)
  (arg4 : Memref sig .tc .vmem S2x64x1024x256 .f32) (harg4 : arg4.IsWhole)
  (arg5 : Memref sig .tc .vmem S2x64x1024x256 .f32) (harg5 : arg5.IsWhole)
  (arg6 : Memref sig .tc .vmem S2x64x256x1024 .f32) (harg6 : arg6.IsWhole)
  (arg7 : Memref sig .tc .vmem S2x229376x256 .i32) (harg7 : arg7.IsWhole)
  (x0 : Vec F S224 .i32) (x1 : Vec F S224 .i32) (x2 : Vec F S1 .i32) (x3 : Vec F S2x229376x256 .i32) (x4 : Vec F S2x64x1024x256 .f32) (x5 : Vec F S2x64x1024x256 .f32) (x6 : Vec F S2x64x256x1024 .f32)

/-- The array of all blocks: row `1024 k + r` is row `r` of block `k`. -/
def blocks (hlt : ∀ i : S224.Idx, (x0 i : BitVec 32).toNat < 64) : Vec F S2x229376x256 .i32 := fun y =>
  let k : Fin 224 := ⟨(y 1).val / 1024, by have h : (y 1).val < 229376 := (y 1).isLt; omega⟩
  (if (y 0).val = 0 then left x1 x2 x3 x4 x5 x6 k ⟨(x0 (ix1 k) : BitVec 32).toNat, hlt _⟩ else right x1 x2 x3 x4 x5 x6 k ⟨(x0 (ix1 k) : BitVec 32).toNat, hlt _⟩)
    (ix3 (0 : Fin 1) (⟨(y 1).val % 1024, Nat.mod_lt _ (by decide)⟩ : Fin 1024) (y 2))

/-- After `n` blocks, their rows hold them. -/
theorem loop_holds (hwL : (∀ (kq : ℕ) (hkq : kq < k0_t1_loop.trips), k0_chk1 (arg0.view.readAt (Elt F) (Rect.unit (s := S224) (k0_off1 ⟨kq, hkq⟩) S1.size (k0_off1_inb ⟨kq, hkq⟩)).toLoadRect (harg0.unread x0) (Shape.Idx.first (numel1_S1.symm ▸ Nat.one_pos))))) (hlt : ∀ i : S224.Idx, (x0 i : BitVec 32).toNat < 64) : ∀ n : ℕ, n ≤ k0_t1_loop.trips → ∀ y : S2x229376x256.Idx, (y 1).val / 1024 < n →
    View.canon (pb_k0_t1 Variants.none c none arg0 harg0 arg1 harg1 arg2 harg2 arg3 harg3 arg4 harg4 arg5 harg5 arg6 harg6 arg7 harg7 (harg0.unread x0) (harg1.unread x1) (harg2.unread x2) (harg3.unread x3) (harg4.unread x4) (harg5.unread x5) (harg6.unread x6) hwL n) y = blocks x0 x1 x2 x3 x4 x5 x6 hlt y
  | 0, _, _, h => absurd h (Nat.not_lt_zero _)
  | n + 1, hn, y, h => by
    have hb : n < 224 := trips_eq ▸ hn
    rw [pb_k0_t1_succ Variants.none c none arg0 harg0 arg1 harg1 arg2 harg2 arg3 harg3 arg4 harg4 arg5 harg5 arg6 harg6 arg7 harg7 (harg0.unread x0) (harg1.unread x1) (harg2.unread x2) (harg3.unread x3) (harg4.unread x4) (harg5.unread x5) (harg6.unread x6) hwL ⟨n, hn⟩,
      trip_stores c arg0 harg0 arg1 harg1 arg2 harg2 arg3 harg3 arg4 harg4 arg5 harg5 arg6 harg6 arg7 harg7 x0 x1 x2 x3 x4 x5 x6 ⟨n, hn⟩ hb ⟨(x0 (ix1 ⟨n, hb⟩) : BitVec 32).toNat, hlt _⟩ rfl, List.cons_append, List.cons_append, List.nil_append,
      canon_pair n _ _ (k0_off7_eq _) (k0_off6_eq _)]
    by_cases e : (y 1).val / 1024 = n
    · rw [if_pos e]
      subst e
      rfl
    · rw [if_neg e]
      exact loop_holds hwL hlt n (Nat.le_of_succ_le hn) y (by omega)

/-- What the reference's body leaves in its result's buffer. -/
theorem out_eq (hwL : (∀ (kq : ℕ) (hkq : kq < k0_t1_loop.trips), k0_chk1 (arg0.view.readAt (Elt F) (Rect.unit (s := S224) (k0_off1 ⟨kq, hkq⟩) S1.size (k0_off1_inb ⟨kq, hkq⟩)).toLoadRect (harg0.unread x0) (Shape.Idx.first (numel1_S1.symm ▸ Nat.one_pos))))) (hlt : ∀ i : S224.Idx, (x0 i : BitVec 32).toNat < 64) : out0_A_7 c arg0 harg0 arg1 harg1 arg2 harg2 arg3 harg3 arg4 harg4 arg5 harg5 arg6 harg6 arg7 harg7 x0 x1 x2 x3 x4 x5 x6 hwL = blocks x0 x1 x2 x3 x4 x5 x6 hlt := by
  unfold out0_A_7
  rw [View.read_writes_junk_eq_canon]
  refine funext fun y => ?_
  refine Eq.trans ?_ (loop_holds c arg0 harg0 arg1 harg1 arg2 harg2 arg3 harg3 arg4 harg4 arg5 harg5 arg6 harg6 arg7 harg7 x0 x1 x2 x3 x4 x5 x6 hwL hlt k0_t1_loop.trips (Nat.le_refl _) y ?_)
  · rfl
  · rw [trips_eq]; have h : (y 1).val < 229376 := (y 1).isLt; omega

end Cert.Reference4.Blocks

end
-- ==== Proof.Ref2Run.lean ====
/- Of the second layer: the reference's run, and the array it leaves. -/
module

public import proofs.«01_k».proof.Proof.Ref2Blocks
public import Idealize.ShloMosaic.Lib.Pipeline.Value
public import Idealize.ShloMosaic.Lib.Pipeline.ValueKit

@[expose] public section

set_option maxRecDepth 16384

noncomputable section

namespace Cert.Reference4.Blocks

open Cert.Reference4 Cert.Reference4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Bits) ℓ) (ρ : Dev nD → PrngReg)

/-- Every block's expert is one of the 64. -/
def Experts : Prop := ∀ (c : Dev nD) (i : S224.Idx), (m (c.tc.loc main_arg1) i : BitVec 32).toNat < 64

/-- A window that is its whole array holds it. -/
theorem iblk_0 (c : Dev nD) (t : Fin cfg0.N) : iblk m c 0 t = (m (c.tc.loc main_arg1) : Vec Bits S224 .i32) := by
  refine funext fun y => ?_
  show m (c.tc.loc main_arg1) (((cfg0.win 0).rect t).emb y) = m (c.tc.loc main_arg1) y
  refine congrArg (m (c.tc.loc main_arg1)) (funext fun a => Fin.ext ?_)
  match a with
  | ⟨0, _⟩ => exact Window.rect_emb_val_of_index_zero (cfg0.win 0) t (0 : Fin 1) rfl y

theorem iblk_1 (c : Dev nD) (t : Fin cfg0.N) : iblk m c 1 t = (m (c.tc.loc main_arg2) : Vec Bits S224 .i32) := by
  refine funext fun y => ?_
  show m (c.tc.loc main_arg2) (((cfg0.win 1).rect t).emb y) = m (c.tc.loc main_arg2) y
  refine congrArg (m (c.tc.loc main_arg2)) (funext fun a => Fin.ext ?_)
  match a with
  | ⟨0, _⟩ => exact Window.rect_emb_val_of_index_zero (cfg0.win 1) t (0 : Fin 1) rfl y

theorem iblk_2 (c : Dev nD) (t : Fin cfg0.N) : iblk m c 2 t = (m (c.tc.loc main_arg3) : Vec Bits S1 .i32) := by
  refine funext fun y => ?_
  show m (c.tc.loc main_arg3) (((cfg0.win 2).rect t).emb y) = m (c.tc.loc main_arg3) y
  refine congrArg (m (c.tc.loc main_arg3)) (funext fun a => Fin.ext ?_)
  match a with
  | ⟨0, _⟩ => exact Window.rect_emb_val_of_index_zero (cfg0.win 2) t (0 : Fin 1) rfl y

theorem iblk_3 (c : Dev nD) (t : Fin cfg0.N) : iblk m c 3 t = (m (c.tc.loc main_arg0) : Vec Bits S2x229376x256 .i32) := by
  refine funext fun y => ?_
  show m (c.tc.loc main_arg0) (((cfg0.win 3).rect t).emb y) = m (c.tc.loc main_arg0) y
  refine congrArg (m (c.tc.loc main_arg0)) (funext fun a => Fin.ext ?_)
  match a with
  | ⟨0, _⟩ => exact Window.rect_emb_val_of_index_zero (cfg0.win 3) t (0 : Fin 3) rfl y
  | ⟨1, _⟩ => exact Window.rect_emb_val_of_index_zero (cfg0.win 3) t (1 : Fin 3) rfl y
  | ⟨2, _⟩ => exact Window.rect_emb_val_of_index_zero (cfg0.win 3) t (2 : Fin 3) rfl y

theorem iblk_4 (c : Dev nD) (t : Fin cfg0.N) : iblk m c 4 t = (m (c.tc.loc main_arg4) : Vec Bits S2x64x1024x256 .f32) := by
  refine funext fun y => ?_
  show m (c.tc.loc main_arg4) (((cfg0.win 4).rect t).emb y) = m (c.tc.loc main_arg4) y
  refine congrArg (m (c.tc.loc main_arg4)) (funext fun a => Fin.ext ?_)
  match a with
  | ⟨0, _⟩ => exact Window.rect_emb_val_of_index_zero (cfg0.win 4) t (0 : Fin 4) rfl y
  | ⟨1, _⟩ => exact Window.rect_emb_val_of_index_zero (cfg0.win 4) t (1 : Fin 4) rfl y
  | ⟨2, _⟩ => exact Window.rect_emb_val_of_index_zero (cfg0.win 4) t (2 : Fin 4) rfl y
  | ⟨3, _⟩ => exact Window.rect_emb_val_of_index_zero (cfg0.win 4) t (3 : Fin 4) rfl y

theorem iblk_5 (c : Dev nD) (t : Fin cfg0.N) : iblk m c 5 t = (m (c.tc.loc main_arg5) : Vec Bits S2x64x1024x256 .f32) := by
  refine funext fun y => ?_
  show m (c.tc.loc main_arg5) (((cfg0.win 5).rect t).emb y) = m (c.tc.loc main_arg5) y
  refine congrArg (m (c.tc.loc main_arg5)) (funext fun a => Fin.ext ?_)
  match a with
  | ⟨0, _⟩ => exact Window.rect_emb_val_of_index_zero (cfg0.win 5) t (0 : Fin 4) rfl y
  | ⟨1, _⟩ => exact Window.rect_emb_val_of_index_zero (cfg0.win 5) t (1 : Fin 4) rfl y
  | ⟨2, _⟩ => exact Window.rect_emb_val_of_index_zero (cfg0.win 5) t (2 : Fin 4) rfl y
  | ⟨3, _⟩ => exact Window.rect_emb_val_of_index_zero (cfg0.win 5) t (3 : Fin 4) rfl y

theorem iblk_6 (c : Dev nD) (t : Fin cfg0.N) : iblk m c 6 t = (m (c.tc.loc main_arg6) : Vec Bits S2x64x256x1024 .f32) := by
  refine funext fun y => ?_
  show m (c.tc.loc main_arg6) (((cfg0.win 6).rect t).emb y) = m (c.tc.loc main_arg6) y
  refine congrArg (m (c.tc.loc main_arg6)) (funext fun a => Fin.ext ?_)
  match a with
  | ⟨0, _⟩ => exact Window.rect_emb_val_of_index_zero (cfg0.win 6) t (0 : Fin 4) rfl y
  | ⟨1, _⟩ => exact Window.rect_emb_val_of_index_zero (cfg0.win 6) t (1 : Fin 4) rfl y
  | ⟨2, _⟩ => exact Window.rect_emb_val_of_index_zero (cfg0.win 6) t (2 : Fin 4) rfl y
  | ⟨3, _⟩ => exact Window.rect_emb_val_of_index_zero (cfg0.win 6) t (3 : Fin 4) rfl y

/-- The loads of an expert's weights are inside the arrays. -/
theorem inside (w : BitVec 32) (hw : w.toNat < 64) : k0_chk1 w := by
  unfold k0_chk1
  constructor
  · intro a
    match a with
    | ⟨0, _⟩ => show 1 + 1 ≤ 2; omega
    | ⟨1, _⟩ => show w.toNat + 1 ≤ 64; omega
    | ⟨2, _⟩ => show 0 + 1024 ≤ 1024; omega
    | ⟨3, _⟩ => show 0 + 256 ≤ 256; omega
  · intro a
    match a with
    | ⟨0, _⟩ => show 1 + 1 ≤ 2; omega
    | ⟨1, _⟩ => show w.toNat + 1 ≤ 64; omega
    | ⟨2, _⟩ => show 0 + 256 ≤ 256; omega
    | ⟨3, _⟩ => show 0 + 1024 ≤ 1024; omega

theorem hyps (h : Experts m) : Hyps m := Hyps.of fun c t kq hkq => by
  rw [word_read (ms0_0 t) (hs0_0 t) (iblk m c 0 t) ⟨kq, trips_eq ▸ hkq⟩ _ (k0_off1_eq ⟨kq, hkq⟩), iblk_0]
  exact inside _ (h c _)

/-- The array the reference leaves. -/
def result (h : Experts m) (c : Dev nD) : Vec Bits S2x229376x256 .i32 :=
  blocks (m (c.tc.loc main_arg1)) (m (c.tc.loc main_arg2)) (m (c.tc.loc main_arg3)) (m (c.tc.loc main_arg0)) (m (c.tc.loc main_arg4)) (m (c.tc.loc main_arg5)) (m (c.tc.loc main_arg6)) (h c)

theorem outs_eq (h : Experts m) (c : Dev nD) (t : Fin cfg0.N) : outsAt0 m (hyps m h) c t = result m h c := by
  have hlt : ∀ i : S224.Idx, (iblk m c 0 t i : BitVec 32).toNat < 64 := fun i => by rw [iblk_0]; exact h c i
  unfold outsAt0
  rw [out_eq (F := Bits) (hlt := hlt)]
  unfold result
  congr 1
  · exact iblk_0 m c t
  · exact iblk_1 m c t
  · exact iblk_2 m c t
  · exact iblk_3 m c t
  · exact iblk_4 m c t
  · exact iblk_5 m c t
  · exact iblk_6 m c t

theorem emb_7 (t : Fin cfg0.N) (y : S2x229376x256.Idx) : ((cfg0.win 7).rect t).emb y = y := by
  refine funext fun a => Fin.ext ?_
  match a with
  | ⟨0, _⟩ => exact Window.rect_emb_val_of_index_zero (cfg0.win 7) t (0 : Fin 3) rfl y
  | ⟨1, _⟩ => exact Window.rect_emb_val_of_index_zero (cfg0.win 7) t (1 : Fin 3) rfl y
  | ⟨2, _⟩ => exact Window.rect_emb_val_of_index_zero (cfg0.win 7) t (2 : Fin 3) rfl y

theorem flushed_7 (h : Experts m) (c : Dev nD) (t : Fin cfg0.N) :
    (dats m (hyps m h) 0 c).flushed 7 t = ((cfg0.win 7).blk t).view.read (Elt Bits) (result m h c) := by
  show (cfg0.win 7).cut (cfg0.grid.coords t) ((dats m (hyps m h) 0 c).after 7 t) = _
  rw [after0_7, outs_eq]
  refine funext fun y => ?_
  show result m h c y = result m h c (((cfg0.win 7).rect t).emb y)
  exact congrArg (result m h c) (emb_7 t y).symm

theorem cover_7 (i : S2x229376x256.Idx) : ∃ t : Fin cfg0.N, (cfg0.win 7).flush t = true ∧ i ∈ ((cfg0.win 7).blk t).view.set := by
  refine ⟨t0_0, flush0_7 _, ?_⟩
  refine (View.set_slice_whole main_v0 ((cfg0.win 7).rect t0_0)).symm ▸ (Rect.mem_set_unit ..).mpr ?_
  intro a
  have h0 : (i 0 : Nat) < 2 := (i 0).isLt
  have h1 : (i 1 : Nat) < 229376 := (i 1).isLt
  have h2 : (i 2 : Nat) < 256 := (i 2).isLt
  match a with
  | ⟨0, _⟩ => show 0 * 2 ≤ (i 0 : Nat) ∧ (i 0 : Nat) < 0 * 2 + 2; omega
  | ⟨1, _⟩ => show 0 * 229376 ≤ (i 1 : Nat) ∧ (i 1 : Nat) < 0 * 229376 + 229376; omega
  | ⟨2, _⟩ => show 0 * 256 ≤ (i 2 : Nat) ∧ (i 2 : Nat) < 0 * 256 + 256; omega

theorem arrAt_7 (h : Experts m) (c : Dev nD) : (dats m (hyps m h) 0 c).arrAt 7 cfg0.N = result m h c :=
  (dats m (hyps m h) 0 c).arrAt_eq_of_cover 7 (result m h c) (fun t _ => flushed_7 m h c t) cover_7

/-- The reference ends with its arguments as they were and the result the blocks'. -/
theorem run_result (h : Experts m) : θ_run (defs (F := Bits)) (onTc (τ := τ) (main (F := Bits))) ⟨m, fun _ => 0, ρ⟩ (fun r => ∀ c : Dev nD,
      r.2.mem ((c.tc : Thread nD τ).loc main_v0) = result m h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r hr c => ⟨(hr.1 c).trans (arrAt_7 m h c), hr.2 c⟩)
    (θ_run_and ((θ_run defs _ _).mono (fun r hr c => (hr c).1 7) (run_main m ρ (hyps m h))) (unchanged m ρ (hyps m h)))

end Cert.Reference4.Blocks

end
-- ==== Proof.Ffn2Arrays.lean ====
/- Of the second layer: the expert FFN and its reference leave the same array. -/
module

public import proofs.«01_k».proof.Proof.Ffn2Equal
public import proofs.«01_k».proof.Proof.Ffn2Run
public import proofs.«01_k».proof.Proof.Ref2Run
public import Idealize.ShloMosaic.Lib.ReduceAll

@[expose] public section

set_option maxRecDepth 16384

noncomputable section

namespace Cert.Experts2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable [Cert.Pre_experts_exist.Facts]
variable (m : (ℓ : Loc Cert.Kernel4.nD Cert.Kernel4.τ Cert.Kernel4.sig) → Buf (Elt Bits) ℓ) (h : Cert.Pre_Kernel4 m)
variable (m' : (ℓ : Loc Cert.Reference4.nD Cert.Reference4.τ Cert.Reference4.sig) → Buf (Elt Bits) ℓ)

open Cert.Kernel4.Ffn Cert.Reference4.Blocks

/-- The precondition, of the reference's arguments. -/
theorem experts_of_pre (h : Cert.Pre_Reference4 m') : Experts m' := by
  intro c i
  have hc := congrFun (h c) (fun a => a.elim0)
  have := Host.reduce_andi_all _ _ _ _ _ hc i
  revert this
  generalize (m' ((c.tc : Thread Cert.Reference4.nD Cert.Reference4.τ).loc Cert.Reference4.main_arg1)) = T
  intro this
  change IntOp.andi (IntOp.cmpi .sge (T i) 0#32) (IntOp.cmpi .slt (T i) 64#32) = 1#1 at this
  unfold IntOp.andi IntOp.cmpi at this
  simp only [BitVec.slt_eq_decide, BitVec.sle_eq_decide] at this
  have h0 : (0#32 : BitVec 32).toInt = 0 := rfl
  have h64 : (64#32 : BitVec 32).toInt = 64 := rfl
  rw [h0, h64] at this
  have hT := BitVec.toInt_eq_toNat_cond (T i)
  have hT' := (T i).isLt
  by_cases h1 : (0 : Int) ≤ (T i).toInt
  · by_cases h2 : (T i).toInt < 64
    · split at hT <;> omega
    · rw [decide_eq_false h2] at this
      generalize decide ((0 : Int) ≤ (T i).toInt) = q at this
      cases q <;> exact absurd this (by decide)
  · rw [decide_eq_false h1] at this
    generalize decide ((T i).toInt < 64) = q at this
    cases q <;> exact absurd this (by decide)

/-- The chunks of a block of the kernel's rows are those of the reference's. -/
theorem chunk0_eq (k : Fin 224) : chunk0 (rowsAt m 0 k) = rows (m (((0 : Dev Cert.Kernel4.nD).tc : Thread Cert.Kernel4.nD Cert.Kernel4.τ).loc Cert.Kernel4.main_arg0)) k 0 := by
  refine funext fun y => congrArg (m (((0 : Dev Cert.Kernel4.nD).tc : Thread Cert.Kernel4.nD Cert.Kernel4.τ).loc Cert.Kernel4.main_arg0)) (funext fun a => Fin.ext ?_)
  have b0 : (y 0).val < 1 := (y 0).isLt
  match a with
  | ⟨0, _⟩ => show 0 + 1 * (y 0).val = 0; omega
  | ⟨1, _⟩ => show 1024 * k.val + (0 + 1 * (y 1).val) = 1024 * k.val + (y 1).val; omega
  | ⟨2, _⟩ => show 0 + 1 * (y 2).val = (y 2).val; omega

theorem chunk1_eq (k : Fin 224) : chunk1 (rowsAt m 0 k) = rows (m (((0 : Dev Cert.Kernel4.nD).tc : Thread Cert.Kernel4.nD Cert.Kernel4.τ).loc Cert.Kernel4.main_arg0)) k 1 := by
  refine funext fun y => congrArg (m (((0 : Dev Cert.Kernel4.nD).tc : Thread Cert.Kernel4.nD Cert.Kernel4.τ).loc Cert.Kernel4.main_arg0)) (funext fun a => Fin.ext ?_)
  have b0 : (y 0).val < 1 := (y 0).isLt
  match a with
  | ⟨0, _⟩ => show 1 + 1 * (y 0).val = 1; omega
  | ⟨1, _⟩ => show 1024 * k.val + (0 + 1 * (y 1).val) = 1024 * k.val + (y 1).val; omega
  | ⟨2, _⟩ => show 0 + 1 * (y 2).val = (y 2).val; omega

/-- A used block is fed its own rows -/
theorem rowsOf_used (k : Fin 224) (hu : usedAt m k.val) : blockOf (BitVec.ofNat 32 k.val) (count m) = BitVec.ofNat 32 k.val := by
  have hk : (BitVec.ofNat 32 k.val).toNat < 224 := by rw [BitVec.toNat_ofNat, Nat.mod_eq_of_lt (by omega)]; exact k.isLt
  refine blockOf_used _ _ hk ?_
  have := hu
  unfold usedAt at this
  rwa [BitVec.slt_eq_decide, decide_eq_true_eq] at this

theorem src_used (k : Fin 224) (hu : usedAt m k.val) : src m k = k := by
  refine Fin.ext ?_
  show (blockOf (BitVec.ofNat 32 k.val) (count m)).toNat = k.val
  rw [rowsOf_used m k hu, BitVec.toNat_ofNat, Nat.mod_eq_of_lt (by omega)]

/-- and its own expert's weights. -/
theorem who_used (k : Fin 224) (hu : usedAt m k.val) : who m h k = ⟨((m (((0 : Dev Cert.Kernel4.nD).tc : Thread Cert.Kernel4.nD Cert.Kernel4.τ).loc Cert.Kernel4.main_arg1)) (ix1 k) : BitVec 32).toNat, expert_lt m h 0 _⟩ := by
  refine Fin.ext ?_
  show (expert m k).toNat = ((m (((0 : Dev Cert.Kernel4.nD).tc : Thread Cert.Kernel4.nD Cert.Kernel4.τ).loc Cert.Kernel4.main_arg1)) (ix1 k) : BitVec 32).toNat
  unfold expert
  rw [V_expert]
  refine congrArg (fun p : Fin 224 => ((m (((0 : Dev Cert.Kernel4.nD).tc : Thread Cert.Kernel4.nD Cert.Kernel4.τ).loc Cert.Kernel4.main_arg1)) (ix1 p) : BitVec 32).toNat) (Fin.ext ?_)
  show (blockOf (BitVec.ofNat 32 k.val) (count m)).toNat = k.val
  rw [rowsOf_used m k hu, BitVec.toNat_ofNat, Nat.mod_eq_of_lt (by omega)]

/-- One block, entry by entry. -/
theorem block_eq (k : Fin 224) (y : Cert.Kernel4.S2x1024x256.Idx) :
    outAt m h 0 k y = (if (y 0).val = 0 then left (m (((0 : Dev Cert.Kernel4.nD).tc : Thread Cert.Kernel4.nD Cert.Kernel4.τ).loc Cert.Kernel4.main_arg2)) (m (((0 : Dev Cert.Kernel4.nD).tc : Thread Cert.Kernel4.nD Cert.Kernel4.τ).loc Cert.Kernel4.main_arg3)) (m (((0 : Dev Cert.Kernel4.nD).tc : Thread Cert.Kernel4.nD Cert.Kernel4.τ).loc Cert.Kernel4.main_arg0)) (m (((0 : Dev Cert.Kernel4.nD).tc : Thread Cert.Kernel4.nD Cert.Kernel4.τ).loc Cert.Kernel4.main_arg4)) (m (((0 : Dev Cert.Kernel4.nD).tc : Thread Cert.Kernel4.nD Cert.Kernel4.τ).loc Cert.Kernel4.main_arg5)) (m (((0 : Dev Cert.Kernel4.nD).tc : Thread Cert.Kernel4.nD Cert.Kernel4.τ).loc Cert.Kernel4.main_arg6)) k ⟨((m (((0 : Dev Cert.Kernel4.nD).tc : Thread Cert.Kernel4.nD Cert.Kernel4.τ).loc Cert.Kernel4.main_arg1)) (ix1 k) : BitVec 32).toNat, expert_lt m h 0 _⟩
      else right (m (((0 : Dev Cert.Kernel4.nD).tc : Thread Cert.Kernel4.nD Cert.Kernel4.τ).loc Cert.Kernel4.main_arg2)) (m (((0 : Dev Cert.Kernel4.nD).tc : Thread Cert.Kernel4.nD Cert.Kernel4.τ).loc Cert.Kernel4.main_arg3)) (m (((0 : Dev Cert.Kernel4.nD).tc : Thread Cert.Kernel4.nD Cert.Kernel4.τ).loc Cert.Kernel4.main_arg0)) (m (((0 : Dev Cert.Kernel4.nD).tc : Thread Cert.Kernel4.nD Cert.Kernel4.τ).loc Cert.Kernel4.main_arg4)) (m (((0 : Dev Cert.Kernel4.nD).tc : Thread Cert.Kernel4.nD Cert.Kernel4.τ).loc Cert.Kernel4.main_arg5)) (m (((0 : Dev Cert.Kernel4.nD).tc : Thread Cert.Kernel4.nD Cert.Kernel4.τ).loc Cert.Kernel4.main_arg6)) k ⟨((m (((0 : Dev Cert.Kernel4.nD).tc : Thread Cert.Kernel4.nD Cert.Kernel4.τ).loc Cert.Kernel4.main_arg1)) (ix1 k) : BitVec 32).toNat, expert_lt m h 0 _⟩) (ix3 (0 : Fin 1) (y 1) (y 2)) := by
  unfold outAt
  by_cases hu : usedAt m k.val
  · rw [if_pos hu, src_used m k hu, who_used m h k hu, used_apply, chunk0_eq, chunk1_eq]
    have hw := words_used (F := Bits) (BitVec.ofNat 32 k.val) (count m) ((m (((0 : Dev Cert.Kernel4.nD).tc : Thread Cert.Kernel4.nD Cert.Kernel4.τ).loc Cert.Kernel4.main_arg2)) (ix1 k)) hu (rows (m (((0 : Dev Cert.Kernel4.nD).tc : Thread Cert.Kernel4.nD Cert.Kernel4.τ).loc Cert.Kernel4.main_arg0)) k 0) (rows (m (((0 : Dev Cert.Kernel4.nD).tc : Thread Cert.Kernel4.nD Cert.Kernel4.τ).loc Cert.Kernel4.main_arg0)) k 1)
      (gateAt m 0 ⟨((m (((0 : Dev Cert.Kernel4.nD).tc : Thread Cert.Kernel4.nD Cert.Kernel4.τ).loc Cert.Kernel4.main_arg1)) (ix1 k) : BitVec 32).toNat, expert_lt m h 0 _⟩) (upAt m 0 ⟨((m (((0 : Dev Cert.Kernel4.nD).tc : Thread Cert.Kernel4.nD Cert.Kernel4.τ).loc Cert.Kernel4.main_arg1)) (ix1 k) : BitVec 32).toNat, expert_lt m h 0 _⟩) (downAt m 0 ⟨((m (((0 : Dev Cert.Kernel4.nD).tc : Thread Cert.Kernel4.nD Cert.Kernel4.τ).loc Cert.Kernel4.main_arg1)) (ix1 k) : BitVec 32).toNat, expert_lt m h 0 _⟩)
    unfold Cert.Kernel4.Gen.k0_pay7 Cert.Kernel4.Gen.k0_pay8
    rw [← hw]
    rfl
  · rw [if_neg hu]
    unfold left right Cert.Reference4.Gen.k0_pay2 Cert.Reference4.Gen.k0_pay3
    rw [words_unused _ _ hu]
    split <;> rfl

/-- The whole array. -/
theorem arrays_eq (h' : Experts m') (hargs : ∀ c : Dev Cert.Kernel4.nD, m' ((c.tc : Thread Cert.Reference4.nD Cert.Reference4.τ).loc Cert.Reference4.main_arg0) = m ((c.tc : Thread Cert.Kernel4.nD Cert.Kernel4.τ).loc Cert.Kernel4.main_arg0)
      ∧ m' ((c.tc : Thread Cert.Reference4.nD Cert.Reference4.τ).loc Cert.Reference4.main_arg1) = m ((c.tc : Thread Cert.Kernel4.nD Cert.Kernel4.τ).loc Cert.Kernel4.main_arg1)
      ∧ m' ((c.tc : Thread Cert.Reference4.nD Cert.Reference4.τ).loc Cert.Reference4.main_arg2) = m ((c.tc : Thread Cert.Kernel4.nD Cert.Kernel4.τ).loc Cert.Kernel4.main_arg2)
      ∧ m' ((c.tc : Thread Cert.Reference4.nD Cert.Reference4.τ).loc Cert.Reference4.main_arg3) = m ((c.tc : Thread Cert.Kernel4.nD Cert.Kernel4.τ).loc Cert.Kernel4.main_arg3)
      ∧ m' ((c.tc : Thread Cert.Reference4.nD Cert.Reference4.τ).loc Cert.Reference4.main_arg4) = m ((c.tc : Thread Cert.Kernel4.nD Cert.Kernel4.τ).loc Cert.Kernel4.main_arg4)
      ∧ m' ((c.tc : Thread Cert.Reference4.nD Cert.Reference4.τ).loc Cert.Reference4.main_arg5) = m ((c.tc : Thread Cert.Kernel4.nD Cert.Kernel4.τ).loc Cert.Kernel4.main_arg5)
      ∧ m' ((c.tc : Thread Cert.Reference4.nD Cert.Reference4.τ).loc Cert.Reference4.main_arg6) = m ((c.tc : Thread Cert.Kernel4.nD Cert.Kernel4.τ).loc Cert.Kernel4.main_arg6)) (c : Dev Cert.Kernel4.nD) : result m' h' c = outArr m h c := by
  obtain rfl : c = 0 := Subsingleton.elim _ _
  obtain ⟨a0, a1, a2, a3, a4, a5, a6⟩ := hargs 0
  have e : result m' h' 0 = blocks (m (((0 : Dev Cert.Kernel4.nD).tc : Thread Cert.Kernel4.nD Cert.Kernel4.τ).loc Cert.Kernel4.main_arg1)) (m (((0 : Dev Cert.Kernel4.nD).tc : Thread Cert.Kernel4.nD Cert.Kernel4.τ).loc Cert.Kernel4.main_arg2)) (m (((0 : Dev Cert.Kernel4.nD).tc : Thread Cert.Kernel4.nD Cert.Kernel4.τ).loc Cert.Kernel4.main_arg3)) (m (((0 : Dev Cert.Kernel4.nD).tc : Thread Cert.Kernel4.nD Cert.Kernel4.τ).loc Cert.Kernel4.main_arg0)) (m (((0 : Dev Cert.Kernel4.nD).tc : Thread Cert.Kernel4.nD Cert.Kernel4.τ).loc Cert.Kernel4.main_arg4)) (m (((0 : Dev Cert.Kernel4.nD).tc : Thread Cert.Kernel4.nD Cert.Kernel4.τ).loc Cert.Kernel4.main_arg5)) (m (((0 : Dev Cert.Kernel4.nD).tc : Thread Cert.Kernel4.nD Cert.Kernel4.τ).loc Cert.Kernel4.main_arg6)) (expert_lt m h 0) := by
    unfold result
    congr 1
  rw [e]
  refine funext fun j => ?_
  unfold outArr
  rw [block_eq]
  rfl

end Cert.Experts2

end
-- ==== Proof.Token.lean ====
/- One token of the last layer's combine, as mathematics: the modulated input, the shared expert's gated feed-forward, the
   eight routed rows mixed by the router's weights, the gated residual and its layer normalisation. Both programs are read
   against this one function of a token. -/
module

public import Idealize.ShloMosaic.Lib.Pointwise

@[expose] public section

noncomputable section

namespace Cert.Token

open Idealize.ShloMosaic

/-- Column `j` of an expert row of 1024 values packed in pairs: two chunks of 256 words, the low halves of both chunks
    first, the high halves after them. -/
def rowEl (y0 y1 : Fin 256 → BitVec 32) (j : Fin 1024) : EReal :=
  if h : j.val < 512 then
    Ideal.ofBits FTy.bf16 (BitVec.extractLsb' 0 16
      (if h1 : j.val < 256 then y0 ⟨j.val, h1⟩ else y1 ⟨j.val - 256, by omega⟩))
  else
    Ideal.ofBits FTy.bf16 (BitVec.extractLsb' 16 16
      (if h1 : j.val - 512 < 256 then y0 ⟨j.val - 512, h1⟩ else y1 ⟨j.val - 512 - 256, by omega⟩))

/-- The modulated input. -/
def hidden (x sc sh : Fin 1024 → EReal) (j : Fin 1024) : EReal := x j * (1 + sc j) + sh j

/-- A product with one of the shared expert's two input matrices. -/
def proj (h : Fin 1024 → EReal) (M : Fin 1024 → Fin 256 → EReal) (e : Fin 256) : EReal := ∑ k, h k * M k e

/-- The shared expert: the gate's activation times the other product, through the output matrix. -/
def shared (h : Fin 1024 → EReal) (G U : Fin 1024 → Fin 256 → EReal) (D : Fin 256 → Fin 1024 → EReal) (j : Fin 1024) : EReal :=
  ∑ e, proj h G e * Ideal.logistic (proj h G e) * proj h U e * D e j

/-- The routed rows mixed by the weights. -/
def routed (w : Fin 8 → EReal) (r : Fin 8 → Fin 1024 → EReal) (j : Fin 1024) : EReal := ∑ k, r k j * w k

/-- What is normalised: √2 (as a single-precision number) times the input, plus the gated feed-forward. -/
def resid (x sc sh gt : Fin 1024 → EReal) (w : Fin 8 → EReal) (r : Fin 8 → Fin 1024 → EReal)
    (G U : Fin 1024 → Fin 256 → EReal) (D : Fin 256 → Fin 1024 → EReal) (j : Fin 1024) : EReal :=
  Ideal.ofBits FTy.f32 0x3FB504F3#32 * x j + gt j * (routed w r j + shared (hidden x sc sh) G U D j)

/-- The mean of a row. -/
def mean (v : Fin 1024 → EReal) : EReal := Ideal.div (∑ k, v k) (Ideal.ofBits FTy.f32 0x44800000#32)

/-- Layer normalisation of a row. -/
def norm (v g b : Fin 1024 → EReal) (j : Fin 1024) : EReal :=
  (v j - mean v) * Ideal.rsqrt (mean (fun k => (v k - mean v) * (v k - mean v)) + Ideal.ofBits FTy.f32 0x358637BD#32) * g j + b j

/-- One token of the combine. -/
def out (x sc sh gt : Fin 1024 → EReal) (w : Fin 8 → EReal) (r : Fin 8 → Fin 1024 → EReal)
    (G U : Fin 1024 → Fin 256 → EReal) (D : Fin 256 → Fin 1024 → EReal) (g b : Fin 1024 → EReal) (j : Fin 1024) : EReal :=
  norm (resid x sc sh gt w r G U D) g b j

end Cert.Token

end
-- ==== Proof.ProjTile.lean ====
/- The four blocks one grid point of the second layer's input projection leaves, over the extended reals, read at an index: each
   is a column of the modulated tokens' product with the weights, through the activation where the layer has one. -/
module

public import proofs.«01_k».proof.Proof.Gen.Kernel3Ideal.Value
public import proofs.«01_k».proof.Proof.Token
public import Idealize.ShloMosaic.Lib.Pipeline.Value

@[expose] public section

set_option maxRecDepth 16384

noncomputable section

namespace Cert.Kernel3Ideal.Proj

open Cert.Kernel3Ideal Cert.Kernel3Ideal.Gen Cert.Kernel3Ideal.Value
open Idealize.ShloMosaic Idealize.ShloMosaic.TcCoe

/-- Column `n` of one token's projection: its modulated input times the weights. -/
def col (x sc sh : Fin 1024 → EReal) (W : Fin 1024 → Fin 5120 → EReal) (n : Fin 5120) : EReal :=
  ∑ k, Cert.Token.hidden x sc sh k * W k n

/-- The activation `v · σ(v)`. -/
def silu (v : EReal) : EReal := v * Ideal.logistic v

/-- The product, at an index. -/
theorem pay5_apply (a : Vec Ideal S256x1024 .f32) (b c : Vec Ideal S1x1x1024 .f32) (d : Vec Ideal S1024x5120 .bf16) (p : Fin 256) (n : Fin 5120) :
    k0_pay5 (F := Ideal) a b c d (ix2 p n)
      = col (fun k => a (ix2 p k)) (fun k => b (ix3 0 0 k)) (fun k => c (ix3 0 0 k)) (fun k n => d (ix2 k n)) n := by
  pointwise [k0_pay5]
  rfl

/-- Column `n` of row `p` of the blocks. -/
def blockCol (x0 : Vec Ideal S256x1024 .f32) (x1 : Vec Ideal S1x6x1024 .f32) (x2 : Vec Ideal S1024x5120 .bf16) (p : Fin 256) (n : Fin 5120) : EReal :=
  col (fun k => x0 (ix2 p k)) (fun k => x1 (ix3 0 1 k)) (fun k => x1 (ix3 0 0 k)) (fun k n => x2 (ix2 k n)) n

theorem pay38_apply (x0 : Vec Ideal S256x1024 .f32) (x1 : Vec Ideal S1x6x1024 .f32) (x2 : Vec Ideal S1024x5120 .bf16) (p : Fin 256) (n : Fin 5120) :
    k0_pay5 (F := Ideal) (View.ld x0 r0_0) (View.ld x1 r0_1) (View.ld x1 r0_2) (View.ld x2 r0_3) (ix2 p n) = blockCol x0 x1 x2 p n := by
  rw [pay5_apply]
  unfold blockCol
  pointwise

/-- The query block. -/
theorem out3_apply (x0 : Vec Ideal S256x1024 .f32) (x1 : Vec Ideal S1x6x1024 .f32) (x2 : Vec Ideal S1024x5120 .bf16) (h : Fin 8) (p : Fin 256) (e : Fin 128) :
    out0_3 (F := Ideal) x0 x1 x2 (ix3 h p e) = silu (blockCol x0 x1 x2 p ⟨h.val * 128 + e.val, by omega⟩) := by
  have i : ix3_0 (ix3 h p e) = ix2 p (⟨h.val * 128 + e.val, by omega⟩ : Fin 5120) := by
    funext a
    match a with
    | ⟨0, _⟩ => rfl
    | ⟨1, _⟩ => rfl
  unfold_out out0_3
  rw [canon3_eq, ← pay38_apply, ← i]
  rfl

/-- The value block. -/
theorem out5_apply (x0 : Vec Ideal S256x1024 .f32) (x1 : Vec Ideal S1x6x1024 .f32) (x2 : Vec Ideal S1024x5120 .bf16) (h : Fin 8) (p : Fin 256) (e : Fin 128) :
    out0_5 (F := Ideal) x0 x1 x2 (ix3 h p e) = blockCol x0 x1 x2 p ⟨h.val * 128 + e.val + 3072, by omega⟩ := by
  have i : ix5_0 (ix3 h p e) = ix2 p (⟨h.val * 128 + e.val + 3072, by omega⟩ : Fin 5120) := by
    funext a
    match a with
    | ⟨0, _⟩ => rfl
    | ⟨1, _⟩ => rfl
  unfold_out out0_5
  rw [canon5_eq, ← pay38_apply, ← i]
  rfl

/-- The gate block. -/
theorem out6_apply (x0 : Vec Ideal S256x1024 .f32) (x1 : Vec Ideal S1x6x1024 .f32) (x2 : Vec Ideal S1024x5120 .bf16) (p : Fin 256) (j : Fin 1024) :
    out0_6 (F := Ideal) x0 x1 x2 (ix2 p j) = silu (blockCol x0 x1 x2 p ⟨j.val + 4096, by omega⟩) := by
  have i : ix6_0 (ix2 p j) = ix2 p (⟨j.val + 4096, by omega⟩ : Fin 5120) := by
    funext a
    match a with
    | ⟨0, _⟩ => rfl
    | ⟨1, _⟩ => rfl
  unfold_out out0_6
  rw [canon6_eq, ← pay38_apply, ← i]
  rfl

/-! The block of the two directions' gates: sixteen stores, one a direction and head. -/

theorem pre_1_7 (z : FVec Ideal S256x5120 .f32) (p : Fin 256) (e : Fin 128) :
    k0_pay2 (F := Ideal) z (ix4 0 0 p e) = z (ix2 p (⟨2944 + e.val, by omega⟩ : Fin 5120)) := by
  pointwise [k0_pay2]

theorem pre_0_7 (z : FVec Ideal S256x5120 .f32) (p : Fin 256) (e : Fin 128) :
    k0_pay1 (F := Ideal) (k0_pay37 z) (ix4 0 0 p e) = z (ix2 p (⟨1920 + e.val, by omega⟩ : Fin 5120)) := by
  pointwise [k0_pay1, k0_pay37]

theorem pre_1_6 (z : FVec Ideal S256x5120 .f32) (p : Fin 256) (e : Fin 128) :
    k0_pay34 (F := Ideal) z (ix4 0 0 p e) = z (ix2 p (⟨2816 + e.val, by omega⟩ : Fin 5120)) := by
  pointwise [k0_pay34]

theorem pre_0_6 (z : FVec Ideal S256x5120 .f32) (p : Fin 256) (e : Fin 128) :
    k0_pay33 (F := Ideal) z (ix4 0 0 p e) = z (ix2 p (⟨1792 + e.val, by omega⟩ : Fin 5120)) := by
  pointwise [k0_pay33]

theorem pre_1_5 (z : FVec Ideal S256x5120 .f32) (p : Fin 256) (e : Fin 128) :
    k0_pay30 (F := Ideal) z (ix4 0 0 p e) = z (ix2 p (⟨2688 + e.val, by omega⟩ : Fin 5120)) := by
  pointwise [k0_pay30]

theorem pre_0_5 (z : FVec Ideal S256x5120 .f32) (p : Fin 256) (e : Fin 128) :
    k0_pay29 (F := Ideal) z (ix4 0 0 p e) = z (ix2 p (⟨1664 + e.val, by omega⟩ : Fin 5120)) := by
  pointwise [k0_pay29]

theorem pre_1_4 (z : FVec Ideal S256x5120 .f32) (p : Fin 256) (e : Fin 128) :
    k0_pay26 (F := Ideal) z (ix4 0 0 p e) = z (ix2 p (⟨2560 + e.val, by omega⟩ : Fin 5120)) := by
  pointwise [k0_pay26]

theorem pre_0_4 (z : FVec Ideal S256x5120 .f32) (p : Fin 256) (e : Fin 128) :
    k0_pay25 (F := Ideal) z (ix4 0 0 p e) = z (ix2 p (⟨1536 + e.val, by omega⟩ : Fin 5120)) := by
  pointwise [k0_pay25]

theorem pre_1_3 (z : FVec Ideal S256x5120 .f32) (p : Fin 256) (e : Fin 128) :
    k0_pay21 (F := Ideal) z (ix4 0 0 p e) = z (ix2 p (⟨2432 + e.val, by omega⟩ : Fin 5120)) := by
  pointwise [k0_pay21]

theorem pre_0_3 (z : FVec Ideal S256x5120 .f32) (p : Fin 256) (e : Fin 128) :
    k0_pay20 (F := Ideal) z (ix4 0 0 p e) = z (ix2 p (⟨1408 + e.val, by omega⟩ : Fin 5120)) := by
  pointwise [k0_pay20]

theorem pre_1_2 (z : FVec Ideal S256x5120 .f32) (p : Fin 256) (e : Fin 128) :
    k0_pay17 (F := Ideal) z (ix4 0 0 p e) = z (ix2 p (⟨2304 + e.val, by omega⟩ : Fin 5120)) := by
  pointwise [k0_pay17]

theorem pre_0_2 (z : FVec Ideal S256x5120 .f32) (p : Fin 256) (e : Fin 128) :
    k0_pay16 (F := Ideal) z (ix4 0 0 p e) = z (ix2 p (⟨1280 + e.val, by omega⟩ : Fin 5120)) := by
  pointwise [k0_pay16]

theorem pre_1_1 (z : FVec Ideal S256x5120 .f32) (p : Fin 256) (e : Fin 128) :
    k0_pay13 (F := Ideal) z (ix4 0 0 p e) = z (ix2 p (⟨2176 + e.val, by omega⟩ : Fin 5120)) := by
  pointwise [k0_pay13]

theorem pre_0_1 (z : FVec Ideal S256x5120 .f32) (p : Fin 256) (e : Fin 128) :
    k0_pay12 (F := Ideal) z (ix4 0 0 p e) = z (ix2 p (⟨1152 + e.val, by omega⟩ : Fin 5120)) := by
  pointwise [k0_pay12]

theorem pre_1_0 (a : Vec Ideal S256x1024 .f32) (b c : Vec Ideal S1x1x1024 .f32) (d : Vec Ideal S1024x5120 .bf16) (p : Fin 256) (e : Fin 128) :
    k0_pay8 (F := Ideal) a b c d (ix4 0 0 p e) = (k0_pay5 (F := Ideal) a b c d) (ix2 p (⟨2048 + e.val, by omega⟩ : Fin 5120)) := by
  pointwise [k0_pay8]

theorem pre_0_0 (a : Vec Ideal S256x1024 .f32) (b c : Vec Ideal S1x1x1024 .f32) (d : Vec Ideal S1024x5120 .bf16) (p : Fin 256) (e : Fin 128) :
    k0_pay7 (F := Ideal) a b c d (ix4 0 0 p e) = (k0_pay5 (F := Ideal) a b c d) (ix2 p (⟨1024 + e.val, by omega⟩ : Fin 5120)) := by
  pointwise [k0_pay7]

/-- An index of a store's payload. -/
theorem ix4_eta (x : S1x1x256x128.Idx) : x = ix4 0 0 (x 2) (x 3) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

/-- The gates' block as one function of the product. -/
def gates (z : FVec Ideal S256x5120 .f32) : Vec Ideal S2x8x256x128 .f32 := fun y =>
  z (ix2 (y 2) (⟨1024 * (1 + (y 0).val) + 128 * (y 1).val + (y 3).val, by
    have h0 : (y 0).val < 2 := (y 0).isLt
    have h1 : (y 1).val < 8 := (y 1).isLt
    have h3 : (y 3).val < 128 := (y 3).isLt
    omega⟩ : Fin 5120))

theorem gates_apply (z : FVec Ideal S256x5120 .f32) (g : Fin 2) (h : Fin 8) (p : Fin 256) (e : Fin 128) :
    gates z (ix4 g h p e) = z (ix2 p (⟨1024 * (1 + g.val) + 128 * h.val + e.val, by omega⟩ : Fin 5120)) := rfl

theorem out4_eq (x0 : Vec Ideal S256x1024 .f32) (x1 : Vec Ideal S1x6x1024 .f32) (x2 : Vec Ideal S1024x5120 .bf16) (y : S2x8x256x128.Idx) :
    out0_4 (F := Ideal) x0 x1 x2 y = gates (k0_pay5 (F := Ideal) (View.ld x0 r0_0) (View.ld x1 r0_1) (View.ld x1 r0_2) (View.ld x2 r0_3)) y := by
  unfold_out out0_4
  refine View.canon_apply_of_pieces (gates _) _ ?_ y (cover0_4 _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl <;> intro (x : S1x1x256x128.Idx) <;> obtain ⟨p, e, rfl⟩ : ∃ p e, x = ix4 0 0 p e := ⟨x 2, x 3, ix4_eta x⟩
  · show k0_pay2 (k0_pay5 (View.ld x0 r0_0) (View.ld x1 r0_1) (View.ld x1 r0_2) (View.ld x2 r0_3)) (ix4 0 0 p e) = gates _ (r0_27.emb (ix4 0 0 p e))
    refine (pre_1_7 _ p e).trans ?_
    rw [show r0_27.emb (ix4 0 0 p e) = ix4 (1 : Fin 2) (7 : Fin 8) p e by
      funext a; fin_cases a <;> exact Fin.ext (by simp), gates_apply]
    refine congrArg (k0_pay5 _ _ _ _) (congrArg (ix2 p) (Fin.ext ?_))
    show 2944 + e.val = 1024 * (1 + 1) + 128 * 7 + e.val
    omega
  · show k0_pay1 (k0_pay37 (k0_pay5 (View.ld x0 r0_0) (View.ld x1 r0_1) (View.ld x1 r0_2) (View.ld x2 r0_3))) (ix4 0 0 p e) = gates _ (r0_26.emb (ix4 0 0 p e))
    refine (pre_0_7 _ p e).trans ?_
    rw [show r0_26.emb (ix4 0 0 p e) = ix4 (0 : Fin 2) (7 : Fin 8) p e by
      funext a; fin_cases a <;> exact Fin.ext (by simp), gates_apply]
    refine congrArg (k0_pay5 _ _ _ _) (congrArg (ix2 p) (Fin.ext ?_))
    show 1920 + e.val = 1024 * (1 + 0) + 128 * 7 + e.val
    omega
  · show k0_pay34 (k0_pay5 (View.ld x0 r0_0) (View.ld x1 r0_1) (View.ld x1 r0_2) (View.ld x2 r0_3)) (ix4 0 0 p e) = gates _ (r0_24.emb (ix4 0 0 p e))
    refine (pre_1_6 _ p e).trans ?_
    rw [show r0_24.emb (ix4 0 0 p e) = ix4 (1 : Fin 2) (6 : Fin 8) p e by
      funext a; fin_cases a <;> exact Fin.ext (by simp), gates_apply]
    refine congrArg (k0_pay5 _ _ _ _) (congrArg (ix2 p) (Fin.ext ?_))
    show 2816 + e.val = 1024 * (1 + 1) + 128 * 6 + e.val
    omega
  · show k0_pay33 (k0_pay5 (View.ld x0 r0_0) (View.ld x1 r0_1) (View.ld x1 r0_2) (View.ld x2 r0_3)) (ix4 0 0 p e) = gates _ (r0_23.emb (ix4 0 0 p e))
    refine (pre_0_6 _ p e).trans ?_
    rw [show r0_23.emb (ix4 0 0 p e) = ix4 (0 : Fin 2) (6 : Fin 8) p e by
      funext a; fin_cases a <;> exact Fin.ext (by simp), gates_apply]
    refine congrArg (k0_pay5 _ _ _ _) (congrArg (ix2 p) (Fin.ext ?_))
    show 1792 + e.val = 1024 * (1 + 0) + 128 * 6 + e.val
    omega
  · show k0_pay30 (k0_pay5 (View.ld x0 r0_0) (View.ld x1 r0_1) (View.ld x1 r0_2) (View.ld x2 r0_3)) (ix4 0 0 p e) = gates _ (r0_21.emb (ix4 0 0 p e))
    refine (pre_1_5 _ p e).trans ?_
    rw [show r0_21.emb (ix4 0 0 p e) = ix4 (1 : Fin 2) (5 : Fin 8) p e by
      funext a; fin_cases a <;> exact Fin.ext (by simp), gates_apply]
    refine congrArg (k0_pay5 _ _ _ _) (congrArg (ix2 p) (Fin.ext ?_))
    show 2688 + e.val = 1024 * (1 + 1) + 128 * 5 + e.val
    omega
  · show k0_pay29 (k0_pay5 (View.ld x0 r0_0) (View.ld x1 r0_1) (View.ld x1 r0_2) (View.ld x2 r0_3)) (ix4 0 0 p e) = gates _ (r0_20.emb (ix4 0 0 p e))
    refine (pre_0_5 _ p e).trans ?_
    rw [show r0_20.emb (ix4 0 0 p e) = ix4 (0 : Fin 2) (5 : Fin 8) p e by
      funext a; fin_cases a <;> exact Fin.ext (by simp), gates_apply]
    refine congrArg (k0_pay5 _ _ _ _) (congrArg (ix2 p) (Fin.ext ?_))
    show 1664 + e.val = 1024 * (1 + 0) + 128 * 5 + e.val
    omega
  · show k0_pay26 (k0_pay5 (View.ld x0 r0_0) (View.ld x1 r0_1) (View.ld x1 r0_2) (View.ld x2 r0_3)) (ix4 0 0 p e) = gates _ (r0_18.emb (ix4 0 0 p e))
    refine (pre_1_4 _ p e).trans ?_
    rw [show r0_18.emb (ix4 0 0 p e) = ix4 (1 : Fin 2) (4 : Fin 8) p e by
      funext a; fin_cases a <;> exact Fin.ext (by simp), gates_apply]
    refine congrArg (k0_pay5 _ _ _ _) (congrArg (ix2 p) (Fin.ext ?_))
    show 2560 + e.val = 1024 * (1 + 1) + 128 * 4 + e.val
    omega
  · show k0_pay25 (k0_pay5 (View.ld x0 r0_0) (View.ld x1 r0_1) (View.ld x1 r0_2) (View.ld x2 r0_3)) (ix4 0 0 p e) = gates _ (r0_17.emb (ix4 0 0 p e))
    refine (pre_0_4 _ p e).trans ?_
    rw [show r0_17.emb (ix4 0 0 p e) = ix4 (0 : Fin 2) (4 : Fin 8) p e by
      funext a; fin_cases a <;> exact Fin.ext (by simp), gates_apply]
    refine congrArg (k0_pay5 _ _ _ _) (congrArg (ix2 p) (Fin.ext ?_))
    show 1536 + e.val = 1024 * (1 + 0) + 128 * 4 + e.val
    omega
  · show k0_pay21 (k0_pay5 (View.ld x0 r0_0) (View.ld x1 r0_1) (View.ld x1 r0_2) (View.ld x2 r0_3)) (ix4 0 0 p e) = gates _ (r0_15.emb (ix4 0 0 p e))
    refine (pre_1_3 _ p e).trans ?_
    rw [show r0_15.emb (ix4 0 0 p e) = ix4 (1 : Fin 2) (3 : Fin 8) p e by
      funext a; fin_cases a <;> exact Fin.ext (by simp), gates_apply]
    refine congrArg (k0_pay5 _ _ _ _) (congrArg (ix2 p) (Fin.ext ?_))
    show 2432 + e.val = 1024 * (1 + 1) + 128 * 3 + e.val
    omega
  · show k0_pay20 (k0_pay5 (View.ld x0 r0_0) (View.ld x1 r0_1) (View.ld x1 r0_2) (View.ld x2 r0_3)) (ix4 0 0 p e) = gates _ (r0_14.emb (ix4 0 0 p e))
    refine (pre_0_3 _ p e).trans ?_
    rw [show r0_14.emb (ix4 0 0 p e) = ix4 (0 : Fin 2) (3 : Fin 8) p e by
      funext a; fin_cases a <;> exact Fin.ext (by simp), gates_apply]
    refine congrArg (k0_pay5 _ _ _ _) (congrArg (ix2 p) (Fin.ext ?_))
    show 1408 + e.val = 1024 * (1 + 0) + 128 * 3 + e.val
    omega
  · show k0_pay17 (k0_pay5 (View.ld x0 r0_0) (View.ld x1 r0_1) (View.ld x1 r0_2) (View.ld x2 r0_3)) (ix4 0 0 p e) = gates _ (r0_12.emb (ix4 0 0 p e))
    refine (pre_1_2 _ p e).trans ?_
    rw [show r0_12.emb (ix4 0 0 p e) = ix4 (1 : Fin 2) (2 : Fin 8) p e by
      funext a; fin_cases a <;> exact Fin.ext (by simp), gates_apply]
    refine congrArg (k0_pay5 _ _ _ _) (congrArg (ix2 p) (Fin.ext ?_))
    show 2304 + e.val = 1024 * (1 + 1) + 128 * 2 + e.val
    omega
  · show k0_pay16 (k0_pay5 (View.ld x0 r0_0) (View.ld x1 r0_1) (View.ld x1 r0_2) (View.ld x2 r0_3)) (ix4 0 0 p e) = gates _ (r0_11.emb (ix4 0 0 p e))
    refine (pre_0_2 _ p e).trans ?_
    rw [show r0_11.emb (ix4 0 0 p e) = ix4 (0 : Fin 2) (2 : Fin 8) p e by
      funext a; fin_cases a <;> exact Fin.ext (by simp), gates_apply]
    refine congrArg (k0_pay5 _ _ _ _) (congrArg (ix2 p) (Fin.ext ?_))
    show 1280 + e.val = 1024 * (1 + 0) + 128 * 2 + e.val
    omega
  · show k0_pay13 (k0_pay5 (View.ld x0 r0_0) (View.ld x1 r0_1) (View.ld x1 r0_2) (View.ld x2 r0_3)) (ix4 0 0 p e) = gates _ (r0_9.emb (ix4 0 0 p e))
    refine (pre_1_1 _ p e).trans ?_
    rw [show r0_9.emb (ix4 0 0 p e) = ix4 (1 : Fin 2) (1 : Fin 8) p e by
      funext a; fin_cases a <;> exact Fin.ext (by simp), gates_apply]
    refine congrArg (k0_pay5 _ _ _ _) (congrArg (ix2 p) (Fin.ext ?_))
    show 2176 + e.val = 1024 * (1 + 1) + 128 * 1 + e.val
    omega
  · show k0_pay12 (k0_pay5 (View.ld x0 r0_0) (View.ld x1 r0_1) (View.ld x1 r0_2) (View.ld x2 r0_3)) (ix4 0 0 p e) = gates _ (r0_8.emb (ix4 0 0 p e))
    refine (pre_0_1 _ p e).trans ?_
    rw [show r0_8.emb (ix4 0 0 p e) = ix4 (0 : Fin 2) (1 : Fin 8) p e by
      funext a; fin_cases a <;> exact Fin.ext (by simp), gates_apply]
    refine congrArg (k0_pay5 _ _ _ _) (congrArg (ix2 p) (Fin.ext ?_))
    show 1152 + e.val = 1024 * (1 + 0) + 128 * 1 + e.val
    omega
  · show k0_pay8 (View.ld x0 r0_0) (View.ld x1 r0_1) (View.ld x1 r0_2) (View.ld x2 r0_3) (ix4 0 0 p e) = gates _ (r0_6.emb (ix4 0 0 p e))
    refine (pre_1_0 _ _ _ _ p e).trans ?_
    rw [show r0_6.emb (ix4 0 0 p e) = ix4 (1 : Fin 2) (0 : Fin 8) p e by
      funext a; fin_cases a <;> exact Fin.ext (by simp), gates_apply]
    refine congrArg (k0_pay5 _ _ _ _) (congrArg (ix2 p) (Fin.ext ?_))
    show 2048 + e.val = 1024 * (1 + 1) + 128 * 0 + e.val
    omega
  · show k0_pay7 (View.ld x0 r0_0) (View.ld x1 r0_1) (View.ld x1 r0_2) (View.ld x2 r0_3) (ix4 0 0 p e) = gates _ (r0_5.emb (ix4 0 0 p e))
    refine (pre_0_0 _ _ _ _ p e).trans ?_
    rw [show r0_5.emb (ix4 0 0 p e) = ix4 (0 : Fin 2) (0 : Fin 8) p e by
      funext a; fin_cases a <;> exact Fin.ext (by simp), gates_apply]
    refine congrArg (k0_pay5 _ _ _ _) (congrArg (ix2 p) (Fin.ext ?_))
    show 1024 + e.val = 1024 * (1 + 0) + 128 * 0 + e.val
    omega

/-- The gates' block at an index. -/
theorem out4_apply (x0 : Vec Ideal S256x1024 .f32) (x1 : Vec Ideal S1x6x1024 .f32) (x2 : Vec Ideal S1024x5120 .bf16) (g : Fin 2) (h : Fin 8) (p : Fin 256) (e : Fin 128) :
    out0_4 (F := Ideal) x0 x1 x2 (ix4 g h p e) = blockCol x0 x1 x2 p ⟨1024 * (1 + g.val) + 128 * h.val + e.val, by omega⟩ :=
  (out4_eq x0 x1 x2 _).trans (pay38_apply x0 x1 x2 p _)

end Cert.Kernel3Ideal.Proj

end
-- ==== Proof.ProjRef.lean ====
/- The four results of the second layer's input projection as the reference computes them, over the extended reals, at an index. -/
module

public import proofs.«01_k».proof.Proof.Gen.Reference3Ideal.Read
public import proofs.«01_k».proof.Proof.ProjTile

@[expose] public section

noncomputable section

namespace Cert.Reference3Ideal.Proj

open Cert.Reference3Ideal Cert.Reference3Ideal.Gen Cert.Reference3Ideal.Read
open Idealize.ShloMosaic
open Cert.Kernel3Ideal.Proj (col silu)

/-- Column `n` of token `t`'s projection: 4096 tokens for each of the first five rows of the modulation. -/
def tokenCol (x0 : Vec Ideal S20480x1024 .f32) (x1 : Vec Ideal S8x6x1024 .f32) (x2 : Vec Ideal S1024x5120 .f32) (t : Fin 20480) (n : Fin 5120) : EReal :=
  col (fun k => x0 (ix2 t k)) (fun k => x1 (ix3 (⟨t.val / 4096, by omega⟩ : Fin 8) 1 k)) (fun k => x1 (ix3 (⟨t.val / 4096, by omega⟩ : Fin 8) 0 k))
    (fun k n => x2 (ix2 k n)) n

theorem hidden_apply (x0 : Vec Ideal S20480x1024 .f32) (x1 : Vec Ideal S8x6x1024 .f32) (t : Fin 20480) (k : Fin 1024) :
    val_main_v11 (F := Ideal) x0 x1 (ix2 t k)
      = Cert.Token.hidden (fun k => x0 (ix2 t k)) (fun k => x1 (ix3 (⟨t.val / 4096, by omega⟩ : Fin 8) 1 k)) (fun k => x1 (ix3 (⟨t.val / 4096, by omega⟩ : Fin 8) 0 k)) k := by
  pointwise [val_main_v11, val_main_v10, val_main_v9, val_main_v8, val_main_v7, val_main_v6, val_main_v5, val_main_v4, val_main_v3, val_main_v2, val_main_v1, val_main_v0, val_main_cst]
  rfl

theorem product_apply (x0 : Vec Ideal S20480x1024 .f32) (x1 : Vec Ideal S8x6x1024 .f32) (x2 : Vec Ideal S1024x5120 .f32) (t : Fin 20480) (n : Fin 5120) :
    val_main_v12 (F := Ideal) x0 x1 x2 (ix2 t n) = tokenCol x0 x1 x2 t n := by
  pointwise [val_main_v12]
  simp only [hidden_apply]
  rfl

/-- The queries, by head. -/
theorem q_apply (x0 : Vec Ideal S20480x1024 .f32) (x1 : Vec Ideal S8x6x1024 .f32) (x2 : Vec Ideal S1024x5120 .f32) (h : Fin 8) (t : Fin 20480) (e : Fin 128) :
    val_main_v20 (F := Ideal) x0 x1 x2 (ix3 h t e) = silu (tokenCol x0 x1 x2 t ⟨h.val * 128 + e.val, by omega⟩) := by
  pointwise [val_main_v20, val_main_v19, val_main_v18, val_main_v13, val_main_call0_v5, val_main_call0_v4, val_main_call0_cst_0, val_main_call0_v3, val_main_call0_v2, val_main_call0_cst, val_main_call0_v1, val_main_call0_v0]
  simp only [product_apply]
  rfl

/-- The two directions' gates, by head. -/
theorem pre_apply (x0 : Vec Ideal S20480x1024 .f32) (x1 : Vec Ideal S8x6x1024 .f32) (x2 : Vec Ideal S1024x5120 .f32) (g : Fin 2) (h : Fin 8) (t : Fin 20480) (e : Fin 128) :
    val_main_v27 (F := Ideal) x0 x1 x2 (ix4 g h t e) = tokenCol x0 x1 x2 t ⟨1024 * (1 + g.val) + 128 * h.val + e.val, by omega⟩ := by
  fin_cases g
  · pointwise [val_main_v27, val_main_v26, val_main_v25, val_main_v24, val_main_v23, val_main_v22, val_main_v21, val_main_v21, val_main_v14, val_main_v15]
    simp only [product_apply]
    exact congrArg (tokenCol x0 x1 x2 t) (Fin.ext (by simp; omega))
  · pointwise [val_main_v27, val_main_v26, val_main_v25, val_main_v24, val_main_v23, val_main_v22, val_main_v21, val_main_v21, val_main_v14, val_main_v15]
    simp only [product_apply]
    exact congrArg (tokenCol x0 x1 x2 t) (Fin.ext (by simp; omega))

/-- The values, by head. -/
theorem v_apply (x0 : Vec Ideal S20480x1024 .f32) (x1 : Vec Ideal S8x6x1024 .f32) (x2 : Vec Ideal S1024x5120 .f32) (h : Fin 8) (t : Fin 20480) (e : Fin 128) :
    val_main_v30 (F := Ideal) x0 x1 x2 (ix3 h t e) = tokenCol x0 x1 x2 t ⟨h.val * 128 + e.val + 3072, by omega⟩ := by
  pointwise [val_main_v30, val_main_v29, val_main_v28, val_main_v16]
  simp only [product_apply]
  exact congrArg (tokenCol x0 x1 x2 t) (Fin.ext (by simp; omega))

/-- The output gate. -/
theorem sg_apply (x0 : Vec Ideal S20480x1024 .f32) (x1 : Vec Ideal S8x6x1024 .f32) (x2 : Vec Ideal S1024x5120 .f32) (t : Fin 20480) (j : Fin 1024) :
    val_main_v32 (F := Ideal) x0 x1 x2 (ix2 t j) = silu (tokenCol x0 x1 x2 t ⟨j.val + 4096, by omega⟩) := by
  pointwise [val_main_v32, val_main_v31, val_main_v17, val_main_call1_v5, val_main_call1_v4, val_main_call1_cst_0, val_main_call1_v3, val_main_call1_v2, val_main_call1_cst, val_main_call1_v1, val_main_call1_v0]
  simp only [product_apply]
  refine Eq.trans ?_ (congrArg (fun n => silu (tokenCol x0 x1 x2 t n)) (Fin.ext (Nat.add_comm 4096 j.val) : (⟨4096 + j.val, by omega⟩ : Fin 5120) = _))
  rfl

end Cert.Reference3Ideal.Proj

end
-- ==== Proof.ProjBlocks.lean ====
/- What the blocks of a grid point of the second layer's input projection hold: rows of the arguments. And what a point writes
   back: its block of the reference's results. -/
module

public import proofs.«01_k».proof.Proof.ProjRef
public import Idealize.ShloMosaic.Lib.Pipeline.Value
public import Idealize.ShloMosaic.Lib.Pointwise

@[expose] public section

set_option maxRecDepth 16384

noncomputable section

namespace Cert.Kernel3Ideal.Proj

open Cert.Kernel3Ideal Cert.Kernel3Ideal.Gen Cert.Kernel3Ideal.Value
open Idealize.ShloMosaic Idealize.ShloMosaic.TcCoe Idealize.ShloMosaic.Tactic
open Idealize.ShloMosaic.Pipeline (Window Dat)

variable (m : (ℓ : Loc nD τ sig) → Buf (Elt Ideal) ℓ)

theorem point_lt (t : Fin cfg0.N) : t.val < 80 := lt_of_lt_of_eq t.isLt (show cfg0.N = 80 from N_0)

/-- Row `p` of tile `t`, as a token. -/
def tok (t : Fin cfg0.N) (p : Fin 256) : Fin 20480 := ⟨256 * t.val + p.val, by have := point_lt t; omega⟩

theorem index_0 : ∀ t : Fin grid0.N, win0_0.index t 0 = t.val ∧ win0_0.index t 1 = 0 := by decide +kernel
theorem index_1 : ∀ t : Fin grid0.N, win0_1.index t 0 = t.val / 16 ∧ win0_1.index t 1 = 0 ∧ win0_1.index t 2 = 0 := by decide +kernel
theorem index_2 : ∀ t : Fin grid0.N, win0_2.index t 0 = 0 ∧ win0_2.index t 1 = 0 := by decide +kernel
theorem index_3 : ∀ t : Fin grid0.N, win0_3.index t 0 = 0 ∧ win0_3.index t 1 = t.val ∧ win0_3.index t 2 = 0 := by decide +kernel
theorem index_4 : ∀ t : Fin grid0.N, win0_4.index t 0 = 0 ∧ win0_4.index t 1 = 0 ∧ win0_4.index t 2 = t.val ∧ win0_4.index t 3 = 0 := by decide +kernel
theorem index_5 : ∀ t : Fin grid0.N, win0_5.index t 0 = 0 ∧ win0_5.index t 1 = t.val ∧ win0_5.index t 2 = 0 := by decide +kernel
theorem index_6 : ∀ t : Fin grid0.N, win0_6.index t 0 = t.val ∧ win0_6.index t 1 = 0 := by decide +kernel

theorem iblk_0 (c : Dev nD) (t : Fin cfg0.N) (p : Fin 256) (j : Fin 1024) :
    iblk m c 0 t (ix2 p j) = m (c.tc.loc main_arg0) (ix2 (tok t p) j) := by
  show V m c main_arg0 (((cfg0.win 0).rect t).emb (ix2 p j)) = _
  rw [V_main_arg0]
  refine congrArg _ (funext fun a => Fin.ext ?_)
  match a with
  | ⟨0, _⟩ => exact (Window.rect_emb_val win0_0 t (ix2 p j) 0).trans (by rw [(index_0 t).1]; show t.val * 256 + p.val = 256 * t.val + p.val; omega)
  | ⟨1, _⟩ => exact Window.rect_emb_val_of_index_zero win0_0 t 1 (index_0 t).2 (ix2 p j)

theorem iblk_1 (c : Dev nD) (t : Fin cfg0.N) (p : Fin 256) (r : Fin 6) (j : Fin 1024) :
    iblk m c 1 t (ix3 0 r j) = m (c.tc.loc main_arg1) (ix3 (⟨(tok t p).val / 4096, by omega⟩ : Fin 8) r j) := by
  show V m c main_arg1 (((cfg0.win 1).rect t).emb (ix3 0 r j)) = _
  rw [V_main_arg1]
  refine congrArg _ (funext fun a => Fin.ext ?_)
  match a with
  | ⟨0, _⟩ => exact (Window.rect_emb_val win0_1 t (ix3 0 r j) 0).trans (by rw [(index_1 t).1]; show t.val / 16 * 1 + 0 = (256 * t.val + p.val) / 4096; omega)
  | ⟨1, _⟩ => exact Window.rect_emb_val_of_index_zero win0_1 t 1 (index_1 t).2.1 (ix3 0 r j)
  | ⟨2, _⟩ => exact Window.rect_emb_val_of_index_zero win0_1 t 2 (index_1 t).2.2 (ix3 0 r j)

/-- The weights, which the host code casts (the identity over the extended reals). -/
theorem iblk_2 (c : Dev nD) (t : Fin cfg0.N) (p : Fin 1024) (j : Fin 5120) :
    iblk m c 2 t (ix2 p j) = m (c.tc.loc main_arg2) (ix2 p j) := by
  show V m c main_v0 (((cfg0.win 2).rect t).emb (ix2 p j)) = _
  entry_read
  refine congrArg (m (c.tc.loc main_arg2)) (funext fun a => Fin.ext ?_)
  match a with
  | ⟨0, _⟩ => exact Window.rect_emb_val_of_index_zero win0_2 t 0 (index_2 t).1 (ix2 p j)
  | ⟨1, _⟩ => exact Window.rect_emb_val_of_index_zero win0_2 t 1 (index_2 t).2 (ix2 p j)

/-- Column `n` of a token's projection, at the arguments. -/
abbrev colAt (c : Dev nD) (s : Fin 20480) (n : Fin 5120) : EReal :=
  Cert.Reference3Ideal.Proj.tokenCol (m (c.tc.loc main_arg0)) (m (c.tc.loc main_arg1)) (m (c.tc.loc main_arg2)) s n

/-- A row of a point's blocks is its token's. -/
theorem blockCol_eq (c : Dev nD) (t : Fin cfg0.N) (p : Fin 256) (n : Fin 5120) :
    blockCol (iblk m c 0 t) (iblk m c 1 t) (iblk m c 2 t) p n = colAt m c (tok t p) n := by
  unfold blockCol colAt Cert.Reference3Ideal.Proj.tokenCol
  simp only [iblk_0, iblk_1 m c t p, iblk_2]

/-! The reference's four results at the arguments. -/

abbrev qVal (c : Dev nD) : Vec Ideal S8x20480x128 .f32 :=
  Cert.Reference3Ideal.Read.val_main_v20 (F := Ideal) (m (c.tc.loc main_arg0)) (m (c.tc.loc main_arg1)) (m (c.tc.loc main_arg2))
abbrev preVal (c : Dev nD) : Vec Ideal S2x8x20480x128 .f32 :=
  Cert.Reference3Ideal.Read.val_main_v27 (F := Ideal) (m (c.tc.loc main_arg0)) (m (c.tc.loc main_arg1)) (m (c.tc.loc main_arg2))
abbrev vVal (c : Dev nD) : Vec Ideal S8x20480x128 .bf16 :=
  Cert.Reference3Ideal.Read.val_main_v30 (F := Ideal) (m (c.tc.loc main_arg0)) (m (c.tc.loc main_arg1)) (m (c.tc.loc main_arg2))
abbrev sgVal (c : Dev nD) : Vec Ideal S20480x1024 .bf16 :=
  Cert.Reference3Ideal.Read.val_main_v32 (F := Ideal) (m (c.tc.loc main_arg0)) (m (c.tc.loc main_arg1)) (m (c.tc.loc main_arg2))

/-- What a point writes back to result 1 is its block of the reference's. -/
theorem flushed_3 (c : Dev nD) (t : Fin cfg0.N) :
    (dats m 0 c).flushed 3 t = ((cfg0.win 3).blk t).view.read (Elt Ideal) (qVal m c) := by
  rw [flushed3]
  funext (y : S8x256x128.Idx)
  obtain ⟨h, p, e, rfl⟩ : ∃ (h : Fin 8) (p : Fin 256) (e : Fin 128), y = ix3 h p e :=
    ⟨y 0, y 1, y 2, by funext a; fin_cases a <;> rfl⟩
  have hemb : ((cfg0.win 3).rect t).emb (ix3 h p e) = ix3 h (tok t p) e := by
    refine funext fun a => Fin.ext ?_
    match a with
    | ⟨0, _⟩ => exact Window.rect_emb_val_of_index_zero win0_3 t 0 (index_3 t).1 (ix3 h p e)
    | ⟨1, _⟩ => exact (Window.rect_emb_val win0_3 t (ix3 h p e) 1).trans (by rw [(index_3 t).2.1]; show t.val * 256 + p.val = 256 * t.val + p.val; omega)
    | ⟨2, _⟩ => exact Window.rect_emb_val_of_index_zero win0_3 t 2 (index_3 t).2.2 (ix3 h p e)
  show out0_3 (F := Ideal) (iblk m c 0 t) (iblk m c 1 t) (iblk m c 2 t) (ix3 h p e) = qVal m c (((cfg0.win 3).rect t).emb (ix3 h p e))
  rw [hemb, out3_apply, blockCol_eq]
  exact (Cert.Reference3Ideal.Proj.q_apply _ _ _ h (tok t p) e).symm

/-- The points' blocks cover result 1. -/
theorem cover_3 (i : S8x20480x128.Idx) : ∃ t : Fin cfg0.N, (cfg0.win 3).flush t = true ∧ i ∈ ((cfg0.win 3).blk t).view.set := by
  have h0 : (i 0 : Nat) < 8 := (i 0).isLt
  have h1 : (i 1 : Nat) < 20480 := (i 1).isLt
  have h2 : (i 2 : Nat) < 128 := (i 2).isLt
  have hN : cfg0.N = 80 := N_0
  have key : ∀ t : Fin cfg0.N, t.val = (i 1 : Nat) / 256 → i ∈ ((cfg0.win 3).blk t).view.set := fun t h => by
    show i ∈ ((View.whole main_v1_0).slice (win0_3.rect t)).set
    rw [View.set_slice_whole, Rect.mem_set_unit]
    intro a
    match a with
    | ⟨0, _⟩ =>
      show win0_3.index t 0 * 8 ≤ (i 0 : Nat) ∧ (i 0 : Nat) < win0_3.index t 0 * 8 + 8
      rw [(index_3 t).1]; omega
    | ⟨1, _⟩ =>
      show win0_3.index t 1 * 256 ≤ (i 1 : Nat) ∧ (i 1 : Nat) < win0_3.index t 1 * 256 + 256
      rw [(index_3 t).2.1]; omega
    | ⟨2, _⟩ =>
      show win0_3.index t 2 * 128 ≤ (i 2 : Nat) ∧ (i 2 : Nat) < win0_3.index t 2 * 128 + 128
      rw [(index_3 t).2.2]; omega
  exact ⟨⟨(i 1 : Nat) / 256, by omega⟩, flush0_3 _, key _ rfl⟩

theorem final_3 (c : Dev nD) : (dats m 0 c).arrAt 3 cfg0.N = qVal m c :=
  (dats m 0 c).arrAt_eq_of_cover 3 (qVal m c) (fun t _ => flushed_3 m c t) cover_3

/-- What a point writes back to result 2 is its block of the reference's. -/
theorem flushed_4 (c : Dev nD) (t : Fin cfg0.N) :
    (dats m 0 c).flushed 4 t = ((cfg0.win 4).blk t).view.read (Elt Ideal) (preVal m c) := by
  rw [flushed4]
  funext (y : S2x8x256x128.Idx)
  obtain ⟨g, h, p, e, rfl⟩ : ∃ (g : Fin 2) (h : Fin 8) (p : Fin 256) (e : Fin 128), y = ix4 g h p e :=
    ⟨y 0, y 1, y 2, y 3, by funext a; fin_cases a <;> rfl⟩
  have hemb : ((cfg0.win 4).rect t).emb (ix4 g h p e) = ix4 g h (tok t p) e := by
    refine funext fun a => Fin.ext ?_
    match a with
    | ⟨0, _⟩ => exact Window.rect_emb_val_of_index_zero win0_4 t 0 (index_4 t).1 (ix4 g h p e)
    | ⟨1, _⟩ => exact Window.rect_emb_val_of_index_zero win0_4 t 1 (index_4 t).2.1 (ix4 g h p e)
    | ⟨2, _⟩ => exact (Window.rect_emb_val win0_4 t (ix4 g h p e) 2).trans (by rw [(index_4 t).2.2.1]; show t.val * 256 + p.val = 256 * t.val + p.val; omega)
    | ⟨3, _⟩ => exact Window.rect_emb_val_of_index_zero win0_4 t 3 (index_4 t).2.2.2 (ix4 g h p e)
  show out0_4 (F := Ideal) (iblk m c 0 t) (iblk m c 1 t) (iblk m c 2 t) (ix4 g h p e) = preVal m c (((cfg0.win 4).rect t).emb (ix4 g h p e))
  rw [hemb, out4_apply, blockCol_eq]
  exact (Cert.Reference3Ideal.Proj.pre_apply _ _ _ g h (tok t p) e).symm

/-- The points' blocks cover result 2. -/
theorem cover_4 (i : S2x8x20480x128.Idx) : ∃ t : Fin cfg0.N, (cfg0.win 4).flush t = true ∧ i ∈ ((cfg0.win 4).blk t).view.set := by
  have h0 : (i 0 : Nat) < 2 := (i 0).isLt
  have h1 : (i 1 : Nat) < 8 := (i 1).isLt
  have h2 : (i 2 : Nat) < 20480 := (i 2).isLt
  have h3 : (i 3 : Nat) < 128 := (i 3).isLt
  have hN : cfg0.N = 80 := N_0
  have key : ∀ t : Fin cfg0.N, t.val = (i 2 : Nat) / 256 → i ∈ ((cfg0.win 4).blk t).view.set := fun t h => by
    show i ∈ ((View.whole main_v1_1).slice (win0_4.rect t)).set
    rw [View.set_slice_whole, Rect.mem_set_unit]
    intro a
    match a with
    | ⟨0, _⟩ =>
      show win0_4.index t 0 * 2 ≤ (i 0 : Nat) ∧ (i 0 : Nat) < win0_4.index t 0 * 2 + 2
      rw [(index_4 t).1]; omega
    | ⟨1, _⟩ =>
      show win0_4.index t 1 * 8 ≤ (i 1 : Nat) ∧ (i 1 : Nat) < win0_4.index t 1 * 8 + 8
      rw [(index_4 t).2.1]; omega
    | ⟨2, _⟩ =>
      show win0_4.index t 2 * 256 ≤ (i 2 : Nat) ∧ (i 2 : Nat) < win0_4.index t 2 * 256 + 256
      rw [(index_4 t).2.2.1]; omega
    | ⟨3, _⟩ =>
      show win0_4.index t 3 * 128 ≤ (i 3 : Nat) ∧ (i 3 : Nat) < win0_4.index t 3 * 128 + 128
      rw [(index_4 t).2.2.2]; omega
  exact ⟨⟨(i 2 : Nat) / 256, by omega⟩, flush0_4 _, key _ rfl⟩

theorem final_4 (c : Dev nD) : (dats m 0 c).arrAt 4 cfg0.N = preVal m c :=
  (dats m 0 c).arrAt_eq_of_cover 4 (preVal m c) (fun t _ => flushed_4 m c t) cover_4

/-- What a point writes back to result 3 is its block of the reference's. -/
theorem flushed_5 (c : Dev nD) (t : Fin cfg0.N) :
    (dats m 0 c).flushed 5 t = ((cfg0.win 5).blk t).view.read (Elt Ideal) (vVal m c) := by
  rw [flushed5]
  funext (y : S8x256x128.Idx)
  obtain ⟨h, p, e, rfl⟩ : ∃ (h : Fin 8) (p : Fin 256) (e : Fin 128), y = ix3 h p e :=
    ⟨y 0, y 1, y 2, by funext a; fin_cases a <;> rfl⟩
  have hemb : ((cfg0.win 5).rect t).emb (ix3 h p e) = ix3 h (tok t p) e := by
    refine funext fun a => Fin.ext ?_
    match a with
    | ⟨0, _⟩ => exact Window.rect_emb_val_of_index_zero win0_5 t 0 (index_5 t).1 (ix3 h p e)
    | ⟨1, _⟩ => exact (Window.rect_emb_val win0_5 t (ix3 h p e) 1).trans (by rw [(index_5 t).2.1]; show t.val * 256 + p.val = 256 * t.val + p.val; omega)
    | ⟨2, _⟩ => exact Window.rect_emb_val_of_index_zero win0_5 t 2 (index_5 t).2.2 (ix3 h p e)
  show out0_5 (F := Ideal) (iblk m c 0 t) (iblk m c 1 t) (iblk m c 2 t) (ix3 h p e) = vVal m c (((cfg0.win 5).rect t).emb (ix3 h p e))
  rw [hemb, out5_apply, blockCol_eq]
  exact (Cert.Reference3Ideal.Proj.v_apply _ _ _ h (tok t p) e).symm

/-- The points' blocks cover result 3. -/
theorem cover_5 (i : S8x20480x128.Idx) : ∃ t : Fin cfg0.N, (cfg0.win 5).flush t = true ∧ i ∈ ((cfg0.win 5).blk t).view.set := by
  have h0 : (i 0 : Nat) < 8 := (i 0).isLt
  have h1 : (i 1 : Nat) < 20480 := (i 1).isLt
  have h2 : (i 2 : Nat) < 128 := (i 2).isLt
  have hN : cfg0.N = 80 := N_0
  have key : ∀ t : Fin cfg0.N, t.val = (i 1 : Nat) / 256 → i ∈ ((cfg0.win 5).blk t).view.set := fun t h => by
    show i ∈ ((View.whole main_v1_2).slice (win0_5.rect t)).set
    rw [View.set_slice_whole, Rect.mem_set_unit]
    intro a
    match a with
    | ⟨0, _⟩ =>
      show win0_5.index t 0 * 8 ≤ (i 0 : Nat) ∧ (i 0 : Nat) < win0_5.index t 0 * 8 + 8
      rw [(index_5 t).1]; omega
    | ⟨1, _⟩ =>
      show win0_5.index t 1 * 256 ≤ (i 1 : Nat) ∧ (i 1 : Nat) < win0_5.index t 1 * 256 + 256
      rw [(index_5 t).2.1]; omega
    | ⟨2, _⟩ =>
      show win0_5.index t 2 * 128 ≤ (i 2 : Nat) ∧ (i 2 : Nat) < win0_5.index t 2 * 128 + 128
      rw [(index_5 t).2.2]; omega
  exact ⟨⟨(i 1 : Nat) / 256, by omega⟩, flush0_5 _, key _ rfl⟩

theorem final_5 (c : Dev nD) : (dats m 0 c).arrAt 5 cfg0.N = vVal m c :=
  (dats m 0 c).arrAt_eq_of_cover 5 (vVal m c) (fun t _ => flushed_5 m c t) cover_5

/-- What a point writes back to result 4 is its block of the reference's. -/
theorem flushed_6 (c : Dev nD) (t : Fin cfg0.N) :
    (dats m 0 c).flushed 6 t = ((cfg0.win 6).blk t).view.read (Elt Ideal) (sgVal m c) := by
  rw [flushed6]
  funext (y : S256x1024.Idx)
  obtain ⟨p, j, rfl⟩ : ∃ (p : Fin 256) (j : Fin 1024), y = ix2 p j :=
    ⟨y 0, y 1, by funext a; fin_cases a <;> rfl⟩
  have hemb : ((cfg0.win 6).rect t).emb (ix2 p j) = ix2 (tok t p) j := by
    refine funext fun a => Fin.ext ?_
    match a with
    | ⟨0, _⟩ => exact (Window.rect_emb_val win0_6 t (ix2 p j) 0).trans (by rw [(index_6 t).1]; show t.val * 256 + p.val = 256 * t.val + p.val; omega)
    | ⟨1, _⟩ => exact Window.rect_emb_val_of_index_zero win0_6 t 1 (index_6 t).2 (ix2 p j)
  show out0_6 (F := Ideal) (iblk m c 0 t) (iblk m c 1 t) (iblk m c 2 t) (ix2 p j) = sgVal m c (((cfg0.win 6).rect t).emb (ix2 p j))
  rw [hemb, out6_apply, blockCol_eq]
  exact (Cert.Reference3Ideal.Proj.sg_apply _ _ _ (tok t p) j).symm

/-- The points' blocks cover result 4. -/
theorem cover_6 (i : S20480x1024.Idx) : ∃ t : Fin cfg0.N, (cfg0.win 6).flush t = true ∧ i ∈ ((cfg0.win 6).blk t).view.set := by
  have h0 : (i 0 : Nat) < 20480 := (i 0).isLt
  have h1 : (i 1 : Nat) < 1024 := (i 1).isLt
  have hN : cfg0.N = 80 := N_0
  have key : ∀ t : Fin cfg0.N, t.val = (i 0 : Nat) / 256 → i ∈ ((cfg0.win 6).blk t).view.set := fun t h => by
    show i ∈ ((View.whole main_v1_3).slice (win0_6.rect t)).set
    rw [View.set_slice_whole, Rect.mem_set_unit]
    intro a
    match a with
    | ⟨0, _⟩ =>
      show win0_6.index t 0 * 256 ≤ (i 0 : Nat) ∧ (i 0 : Nat) < win0_6.index t 0 * 256 + 256
      rw [(index_6 t).1]; omega
    | ⟨1, _⟩ =>
      show win0_6.index t 1 * 1024 ≤ (i 1 : Nat) ∧ (i 1 : Nat) < win0_6.index t 1 * 1024 + 1024
      rw [(index_6 t).2]; omega
  exact ⟨⟨(i 0 : Nat) / 256, by omega⟩, flush0_6 _, key _ rfl⟩

theorem final_6 (c : Dev nD) : (dats m 0 c).arrAt 6 cfg0.N = sgVal m c :=
  (dats m 0 c).arrAt_eq_of_cover 6 (sgVal m c) (fun t _ => flushed_6 m c t) cover_6

end Cert.Kernel3Ideal.Proj

end
-- ==== Proof.ProjATile.lean ====
/- The five blocks one grid point of the first layer's input projection leaves, over the extended reals, read at an index. -/
module

public import proofs.«01_k».proof.Proof.Gen.Kernel5Ideal.Value
public import proofs.«01_k».proof.Proof.Token
public import Idealize.ShloMosaic.Lib.Pipeline.Value

@[expose] public section

set_option maxRecDepth 16384

noncomputable section

namespace Cert.Kernel5Ideal.ProjA

open Cert.Kernel5Ideal Cert.Kernel5Ideal.Gen Cert.Kernel5Ideal.Value
open Idealize.ShloMosaic Idealize.ShloMosaic.TcCoe

/-- One number of a token's projection: its modulated input times a column of the weights. -/
def dot (x sc sh w : Fin 1024 → EReal) : EReal := ∑ k, Cert.Token.hidden x sc sh k * w k

/-- The scale of the keys, `128 ^ (-1/2)` as a single-precision number. -/
def scale : EReal := Ideal.ofBits FTy.f32 0x3DB504F3#32

/-- A row of the tile: of the prompt in the first 8 points, then of a sample with its embedding. -/
def tileRow (i : grid0.Coords) (a b c : Vec Ideal S512x1024 .f32) (p : Fin 512) (k : Fin 1024) : EReal :=
  if (i 0).val < 8 then a (ix2 p k) else b (ix2 p k) + c (ix2 p k)

theorem zero2 : (![0, 0] : Fin 2 → Nat) = fun _ => 0 := by funext a; fin_cases a <;> rfl

theorem select_lt8 {α : Type} (n : ℕ) (hn : n < 40) (A B : α) :
    Scalar.select (Scalar.cmpi .slt (BitVec.ofNat 32 n) 8#32) A B = if n < 8 then A else B := by
  interval_cases n <;> rfl

/-- The modulated tile, at an index. -/
theorem pay5_apply (i : grid0.Coords) (a b c : Vec Ideal S512x1024 .f32) (d e : Vec Ideal S1x1x1024 .f32) (p : Fin 512) (k : Fin 1024) :
    k0_pay5 (F := Ideal) i a b c d e (ix2 p k) = Cert.Token.hidden (tileRow i a b c p) (fun k => d (ix3 0 0 k)) (fun k => e (ix3 0 0 k)) k := by
  unfold k0_pay5
  dsimp only
  rw [select_lt8 _ (i 0).isLt]
  unfold Cert.Token.hidden tileRow
  by_cases h : (i 0).val < 8
  · rw [if_pos h, if_pos h]
    pointwise
  · rw [if_neg h, if_neg h]
    pointwise

theorem pay7_apply (i : grid0.Coords) (a b c : Vec Ideal S512x1024 .f32) (d e : Vec Ideal S1x1x1024 .f32) (w : Vec Ideal S1024x512 .bf16) (p : Fin 512) (n : Fin 512) :
    k0_pay7 (F := Ideal) i a b c d e w (ix2 p n) = dot (tileRow i a b c p) (fun k => d (ix3 0 0 k)) (fun k => e (ix3 0 0 k)) (fun k => w (ix2 k n)) := by
  pointwise [k0_pay7, k0_pay6]
  simp only [pay5_apply]
  rfl

theorem pay8_apply (i : grid0.Coords) (a b c : Vec Ideal S512x1024 .f32) (d e : Vec Ideal S1x1x1024 .f32) (w : Vec Ideal S512x1024 .bf16) (p : Fin 512) (n : Fin 512) :
    k0_pay8 (F := Ideal) i a b c d e w (ix2 n p) = dot (tileRow i a b c p) (fun k => d (ix3 0 0 k)) (fun k => e (ix3 0 0 k)) (fun k => w (ix2 n k)) * scale := by
  pointwise [k0_pay8, k0_pay6]
  simp only [pay5_apply]
  unfold dot scale
  refine congrArg (· * _) (Finset.sum_congr rfl fun k _ => mul_comm _ _)

theorem pay2_apply (i : grid0.Coords) (a b c : Vec Ideal S512x1024 .f32) (d e : Vec Ideal S1x1x1024 .f32) (w : Vec Ideal S1024x2048 .bf16) (p : Fin 512) (n : Fin 1024) :
    k0_pay2 (F := Ideal) (k0_pay6 i a b c d e) w (ix2 p n) = dot (tileRow i a b c p) (fun k => d (ix3 0 0 k)) (fun k => e (ix3 0 0 k)) (fun k => w (ix2 k ⟨n.val, by omega⟩)) := by
  pointwise [k0_pay2, k0_pay1, k0_pay6]
  simp only [pay5_apply]
  rfl

theorem pay3_apply (i : grid0.Coords) (a b c : Vec Ideal S512x1024 .f32) (d e : Vec Ideal S1x1x1024 .f32) (w : Vec Ideal S1024x2048 .bf16) (p : Fin 512) (n : Fin 1024) :
    k0_pay3 (F := Ideal) (k0_pay6 i a b c d e) w (ix2 p n) = Ideal.logistic (dot (tileRow i a b c p) (fun k => d (ix3 0 0 k)) (fun k => e (ix3 0 0 k)) (fun k => w (ix2 k ⟨1024 + n.val, by omega⟩))) := by
  pointwise [k0_pay3, k0_pay1, k0_pay6]
  simp only [pay5_apply]
  rfl

theorem pay4_apply (i : grid0.Coords) (a b c : Vec Ideal S512x1024 .f32) (d e : Vec Ideal S1x1x1024 .f32) (w : Vec Ideal S16x1024 .f32) (v : Vec Ideal S16x1 .f32) (p : Fin 512) (g : Fin 16) :
    k0_pay4 (F := Ideal) (k0_pay5 i a b c d e) w v (ix2 g p) = dot (tileRow i a b c p) (fun k => d (ix3 0 0 k)) (fun k => e (ix3 0 0 k)) (fun k => w (ix2 g k)) + v (ix2 g 0) := by
  pointwise [k0_pay4]
  simp only [pay5_apply]
  unfold dot
  refine congrArg (· + _) (Finset.sum_congr rfl fun k _ => mul_comm _ _)

section
variable (i : grid0.Coords) (x0 x1 x2 : Vec Ideal S512x1024 .f32) (x3 : Vec Ideal S1x6x1024 .f32) (x4 : Vec Ideal S1024x512 .bf16) (x5 : Vec Ideal S512x1024 .bf16) (x6 : Vec Ideal S1024x2048 .bf16) (x7 : Vec Ideal S16x1024 .f32) (x8 : Vec Ideal S16x1 .f32)

/-- The query block, -/
theorem out9_apply (p : Fin 512) (n : Fin 512) :
    out0_9 (F := Ideal) i x0 x1 x2 x3 x4 x5 x6 x7 x8 (ix2 p n) = dot (tileRow i x0 x1 x2 p) (fun k => x3 (ix3 0 1 k)) (fun k => x3 (ix3 0 0 k)) (fun k => x4 (ix2 k n)) := by
  unfold out0_9
  rw [View.canon_unit_zero zero2, pay7_apply]
  unfold dot Cert.Token.hidden tileRow
  pointwise

/-- the block of the transposed keys, -/
theorem out10_apply (p : Fin 512) (n : Fin 512) :
    out0_10 (F := Ideal) i x0 x1 x2 x3 x4 x5 x6 x7 x8 (ix2 n p) = dot (tileRow i x0 x1 x2 p) (fun k => x3 (ix3 0 1 k)) (fun k => x3 (ix3 0 0 k)) (fun k => x5 (ix2 n k)) * scale := by
  unfold out0_10
  rw [View.canon_unit_zero zero2, pay8_apply]
  unfold dot Cert.Token.hidden tileRow
  pointwise

/-- the value block, -/
theorem out11_apply (p : Fin 512) (n : Fin 1024) :
    out0_11 (F := Ideal) i x0 x1 x2 x3 x4 x5 x6 x7 x8 (ix2 p n) = dot (tileRow i x0 x1 x2 p) (fun k => x3 (ix3 0 1 k)) (fun k => x3 (ix3 0 0 k)) (fun k => x6 (ix2 k ⟨n.val, by omega⟩)) := by
  unfold out0_11 k0_pay9
  rw [View.canon_unit_zero zero2, pay2_apply]
  unfold dot Cert.Token.hidden tileRow
  pointwise

/-- the output gate's block, -/
theorem out12_apply (p : Fin 512) (n : Fin 1024) :
    out0_12 (F := Ideal) i x0 x1 x2 x3 x4 x5 x6 x7 x8 (ix2 p n) = Ideal.logistic (dot (tileRow i x0 x1 x2 p) (fun k => x3 (ix3 0 1 k)) (fun k => x3 (ix3 0 0 k)) (fun k => x6 (ix2 k ⟨1024 + n.val, by omega⟩))) := by
  unfold out0_12 k0_pay9
  rw [View.canon_unit_zero zero2, pay3_apply]
  unfold dot Cert.Token.hidden tileRow
  pointwise

/-- and the scan gates' block. -/
theorem out13_apply (p : Fin 512) (g : Fin 16) :
    out0_13 (F := Ideal) i x0 x1 x2 x3 x4 x5 x6 x7 x8 (ix2 g p) = dot (tileRow i x0 x1 x2 p) (fun k => x3 (ix3 0 1 k)) (fun k => x3 (ix3 0 0 k)) (fun k => x7 (ix2 g k)) + x8 (ix2 g 0) := by
  unfold out0_13
  rw [View.canon_unit_zero zero2, pay4_apply]
  unfold dot Cert.Token.hidden tileRow
  pointwise

end

end Cert.Kernel5Ideal.ProjA

end
-- ==== Proof.ProjARef.lean ====
/- The five results of the first layer's input projection as the reference computes them, over the extended reals, at an index. -/
module

public import proofs.«01_k».proof.Proof.Gen.Reference5Ideal.Read
public import proofs.«01_k».proof.Proof.ProjATile

@[expose] public section

noncomputable section

namespace Cert.Reference5Ideal.ProjA

open Cert.Reference5Ideal Cert.Reference5Ideal.Gen Cert.Reference5Ideal.Read
open Idealize.ShloMosaic
open Cert.Kernel5Ideal.ProjA (dot scale)

/-- Token `t`'s input: of the prompt, or of a sample with the embedding of its place. -/
def tokenRow (x0 : Vec Ideal S4096x1024 .f32) (x1 : Vec Ideal S16384x1024 .f32) (x2 : Vec Ideal S4096x1024 .f32) (t : Fin 20480) (k : Fin 1024) : EReal :=
  if h : t.val < 4096 then x0 (ix2 ⟨t.val, h⟩ k) else x1 (ix2 ⟨t.val - 4096, by omega⟩ k) + x2 (ix2 ⟨t.val % 4096, by omega⟩ k)

/-- Column `n` of token `t`'s projection: 4096 tokens for each of the first five rows of the modulation. -/
def tokenCol (x0 : Vec Ideal S4096x1024 .f32) (x1 : Vec Ideal S16384x1024 .f32) (x2 : Vec Ideal S4096x1024 .f32) (x3 : Vec Ideal S8x6x1024 .f32) (x4 : Vec Ideal S1024x3088 .f32) (t : Fin 20480) (n : Fin 3088) : EReal :=
  dot (tokenRow x0 x1 x2 t) (fun k => x3 (ix3 (⟨t.val / 4096, by omega⟩ : Fin 8) 1 k)) (fun k => x3 (ix3 (⟨t.val / 4096, by omega⟩ : Fin 8) 0 k))
    (fun k => x4 (ix2 k n))

theorem sample_apply (x1 : Vec Ideal S16384x1024 .f32) (x2 : Vec Ideal S4096x1024 .f32) (s : Fin 16384) (k : Fin 1024) :
    val_main_v4 (F := Ideal) x1 x2 (ix2 s k) = x1 (ix2 s k) + x2 (ix2 ⟨s.val % 4096, by omega⟩ k) := by
  pointwise [val_main_v4, val_main_v3, val_main_v2, val_main_v1, val_main_v0]

theorem row_apply (x0 : Vec Ideal S4096x1024 .f32) (x1 : Vec Ideal S16384x1024 .f32) (x2 : Vec Ideal S4096x1024 .f32) (t : Fin 20480) (k : Fin 1024) :
    val_main_v5 (F := Ideal) x0 x1 x2 (ix2 t k) = tokenRow x0 x1 x2 t k := by
  unfold val_main_v5 tokenRow
  by_cases h : t.val < 4096
  · rw [dif_pos h]
    exact concatenate_pair_apply_left (t := S20480x1024) (s₁ := S4096x1024) (s₂ := S16384x1024) 0 x0 (val_main_v4 x1 x2) concatenates_S4096x1024_S16384x1024_S20480x1024_d0 (ix2 t k) rfl (ix2 ⟨t.val, h⟩ k)
      (fun b => match b with | ⟨0, _⟩ => rfl | ⟨1, _⟩ => rfl)
  · rw [dif_neg h]
    refine (concatenate_pair_apply_right (t := S20480x1024) (s₁ := S4096x1024) (s₂ := S16384x1024) 0 x0 (val_main_v4 x1 x2) concatenates_S4096x1024_S16384x1024_S20480x1024_d0 (ix2 t k) rfl rfl (ix2 (⟨t.val - 4096, by omega⟩ : Fin 16384) k)
      (fun b hb => match b, hb with | ⟨0, _⟩, hb => absurd rfl hb | ⟨1, _⟩, _ => rfl) (by show t.val - 4096 + 4096 = t.val; omega)).trans ?_
    rw [sample_apply]
    refine congrArg (_ + ·) (congrArg x2 (congrArg (fun r => ix2 r k) (Fin.ext ?_)))
    show (t.val - 4096) % 4096 = t.val % 4096
    omega

theorem hidden_apply (x0 : Vec Ideal S4096x1024 .f32) (x1 : Vec Ideal S16384x1024 .f32) (x2 : Vec Ideal S4096x1024 .f32) (x3 : Vec Ideal S8x6x1024 .f32) (t : Fin 20480) (k : Fin 1024) :
    val_main_v17 (F := Ideal) x0 x1 x2 x3 (ix2 t k)
      = Cert.Token.hidden (tokenRow x0 x1 x2 t) (fun k => x3 (ix3 (⟨t.val / 4096, by omega⟩ : Fin 8) 1 k)) (fun k => x3 (ix3 (⟨t.val / 4096, by omega⟩ : Fin 8) 0 k)) k := by
  pointwise [val_main_v17, val_main_v16, val_main_v15, val_main_v14, val_main_v13, val_main_v12, val_main_v11, val_main_v10, val_main_v9, val_main_v8, val_main_v7, val_main_v6, val_main_cst]
  rw [row_apply]
  rfl

theorem product_apply (x0 : Vec Ideal S4096x1024 .f32) (x1 : Vec Ideal S16384x1024 .f32) (x2 : Vec Ideal S4096x1024 .f32) (x3 : Vec Ideal S8x6x1024 .f32) (x4 : Vec Ideal S1024x3088 .f32) (t : Fin 20480) (n : Fin 3088) :
    val_main_v18 (F := Ideal) x0 x1 x2 x3 x4 (ix2 t n) = tokenCol x0 x1 x2 x3 x4 t n := by
  pointwise [val_main_v18]
  simp only [hidden_apply]
  rfl

/-- The queries. -/
theorem q_apply (x0 : Vec Ideal S4096x1024 .f32) (x1 : Vec Ideal S16384x1024 .f32) (x2 : Vec Ideal S4096x1024 .f32) (x3 : Vec Ideal S8x6x1024 .f32) (x4 : Vec Ideal S1024x3088 .f32) (t : Fin 20480) (j : Fin 512) :
    val_main_v28 (F := Ideal) x0 x1 x2 x3 x4 (ix2 t j) = tokenCol x0 x1 x2 x3 x4 t ⟨j.val, by omega⟩ := by
  pointwise [val_main_v28, val_main_v19]
  simp only [product_apply]

/-- The keys, transposed and scaled. -/
theorem k_apply (x0 : Vec Ideal S4096x1024 .f32) (x1 : Vec Ideal S16384x1024 .f32) (x2 : Vec Ideal S4096x1024 .f32) (x3 : Vec Ideal S8x6x1024 .f32) (x4 : Vec Ideal S1024x3088 .f32) (t : Fin 20480) (j : Fin 512) :
    val_main_v32 (F := Ideal) x0 x1 x2 x3 x4 (ix2 j t) = tokenCol x0 x1 x2 x3 x4 t ⟨512 + j.val, by omega⟩ * scale := by
  pointwise [val_main_v32, val_main_v31, val_main_v30, val_main_v29, val_main_v20, val_main_cst_0]
  simp only [product_apply]
  rfl

/-- The values. -/
theorem v_apply (x0 : Vec Ideal S4096x1024 .f32) (x1 : Vec Ideal S16384x1024 .f32) (x2 : Vec Ideal S4096x1024 .f32) (x3 : Vec Ideal S8x6x1024 .f32) (x4 : Vec Ideal S1024x3088 .f32) (t : Fin 20480) (j : Fin 1024) :
    val_main_v33 (F := Ideal) x0 x1 x2 x3 x4 (ix2 t j) = tokenCol x0 x1 x2 x3 x4 t ⟨1024 + j.val, by omega⟩ := by
  pointwise [val_main_v33, val_main_v21]
  simp only [product_apply]

/-- The output gate. -/
theorem so_apply (x0 : Vec Ideal S4096x1024 .f32) (x1 : Vec Ideal S16384x1024 .f32) (x2 : Vec Ideal S4096x1024 .f32) (x3 : Vec Ideal S8x6x1024 .f32) (x4 : Vec Ideal S1024x3088 .f32) (t : Fin 20480) (j : Fin 1024) :
    val_main_v40 (F := Ideal) x0 x1 x2 x3 x4 (ix2 t j) = Ideal.logistic (tokenCol x0 x1 x2 x3 x4 t ⟨2048 + j.val, by omega⟩) := by
  pointwise [val_main_v40, val_main_v39, val_main_v38, val_main_v37, val_main_v36, val_main_v35, val_main_v34, val_main_v22, val_main_cst_1, val_main_cst_2]
  simp only [product_apply]
  rfl

/-- The scan gates: for each direction the input gates' and the forget gates' heads. -/
theorem gr_apply (x0 : Vec Ideal S4096x1024 .f32) (x1 : Vec Ideal S16384x1024 .f32) (x2 : Vec Ideal S4096x1024 .f32) (x3 : Vec Ideal S8x6x1024 .f32) (x4 : Vec Ideal S1024x3088 .f32) (x5 : Vec Ideal S2x2x4 .f32) (t : Fin 20480) (g : Fin 16) :
    val_main_v42 (F := Ideal) x0 x1 x2 x3 x4 x5 (ix2 g t)
      = tokenCol x0 x1 x2 x3 x4 t ⟨3072 + g.val, by omega⟩ + x5 (ix3 (⟨g.val / 8, by omega⟩ : Fin 2) (⟨g.val / 4 % 2, by omega⟩ : Fin 2) (⟨g.val % 4, by omega⟩ : Fin 4)) := by
  pointwise [val_main_v42, val_main_v41, val_main_v27, val_main_v26, val_main_v25, val_main_v24, val_main_v23]
  simp only [product_apply]

end Cert.Reference5Ideal.ProjA

end
-- ==== Proof.ProjABlocks.lean ====
/- What the blocks of a grid point of the first layer's input projection hold: rows of the prompt, or of the samples and their
   embedding, and the weights' columns. And what a point writes back: its block of the reference's results. -/
module

public import proofs.«01_k».proof.Proof.ProjARef
public import Idealize.ShloMosaic.Lib.Pipeline.Value
public import Idealize.ShloMosaic.Lib.Pointwise

@[expose] public section

set_option maxRecDepth 16384

noncomputable section

namespace Cert.Kernel5Ideal.ProjA

open Cert.Kernel5Ideal Cert.Kernel5Ideal.Gen Cert.Kernel5Ideal.Value
open Idealize.ShloMosaic Idealize.ShloMosaic.TcCoe Idealize.ShloMosaic.Tactic
open Idealize.ShloMosaic.Pipeline (Window Dat)
open Cert.Reference5Ideal.ProjA (tokenRow tokenCol)

variable (m : (ℓ : Loc nD τ sig) → Buf (Elt Ideal) ℓ)

theorem point_lt (t : Fin cfg0.N) : t.val < 40 := lt_of_lt_of_eq t.isLt (show cfg0.N = 40 from N_0)

/-- Row `p` of tile `t`, as a token. -/
def tok (t : Fin cfg0.N) (p : Fin 512) : Fin 20480 := ⟨512 * t.val + p.val, by have := point_lt t; omega⟩

theorem coord_0 : ∀ t : Fin grid0.N, ((grid0.coords t) 0).val = t.val := by decide +kernel
theorem index_0 : ∀ t : Fin grid0.N, win0_0.index t 0 = min t.val 7 ∧ win0_0.index t 1 = 0 := by decide +kernel
theorem index_1 : ∀ t : Fin grid0.N, win0_1.index t 0 = t.val - 8 ∧ win0_1.index t 1 = 0 := by decide +kernel
theorem index_2 : ∀ t : Fin grid0.N, win0_2.index t 0 = (t.val - 8) % 8 ∧ win0_2.index t 1 = 0 := by decide +kernel
theorem index_3 : ∀ t : Fin grid0.N, win0_3.index t 0 = t.val / 8 ∧ win0_3.index t 1 = 0 ∧ win0_3.index t 2 = 0 := by decide +kernel
theorem index_4 : ∀ t : Fin grid0.N, win0_4.index t 0 = 0 ∧ win0_4.index t 1 = 0 := by decide +kernel
theorem index_5 : ∀ t : Fin grid0.N, win0_5.index t 0 = 0 ∧ win0_5.index t 1 = 0 := by decide +kernel
theorem index_6 : ∀ t : Fin grid0.N, win0_6.index t 0 = 0 ∧ win0_6.index t 1 = 0 := by decide +kernel
theorem index_7 : ∀ t : Fin grid0.N, win0_7.index t 0 = 0 ∧ win0_7.index t 1 = 0 := by decide +kernel
theorem index_8 : ∀ t : Fin grid0.N, win0_8.index t 0 = 0 ∧ win0_8.index t 1 = 0 := by decide +kernel
theorem index_9 : ∀ t : Fin grid0.N, win0_9.index t 0 = t.val ∧ win0_9.index t 1 = 0 := by decide +kernel
theorem index_10 : ∀ t : Fin grid0.N, win0_10.index t 0 = 0 ∧ win0_10.index t 1 = t.val := by decide +kernel
theorem index_11 : ∀ t : Fin grid0.N, win0_11.index t 0 = t.val ∧ win0_11.index t 1 = 0 := by decide +kernel
theorem index_12 : ∀ t : Fin grid0.N, win0_12.index t 0 = t.val ∧ win0_12.index t 1 = 0 := by decide +kernel
theorem index_13 : ∀ t : Fin grid0.N, win0_13.index t 0 = 0 ∧ win0_13.index t 1 = t.val := by decide +kernel

/-- In the first 8 points the tile's row is the prompt's, -/
theorem iblk_0 (c : Dev nD) (t : Fin cfg0.N) (ht : t.val < 8) (p : Fin 512) (j : Fin 1024) :
    iblk m c 0 t (ix2 p j) = m (c.tc.loc main_arg0) (ix2 (⟨(tok t p).val, by show 512 * t.val + p.val < 4096; omega⟩ : Fin 4096) j) := by
  show V m c main_arg0 (((cfg0.win 0).rect t).emb (ix2 p j)) = _
  rw [V_main_arg0]
  refine congrArg _ (funext fun a => Fin.ext ?_)
  match a with
  | ⟨0, _⟩ => exact (Window.rect_emb_val win0_0 t (ix2 p j) 0).trans (by rw [(index_0 t).1]; show min t.val 7 * 512 + p.val = 512 * t.val + p.val; omega)
  | ⟨1, _⟩ => exact Window.rect_emb_val_of_index_zero win0_0 t 1 (index_0 t).2 (ix2 p j)

/-- and from then on a sample's, -/
theorem iblk_1 (c : Dev nD) (t : Fin cfg0.N) (ht : ¬ t.val < 8) (p : Fin 512) (j : Fin 1024) :
    iblk m c 1 t (ix2 p j) = m (c.tc.loc main_arg1) (ix2 (⟨(tok t p).val - 4096, by have := (tok t p).isLt; omega⟩ : Fin 16384) j) := by
  show V m c main_arg1 (((cfg0.win 1).rect t).emb (ix2 p j)) = _
  rw [V_main_arg1]
  refine congrArg _ (funext fun a => Fin.ext ?_)
  match a with
  | ⟨0, _⟩ => exact (Window.rect_emb_val win0_1 t (ix2 p j) 0).trans (by rw [(index_1 t).1]; show (t.val - 8) * 512 + p.val = 512 * t.val + p.val - 4096; omega)
  | ⟨1, _⟩ => exact Window.rect_emb_val_of_index_zero win0_1 t 1 (index_1 t).2 (ix2 p j)

/-- with its place's embedding. -/
theorem iblk_2 (c : Dev nD) (t : Fin cfg0.N) (ht : ¬ t.val < 8) (p : Fin 512) (j : Fin 1024) :
    iblk m c 2 t (ix2 p j) = m (c.tc.loc main_arg2) (ix2 (⟨(tok t p).val % 4096, by omega⟩ : Fin 4096) j) := by
  show V m c main_arg2 (((cfg0.win 2).rect t).emb (ix2 p j)) = _
  rw [V_main_arg2]
  refine congrArg _ (funext fun a => Fin.ext ?_)
  match a with
  | ⟨0, _⟩ => exact (Window.rect_emb_val win0_2 t (ix2 p j) 0).trans (by rw [(index_2 t).1]; show (t.val - 8) % 8 * 512 + p.val = (512 * t.val + p.val) % 4096; omega)
  | ⟨1, _⟩ => exact Window.rect_emb_val_of_index_zero win0_2 t 1 (index_2 t).2 (ix2 p j)

theorem iblk_3 (c : Dev nD) (t : Fin cfg0.N) (p : Fin 512) (r : Fin 6) (j : Fin 1024) :
    iblk m c 3 t (ix3 0 r j) = m (c.tc.loc main_arg3) (ix3 (⟨(tok t p).val / 4096, by omega⟩ : Fin 8) r j) := by
  show V m c main_arg3 (((cfg0.win 3).rect t).emb (ix3 0 r j)) = _
  rw [V_main_arg3]
  refine congrArg _ (funext fun a => Fin.ext ?_)
  match a with
  | ⟨0, _⟩ => exact (Window.rect_emb_val win0_3 t (ix3 0 r j) 0).trans (by rw [(index_3 t).1]; show t.val / 8 * 1 + 0 = (512 * t.val + p.val) / 4096; omega)
  | ⟨1, _⟩ => exact Window.rect_emb_val_of_index_zero win0_3 t 1 (index_3 t).2.1 (ix3 0 r j)
  | ⟨2, _⟩ => exact Window.rect_emb_val_of_index_zero win0_3 t 2 (index_3 t).2.2 (ix3 0 r j)

/-! The weights' column blocks, which the host code slices, transposes and casts (a cast is the identity over the extended reals). -/

theorem iblk_4 (c : Dev nD) (t : Fin cfg0.N) (k : Fin 1024) (n : Fin 512) :
    iblk m c 4 t (ix2 k n) = m (c.tc.loc main_arg4) (ix2 k (⟨n.val, by omega⟩ : Fin 3088)) := by
  have hemb : ((cfg0.win 4).rect t).emb (ix2 k n) = ix2 k n := by
    refine funext fun a => Fin.ext ?_
    match a with
    | ⟨0, _⟩ => exact Window.rect_emb_val_of_index_zero win0_4 t 0 (index_4 t).1 (ix2 k n)
    | ⟨1, _⟩ => exact Window.rect_emb_val_of_index_zero win0_4 t 1 (index_4 t).2 (ix2 k n)
  show V m c main_v1 (((cfg0.win 4).rect t).emb (ix2 k n)) = _
  rw [hemb]
  entry_read
  pointwise

theorem iblk_5 (c : Dev nD) (t : Fin cfg0.N) (n : Fin 512) (k : Fin 1024) :
    iblk m c 5 t (ix2 n k) = m (c.tc.loc main_arg4) (ix2 k (⟨512 + n.val, by omega⟩ : Fin 3088)) := by
  have hemb : ((cfg0.win 5).rect t).emb (ix2 n k) = ix2 n k := by
    refine funext fun a => Fin.ext ?_
    match a with
    | ⟨0, _⟩ => exact Window.rect_emb_val_of_index_zero win0_5 t 0 (index_5 t).1 (ix2 n k)
    | ⟨1, _⟩ => exact Window.rect_emb_val_of_index_zero win0_5 t 1 (index_5 t).2 (ix2 n k)
  show V m c main_v4 (((cfg0.win 5).rect t).emb (ix2 n k)) = _
  rw [hemb]
  entry_read
  pointwise

theorem iblk_6 (c : Dev nD) (t : Fin cfg0.N) (k : Fin 1024) (n : Fin 2048) :
    iblk m c 6 t (ix2 k n) = m (c.tc.loc main_arg4) (ix2 k (⟨1024 + n.val, by omega⟩ : Fin 3088)) := by
  have hemb : ((cfg0.win 6).rect t).emb (ix2 k n) = ix2 k n := by
    refine funext fun a => Fin.ext ?_
    match a with
    | ⟨0, _⟩ => exact Window.rect_emb_val_of_index_zero win0_6 t 0 (index_6 t).1 (ix2 k n)
    | ⟨1, _⟩ => exact Window.rect_emb_val_of_index_zero win0_6 t 1 (index_6 t).2 (ix2 k n)
  show V m c main_v6 (((cfg0.win 6).rect t).emb (ix2 k n)) = _
  rw [hemb]
  entry_read
  pointwise

theorem iblk_7 (c : Dev nD) (t : Fin cfg0.N) (g : Fin 16) (k : Fin 1024) :
    iblk m c 7 t (ix2 g k) = m (c.tc.loc main_arg4) (ix2 k (⟨3072 + g.val, by omega⟩ : Fin 3088)) := by
  have hemb : ((cfg0.win 7).rect t).emb (ix2 g k) = ix2 g k := by
    refine funext fun a => Fin.ext ?_
    match a with
    | ⟨0, _⟩ => exact Window.rect_emb_val_of_index_zero win0_7 t 0 (index_7 t).1 (ix2 g k)
    | ⟨1, _⟩ => exact Window.rect_emb_val_of_index_zero win0_7 t 1 (index_7 t).2 (ix2 g k)
  show V m c main_v9 (((cfg0.win 7).rect t).emb (ix2 g k)) = _
  rw [hemb]
  entry_read
  pointwise

theorem iblk_8 (c : Dev nD) (t : Fin cfg0.N) (g : Fin 16) (z : Fin 1) :
    iblk m c 8 t (ix2 g z) = m (c.tc.loc main_arg5) (ix3 (⟨g.val / 8, by omega⟩ : Fin 2) (⟨g.val / 4 % 2, by omega⟩ : Fin 2) (⟨g.val % 4, by omega⟩ : Fin 4)) := by
  have hemb : ((cfg0.win 8).rect t).emb (ix2 g z) = ix2 g z := by
    refine funext fun a => Fin.ext ?_
    match a with
    | ⟨0, _⟩ => exact Window.rect_emb_val_of_index_zero win0_8 t 0 (index_8 t).1 (ix2 g z)
    | ⟨1, _⟩ => exact Window.rect_emb_val_of_index_zero win0_8 t 1 (index_8 t).2 (ix2 g z)
  show V m c main_v10 (((cfg0.win 8).rect t).emb (ix2 g z)) = _
  rw [hemb]
  entry_read
  pointwise

/-- A row of a point's tile is its token's. -/
theorem tileRow_eq (c : Dev nD) (t : Fin cfg0.N) (p : Fin 512) :
    tileRow (grid0.coords t) (iblk m c 0 t) (iblk m c 1 t) (iblk m c 2 t) p
      = tokenRow (m (c.tc.loc main_arg0)) (m (c.tc.loc main_arg1)) (m (c.tc.loc main_arg2)) (tok t p) := by
  funext k
  unfold tileRow tokenRow
  rw [coord_0 t]
  by_cases ht : t.val < 8
  · rw [if_pos ht, dif_pos (show (tok t p).val < 4096 by show 512 * t.val + p.val < 4096; omega)]
    exact iblk_0 m c t ht p k
  · rw [if_neg ht, dif_neg (show ¬ (tok t p).val < 4096 by show ¬ 512 * t.val + p.val < 4096; omega)]
    rw [iblk_1 m c t ht p k, iblk_2 m c t ht p k]

/-- A column of a token's projection, from the blocks that hold it. -/
theorem dot_eq (c : Dev nD) (t : Fin cfg0.N) (p : Fin 512) (n : Fin 3088) (w : Fin 1024 → EReal)
    (hw : ∀ k, w k = m (c.tc.loc main_arg4) (ix2 k n)) :
    dot (tileRow (grid0.coords t) (iblk m c 0 t) (iblk m c 1 t) (iblk m c 2 t) p) (fun k => iblk m c 3 t (ix3 0 1 k)) (fun k => iblk m c 3 t (ix3 0 0 k)) w
      = tokenCol (m (c.tc.loc main_arg0)) (m (c.tc.loc main_arg1)) (m (c.tc.loc main_arg2)) (m (c.tc.loc main_arg3)) (m (c.tc.loc main_arg4)) (tok t p) n := by
  unfold tokenCol
  rw [tileRow_eq]
  simp only [iblk_3 m c t p]
  rw [show w = _ from funext hw]

/-! The reference's five results at the arguments. -/

abbrev qVal (c : Dev nD) : Vec Ideal S20480x512 .bf16 :=
  Cert.Reference5Ideal.Read.val_main_v28 (F := Ideal) (m (c.tc.loc main_arg0)) (m (c.tc.loc main_arg1)) (m (c.tc.loc main_arg2)) (m (c.tc.loc main_arg3)) (m (c.tc.loc main_arg4))
abbrev ktVal (c : Dev nD) : Vec Ideal S512x20480 .bf16 :=
  Cert.Reference5Ideal.Read.val_main_v32 (F := Ideal) (m (c.tc.loc main_arg0)) (m (c.tc.loc main_arg1)) (m (c.tc.loc main_arg2)) (m (c.tc.loc main_arg3)) (m (c.tc.loc main_arg4))
abbrev vVal (c : Dev nD) : Vec Ideal S20480x1024 .bf16 :=
  Cert.Reference5Ideal.Read.val_main_v33 (F := Ideal) (m (c.tc.loc main_arg0)) (m (c.tc.loc main_arg1)) (m (c.tc.loc main_arg2)) (m (c.tc.loc main_arg3)) (m (c.tc.loc main_arg4))
abbrev soVal (c : Dev nD) : Vec Ideal S20480x1024 .bf16 :=
  Cert.Reference5Ideal.Read.val_main_v40 (F := Ideal) (m (c.tc.loc main_arg0)) (m (c.tc.loc main_arg1)) (m (c.tc.loc main_arg2)) (m (c.tc.loc main_arg3)) (m (c.tc.loc main_arg4))
abbrev grVal (c : Dev nD) : Vec Ideal S16x20480 .f32 :=
  Cert.Reference5Ideal.Read.val_main_v42 (F := Ideal) (m (c.tc.loc main_arg0)) (m (c.tc.loc main_arg1)) (m (c.tc.loc main_arg2)) (m (c.tc.loc main_arg3)) (m (c.tc.loc main_arg4)) (m (c.tc.loc main_arg5))

/-- What a point writes back to result 1 is its block of the reference's. -/
theorem flushed_9 (c : Dev nD) (t : Fin cfg0.N) :
    (dats m 0 c).flushed 9 t = ((cfg0.win 9).blk t).view.read (Elt Ideal) (qVal m c) := by
  rw [flushed9]
  funext (y : S512x512.Idx)
  obtain ⟨p, n, rfl⟩ : ∃ (p : Fin 512) (n : Fin 512), y = ix2 p n := ⟨y 0, y 1, by funext a; fin_cases a <;> rfl⟩
  have hemb : ((cfg0.win 9).rect t).emb (ix2 p n) = ix2 (tok t p) n := by
    refine funext fun a => Fin.ext ?_
    match a with
    | ⟨0, _⟩ => exact (Window.rect_emb_val win0_9 t (ix2 p n) 0).trans (by rw [(index_9 t).1]; show t.val * 512 + p.val = 512 * t.val + p.val; omega)
    | ⟨1, _⟩ => exact Window.rect_emb_val_of_index_zero win0_9 t 1 (index_9 t).2 (ix2 p n)
  show out0_9 (F := Ideal) (grid0.coords t) (iblk m c 0 t) (iblk m c 1 t) (iblk m c 2 t) (iblk m c 3 t) (iblk m c 4 t) (iblk m c 5 t) (iblk m c 6 t) (iblk m c 7 t) (iblk m c 8 t) (ix2 p n) = qVal m c (((cfg0.win 9).rect t).emb (ix2 p n))
  rw [hemb, out9_apply, dot_eq m c t p ⟨n.val, by omega⟩ _ (fun k => iblk_4 m c t k n)]
  exact (Cert.Reference5Ideal.ProjA.q_apply _ _ _ _ _ (tok t p) n).symm

/-- The points' blocks cover result 1. -/
theorem cover_9 (i : S20480x512.Idx) : ∃ t : Fin cfg0.N, (cfg0.win 9).flush t = true ∧ i ∈ ((cfg0.win 9).blk t).view.set := by
  have h0 : (i 0 : Nat) < 20480 := (i 0).isLt
  have h1 : (i 1 : Nat) < 512 := (i 1).isLt
  have hN : cfg0.N = 40 := N_0
  have key : ∀ t : Fin cfg0.N, t.val = (i 0 : Nat) / 512 → i ∈ ((cfg0.win 9).blk t).view.set := fun t h => by
    show i ∈ ((View.whole main_v11_0).slice (win0_9.rect t)).set
    rw [View.set_slice_whole, Rect.mem_set_unit]
    intro a
    match a with
    | ⟨0, _⟩ =>
      show win0_9.index t 0 * 512 ≤ (i 0 : Nat) ∧ (i 0 : Nat) < win0_9.index t 0 * 512 + 512
      rw [(index_9 t).1]; omega
    | ⟨1, _⟩ =>
      show win0_9.index t 1 * 512 ≤ (i 1 : Nat) ∧ (i 1 : Nat) < win0_9.index t 1 * 512 + 512
      rw [(index_9 t).2]; omega
  exact ⟨⟨(i 0 : Nat) / 512, by omega⟩, flush0_9 _, key _ rfl⟩

theorem final_9 (c : Dev nD) : (dats m 0 c).arrAt 9 cfg0.N = qVal m c :=
  (dats m 0 c).arrAt_eq_of_cover 9 (qVal m c) (fun t _ => flushed_9 m c t) cover_9

/-- What a point writes back to result 2 is its block of the reference's. -/
theorem flushed_10 (c : Dev nD) (t : Fin cfg0.N) :
    (dats m 0 c).flushed 10 t = ((cfg0.win 10).blk t).view.read (Elt Ideal) (ktVal m c) := by
  rw [flushed10]
  funext (y : S512x512.Idx)
  obtain ⟨n, p, rfl⟩ : ∃ (n : Fin 512) (p : Fin 512), y = ix2 n p := ⟨y 0, y 1, by funext a; fin_cases a <;> rfl⟩
  have hemb : ((cfg0.win 10).rect t).emb (ix2 n p) = ix2 n (tok t p) := by
    refine funext fun a => Fin.ext ?_
    match a with
    | ⟨0, _⟩ => exact Window.rect_emb_val_of_index_zero win0_10 t 0 (index_10 t).1 (ix2 n p)
    | ⟨1, _⟩ => exact (Window.rect_emb_val win0_10 t (ix2 n p) 1).trans (by rw [(index_10 t).2]; show t.val * 512 + p.val = 512 * t.val + p.val; omega)
  show out0_10 (F := Ideal) (grid0.coords t) (iblk m c 0 t) (iblk m c 1 t) (iblk m c 2 t) (iblk m c 3 t) (iblk m c 4 t) (iblk m c 5 t) (iblk m c 6 t) (iblk m c 7 t) (iblk m c 8 t) (ix2 n p) = ktVal m c (((cfg0.win 10).rect t).emb (ix2 n p))
  rw [hemb, out10_apply, dot_eq m c t p ⟨512 + n.val, by omega⟩ _ (fun k => iblk_5 m c t n k)]
  exact (Cert.Reference5Ideal.ProjA.k_apply _ _ _ _ _ (tok t p) n).symm

/-- The points' blocks cover result 2. -/
theorem cover_10 (i : S512x20480.Idx) : ∃ t : Fin cfg0.N, (cfg0.win 10).flush t = true ∧ i ∈ ((cfg0.win 10).blk t).view.set := by
  have h0 : (i 0 : Nat) < 512 := (i 0).isLt
  have h1 : (i 1 : Nat) < 20480 := (i 1).isLt
  have hN : cfg0.N = 40 := N_0
  have key : ∀ t : Fin cfg0.N, t.val = (i 1 : Nat) / 512 → i ∈ ((cfg0.win 10).blk t).view.set := fun t h => by
    show i ∈ ((View.whole main_v11_1).slice (win0_10.rect t)).set
    rw [View.set_slice_whole, Rect.mem_set_unit]
    intro a
    match a with
    | ⟨0, _⟩ =>
      show win0_10.index t 0 * 512 ≤ (i 0 : Nat) ∧ (i 0 : Nat) < win0_10.index t 0 * 512 + 512
      rw [(index_10 t).1]; omega
    | ⟨1, _⟩ =>
      show win0_10.index t 1 * 512 ≤ (i 1 : Nat) ∧ (i 1 : Nat) < win0_10.index t 1 * 512 + 512
      rw [(index_10 t).2]; omega
  exact ⟨⟨(i 1 : Nat) / 512, by omega⟩, flush0_10 _, key _ rfl⟩

theorem final_10 (c : Dev nD) : (dats m 0 c).arrAt 10 cfg0.N = ktVal m c :=
  (dats m 0 c).arrAt_eq_of_cover 10 (ktVal m c) (fun t _ => flushed_10 m c t) cover_10

/-- What a point writes back to result 3 is its block of the reference's. -/
theorem flushed_11 (c : Dev nD) (t : Fin cfg0.N) :
    (dats m 0 c).flushed 11 t = ((cfg0.win 11).blk t).view.read (Elt Ideal) (vVal m c) := by
  rw [flushed11]
  funext (y : S512x1024.Idx)
  obtain ⟨p, n, rfl⟩ : ∃ (p : Fin 512) (n : Fin 1024), y = ix2 p n := ⟨y 0, y 1, by funext a; fin_cases a <;> rfl⟩
  have hemb : ((cfg0.win 11).rect t).emb (ix2 p n) = ix2 (tok t p) n := by
    refine funext fun a => Fin.ext ?_
    match a with
    | ⟨0, _⟩ => exact (Window.rect_emb_val win0_11 t (ix2 p n) 0).trans (by rw [(index_11 t).1]; show t.val * 512 + p.val = 512 * t.val + p.val; omega)
    | ⟨1, _⟩ => exact Window.rect_emb_val_of_index_zero win0_11 t 1 (index_11 t).2 (ix2 p n)
  show out0_11 (F := Ideal) (grid0.coords t) (iblk m c 0 t) (iblk m c 1 t) (iblk m c 2 t) (iblk m c 3 t) (iblk m c 4 t) (iblk m c 5 t) (iblk m c 6 t) (iblk m c 7 t) (iblk m c 8 t) (ix2 p n) = vVal m c (((cfg0.win 11).rect t).emb (ix2 p n))
  rw [hemb, out11_apply, dot_eq m c t p ⟨1024 + n.val, by omega⟩ _ (fun k => iblk_6 m c t k _)]
  exact (Cert.Reference5Ideal.ProjA.v_apply _ _ _ _ _ (tok t p) n).symm

/-- The points' blocks cover result 3. -/
theorem cover_11 (i : S20480x1024.Idx) : ∃ t : Fin cfg0.N, (cfg0.win 11).flush t = true ∧ i ∈ ((cfg0.win 11).blk t).view.set := by
  have h0 : (i 0 : Nat) < 20480 := (i 0).isLt
  have h1 : (i 1 : Nat) < 1024 := (i 1).isLt
  have hN : cfg0.N = 40 := N_0
  have key : ∀ t : Fin cfg0.N, t.val = (i 0 : Nat) / 512 → i ∈ ((cfg0.win 11).blk t).view.set := fun t h => by
    show i ∈ ((View.whole main_v11_2).slice (win0_11.rect t)).set
    rw [View.set_slice_whole, Rect.mem_set_unit]
    intro a
    match a with
    | ⟨0, _⟩ =>
      show win0_11.index t 0 * 512 ≤ (i 0 : Nat) ∧ (i 0 : Nat) < win0_11.index t 0 * 512 + 512
      rw [(index_11 t).1]; omega
    | ⟨1, _⟩ =>
      show win0_11.index t 1 * 1024 ≤ (i 1 : Nat) ∧ (i 1 : Nat) < win0_11.index t 1 * 1024 + 1024
      rw [(index_11 t).2]; omega
  exact ⟨⟨(i 0 : Nat) / 512, by omega⟩, flush0_11 _, key _ rfl⟩

theorem final_11 (c : Dev nD) : (dats m 0 c).arrAt 11 cfg0.N = vVal m c :=
  (dats m 0 c).arrAt_eq_of_cover 11 (vVal m c) (fun t _ => flushed_11 m c t) cover_11

/-- What a point writes back to result 4 is its block of the reference's. -/
theorem flushed_12 (c : Dev nD) (t : Fin cfg0.N) :
    (dats m 0 c).flushed 12 t = ((cfg0.win 12).blk t).view.read (Elt Ideal) (soVal m c) := by
  rw [flushed12]
  funext (y : S512x1024.Idx)
  obtain ⟨p, n, rfl⟩ : ∃ (p : Fin 512) (n : Fin 1024), y = ix2 p n := ⟨y 0, y 1, by funext a; fin_cases a <;> rfl⟩
  have hemb : ((cfg0.win 12).rect t).emb (ix2 p n) = ix2 (tok t p) n := by
    refine funext fun a => Fin.ext ?_
    match a with
    | ⟨0, _⟩ => exact (Window.rect_emb_val win0_12 t (ix2 p n) 0).trans (by rw [(index_12 t).1]; show t.val * 512 + p.val = 512 * t.val + p.val; omega)
    | ⟨1, _⟩ => exact Window.rect_emb_val_of_index_zero win0_12 t 1 (index_12 t).2 (ix2 p n)
  show out0_12 (F := Ideal) (grid0.coords t) (iblk m c 0 t) (iblk m c 1 t) (iblk m c 2 t) (iblk m c 3 t) (iblk m c 4 t) (iblk m c 5 t) (iblk m c 6 t) (iblk m c 7 t) (iblk m c 8 t) (ix2 p n) = soVal m c (((cfg0.win 12).rect t).emb (ix2 p n))
  rw [hemb, out12_apply, dot_eq m c t p ⟨2048 + n.val, by omega⟩ _ (fun k => (iblk_6 m c t k _).trans (congrArg (fun r => m (c.tc.loc main_arg4) (ix2 k r)) (Fin.ext (by show 1024 + (1024 + n.val) = 2048 + n.val; omega))))]
  exact (Cert.Reference5Ideal.ProjA.so_apply _ _ _ _ _ (tok t p) n).symm

/-- The points' blocks cover result 4. -/
theorem cover_12 (i : S20480x1024.Idx) : ∃ t : Fin cfg0.N, (cfg0.win 12).flush t = true ∧ i ∈ ((cfg0.win 12).blk t).view.set := by
  have h0 : (i 0 : Nat) < 20480 := (i 0).isLt
  have h1 : (i 1 : Nat) < 1024 := (i 1).isLt
  have hN : cfg0.N = 40 := N_0
  have key : ∀ t : Fin cfg0.N, t.val = (i 0 : Nat) / 512 → i ∈ ((cfg0.win 12).blk t).view.set := fun t h => by
    show i ∈ ((View.whole main_v11_3).slice (win0_12.rect t)).set
    rw [View.set_slice_whole, Rect.mem_set_unit]
    intro a
    match a with
    | ⟨0, _⟩ =>
      show win0_12.index t 0 * 512 ≤ (i 0 : Nat) ∧ (i 0 : Nat) < win0_12.index t 0 * 512 + 512
      rw [(index_12 t).1]; omega
    | ⟨1, _⟩ =>
      show win0_12.index t 1 * 1024 ≤ (i 1 : Nat) ∧ (i 1 : Nat) < win0_12.index t 1 * 1024 + 1024
      rw [(index_12 t).2]; omega
  exact ⟨⟨(i 0 : Nat) / 512, by omega⟩, flush0_12 _, key _ rfl⟩

theorem final_12 (c : Dev nD) : (dats m 0 c).arrAt 12 cfg0.N = soVal m c :=
  (dats m 0 c).arrAt_eq_of_cover 12 (soVal m c) (fun t _ => flushed_12 m c t) cover_12

/-- What a point writes back to result 5 is its block of the reference's. -/
theorem flushed_13 (c : Dev nD) (t : Fin cfg0.N) :
    (dats m 0 c).flushed 13 t = ((cfg0.win 13).blk t).view.read (Elt Ideal) (grVal m c) := by
  rw [flushed13]
  funext (y : S16x512.Idx)
  obtain ⟨n, p, rfl⟩ : ∃ (n : Fin 16) (p : Fin 512), y = ix2 n p := ⟨y 0, y 1, by funext a; fin_cases a <;> rfl⟩
  have hemb : ((cfg0.win 13).rect t).emb (ix2 n p) = ix2 n (tok t p) := by
    refine funext fun a => Fin.ext ?_
    match a with
    | ⟨0, _⟩ => exact Window.rect_emb_val_of_index_zero win0_13 t 0 (index_13 t).1 (ix2 n p)
    | ⟨1, _⟩ => exact (Window.rect_emb_val win0_13 t (ix2 n p) 1).trans (by rw [(index_13 t).2]; show t.val * 512 + p.val = 512 * t.val + p.val; omega)
  show out0_13 (F := Ideal) (grid0.coords t) (iblk m c 0 t) (iblk m c 1 t) (iblk m c 2 t) (iblk m c 3 t) (iblk m c 4 t) (iblk m c 5 t) (iblk m c 6 t) (iblk m c 7 t) (iblk m c 8 t) (ix2 n p) = grVal m c (((cfg0.win 13).rect t).emb (ix2 n p))
  rw [hemb, out13_apply, dot_eq m c t p ⟨3072 + n.val, by omega⟩ _ (fun k => iblk_7 m c t n k), iblk_8]
  exact (Cert.Reference5Ideal.ProjA.gr_apply _ _ _ _ _ _ (tok t p) n).symm

/-- The points' blocks cover result 5. -/
theorem cover_13 (i : S16x20480.Idx) : ∃ t : Fin cfg0.N, (cfg0.win 13).flush t = true ∧ i ∈ ((cfg0.win 13).blk t).view.set := by
  have h0 : (i 0 : Nat) < 16 := (i 0).isLt
  have h1 : (i 1 : Nat) < 20480 := (i 1).isLt
  have hN : cfg0.N = 40 := N_0
  have key : ∀ t : Fin cfg0.N, t.val = (i 1 : Nat) / 512 → i ∈ ((cfg0.win 13).blk t).view.set := fun t h => by
    show i ∈ ((View.whole main_v11_4).slice (win0_13.rect t)).set
    rw [View.set_slice_whole, Rect.mem_set_unit]
    intro a
    match a with
    | ⟨0, _⟩ =>
      show win0_13.index t 0 * 16 ≤ (i 0 : Nat) ∧ (i 0 : Nat) < win0_13.index t 0 * 16 + 16
      rw [(index_13 t).1]; omega
    | ⟨1, _⟩ =>
      show win0_13.index t 1 * 512 ≤ (i 1 : Nat) ∧ (i 1 : Nat) < win0_13.index t 1 * 512 + 512
      rw [(index_13 t).2]; omega
  exact ⟨⟨(i 1 : Nat) / 512, by omega⟩, flush0_13 _, key _ rfl⟩

theorem final_13 (c : Dev nD) : (dats m 0 c).arrAt 13 cfg0.N = grVal m c :=
  (dats m 0 c).arrAt_eq_of_cover 13 (grVal m c) (fun t _ => flushed_13 m c t) cover_13

end Cert.Kernel5Ideal.ProjA

end
-- ==== Proof.CombRun.lean ====
/- The run of the first layer's combine, with its result array named after the grid's last point. -/
module

public import proofs.«01_k».proof.Proof.Gen.Kernel8Ideal.Frame
public import Idealize.ShloMosaic.Lib.Pipeline.Value

@[expose] public section

noncomputable section

namespace Cert.Kernel8Ideal.Combine

open Cert.Kernel8Ideal Cert.Kernel8Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What a point writes back. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t) (iblk m c 6 t) (iblk m c 7 t) (iblk m c 8 t)) := by
  show (cfg0.win 9).cut (grid0.coords t) ((dats m 0 c).after 9 t) = _
  rw [after0_9]

theorem post9 (r : PUnit × MemSt nD τ sig (Elt F)) (h : Pipeline.FramePost cfgs (dats m) 0 (V m) r) (c : Dev nD) :
    r.2.mem ((c : Thread nD τ).loc main_v5) = (dats m 0 c).arrAt 9 cfg0.N :=
  (h c).1 9

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- The run: the result array, and the arguments unchanged. -/
theorem run_blocks : θ_run defs (onTc (τ := τ) (main (F := F))) ⟨m, fun _ => 0, ρ⟩ fun r => ∀ c : Dev nD,
      r.2.mem ((c : Thread nD τ).loc main_v5) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post9 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.Kernel8Ideal.Combine

end
-- ==== Proof.CombTile.lean ====
/- The tile one grid point of the first layer's combine leaves, over the extended reals: row `p` of it is the token function of
   row `p` of the blocks. The body is the last layer's (Tile.lean, TileValue.lean); here every point has its own result block. -/
module

public import proofs.«01_k».proof.Proof.CombRun
public import proofs.«01_k».proof.Proof.Token
public import Idealize.ShloMosaic.Lib.Pipeline.Value

@[expose] public section

set_option maxRecDepth 16384

noncomputable section

namespace Cert.Kernel8Ideal.Combine

open Cert.Kernel8Ideal Cert.Kernel8Ideal.Gen
open Idealize.ShloMosaic Idealize.ShloMosaic.TcCoe

section
variable {F : FTy → Type} [FloatOps F]

/-- One row of the block's modulation (row 4 scales, row 3 shifts, row 5 gates). -/
def modRow4 (x1 : Vec F S1x6x1024 .f32) : Vec F S1x1x1024 .f32 :=
  View.ld x1 (Rect.unit (s := S1x6x1024) ![0, 4, 0] S1x1x1024.size inb_S1x6x1024_S1x1x1024_0_4_0)
/-- The shift row. -/
def modRow3 (x1 : Vec F S1x6x1024 .f32) : Vec F S1x1x1024 .f32 :=
  View.ld x1 (Rect.unit (s := S1x6x1024) ![0, 3, 0] S1x1x1024.size inb_S1x6x1024_S1x1x1024_0_3_0)
/-- The gate row. -/
def modRow5 (x1 : Vec F S1x6x1024 .f32) : Vec F S1x1x1024 .f32 :=
  View.ld x1 (Rect.unit (s := S1x6x1024) ![0, 5, 0] S1x1x1024.size inb_S1x6x1024_S1x1x1024_0_5_0)
/-- The router weights of choice 0, one per token. -/
def wcol0 (x2 : Vec F S512x8 .f32) : Vec F S512x1 .f32 :=
  View.ld x2 (Rect.unit (s := S512x8) ![0, 0] S512x1.size inb_S512x8_S512x1_0_0)
/-- The packed rows of choice 0, word columns of chunk 0. -/
def words00 (x3 : Vec F S2x8x512x256 .i32) : Vec F S1x1x512x256 .i32 :=
  View.ld x3 (Rect.unit (s := S2x8x512x256) ![0, 0, 0, 0] S1x1x512x256.size inb_S2x8x512x256_S1x1x512x256_0_0_0_0)
/-- The packed rows of choice 0, word columns of chunk 1. -/
def words10 (x3 : Vec F S2x8x512x256 .i32) : Vec F S1x1x512x256 .i32 :=
  View.ld x3 (Rect.unit (s := S2x8x512x256) ![1, 0, 0, 0] S1x1x512x256.size inb_S2x8x512x256_S1x1x512x256_1_0_0_0)
/-- The router weights of choice 1, one per token. -/
def wcol1 (x2 : Vec F S512x8 .f32) : Vec F S512x1 .f32 :=
  View.ld x2 (Rect.unit (s := S512x8) ![0, 1] S512x1.size inb_S512x8_S512x1_0_1)
/-- The packed rows of choice 1, word columns of chunk 0. -/
def words01 (x3 : Vec F S2x8x512x256 .i32) : Vec F S1x1x512x256 .i32 :=
  View.ld x3 (Rect.unit (s := S2x8x512x256) ![0, 1, 0, 0] S1x1x512x256.size inb_S2x8x512x256_S1x1x512x256_0_1_0_0)
/-- The packed rows of choice 1, word columns of chunk 1. -/
def words11 (x3 : Vec F S2x8x512x256 .i32) : Vec F S1x1x512x256 .i32 :=
  View.ld x3 (Rect.unit (s := S2x8x512x256) ![1, 1, 0, 0] S1x1x512x256.size inb_S2x8x512x256_S1x1x512x256_1_1_0_0)
/-- The router weights of choice 2, one per token. -/
def wcol2 (x2 : Vec F S512x8 .f32) : Vec F S512x1 .f32 :=
  View.ld x2 (Rect.unit (s := S512x8) ![0, 2] S512x1.size inb_S512x8_S512x1_0_2)
/-- The packed rows of choice 2, word columns of chunk 0. -/
def words02 (x3 : Vec F S2x8x512x256 .i32) : Vec F S1x1x512x256 .i32 :=
  View.ld x3 (Rect.unit (s := S2x8x512x256) ![0, 2, 0, 0] S1x1x512x256.size inb_S2x8x512x256_S1x1x512x256_0_2_0_0)
/-- The packed rows of choice 2, word columns of chunk 1. -/
def words12 (x3 : Vec F S2x8x512x256 .i32) : Vec F S1x1x512x256 .i32 :=
  View.ld x3 (Rect.unit (s := S2x8x512x256) ![1, 2, 0, 0] S1x1x512x256.size inb_S2x8x512x256_S1x1x512x256_1_2_0_0)
/-- The router weights of choice 3, one per token. -/
def wcol3 (x2 : Vec F S512x8 .f32) : Vec F S512x1 .f32 :=
  View.ld x2 (Rect.unit (s := S512x8) ![0, 3] S512x1.size inb_S512x8_S512x1_0_3)
/-- The packed rows of choice 3, word columns of chunk 0. -/
def words03 (x3 : Vec F S2x8x512x256 .i32) : Vec F S1x1x512x256 .i32 :=
  View.ld x3 (Rect.unit (s := S2x8x512x256) ![0, 3, 0, 0] S1x1x512x256.size inb_S2x8x512x256_S1x1x512x256_0_3_0_0)
/-- The packed rows of choice 3, word columns of chunk 1. -/
def words13 (x3 : Vec F S2x8x512x256 .i32) : Vec F S1x1x512x256 .i32 :=
  View.ld x3 (Rect.unit (s := S2x8x512x256) ![1, 3, 0, 0] S1x1x512x256.size inb_S2x8x512x256_S1x1x512x256_1_3_0_0)
/-- The router weights of choice 4, one per token. -/
def wcol4 (x2 : Vec F S512x8 .f32) : Vec F S512x1 .f32 :=
  View.ld x2 (Rect.unit (s := S512x8) ![0, 4] S512x1.size inb_S512x8_S512x1_0_4)
/-- The packed rows of choice 4, word columns of chunk 0. -/
def words04 (x3 : Vec F S2x8x512x256 .i32) : Vec F S1x1x512x256 .i32 :=
  View.ld x3 (Rect.unit (s := S2x8x512x256) ![0, 4, 0, 0] S1x1x512x256.size inb_S2x8x512x256_S1x1x512x256_0_4_0_0)
/-- The packed rows of choice 4, word columns of chunk 1. -/
def words14 (x3 : Vec F S2x8x512x256 .i32) : Vec F S1x1x512x256 .i32 :=
  View.ld x3 (Rect.unit (s := S2x8x512x256) ![1, 4, 0, 0] S1x1x512x256.size inb_S2x8x512x256_S1x1x512x256_1_4_0_0)
/-- The router weights of choice 5, one per token. -/
def wcol5 (x2 : Vec F S512x8 .f32) : Vec F S512x1 .f32 :=
  View.ld x2 (Rect.unit (s := S512x8) ![0, 5] S512x1.size inb_S512x8_S512x1_0_5)
/-- The packed rows of choice 5, word columns of chunk 0. -/
def words05 (x3 : Vec F S2x8x512x256 .i32) : Vec F S1x1x512x256 .i32 :=
  View.ld x3 (Rect.unit (s := S2x8x512x256) ![0, 5, 0, 0] S1x1x512x256.size inb_S2x8x512x256_S1x1x512x256_0_5_0_0)
/-- The packed rows of choice 5, word columns of chunk 1. -/
def words15 (x3 : Vec F S2x8x512x256 .i32) : Vec F S1x1x512x256 .i32 :=
  View.ld x3 (Rect.unit (s := S2x8x512x256) ![1, 5, 0, 0] S1x1x512x256.size inb_S2x8x512x256_S1x1x512x256_1_5_0_0)
/-- The router weights of choice 6, one per token. -/
def wcol6 (x2 : Vec F S512x8 .f32) : Vec F S512x1 .f32 :=
  View.ld x2 (Rect.unit (s := S512x8) ![0, 6] S512x1.size inb_S512x8_S512x1_0_6)
/-- The packed rows of choice 6, word columns of chunk 0. -/
def words06 (x3 : Vec F S2x8x512x256 .i32) : Vec F S1x1x512x256 .i32 :=
  View.ld x3 (Rect.unit (s := S2x8x512x256) ![0, 6, 0, 0] S1x1x512x256.size inb_S2x8x512x256_S1x1x512x256_0_6_0_0)
/-- The packed rows of choice 6, word columns of chunk 1. -/
def words16 (x3 : Vec F S2x8x512x256 .i32) : Vec F S1x1x512x256 .i32 :=
  View.ld x3 (Rect.unit (s := S2x8x512x256) ![1, 6, 0, 0] S1x1x512x256.size inb_S2x8x512x256_S1x1x512x256_1_6_0_0)
/-- The router weights of choice 7, one per token. -/
def wcol7 (x2 : Vec F S512x8 .f32) : Vec F S512x1 .f32 :=
  View.ld x2 (Rect.unit (s := S512x8) ![0, 7] S512x1.size inb_S512x8_S512x1_0_7)
/-- The packed rows of choice 7, word columns of chunk 0. -/
def words07 (x3 : Vec F S2x8x512x256 .i32) : Vec F S1x1x512x256 .i32 :=
  View.ld x3 (Rect.unit (s := S2x8x512x256) ![0, 7, 0, 0] S1x1x512x256.size inb_S2x8x512x256_S1x1x512x256_0_7_0_0)
/-- The packed rows of choice 7, word columns of chunk 1. -/
def words17 (x3 : Vec F S2x8x512x256 .i32) : Vec F S1x1x512x256 .i32 :=
  View.ld x3 (Rect.unit (s := S2x8x512x256) ![1, 7, 0, 0] S1x1x512x256.size inb_S2x8x512x256_S1x1x512x256_1_7_0_0)

/-- The shared expert's output and the first three routed choices. -/
def mixed2 (x0 : Vec F S512x1024 .f32) (x1 : Vec F S1x6x1024 .f32) (x2 : Vec F S512x8 .f32) (x3 : Vec F S2x8x512x256 .i32) (x4 : Vec F S1024x256 .bf16) (x5 : Vec F S1024x256 .bf16) (x6 : Vec F S256x1024 .bf16) (x7 : Vec F S1x1024 .f32) (x8 : Vec F S1x1024 .f32) : FVec F S512x1024 .f32 :=
  k0_pay4 (k0_pay2 x0 (modRow4 x1) (modRow3 x1) x4 x5 x6) (k0_pay3 (words00 x3) (words10 x3)) (wcol0 x2) (words01 x3) (words11 x3) (wcol1 x2) (words02 x3) (words12 x3) (wcol2 x2)

/-- … and the next three. -/
def mixed5 (x0 : Vec F S512x1024 .f32) (x1 : Vec F S1x6x1024 .f32) (x2 : Vec F S512x8 .f32) (x3 : Vec F S2x8x512x256 .i32) (x4 : Vec F S1024x256 .bf16) (x5 : Vec F S1024x256 .bf16) (x6 : Vec F S256x1024 .bf16) (x7 : Vec F S1x1024 .f32) (x8 : Vec F S1x1024 .f32) : FVec F S512x1024 .f32 :=
  k0_pay6 (mixed2 x0 x1 x2 x3 x4 x5 x6 x7 x8) (k0_pay5 (words03 x3)) (words13 x3) (wcol3 x2) (words04 x3) (words14 x3) (wcol4 x2) (words05 x3) (words15 x3) (wcol5 x2)

/-- The residual sum that is normalised: √2 times the input plus the gated feed-forward. -/
def residual (x0 : Vec F S512x1024 .f32) (x1 : Vec F S1x6x1024 .f32) (x2 : Vec F S512x8 .f32) (x3 : Vec F S2x8x512x256 .i32) (x4 : Vec F S1024x256 .bf16) (x5 : Vec F S1024x256 .bf16) (x6 : Vec F S256x1024 .bf16) (x7 : Vec F S1x1024 .f32) (x8 : Vec F S1x1024 .f32) : FVec F S512x1024 .f32 :=
  k0_pay7 x0 (mixed5 x0 x1 x2 x3 x4 x5 x6 x7 x8) (words06 x3) (words16 x3) (wcol6 x2) (words07 x3) (words17 x3) (wcol7 x2) (modRow5 x1)

/-- The tile a grid point stores. -/
def tile (x0 : Vec F S512x1024 .f32) (x1 : Vec F S1x6x1024 .f32) (x2 : Vec F S512x8 .f32) (x3 : Vec F S2x8x512x256 .i32) (x4 : Vec F S1024x256 .bf16) (x5 : Vec F S1024x256 .bf16) (x6 : Vec F S256x1024 .bf16) (x7 : Vec F S1x1024 .f32) (x8 : Vec F S1x1024 .f32) : FVec F S512x1024 .f32 :=
  k0_pay1 (residual x0 x1 x2 x3 x4 x5 x6 x7 x8) (k0_pay8 x7) (k0_pay9 x8)

end

theorem zero2 : (![0, 0] : Fin 2 → Nat) = fun _ => 0 := by funext a; fin_cases a <;> rfl

/-- The shared expert's block. -/
theorem pay2_apply (v0 : Vec Ideal S512x1024 .f32) (v1 v7 : Vec Ideal S1x1x1024 .f32) (v12 v15 : Vec Ideal S1024x256 .bf16)
    (v22 : Vec Ideal S256x1024 .bf16) (p : Fin 512) (j : Fin 1024) :
    k0_pay2 v0 v1 v7 v12 v15 v22 (ix2 p j)
      = Cert.Token.shared (Cert.Token.hidden (fun k => v0 (ix2 p k)) (fun k => v1 (ix3 0 0 k)) (fun k => v7 (ix3 0 0 k)))
          (fun k e => v12 (ix2 k e)) (fun k e => v15 (ix2 k e)) (fun e k => v22 (ix2 e k)) j := by
  pointwise [k0_pay2]
  rfl

/-- One choice's rows, unpacked. -/
def rowsOf (a b : Vec Ideal S1x1x512x256 .i32) (p : Fin 512) (j : Fin 1024) : EReal :=
  Cert.Token.rowEl (fun q => a (ix4 0 0 p q)) (fun q => b (ix4 0 0 p q)) j

theorem pay3_apply (a b : Vec Ideal S1x1x512x256 .i32) (p : Fin 512) (j : Fin 1024) :
    k0_pay3 (F := Ideal) a b (ix2 p j) = rowsOf a b p j := by
  pointwise [k0_pay3]
  rfl

theorem pay4_apply (v24 v32 : Vec Ideal S512x1024 .f32) (w0 : Vec Ideal S512x1 .f32) (a1 b1 : Vec Ideal S1x1x512x256 .i32)
    (w1 : Vec Ideal S512x1 .f32) (a2 b2 : Vec Ideal S1x1x512x256 .i32) (w2 : Vec Ideal S512x1 .f32) (p : Fin 512) (j : Fin 1024) :
    k0_pay4 (F := Ideal) v24 v32 w0 a1 b1 w1 a2 b2 w2 (ix2 p j)
      = v24 (ix2 p j) + v32 (ix2 p j) * w0 (ix2 p 0) + rowsOf a1 b1 p j * w1 (ix2 p 0) + rowsOf a2 b2 p j * w2 (ix2 p 0) := by
  pointwise [k0_pay4]
  rfl

theorem pay6_apply (v60 : Vec Ideal S512x1024 .f32) (a3 b3 : Vec Ideal S1x1x512x256 .i32) (w3 : Vec Ideal S512x1 .f32)
    (a4 b4 : Vec Ideal S1x1x512x256 .i32) (w4 : Vec Ideal S512x1 .f32) (a5 b5 : Vec Ideal S1x1x512x256 .i32)
    (w5 : Vec Ideal S512x1 .f32) (p : Fin 512) (j : Fin 1024) :
    k0_pay6 (F := Ideal) v60 (k0_pay5 (F := Ideal) a3) b3 w3 a4 b4 w4 a5 b5 w5 (ix2 p j)
      = v60 (ix2 p j) + rowsOf a3 b3 p j * w3 (ix2 p 0) + rowsOf a4 b4 p j * w4 (ix2 p 0) + rowsOf a5 b5 p j * w5 (ix2 p 0) := by
  pointwise [k0_pay6, k0_pay5]
  rfl

theorem pay7_apply (v0 v96 : Vec Ideal S512x1024 .f32) (a6 b6 : Vec Ideal S1x1x512x256 .i32) (w6 : Vec Ideal S512x1 .f32)
    (a7 b7 : Vec Ideal S1x1x512x256 .i32) (w7 : Vec Ideal S512x1 .f32) (v123 : Vec Ideal S1x1x1024 .f32) (p : Fin 512) (j : Fin 1024) :
    k0_pay7 (F := Ideal) v0 v96 a6 b6 w6 a7 b7 w7 v123 (ix2 p j)
      = Ideal.ofBits FTy.f32 0x3FB504F3#32 * v0 (ix2 p j) + v123 (ix3 0 0 j)
          * (v96 (ix2 p j) + rowsOf a6 b6 p j * w6 (ix2 p 0) + rowsOf a7 b7 p j * w7 (ix2 p 0)) := by
  pointwise [k0_pay7]
  rfl

theorem pay1_apply (v : Vec Ideal S512x1024 .f32) (g b : Vec Ideal S1x1024 .f32) (p : Fin 512) (j : Fin 1024) :
    k0_pay1 (F := Ideal) v (k0_pay8 (F := Ideal) g) (k0_pay9 (F := Ideal) b) (ix2 p j)
      = Cert.Token.norm (fun k => v (ix2 p k)) (fun k => g (ix2 0 k)) (fun k => b (ix2 0 k)) j := by
  pointwise [k0_pay1, k0_pay8, k0_pay9]
  rfl

/-- The rows of choice `k` in the block of packed rows. -/
def blockRow (x3 : Vec Ideal S2x8x512x256 .i32) (p : Fin 512) (k : Fin 8) (j : Fin 1024) : EReal :=
  Cert.Token.rowEl (fun q => x3 (ix4 0 k p q)) (fun q => x3 (ix4 1 k p q)) j

theorem rows_0 (x3 : Vec Ideal S2x8x512x256 .i32) (p : Fin 512) (j : Fin 1024) :
    rowsOf (words00 x3) (words10 x3) p j = blockRow x3 p 0 j := by
  unfold rowsOf blockRow words00 words10
  pointwise
theorem wcol_0 (x2 : Vec Ideal S512x8 .f32) (p : Fin 512) : wcol0 x2 (ix2 p 0) = x2 (ix2 p 0) := by
  pointwise [wcol0]
theorem rows_1 (x3 : Vec Ideal S2x8x512x256 .i32) (p : Fin 512) (j : Fin 1024) :
    rowsOf (words01 x3) (words11 x3) p j = blockRow x3 p 1 j := by
  unfold rowsOf blockRow words01 words11
  pointwise
theorem wcol_1 (x2 : Vec Ideal S512x8 .f32) (p : Fin 512) : wcol1 x2 (ix2 p 0) = x2 (ix2 p 1) := by
  pointwise [wcol1]
theorem rows_2 (x3 : Vec Ideal S2x8x512x256 .i32) (p : Fin 512) (j : Fin 1024) :
    rowsOf (words02 x3) (words12 x3) p j = blockRow x3 p 2 j := by
  unfold rowsOf blockRow words02 words12
  pointwise
theorem wcol_2 (x2 : Vec Ideal S512x8 .f32) (p : Fin 512) : wcol2 x2 (ix2 p 0) = x2 (ix2 p 2) := by
  pointwise [wcol2]
theorem rows_3 (x3 : Vec Ideal S2x8x512x256 .i32) (p : Fin 512) (j : Fin 1024) :
    rowsOf (words03 x3) (words13 x3) p j = blockRow x3 p 3 j := by
  unfold rowsOf blockRow words03 words13
  pointwise
theorem wcol_3 (x2 : Vec Ideal S512x8 .f32) (p : Fin 512) : wcol3 x2 (ix2 p 0) = x2 (ix2 p 3) := by
  pointwise [wcol3]
theorem rows_4 (x3 : Vec Ideal S2x8x512x256 .i32) (p : Fin 512) (j : Fin 1024) :
    rowsOf (words04 x3) (words14 x3) p j = blockRow x3 p 4 j := by
  unfold rowsOf blockRow words04 words14
  pointwise
theorem wcol_4 (x2 : Vec Ideal S512x8 .f32) (p : Fin 512) : wcol4 x2 (ix2 p 0) = x2 (ix2 p 4) := by
  pointwise [wcol4]
theorem rows_5 (x3 : Vec Ideal S2x8x512x256 .i32) (p : Fin 512) (j : Fin 1024) :
    rowsOf (words05 x3) (words15 x3) p j = blockRow x3 p 5 j := by
  unfold rowsOf blockRow words05 words15
  pointwise
theorem wcol_5 (x2 : Vec Ideal S512x8 .f32) (p : Fin 512) : wcol5 x2 (ix2 p 0) = x2 (ix2 p 5) := by
  pointwise [wcol5]
theorem rows_6 (x3 : Vec Ideal S2x8x512x256 .i32) (p : Fin 512) (j : Fin 1024) :
    rowsOf (words06 x3) (words16 x3) p j = blockRow x3 p 6 j := by
  unfold rowsOf blockRow words06 words16
  pointwise
theorem wcol_6 (x2 : Vec Ideal S512x8 .f32) (p : Fin 512) : wcol6 x2 (ix2 p 0) = x2 (ix2 p 6) := by
  pointwise [wcol6]
theorem rows_7 (x3 : Vec Ideal S2x8x512x256 .i32) (p : Fin 512) (j : Fin 1024) :
    rowsOf (words07 x3) (words17 x3) p j = blockRow x3 p 7 j := by
  unfold rowsOf blockRow words07 words17
  pointwise
theorem wcol_7 (x2 : Vec Ideal S512x8 .f32) (p : Fin 512) : wcol7 x2 (ix2 p 0) = x2 (ix2 p 7) := by
  pointwise [wcol7]
theorem modRow3_apply (x1 : Vec Ideal S1x6x1024 .f32) (j : Fin 1024) : modRow3 x1 (ix3 0 0 j) = x1 (ix3 0 3 j) := by
  pointwise [modRow3]
theorem modRow4_apply (x1 : Vec Ideal S1x6x1024 .f32) (j : Fin 1024) : modRow4 x1 (ix3 0 0 j) = x1 (ix3 0 4 j) := by
  pointwise [modRow4]
theorem modRow5_apply (x1 : Vec Ideal S1x6x1024 .f32) (j : Fin 1024) : modRow5 x1 (ix3 0 0 j) = x1 (ix3 0 5 j) := by
  pointwise [modRow5]

/-- The order of the nine summands. -/
theorem sum_order (s a0 a1 a2 a3 a4 a5 a6 a7 : EReal) :
    s + a0 + a1 + a2 + a3 + a4 + a5 + a6 + a7 = a0 + a1 + a2 + a3 + a4 + a5 + a6 + a7 + s := by
  ac_rfl

/-- Row `p` of the tile is the token function of row `p` of the blocks. -/
theorem tile_apply (x0 : Vec Ideal S512x1024 .f32) (x1 : Vec Ideal S1x6x1024 .f32) (x2 : Vec Ideal S512x8 .f32)
    (x3 : Vec Ideal S2x8x512x256 .i32) (x4 x5 : Vec Ideal S1024x256 .bf16) (x6 : Vec Ideal S256x1024 .bf16)
    (x7 x8 : Vec Ideal S1x1024 .f32) (p : Fin 512) (j : Fin 1024) :
    tile (F := Ideal) x0 x1 x2 x3 x4 x5 x6 x7 x8 (ix2 p j)
      = Cert.Token.out (fun k => x0 (ix2 p k)) (fun k => x1 (ix3 0 4 k)) (fun k => x1 (ix3 0 3 k)) (fun k => x1 (ix3 0 5 k))
          (fun k => x2 (ix2 p k)) (blockRow x3 p) (fun k e => x4 (ix2 k e)) (fun k e => x5 (ix2 k e)) (fun e k => x6 (ix2 e k))
          (fun k => x7 (ix2 0 k)) (fun k => x8 (ix2 0 k)) j := by
  unfold tile
  rw [pay1_apply]
  unfold Cert.Token.out
  refine congrArg (fun v => Cert.Token.norm v _ _ j) (funext fun q => ?_)
  unfold residual mixed5 mixed2
  rw [pay7_apply, pay6_apply, pay4_apply, pay3_apply, pay2_apply]
  rw [rows_0, rows_1, rows_2, rows_3, rows_4, rows_5, rows_6, rows_7, wcol_0, wcol_1, wcol_2, wcol_3, wcol_4, wcol_5, wcol_6,
    wcol_7, modRow5_apply]
  simp only [modRow3_apply, modRow4_apply]
  unfold Cert.Token.resid Cert.Token.routed
  rw [Fin.sum_univ_eight]
  refine congrArg₂ (· + ·) rfl (congrArg₂ (· * ·) rfl ?_)
  exact sum_order ..

/-- What the body leaves is the tile. -/
theorem out9_eq (x0 : Vec Ideal S512x1024 .f32) (x1 : Vec Ideal S1x6x1024 .f32) (x2 : Vec Ideal S512x8 .f32) (x3 : Vec Ideal S2x8x512x256 .i32) (x4 x5 : Vec Ideal S1024x256 .bf16) (x6 : Vec Ideal S256x1024 .bf16) (x7 x8 : Vec Ideal S1x1024 .f32) :
    out0_9 (F := Ideal) x0 x1 x2 x3 x4 x5 x6 x7 x8 = tile x0 x1 x2 x3 x4 x5 x6 x7 x8 := by
  unfold out0_9
  have h0 : View.ld x0 r0_0 = x0 := View.ld_unit_zero zero2 _ x0
  have h4 : View.ld x4 r0_3 = x4 := View.ld_unit_zero zero2 _ x4
  have h5 : View.ld x5 r0_3 = x5 := View.ld_unit_zero zero2 _ x5
  have h6 : View.ld x6 r0_4 = x6 := View.ld_unit_zero zero2 _ x6
  have h7 : View.ld x7 r0_30 = x7 := View.ld_unit_zero zero2 _ x7
  have h8 : View.ld x8 r0_30 = x8 := View.ld_unit_zero zero2 _ x8
  rw [View.canon_unit_zero zero2, h0, h4, h5, h6, h7, h8]
  rfl

end Cert.Kernel8Ideal.Combine

end
-- ==== Proof.CombRef.lean ====
/- The result of the first layer's combine as the reference computes it, over the extended reals, at an index: the token function
   of the token's rows. -/
module

public import proofs.«01_k».proof.Proof.Gen.Reference8Ideal.Read
public import proofs.«01_k».proof.Proof.Token
public import Idealize.ShloMosaic.Lib.BitcastConvert

@[expose] public section

noncomputable section

namespace Cert.Reference8Ideal.Combine

open Cert.Reference8Ideal Cert.Reference8Ideal.Gen Cert.Reference8Ideal.Read
open Idealize.ShloMosaic

/-- The row that expert choice `k` of token `t` returned. -/
def rowOf (x3 : Vec Ideal S2x8x20480x256 .i32) (t : Fin 20480) (k : Fin 8) (j : Fin 1024) : EReal :=
  Cert.Token.rowEl (fun q => x3 (ix4 0 k t q)) (fun q => x3 (ix4 1 k t q)) j

theorem drop_apply (c : Fin 2) (k : Fin 8) (t : Fin 20480) (q : Fin 256) (h : Fin 2) :
    splits_S2x8x20480x256_w32_S2x8x20480x256x2_w16.drop (ix5 c k t q h) = ix4 c k t q := by
  funext a
  fin_cases a <;> rfl

theorem v1_apply (x3 : Vec Ideal S2x8x20480x256 .i32) (c : Fin 2) (k : Fin 8) (t : Fin 20480) (q : Fin 256) (h : Fin 2) :
    val_main_v1 (F := Ideal) x3 (ix5 c k t q h) = Ideal.ofBits FTy.bf16 (BitVec.extractLsb' (h.val * 16) 16 (x3 (ix4 c k t q))) := by
  pointwise [val_main_v1, val_main_v0]
  rw [drop_apply]

/-- The rows, unpacked and laid side by side. -/
theorem v10_apply (x3 : Vec Ideal S2x8x20480x256 .i32) (k : Fin 8) (t : Fin 20480) (j : Fin 1024) :
    val_main_v10 (F := Ideal) x3 (ix3 k t j) = rowOf x3 t k j := by
  pointwise [val_main_v10, val_main_v9, val_main_v8, val_main_v7, val_main_v6, val_main_v5, val_main_v4, val_main_v3, val_main_v2]
  simp only [v1_apply]
  unfold rowOf Cert.Token.rowEl
  have hj := j.isLt
  by_cases h1 : j.val < 256
  · rw [dif_pos h1, dif_pos (by omega), dif_pos h1]; rfl
  by_cases h2 : j.val < 512
  · rw [dif_neg h1, dif_pos (by omega), dif_pos h2, dif_neg h1]; rfl
  by_cases h3 : j.val < 768
  · rw [dif_neg h1, dif_neg (by omega), dif_pos (by omega), dif_neg h2, dif_pos (by omega)]
    have e : j.val - 256 - 256 = j.val - 512 := by omega
    simp only [e]; rfl
  · rw [dif_neg h1, dif_neg (by omega), dif_neg (by omega), dif_neg h2, dif_neg (by omega)]
    have e : j.val - 256 - 256 - 256 = j.val - 512 - 256 := by omega
    simp only [e]; rfl

theorem hidden_apply (x0 : Vec Ideal S20480x1024 .f32) (x1 : Vec Ideal S8x6x1024 .f32) (t : Fin 20480) (j : Fin 1024) :
    val_main_v27 (F := Ideal) x0 x1 (ix2 t j) = Cert.Token.hidden (fun k => x0 (ix2 t k)) (fun k => x1 (ix3 (⟨t.val / 4096, by omega⟩ : Fin 8) 4 k)) (fun k => x1 (ix3 (⟨t.val / 4096, by omega⟩ : Fin 8) 3 k)) j := by
  pointwise [val_main_v27, val_main_v26, val_main_v25, val_main_v24, val_main_cst, val_main_v19, val_main_v18, val_main_v17, val_main_v16, val_main_v15, val_main_v14, val_main_v13, val_main_v12, val_main_v11]
  rfl

theorem gate_apply (x1 : Vec Ideal S8x6x1024 .f32) (t : Fin 20480) (j : Fin 1024) :
    val_main_v23 (F := Ideal) x1 (ix2 t j) = x1 (ix3 (⟨t.val / 4096, by omega⟩ : Fin 8) 5 j) := by
  pointwise [val_main_v23, val_main_v22, val_main_v21, val_main_v20, val_main_v11]

theorem shared_apply (x0 : Vec Ideal S20480x1024 .f32) (x1 : Vec Ideal S8x6x1024 .f32) (x4 x5 : Vec Ideal S1024x256 .f32) (x6 : Vec Ideal S256x1024 .f32) (t : Fin 20480) (j : Fin 1024) :
    val_main_v37 (F := Ideal) x0 x1 x4 x5 x6 (ix2 t j)
      = Cert.Token.shared (Cert.Token.hidden (fun k => x0 (ix2 t k)) (fun k => x1 (ix3 (⟨t.val / 4096, by omega⟩ : Fin 8) 4 k)) (fun k => x1 (ix3 (⟨t.val / 4096, by omega⟩ : Fin 8) 3 k))) (fun k e => x4 (ix2 k e)) (fun k e => x5 (ix2 k e)) (fun e k => x6 (ix2 e k)) j := by
  pointwise [val_main_v37, val_main_v36, val_main_v35, val_main_v34, val_main_v33, val_main_call0_v5, val_main_call0_v4, val_main_call0_v3, val_main_call0_v2, val_main_call0_v1, val_main_call0_v0, val_main_call0_cst, val_main_call0_cst_0]
  simp only [hidden_apply]
  rfl

theorem routed_apply (x2 : Vec Ideal S20480x8 .f32) (x3 : Vec Ideal S2x8x20480x256 .i32) (t : Fin 20480) (j : Fin 1024) :
    val_main_v32 (F := Ideal) x2 x3 (ix2 t j) = Cert.Token.routed (fun k => x2 (ix2 t k)) (rowOf x3 t) j := by
  pointwise [val_main_v32, val_main_v31, val_main_v30, val_main_v29, val_main_v28, val_main_cst_0]
  simp only [v10_apply]
  rfl

theorem resid_apply (x0 : Vec Ideal S20480x1024 .f32) (x1 : Vec Ideal S8x6x1024 .f32) (x2 : Vec Ideal S20480x8 .f32) (x3 : Vec Ideal S2x8x20480x256 .i32) (x4 x5 : Vec Ideal S1024x256 .f32) (x6 : Vec Ideal S256x1024 .f32) (t : Fin 20480) (j : Fin 1024) :
    val_main_v42 (F := Ideal) x0 x1 x2 x3 x4 x5 x6 (ix2 t j)
      = Cert.Token.resid (fun k => x0 (ix2 t k)) (fun k => x1 (ix3 (⟨t.val / 4096, by omega⟩ : Fin 8) 4 k)) (fun k => x1 (ix3 (⟨t.val / 4096, by omega⟩ : Fin 8) 3 k)) (fun k => x1 (ix3 (⟨t.val / 4096, by omega⟩ : Fin 8) 5 k)) (fun k => x2 (ix2 t k)) (rowOf x3 t) (fun k e => x4 (ix2 k e)) (fun k e => x5 (ix2 k e)) (fun e k => x6 (ix2 e k)) j := by
  pointwise [val_main_v42, val_main_v41, val_main_v40, val_main_v39, val_main_v38, val_main_cst_1]
  simp only [gate_apply, routed_apply, shared_apply]
  rfl

theorem out_apply (x0 : Vec Ideal S20480x1024 .f32) (x1 : Vec Ideal S8x6x1024 .f32) (x2 : Vec Ideal S20480x8 .f32) (x3 : Vec Ideal S2x8x20480x256 .i32) (x4 x5 : Vec Ideal S1024x256 .f32) (x6 : Vec Ideal S256x1024 .f32) (x7 x8 : Vec Ideal S1024 .f32) (t : Fin 20480) (j : Fin 1024) :
    val_main_v66 (F := Ideal) x0 x1 x2 x3 x4 x5 x6 x7 x8 (ix2 t j)
      = Cert.Token.out (fun k => x0 (ix2 t k)) (fun k => x1 (ix3 (⟨t.val / 4096, by omega⟩ : Fin 8) 4 k)) (fun k => x1 (ix3 (⟨t.val / 4096, by omega⟩ : Fin 8) 3 k)) (fun k => x1 (ix3 (⟨t.val / 4096, by omega⟩ : Fin 8) 5 k)) (fun k => x2 (ix2 t k)) (rowOf x3 t) (fun k e => x4 (ix2 k e)) (fun k e => x5 (ix2 k e)) (fun e k => x6 (ix2 e k)) (fun k => x7 (ix1 k)) (fun k => x8 (ix1 k)) j := by
  pointwise [val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_cst_2, val_main_cst_3, val_main_cst_4, val_main_cst_5, val_main_cst_6]
  simp only [resid_apply]
  rfl

end Cert.Reference8Ideal.Combine

end
-- ==== Proof.CombBlocks.lean ====
/- What the blocks of a grid point of the first layer's combine hold: rows of the arguments. And what a point writes back: its
   block of the reference's result. -/
module

public import proofs.«01_k».proof.Proof.CombTile
public import proofs.«01_k».proof.Proof.CombRef
public import Idealize.ShloMosaic.Lib.Pointwise

@[expose] public section

set_option maxRecDepth 16384

noncomputable section

namespace Cert.Kernel8Ideal.Combine

open Cert.Kernel8Ideal Cert.Kernel8Ideal.Gen
open Idealize.ShloMosaic Idealize.ShloMosaic.TcCoe Idealize.ShloMosaic.Tactic
open Idealize.ShloMosaic.Pipeline (Window Dat)

section
variable {F : FTy → Type} [FloatOps F]
variable (m : (ℓ : Loc nD τ sig) → Buf (Elt F) ℓ)

theorem point_lt (t : Fin cfg0.N) : t.val < 40 := lt_of_lt_of_eq t.isLt (show cfg0.N = 40 from N_0)

/-- Row `p` of tile `t`, as a token. -/
def tok (t : Fin cfg0.N) (p : Fin 512) : Fin 20480 := ⟨512 * t.val + p.val, by have := point_lt t; omega⟩
/-- The modulation row of tile `t`: 0 for the prompt's tiles, one for each of the four samples' eight tiles. -/
def condRow (t : Fin cfg0.N) : Fin 8 := ⟨if t.val < 8 then 0 else 1 + (t.val - 8) / 8, by have := point_lt t; split <;> omega⟩

theorem index_0 : ∀ t : Fin grid0.N, win0_0.index t 0 = t.val ∧ win0_0.index t 1 = 0 := by decide +kernel
theorem index_1 : ∀ t : Fin grid0.N, win0_1.index t 0 = (if t.val < 8 then 0 else 1 + (t.val - 8) / 8) ∧ win0_1.index t 1 = 0 ∧ win0_1.index t 2 = 0 := by
  decide +kernel
theorem index_2 : ∀ t : Fin grid0.N, win0_2.index t 0 = t.val ∧ win0_2.index t 1 = 0 := by decide +kernel
theorem index_3 : ∀ t : Fin grid0.N, win0_3.index t 0 = 0 ∧ win0_3.index t 1 = 0 ∧ win0_3.index t 2 = t.val ∧ win0_3.index t 3 = 0 := by decide +kernel
theorem index_4 : ∀ t : Fin grid0.N, win0_4.index t 0 = 0 ∧ win0_4.index t 1 = 0 := by decide +kernel
theorem index_5 : ∀ t : Fin grid0.N, win0_5.index t 0 = 0 ∧ win0_5.index t 1 = 0 := by decide +kernel
theorem index_6 : ∀ t : Fin grid0.N, win0_6.index t 0 = 0 ∧ win0_6.index t 1 = 0 := by decide +kernel
theorem index_7 : ∀ t : Fin grid0.N, win0_7.index t 0 = 0 ∧ win0_7.index t 1 = 0 := by decide +kernel
theorem index_8 : ∀ t : Fin grid0.N, win0_8.index t 0 = 0 ∧ win0_8.index t 1 = 0 := by decide +kernel
theorem index_9 : ∀ t : Fin grid0.N, win0_9.index t 0 = t.val ∧ win0_9.index t 1 = 0 := by decide +kernel

theorem iblk_0 (c : Dev nD) (t : Fin cfg0.N) (p : Fin 512) (j : Fin 1024) :
    iblk m c 0 t (ix2 p j) = m (c.tc.loc main_arg0) (ix2 (tok t p) j) := by
  show V m c main_arg0 (((cfg0.win 0).rect t).emb (ix2 p j)) = _
  rw [V_main_arg0]
  refine congrArg _ (funext fun a => Fin.ext ?_)
  match a with
  | ⟨0, _⟩ => exact (Window.rect_emb_val win0_0 t (ix2 p j) 0).trans (by rw [(index_0 t).1]; show t.val * 512 + p.val = 512 * t.val + p.val; omega)
  | ⟨1, _⟩ => exact Window.rect_emb_val_of_index_zero win0_0 t 1 (index_0 t).2 (ix2 p j)

theorem iblk_1 (c : Dev nD) (t : Fin cfg0.N) (r : Fin 6) (j : Fin 1024) :
    iblk m c 1 t (ix3 0 r j) = m (c.tc.loc main_arg1) (ix3 (condRow t) r j) := by
  show V m c main_arg1 (((cfg0.win 1).rect t).emb (ix3 0 r j)) = _
  rw [V_main_arg1]
  refine congrArg _ (funext fun a => Fin.ext ?_)
  match a with
  | ⟨0, _⟩ => exact (Window.rect_emb_val win0_1 t (ix3 0 r j) 0).trans (by rw [(index_1 t).1]; show (if t.val < 8 then 0 else 1 + (t.val - 8) / 8) * 1 + 0 = if t.val < 8 then 0 else 1 + (t.val - 8) / 8; omega)
  | ⟨1, _⟩ => exact Window.rect_emb_val_of_index_zero win0_1 t 1 (index_1 t).2.1 (ix3 0 r j)
  | ⟨2, _⟩ => exact Window.rect_emb_val_of_index_zero win0_1 t 2 (index_1 t).2.2 (ix3 0 r j)

theorem iblk_2 (c : Dev nD) (t : Fin cfg0.N) (p : Fin 512) (k : Fin 8) :
    iblk m c 2 t (ix2 p k) = m (c.tc.loc main_arg2) (ix2 (tok t p) k) := by
  show V m c main_arg2 (((cfg0.win 2).rect t).emb (ix2 p k)) = _
  rw [V_main_arg2]
  refine congrArg _ (funext fun a => Fin.ext ?_)
  match a with
  | ⟨0, _⟩ => exact (Window.rect_emb_val win0_2 t (ix2 p k) 0).trans (by rw [(index_2 t).1]; show t.val * 512 + p.val = 512 * t.val + p.val; omega)
  | ⟨1, _⟩ => exact Window.rect_emb_val_of_index_zero win0_2 t 1 (index_2 t).2 (ix2 p k)

theorem iblk_3 (c : Dev nD) (t : Fin cfg0.N) (h : Fin 2) (k : Fin 8) (p : Fin 512) (q : Fin 256) :
    iblk m c 3 t (ix4 h k p q) = m (c.tc.loc main_arg3) (ix4 h k (tok t p) q) := by
  show V m c main_arg3 (((cfg0.win 3).rect t).emb (ix4 h k p q)) = _
  rw [V_main_arg3]
  refine congrArg _ (funext fun a => Fin.ext ?_)
  match a with
  | ⟨0, _⟩ => exact Window.rect_emb_val_of_index_zero win0_3 t 0 (index_3 t).1 (ix4 h k p q)
  | ⟨1, _⟩ => exact Window.rect_emb_val_of_index_zero win0_3 t 1 (index_3 t).2.1 (ix4 h k p q)
  | ⟨2, _⟩ => exact (Window.rect_emb_val win0_3 t (ix4 h k p q) 2).trans (by rw [(index_3 t).2.2.1]; show t.val * 512 + p.val = 512 * t.val + p.val; omega)
  | ⟨3, _⟩ => exact Window.rect_emb_val_of_index_zero win0_3 t 3 (index_3 t).2.2.2 (ix4 h k p q)

/-! The weights, which the host code casts (the identity over the extended reals), and the two rows it reshapes. -/

variable (mI : (ℓ : Loc nD τ sig) → Buf (Elt Ideal) ℓ)

theorem iblk_4 (c : Dev nD) (t : Fin cfg0.N) (p : Fin 1024) (j : Fin 256) :
    iblk mI c 4 t (ix2 p j) = mI (c.tc.loc main_arg4) (ix2 p j) := by
  show V mI c main_v0 (((cfg0.win 4).rect t).emb (ix2 p j)) = _
  entry_read
  refine congrArg (mI (c.tc.loc main_arg4)) (funext fun a => Fin.ext ?_)
  match a with
  | ⟨0, _⟩ => exact Window.rect_emb_val_of_index_zero win0_4 t 0 (index_4 t).1 (ix2 p j)
  | ⟨1, _⟩ => exact Window.rect_emb_val_of_index_zero win0_4 t 1 (index_4 t).2 (ix2 p j)

theorem iblk_5 (c : Dev nD) (t : Fin cfg0.N) (p : Fin 1024) (j : Fin 256) :
    iblk mI c 5 t (ix2 p j) = mI (c.tc.loc main_arg5) (ix2 p j) := by
  show V mI c main_v1 (((cfg0.win 5).rect t).emb (ix2 p j)) = _
  entry_read
  refine congrArg (mI (c.tc.loc main_arg5)) (funext fun a => Fin.ext ?_)
  match a with
  | ⟨0, _⟩ => exact Window.rect_emb_val_of_index_zero win0_5 t 0 (index_5 t).1 (ix2 p j)
  | ⟨1, _⟩ => exact Window.rect_emb_val_of_index_zero win0_5 t 1 (index_5 t).2 (ix2 p j)

theorem iblk_6 (c : Dev nD) (t : Fin cfg0.N) (p : Fin 256) (j : Fin 1024) :
    iblk mI c 6 t (ix2 p j) = mI (c.tc.loc main_arg6) (ix2 p j) := by
  show V mI c main_v2 (((cfg0.win 6).rect t).emb (ix2 p j)) = _
  entry_read
  refine congrArg (mI (c.tc.loc main_arg6)) (funext fun a => Fin.ext ?_)
  match a with
  | ⟨0, _⟩ => exact Window.rect_emb_val_of_index_zero win0_6 t 0 (index_6 t).1 (ix2 p j)
  | ⟨1, _⟩ => exact Window.rect_emb_val_of_index_zero win0_6 t 1 (index_6 t).2 (ix2 p j)

theorem iblk_7 (c : Dev nD) (t : Fin cfg0.N) (j : Fin 1024) :
    iblk m c 7 t (ix2 0 j) = m (c.tc.loc main_arg7) (ix1 j) := by
  have e : ((cfg0.win 7).rect t).emb (ix2 0 j) = ix2 0 j := by
    refine funext fun a => Fin.ext ?_
    match a with
    | ⟨0, _⟩ => exact Window.rect_emb_val_of_index_zero win0_7 t 0 (index_7 t).1 (ix2 0 j)
    | ⟨1, _⟩ => exact Window.rect_emb_val_of_index_zero win0_7 t 1 (index_7 t).2 (ix2 0 j)
  show V m c main_v3 (((cfg0.win 7).rect t).emb (ix2 0 j)) = _
  rw [e]
  entry_read
  pointwise

theorem iblk_8 (c : Dev nD) (t : Fin cfg0.N) (j : Fin 1024) :
    iblk m c 8 t (ix2 0 j) = m (c.tc.loc main_arg8) (ix1 j) := by
  have e : ((cfg0.win 8).rect t).emb (ix2 0 j) = ix2 0 j := by
    refine funext fun a => Fin.ext ?_
    match a with
    | ⟨0, _⟩ => exact Window.rect_emb_val_of_index_zero win0_8 t 0 (index_8 t).1 (ix2 0 j)
    | ⟨1, _⟩ => exact Window.rect_emb_val_of_index_zero win0_8 t 1 (index_8 t).2 (ix2 0 j)
  show V m c main_v4 (((cfg0.win 8).rect t).emb (ix2 0 j)) = _
  rw [e]
  entry_read
  pointwise

end

variable (m : (ℓ : Loc nD τ sig) → Buf (Elt Ideal) ℓ)

/-- The reference's result at the arguments. -/
abbrev outVal (c : Dev nD) : Vec Ideal S20480x1024 .f32 :=
  Cert.Reference8Ideal.Read.val_main_v66 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8))

/-- The modulation row of a tile is that of each of its tokens. -/
theorem condRow_eq (t : Fin cfg0.N) (p : Fin 512) : condRow t = ⟨(tok t p).val / 4096, by omega⟩ := Fin.ext (by
  show (if t.val < 8 then 0 else 1 + (t.val - 8) / 8) = (512 * t.val + p.val) / 4096
  split <;> omega)

/-- What a point writes back is its block of the reference's result. -/
theorem flushed_9 (c : Dev nD) (t : Fin cfg0.N) :
    (dats m 0 c).flushed 9 t = ((cfg0.win 9).blk t).view.read (Elt Ideal) (outVal m c) := by
  rw [flushed9]
  funext (y : S512x1024.Idx)
  obtain ⟨p, n, rfl⟩ : ∃ (p : Fin 512) (n : Fin 1024), y = ix2 p n := ⟨y 0, y 1, by funext a; fin_cases a <;> rfl⟩
  have hemb : ((cfg0.win 9).rect t).emb (ix2 p n) = ix2 (tok t p) n := by
    refine funext fun a => Fin.ext ?_
    match a with
    | ⟨0, _⟩ => exact (Window.rect_emb_val win0_9 t (ix2 p n) 0).trans (by rw [(index_9 t).1]; show t.val * 512 + p.val = 512 * t.val + p.val; omega)
    | ⟨1, _⟩ => exact Window.rect_emb_val_of_index_zero win0_9 t 1 (index_9 t).2 (ix2 p n)
  show out0_9 (F := Ideal) (iblk m c 0 t) (iblk m c 1 t) (iblk m c 2 t) (iblk m c 3 t) (iblk m c 4 t) (iblk m c 5 t) (iblk m c 6 t) (iblk m c 7 t) (iblk m c 8 t) (ix2 p n) = outVal m c (((cfg0.win 9).rect t).emb (ix2 p n))
  rw [hemb, out9_eq]
  refine (tile_apply _ _ _ _ _ _ _ _ _ p n).trans (Eq.trans ?_ (Cert.Reference8Ideal.Combine.out_apply _ _ _ _ _ _ _ _ _ (tok t p) n).symm)
  unfold blockRow Cert.Reference8Ideal.Combine.rowOf
  simp only [iblk_0, iblk_1, iblk_2, iblk_3, iblk_4, iblk_5, iblk_6, iblk_7, iblk_8, condRow_eq t p]

/-- The points' blocks cover the result. -/
theorem cover_9 (i : S20480x1024.Idx) : ∃ t : Fin cfg0.N, (cfg0.win 9).flush t = true ∧ i ∈ ((cfg0.win 9).blk t).view.set := by
  have h0 : (i 0 : Nat) < 20480 := (i 0).isLt
  have h1 : (i 1 : Nat) < 1024 := (i 1).isLt
  have hN : cfg0.N = 40 := N_0
  have key : ∀ t : Fin cfg0.N, t.val = (i 0 : Nat) / 512 → i ∈ ((cfg0.win 9).blk t).view.set := fun t h => by
    show i ∈ ((View.whole main_v5).slice (win0_9.rect t)).set
    rw [View.set_slice_whole, Rect.mem_set_unit]
    intro a
    match a with
    | ⟨0, _⟩ =>
      show win0_9.index t 0 * 512 ≤ (i 0 : Nat) ∧ (i 0 : Nat) < win0_9.index t 0 * 512 + 512
      rw [(index_9 t).1]; omega
    | ⟨1, _⟩ =>
      show win0_9.index t 1 * 1024 ≤ (i 1 : Nat) ∧ (i 1 : Nat) < win0_9.index t 1 * 1024 + 1024
      rw [(index_9 t).2]; omega
  exact ⟨⟨(i 0 : Nat) / 512, by omega⟩, flush0_9 _, key _ rfl⟩

theorem final_9 (c : Dev nD) : (dats m 0 c).arrAt 9 cfg0.N = outVal m c :=
  (dats m 0 c).arrAt_eq_of_cover 9 (outVal m c) (fun t _ => flushed_9 m c t) cover_9

end Cert.Kernel8Ideal.Combine

end
-- ==== Proof.OutRow.lean ====
/- One token of an output projection, over the extended reals: heads scaled each to a unit mean square, a weight and a gate per
   column, a matrix, the residual, and layer normalisation. -/
module

public import proofs.«01_k».proof.Proof.Token

@[expose] public section

noncomputable section

namespace Cert.OutRow

open Idealize.ShloMosaic

/-- One head of the second layer, scaled to a unit mean square. -/
def rms (v : Fin 128 → EReal) (q : Fin 128) : EReal :=
  v q * Ideal.rsqrt (Ideal.div (∑ k, v k * v k) (Ideal.ofBits FTy.f32 0x43000000#32) + Ideal.ofBits FTy.f32 0x358637BD#32)

/-- Eight heads in a row. -/
def rmsRow (y : Fin 8 → Fin 128 → EReal) (k : Fin 1024) : EReal :=
  rms (y ⟨k.val / 128, by omega⟩) ⟨k.val % 128, by omega⟩

/-- A mean over a head of the first layer. -/
def mean (v : Fin 256 → EReal) : EReal := Ideal.div (∑ k, v k) (Ideal.ofBits FTy.f32 0x43800000#32)

/-- One head of the first layer, normalised. -/
def std (v : Fin 256 → EReal) (q : Fin 256) : EReal :=
  (v q - mean v) * Ideal.rsqrt (mean (fun k => (v k - mean v) * (v k - mean v)) + Ideal.ofBits FTy.f32 0x358637BD#32)

/-- Four heads in a row. -/
def stdRow (y : Fin 4 → Fin 256 → EReal) (k : Fin 1024) : EReal :=
  std (y ⟨k.val / 256, by omega⟩) ⟨k.val % 256, by omega⟩

/-- The residual sum that is normalised. -/
def resid (y nw sg : Fin 1024 → EReal) (w : Fin 1024 → Fin 1024 → EReal) (x gt : Fin 1024 → EReal) (j : Fin 1024) : EReal :=
  Ideal.ofBits FTy.f32 0x3FB504F3#32 * x j + gt j * ∑ k, y k * nw k * sg k * w k j

/-- One token of the projection. -/
def out (y nw sg : Fin 1024 → EReal) (w : Fin 1024 → Fin 1024 → EReal) (x gt g b : Fin 1024 → EReal) (j : Fin 1024) : EReal :=
  Cert.Token.norm (resid y nw sg w x gt) g b j

end Cert.OutRow

end
-- ==== Proof.OutBTile.lean ====
/- The block one grid point of the second layer's output projection leaves, over the extended reals, read at an index. -/
module

public import proofs.«01_k».proof.Proof.Gen.Kernel6Ideal.Frame
public import proofs.«01_k».proof.Proof.OutRow
public import Idealize.ShloMosaic.Lib.Pipeline.Value
public import Idealize.ShloMosaic.Lib.Pointwise

@[expose] public section

set_option maxRecDepth 16384

noncomputable section

namespace Cert.Kernel6Ideal.OutB

open Cert.Kernel6Ideal Cert.Kernel6Ideal.Gen
open Idealize.ShloMosaic Idealize.ShloMosaic.TcCoe

theorem zero2 : (![0, 0] : Fin 2 → Nat) = fun _ => 0 := by funext a; fin_cases a <;> rfl

theorem select_lt8 {α : Type} (n : ℕ) (hn : n < 40) (A B : α) :
    Scalar.select (Scalar.cmpi .slt (BitVec.ofNat 32 n) 8#32) A B = if n < 8 then A else B := by
  interval_cases n <;> rfl

/-- A head of the tile, normalised: of the prompt in the first 8 points, then of the samples. -/
def headOf (i : grid0.Coords) (a b c d : Vec Ideal S1x1x512x128 .bf16) : FVec Ideal S512x128 .f32 := k0_pay2 (F := Ideal) i a b c d

/-- The sum of the two directions of the part in use. -/
def pick (i : grid0.Coords) (a b c d : Vec Ideal S1x1x512x128 .bf16) (p : Fin 512) (k : Fin 128) : EReal :=
  if (i 0).val < 8 then a (ix4 0 0 p k) + b (ix4 0 0 p k) else c (ix4 0 0 p k) + d (ix4 0 0 p k)

/-- A head of a row of the tile. -/
def tileHead (i : grid0.Coords) (x0 x1 : Vec Ideal S2x8x512x128 .bf16) (p : Fin 512) (h : Fin 8) (q : Fin 128) : EReal :=
  if (i 0).val < 8 then x0 (ix4 0 h p q) + x0 (ix4 1 h p q) else x1 (ix4 0 h p q) + x1 (ix4 1 h p q)

theorem headOf_apply (i : grid0.Coords) (a b c d : Vec Ideal S1x1x512x128 .bf16) (p : Fin 512) (q : Fin 128) :
    headOf i a b c d (ix2 p q) = Cert.OutRow.rms (pick i a b c d p) q := by
  unfold headOf k0_pay2
  dsimp only
  rw [select_lt8 _ (i 0).isLt]
  unfold pick
  by_cases h : (i 0).val < 8
  · rw [if_pos h]
    simp only [if_pos h]
    pointwise
    rfl
  · rw [if_neg h]
    simp only [if_neg h]
    pointwise
    rfl

theorem head_0 (i : grid0.Coords) (x0 x1 : Vec Ideal S2x8x512x128 .bf16) (p : Fin 512) (q : Fin 128) :
    headOf i (View.ld x0 r0_0) (View.ld x0 r0_1) (View.ld x1 r0_0) (View.ld x1 r0_1) (ix2 p q) = Cert.OutRow.rms (tileHead i x0 x1 p 0) q := by
  rw [headOf_apply]
  refine congrArg (Cert.OutRow.rms · q) (funext fun k => ?_)
  unfold pick tileHead
  pointwise

theorem head_1 (i : grid0.Coords) (x0 x1 : Vec Ideal S2x8x512x128 .bf16) (p : Fin 512) (q : Fin 128) :
    headOf i (View.ld x0 r0_2) (View.ld x0 r0_3) (View.ld x1 r0_2) (View.ld x1 r0_3) (ix2 p q) = Cert.OutRow.rms (tileHead i x0 x1 p 1) q := by
  rw [headOf_apply]
  refine congrArg (Cert.OutRow.rms · q) (funext fun k => ?_)
  unfold pick tileHead
  pointwise

theorem head_2 (i : grid0.Coords) (x0 x1 : Vec Ideal S2x8x512x128 .bf16) (p : Fin 512) (q : Fin 128) :
    headOf i (View.ld x0 r0_4) (View.ld x0 r0_5) (View.ld x1 r0_4) (View.ld x1 r0_5) (ix2 p q) = Cert.OutRow.rms (tileHead i x0 x1 p 2) q := by
  rw [headOf_apply]
  refine congrArg (Cert.OutRow.rms · q) (funext fun k => ?_)
  unfold pick tileHead
  pointwise

theorem head_3 (i : grid0.Coords) (x0 x1 : Vec Ideal S2x8x512x128 .bf16) (p : Fin 512) (q : Fin 128) :
    headOf i (View.ld x0 r0_6) (View.ld x0 r0_7) (View.ld x1 r0_6) (View.ld x1 r0_7) (ix2 p q) = Cert.OutRow.rms (tileHead i x0 x1 p 3) q := by
  rw [headOf_apply]
  refine congrArg (Cert.OutRow.rms · q) (funext fun k => ?_)
  unfold pick tileHead
  pointwise

theorem head_4 (i : grid0.Coords) (x0 x1 : Vec Ideal S2x8x512x128 .bf16) (p : Fin 512) (q : Fin 128) :
    headOf i (View.ld x0 r0_8) (View.ld x0 r0_9) (View.ld x1 r0_8) (View.ld x1 r0_9) (ix2 p q) = Cert.OutRow.rms (tileHead i x0 x1 p 4) q := by
  rw [headOf_apply]
  refine congrArg (Cert.OutRow.rms · q) (funext fun k => ?_)
  unfold pick tileHead
  pointwise

theorem head_5 (i : grid0.Coords) (x0 x1 : Vec Ideal S2x8x512x128 .bf16) (p : Fin 512) (q : Fin 128) :
    headOf i (View.ld x0 r0_10) (View.ld x0 r0_11) (View.ld x1 r0_10) (View.ld x1 r0_11) (ix2 p q) = Cert.OutRow.rms (tileHead i x0 x1 p 5) q := by
  rw [headOf_apply]
  refine congrArg (Cert.OutRow.rms · q) (funext fun k => ?_)
  unfold pick tileHead
  pointwise

theorem head_6 (i : grid0.Coords) (x0 x1 : Vec Ideal S2x8x512x128 .bf16) (p : Fin 512) (q : Fin 128) :
    headOf i (View.ld x0 r0_12) (View.ld x0 r0_13) (View.ld x1 r0_12) (View.ld x1 r0_13) (ix2 p q) = Cert.OutRow.rms (tileHead i x0 x1 p 6) q := by
  rw [headOf_apply]
  refine congrArg (Cert.OutRow.rms · q) (funext fun k => ?_)
  unfold pick tileHead
  pointwise

theorem head_7 (i : grid0.Coords) (x0 x1 : Vec Ideal S2x8x512x128 .bf16) (p : Fin 512) (q : Fin 128) :
    headOf i (View.ld x0 r0_14) (View.ld x0 r0_15) (View.ld x1 r0_14) (View.ld x1 r0_15) (ix2 p q) = Cert.OutRow.rms (tileHead i x0 x1 p 7) q := by
  rw [headOf_apply]
  refine congrArg (Cert.OutRow.rms · q) (funext fun k => ?_)
  unfold pick tileHead
  pointwise

/-- Eight heads side by side. -/
def cat (v0 v1 v2 v3 v4 v5 v6 v7 : FVec Ideal S512x128 .f32) : FVec Ideal S512x1024 .f32 :=
  concatenate S512x1024 1 [⟨S512x128, v0⟩, ⟨S512x128, v1⟩, ⟨S512x128, v2⟩, ⟨S512x128, v3⟩, ⟨S512x128, v4⟩, ⟨S512x128, v5⟩, ⟨S512x128, v6⟩, ⟨S512x128, v7⟩] concatenates_S512x128_S512x128_S512x128_S512x128_S512x128_S512x128_S512x128_S512x128_S512x1024_d1

theorem cat_apply (v0 v1 v2 v3 v4 v5 v6 v7 : FVec Ideal S512x128 .f32) (p : Fin 512) (k : Fin 1024) :
    cat v0 v1 v2 v3 v4 v5 v6 v7 (ix2 p k) = (![v0, v1, v2, v3, v4, v5, v6, v7] : Fin 8 → FVec Ideal S512x128 .f32) ⟨k.val / 128, by omega⟩ (ix2 p ⟨k.val % 128, by omega⟩) := by
  obtain ⟨h, q, rfl⟩ : ∃ (h : Fin 8) (q : Fin 128), k = ⟨128 * h.val + q.val, by omega⟩ := ⟨⟨k.val / 128, by omega⟩, ⟨k.val % 128, by omega⟩, Fin.ext (by show k.val = 128 * (k.val / 128) + k.val % 128; omega)⟩
  have e1 : (⟨(128 * h.val + q.val) / 128, by omega⟩ : Fin 8) = h := Fin.ext (by show (128 * h.val + q.val) / 128 = h.val; omega)
  have e2 : (⟨(128 * h.val + q.val) % 128, by omega⟩ : Fin 128) = q := Fin.ext (by show (128 * h.val + q.val) % 128 = q.val; omega)
  simp only [e1, e2]
  unfold cat
  pointwise
  obtain ⟨h, hh⟩ := h
  dsimp only
  have hq := q.isLt
  interval_cases h
  · rw [dif_pos (by omega)]
    exact congrArg v0 (congrArg (ix2 p) (Fin.ext (by dsimp only; omega)))
  · rw [dif_neg (by omega), dif_pos (by omega)]
    exact congrArg v1 (congrArg (ix2 p) (Fin.ext (by dsimp only; omega)))
  · rw [dif_neg (by omega), dif_neg (by omega), dif_pos (by omega)]
    exact congrArg v2 (congrArg (ix2 p) (Fin.ext (by dsimp only; omega)))
  · rw [dif_neg (by omega), dif_neg (by omega), dif_neg (by omega), dif_pos (by omega)]
    exact congrArg v3 (congrArg (ix2 p) (Fin.ext (by dsimp only; omega)))
  · rw [dif_neg (by omega), dif_neg (by omega), dif_neg (by omega), dif_neg (by omega), dif_pos (by omega)]
    exact congrArg v4 (congrArg (ix2 p) (Fin.ext (by dsimp only; omega)))
  · rw [dif_neg (by omega), dif_neg (by omega), dif_neg (by omega), dif_neg (by omega), dif_neg (by omega), dif_pos (by omega)]
    exact congrArg v5 (congrArg (ix2 p) (Fin.ext (by dsimp only; omega)))
  · rw [dif_neg (by omega), dif_neg (by omega), dif_neg (by omega), dif_neg (by omega), dif_neg (by omega), dif_neg (by omega), dif_pos (by omega)]
    exact congrArg v6 (congrArg (ix2 p) (Fin.ext (by dsimp only; omega)))
  · rw [dif_neg (by omega), dif_neg (by omega), dif_neg (by omega), dif_neg (by omega), dif_neg (by omega), dif_neg (by omega), dif_neg (by omega)]
    exact congrArg v7 (congrArg (ix2 p) (Fin.ext (by dsimp only; omega)))

theorem pay1_apply (v : FVec Ideal S512x1024 .f32) (x2 : Vec Ideal S512x1024 .bf16) (x3 : Vec Ideal S1x1024 .f32) (x4 : Vec Ideal S1024x1024 .bf16) (x5 : Vec Ideal S512x1024 .f32) (g : Vec Ideal S1x1x1024 .f32) (x7 x8 : Vec Ideal S1x1024 .f32) (p : Fin 512) (j : Fin 1024) :
    k0_pay1 (F := Ideal) (k0_pay18 v (k0_pay17 x3) x2 x4 x5 g x7) (k0_pay19 x8) (ix2 p j)
      = Cert.OutRow.out (fun k => v (ix2 p k)) (fun k => x3 (ix2 0 k)) (fun k => x2 (ix2 p k)) (fun k n => x4 (ix2 k n)) (fun k => x5 (ix2 p k)) (fun k => g (ix3 0 0 k)) (fun k => x7 (ix2 0 k)) (fun k => x8 (ix2 0 k)) j := by
  pointwise [k0_pay1, k0_pay17, k0_pay18, k0_pay19]
  rfl

/-- What the body leaves, at an index. -/
theorem out9_apply (i : grid0.Coords) (x0 x1 : Vec Ideal S2x8x512x128 .bf16) (x2 : Vec Ideal S512x1024 .bf16) (x3 : Vec Ideal S1x1024 .f32) (x4 : Vec Ideal S1024x1024 .bf16) (x5 : Vec Ideal S512x1024 .f32) (x6 : Vec Ideal S1x6x1024 .f32) (x7 x8 : Vec Ideal S1x1024 .f32) (p : Fin 512) (j : Fin 1024) :
    out0_9 (F := Ideal) i x0 x1 x2 x3 x4 x5 x6 x7 x8 (ix2 p j)
      = Cert.OutRow.out (Cert.OutRow.rmsRow (tileHead i x0 x1 p)) (fun k => x3 (ix2 0 k)) (fun k => x2 (ix2 p k)) (fun k n => x4 (ix2 k n)) (fun k => x5 (ix2 p k)) (fun k => x6 (ix3 0 2 k)) (fun k => x7 (ix2 0 k)) (fun k => x8 (ix2 0 k)) j := by
  unfold out0_9
  have h2 : View.ld x2 r0_17 = x2 := View.ld_unit_zero zero2 _ x2
  have h3 : View.ld x3 r0_16 = x3 := View.ld_unit_zero zero2 _ x3
  have h4 : View.ld x4 r0_18 = x4 := View.ld_unit_zero zero2 _ x4
  have h5 : View.ld x5 r0_17 = x5 := View.ld_unit_zero zero2 _ x5
  have h7 : View.ld x7 r0_16 = x7 := View.ld_unit_zero zero2 _ x7
  have h8 : View.ld x8 r0_16 = x8 := View.ld_unit_zero zero2 _ x8
  rw [View.canon_unit_zero zero2, h2, h3, h4, h5, h7, h8, pay1_apply]
  have hg : (fun k : Fin 1024 => View.ld x6 r0_19 (ix3 0 0 k)) = fun k => x6 (ix3 0 2 k) := funext fun k => by pointwise
  rw [hg]
  refine congrArg (fun y => Cert.OutRow.out y _ _ _ _ _ _ _ j) (funext fun k => ?_)
  refine Eq.trans (b := cat
      (headOf i (View.ld x0 r0_0) (View.ld x0 r0_1) (View.ld x1 r0_0) (View.ld x1 r0_1))
      (headOf i (View.ld x0 r0_2) (View.ld x0 r0_3) (View.ld x1 r0_2) (View.ld x1 r0_3))
      (headOf i (View.ld x0 r0_4) (View.ld x0 r0_5) (View.ld x1 r0_4) (View.ld x1 r0_5))
      (headOf i (View.ld x0 r0_6) (View.ld x0 r0_7) (View.ld x1 r0_6) (View.ld x1 r0_7))
      (headOf i (View.ld x0 r0_8) (View.ld x0 r0_9) (View.ld x1 r0_8) (View.ld x1 r0_9))
      (headOf i (View.ld x0 r0_10) (View.ld x0 r0_11) (View.ld x1 r0_10) (View.ld x1 r0_11))
      (headOf i (View.ld x0 r0_12) (View.ld x0 r0_13) (View.ld x1 r0_12) (View.ld x1 r0_13))
      (headOf i (View.ld x0 r0_14) (View.ld x0 r0_15) (View.ld x1 r0_14) (View.ld x1 r0_15)) (ix2 p k)) rfl ?_
  rw [cat_apply]
  unfold Cert.OutRow.rmsRow
  generalize (⟨k.val / 128, _⟩ : Fin 8) = h
  generalize (⟨k.val % 128, _⟩ : Fin 128) = q
  match h with
  | 0 => exact head_0 i x0 x1 p q
  | 1 => exact head_1 i x0 x1 p q
  | 2 => exact head_2 i x0 x1 p q
  | 3 => exact head_3 i x0 x1 p q
  | 4 => exact head_4 i x0 x1 p q
  | 5 => exact head_5 i x0 x1 p q
  | 6 => exact head_6 i x0 x1 p q
  | 7 => exact head_7 i x0 x1 p q

end Cert.Kernel6Ideal.OutB

end
-- ==== Proof.OutBRef.lean ====
/- The reference's second output projection at an index. -/
module

public import proofs.«01_k».proof.Proof.Gen.Reference6Ideal.Read
public import proofs.«01_k».proof.Proof.OutRow
public import Idealize.ShloMosaic.Lib.Pointwise

@[expose] public section

set_option maxRecDepth 16384

noncomputable section

namespace Cert.Reference6Ideal.OutB

open Cert.Reference6Ideal Cert.Reference6Ideal.Gen Cert.Reference6Ideal.Read
open Idealize.ShloMosaic

/-- A direction of a head at a token: of the prompt's scan, then of the samples'. -/
def dirRow (x0 : Vec Ideal S2x8x4096x128 .bf16) (x1 : Vec Ideal S2x8x16384x128 .bf16) (d : Fin 2) (h : Fin 8) (t : Fin 20480) (q : Fin 128) : EReal :=
  if ht : t.val < 4096 then x0 (ix4 d h ⟨t.val, ht⟩ q) else x1 (ix4 d h ⟨t.val - 4096, by omega⟩ q)

/-- A head at a token: the sum of the two directions. -/
def headRow (x0 : Vec Ideal S2x8x4096x128 .bf16) (x1 : Vec Ideal S2x8x16384x128 .bf16) (t : Fin 20480) (h : Fin 8) (q : Fin 128) : EReal :=
  dirRow x0 x1 0 h t q + dirRow x0 x1 1 h t q

theorem v0_apply (x0 : Vec Ideal S2x8x4096x128 .bf16) (x1 : Vec Ideal S2x8x16384x128 .bf16) (d : Fin 2) (h : Fin 8) (t : Fin 20480) (q : Fin 128) :
    val_main_v0 (F := Ideal) x0 x1 (ix4 d h t q) = dirRow x0 x1 d h t q := by
  unfold val_main_v0 dirRow
  by_cases ht : t.val < 4096
  · rw [dif_pos ht]
    exact concatenate_pair_apply_left (t := S2x8x20480x128) (s₁ := S2x8x4096x128) (s₂ := S2x8x16384x128) 2 x0 x1 concatenates_S2x8x4096x128_S2x8x16384x128_S2x8x20480x128_d2 (ix4 d h t q) rfl (ix4 d h ⟨t.val, ht⟩ q)
      (fun b => match b with | ⟨0, _⟩ => rfl | ⟨1, _⟩ => rfl | ⟨2, _⟩ => rfl | ⟨3, _⟩ => rfl)
  · rw [dif_neg ht]
    exact concatenate_pair_apply_right (t := S2x8x20480x128) (s₁ := S2x8x4096x128) (s₂ := S2x8x16384x128) 2 x0 x1 concatenates_S2x8x4096x128_S2x8x16384x128_S2x8x20480x128_d2 (ix4 d h t q) rfl rfl (ix4 d h (⟨t.val - 4096, by omega⟩ : Fin 16384) q)
      (fun b hb => match b, hb with | ⟨0, _⟩, _ => rfl | ⟨1, _⟩, _ => rfl | ⟨2, _⟩, hb => absurd rfl hb | ⟨3, _⟩, _ => rfl) (by show t.val - 4096 + 4096 = t.val; omega)

theorem at_2 (h : Fin 8) (t : Fin 20480) (q : Fin 128) : idx_main_v2 (idx_main_v3 (ix3 h t q)) = ix4 (0 : Fin 2) h t q := by
  refine funext fun a => Fin.ext ?_
  match a with
  | ⟨0, _⟩ => rfl
  | ⟨1, _⟩ => show ((h.val * 20480 + t.val) * 128 + q.val) / 2621440 % 8 = h.val; omega
  | ⟨2, _⟩ => show ((h.val * 20480 + t.val) * 128 + q.val) / 128 % 20480 = t.val; omega
  | ⟨3, _⟩ => show ((h.val * 20480 + t.val) * 128 + q.val) % 128 = q.val; omega

theorem at_4 (h : Fin 8) (t : Fin 20480) (q : Fin 128) : idx_main_v4 (idx_main_v5 (ix3 h t q)) = ix4 (1 : Fin 2) h t q := by
  refine funext fun a => Fin.ext ?_
  match a with
  | ⟨0, _⟩ => rfl
  | ⟨1, _⟩ => show ((h.val * 20480 + t.val) * 128 + q.val) / 2621440 % 8 = h.val; omega
  | ⟨2, _⟩ => show ((h.val * 20480 + t.val) * 128 + q.val) / 128 % 20480 = t.val; omega
  | ⟨3, _⟩ => show ((h.val * 20480 + t.val) * 128 + q.val) % 128 = q.val; omega

theorem v6_apply (x0 : Vec Ideal S2x8x4096x128 .bf16) (x1 : Vec Ideal S2x8x16384x128 .bf16) (h : Fin 8) (t : Fin 20480) (q : Fin 128) :
    val_main_v6 (F := Ideal) x0 x1 (ix3 h t q) = headRow x0 x1 t h q := by
  rw [val_main_v6_apply, val_main_v5_apply, val_main_v4_apply, val_main_v3_apply, val_main_v2_apply, val_main_v1_apply, val_main_v1_apply,
    at_2, at_4, v0_apply, v0_apply]
  unfold headRow
  generalize dirRow x0 x1 0 h t q = a
  generalize dirRow x0 x1 1 h t q = b
  rfl

theorem at_8 (h : Fin 8) (t : Fin 20480) (q k : Fin 128) : idx_main_v8 (idx_main_v9 (idx_main_v15 (ix3 h t q))) k = ix3 h t k := by
  refine funext fun a => Fin.ext ?_
  match a with
  | ⟨0, _⟩ => rfl
  | ⟨1, _⟩ => rfl
  | ⟨2, _⟩ => rfl

theorem sq_apply (x0 : Vec Ideal S2x8x4096x128 .bf16) (x1 : Vec Ideal S2x8x16384x128 .bf16) (h : Fin 8) (t : Fin 20480) (k : Fin 128) :
    val_main_v7 (F := Ideal) x0 x1 (ix3 h t k) = headRow x0 x1 t h k * headRow x0 x1 t h k := by
  rw [val_main_v7_apply, v6_apply]
  generalize headRow x0 x1 t h k = a
  rfl

theorem v16_apply (x0 : Vec Ideal S2x8x4096x128 .bf16) (x1 : Vec Ideal S2x8x16384x128 .bf16) (h : Fin 8) (t : Fin 20480) (q : Fin 128) :
    val_main_v16 (F := Ideal) x0 x1 (ix3 h t q) = Cert.OutRow.rms (headRow x0 x1 t h) q := by
  rw [val_main_v16_apply, val_main_v15_apply, val_main_v14_apply, val_main_v13_apply, val_main_v12_apply, val_main_v11_apply, val_main_v10_apply,
    val_main_v9_apply, val_main_v8_apply, val_main_cst_apply, val_main_cst_0_apply, val_main_cst_1_apply]
  have es : ∑ k : Fin 128, val_main_v7 (F := Ideal) x0 x1 (idx_main_v8 (idx_main_v9 (idx_main_v15 (ix3 h t q))) k) = ∑ k : Fin 128, headRow x0 x1 t h k * headRow x0 x1 t h k :=
    Finset.sum_congr rfl fun k _ => (congrArg (val_main_v7 (F := Ideal) x0 x1) (at_8 h t q k)).trans (sq_apply x0 x1 h t k)
  rw [es, v6_apply]
  generalize headRow x0 x1 t h = y
  unfold Cert.OutRow.rms
  show y q * Ideal.rsqrt (Ideal.div (Ideal.ofBits FTy.f32 0x00000000#32 + ∑ k, y k * y k) (Ideal.ofBits FTy.f32 0x43000000#32) + Ideal.ofBits FTy.f32 0x358637BD#32) = _
  rw [Ideal.ofBits_zero_f32, zero_add]

theorem v18_apply (x0 : Vec Ideal S2x8x4096x128 .bf16) (x1 : Vec Ideal S2x8x16384x128 .bf16) (t : Fin 20480) (k : Fin 1024) :
    val_main_v18 (F := Ideal) x0 x1 (ix2 t k) = Cert.OutRow.rmsRow (headRow x0 x1 t) k := by
  have e := v16_apply x0 x1
  unfold val_main_v18 val_main_v17
  generalize val_main_v16 (F := Ideal) x0 x1 = y at e ⊢
  generalize headRow x0 x1 = z at e ⊢
  pointwise
  simp only [e]
  rfl

theorem at_24 (t : Fin 20480) (j : Fin 1024) : idx_main_v24 (idx_main_v25 (idx_main_v26 (idx_main_v27 (ix2 t j)))) = ix3 (⟨t.val / 4096, by omega⟩ : Fin 8) (2 : Fin 6) j := by
  refine funext fun a => Fin.ext ?_
  match a with
  | ⟨0, _⟩ => show ((t.val * 1024 + j.val) / 4194304 * 1024 + (t.val * 1024 + j.val) % 1024) / 1024 = t.val / 4096; omega
  | ⟨1, _⟩ => rfl
  | ⟨2, _⟩ => show ((t.val * 1024 + j.val) / 4194304 * 1024 + (t.val * 1024 + j.val) % 1024) % 1024 = j.val; omega

theorem at_30 (t : Fin 20480) (j k : Fin 1024) : lidx_main_v30 (ix2 t j) k = ix2 t k := by
  refine funext fun a => Fin.ext ?_
  match a with
  | ⟨0, _⟩ => rfl
  | ⟨1, _⟩ => rfl

theorem at_30r (t : Fin 20480) (j k : Fin 1024) : ridx_main_v30 (ix2 t j) k = ix2 k j := by
  refine funext fun a => Fin.ext ?_
  match a with
  | ⟨0, _⟩ => rfl
  | ⟨1, _⟩ => rfl

theorem at_19 (t : Fin 20480) (k : Fin 1024) : idx_main_v19 (idx_main_v20 (ix2 t k)) = ix1 k := by
  refine funext fun a => Fin.ext ?_
  match a with
  | ⟨0, _⟩ => rfl

theorem v23_apply (x0 : Vec Ideal S2x8x4096x128 .bf16) (x1 : Vec Ideal S2x8x16384x128 .bf16) (x2 : Vec Ideal S20480x1024 .bf16) (x3 : Vec Ideal S1024 .f32) (t : Fin 20480) (k : Fin 1024) :
    val_main_v23 (F := Ideal) x0 x1 x2 x3 (ix2 t k) = Cert.OutRow.rmsRow (headRow x0 x1 t) k * x3 (ix1 k) * x2 (ix2 t k) := by
  rw [val_main_v23_apply, val_main_v22_apply, val_main_v21_apply, val_main_v20_apply, val_main_v19_apply, v18_apply, at_19]
  generalize Cert.OutRow.rmsRow (headRow x0 x1 t) k = a
  rfl

theorem v32_apply (x0 : Vec Ideal S2x8x4096x128 .bf16) (x1 : Vec Ideal S2x8x16384x128 .bf16) (x2 : Vec Ideal S20480x1024 .bf16) (x3 : Vec Ideal S1024 .f32) (x4 : Vec Ideal S1024x1024 .f32) (x5 : Vec Ideal S20480x1024 .f32) (x6 : Vec Ideal S8x6x1024 .f32) (t : Fin 20480) (j : Fin 1024) :
    val_main_v32 (F := Ideal) x0 x1 x2 x3 x4 x5 x6 (ix2 t j)
      = Cert.OutRow.resid (Cert.OutRow.rmsRow (headRow x0 x1 t)) (fun k => x3 (ix1 k)) (fun k => x2 (ix2 t k)) (fun k n => x4 (ix2 k n)) (fun k => x5 (ix2 t k)) (fun k => x6 (ix3 (⟨t.val / 4096, by omega⟩ : Fin 8) 2 k)) j := by
  rw [val_main_v32_apply, val_main_v31_apply, val_main_v30_apply, val_main_v29_apply, val_main_v28_apply, val_main_v27_apply, val_main_v26_apply,
    val_main_v25_apply, val_main_v24_apply, val_main_cst_2_apply, at_24]
  have es : ∑ k : Fin 1024, val_main_v23 (F := Ideal) x0 x1 x2 x3 (lidx_main_v30 (ix2 t j) k) * x4 (ridx_main_v30 (ix2 t j) k)
      = ∑ k : Fin 1024, Cert.OutRow.rmsRow (headRow x0 x1 t) k * x3 (ix1 k) * x2 (ix2 t k) * x4 (ix2 k j) :=
    Finset.sum_congr rfl fun k _ => congrArg₂ (· * ·) ((congrArg (val_main_v23 (F := Ideal) x0 x1 x2 x3) (at_30 t j k)).trans (v23_apply x0 x1 x2 x3 t k)) (congrArg x4 (at_30r t j k))
  rw [es]
  generalize Cert.OutRow.rmsRow (headRow x0 x1 t) = y
  rfl

theorem at_33 (t : Fin 20480) (k : Fin 1024) : idx_main_v33 (idx_main_v34 (ix2 t 0)) k = ix2 t k := by
  refine funext fun a => Fin.ext ?_
  match a with
  | ⟨0, _⟩ => rfl
  | ⟨1, _⟩ => rfl

theorem at_37 (t : Fin 20480) (k : Fin 1024) : idx_main_v37 (ix2 t k) = ix2 t 0 := by
  refine funext fun a => Fin.ext ?_
  match a with
  | ⟨0, _⟩ => rfl
  | ⟨1, _⟩ => rfl

theorem at_40 (t : Fin 20480) (k : Fin 1024) : idx_main_v40 (idx_main_v41 (ix2 t 0)) k = ix2 t k := by
  refine funext fun a => Fin.ext ?_
  match a with
  | ⟨0, _⟩ => rfl
  | ⟨1, _⟩ => rfl

theorem at_44 (t : Fin 20480) (k : Fin 1024) : idx_main_v44 (ix2 t k) = ix2 t 0 := by
  refine funext fun a => Fin.ext ?_
  match a with
  | ⟨0, _⟩ => rfl
  | ⟨1, _⟩ => rfl

theorem at_49 (t : Fin 20480) (k : Fin 1024) : idx_main_v49 (ix2 t k) = ix2 t 0 := by
  refine funext fun a => Fin.ext ?_
  match a with
  | ⟨0, _⟩ => rfl
  | ⟨1, _⟩ => rfl

theorem at_51 (t : Fin 20480) (k : Fin 1024) : idx_main_v51 (idx_main_v52 (ix2 t k)) = ix1 k := by
  refine funext fun a => Fin.ext ?_
  match a with
  | ⟨0, _⟩ => rfl

theorem at_54 (t : Fin 20480) (k : Fin 1024) : idx_main_v54 (idx_main_v55 (ix2 t k)) = ix1 k := by
  refine funext fun a => Fin.ext ?_
  match a with
  | ⟨0, _⟩ => rfl

/-- The residual sum of a token. -/
def residRow (x0 : Vec Ideal S2x8x4096x128 .bf16) (x1 : Vec Ideal S2x8x16384x128 .bf16) (x2 : Vec Ideal S20480x1024 .bf16) (x3 : Vec Ideal S1024 .f32) (x4 : Vec Ideal S1024x1024 .f32) (x5 : Vec Ideal S20480x1024 .f32) (x6 : Vec Ideal S8x6x1024 .f32) (t : Fin 20480) (j : Fin 1024) : EReal :=
  Cert.OutRow.resid (Cert.OutRow.rmsRow (headRow x0 x1 t)) (fun k => x3 (ix1 k)) (fun k => x2 (ix2 t k)) (fun k n => x4 (ix2 k n)) (fun k => x5 (ix2 t k)) (fun k => x6 (ix3 (⟨t.val / 4096, by omega⟩ : Fin 8) 2 k)) j

theorem v32_row (x0 : Vec Ideal S2x8x4096x128 .bf16) (x1 : Vec Ideal S2x8x16384x128 .bf16) (x2 : Vec Ideal S20480x1024 .bf16) (x3 : Vec Ideal S1024 .f32) (x4 : Vec Ideal S1024x1024 .f32) (x5 : Vec Ideal S20480x1024 .f32) (x6 : Vec Ideal S8x6x1024 .f32) (t : Fin 20480) (j : Fin 1024) :
    val_main_v32 (F := Ideal) x0 x1 x2 x3 x4 x5 x6 (ix2 t j) = residRow x0 x1 x2 x3 x4 x5 x6 t j := v32_apply x0 x1 x2 x3 x4 x5 x6 t j

theorem v36_apply (x0 : Vec Ideal S2x8x4096x128 .bf16) (x1 : Vec Ideal S2x8x16384x128 .bf16) (x2 : Vec Ideal S20480x1024 .bf16) (x3 : Vec Ideal S1024 .f32) (x4 : Vec Ideal S1024x1024 .f32) (x5 : Vec Ideal S20480x1024 .f32) (x6 : Vec Ideal S8x6x1024 .f32) (t : Fin 20480) :
    val_main_v36 (F := Ideal) x0 x1 x2 x3 x4 x5 x6 (ix2 t 0) = Cert.Token.mean (residRow x0 x1 x2 x3 x4 x5 x6 t) := by
  rw [val_main_v36_apply, val_main_v35_apply, val_main_v34_apply, val_main_v33_apply, val_main_cst_3_apply, val_main_cst_4_apply]
  simp only [at_33, v32_row]
  generalize residRow x0 x1 x2 x3 x4 x5 x6 t = y
  refine congrArg (Ideal.div · _) ?_
  show Ideal.ofBits FTy.f32 0x00000000#32 + ∑ k, y k = ∑ k, y k
  rw [Ideal.ofBits_zero_f32, zero_add]

theorem v43_apply (x0 : Vec Ideal S2x8x4096x128 .bf16) (x1 : Vec Ideal S2x8x16384x128 .bf16) (x2 : Vec Ideal S20480x1024 .bf16) (x3 : Vec Ideal S1024 .f32) (x4 : Vec Ideal S1024x1024 .f32) (x5 : Vec Ideal S20480x1024 .f32) (x6 : Vec Ideal S8x6x1024 .f32) (t : Fin 20480) :
    val_main_v43 (F := Ideal) x0 x1 x2 x3 x4 x5 x6 (ix2 t 0)
      = Cert.Token.mean (fun k => (residRow x0 x1 x2 x3 x4 x5 x6 t k - Cert.Token.mean (residRow x0 x1 x2 x3 x4 x5 x6 t)) * (residRow x0 x1 x2 x3 x4 x5 x6 t k - Cert.Token.mean (residRow x0 x1 x2 x3 x4 x5 x6 t))) := by
  rw [val_main_v43_apply, val_main_v42_apply, val_main_v41_apply, val_main_v40_apply, val_main_cst_5_apply, val_main_cst_6_apply]
  simp only [at_40, val_main_v39_apply, val_main_v38_apply, val_main_v37_apply, at_37, v36_apply, v32_row]
  generalize residRow x0 x1 x2 x3 x4 x5 x6 t = y
  refine congrArg (Ideal.div · _) ?_
  generalize Cert.Token.mean y = μ
  show Ideal.ofBits FTy.f32 0x00000000#32 + ∑ k, (y k - μ) * (y k - μ) = ∑ k, (y k - μ) * (y k - μ)
  rw [Ideal.ofBits_zero_f32, zero_add]

theorem out_apply (x0 : Vec Ideal S2x8x4096x128 .bf16) (x1 : Vec Ideal S2x8x16384x128 .bf16) (x2 : Vec Ideal S20480x1024 .bf16) (x3 : Vec Ideal S1024 .f32) (x4 : Vec Ideal S1024x1024 .f32) (x5 : Vec Ideal S20480x1024 .f32) (x6 : Vec Ideal S8x6x1024 .f32) (x7 x8 : Vec Ideal S1024 .f32) (t : Fin 20480) (j : Fin 1024) :
    val_main_v56 (F := Ideal) x0 x1 x2 x3 x4 x5 x6 x7 x8 (ix2 t j)
      = Cert.OutRow.out (Cert.OutRow.rmsRow (headRow x0 x1 t)) (fun k => x3 (ix1 k)) (fun k => x2 (ix2 t k)) (fun k n => x4 (ix2 k n)) (fun k => x5 (ix2 t k)) (fun k => x6 (ix3 (⟨t.val / 4096, by omega⟩ : Fin 8) 2 k)) (fun k => x7 (ix1 k)) (fun k => x8 (ix1 k)) j := by
  rw [val_main_v56_apply, val_main_v55_apply, val_main_v54_apply, val_main_v53_apply, val_main_v52_apply, val_main_v51_apply, val_main_v50_apply,
    val_main_v49_apply, val_main_v48_apply, val_main_v47_apply, val_main_v46_apply, val_main_v45_apply, val_main_v44_apply, val_main_cst_7_apply,
    at_44, at_49, at_51, at_54, v36_apply, v43_apply, v32_row]
  show _ = Cert.Token.norm (residRow x0 x1 x2 x3 x4 x5 x6 t) _ _ j
  unfold Cert.Token.norm
  generalize residRow x0 x1 x2 x3 x4 x5 x6 t = y
  generalize Cert.Token.mean y = μ
  generalize Cert.Token.mean (fun k => (y k - μ) * (y k - μ)) = v
  rfl

end Cert.Reference6Ideal.OutB

end
-- ==== Proof.OutBBlocks.lean ====
/- What the blocks of a grid point of the second layer's output projection hold: rows of the arguments. And what a point writes
   back: its block of the reference's result. -/
module

public import proofs.«01_k».proof.Proof.Gen.Kernel6Ideal.Value
public import proofs.«01_k».proof.Proof.OutBTile
public import proofs.«01_k».proof.Proof.OutBRef

@[expose] public section

set_option maxRecDepth 16384

noncomputable section

namespace Cert.Kernel6Ideal.OutB

open Cert.Kernel6Ideal Cert.Kernel6Ideal.Gen Cert.Kernel6Ideal.Value
open Idealize.ShloMosaic Idealize.ShloMosaic.TcCoe Idealize.ShloMosaic.Tactic
open Idealize.ShloMosaic.Pipeline (Window Dat)

theorem point_lt (t : Fin cfg0.N) : t.val < 40 := lt_of_lt_of_eq t.isLt (show cfg0.N = 40 from N_0)

/-- Row `p` of tile `t`, as a token. -/
def tok (t : Fin cfg0.N) (p : Fin 512) : Fin 20480 := ⟨512 * t.val + p.val, by have := point_lt t; omega⟩

theorem coord_0 : ∀ t : Fin grid0.N, ((grid0.coords t) 0).val = t.val := by decide +kernel
theorem index_0 : ∀ t : Fin grid0.N, win0_0.index t 0 = 0 ∧ win0_0.index t 1 = 0 ∧ win0_0.index t 2 = min t.val 7 ∧ win0_0.index t 3 = 0 := by decide +kernel
theorem index_1 : ∀ t : Fin grid0.N, win0_1.index t 0 = 0 ∧ win0_1.index t 1 = 0 ∧ win0_1.index t 2 = t.val - 8 ∧ win0_1.index t 3 = 0 := by decide +kernel
theorem index_2 : ∀ t : Fin grid0.N, win0_2.index t 0 = t.val ∧ win0_2.index t 1 = 0 := by decide +kernel
theorem index_3 : ∀ t : Fin grid0.N, win0_3.index t 0 = 0 ∧ win0_3.index t 1 = 0 := by decide +kernel
theorem index_4 : ∀ t : Fin grid0.N, win0_4.index t 0 = 0 ∧ win0_4.index t 1 = 0 := by decide +kernel
theorem index_5 : ∀ t : Fin grid0.N, win0_5.index t 0 = t.val ∧ win0_5.index t 1 = 0 := by decide +kernel
theorem index_7 : ∀ t : Fin grid0.N, win0_7.index t 0 = 0 ∧ win0_7.index t 1 = 0 := by decide +kernel
theorem index_8 : ∀ t : Fin grid0.N, win0_8.index t 0 = 0 ∧ win0_8.index t 1 = 0 := by decide +kernel
theorem index_9 : ∀ t : Fin grid0.N, win0_9.index t 0 = t.val ∧ win0_9.index t 1 = 0 := by decide +kernel
theorem index_6 : ∀ t : Fin grid0.N, win0_6.index t 0 = t.val / 8 ∧ win0_6.index t 1 = 0 ∧ win0_6.index t 2 = 0 := by decide +kernel

variable (m : (ℓ : Loc nD τ sig) → Buf (Elt Ideal) ℓ)

/-- In the first 8 points the scan's rows are the prompt's, -/
theorem iblk_0 (c : Dev nD) (t : Fin cfg0.N) (ht : t.val < 8) (d : Fin 2) (h : Fin 8) (p : Fin 512) (q : Fin 128) :
    iblk m c 0 t (ix4 d h p q) = m (c.tc.loc main_arg0) (ix4 d h (⟨(tok t p).val, by show 512 * t.val + p.val < 4096; omega⟩ : Fin 4096) q) := by
  show V m c main_arg0 (((cfg0.win 0).rect t).emb (ix4 d h p q)) = _
  rw [V_main_arg0]
  refine congrArg _ (funext fun a => Fin.ext ?_)
  match a with
  | ⟨0, _⟩ => exact Window.rect_emb_val_of_index_zero win0_0 t 0 (index_0 t).1 (ix4 d h p q)
  | ⟨1, _⟩ => exact Window.rect_emb_val_of_index_zero win0_0 t 1 (index_0 t).2.1 (ix4 d h p q)
  | ⟨2, _⟩ => exact (Window.rect_emb_val win0_0 t (ix4 d h p q) 2).trans (by rw [(index_0 t).2.2.1]; show min t.val 7 * 512 + p.val = 512 * t.val + p.val; omega)
  | ⟨3, _⟩ => exact Window.rect_emb_val_of_index_zero win0_0 t 3 (index_0 t).2.2.2 (ix4 d h p q)

/-- and from then on the samples'. -/
theorem iblk_1 (c : Dev nD) (t : Fin cfg0.N) (ht : ¬ t.val < 8) (d : Fin 2) (h : Fin 8) (p : Fin 512) (q : Fin 128) :
    iblk m c 1 t (ix4 d h p q) = m (c.tc.loc main_arg1) (ix4 d h (⟨(tok t p).val - 4096, by have := (tok t p).isLt; omega⟩ : Fin 16384) q) := by
  show V m c main_arg1 (((cfg0.win 1).rect t).emb (ix4 d h p q)) = _
  rw [V_main_arg1]
  refine congrArg _ (funext fun a => Fin.ext ?_)
  match a with
  | ⟨0, _⟩ => exact Window.rect_emb_val_of_index_zero win0_1 t 0 (index_1 t).1 (ix4 d h p q)
  | ⟨1, _⟩ => exact Window.rect_emb_val_of_index_zero win0_1 t 1 (index_1 t).2.1 (ix4 d h p q)
  | ⟨2, _⟩ => exact (Window.rect_emb_val win0_1 t (ix4 d h p q) 2).trans (by rw [(index_1 t).2.2.1]; show (t.val - 8) * 512 + p.val = 512 * t.val + p.val - 4096; omega)
  | ⟨3, _⟩ => exact Window.rect_emb_val_of_index_zero win0_1 t 3 (index_1 t).2.2.2 (ix4 d h p q)

theorem iblk_2 (c : Dev nD) (t : Fin cfg0.N) (p : Fin 512) (j : Fin 1024) :
    iblk m c 2 t (ix2 p j) = m (c.tc.loc main_arg2) (ix2 (tok t p) j) := by
  show V m c main_arg2 (((cfg0.win 2).rect t).emb (ix2 p j)) = _
  rw [V_main_arg2]
  refine congrArg _ (funext fun a => Fin.ext ?_)
  match a with
  | ⟨0, _⟩ => exact (Window.rect_emb_val win0_2 t (ix2 p j) 0).trans (by rw [(index_2 t).1]; show t.val * 512 + p.val = 512 * t.val + p.val; omega)
  | ⟨1, _⟩ => exact Window.rect_emb_val_of_index_zero win0_2 t 1 (index_2 t).2 (ix2 p j)

theorem iblk_3 (c : Dev nD) (t : Fin cfg0.N) (j : Fin 1024) :
    iblk m c 3 t (ix2 0 j) = m (c.tc.loc main_arg3) (ix1 j) := by
  have e : ((cfg0.win 3).rect t).emb (ix2 0 j) = ix2 0 j := by
    refine funext fun a => Fin.ext ?_
    match a with
    | ⟨0, _⟩ => exact Window.rect_emb_val_of_index_zero win0_3 t 0 (index_3 t).1 (ix2 0 j)
    | ⟨1, _⟩ => exact Window.rect_emb_val_of_index_zero win0_3 t 1 (index_3 t).2 (ix2 0 j)
  show V m c main_v0 (((cfg0.win 3).rect t).emb (ix2 0 j)) = _
  rw [e]
  entry_read
  pointwise

theorem iblk_4 (c : Dev nD) (t : Fin cfg0.N) (p j : Fin 1024) :
    iblk m c 4 t (ix2 p j) = m (c.tc.loc main_arg4) (ix2 p j) := by
  show V m c main_v1 (((cfg0.win 4).rect t).emb (ix2 p j)) = _
  entry_read
  refine congrArg (m (c.tc.loc main_arg4)) (funext fun a => Fin.ext ?_)
  match a with
  | ⟨0, _⟩ => exact Window.rect_emb_val_of_index_zero win0_4 t 0 (index_4 t).1 (ix2 p j)
  | ⟨1, _⟩ => exact Window.rect_emb_val_of_index_zero win0_4 t 1 (index_4 t).2 (ix2 p j)

theorem iblk_5 (c : Dev nD) (t : Fin cfg0.N) (p : Fin 512) (j : Fin 1024) :
    iblk m c 5 t (ix2 p j) = m (c.tc.loc main_arg5) (ix2 (tok t p) j) := by
  show V m c main_arg5 (((cfg0.win 5).rect t).emb (ix2 p j)) = _
  rw [V_main_arg5]
  refine congrArg _ (funext fun a => Fin.ext ?_)
  match a with
  | ⟨0, _⟩ => exact (Window.rect_emb_val win0_5 t (ix2 p j) 0).trans (by rw [(index_5 t).1]; show t.val * 512 + p.val = 512 * t.val + p.val; omega)
  | ⟨1, _⟩ => exact Window.rect_emb_val_of_index_zero win0_5 t 1 (index_5 t).2 (ix2 p j)

theorem iblk_6 (c : Dev nD) (t : Fin cfg0.N) (p : Fin 512) (r : Fin 6) (j : Fin 1024) :
    iblk m c 6 t (ix3 0 r j) = m (c.tc.loc main_arg6) (ix3 (⟨(tok t p).val / 4096, by omega⟩ : Fin 8) r j) := by
  show V m c main_arg6 (((cfg0.win 6).rect t).emb (ix3 0 r j)) = _
  rw [V_main_arg6]
  refine congrArg _ (funext fun a => Fin.ext ?_)
  match a with
  | ⟨0, _⟩ => exact (Window.rect_emb_val win0_6 t (ix3 0 r j) 0).trans (by rw [(index_6 t).1]; show t.val / 8 * 1 + 0 = (512 * t.val + p.val) / 4096; omega)
  | ⟨1, _⟩ => exact Window.rect_emb_val_of_index_zero win0_6 t 1 (index_6 t).2.1 (ix3 0 r j)
  | ⟨2, _⟩ => exact Window.rect_emb_val_of_index_zero win0_6 t 2 (index_6 t).2.2 (ix3 0 r j)

theorem iblk_7 (c : Dev nD) (t : Fin cfg0.N) (j : Fin 1024) :
    iblk m c 7 t (ix2 0 j) = m (c.tc.loc main_arg7) (ix1 j) := by
  have e : ((cfg0.win 7).rect t).emb (ix2 0 j) = ix2 0 j := by
    refine funext fun a => Fin.ext ?_
    match a with
    | ⟨0, _⟩ => exact Window.rect_emb_val_of_index_zero win0_7 t 0 (index_7 t).1 (ix2 0 j)
    | ⟨1, _⟩ => exact Window.rect_emb_val_of_index_zero win0_7 t 1 (index_7 t).2 (ix2 0 j)
  show V m c main_v2 (((cfg0.win 7).rect t).emb (ix2 0 j)) = _
  rw [e]
  entry_read
  pointwise

theorem iblk_8 (c : Dev nD) (t : Fin cfg0.N) (j : Fin 1024) :
    iblk m c 8 t (ix2 0 j) = m (c.tc.loc main_arg8) (ix1 j) := by
  have e : ((cfg0.win 8).rect t).emb (ix2 0 j) = ix2 0 j := by
    refine funext fun a => Fin.ext ?_
    match a with
    | ⟨0, _⟩ => exact Window.rect_emb_val_of_index_zero win0_8 t 0 (index_8 t).1 (ix2 0 j)
    | ⟨1, _⟩ => exact Window.rect_emb_val_of_index_zero win0_8 t 1 (index_8 t).2 (ix2 0 j)
  show V m c main_v3 (((cfg0.win 8).rect t).emb (ix2 0 j)) = _
  rw [e]
  entry_read
  pointwise

/-- A head of a row of the tile is that head of its token. -/
theorem tileHead_eq (c : Dev nD) (t : Fin cfg0.N) (p : Fin 512) :
    tileHead (grid0.coords t) (iblk m c 0 t) (iblk m c 1 t) p = Cert.Reference6Ideal.OutB.headRow (m (c.tc.loc main_arg0)) (m (c.tc.loc main_arg1)) (tok t p) := by
  funext h q
  unfold tileHead Cert.Reference6Ideal.OutB.headRow Cert.Reference6Ideal.OutB.dirRow
  rw [coord_0 t]
  by_cases ht : t.val < 8
  · have hT : (tok t p).val < 4096 := by show 512 * t.val + p.val < 4096; omega
    rw [if_pos ht, dif_pos hT, dif_pos hT, iblk_0 m c t ht, iblk_0 m c t ht]
  · have hT : ¬ (tok t p).val < 4096 := by show ¬ (512 * t.val + p.val < 4096); omega
    rw [if_neg ht, dif_neg hT, dif_neg hT, iblk_1 m c t ht, iblk_1 m c t ht]

/-- The reference's result at the arguments. -/
abbrev outVal (c : Dev nD) : Vec Ideal S20480x1024 .f32 :=
  Cert.Reference6Ideal.Read.val_main_v56 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8))

/-- What a point writes back is its block of the reference's result. -/
theorem flushed_9 (c : Dev nD) (t : Fin cfg0.N) :
    (dats m 0 c).flushed 9 t = ((cfg0.win 9).blk t).view.read (Elt Ideal) (outVal m c) := by
  rw [flushed9]
  funext (y : S512x1024.Idx)
  obtain ⟨p, n, rfl⟩ : ∃ (p : Fin 512) (n : Fin 1024), y = ix2 p n := ⟨y 0, y 1, by funext a; fin_cases a <;> rfl⟩
  have hemb : ((cfg0.win 9).rect t).emb (ix2 p n) = ix2 (tok t p) n := by
    refine funext fun a => Fin.ext ?_
    match a with
    | ⟨0, _⟩ => exact (Window.rect_emb_val win0_9 t (ix2 p n) 0).trans (by rw [(index_9 t).1]; show t.val * 512 + p.val = 512 * t.val + p.val; omega)
    | ⟨1, _⟩ => exact Window.rect_emb_val_of_index_zero win0_9 t 1 (index_9 t).2 (ix2 p n)
  show out0_9 (F := Ideal) (grid0.coords t) (iblk m c 0 t) (iblk m c 1 t) (iblk m c 2 t) (iblk m c 3 t) (iblk m c 4 t) (iblk m c 5 t) (iblk m c 6 t) (iblk m c 7 t) (iblk m c 8 t) (ix2 p n) = outVal m c (((cfg0.win 9).rect t).emb (ix2 p n))
  rw [hemb]
  refine (out9_apply _ _ _ _ _ _ _ _ _ _ p n).trans (Eq.trans ?_ (Cert.Reference6Ideal.OutB.out_apply _ _ _ _ _ _ _ _ _ (tok t p) n).symm)
  rw [tileHead_eq]
  simp only [iblk_2, iblk_3, iblk_4, iblk_5, iblk_6 m c t p, iblk_7, iblk_8]

/-- The points' blocks cover the result. -/
theorem cover_9 (i : S20480x1024.Idx) : ∃ t : Fin cfg0.N, (cfg0.win 9).flush t = true ∧ i ∈ ((cfg0.win 9).blk t).view.set := by
  have h0 : (i 0 : Nat) < 20480 := (i 0).isLt
  have h1 : (i 1 : Nat) < 1024 := (i 1).isLt
  have hN : cfg0.N = 40 := N_0
  have key : ∀ t : Fin cfg0.N, t.val = (i 0 : Nat) / 512 → i ∈ ((cfg0.win 9).blk t).view.set := fun t h => by
    show i ∈ ((View.whole main_v4).slice (win0_9.rect t)).set
    rw [View.set_slice_whole, Rect.mem_set_unit]
    intro a
    match a with
    | ⟨0, _⟩ =>
      show win0_9.index t 0 * 512 ≤ (i 0 : Nat) ∧ (i 0 : Nat) < win0_9.index t 0 * 512 + 512
      rw [(index_9 t).1]; omega
    | ⟨1, _⟩ =>
      show win0_9.index t 1 * 1024 ≤ (i 1 : Nat) ∧ (i 1 : Nat) < win0_9.index t 1 * 1024 + 1024
      rw [(index_9 t).2]; omega
  exact ⟨⟨(i 0 : Nat) / 512, by omega⟩, flush0_9 _, key _ rfl⟩

theorem final_9 (c : Dev nD) : (dats m 0 c).arrAt 9 cfg0.N = outVal m c :=
  (dats m 0 c).arrAt_eq_of_cover 9 (outVal m c) (fun t _ => flushed_9 m c t) cover_9

end Cert.Kernel6Ideal.OutB

end
-- ==== Proof.OutATile.lean ====
/- The block one grid point of the first layer's output projection leaves, over the extended reals, read at an index. -/
module

public import proofs.«01_k».proof.Proof.Gen.Kernel7Ideal.Frame
public import proofs.«01_k».proof.Proof.OutRow
public import Idealize.ShloMosaic.Lib.Pipeline.Value
public import Idealize.ShloMosaic.Lib.Pointwise

@[expose] public section

set_option maxRecDepth 16384

noncomputable section

namespace Cert.Kernel7Ideal.OutA

open Cert.Kernel7Ideal Cert.Kernel7Ideal.Gen
open Idealize.ShloMosaic Idealize.ShloMosaic.TcCoe

theorem zero2 : (![0, 0] : Fin 2 → Nat) = fun _ => 0 := by funext a; fin_cases a <;> rfl

theorem select_lt8 {α : Type} (n : ℕ) (hn : n < 40) (A B : α) :
    Scalar.select (Scalar.cmpi .slt (BitVec.ofNat 32 n) 8#32) A B = if n < 8 then A else B := by
  interval_cases n <;> rfl

/-- The sum of the two directions of the tile: of the prompt in the first 8 points, then of the samples. -/
def tileSum (i : grid0.Coords) (x0 x1 : Vec Ideal S2x512x1024 .bf16) (p : Fin 512) (k : Fin 1024) : EReal :=
  if (i 0).val < 8 then x0 (ix3 0 p k) + x0 (ix3 1 p k) else x1 (ix3 0 p k) + x1 (ix3 1 p k)

/-- A head of a row of the tile. -/
def tileHead (i : grid0.Coords) (x0 x1 : Vec Ideal S2x512x1024 .bf16) (p : Fin 512) (h : Fin 4) (q : Fin 256) : EReal :=
  tileSum i x0 x1 p ⟨256 * h.val + q.val, by omega⟩

/-- A row of the tile's tokens: of the prompt, or of a sample with its place's embedding. -/
def tileRow (i : grid0.Coords) (x5 x6 x7 : Vec Ideal S512x1024 .f32) (p : Fin 512) (k : Fin 1024) : EReal :=
  if (i 0).val < 8 then x5 (ix2 p k) else x6 (ix2 p k) + x7 (ix2 p k)

theorem sum_apply (i : grid0.Coords) (x0 x1 : Vec Ideal S2x512x1024 .bf16) (p : Fin 512) (k : Fin 1024) :
    k0_pay3 (F := Ideal) i (View.ld x0 r0_1) (View.ld x0 r0_2) (View.ld x1 r0_1) (View.ld x1 r0_2) (ix2 p k) = tileSum i x0 x1 p k := by
  unfold k0_pay3 tileSum
  dsimp only
  rw [select_lt8 _ (i 0).isLt]
  by_cases h : (i 0).val < 8
  · rw [if_pos h, if_pos h]
    pointwise
  · rw [if_neg h, if_neg h]
    pointwise

theorem row_apply (i : grid0.Coords) (a b c : Vec Ideal S512x1024 .f32) (p : Fin 512) (k : Fin 1024) :
    k0_pay2 (F := Ideal) i a b c (ix2 p k) = tileRow i a b c p k := by
  unfold k0_pay2 tileRow
  dsimp only
  rw [select_lt8 _ (i 0).isLt]
  by_cases h : (i 0).val < 8
  · rw [if_pos h, if_pos h]
  · rw [if_neg h, if_neg h]
    pointwise

/-- A head's rows, each less its mean and over its deviation. -/
def norm256 (z : FVec Ideal S512x256 .f32) : FVec Ideal S512x256 .f32 :=
  have v74 : FVec Ideal S512 .f32 := multiReduction .add [1] S512 z 0x00000000#32 reduces_S512x256_S512 (.inl rfl) rfl
  have v75 : FVec Ideal S512x1 .f32 := shapeCast S512x1 v74 shapeCasts_S512_S512x1
  have cst_32 : Ideal .f32 := Scalar.ofBits .f32 0x43800000#32
  have v76 : FVec Ideal S512x1 .f32 := broadcast S512x1 cst_32
  have v77 : FVec Ideal S512x1 .f32 := divf v75 v76
  have v78 : FVec Ideal S512x256 .f32 := broadcastTo S512x256 v77 broadcasts_S512x1_S512x256
  have v79 : FVec Ideal S512x256 .f32 := subf z v78
  have v80 : FVec Ideal S512x256 .f32 := mulf v79 v79
  have v81 : FVec Ideal S512 .f32 := multiReduction .add [1] S512 v80 0x00000000#32 reduces_S512x256_S512 (.inl rfl) rfl
  have v82 : FVec Ideal S512x1 .f32 := shapeCast S512x1 v81 shapeCasts_S512_S512x1
  have cst_34 : Ideal .f32 := Scalar.ofBits .f32 0x43800000#32
  have v83 : FVec Ideal S512x1 .f32 := broadcast S512x1 cst_34
  have v84 : FVec Ideal S512x1 .f32 := divf v82 v83
  have cst_35 : Ideal .f32 := Scalar.ofBits .f32 0x358637BD#32
  have v85 : FVec Ideal S512x1 .f32 := broadcast S512x1 cst_35
  have v86 : FVec Ideal S512x1 .f32 := addf v84 v85
  have v87 : FVec Ideal S512x1 .f32 := rsqrt v86
  have v88 : FVec Ideal S512x256 .f32 := broadcastTo S512x256 v87 broadcasts_S512x1_S512x256
  mulf v79 v88

theorem norm256_apply (z : FVec Ideal S512x256 .f32) (p : Fin 512) (q : Fin 256) :
    norm256 z (ix2 p q) = Cert.OutRow.std (fun k => z (ix2 p k)) q := by
  pointwise [norm256]
  rfl

/-- Head 0 of the tile. -/
def slice_0 (v : FVec Ideal S512x1024 .f32) : FVec Ideal S512x256 .f32 := extractStridedSlice S512x256 ![0, 0] v slices_S512x1024_o0_0_S512x256

theorem slice_0_apply (v : FVec Ideal S512x1024 .f32) (p : Fin 512) (q : Fin 256) :
    slice_0 v (ix2 p q) = v (ix2 p (⟨0 + q.val, by omega⟩ : Fin 1024)) := by
  unfold slice_0
  pointwise
  try exact congrArg v (congrArg (ix2 p) (Fin.ext (by dsimp only; omega)))

/-- Head 1 of the tile. -/
def slice_1 (v : FVec Ideal S512x1024 .f32) : FVec Ideal S512x256 .f32 := extractStridedSlice S512x256 ![0, 256] v slices_S512x1024_o0_256_S512x256

theorem slice_1_apply (v : FVec Ideal S512x1024 .f32) (p : Fin 512) (q : Fin 256) :
    slice_1 v (ix2 p q) = v (ix2 p (⟨256 + q.val, by omega⟩ : Fin 1024)) := by
  unfold slice_1
  pointwise
  try exact congrArg v (congrArg (ix2 p) (Fin.ext (by dsimp only; omega)))

/-- Head 2 of the tile. -/
def slice_2 (v : FVec Ideal S512x1024 .f32) : FVec Ideal S512x256 .f32 := extractStridedSlice S512x256 ![0, 512] v slices_S512x1024_o0_512_S512x256

theorem slice_2_apply (v : FVec Ideal S512x1024 .f32) (p : Fin 512) (q : Fin 256) :
    slice_2 v (ix2 p q) = v (ix2 p (⟨512 + q.val, by omega⟩ : Fin 1024)) := by
  unfold slice_2
  pointwise
  try exact congrArg v (congrArg (ix2 p) (Fin.ext (by dsimp only; omega)))

/-- Head 3 of the tile. -/
def slice_3 (v : FVec Ideal S512x1024 .f32) : FVec Ideal S512x256 .f32 := extractStridedSlice S512x256 ![0, 768] v slices_S512x1024_o0_768_S512x256

theorem slice_3_apply (v : FVec Ideal S512x1024 .f32) (p : Fin 512) (q : Fin 256) :
    slice_3 v (ix2 p q) = v (ix2 p (⟨768 + q.val, by omega⟩ : Fin 1024)) := by
  unfold slice_3
  pointwise
  try exact congrArg v (congrArg (ix2 p) (Fin.ext (by dsimp only; omega)))

/-- Four heads side by side. -/
def cat (v0 v1 v2 v3 : FVec Ideal S512x256 .f32) : FVec Ideal S512x1024 .f32 :=
  concatenate S512x1024 1 [⟨S512x256, v0⟩, ⟨S512x256, v1⟩, ⟨S512x256, v2⟩, ⟨S512x256, v3⟩] concatenates_S512x256_S512x256_S512x256_S512x256_S512x1024_d1

theorem cat_apply (v0 v1 v2 v3 : FVec Ideal S512x256 .f32) (p : Fin 512) (k : Fin 1024) :
    cat v0 v1 v2 v3 (ix2 p k) = (![v0, v1, v2, v3] : Fin 4 → FVec Ideal S512x256 .f32) ⟨k.val / 256, by omega⟩ (ix2 p ⟨k.val % 256, by omega⟩) := by
  obtain ⟨h, q, rfl⟩ : ∃ (h : Fin 4) (q : Fin 256), k = ⟨256 * h.val + q.val, by omega⟩ := ⟨⟨k.val / 256, by omega⟩, ⟨k.val % 256, by omega⟩, Fin.ext (by show k.val = 256 * (k.val / 256) + k.val % 256; omega)⟩
  have e1 : (⟨(256 * h.val + q.val) / 256, by omega⟩ : Fin 4) = h := Fin.ext (by show (256 * h.val + q.val) / 256 = h.val; omega)
  have e2 : (⟨(256 * h.val + q.val) % 256, by omega⟩ : Fin 256) = q := Fin.ext (by show (256 * h.val + q.val) % 256 = q.val; omega)
  simp only [e1, e2]
  unfold cat
  pointwise
  obtain ⟨h, hh⟩ := h
  dsimp only
  have hq := q.isLt
  interval_cases h
  · rw [dif_pos (by omega)]
    exact congrArg v0 (congrArg (ix2 p) (Fin.ext (by dsimp only; omega)))
  · rw [dif_neg (by omega), dif_pos (by omega)]
    exact congrArg v1 (congrArg (ix2 p) (Fin.ext (by dsimp only; omega)))
  · rw [dif_neg (by omega), dif_neg (by omega), dif_pos (by omega)]
    exact congrArg v2 (congrArg (ix2 p) (Fin.ext (by dsimp only; omega)))
  · rw [dif_neg (by omega), dif_neg (by omega), dif_neg (by omega)]
    exact congrArg v3 (congrArg (ix2 p) (Fin.ext (by dsimp only; omega)))

/-- The centred residual, from the heads side by side. -/
def rest (v6 : Vec Ideal S512x1024 .f32) (v90 : FVec Ideal S512x1024 .f32) (v91 : Vec Ideal S1x1024 .f32) (v95 : Vec Ideal S512x1024 .bf16) (v99 : Vec Ideal S1024x1024 .bf16) (v104 : Vec Ideal S1x1x1024 .f32) : FVec Ideal S512x1024 .f32 :=
  have v92 : FVec Ideal S1x1024 .f32 := shapeCast S1x1024 v91 shapeCasts_S1x1024_S1x1024
  have v93 : FVec Ideal S512x1024 .f32 := broadcastTo S512x1024 v92 broadcasts_S1x1024_S512x1024
  have v94 : FVec Ideal S512x1024 .f32 := mulf v90 v93
  have v96 : FVec Ideal S512x1024 .f32 := extf .f32 v95 bitsLt_bf16_f32
  have v97 : FVec Ideal S512x1024 .f32 := mulf v94 v96
  have v98 : FVec Ideal S512x1024 .bf16 := truncf .bf16 v97 bitsLt_bf16_f32
  have v100 : FVec Ideal S1024x1024 .bf16 := shapeCast S1024x1024 v99 shapeCasts_S1024x1024_S1024x1024
  have cst_42 : FVec Ideal S512x1024 .f32 := constant S512x1024 .f32 0x00000000#32
  have v101 : FVec Ideal S512x1024 .f32 := matmul dot_S512x1024_S1024x1024_S512x1024_1_0_0_1_n_n none v98 v100 cst_42
  have cst_43 : Ideal .f32 := Scalar.ofBits .f32 0x3FB504F3#32
  have v102 : FVec Ideal S512x1024 .f32 := broadcast S512x1024 cst_43
  have v103 : FVec Ideal S512x1024 .f32 := mulf v102 v6
  have v105 : FVec Ideal S1x1024 .f32 := shapeCast S1x1024 v104 shapeCasts_S1x1x1024_S1x1024
  have v106 : FVec Ideal S512x1024 .f32 := broadcastTo S512x1024 v105 broadcasts_S1x1024_S512x1024
  have v107 : FVec Ideal S512x1024 .f32 := mulf v106 v101
  have v108 : FVec Ideal S512x1024 .f32 := addf v103 v107
  have v113 : FVec Ideal S512 .f32 := multiReduction .add [1] S512 v108 0x00000000#32 reduces_S512x1024_S512 (.inl rfl) rfl
  have v114 : FVec Ideal S512x1 .f32 := shapeCast S512x1 v113 shapeCasts_S512_S512x1
  have cst_51 : Ideal .f32 := Scalar.ofBits .f32 0x44800000#32
  have v115 : FVec Ideal S512x1 .f32 := broadcast S512x1 cst_51
  have v116 : FVec Ideal S512x1 .f32 := divf v114 v115
  have v117 : FVec Ideal S512x1024 .f32 := broadcastTo S512x1024 v116 broadcasts_S512x1_S512x1024
  have v118 : FVec Ideal S512x1024 .f32 := subf v108 v117
  v118

/-- The sum of its rows' squares. -/
def squares (v : FVec Ideal S512x1024 .f32) : FVec Ideal S512 .f32 :=
  multiReduction .add [1] S512 (mulf v v) 0x00000000#32 reduces_S512x1024_S512 (.inl rfl) rfl

theorem pay1_apply (v6 : Vec Ideal S512x1024 .f32) (v : FVec Ideal S512x1024 .f32) (x3 : Vec Ideal S1x1024 .f32) (x2 : Vec Ideal S512x1024 .bf16) (x4 : Vec Ideal S1024x1024 .bf16) (g : Vec Ideal S1x1x1024 .f32) (x9 x10 : Vec Ideal S1x1024 .f32) (p : Fin 512) (j : Fin 1024) :
    k0_pay1 (F := Ideal) (k0_pay11 x9) (k0_pay12 x10) (rest v6 v x3 x2 x4 g) (squares (rest v6 v x3 x2 x4 g)) (ix2 p j)
      = Cert.OutRow.out (fun k => v (ix2 p k)) (fun k => x3 (ix2 0 k)) (fun k => x2 (ix2 p k)) (fun k n => x4 (ix2 k n)) (fun k => v6 (ix2 p k)) (fun k => g (ix3 0 0 k)) (fun k => x9 (ix2 0 k)) (fun k => x10 (ix2 0 k)) j := by
  pointwise [k0_pay1, k0_pay11, k0_pay12, squares, rest]
  rfl

/-- What the body leaves, at an index. -/
theorem out11_apply (i : grid0.Coords) (x0 x1 : Vec Ideal S2x512x1024 .bf16) (x2 : Vec Ideal S512x1024 .bf16) (x3 : Vec Ideal S1x1024 .f32) (x4 : Vec Ideal S1024x1024 .bf16) (x5 x6 x7 : Vec Ideal S512x1024 .f32) (x8 : Vec Ideal S1x6x1024 .f32) (x9 x10 : Vec Ideal S1x1024 .f32) (p : Fin 512) (j : Fin 1024) :
    out0_11 (F := Ideal) i x0 x1 x2 x3 x4 x5 x6 x7 x8 x9 x10 (ix2 p j)
      = Cert.OutRow.out (Cert.OutRow.stdRow (tileHead i x0 x1 p)) (fun k => x3 (ix2 0 k)) (fun k => x2 (ix2 p k)) (fun k n => x4 (ix2 k n)) (tileRow i x5 x6 x7 p) (fun k => x8 (ix3 0 2 k)) (fun k => x9 (ix2 0 k)) (fun k => x10 (ix2 0 k)) j := by
  unfold out0_11
  rw [View.canon_unit_zero zero2]
  refine Eq.trans (b := k0_pay1 (F := Ideal) (k0_pay11 (View.ld x9 r0_3)) (k0_pay12 (View.ld x10 r0_3))
      (rest (k0_pay2 i (View.ld x5 r0_0) (View.ld x6 r0_0) (View.ld x7 r0_0)) (cat (norm256 (slice_0 (k0_pay3 i (View.ld x0 r0_1) (View.ld x0 r0_2) (View.ld x1 r0_1) (View.ld x1 r0_2)))) (norm256 (slice_1 (k0_pay3 i (View.ld x0 r0_1) (View.ld x0 r0_2) (View.ld x1 r0_1) (View.ld x1 r0_2)))) (norm256 (slice_2 (k0_pay3 i (View.ld x0 r0_1) (View.ld x0 r0_2) (View.ld x1 r0_1) (View.ld x1 r0_2)))) (norm256 (slice_3 (k0_pay3 i (View.ld x0 r0_1) (View.ld x0 r0_2) (View.ld x1 r0_1) (View.ld x1 r0_2))))) (View.ld x3 r0_3) (View.ld x2 r0_0) (View.ld x4 r0_4) (View.ld x8 r0_5))
      (squares (rest (k0_pay2 i (View.ld x5 r0_0) (View.ld x6 r0_0) (View.ld x7 r0_0)) (cat (norm256 (slice_0 (k0_pay3 i (View.ld x0 r0_1) (View.ld x0 r0_2) (View.ld x1 r0_1) (View.ld x1 r0_2)))) (norm256 (slice_1 (k0_pay3 i (View.ld x0 r0_1) (View.ld x0 r0_2) (View.ld x1 r0_1) (View.ld x1 r0_2)))) (norm256 (slice_2 (k0_pay3 i (View.ld x0 r0_1) (View.ld x0 r0_2) (View.ld x1 r0_1) (View.ld x1 r0_2)))) (norm256 (slice_3 (k0_pay3 i (View.ld x0 r0_1) (View.ld x0 r0_2) (View.ld x1 r0_1) (View.ld x1 r0_2))))) (View.ld x3 r0_3) (View.ld x2 r0_0) (View.ld x4 r0_4) (View.ld x8 r0_5))) (ix2 p j)) rfl ?_
  have hs : ∀ (p : Fin 512) (k : Fin 1024), k0_pay3 (F := Ideal) i (View.ld x0 r0_1) (View.ld x0 r0_2) (View.ld x1 r0_1) (View.ld x1 r0_2) (ix2 p k) = tileSum i x0 x1 p k := sum_apply i x0 x1
  generalize k0_pay3 (F := Ideal) i (View.ld x0 r0_1) (View.ld x0 r0_2) (View.ld x1 r0_1) (View.ld x1 r0_2) = v at hs ⊢
  have h2 : View.ld x2 r0_0 = x2 := View.ld_unit_zero zero2 _ x2
  have h3 : View.ld x3 r0_3 = x3 := View.ld_unit_zero zero2 _ x3
  have h4 : View.ld x4 r0_4 = x4 := View.ld_unit_zero zero2 _ x4
  have h5 : View.ld x5 r0_0 = x5 := View.ld_unit_zero zero2 _ x5
  have h6 : View.ld x6 r0_0 = x6 := View.ld_unit_zero zero2 _ x6
  have h7 : View.ld x7 r0_0 = x7 := View.ld_unit_zero zero2 _ x7
  have h9 : View.ld x9 r0_3 = x9 := View.ld_unit_zero zero2 _ x9
  have h10 : View.ld x10 r0_3 = x10 := View.ld_unit_zero zero2 _ x10
  rw [h2, h3, h4, h5, h6, h7, h9, h10, pay1_apply]
  have hg : (fun k : Fin 1024 => View.ld x8 r0_5 (ix3 0 0 k)) = fun k => x8 (ix3 0 2 k) := funext fun k => by pointwise
  have hr : (fun k : Fin 1024 => k0_pay2 (F := Ideal) i x5 x6 x7 (ix2 p k)) = tileRow i x5 x6 x7 p := funext fun k => row_apply i x5 x6 x7 p k
  rw [hg, hr]
  refine congrArg (fun y => Cert.OutRow.out y _ _ _ _ _ _ _ j) (funext fun k => ?_)
  rw [cat_apply]
  unfold Cert.OutRow.stdRow
  generalize (⟨k.val / 256, _⟩ : Fin 4) = h
  generalize (⟨k.val % 256, _⟩ : Fin 256) = q
  match h with
  | 0 => exact (norm256_apply (slice_0 v) p q).trans (congrArg (Cert.OutRow.std · q) (funext fun k => (slice_0_apply v p k).trans (hs p _)))
  | 1 => exact (norm256_apply (slice_1 v) p q).trans (congrArg (Cert.OutRow.std · q) (funext fun k => (slice_1_apply v p k).trans (hs p _)))
  | 2 => exact (norm256_apply (slice_2 v) p q).trans (congrArg (Cert.OutRow.std · q) (funext fun k => (slice_2_apply v p k).trans (hs p _)))
  | 3 => exact (norm256_apply (slice_3 v) p q).trans (congrArg (Cert.OutRow.std · q) (funext fun k => (slice_3_apply v p k).trans (hs p _)))

end Cert.Kernel7Ideal.OutA

end
-- ==== Proof.OutARef.lean ====
/- The reference's first output projection at an index. -/
module

public import proofs.«01_k».proof.Proof.Gen.Reference7Ideal.Read
public import proofs.«01_k».proof.Proof.OutRow
public import Idealize.ShloMosaic.Lib.Pointwise

@[expose] public section

set_option maxRecDepth 16384

noncomputable section

namespace Cert.Reference7Ideal.OutA

open Cert.Reference7Ideal Cert.Reference7Ideal.Gen Cert.Reference7Ideal.Read
open Idealize.ShloMosaic

/-- A direction at a token: of the prompt's scan, then of the samples'. -/
def dirRow (x0 : Vec Ideal S2x4096x1024 .bf16) (x1 : Vec Ideal S2x16384x1024 .bf16) (d : Fin 2) (t : Fin 20480) (k : Fin 1024) : EReal :=
  if ht : t.val < 4096 then x0 (ix3 d ⟨t.val, ht⟩ k) else x1 (ix3 d ⟨t.val - 4096, by omega⟩ k)

/-- A head at a token: the sum of the two directions. -/
def headRow (x0 : Vec Ideal S2x4096x1024 .bf16) (x1 : Vec Ideal S2x16384x1024 .bf16) (t : Fin 20480) (h : Fin 4) (q : Fin 256) : EReal :=
  dirRow x0 x1 0 t ⟨256 * h.val + q.val, by omega⟩ + dirRow x0 x1 1 t ⟨256 * h.val + q.val, by omega⟩

/-- A token: of the prompt, or of a sample with its place's embedding. -/
def tokenRow (x5 : Vec Ideal S4096x1024 .f32) (x6 : Vec Ideal S16384x1024 .f32) (x7 : Vec Ideal S4096x1024 .f32) (t : Fin 20480) (k : Fin 1024) : EReal :=
  if ht : t.val < 4096 then x5 (ix2 ⟨t.val, ht⟩ k) else x6 (ix2 ⟨t.val - 4096, by omega⟩ k) + x7 (ix2 ⟨t.val % 4096, by omega⟩ k)

theorem at_2 (d : Fin 2) (h : Fin 4) (t : Fin 20480) (q : Fin 256) : idx_main_v2 (ix4 d t h q) = ix3 d t (⟨256 * h.val + q.val, by omega⟩ : Fin 1024) := by
  refine funext fun a => Fin.ext ?_
  match a with
  | ⟨0, _⟩ => show (((d.val * 20480 + t.val) * 4 + h.val) * 256 + q.val) / 20971520 = d.val; omega
  | ⟨1, _⟩ => show (((d.val * 20480 + t.val) * 4 + h.val) * 256 + q.val) / 1024 % 20480 = t.val; omega
  | ⟨2, _⟩ => show (((d.val * 20480 + t.val) * 4 + h.val) * 256 + q.val) % 1024 = 256 * h.val + q.val; omega

theorem at_3 (d : Fin 2) (h : Fin 4) (t : Fin 20480) (q : Fin 256) : idx_main_v3 (ix4 d h t q) = ix4 d t h q := by
  refine funext fun a => Fin.ext ?_
  match a with
  | ⟨0, _⟩ => rfl
  | ⟨1, _⟩ => rfl
  | ⟨2, _⟩ => rfl
  | ⟨3, _⟩ => rfl

theorem at_4 (h : Fin 4) (t : Fin 20480) (q : Fin 256) : idx_main_v4 (ix4 (0 : Fin 1) h t q) = ix4 (0 : Fin 2) h t q := by
  refine funext fun a => Fin.ext ?_
  match a with
  | ⟨0, _⟩ => rfl
  | ⟨1, _⟩ => rfl
  | ⟨2, _⟩ => rfl
  | ⟨3, _⟩ => rfl

theorem at_6 (h : Fin 4) (t : Fin 20480) (q : Fin 256) : idx_main_v6 (ix4 (0 : Fin 1) h t q) = ix4 (1 : Fin 2) h t q := by
  refine funext fun a => Fin.ext ?_
  match a with
  | ⟨0, _⟩ => rfl
  | ⟨1, _⟩ => rfl
  | ⟨2, _⟩ => rfl
  | ⟨3, _⟩ => rfl

theorem at_5 (h : Fin 4) (t : Fin 20480) (q : Fin 256) : idx_main_v5 (ix3 h t q) = ix4 (0 : Fin 1) h t q := by
  refine funext fun a => Fin.ext ?_
  match a with
  | ⟨0, _⟩ => rfl
  | ⟨1, _⟩ => show ((h.val * 20480 + t.val) * 256 + q.val) / 5242880 % 4 = h.val; omega
  | ⟨2, _⟩ => show ((h.val * 20480 + t.val) * 256 + q.val) / 256 % 20480 = t.val; omega
  | ⟨3, _⟩ => show ((h.val * 20480 + t.val) * 256 + q.val) % 256 = q.val; omega

theorem at_7 (h : Fin 4) (t : Fin 20480) (q : Fin 256) : idx_main_v7 (ix3 h t q) = ix4 (0 : Fin 1) h t q := by
  refine funext fun a => Fin.ext ?_
  match a with
  | ⟨0, _⟩ => rfl
  | ⟨1, _⟩ => show ((h.val * 20480 + t.val) * 256 + q.val) / 5242880 % 4 = h.val; omega
  | ⟨2, _⟩ => show ((h.val * 20480 + t.val) * 256 + q.val) / 256 % 20480 = t.val; omega
  | ⟨3, _⟩ => show ((h.val * 20480 + t.val) * 256 + q.val) % 256 = q.val; omega

theorem at_9 (h : Fin 4) (t : Fin 20480) (k : Fin 256) : idx_main_v9 (idx_main_v10 (ix3 h t 0)) k = ix3 h t k := by
  refine funext fun a => Fin.ext ?_
  match a with
  | ⟨0, _⟩ => rfl
  | ⟨1, _⟩ => rfl
  | ⟨2, _⟩ => rfl

theorem at_13 (h : Fin 4) (t : Fin 20480) (k : Fin 256) : idx_main_v13 (ix3 h t k) = ix3 h t 0 := by
  refine funext fun a => Fin.ext ?_
  match a with
  | ⟨0, _⟩ => rfl
  | ⟨1, _⟩ => rfl
  | ⟨2, _⟩ => rfl

theorem at_16 (h : Fin 4) (t : Fin 20480) (k : Fin 256) : idx_main_v16 (idx_main_v17 (ix3 h t 0)) k = ix3 h t k := by
  refine funext fun a => Fin.ext ?_
  match a with
  | ⟨0, _⟩ => rfl
  | ⟨1, _⟩ => rfl
  | ⟨2, _⟩ => rfl

theorem at_20 (h : Fin 4) (t : Fin 20480) (k : Fin 256) : idx_main_v20 (ix3 h t k) = ix3 h t 0 := by
  refine funext fun a => Fin.ext ?_
  match a with
  | ⟨0, _⟩ => rfl
  | ⟨1, _⟩ => rfl
  | ⟨2, _⟩ => rfl

theorem at_25 (h : Fin 4) (t : Fin 20480) (k : Fin 256) : idx_main_v25 (ix3 h t k) = ix3 h t 0 := by
  refine funext fun a => Fin.ext ?_
  match a with
  | ⟨0, _⟩ => rfl
  | ⟨1, _⟩ => rfl
  | ⟨2, _⟩ => rfl

theorem at_28 (t : Fin 20480) (k : Fin 1024) : idx_main_v27 (idx_main_v28 (ix2 t k)) = ix3 (⟨k.val / 256, by omega⟩ : Fin 4) t (⟨k.val % 256, by omega⟩ : Fin 256) := by
  refine funext fun a => Fin.ext ?_
  match a with
  | ⟨0, _⟩ => show (t.val * 1024 + k.val) / 256 % 4 = k.val / 256; omega
  | ⟨1, _⟩ => show (t.val * 1024 + k.val) / 1024 = t.val; omega
  | ⟨2, _⟩ => show (t.val * 1024 + k.val) % 256 = k.val % 256; omega

theorem at_30 (t : Fin 20480) (k : Fin 1024) : idx_main_v29 (idx_main_v30 (ix2 t k)) = ix1 k := by
  refine funext fun a => Fin.ext ?_
  match a with
  | ⟨0, _⟩ => rfl

theorem at_34 (t : Fin 16384) (k : Fin 1024) : idx_main_v34 (idx_main_v38 (ix2 t k)) = ix2 t k := by
  refine funext fun a => Fin.ext ?_
  match a with
  | ⟨0, _⟩ => show (((t.val * 1024 + k.val) / 4194304 * 4096 + (t.val * 1024 + k.val) / 1024 % 4096) * 1024 + (t.val * 1024 + k.val) % 1024) / 1024 = t.val; omega
  | ⟨1, _⟩ => show (((t.val * 1024 + k.val) / 4194304 * 4096 + (t.val * 1024 + k.val) / 1024 % 4096) * 1024 + (t.val * 1024 + k.val) % 1024) % 1024 = k.val; omega

theorem at_35 (t : Fin 16384) (k : Fin 1024) : idx_main_v35 (idx_main_v36 (idx_main_v38 (ix2 t k))) = ix2 (⟨t.val % 4096, by omega⟩ : Fin 4096) k := by
  refine funext fun a => Fin.ext ?_
  match a with
  | ⟨0, _⟩ => show (t.val * 1024 + k.val) / 1024 % 4096 = t.val % 4096; omega
  | ⟨1, _⟩ => show (t.val * 1024 + k.val) % 1024 = k.val; omega

theorem at_40 (t : Fin 20480) (k : Fin 1024) : idx_main_v40 (idx_main_v41 (idx_main_v42 (idx_main_v43 (ix2 t k)))) = ix3 (⟨t.val / 4096, by omega⟩ : Fin 8) (2 : Fin 6) k := by
  refine funext fun a => Fin.ext ?_
  match a with
  | ⟨0, _⟩ => show ((t.val * 1024 + k.val) / 4194304 * 1024 + (t.val * 1024 + k.val) % 1024) / 1024 = t.val / 4096; omega
  | ⟨1, _⟩ => rfl
  | ⟨2, _⟩ => show ((t.val * 1024 + k.val) / 4194304 * 1024 + (t.val * 1024 + k.val) % 1024) % 1024 = k.val; omega

theorem at_46 (t : Fin 20480) (j k : Fin 1024) : lidx_main_v46 (ix2 t j) k = ix2 t k := by
  refine funext fun a => Fin.ext ?_
  match a with
  | ⟨0, _⟩ => rfl
  | ⟨1, _⟩ => rfl

theorem at_46r (t : Fin 20480) (j k : Fin 1024) : ridx_main_v46 (ix2 t j) k = ix2 k j := by
  refine funext fun a => Fin.ext ?_
  match a with
  | ⟨0, _⟩ => rfl
  | ⟨1, _⟩ => rfl

theorem v0_apply (x0 : Vec Ideal S2x4096x1024 .bf16) (x1 : Vec Ideal S2x16384x1024 .bf16) (d : Fin 2) (t : Fin 20480) (k : Fin 1024) :
    val_main_v0 (F := Ideal) x0 x1 (ix3 d t k) = dirRow x0 x1 d t k := by
  unfold val_main_v0 dirRow
  by_cases ht : t.val < 4096
  · rw [dif_pos ht]
    exact concatenate_pair_apply_left (t := S2x20480x1024) (s₁ := S2x4096x1024) (s₂ := S2x16384x1024) 1 x0 x1 concatenates_S2x4096x1024_S2x16384x1024_S2x20480x1024_d1 (ix3 d t k) rfl (ix3 d ⟨t.val, ht⟩ k)
      (fun b => match b with | ⟨0, _⟩ => rfl | ⟨1, _⟩ => rfl | ⟨2, _⟩ => rfl)
  · rw [dif_neg ht]
    exact concatenate_pair_apply_right (t := S2x20480x1024) (s₁ := S2x4096x1024) (s₂ := S2x16384x1024) 1 x0 x1 concatenates_S2x4096x1024_S2x16384x1024_S2x20480x1024_d1 (ix3 d t k) rfl rfl (ix3 d (⟨t.val - 4096, by omega⟩ : Fin 16384) k)
      (fun b hb => match b, hb with | ⟨0, _⟩, _ => rfl | ⟨1, _⟩, hb => absurd rfl hb | ⟨2, _⟩, _ => rfl) (by show t.val - 4096 + 4096 = t.val; omega)

theorem v8_apply (x0 : Vec Ideal S2x4096x1024 .bf16) (x1 : Vec Ideal S2x16384x1024 .bf16) (h : Fin 4) (t : Fin 20480) (q : Fin 256) :
    val_main_v8 (F := Ideal) x0 x1 (ix3 h t q) = headRow x0 x1 t h q := by
  rw [val_main_v8_apply, val_main_v7_apply, val_main_v6_apply, val_main_v5_apply, val_main_v4_apply, at_5, at_7, at_4, at_6, val_main_v3_apply,
    val_main_v3_apply, at_3, at_3, val_main_v2_apply, val_main_v2_apply, at_2, at_2, val_main_v1_apply, val_main_v1_apply, v0_apply, v0_apply]
  unfold headRow
  generalize dirRow x0 x1 0 t _ = a
  generalize dirRow x0 x1 1 t _ = b
  rfl

theorem v12_apply (x0 : Vec Ideal S2x4096x1024 .bf16) (x1 : Vec Ideal S2x16384x1024 .bf16) (h : Fin 4) (t : Fin 20480) :
    val_main_v12 (F := Ideal) x0 x1 (ix3 h t 0) = Cert.OutRow.mean (headRow x0 x1 t h) := by
  rw [val_main_v12_apply, val_main_v11_apply, val_main_v10_apply, val_main_v9_apply, val_main_cst_apply, val_main_cst_0_apply]
  have es : ∑ k : Fin 256, val_main_v8 (F := Ideal) x0 x1 (idx_main_v9 (idx_main_v10 (ix3 h t 0)) k) = ∑ k : Fin 256, headRow x0 x1 t h k :=
    Finset.sum_congr rfl fun k _ => (congrArg (val_main_v8 (F := Ideal) x0 x1) (at_9 h t k)).trans (v8_apply x0 x1 h t k)
  rw [es]
  generalize headRow x0 x1 t h = y
  refine congrArg (Ideal.div · _) ?_
  show Ideal.ofBits FTy.f32 0x00000000#32 + ∑ k, y k = ∑ k, y k
  rw [Ideal.ofBits_zero_f32, zero_add]

theorem v15_apply (x0 : Vec Ideal S2x4096x1024 .bf16) (x1 : Vec Ideal S2x16384x1024 .bf16) (h : Fin 4) (t : Fin 20480) (k : Fin 256) :
    val_main_v15 (F := Ideal) x0 x1 (ix3 h t k) = (headRow x0 x1 t h k - Cert.OutRow.mean (headRow x0 x1 t h)) * (headRow x0 x1 t h k - Cert.OutRow.mean (headRow x0 x1 t h)) := by
  rw [val_main_v15_apply, val_main_v14_apply, val_main_v13_apply, at_13, v12_apply, v8_apply]
  generalize headRow x0 x1 t h = y
  generalize Cert.OutRow.mean y = μ
  rfl

theorem v19_apply (x0 : Vec Ideal S2x4096x1024 .bf16) (x1 : Vec Ideal S2x16384x1024 .bf16) (h : Fin 4) (t : Fin 20480) :
    val_main_v19 (F := Ideal) x0 x1 (ix3 h t 0)
      = Cert.OutRow.mean (fun k => (headRow x0 x1 t h k - Cert.OutRow.mean (headRow x0 x1 t h)) * (headRow x0 x1 t h k - Cert.OutRow.mean (headRow x0 x1 t h))) := by
  rw [val_main_v19_apply, val_main_v18_apply, val_main_v17_apply, val_main_v16_apply, val_main_cst_1_apply, val_main_cst_2_apply]
  have es : ∑ k : Fin 256, val_main_v15 (F := Ideal) x0 x1 (idx_main_v16 (idx_main_v17 (ix3 h t 0)) k)
      = ∑ k : Fin 256, (headRow x0 x1 t h k - Cert.OutRow.mean (headRow x0 x1 t h)) * (headRow x0 x1 t h k - Cert.OutRow.mean (headRow x0 x1 t h)) :=
    Finset.sum_congr rfl fun k _ => (congrArg (val_main_v15 (F := Ideal) x0 x1) (at_16 h t k)).trans (v15_apply x0 x1 h t k)
  rw [es]
  generalize headRow x0 x1 t h = y
  refine congrArg (Ideal.div · _) ?_
  generalize Cert.OutRow.mean y = μ
  show Ideal.ofBits FTy.f32 0x00000000#32 + ∑ k, (y k - μ) * (y k - μ) = ∑ k, (y k - μ) * (y k - μ)
  rw [Ideal.ofBits_zero_f32, zero_add]

theorem v26_apply (x0 : Vec Ideal S2x4096x1024 .bf16) (x1 : Vec Ideal S2x16384x1024 .bf16) (h : Fin 4) (t : Fin 20480) (k : Fin 256) :
    val_main_v26 (F := Ideal) x0 x1 (ix3 h t k) = Cert.OutRow.std (headRow x0 x1 t h) k := by
  rw [val_main_v26_apply, val_main_v25_apply, val_main_v24_apply, val_main_v23_apply, val_main_v22_apply, val_main_v21_apply, val_main_v20_apply,
    val_main_cst_3_apply, at_20, at_25, v12_apply, v19_apply, v8_apply]
  unfold Cert.OutRow.std
  generalize headRow x0 x1 t h = y
  generalize Cert.OutRow.mean y = μ
  generalize Cert.OutRow.mean (fun k => (y k - μ) * (y k - μ)) = v
  rfl

theorem v28_apply (x0 : Vec Ideal S2x4096x1024 .bf16) (x1 : Vec Ideal S2x16384x1024 .bf16) (t : Fin 20480) (k : Fin 1024) :
    val_main_v28 (F := Ideal) x0 x1 (ix2 t k) = Cert.OutRow.stdRow (headRow x0 x1 t) k := by
  rw [val_main_v28_apply, val_main_v27_apply, at_28, v26_apply]
  rfl

theorem v33_apply (x0 : Vec Ideal S2x4096x1024 .bf16) (x1 : Vec Ideal S2x16384x1024 .bf16) (x2 : Vec Ideal S20480x1024 .bf16) (x3 : Vec Ideal S1024 .f32) (t : Fin 20480) (k : Fin 1024) :
    val_main_v33 (F := Ideal) x0 x1 x2 x3 (ix2 t k) = Cert.OutRow.stdRow (headRow x0 x1 t) k * x3 (ix1 k) * x2 (ix2 t k) := by
  rw [val_main_v33_apply, val_main_v32_apply, val_main_v31_apply, val_main_v30_apply, val_main_v29_apply, v28_apply, at_30]
  generalize Cert.OutRow.stdRow (headRow x0 x1 t) k = a
  rfl

theorem v38_apply (x6 : Vec Ideal S16384x1024 .f32) (x7 : Vec Ideal S4096x1024 .f32) (t : Fin 16384) (k : Fin 1024) :
    val_main_v38 (F := Ideal) x6 x7 (ix2 t k) = x6 (ix2 t k) + x7 (ix2 (⟨t.val % 4096, by omega⟩ : Fin 4096) k) := by
  rw [val_main_v38_apply, val_main_v37_apply, val_main_v36_apply, val_main_v35_apply, val_main_v34_apply, at_34, at_35]
  rfl

theorem v39_apply (x5 : Vec Ideal S4096x1024 .f32) (x6 : Vec Ideal S16384x1024 .f32) (x7 : Vec Ideal S4096x1024 .f32) (t : Fin 20480) (k : Fin 1024) :
    val_main_v39 (F := Ideal) x5 x6 x7 (ix2 t k) = tokenRow x5 x6 x7 t k := by
  unfold val_main_v39 tokenRow
  by_cases h : t.val < 4096
  · rw [dif_pos h]
    exact concatenate_pair_apply_left (t := S20480x1024) (s₁ := S4096x1024) (s₂ := S16384x1024) 0 x5 (val_main_v38 x6 x7) concatenates_S4096x1024_S16384x1024_S20480x1024_d0 (ix2 t k) rfl (ix2 ⟨t.val, h⟩ k)
      (fun b => match b with | ⟨0, _⟩ => rfl | ⟨1, _⟩ => rfl)
  · rw [dif_neg h]
    refine (concatenate_pair_apply_right (t := S20480x1024) (s₁ := S4096x1024) (s₂ := S16384x1024) 0 x5 (val_main_v38 x6 x7) concatenates_S4096x1024_S16384x1024_S20480x1024_d0 (ix2 t k) rfl rfl (ix2 (⟨t.val - 4096, by omega⟩ : Fin 16384) k)
      (fun b hb => match b, hb with | ⟨0, _⟩, hb => absurd rfl hb | ⟨1, _⟩, _ => rfl) (by show t.val - 4096 + 4096 = t.val; omega)).trans ?_
    rw [v38_apply]
    refine congrArg (_ + ·) (congrArg x7 (congrArg (fun r => ix2 r k) (Fin.ext ?_)))
    show (t.val - 4096) % 4096 = t.val % 4096
    omega

theorem v48_apply (x0 : Vec Ideal S2x4096x1024 .bf16) (x1 : Vec Ideal S2x16384x1024 .bf16) (x2 : Vec Ideal S20480x1024 .bf16) (x3 : Vec Ideal S1024 .f32) (x4 : Vec Ideal S1024x1024 .f32) (x5 : Vec Ideal S4096x1024 .f32) (x6 : Vec Ideal S16384x1024 .f32) (x7 : Vec Ideal S4096x1024 .f32) (x8 : Vec Ideal S8x6x1024 .f32) (t : Fin 20480) (j : Fin 1024) :
    val_main_v48 (F := Ideal) x0 x1 x2 x3 x4 x5 x6 x7 x8 (ix2 t j)
      = Cert.OutRow.resid (Cert.OutRow.stdRow (headRow x0 x1 t)) (fun k => x3 (ix1 k)) (fun k => x2 (ix2 t k)) (fun k n => x4 (ix2 k n)) (tokenRow x5 x6 x7 t) (fun k => x8 (ix3 (⟨t.val / 4096, by omega⟩ : Fin 8) 2 k)) j := by
  rw [val_main_v48_apply, val_main_v47_apply, val_main_v46_apply, val_main_v45_apply, val_main_v44_apply, val_main_v43_apply, val_main_v42_apply,
    val_main_v41_apply, val_main_v40_apply, val_main_cst_4_apply, at_40, v39_apply]
  have es : ∑ k : Fin 1024, val_main_v33 (F := Ideal) x0 x1 x2 x3 (lidx_main_v46 (ix2 t j) k) * x4 (ridx_main_v46 (ix2 t j) k)
      = ∑ k : Fin 1024, Cert.OutRow.stdRow (headRow x0 x1 t) k * x3 (ix1 k) * x2 (ix2 t k) * x4 (ix2 k j) :=
    Finset.sum_congr rfl fun k _ => congrArg₂ (· * ·) ((congrArg (val_main_v33 (F := Ideal) x0 x1 x2 x3) (at_46 t j k)).trans (v33_apply x0 x1 x2 x3 t k)) (congrArg x4 (at_46r t j k))
  rw [es]
  generalize Cert.OutRow.stdRow (headRow x0 x1 t) = y
  generalize tokenRow x5 x6 x7 t = z
  rfl

theorem at_49 (t : Fin 20480) (k : Fin 1024) : idx_main_v49 (idx_main_v50 (ix2 t 0)) k = ix2 t k := by
  refine funext fun a => Fin.ext ?_
  match a with
  | ⟨0, _⟩ => rfl
  | ⟨1, _⟩ => rfl

theorem at_53 (t : Fin 20480) (k : Fin 1024) : idx_main_v53 (ix2 t k) = ix2 t 0 := by
  refine funext fun a => Fin.ext ?_
  match a with
  | ⟨0, _⟩ => rfl
  | ⟨1, _⟩ => rfl

theorem at_56 (t : Fin 20480) (k : Fin 1024) : idx_main_v56 (idx_main_v57 (ix2 t 0)) k = ix2 t k := by
  refine funext fun a => Fin.ext ?_
  match a with
  | ⟨0, _⟩ => rfl
  | ⟨1, _⟩ => rfl

theorem at_60 (t : Fin 20480) (k : Fin 1024) : idx_main_v60 (ix2 t k) = ix2 t 0 := by
  refine funext fun a => Fin.ext ?_
  match a with
  | ⟨0, _⟩ => rfl
  | ⟨1, _⟩ => rfl

theorem at_65 (t : Fin 20480) (k : Fin 1024) : idx_main_v65 (ix2 t k) = ix2 t 0 := by
  refine funext fun a => Fin.ext ?_
  match a with
  | ⟨0, _⟩ => rfl
  | ⟨1, _⟩ => rfl

theorem at_67 (t : Fin 20480) (k : Fin 1024) : idx_main_v67 (idx_main_v68 (ix2 t k)) = ix1 k := by
  refine funext fun a => Fin.ext ?_
  match a with
  | ⟨0, _⟩ => rfl

theorem at_70 (t : Fin 20480) (k : Fin 1024) : idx_main_v70 (idx_main_v71 (ix2 t k)) = ix1 k := by
  refine funext fun a => Fin.ext ?_
  match a with
  | ⟨0, _⟩ => rfl

/-- The residual sum of a token. -/
def residRow (x0 : Vec Ideal S2x4096x1024 .bf16) (x1 : Vec Ideal S2x16384x1024 .bf16) (x2 : Vec Ideal S20480x1024 .bf16) (x3 : Vec Ideal S1024 .f32) (x4 : Vec Ideal S1024x1024 .f32) (x5 : Vec Ideal S4096x1024 .f32) (x6 : Vec Ideal S16384x1024 .f32) (x7 : Vec Ideal S4096x1024 .f32) (x8 : Vec Ideal S8x6x1024 .f32) (t : Fin 20480) (j : Fin 1024) : EReal :=
  Cert.OutRow.resid (Cert.OutRow.stdRow (headRow x0 x1 t)) (fun k => x3 (ix1 k)) (fun k => x2 (ix2 t k)) (fun k n => x4 (ix2 k n)) (tokenRow x5 x6 x7 t) (fun k => x8 (ix3 (⟨t.val / 4096, by omega⟩ : Fin 8) 2 k)) j

theorem v48_row (x0 : Vec Ideal S2x4096x1024 .bf16) (x1 : Vec Ideal S2x16384x1024 .bf16) (x2 : Vec Ideal S20480x1024 .bf16) (x3 : Vec Ideal S1024 .f32) (x4 : Vec Ideal S1024x1024 .f32) (x5 : Vec Ideal S4096x1024 .f32) (x6 : Vec Ideal S16384x1024 .f32) (x7 : Vec Ideal S4096x1024 .f32) (x8 : Vec Ideal S8x6x1024 .f32) (t : Fin 20480) (j : Fin 1024) :
    val_main_v48 (F := Ideal) x0 x1 x2 x3 x4 x5 x6 x7 x8 (ix2 t j) = residRow x0 x1 x2 x3 x4 x5 x6 x7 x8 t j := v48_apply x0 x1 x2 x3 x4 x5 x6 x7 x8 t j

theorem v52_apply (x0 : Vec Ideal S2x4096x1024 .bf16) (x1 : Vec Ideal S2x16384x1024 .bf16) (x2 : Vec Ideal S20480x1024 .bf16) (x3 : Vec Ideal S1024 .f32) (x4 : Vec Ideal S1024x1024 .f32) (x5 : Vec Ideal S4096x1024 .f32) (x6 : Vec Ideal S16384x1024 .f32) (x7 : Vec Ideal S4096x1024 .f32) (x8 : Vec Ideal S8x6x1024 .f32) (t : Fin 20480) :
    val_main_v52 (F := Ideal) x0 x1 x2 x3 x4 x5 x6 x7 x8 (ix2 t 0) = Cert.Token.mean (residRow x0 x1 x2 x3 x4 x5 x6 x7 x8 t) := by
  rw [val_main_v52_apply, val_main_v51_apply, val_main_v50_apply, val_main_v49_apply, val_main_cst_5_apply, val_main_cst_6_apply]
  simp only [at_49, v48_row]
  generalize residRow x0 x1 x2 x3 x4 x5 x6 x7 x8 t = y
  refine congrArg (Ideal.div · _) ?_
  show Ideal.ofBits FTy.f32 0x00000000#32 + ∑ k, y k = ∑ k, y k
  rw [Ideal.ofBits_zero_f32, zero_add]

theorem v59_apply (x0 : Vec Ideal S2x4096x1024 .bf16) (x1 : Vec Ideal S2x16384x1024 .bf16) (x2 : Vec Ideal S20480x1024 .bf16) (x3 : Vec Ideal S1024 .f32) (x4 : Vec Ideal S1024x1024 .f32) (x5 : Vec Ideal S4096x1024 .f32) (x6 : Vec Ideal S16384x1024 .f32) (x7 : Vec Ideal S4096x1024 .f32) (x8 : Vec Ideal S8x6x1024 .f32) (t : Fin 20480) :
    val_main_v59 (F := Ideal) x0 x1 x2 x3 x4 x5 x6 x7 x8 (ix2 t 0)
      = Cert.Token.mean (fun k => (residRow x0 x1 x2 x3 x4 x5 x6 x7 x8 t k - Cert.Token.mean (residRow x0 x1 x2 x3 x4 x5 x6 x7 x8 t)) * (residRow x0 x1 x2 x3 x4 x5 x6 x7 x8 t k - Cert.Token.mean (residRow x0 x1 x2 x3 x4 x5 x6 x7 x8 t))) := by
  rw [val_main_v59_apply, val_main_v58_apply, val_main_v57_apply, val_main_v56_apply, val_main_cst_7_apply, val_main_cst_8_apply]
  simp only [at_56, val_main_v55_apply, val_main_v54_apply, val_main_v53_apply, at_53, v52_apply, v48_row]
  generalize residRow x0 x1 x2 x3 x4 x5 x6 x7 x8 t = y
  refine congrArg (Ideal.div · _) ?_
  generalize Cert.Token.mean y = μ
  show Ideal.ofBits FTy.f32 0x00000000#32 + ∑ k, (y k - μ) * (y k - μ) = ∑ k, (y k - μ) * (y k - μ)
  rw [Ideal.ofBits_zero_f32, zero_add]

theorem out_apply (x0 : Vec Ideal S2x4096x1024 .bf16) (x1 : Vec Ideal S2x16384x1024 .bf16) (x2 : Vec Ideal S20480x1024 .bf16) (x3 : Vec Ideal S1024 .f32) (x4 : Vec Ideal S1024x1024 .f32) (x5 : Vec Ideal S4096x1024 .f32) (x6 : Vec Ideal S16384x1024 .f32) (x7 : Vec Ideal S4096x1024 .f32) (x8 : Vec Ideal S8x6x1024 .f32) (x9 x10 : Vec Ideal S1024 .f32) (t : Fin 20480) (j : Fin 1024) :
    val_main_v72 (F := Ideal) x0 x1 x2 x3 x4 x5 x6 x7 x8 x9 x10 (ix2 t j)
      = Cert.OutRow.out (Cert.OutRow.stdRow (headRow x0 x1 t)) (fun k => x3 (ix1 k)) (fun k => x2 (ix2 t k)) (fun k n => x4 (ix2 k n)) (tokenRow x5 x6 x7 t) (fun k => x8 (ix3 (⟨t.val / 4096, by omega⟩ : Fin 8) 2 k)) (fun k => x9 (ix1 k)) (fun k => x10 (ix1 k)) j := by
  rw [val_main_v72_apply, val_main_v71_apply, val_main_v70_apply, val_main_v69_apply, val_main_v68_apply, val_main_v67_apply, val_main_v66_apply,
    val_main_v65_apply, val_main_v64_apply, val_main_v63_apply, val_main_v62_apply, val_main_v61_apply, val_main_v60_apply, val_main_cst_9_apply,
    at_60, at_65, at_67, at_70, v52_apply, v59_apply, v48_row]
  show _ = Cert.Token.norm (residRow x0 x1 x2 x3 x4 x5 x6 x7 x8 t) _ _ j
  unfold Cert.Token.norm
  generalize residRow x0 x1 x2 x3 x4 x5 x6 x7 x8 t = y
  generalize Cert.Token.mean y = μ
  generalize Cert.Token.mean (fun k => (y k - μ) * (y k - μ)) = v
  rfl

end Cert.Reference7Ideal.OutA

end
-- ==== Proof.OutABlocks.lean ====
/- What the blocks of a grid point of the first layer's output projection hold: rows of the arguments. And what a point writes
   back: its block of the reference's result. -/
module

public import proofs.«01_k».proof.Proof.Gen.Kernel7Ideal.Value
public import proofs.«01_k».proof.Proof.OutATile
public import proofs.«01_k».proof.Proof.OutARef

@[expose] public section

set_option maxRecDepth 16384

noncomputable section

namespace Cert.Kernel7Ideal.OutA

open Cert.Kernel7Ideal Cert.Kernel7Ideal.Gen Cert.Kernel7Ideal.Value
open Idealize.ShloMosaic Idealize.ShloMosaic.TcCoe Idealize.ShloMosaic.Tactic
open Idealize.ShloMosaic.Pipeline (Window Dat)

theorem point_lt (t : Fin cfg0.N) : t.val < 40 := lt_of_lt_of_eq t.isLt (show cfg0.N = 40 from N_0)

/-- Row `p` of tile `t`, as a token. -/
def tok (t : Fin cfg0.N) (p : Fin 512) : Fin 20480 := ⟨512 * t.val + p.val, by have := point_lt t; omega⟩

theorem coord_0 : ∀ t : Fin grid0.N, ((grid0.coords t) 0).val = t.val := by decide +kernel
theorem index_0 : ∀ t : Fin grid0.N, win0_0.index t 0 = 0 ∧ win0_0.index t 1 = min t.val 7 ∧ win0_0.index t 2 = 0 := by decide +kernel
theorem index_1 : ∀ t : Fin grid0.N, win0_1.index t 0 = 0 ∧ win0_1.index t 1 = t.val - 8 ∧ win0_1.index t 2 = 0 := by decide +kernel
theorem index_2 : ∀ t : Fin grid0.N, win0_2.index t 0 = t.val ∧ win0_2.index t 1 = 0 := by decide +kernel
theorem index_3 : ∀ t : Fin grid0.N, win0_3.index t 0 = 0 ∧ win0_3.index t 1 = 0 := by decide +kernel
theorem index_4 : ∀ t : Fin grid0.N, win0_4.index t 0 = 0 ∧ win0_4.index t 1 = 0 := by decide +kernel
theorem index_5 : ∀ t : Fin grid0.N, win0_5.index t 0 = min t.val 7 ∧ win0_5.index t 1 = 0 := by decide +kernel
theorem index_6 : ∀ t : Fin grid0.N, win0_6.index t 0 = t.val - 8 ∧ win0_6.index t 1 = 0 := by decide +kernel
theorem index_7 : ∀ t : Fin grid0.N, win0_7.index t 0 = (t.val - 8) % 8 ∧ win0_7.index t 1 = 0 := by decide +kernel
theorem index_8 : ∀ t : Fin grid0.N, win0_8.index t 0 = t.val / 8 ∧ win0_8.index t 1 = 0 ∧ win0_8.index t 2 = 0 := by decide +kernel
theorem index_9 : ∀ t : Fin grid0.N, win0_9.index t 0 = 0 ∧ win0_9.index t 1 = 0 := by decide +kernel
theorem index_10 : ∀ t : Fin grid0.N, win0_10.index t 0 = 0 ∧ win0_10.index t 1 = 0 := by decide +kernel
theorem index_11 : ∀ t : Fin grid0.N, win0_11.index t 0 = t.val ∧ win0_11.index t 1 = 0 := by decide +kernel

variable (m : (ℓ : Loc nD τ sig) → Buf (Elt Ideal) ℓ)

/-- In the first 8 points the scan's rows are the prompt's, -/
theorem iblk_0 (c : Dev nD) (t : Fin cfg0.N) (ht : t.val < 8) (d : Fin 2) (p : Fin 512) (q : Fin 1024) :
    iblk m c 0 t (ix3 d p q) = m (c.tc.loc main_arg0) (ix3 d (⟨(tok t p).val, by show 512 * t.val + p.val < 4096; omega⟩ : Fin 4096) q) := by
  show V m c main_arg0 (((cfg0.win 0).rect t).emb (ix3 d p q)) = _
  rw [V_main_arg0]
  refine congrArg _ (funext fun a => Fin.ext ?_)
  match a with
  | ⟨0, _⟩ => exact Window.rect_emb_val_of_index_zero win0_0 t 0 (index_0 t).1 (ix3 d p q)
  | ⟨1, _⟩ => exact (Window.rect_emb_val win0_0 t (ix3 d p q) 1).trans (by rw [(index_0 t).2.1]; show min t.val 7 * 512 + p.val = 512 * t.val + p.val; omega)
  | ⟨2, _⟩ => exact Window.rect_emb_val_of_index_zero win0_0 t 2 (index_0 t).2.2 (ix3 d p q)

/-- and from then on the samples'. -/
theorem iblk_1 (c : Dev nD) (t : Fin cfg0.N) (ht : ¬ t.val < 8) (d : Fin 2) (p : Fin 512) (q : Fin 1024) :
    iblk m c 1 t (ix3 d p q) = m (c.tc.loc main_arg1) (ix3 d (⟨(tok t p).val - 4096, by have := (tok t p).isLt; omega⟩ : Fin 16384) q) := by
  show V m c main_arg1 (((cfg0.win 1).rect t).emb (ix3 d p q)) = _
  rw [V_main_arg1]
  refine congrArg _ (funext fun a => Fin.ext ?_)
  match a with
  | ⟨0, _⟩ => exact Window.rect_emb_val_of_index_zero win0_1 t 0 (index_1 t).1 (ix3 d p q)
  | ⟨1, _⟩ => exact (Window.rect_emb_val win0_1 t (ix3 d p q) 1).trans (by rw [(index_1 t).2.1]; show (t.val - 8) * 512 + p.val = 512 * t.val + p.val - 4096; omega)
  | ⟨2, _⟩ => exact Window.rect_emb_val_of_index_zero win0_1 t 2 (index_1 t).2.2 (ix3 d p q)

theorem iblk_2 (c : Dev nD) (t : Fin cfg0.N) (p : Fin 512) (j : Fin 1024) :
    iblk m c 2 t (ix2 p j) = m (c.tc.loc main_arg2) (ix2 (tok t p) j) := by
  show V m c main_arg2 (((cfg0.win 2).rect t).emb (ix2 p j)) = _
  rw [V_main_arg2]
  refine congrArg _ (funext fun a => Fin.ext ?_)
  match a with
  | ⟨0, _⟩ => exact (Window.rect_emb_val win0_2 t (ix2 p j) 0).trans (by rw [(index_2 t).1]; show t.val * 512 + p.val = 512 * t.val + p.val; omega)
  | ⟨1, _⟩ => exact Window.rect_emb_val_of_index_zero win0_2 t 1 (index_2 t).2 (ix2 p j)

theorem iblk_3 (c : Dev nD) (t : Fin cfg0.N) (j : Fin 1024) :
    iblk m c 3 t (ix2 0 j) = m (c.tc.loc main_arg3) (ix1 j) := by
  have e : ((cfg0.win 3).rect t).emb (ix2 0 j) = ix2 0 j := by
    refine funext fun a => Fin.ext ?_
    match a with
    | ⟨0, _⟩ => exact Window.rect_emb_val_of_index_zero win0_3 t 0 (index_3 t).1 (ix2 0 j)
    | ⟨1, _⟩ => exact Window.rect_emb_val_of_index_zero win0_3 t 1 (index_3 t).2 (ix2 0 j)
  show V m c main_v0 (((cfg0.win 3).rect t).emb (ix2 0 j)) = _
  rw [e]
  entry_read
  pointwise

theorem iblk_4 (c : Dev nD) (t : Fin cfg0.N) (p j : Fin 1024) :
    iblk m c 4 t (ix2 p j) = m (c.tc.loc main_arg4) (ix2 p j) := by
  show V m c main_v1 (((cfg0.win 4).rect t).emb (ix2 p j)) = _
  entry_read
  refine congrArg (m (c.tc.loc main_arg4)) (funext fun a => Fin.ext ?_)
  match a with
  | ⟨0, _⟩ => exact Window.rect_emb_val_of_index_zero win0_4 t 0 (index_4 t).1 (ix2 p j)
  | ⟨1, _⟩ => exact Window.rect_emb_val_of_index_zero win0_4 t 1 (index_4 t).2 (ix2 p j)

theorem iblk_5 (c : Dev nD) (t : Fin cfg0.N) (ht : t.val < 8) (p : Fin 512) (j : Fin 1024) :
    iblk m c 5 t (ix2 p j) = m (c.tc.loc main_arg5) (ix2 (⟨(tok t p).val, by show 512 * t.val + p.val < 4096; omega⟩ : Fin 4096) j) := by
  show V m c main_arg5 (((cfg0.win 5).rect t).emb (ix2 p j)) = _
  rw [V_main_arg5]
  refine congrArg _ (funext fun a => Fin.ext ?_)
  match a with
  | ⟨0, _⟩ => exact (Window.rect_emb_val win0_5 t (ix2 p j) 0).trans (by rw [(index_5 t).1]; show min t.val 7 * 512 + p.val = 512 * t.val + p.val; omega)
  | ⟨1, _⟩ => exact Window.rect_emb_val_of_index_zero win0_5 t 1 (index_5 t).2 (ix2 p j)

theorem iblk_6 (c : Dev nD) (t : Fin cfg0.N) (ht : ¬ t.val < 8) (p : Fin 512) (j : Fin 1024) :
    iblk m c 6 t (ix2 p j) = m (c.tc.loc main_arg6) (ix2 (⟨(tok t p).val - 4096, by have := (tok t p).isLt; omega⟩ : Fin 16384) j) := by
  show V m c main_arg6 (((cfg0.win 6).rect t).emb (ix2 p j)) = _
  rw [V_main_arg6]
  refine congrArg _ (funext fun a => Fin.ext ?_)
  match a with
  | ⟨0, _⟩ => exact (Window.rect_emb_val win0_6 t (ix2 p j) 0).trans (by rw [(index_6 t).1]; show (t.val - 8) * 512 + p.val = 512 * t.val + p.val - 4096; omega)
  | ⟨1, _⟩ => exact Window.rect_emb_val_of_index_zero win0_6 t 1 (index_6 t).2 (ix2 p j)

theorem iblk_7 (c : Dev nD) (t : Fin cfg0.N) (ht : ¬ t.val < 8) (p : Fin 512) (j : Fin 1024) :
    iblk m c 7 t (ix2 p j) = m (c.tc.loc main_arg7) (ix2 (⟨(tok t p).val % 4096, by omega⟩ : Fin 4096) j) := by
  show V m c main_arg7 (((cfg0.win 7).rect t).emb (ix2 p j)) = _
  rw [V_main_arg7]
  refine congrArg _ (funext fun a => Fin.ext ?_)
  match a with
  | ⟨0, _⟩ => exact (Window.rect_emb_val win0_7 t (ix2 p j) 0).trans (by rw [(index_7 t).1]; show (t.val - 8) % 8 * 512 + p.val = (512 * t.val + p.val) % 4096; omega)
  | ⟨1, _⟩ => exact Window.rect_emb_val_of_index_zero win0_7 t 1 (index_7 t).2 (ix2 p j)

theorem iblk_8 (c : Dev nD) (t : Fin cfg0.N) (p : Fin 512) (r : Fin 6) (j : Fin 1024) :
    iblk m c 8 t (ix3 0 r j) = m (c.tc.loc main_arg8) (ix3 (⟨(tok t p).val / 4096, by omega⟩ : Fin 8) r j) := by
  show V m c main_arg8 (((cfg0.win 8).rect t).emb (ix3 0 r j)) = _
  rw [V_main_arg8]
  refine congrArg _ (funext fun a => Fin.ext ?_)
  match a with
  | ⟨0, _⟩ => exact (Window.rect_emb_val win0_8 t (ix3 0 r j) 0).trans (by rw [(index_8 t).1]; show t.val / 8 * 1 + 0 = (512 * t.val + p.val) / 4096; omega)
  | ⟨1, _⟩ => exact Window.rect_emb_val_of_index_zero win0_8 t 1 (index_8 t).2.1 (ix3 0 r j)
  | ⟨2, _⟩ => exact Window.rect_emb_val_of_index_zero win0_8 t 2 (index_8 t).2.2 (ix3 0 r j)

theorem iblk_9 (c : Dev nD) (t : Fin cfg0.N) (j : Fin 1024) :
    iblk m c 9 t (ix2 0 j) = m (c.tc.loc main_arg9) (ix1 j) := by
  have e : ((cfg0.win 9).rect t).emb (ix2 0 j) = ix2 0 j := by
    refine funext fun a => Fin.ext ?_
    match a with
    | ⟨0, _⟩ => exact Window.rect_emb_val_of_index_zero win0_9 t 0 (index_9 t).1 (ix2 0 j)
    | ⟨1, _⟩ => exact Window.rect_emb_val_of_index_zero win0_9 t 1 (index_9 t).2 (ix2 0 j)
  show V m c main_v2 (((cfg0.win 9).rect t).emb (ix2 0 j)) = _
  rw [e]
  entry_read
  pointwise

theorem iblk_10 (c : Dev nD) (t : Fin cfg0.N) (j : Fin 1024) :
    iblk m c 10 t (ix2 0 j) = m (c.tc.loc main_arg10) (ix1 j) := by
  have e : ((cfg0.win 10).rect t).emb (ix2 0 j) = ix2 0 j := by
    refine funext fun a => Fin.ext ?_
    match a with
    | ⟨0, _⟩ => exact Window.rect_emb_val_of_index_zero win0_10 t 0 (index_10 t).1 (ix2 0 j)
    | ⟨1, _⟩ => exact Window.rect_emb_val_of_index_zero win0_10 t 1 (index_10 t).2 (ix2 0 j)
  show V m c main_v3 (((cfg0.win 10).rect t).emb (ix2 0 j)) = _
  rw [e]
  entry_read
  pointwise

/-- A head of a row of the tile is that head of its token. -/
theorem tileHead_eq (c : Dev nD) (t : Fin cfg0.N) (p : Fin 512) :
    tileHead (grid0.coords t) (iblk m c 0 t) (iblk m c 1 t) p = Cert.Reference7Ideal.OutA.headRow (m (c.tc.loc main_arg0)) (m (c.tc.loc main_arg1)) (tok t p) := by
  funext h q
  unfold tileHead tileSum Cert.Reference7Ideal.OutA.headRow Cert.Reference7Ideal.OutA.dirRow
  rw [coord_0 t]
  by_cases ht : t.val < 8
  · have hT : (tok t p).val < 4096 := by show 512 * t.val + p.val < 4096; omega
    rw [if_pos ht, dif_pos hT, dif_pos hT, iblk_0 m c t ht, iblk_0 m c t ht]
  · have hT : ¬ (tok t p).val < 4096 := by show ¬ (512 * t.val + p.val < 4096); omega
    rw [if_neg ht, dif_neg hT, dif_neg hT, iblk_1 m c t ht, iblk_1 m c t ht]

/-- A row of the tile's tokens is its token. -/
theorem tileRow_eq (c : Dev nD) (t : Fin cfg0.N) (p : Fin 512) :
    tileRow (grid0.coords t) (iblk m c 5 t) (iblk m c 6 t) (iblk m c 7 t) p = Cert.Reference7Ideal.OutA.tokenRow (m (c.tc.loc main_arg5)) (m (c.tc.loc main_arg6)) (m (c.tc.loc main_arg7)) (tok t p) := by
  funext k
  unfold tileRow Cert.Reference7Ideal.OutA.tokenRow
  rw [coord_0 t]
  by_cases ht : t.val < 8
  · have hT : (tok t p).val < 4096 := by show 512 * t.val + p.val < 4096; omega
    rw [if_pos ht, dif_pos hT, iblk_5 m c t ht]
  · have hT : ¬ (tok t p).val < 4096 := by show ¬ (512 * t.val + p.val < 4096); omega
    rw [if_neg ht, dif_neg hT, iblk_6 m c t ht, iblk_7 m c t ht]

/-- The reference's result at the arguments. -/
abbrev outVal (c : Dev nD) : Vec Ideal S20480x1024 .f32 :=
  Cert.Reference7Ideal.Read.val_main_v72 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10))

/-- What a point writes back is its block of the reference's result. -/
theorem flushed_11 (c : Dev nD) (t : Fin cfg0.N) :
    (dats m 0 c).flushed 11 t = ((cfg0.win 11).blk t).view.read (Elt Ideal) (outVal m c) := by
  rw [flushed11]
  funext (y : S512x1024.Idx)
  obtain ⟨p, n, rfl⟩ : ∃ (p : Fin 512) (n : Fin 1024), y = ix2 p n := ⟨y 0, y 1, by funext a; fin_cases a <;> rfl⟩
  have hemb : ((cfg0.win 11).rect t).emb (ix2 p n) = ix2 (tok t p) n := by
    refine funext fun a => Fin.ext ?_
    match a with
    | ⟨0, _⟩ => exact (Window.rect_emb_val win0_11 t (ix2 p n) 0).trans (by rw [(index_11 t).1]; show t.val * 512 + p.val = 512 * t.val + p.val; omega)
    | ⟨1, _⟩ => exact Window.rect_emb_val_of_index_zero win0_11 t 1 (index_11 t).2 (ix2 p n)
  show out0_11 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p n) = outVal m c (((cfg0.win 11).rect t).emb (ix2 p n))
  rw [hemb]
  refine (out11_apply _ _ _ _ _ _ _ _ _ _ _ _ p n).trans (Eq.trans ?_ (Cert.Reference7Ideal.OutA.out_apply _ _ _ _ _ _ _ _ _ _ _ (tok t p) n).symm)
  rw [tileHead_eq, tileRow_eq]
  simp only [iblk_2, iblk_3, iblk_4, iblk_8 m c t p, iblk_9, iblk_10]

/-- The points' blocks cover the result. -/
theorem cover_11 (i : S20480x1024.Idx) : ∃ t : Fin cfg0.N, (cfg0.win 11).flush t = true ∧ i ∈ ((cfg0.win 11).blk t).view.set := by
  have h0 : (i 0 : Nat) < 20480 := (i 0).isLt
  have h1 : (i 1 : Nat) < 1024 := (i 1).isLt
  have hN : cfg0.N = 40 := N_0
  have key : ∀ t : Fin cfg0.N, t.val = (i 0 : Nat) / 512 → i ∈ ((cfg0.win 11).blk t).view.set := fun t h => by
    show i ∈ ((View.whole main_v4).slice (win0_11.rect t)).set
    rw [View.set_slice_whole, Rect.mem_set_unit]
    intro a
    match a with
    | ⟨0, _⟩ =>
      show win0_11.index t 0 * 512 ≤ (i 0 : Nat) ∧ (i 0 : Nat) < win0_11.index t 0 * 512 + 512
      rw [(index_11 t).1]; omega
    | ⟨1, _⟩ =>
      show win0_11.index t 1 * 1024 ≤ (i 1 : Nat) ∧ (i 1 : Nat) < win0_11.index t 1 * 1024 + 1024
      rw [(index_11 t).2]; omega
  exact ⟨⟨(i 0 : Nat) / 512, by omega⟩, flush0_11 _, key _ rfl⟩

theorem final_11 (c : Dev nD) : (dats m 0 c).arrAt 11 cfg0.N = outVal m c :=
  (dats m 0 c).arrAt_eq_of_cover 11 (outVal m c) (fun t _ => flushed_11 m c t) cover_11

end Cert.Kernel7Ideal.OutA

end
-- ==== Proof.Tile.lean ====
/- The tile one grid point of the last layer's combine leaves, as a function of the blocks it reads: 512 tokens, their
   modulation rows, router weights and the eight packed expert rows of each, the shared expert's matrices and the
   normalisation's gain and bias. -/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One row of the block's modulation (row 4 scales, row 3 shifts, row 5 gates). -/
def modRow4 (x1 : Vec F S1x6x1024 .f32) : Vec F S1x1x1024 .f32 :=
  View.ld x1 (Rect.unit (s := S1x6x1024) ![0, 4, 0] S1x1x1024.size inb_S1x6x1024_S1x1x1024_0_4_0)
/-- The shift row. -/
def modRow3 (x1 : Vec F S1x6x1024 .f32) : Vec F S1x1x1024 .f32 :=
  View.ld x1 (Rect.unit (s := S1x6x1024) ![0, 3, 0] S1x1x1024.size inb_S1x6x1024_S1x1x1024_0_3_0)
/-- The gate row. -/
def modRow5 (x1 : Vec F S1x6x1024 .f32) : Vec F S1x1x1024 .f32 :=
  View.ld x1 (Rect.unit (s := S1x6x1024) ![0, 5, 0] S1x1x1024.size inb_S1x6x1024_S1x1x1024_0_5_0)
/-- The router weights of choice 0, one per token. -/
def wcol0 (x2 : Vec F S512x8 .f32) : Vec F S512x1 .f32 :=
  View.ld x2 (Rect.unit (s := S512x8) ![0, 0] S512x1.size inb_S512x8_S512x1_0_0)
/-- The packed rows of choice 0, word columns of chunk 0. -/
def words00 (x3 : Vec F S2x8x512x256 .i32) : Vec F S1x1x512x256 .i32 :=
  View.ld x3 (Rect.unit (s := S2x8x512x256) ![0, 0, 0, 0] S1x1x512x256.size inb_S2x8x512x256_S1x1x512x256_0_0_0_0)
/-- The packed rows of choice 0, word columns of chunk 1. -/
def words10 (x3 : Vec F S2x8x512x256 .i32) : Vec F S1x1x512x256 .i32 :=
  View.ld x3 (Rect.unit (s := S2x8x512x256) ![1, 0, 0, 0] S1x1x512x256.size inb_S2x8x512x256_S1x1x512x256_1_0_0_0)
/-- The router weights of choice 1, one per token. -/
def wcol1 (x2 : Vec F S512x8 .f32) : Vec F S512x1 .f32 :=
  View.ld x2 (Rect.unit (s := S512x8) ![0, 1] S512x1.size inb_S512x8_S512x1_0_1)
/-- The packed rows of choice 1, word columns of chunk 0. -/
def words01 (x3 : Vec F S2x8x512x256 .i32) : Vec F S1x1x512x256 .i32 :=
  View.ld x3 (Rect.unit (s := S2x8x512x256) ![0, 1, 0, 0] S1x1x512x256.size inb_S2x8x512x256_S1x1x512x256_0_1_0_0)
/-- The packed rows of choice 1, word columns of chunk 1. -/
def words11 (x3 : Vec F S2x8x512x256 .i32) : Vec F S1x1x512x256 .i32 :=
  View.ld x3 (Rect.unit (s := S2x8x512x256) ![1, 1, 0, 0] S1x1x512x256.size inb_S2x8x512x256_S1x1x512x256_1_1_0_0)
/-- The router weights of choice 2, one per token. -/
def wcol2 (x2 : Vec F S512x8 .f32) : Vec F S512x1 .f32 :=
  View.ld x2 (Rect.unit (s := S512x8) ![0, 2] S512x1.size inb_S512x8_S512x1_0_2)
/-- The packed rows of choice 2, word columns of chunk 0. -/
def words02 (x3 : Vec F S2x8x512x256 .i32) : Vec F S1x1x512x256 .i32 :=
  View.ld x3 (Rect.unit (s := S2x8x512x256) ![0, 2, 0, 0] S1x1x512x256.size inb_S2x8x512x256_S1x1x512x256_0_2_0_0)
/-- The packed rows of choice 2, word columns of chunk 1. -/
def words12 (x3 : Vec F S2x8x512x256 .i32) : Vec F S1x1x512x256 .i32 :=
  View.ld x3 (Rect.unit (s := S2x8x512x256) ![1, 2, 0, 0] S1x1x512x256.size inb_S2x8x512x256_S1x1x512x256_1_2_0_0)
/-- The router weights of choice 3, one per token. -/
def wcol3 (x2 : Vec F S512x8 .f32) : Vec F S512x1 .f32 :=
  View.ld x2 (Rect.unit (s := S512x8) ![0, 3] S512x1.size inb_S512x8_S512x1_0_3)
/-- The packed rows of choice 3, word columns of chunk 0. -/
def words03 (x3 : Vec F S2x8x512x256 .i32) : Vec F S1x1x512x256 .i32 :=
  View.ld x3 (Rect.unit (s := S2x8x512x256) ![0, 3, 0, 0] S1x1x512x256.size inb_S2x8x512x256_S1x1x512x256_0_3_0_0)
/-- The packed rows of choice 3, word columns of chunk 1. -/
def words13 (x3 : Vec F S2x8x512x256 .i32) : Vec F S1x1x512x256 .i32 :=
  View.ld x3 (Rect.unit (s := S2x8x512x256) ![1, 3, 0, 0] S1x1x512x256.size inb_S2x8x512x256_S1x1x512x256_1_3_0_0)
/-- The router weights of choice 4, one per token. -/
def wcol4 (x2 : Vec F S512x8 .f32) : Vec F S512x1 .f32 :=
  View.ld x2 (Rect.unit (s := S512x8) ![0, 4] S512x1.size inb_S512x8_S512x1_0_4)
/-- The packed rows of choice 4, word columns of chunk 0. -/
def words04 (x3 : Vec F S2x8x512x256 .i32) : Vec F S1x1x512x256 .i32 :=
  View.ld x3 (Rect.unit (s := S2x8x512x256) ![0, 4, 0, 0] S1x1x512x256.size inb_S2x8x512x256_S1x1x512x256_0_4_0_0)
/-- The packed rows of choice 4, word columns of chunk 1. -/
def words14 (x3 : Vec F S2x8x512x256 .i32) : Vec F S1x1x512x256 .i32 :=
  View.ld x3 (Rect.unit (s := S2x8x512x256) ![1, 4, 0, 0] S1x1x512x256.size inb_S2x8x512x256_S1x1x512x256_1_4_0_0)
/-- The router weights of choice 5, one per token. -/
def wcol5 (x2 : Vec F S512x8 .f32) : Vec F S512x1 .f32 :=
  View.ld x2 (Rect.unit (s := S512x8) ![0, 5] S512x1.size inb_S512x8_S512x1_0_5)
/-- The packed rows of choice 5, word columns of chunk 0. -/
def words05 (x3 : Vec F S2x8x512x256 .i32) : Vec F S1x1x512x256 .i32 :=
  View.ld x3 (Rect.unit (s := S2x8x512x256) ![0, 5, 0, 0] S1x1x512x256.size inb_S2x8x512x256_S1x1x512x256_0_5_0_0)
/-- The packed rows of choice 5, word columns of chunk 1. -/
def words15 (x3 : Vec F S2x8x512x256 .i32) : Vec F S1x1x512x256 .i32 :=
  View.ld x3 (Rect.unit (s := S2x8x512x256) ![1, 5, 0, 0] S1x1x512x256.size inb_S2x8x512x256_S1x1x512x256_1_5_0_0)
/-- The router weights of choice 6, one per token. -/
def wcol6 (x2 : Vec F S512x8 .f32) : Vec F S512x1 .f32 :=
  View.ld x2 (Rect.unit (s := S512x8) ![0, 6] S512x1.size inb_S512x8_S512x1_0_6)
/-- The packed rows of choice 6, word columns of chunk 0. -/
def words06 (x3 : Vec F S2x8x512x256 .i32) : Vec F S1x1x512x256 .i32 :=
  View.ld x3 (Rect.unit (s := S2x8x512x256) ![0, 6, 0, 0] S1x1x512x256.size inb_S2x8x512x256_S1x1x512x256_0_6_0_0)
/-- The packed rows of choice 6, word columns of chunk 1. -/
def words16 (x3 : Vec F S2x8x512x256 .i32) : Vec F S1x1x512x256 .i32 :=
  View.ld x3 (Rect.unit (s := S2x8x512x256) ![1, 6, 0, 0] S1x1x512x256.size inb_S2x8x512x256_S1x1x512x256_1_6_0_0)
/-- The router weights of choice 7, one per token. -/
def wcol7 (x2 : Vec F S512x8 .f32) : Vec F S512x1 .f32 :=
  View.ld x2 (Rect.unit (s := S512x8) ![0, 7] S512x1.size inb_S512x8_S512x1_0_7)
/-- The packed rows of choice 7, word columns of chunk 0. -/
def words07 (x3 : Vec F S2x8x512x256 .i32) : Vec F S1x1x512x256 .i32 :=
  View.ld x3 (Rect.unit (s := S2x8x512x256) ![0, 7, 0, 0] S1x1x512x256.size inb_S2x8x512x256_S1x1x512x256_0_7_0_0)
/-- The packed rows of choice 7, word columns of chunk 1. -/
def words17 (x3 : Vec F S2x8x512x256 .i32) : Vec F S1x1x512x256 .i32 :=
  View.ld x3 (Rect.unit (s := S2x8x512x256) ![1, 7, 0, 0] S1x1x512x256.size inb_S2x8x512x256_S1x1x512x256_1_7_0_0)

/-- The shared expert's output and the first three routed choices. -/
def mixed2 (x0 : Vec F S512x1024 .f32) (x1 : Vec F S1x6x1024 .f32) (x2 : Vec F S512x8 .f32) (x3 : Vec F S2x8x512x256 .i32) (x4 : Vec F S1024x256 .bf16) (x5 : Vec F S1024x256 .bf16) (x6 : Vec F S256x1024 .bf16) (x7 : Vec F S1x1024 .f32) (x8 : Vec F S1x1024 .f32) : FVec F S512x1024 .f32 :=
  k0_pay4 (k0_pay2 x0 (modRow4 x1) (modRow3 x1) x4 x5 x6) (k0_pay3 (words00 x3) (words10 x3)) (wcol0 x2) (words01 x3) (words11 x3) (wcol1 x2) (words02 x3) (words12 x3) (wcol2 x2)

/-- … and the next three. -/
def mixed5 (x0 : Vec F S512x1024 .f32) (x1 : Vec F S1x6x1024 .f32) (x2 : Vec F S512x8 .f32) (x3 : Vec F S2x8x512x256 .i32) (x4 : Vec F S1024x256 .bf16) (x5 : Vec F S1024x256 .bf16) (x6 : Vec F S256x1024 .bf16) (x7 : Vec F S1x1024 .f32) (x8 : Vec F S1x1024 .f32) : FVec F S512x1024 .f32 :=
  k0_pay6 (mixed2 x0 x1 x2 x3 x4 x5 x6 x7 x8) (k0_pay5 (words03 x3)) (words13 x3) (wcol3 x2) (words04 x3) (words14 x3) (wcol4 x2) (words05 x3) (words15 x3) (wcol5 x2)

/-- The residual sum that is normalised: √2 times the input plus the gated feed-forward. -/
def residual (x0 : Vec F S512x1024 .f32) (x1 : Vec F S1x6x1024 .f32) (x2 : Vec F S512x8 .f32) (x3 : Vec F S2x8x512x256 .i32) (x4 : Vec F S1024x256 .bf16) (x5 : Vec F S1024x256 .bf16) (x6 : Vec F S256x1024 .bf16) (x7 : Vec F S1x1024 .f32) (x8 : Vec F S1x1024 .f32) : FVec F S512x1024 .f32 :=
  k0_pay7 x0 (mixed5 x0 x1 x2 x3 x4 x5 x6 x7 x8) (words06 x3) (words16 x3) (wcol6 x2) (words07 x3) (words17 x3) (wcol7 x2) (modRow5 x1)

/-- The tile a grid point stores. -/
def tile (x0 : Vec F S512x1024 .f32) (x1 : Vec F S1x6x1024 .f32) (x2 : Vec F S512x8 .f32) (x3 : Vec F S2x8x512x256 .i32) (x4 : Vec F S1024x256 .bf16) (x5 : Vec F S1024x256 .bf16) (x6 : Vec F S256x1024 .bf16) (x7 : Vec F S1x1024 .f32) (x8 : Vec F S1x1024 .f32) : FVec F S512x1024 .f32 :=
  k0_pay1 (residual x0 x1 x2 x3 x4 x5 x6 x7 x8) (k0_pay8 x7) (k0_pay9 x8)

/-- The zero offsets of a matrix. -/
theorem zero2 : (![0, 0] : Fin 2 → Nat) = fun _ => 0 := by funext a; fin_cases a <;> rfl

/-- What one store through the whole of a view leaves there is its payload. -/
theorem read_store_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) : v.read (Elt F) (v.writes (Elt F) f [⟨Rect.unit off S.size inb, w⟩]) = w := by
  subst h
  rw [View.read_writes_eq_canon v f _ (fun y => ⟨_, List.mem_singleton_self _, by
    show y ∈ (Rect.whole S).set; rw [Rect.set_whole]; exact Finset.mem_univ y⟩)]
  exact View.canon_unit_zero rfl inb w

end Cert.KernelIdeal.Combine

end
-- ==== Proof.BodyPrompt.lean ====
/- The whole body of the combine at a point of the prompt half: it stores the tile through its first result's block and leaves
   the other result's block as it was. -/
module

public import proofs.«01_k».proof.Proof.Tile

@[expose] public section

set_option maxRecDepth 16384

noncomputable section

namespace Cert.KernelIdeal.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point of the prompt half, from the nine blocks and any contents of the two results' blocks, the body ends with
    the inputs as they were, the prompt block at the tile, and the other block unchanged. -/
theorem body_prompt (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S512x8 .f32) (harg3 : arg3.IsWhole) (arg4 : Memref sig .tc .vmem S2x8x512x256 .i32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole)
    (hc0 : k0_cond1 i = 1#1) (hc1 : ¬ k0_cond2 i = 1#1)
    (x0 : Vec F S512x1024 .f32) (x1 : Vec F S1x6x1024 .f32) (x2 : Vec F S512x8 .f32) (x3 : Vec F S2x8x512x256 .i32) (x4 : Vec F S1024x256 .bf16) (x5 : Vec F S1024x256 .bf16) (x6 : Vec F S256x1024 .bf16) (x7 : Vec F S1x1024 .f32) (x8 : Vec F S1x1024 .f32) (d e : Vec F S512x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare d ∗ owns (c : Thread nD τ) arg11 fullShare e
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (tile x0 x1 x2 x3 x4 x5 x6 x7 x8) ∗ owns (c : Thread nD τ) arg11 fullShare e) -∗ K ⟨⟩))
          ⊢ wp frame (wpE (defs₀ (F := F)) Variants.none c none) E (cc0_combine i arg1 harg1 arg2 harg2 arg3 harg3 arg4 harg4 arg5 harg5 arg6 harg6 arg7 harg7 arg8 harg8 arg9 harg9 arg10 harg10 arg11 harg11) K := by
  intro E K
  simp only [cc0_combine_eq_skeleton]; unfold cc0_combine_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro
    refine (read_store_whole _ _ zero2 _ _).trans ?_
    delta body_prompt.sl.r_6 body_prompt.sl.r_7 body_prompt.sl.r_8
    delta body_prompt.sl.r body_prompt.sl.r_1 body_prompt.sl.r_2 body_prompt.sl.r_3 body_prompt.sl.r_4 body_prompt.sl.r_5
    simp only [View.readAt_eq_ld, Memref.IsWhole.read_unread]
    rw [show View.ld x0 (Rect.unit ![0, 0] ![512, 1024] inb_S512x1024_S512x1024_0_0) = x0 from View.ld_unit_zero zero2 inb_S512x1024_S512x1024_0_0 x0]
    rw [show View.ld x4 (Rect.unit ![0, 0] ![1024, 256] inb_S1024x256_S1024x256_0_0) = x4 from View.ld_unit_zero zero2 inb_S1024x256_S1024x256_0_0 x4]
    rw [show View.ld x5 (Rect.unit ![0, 0] ![1024, 256] inb_S1024x256_S1024x256_0_0) = x5 from View.ld_unit_zero zero2 inb_S1024x256_S1024x256_0_0 x5]
    rw [show View.ld x6 (Rect.unit ![0, 0] ![256, 1024] inb_S256x1024_S256x1024_0_0) = x6 from View.ld_unit_zero zero2 inb_S256x1024_S256x1024_0_0 x6]
    rw [show View.ld x7 (Rect.unit ![0, 0] ![1, 1024] inb_S1x1024_S1x1024_0_0) = x7 from View.ld_unit_zero zero2 inb_S1x1024_S1x1024_0_0 x7]
    rw [show View.ld x8 (Rect.unit ![0, 0] ![1, 1024] inb_S1x1024_S1x1024_0_0) = x8 from View.ld_unit_zero zero2 inb_S1x1024_S1x1024_0_0 x8]
    rfl
  iexists _; isplitr; · ipureintro; exact harg11.read_unread _
  iexact H10

end Cert.KernelIdeal.Combine

end
-- ==== Proof.BodySample.lean ====
/- The whole body of the combine at a point of the sample half: it stores the tile through its second result's block and leaves
   the other result's block as it was. -/
module

public import proofs.«01_k».proof.Proof.Tile

@[expose] public section

set_option maxRecDepth 16384

noncomputable section

namespace Cert.KernelIdeal.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point of the sample half, from the nine blocks and any contents of the two results' blocks, the body ends with
    the inputs as they were, the sample block at the tile, and the other block unchanged. -/
theorem body_sample (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S512x8 .f32) (harg3 : arg3.IsWhole) (arg4 : Memref sig .tc .vmem S2x8x512x256 .i32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole)
    (hc0 : ¬ k0_cond1 i = 1#1) (hc1 : k0_cond2 i = 1#1)
    (x0 : Vec F S512x1024 .f32) (x1 : Vec F S1x6x1024 .f32) (x2 : Vec F S512x8 .f32) (x3 : Vec F S2x8x512x256 .i32) (x4 : Vec F S1024x256 .bf16) (x5 : Vec F S1024x256 .bf16) (x6 : Vec F S256x1024 .bf16) (x7 : Vec F S1x1024 .f32) (x8 : Vec F S1x1024 .f32) (d e : Vec F S512x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare e ∗ owns (c : Thread nD τ) arg11 fullShare d
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare e ∗ owns (c : Thread nD τ) arg11 fullShare (tile x0 x1 x2 x3 x4 x5 x6 x7 x8)) -∗ K ⟨⟩))
          ⊢ wp frame (wpE (defs₀ (F := F)) Variants.none c none) E (cc0_combine i arg1 harg1 arg2 harg2 arg3 harg3 arg4 harg4 arg5 harg5 arg6 harg6 arg7 harg7 arg8 harg8 arg9 harg9 arg10 harg10 arg11 harg11) K := by
  intro E K
  simp only [cc0_combine_eq_skeleton]; unfold cc0_combine_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  iexists _; isplitr; swap; · iexact H10
  ipureintro
  refine (read_store_whole _ _ zero2 _ _).trans ?_
  delta body_sample.sl.r_6 body_sample.sl.r_7 body_sample.sl.r_8
  delta body_sample.sl.r body_sample.sl.r_1 body_sample.sl.r_2 body_sample.sl.r_3 body_sample.sl.r_4 body_sample.sl.r_5
  simp only [View.readAt_eq_ld, Memref.IsWhole.read_unread]
  rw [show View.ld x0 (Rect.unit ![0, 0] ![512, 1024] inb_S512x1024_S512x1024_0_0) = x0 from View.ld_unit_zero zero2 inb_S512x1024_S512x1024_0_0 x0]
  rw [show View.ld x4 (Rect.unit ![0, 0] ![1024, 256] inb_S1024x256_S1024x256_0_0) = x4 from View.ld_unit_zero zero2 inb_S1024x256_S1024x256_0_0 x4]
  rw [show View.ld x5 (Rect.unit ![0, 0] ![1024, 256] inb_S1024x256_S1024x256_0_0) = x5 from View.ld_unit_zero zero2 inb_S1024x256_S1024x256_0_0 x5]
  rw [show View.ld x6 (Rect.unit ![0, 0] ![256, 1024] inb_S256x1024_S256x1024_0_0) = x6 from View.ld_unit_zero zero2 inb_S256x1024_S256x1024_0_0 x6]
  rw [show View.ld x7 (Rect.unit ![0, 0] ![1, 1024] inb_S1x1024_S1x1024_0_0) = x7 from View.ld_unit_zero zero2 inb_S1x1024_S1x1024_0_0 x7]
  rw [show View.ld x8 (Rect.unit ![0, 0] ![1, 1024] inb_S1x1024_S1x1024_0_0) = x8 from View.ld_unit_zero zero2 inb_S1x1024_S1x1024_0_0 x8]
  rfl

end Cert.KernelIdeal.Combine

end
-- ==== Proof.Run.lean ====
/- The run of the whole combine: at each point the inputs' blocks pass through, a prompt point names the prompt block,
   a sample point the sample block, and the block of the idle half rests: the prompt block of point 7 stays in its buffer
   over the sample points until it is written back after the last one. -/
module

public import proofs.«01_k».proof.Proof.BodyPrompt
public import proofs.«01_k».proof.Proof.BodySample
public import proofs.«01_k».proof.Proof.Gen.KernelIdeal.Points
public import Idealize.ShloMosaic.Lib.Claim

@[expose] public section

set_option maxRecDepth 16384

noncomputable section

namespace Cert.KernelIdeal.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tile of grid point `t`, from the blocks of that point. -/
def blockTile (c : Dev nD) (t : Fin cfg0.N) : Vec F S512x1024 .f32 :=
  tile (iblk m c 0 t) (iblk m c 1 t) (iblk m c 2 t) (iblk m c 3 t) (iblk m c 4 t) (iblk m c 5 t) (iblk m c 6 t) (iblk m c 7 t) (iblk m c 8 t)

/-- The last prompt point at or before `t`. -/
def promptPoint (t : Fin cfg0.N) : Fin cfg0.N := ⟨min t.val 7, Nat.lt_of_le_of_lt (Nat.min_le_left _ _) t.isLt⟩

/-- What each buffer holds after each point: the inputs their blocks, the prompt's the tile of the last prompt point, the
    sample's the tile of the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => blockTile m c (promptPoint t)
    | ⟨10, _⟩ => blockTile m c t
  Φ _ := Pipeline.ΦA spec0 c
  q _ := fullShare
  owed _ := 0

/-- The arrays are those the launch finds. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d
theorem after_9 (c : Dev nD) (t : Fin cfg0.N) : (dats m 0 c).after 9 t = blockTile m c (promptPoint t) := by dsimp only [dats]
theorem after_10 (c : Dev nD) (t : Fin cfg0.N) : (dats m 0 c).after 10 t = blockTile m c t := by dsimp only [dats]

/-! ## Where each half is live and written back -/

/-- The first conditional holds exactly at the prompt's points, -/
theorem cond_prompt : ∀ t : Fin grid0.N, k0_cond1 (grid0.coords t) = 1#1 ↔ t.val < 8 := by decide +kernel
/-- the second exactly at the sample's. -/
theorem cond_sample : ∀ t : Fin grid0.N, k0_cond2 (grid0.coords t) = 1#1 ↔ 8 ≤ t.val := by decide +kernel
/-- The prompt's buffer rests exactly at the sample's points, -/
theorem idle_9 : ∀ t : Fin cfg0.N, cfg0.idle 9 (cfg0.grid.coords t) = decide (8 ≤ t.val) := by decide +kernel
/-- the sample's exactly at the prompt's. -/
theorem idle_10 : ∀ t : Fin cfg0.N, cfg0.idle 10 (cfg0.grid.coords t) = decide (t.val < 8) := by decide +kernel
/-- The prompt's buffer is written back after each of points 0 to 6, and after the last. -/
theorem flush_9 : ∀ t : Fin cfg0.N, (cfg0.win 9).flush t = decide (t.val < 7 ∨ t.val = 39) := by decide +kernel
/-- The sample's buffer is written back after every sample point. -/
theorem flush_10 : ∀ t : Fin cfg0.N, (cfg0.win 10).flush t = decide (8 ≤ t.val) := by decide +kernel
/-- A result's buffer is never filled from its array. -/
theorem fetch_9 : ∀ t : Fin cfg0.N, (cfg0.win 9).fetch t = false := by decide +kernel

/-- Over the sample's points the prompt's buffer holds the tile of point 7. -/
theorem before_9_late (c : Dev nD) (d) : ∀ (n : Nat) (h : n < cfg0.N), 8 ≤ n →
    (dats m 0 c).before 9 ⟨n, h⟩ d = blockTile m c (promptPoint ⟨n, h⟩)
  | 0, _, h8 => absurd h8 (by omega)
  | n + 1, h, h8 => by
    have hn : n < cfg0.N := Nat.lt_of_succ_lt h
    have hN : n + 1 < 40 := lt_of_lt_of_eq h (show cfg0.N = 40 from N_0)
    rw [Dat.before_of_pos _ 9 ⟨n + 1, h⟩ (Nat.succ_ne_zero n) (fetch_9 _)]
    show (if (cfg0.win 9).flush ⟨n, hn⟩ = true then d else (dats m 0 c).left 9 ⟨n, hn⟩ d) = _
    rw [flush_9 ⟨n, hn⟩, if_neg (by simp only [decide_eq_true_eq]; omega)]
    have hp : promptPoint ⟨n + 1, h⟩ = promptPoint ⟨n, hn⟩ := Fin.ext (by simp only [promptPoint]; omega)
    rw [hp]
    unfold Dat.left
    rw [idle_9 ⟨n, hn⟩]
    by_cases h7 : 8 ≤ n
    · simp only [h7, decide_true]
      exact before_9_late c d n hn h7
    · simp only [h7, decide_false]
      unfold Dat.kept; dsimp only [dats]; rfl

/-! ## The body obligation -/

/-- The staging memref of each window at point `t`. -/
abbrev st_0 (t : Fin cfg0.N) : Memref sig .tc .vmem S512x1024 .f32 := win0_0.stage (cfg0.slots t 0)
abbrev st_1 (t : Fin cfg0.N) : Memref sig .tc .vmem S1x6x1024 .f32 := win0_1.stage (cfg0.slots t 1)
abbrev st_2 (t : Fin cfg0.N) : Memref sig .tc .vmem S512x8 .f32 := win0_2.stage (cfg0.slots t 2)
abbrev st_3 (t : Fin cfg0.N) : Memref sig .tc .vmem S2x8x512x256 .i32 := win0_3.stage (cfg0.slots t 3)
abbrev st_4 (t : Fin cfg0.N) : Memref sig .tc .vmem S1024x256 .bf16 := win0_4.stage (cfg0.slots t 4)
abbrev st_5 (t : Fin cfg0.N) : Memref sig .tc .vmem S1024x256 .bf16 := win0_5.stage (cfg0.slots t 5)
abbrev st_6 (t : Fin cfg0.N) : Memref sig .tc .vmem S256x1024 .bf16 := win0_6.stage (cfg0.slots t 6)
abbrev st_7 (t : Fin cfg0.N) : Memref sig .tc .vmem S1x1024 .f32 := win0_7.stage (cfg0.slots t 7)
abbrev st_8 (t : Fin cfg0.N) : Memref sig .tc .vmem S1x1024 .f32 := win0_8.stage (cfg0.slots t 8)
abbrev st_9 (t : Fin cfg0.N) : Memref sig .tc .vmem S512x1024 .f32 := win0_9.stage (cfg0.slots t 9)
abbrev st_10 (t : Fin cfg0.N) : Memref sig .tc .vmem S512x1024 .f32 := win0_10.stage (cfg0.slots t 10)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st_0 t) fullShare ((dats m 0 c).before 0 t d))
    ∗ (∃ d, owns (c : Thread nD τ) (st_1 t) fullShare ((dats m 0 c).before 1 t d))
    ∗ (∃ d, owns (c : Thread nD τ) (st_2 t) fullShare ((dats m 0 c).before 2 t d))
    ∗ (∃ d, owns (c : Thread nD τ) (st_3 t) fullShare ((dats m 0 c).before 3 t d))
    ∗ (∃ d, owns (c : Thread nD τ) (st_4 t) fullShare ((dats m 0 c).before 4 t d))
    ∗ (∃ d, owns (c : Thread nD τ) (st_5 t) fullShare ((dats m 0 c).before 5 t d))
    ∗ (∃ d, owns (c : Thread nD τ) (st_6 t) fullShare ((dats m 0 c).before 6 t d))
    ∗ (∃ d, owns (c : Thread nD τ) (st_7 t) fullShare ((dats m 0 c).before 7 t d))
    ∗ (∃ d, owns (c : Thread nD τ) (st_8 t) fullShare ((dats m 0 c).before 8 t d))
    ∗ (∃ d, owns (c : Thread nD τ) (st_9 t) fullShare ((dats m 0 c).before 9 t d))
    ∗ (∃ d, owns (c : Thread nD τ) (st_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- An input window returns its block. -/
theorem leaves_0 (c : Dev nD) (t : Fin cfg0.N) : (dats m 0 c).leavesExact 0 t = owns (c : Thread nD τ) (st_0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (st_1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (st_2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (st_3 t) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (st_4 t) fullShare (iblk m c 4 t) := by
  unfold Dat.leavesExact; rw [show cfg0.idle 4 (cfg0.grid.coords t) = false from rfl, after_4]
theorem leaves_5 (c : Dev nD) (t : Fin cfg0.N) : (dats m 0 c).leavesExact 5 t = owns (c : Thread nD τ) (st_5 t) fullShare (iblk m c 5 t) := by
  unfold Dat.leavesExact; rw [show cfg0.idle 5 (cfg0.grid.coords t) = false from rfl, after_5]
theorem leaves_6 (c : Dev nD) (t : Fin cfg0.N) : (dats m 0 c).leavesExact 6 t = owns (c : Thread nD τ) (st_6 t) fullShare (iblk m c 6 t) := by
  unfold Dat.leavesExact; rw [show cfg0.idle 6 (cfg0.grid.coords t) = false from rfl, after_6]
theorem leaves_7 (c : Dev nD) (t : Fin cfg0.N) : (dats m 0 c).leavesExact 7 t = owns (c : Thread nD τ) (st_7 t) fullShare (iblk m c 7 t) := by
  unfold Dat.leavesExact; rw [show cfg0.idle 7 (cfg0.grid.coords t) = false from rfl, after_7]
theorem leaves_8 (c : Dev nD) (t : Fin cfg0.N) : (dats m 0 c).leavesExact 8 t = owns (c : Thread nD τ) (st_8 t) fullShare (iblk m c 8 t) := by
  unfold Dat.leavesExact; rw [show cfg0.idle 8 (cfg0.grid.coords t) = false from rfl, after_8]

/-- A prompt point returns the prompt's tile. -/
theorem leaves_9_live (c : Dev nD) (t : Fin cfg0.N) (h : t.val < 8) :
    (dats m 0 c).leavesExact 9 t = owns (c : Thread nD τ) (st_9 t) fullShare (blockTile m c t) := by
  unfold Dat.leavesExact
  rw [idle_9 t, decide_eq_false (by omega), after_9, show promptPoint t = t from Fin.ext (by simp only [promptPoint]; omega)]

/-- A sample point returns the prompt's buffer as the last prompt point left it. -/
theorem leaves_9_rest (c : Dev nD) (t : Fin cfg0.N) (h : 8 ≤ t.val) (d) :
    owns (c : Thread nD τ) (st_9 t) fullShare ((dats m 0 c).before 9 t d) ⊢ (dats m 0 c).leavesExact 9 t := by
  by_cases hl : t.val = 39
  · unfold Dat.leavesExact
    rw [idle_9 t, decide_eq_true h, flush_9 t, decide_eq_true (Or.inr hl), after_9, before_9_late m c d t.val t.isLt h]
  · rw [Dat.leavesExact_idle _ 9 t ((idle_9 t).trans (decide_eq_true h)) ((flush_9 t).trans (decide_eq_false (by omega)))]
    iintro H
    iexists d
    iexact H

/-- A sample point returns the sample's tile. -/
theorem leaves_10_live (c : Dev nD) (t : Fin cfg0.N) (h : 8 ≤ t.val) :
    (dats m 0 c).leavesExact 10 t = owns (c : Thread nD τ) (st_10 t) fullShare (blockTile m c t) := by
  unfold Dat.leavesExact
  rw [idle_10 t, decide_eq_false (by omega), after_10]

/-- A prompt point returns the sample's buffer as it was. -/
theorem leaves_10_rest (c : Dev nD) (t : Fin cfg0.N) (h : t.val < 8) (d) :
    owns (c : Thread nD τ) (st_10 t) fullShare ((dats m 0 c).before 10 t d) ⊢ (dats m 0 c).leavesExact 10 t := by
  rw [Dat.leavesExact_idle _ 10 t ((idle_10 t).trans (decide_eq_true h)) ((flush_10 t).trans (decide_eq_false (by omega)))]
  iintro H
  iexists d
  iexact H

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, leaves_0, before_1, leaves_1, before_2, leaves_2, before_3, leaves_3, before_4, leaves_4, before_5, leaves_5, before_6, leaves_6, before_7, leaves_7, before_8, leaves_8]
  rw [show (dats m 0 c).Φ t.succ = (dats m 0 c).Φ t.castSucc from rfl,
    show (dats m 0 c).owesAt () t.succ = (dats m 0 c).owesAt () t.castSucc from rfl]
  by_cases h : t.val < 8
  · rw [leaves_9_live m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((body_prompt c (grid0.coords t) _ _ _ _ _ _ _ _ _ _ _ _ _ _ _ _ _ _ _ _ _ _ ((cond_prompt t).mpr h) (fun h1 => absurd ((cond_sample t).mp h1) (by omega)) (iblk m c 0 t) (iblk m c 1 t) (iblk m c 2 t) (iblk m c 3 t) (iblk m c 4 t) (iblk m c 5 t) (iblk m c 6 t) (iblk m c 7 t) (iblk m c 8 t) _ _) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iapply (leaves_10_rest m c t h d10); iexact H10
  · replace h : 8 ≤ t.val := Nat.le_of_not_lt h
    rw [leaves_10_live m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((body_sample c (grid0.coords t) _ _ _ _ _ _ _ _ _ _ _ _ _ _ _ _ _ _ _ _ _ _ (fun h1 => absurd ((cond_prompt t).mp h1) (by omega)) ((cond_sample t).mpr h) (iblk m c 0 t) (iblk m c 1 t) (iblk m c 2 t) (iblk m c 3 t) (iblk m c 4 t) (iblk m c 5 t) (iblk m c 6 t) (iblk m c 7 t) (iblk m c 8 t) _ _) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (leaves_9_rest m c t h d9); iexact H9
    iexact H10

/-- The body table's row at point `t` is the body there. -/
theorem defs₀_row (t : Fin cfg0.N) : defs₀ (F := F) .tc cfg0.body (cfg0.bodyArgs t (cfg0.slots t)) = bodyAt0 t := by
  unfold defs₀; rw [Defs.onTc_tc]

/-- The pipeline's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every weakly fair execution ends with each array as its write-backs left it and every counter at zero. -/
theorem run_main : θ_run defs (onTc (τ := τ) (main (F := F))) (s₀ m ρ)
    (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (Q' := fun r => Pipeline.FramePost cfgs (dats m) 0 (V m) r ∧ r.2.sem = fun _ => 0)

/-- The arguments end as they were, and the two results end as the write-backs left them. -/
theorem run_results : θ_run defs (onTc (τ := τ) (main (F := F))) ⟨m, fun _ => 0, ρ⟩ (fun r => (∀ c : Dev nD,
      r.2.mem ((c.tc : Thread nD τ).loc main_v5_0) = (dats m 0 c).arrAt 9 cfg0.N
      ∧ r.2.mem ((c.tc : Thread nD τ).loc main_v5_1) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(h.1.1 c).1 9, (h.1.1 c).1 10, h.2 c⟩, h.1.2⟩)
    (θ_run_and (run_main m ρ) (frame_of m ρ (dats m) (A_eq m) ((θ_run defs _ _).mono (fun _ h => h.1) (run_main m ρ))))

end Cert.KernelIdeal.Combine

end
-- ==== Proof.Blocks.lean ====
/- What the blocks of a grid point hold, element by element: a row of the arguments. -/
module

public import proofs.«01_k».proof.Proof.Run
public import Idealize.ShloMosaic.Lib.Pipeline.Value
public import Idealize.ShloMosaic.Lib.Pointwise

@[expose] public section

set_option maxRecDepth 16384

noncomputable section

namespace Cert.KernelIdeal.Combine

open Cert.KernelIdeal Cert.KernelIdeal.Gen
open Idealize.ShloMosaic Idealize.ShloMosaic.TcCoe Idealize.ShloMosaic.Tactic
open Idealize.ShloMosaic.Pipeline (Window)

variable {F : FTy → Type} [FloatOps F]
variable (m : (ℓ : Loc nD τ sig) → Buf (Elt F) ℓ)

theorem point_lt (t : Fin cfg0.N) : t.val < 40 := lt_of_lt_of_eq t.isLt (show cfg0.N = 40 from N_0)

/-- Row `p` of tile `t`, as a token. -/
def tok (t : Fin cfg0.N) (p : Fin 512) : Fin 20480 := ⟨512 * t.val + p.val, by have := point_lt t; omega⟩
/-- The modulation row of tile `t`: 0 for the prompt's tiles, one for each of the four samples' eight tiles. -/
def condRow (t : Fin cfg0.N) : Fin 8 := ⟨if t.val < 8 then 0 else 1 + (t.val - 8) / 8, by have := point_lt t; split <;> omega⟩

theorem index_0 : ∀ t : Fin grid0.N, win0_0.index t 0 = t.val ∧ win0_0.index t 1 = 0 := by decide +kernel
theorem index_1 : ∀ t : Fin grid0.N, win0_1.index t 0 = (if t.val < 8 then 0 else 1 + (t.val - 8) / 8) ∧ win0_1.index t 1 = 0 ∧ win0_1.index t 2 = 0 := by
  decide +kernel
theorem index_2 : ∀ t : Fin grid0.N, win0_2.index t 0 = t.val ∧ win0_2.index t 1 = 0 := by decide +kernel
theorem index_3 : ∀ t : Fin grid0.N, win0_3.index t 0 = 0 ∧ win0_3.index t 1 = 0 ∧ win0_3.index t 2 = t.val ∧ win0_3.index t 3 = 0 := by decide +kernel
theorem index_4 : ∀ t : Fin grid0.N, win0_4.index t 0 = 0 ∧ win0_4.index t 1 = 0 := by decide +kernel
theorem index_5 : ∀ t : Fin grid0.N, win0_5.index t 0 = 0 ∧ win0_5.index t 1 = 0 := by decide +kernel
theorem index_6 : ∀ t : Fin grid0.N, win0_6.index t 0 = 0 ∧ win0_6.index t 1 = 0 := by decide +kernel
theorem index_7 : ∀ t : Fin grid0.N, win0_7.index t 0 = 0 ∧ win0_7.index t 1 = 0 := by decide +kernel
theorem index_8 : ∀ t : Fin grid0.N, win0_8.index t 0 = 0 ∧ win0_8.index t 1 = 0 := by decide +kernel
theorem index_9 : ∀ t : Fin grid0.N, win0_9.index t 0 = min t.val 7 ∧ win0_9.index t 1 = 0 := by decide +kernel
theorem index_10 : ∀ t : Fin grid0.N, win0_10.index t 0 = t.val - 8 ∧ win0_10.index t 1 = 0 := by decide +kernel

theorem iblk_0 (c : Dev nD) (t : Fin cfg0.N) (p : Fin 512) (j : Fin 1024) :
    iblk m c 0 t (ix2 p j) = m (c.tc.loc main_arg0) (ix2 (tok t p) j) := by
  show V m c main_arg0 (((cfg0.win 0).rect t).emb (ix2 p j)) = _
  rw [V_main_arg0]
  refine congrArg _ (funext fun a => Fin.ext ?_)
  match a with
  | ⟨0, _⟩ => exact (Window.rect_emb_val win0_0 t (ix2 p j) 0).trans (by rw [(index_0 t).1]; show t.val * 512 + p.val = 512 * t.val + p.val; omega)
  | ⟨1, _⟩ => exact Window.rect_emb_val_of_index_zero win0_0 t 1 (index_0 t).2 (ix2 p j)

theorem iblk_1 (c : Dev nD) (t : Fin cfg0.N) (r : Fin 6) (j : Fin 1024) :
    iblk m c 1 t (ix3 0 r j) = m (c.tc.loc main_arg1) (ix3 (condRow t) r j) := by
  show V m c main_arg1 (((cfg0.win 1).rect t).emb (ix3 0 r j)) = _
  rw [V_main_arg1]
  refine congrArg _ (funext fun a => Fin.ext ?_)
  match a with
  | ⟨0, _⟩ => exact (Window.rect_emb_val win0_1 t (ix3 0 r j) 0).trans (by rw [(index_1 t).1]; show (if t.val < 8 then 0 else 1 + (t.val - 8) / 8) * 1 + 0 = if t.val < 8 then 0 else 1 + (t.val - 8) / 8; omega)
  | ⟨1, _⟩ => exact Window.rect_emb_val_of_index_zero win0_1 t 1 (index_1 t).2.1 (ix3 0 r j)
  | ⟨2, _⟩ => exact Window.rect_emb_val_of_index_zero win0_1 t 2 (index_1 t).2.2 (ix3 0 r j)

theorem iblk_2 (c : Dev nD) (t : Fin cfg0.N) (p : Fin 512) (k : Fin 8) :
    iblk m c 2 t (ix2 p k) = m (c.tc.loc main_arg2) (ix2 (tok t p) k) := by
  show V m c main_arg2 (((cfg0.win 2).rect t).emb (ix2 p k)) = _
  rw [V_main_arg2]
  refine congrArg _ (funext fun a => Fin.ext ?_)
  match a with
  | ⟨0, _⟩ => exact (Window.rect_emb_val win0_2 t (ix2 p k) 0).trans (by rw [(index_2 t).1]; show t.val * 512 + p.val = 512 * t.val + p.val; omega)
  | ⟨1, _⟩ => exact Window.rect_emb_val_of_index_zero win0_2 t 1 (index_2 t).2 (ix2 p k)

theorem iblk_3 (c : Dev nD) (t : Fin cfg0.N) (h : Fin 2) (k : Fin 8) (p : Fin 512) (q : Fin 256) :
    iblk m c 3 t (ix4 h k p q) = m (c.tc.loc main_arg3) (ix4 h k (tok t p) q) := by
  show V m c main_arg3 (((cfg0.win 3).rect t).emb (ix4 h k p q)) = _
  rw [V_main_arg3]
  refine congrArg _ (funext fun a => Fin.ext ?_)
  match a with
  | ⟨0, _⟩ => exact Window.rect_emb_val_of_index_zero win0_3 t 0 (index_3 t).1 (ix4 h k p q)
  | ⟨1, _⟩ => exact Window.rect_emb_val_of_index_zero win0_3 t 1 (index_3 t).2.1 (ix4 h k p q)
  | ⟨2, _⟩ => exact (Window.rect_emb_val win0_3 t (ix4 h k p q) 2).trans (by rw [(index_3 t).2.2.1]; show t.val * 512 + p.val = 512 * t.val + p.val; omega)
  | ⟨3, _⟩ => exact Window.rect_emb_val_of_index_zero win0_3 t 3 (index_3 t).2.2.2 (ix4 h k p q)

/-! The weights, which the host code casts (the identity over the extended reals), and the two rows it reshapes. -/

variable (mI : (ℓ : Loc nD τ sig) → Buf (Elt Ideal) ℓ)

theorem iblk_4 (c : Dev nD) (t : Fin cfg0.N) (p : Fin 1024) (j : Fin 256) :
    iblk mI c 4 t (ix2 p j) = mI (c.tc.loc main_arg4) (ix2 p j) := by
  show V mI c main_v0 (((cfg0.win 4).rect t).emb (ix2 p j)) = _
  entry_read
  refine congrArg (mI (c.tc.loc main_arg4)) (funext fun a => Fin.ext ?_)
  match a with
  | ⟨0, _⟩ => exact Window.rect_emb_val_of_index_zero win0_4 t 0 (index_4 t).1 (ix2 p j)
  | ⟨1, _⟩ => exact Window.rect_emb_val_of_index_zero win0_4 t 1 (index_4 t).2 (ix2 p j)

theorem iblk_5 (c : Dev nD) (t : Fin cfg0.N) (p : Fin 1024) (j : Fin 256) :
    iblk mI c 5 t (ix2 p j) = mI (c.tc.loc main_arg5) (ix2 p j) := by
  show V mI c main_v1 (((cfg0.win 5).rect t).emb (ix2 p j)) = _
  entry_read
  refine congrArg (mI (c.tc.loc main_arg5)) (funext fun a => Fin.ext ?_)
  match a with
  | ⟨0, _⟩ => exact Window.rect_emb_val_of_index_zero win0_5 t 0 (index_5 t).1 (ix2 p j)
  | ⟨1, _⟩ => exact Window.rect_emb_val_of_index_zero win0_5 t 1 (index_5 t).2 (ix2 p j)

theorem iblk_6 (c : Dev nD) (t : Fin cfg0.N) (p : Fin 256) (j : Fin 1024) :
    iblk mI c 6 t (ix2 p j) = mI (c.tc.loc main_arg6) (ix2 p j) := by
  show V mI c main_v2 (((cfg0.win 6).rect t).emb (ix2 p j)) = _
  entry_read
  refine congrArg (mI (c.tc.loc main_arg6)) (funext fun a => Fin.ext ?_)
  match a with
  | ⟨0, _⟩ => exact Window.rect_emb_val_of_index_zero win0_6 t 0 (index_6 t).1 (ix2 p j)
  | ⟨1, _⟩ => exact Window.rect_emb_val_of_index_zero win0_6 t 1 (index_6 t).2 (ix2 p j)

theorem iblk_7 (c : Dev nD) (t : Fin cfg0.N) (j : Fin 1024) :
    iblk m c 7 t (ix2 0 j) = m (c.tc.loc main_arg7) (ix1 j) := by
  have e : ((cfg0.win 7).rect t).emb (ix2 0 j) = ix2 0 j := by
    refine funext fun a => Fin.ext ?_
    match a with
    | ⟨0, _⟩ => exact Window.rect_emb_val_of_index_zero win0_7 t 0 (index_7 t).1 (ix2 0 j)
    | ⟨1, _⟩ => exact Window.rect_emb_val_of_index_zero win0_7 t 1 (index_7 t).2 (ix2 0 j)
  show V m c main_v3 (((cfg0.win 7).rect t).emb (ix2 0 j)) = _
  rw [e]
  entry_read
  pointwise

theorem iblk_8 (c : Dev nD) (t : Fin cfg0.N) (j : Fin 1024) :
    iblk m c 8 t (ix2 0 j) = m (c.tc.loc main_arg8) (ix1 j) := by
  have e : ((cfg0.win 8).rect t).emb (ix2 0 j) = ix2 0 j := by
    refine funext fun a => Fin.ext ?_
    match a with
    | ⟨0, _⟩ => exact Window.rect_emb_val_of_index_zero win0_8 t 0 (index_8 t).1 (ix2 0 j)
    | ⟨1, _⟩ => exact Window.rect_emb_val_of_index_zero win0_8 t 1 (index_8 t).2 (ix2 0 j)
  show V m c main_v4 (((cfg0.win 8).rect t).emb (ix2 0 j)) = _
  rw [e]
  entry_read
  pointwise

end Cert.KernelIdeal.Combine

end
-- ==== Proof.TileValue.lean ====
/- The tile a grid point stores, over the extended reals: row `p` of it is the token function of row `p` of the blocks. -/
module

public import proofs.«01_k».proof.Proof.Tile
public import proofs.«01_k».proof.Proof.Token

@[expose] public section

noncomputable section

namespace Cert.KernelIdeal.Combine

open Cert.KernelIdeal Cert.KernelIdeal.Gen
open Idealize.ShloMosaic

/-- The shared expert's block. -/
theorem pay2_apply (v0 : Vec Ideal S512x1024 .f32) (v1 v7 : Vec Ideal S1x1x1024 .f32) (v12 v15 : Vec Ideal S1024x256 .bf16)
    (v22 : Vec Ideal S256x1024 .bf16) (p : Fin 512) (j : Fin 1024) :
    k0_pay2 v0 v1 v7 v12 v15 v22 (ix2 p j)
      = Cert.Token.shared (Cert.Token.hidden (fun k => v0 (ix2 p k)) (fun k => v1 (ix3 0 0 k)) (fun k => v7 (ix3 0 0 k)))
          (fun k e => v12 (ix2 k e)) (fun k e => v15 (ix2 k e)) (fun e k => v22 (ix2 e k)) j := by
  pointwise [k0_pay2]
  rfl

/-- One choice's rows, unpacked. -/
def rowsOf (a b : Vec Ideal S1x1x512x256 .i32) (p : Fin 512) (j : Fin 1024) : EReal :=
  Cert.Token.rowEl (fun q => a (ix4 0 0 p q)) (fun q => b (ix4 0 0 p q)) j

theorem pay3_apply (a b : Vec Ideal S1x1x512x256 .i32) (p : Fin 512) (j : Fin 1024) :
    k0_pay3 (F := Ideal) a b (ix2 p j) = rowsOf a b p j := by
  pointwise [k0_pay3]
  rfl

theorem pay4_apply (v24 v32 : Vec Ideal S512x1024 .f32) (w0 : Vec Ideal S512x1 .f32) (a1 b1 : Vec Ideal S1x1x512x256 .i32)
    (w1 : Vec Ideal S512x1 .f32) (a2 b2 : Vec Ideal S1x1x512x256 .i32) (w2 : Vec Ideal S512x1 .f32) (p : Fin 512) (j : Fin 1024) :
    k0_pay4 (F := Ideal) v24 v32 w0 a1 b1 w1 a2 b2 w2 (ix2 p j)
      = v24 (ix2 p j) + v32 (ix2 p j) * w0 (ix2 p 0) + rowsOf a1 b1 p j * w1 (ix2 p 0) + rowsOf a2 b2 p j * w2 (ix2 p 0) := by
  pointwise [k0_pay4]
  rfl

theorem pay6_apply (v60 : Vec Ideal S512x1024 .f32) (a3 b3 : Vec Ideal S1x1x512x256 .i32) (w3 : Vec Ideal S512x1 .f32)
    (a4 b4 : Vec Ideal S1x1x512x256 .i32) (w4 : Vec Ideal S512x1 .f32) (a5 b5 : Vec Ideal S1x1x512x256 .i32)
    (w5 : Vec Ideal S512x1 .f32) (p : Fin 512) (j : Fin 1024) :
    k0_pay6 (F := Ideal) v60 (k0_pay5 (F := Ideal) a3) b3 w3 a4 b4 w4 a5 b5 w5 (ix2 p j)
      = v60 (ix2 p j) + rowsOf a3 b3 p j * w3 (ix2 p 0) + rowsOf a4 b4 p j * w4 (ix2 p 0) + rowsOf a5 b5 p j * w5 (ix2 p 0) := by
  pointwise [k0_pay6, k0_pay5]
  rfl

theorem pay7_apply (v0 v96 : Vec Ideal S512x1024 .f32) (a6 b6 : Vec Ideal S1x1x512x256 .i32) (w6 : Vec Ideal S512x1 .f32)
    (a7 b7 : Vec Ideal S1x1x512x256 .i32) (w7 : Vec Ideal S512x1 .f32) (v123 : Vec Ideal S1x1x1024 .f32) (p : Fin 512) (j : Fin 1024) :
    k0_pay7 (F := Ideal) v0 v96 a6 b6 w6 a7 b7 w7 v123 (ix2 p j)
      = Ideal.ofBits FTy.f32 0x3FB504F3#32 * v0 (ix2 p j) + v123 (ix3 0 0 j)
          * (v96 (ix2 p j) + rowsOf a6 b6 p j * w6 (ix2 p 0) + rowsOf a7 b7 p j * w7 (ix2 p 0)) := by
  pointwise [k0_pay7]
  rfl

theorem pay1_apply (v : Vec Ideal S512x1024 .f32) (g b : Vec Ideal S1x1024 .f32) (p : Fin 512) (j : Fin 1024) :
    k0_pay1 (F := Ideal) v (k0_pay8 (F := Ideal) g) (k0_pay9 (F := Ideal) b) (ix2 p j)
      = Cert.Token.norm (fun k => v (ix2 p k)) (fun k => g (ix2 0 k)) (fun k => b (ix2 0 k)) j := by
  pointwise [k0_pay1, k0_pay8, k0_pay9]
  rfl

/-- The rows of choice `k` in the block of packed rows. -/
def blockRow (x3 : Vec Ideal S2x8x512x256 .i32) (p : Fin 512) (k : Fin 8) (j : Fin 1024) : EReal :=
  Cert.Token.rowEl (fun q => x3 (ix4 0 k p q)) (fun q => x3 (ix4 1 k p q)) j

theorem rows_0 (x3 : Vec Ideal S2x8x512x256 .i32) (p : Fin 512) (j : Fin 1024) :
    rowsOf (words00 x3) (words10 x3) p j = blockRow x3 p 0 j := by
  unfold rowsOf blockRow words00 words10
  pointwise
theorem wcol_0 (x2 : Vec Ideal S512x8 .f32) (p : Fin 512) : wcol0 x2 (ix2 p 0) = x2 (ix2 p 0) := by
  pointwise [wcol0]
theorem rows_1 (x3 : Vec Ideal S2x8x512x256 .i32) (p : Fin 512) (j : Fin 1024) :
    rowsOf (words01 x3) (words11 x3) p j = blockRow x3 p 1 j := by
  unfold rowsOf blockRow words01 words11
  pointwise
theorem wcol_1 (x2 : Vec Ideal S512x8 .f32) (p : Fin 512) : wcol1 x2 (ix2 p 0) = x2 (ix2 p 1) := by
  pointwise [wcol1]
theorem rows_2 (x3 : Vec Ideal S2x8x512x256 .i32) (p : Fin 512) (j : Fin 1024) :
    rowsOf (words02 x3) (words12 x3) p j = blockRow x3 p 2 j := by
  unfold rowsOf blockRow words02 words12
  pointwise
theorem wcol_2 (x2 : Vec Ideal S512x8 .f32) (p : Fin 512) : wcol2 x2 (ix2 p 0) = x2 (ix2 p 2) := by
  pointwise [wcol2]
theorem rows_3 (x3 : Vec Ideal S2x8x512x256 .i32) (p : Fin 512) (j : Fin 1024) :
    rowsOf (words03 x3) (words13 x3) p j = blockRow x3 p 3 j := by
  unfold rowsOf blockRow words03 words13
  pointwise
theorem wcol_3 (x2 : Vec Ideal S512x8 .f32) (p : Fin 512) : wcol3 x2 (ix2 p 0) = x2 (ix2 p 3) := by
  pointwise [wcol3]
theorem rows_4 (x3 : Vec Ideal S2x8x512x256 .i32) (p : Fin 512) (j : Fin 1024) :
    rowsOf (words04 x3) (words14 x3) p j = blockRow x3 p 4 j := by
  unfold rowsOf blockRow words04 words14
  pointwise
theorem wcol_4 (x2 : Vec Ideal S512x8 .f32) (p : Fin 512) : wcol4 x2 (ix2 p 0) = x2 (ix2 p 4) := by
  pointwise [wcol4]
theorem rows_5 (x3 : Vec Ideal S2x8x512x256 .i32) (p : Fin 512) (j : Fin 1024) :
    rowsOf (words05 x3) (words15 x3) p j = blockRow x3 p 5 j := by
  unfold rowsOf blockRow words05 words15
  pointwise
theorem wcol_5 (x2 : Vec Ideal S512x8 .f32) (p : Fin 512) : wcol5 x2 (ix2 p 0) = x2 (ix2 p 5) := by
  pointwise [wcol5]
theorem rows_6 (x3 : Vec Ideal S2x8x512x256 .i32) (p : Fin 512) (j : Fin 1024) :
    rowsOf (words06 x3) (words16 x3) p j = blockRow x3 p 6 j := by
  unfold rowsOf blockRow words06 words16
  pointwise
theorem wcol_6 (x2 : Vec Ideal S512x8 .f32) (p : Fin 512) : wcol6 x2 (ix2 p 0) = x2 (ix2 p 6) := by
  pointwise [wcol6]
theorem rows_7 (x3 : Vec Ideal S2x8x512x256 .i32) (p : Fin 512) (j : Fin 1024) :
    rowsOf (words07 x3) (words17 x3) p j = blockRow x3 p 7 j := by
  unfold rowsOf blockRow words07 words17
  pointwise
theorem wcol_7 (x2 : Vec Ideal S512x8 .f32) (p : Fin 512) : wcol7 x2 (ix2 p 0) = x2 (ix2 p 7) := by
  pointwise [wcol7]
theorem modRow3_apply (x1 : Vec Ideal S1x6x1024 .f32) (j : Fin 1024) : modRow3 x1 (ix3 0 0 j) = x1 (ix3 0 3 j) := by
  pointwise [modRow3]
theorem modRow4_apply (x1 : Vec Ideal S1x6x1024 .f32) (j : Fin 1024) : modRow4 x1 (ix3 0 0 j) = x1 (ix3 0 4 j) := by
  pointwise [modRow4]
theorem modRow5_apply (x1 : Vec Ideal S1x6x1024 .f32) (j : Fin 1024) : modRow5 x1 (ix3 0 0 j) = x1 (ix3 0 5 j) := by
  pointwise [modRow5]

/-- The order of the nine summands. -/
theorem sum_order (s a0 a1 a2 a3 a4 a5 a6 a7 : EReal) :
    s + a0 + a1 + a2 + a3 + a4 + a5 + a6 + a7 = a0 + a1 + a2 + a3 + a4 + a5 + a6 + a7 + s := by
  ac_rfl

/-- Row `p` of the tile is the token function of row `p` of the blocks. -/
theorem tile_apply (x0 : Vec Ideal S512x1024 .f32) (x1 : Vec Ideal S1x6x1024 .f32) (x2 : Vec Ideal S512x8 .f32)
    (x3 : Vec Ideal S2x8x512x256 .i32) (x4 x5 : Vec Ideal S1024x256 .bf16) (x6 : Vec Ideal S256x1024 .bf16)
    (x7 x8 : Vec Ideal S1x1024 .f32) (p : Fin 512) (j : Fin 1024) :
    tile (F := Ideal) x0 x1 x2 x3 x4 x5 x6 x7 x8 (ix2 p j)
      = Cert.Token.out (fun k => x0 (ix2 p k)) (fun k => x1 (ix3 0 4 k)) (fun k => x1 (ix3 0 3 k)) (fun k => x1 (ix3 0 5 k))
          (fun k => x2 (ix2 p k)) (blockRow x3 p) (fun k e => x4 (ix2 k e)) (fun k e => x5 (ix2 k e)) (fun e k => x6 (ix2 e k))
          (fun k => x7 (ix2 0 k)) (fun k => x8 (ix2 0 k)) j := by
  unfold tile
  rw [pay1_apply]
  unfold Cert.Token.out
  refine congrArg (fun v => Cert.Token.norm v _ _ j) (funext fun q => ?_)
  unfold residual mixed5 mixed2
  rw [pay7_apply, pay6_apply, pay4_apply, pay3_apply, pay2_apply]
  rw [rows_0, rows_1, rows_2, rows_3, rows_4, rows_5, rows_6, rows_7, wcol_0, wcol_1, wcol_2, wcol_3, wcol_4, wcol_5, wcol_6,
    wcol_7, modRow5_apply]
  simp only [modRow3_apply, modRow4_apply]
  unfold Cert.Token.resid Cert.Token.routed
  rw [Fin.sum_univ_eight]
  refine congrArg₂ (· + ·) rfl (congrArg₂ (· * ·) rfl ?_)
  exact sum_order ..

end Cert.KernelIdeal.Combine

end
-- ==== Proof.RefValue.lean ====
/- The reference's two results, over the extended reals, at an index: the token function of the token's rows. -/
module

public import proofs.«01_k».proof.Proof.Gen.ReferenceIdeal.Read
public import proofs.«01_k».proof.Proof.Token
public import Idealize.ShloMosaic.Lib.BitcastConvert

@[expose] public section

noncomputable section

namespace Cert.ReferenceIdeal.Combine

open Cert.ReferenceIdeal Cert.ReferenceIdeal.Gen Cert.ReferenceIdeal.Read
open Idealize.ShloMosaic

/-- The row that expert choice `k` of token `t` returned. -/
def rowOf (x3 : Vec Ideal S2x8x20480x256 .i32) (t : Fin 20480) (k : Fin 8) (j : Fin 1024) : EReal :=
  Cert.Token.rowEl (fun q => x3 (ix4 0 k t q)) (fun q => x3 (ix4 1 k t q)) j

theorem drop_apply (c : Fin 2) (k : Fin 8) (t : Fin 20480) (q : Fin 256) (h : Fin 2) :
    splits_S2x8x20480x256_w32_S2x8x20480x256x2_w16.drop (ix5 c k t q h) = ix4 c k t q := by
  funext a
  fin_cases a <;> rfl

theorem v1_apply (x3 : Vec Ideal S2x8x20480x256 .i32) (c : Fin 2) (k : Fin 8) (t : Fin 20480) (q : Fin 256) (h : Fin 2) :
    val_main_v1 (F := Ideal) x3 (ix5 c k t q h) = Ideal.ofBits FTy.bf16 (BitVec.extractLsb' (h.val * 16) 16 (x3 (ix4 c k t q))) := by
  pointwise [val_main_v1, val_main_v0]
  rw [drop_apply]

/-- The rows, unpacked and laid side by side. -/
theorem v10_apply (x3 : Vec Ideal S2x8x20480x256 .i32) (k : Fin 8) (t : Fin 20480) (j : Fin 1024) :
    val_main_v10 (F := Ideal) x3 (ix3 k t j) = rowOf x3 t k j := by
  pointwise [val_main_v10, val_main_v9, val_main_v8, val_main_v7, val_main_v6, val_main_v5, val_main_v4, val_main_v3, val_main_v2]
  simp only [v1_apply]
  unfold rowOf Cert.Token.rowEl
  have hj := j.isLt
  by_cases h1 : j.val < 256
  · rw [dif_pos h1, dif_pos (by omega), dif_pos h1]; rfl
  by_cases h2 : j.val < 512
  · rw [dif_neg h1, dif_pos (by omega), dif_pos h2, dif_neg h1]; rfl
  by_cases h3 : j.val < 768
  · rw [dif_neg h1, dif_neg (by omega), dif_pos (by omega), dif_neg h2, dif_pos (by omega)]
    have e : j.val - 256 - 256 = j.val - 512 := by omega
    simp only [e]; rfl
  · rw [dif_neg h1, dif_neg (by omega), dif_neg (by omega), dif_neg h2, dif_neg (by omega)]
    have e : j.val - 256 - 256 - 256 = j.val - 512 - 256 := by omega
    simp only [e]; rfl

/-! The prompt half. -/

theorem prompt_hidden (x0 : Vec Ideal S20480x1024 .f32) (x1 : Vec Ideal S8x6x1024 .f32) (t : Fin 4096) (j : Fin 1024) :
    val_main_v30 (F := Ideal) x0 x1 (ix2 t j) = Cert.Token.hidden (fun k => x0 (ix2 (⟨t.val, by omega⟩ : Fin 20480) k)) (fun k => x1 (ix3 0 4 k)) (fun k => x1 (ix3 0 3 k)) j := by
  pointwise [val_main_v30, val_main_v29, val_main_v28, val_main_v27, val_main_cst, val_main_v22, val_main_v21, val_main_v20, val_main_v19, val_main_v18, val_main_v17, val_main_v16, val_main_v15, val_main_v11, val_main_v12]
  rfl

theorem prompt_gate (x0 : Vec Ideal S20480x1024 .f32) (x1 : Vec Ideal S8x6x1024 .f32) (t : Fin 4096) (j : Fin 1024) :
    val_main_v26 (F := Ideal) x1 (ix2 t j) = x1 (ix3 0 5 j) := by
  pointwise [val_main_v26, val_main_v25, val_main_v24, val_main_v23, val_main_v12]

theorem prompt_shared (x0 : Vec Ideal S20480x1024 .f32) (x1 : Vec Ideal S8x6x1024 .f32) (x4 x5 : Vec Ideal S1024x256 .f32) (x6 : Vec Ideal S256x1024 .f32) (t : Fin 4096) (j : Fin 1024) :
    val_main_v40 (F := Ideal) x0 x1 x4 x5 x6 (ix2 t j)
      = Cert.Token.shared (Cert.Token.hidden (fun k => x0 (ix2 (⟨t.val, by omega⟩ : Fin 20480) k)) (fun k => x1 (ix3 0 4 k)) (fun k => x1 (ix3 0 3 k))) (fun k e => x4 (ix2 k e)) (fun k e => x5 (ix2 k e)) (fun e k => x6 (ix2 e k)) j := by
  pointwise [val_main_v40, val_main_v39, val_main_v38, val_main_v37, val_main_v36, val_main_call0_v5, val_main_call0_v4, val_main_call0_cst_0, val_main_call0_v3, val_main_call0_v2, val_main_call0_cst, val_main_call0_v1, val_main_call0_v0]
  simp only [prompt_hidden]
  rfl

theorem prompt_routed (x2 : Vec Ideal S20480x8 .f32) (x3 : Vec Ideal S2x8x20480x256 .i32) (t : Fin 4096) (j : Fin 1024) :
    val_main_v35 (F := Ideal) x2 x3 (ix2 t j) = Cert.Token.routed (fun k => x2 (ix2 (⟨t.val, by omega⟩ : Fin 20480) k)) (rowOf x3 (⟨t.val, by omega⟩ : Fin 20480)) j := by
  pointwise [val_main_v35, val_main_cst_0, val_main_v34, val_main_v33, val_main_v32, val_main_v31, val_main_v14, val_main_v13]
  simp only [v10_apply]
  rfl

theorem prompt_resid (x0 : Vec Ideal S20480x1024 .f32) (x1 : Vec Ideal S8x6x1024 .f32) (x2 : Vec Ideal S20480x8 .f32) (x3 : Vec Ideal S2x8x20480x256 .i32) (x4 x5 : Vec Ideal S1024x256 .f32) (x6 : Vec Ideal S256x1024 .f32) (x7 x8 : Vec Ideal S1024 .f32) (t : Fin 4096) (j : Fin 1024) :
    val_main_v45 (F := Ideal) x0 x1 x2 x3 x4 x5 x6 (ix2 t j)
      = Cert.Token.resid (fun k => x0 (ix2 (⟨t.val, by omega⟩ : Fin 20480) k)) (fun k => x1 (ix3 0 4 k)) (fun k => x1 (ix3 0 3 k)) (fun k => x1 (ix3 0 5 k)) (fun k => x2 (ix2 (⟨t.val, by omega⟩ : Fin 20480) k)) (rowOf x3 (⟨t.val, by omega⟩ : Fin 20480))
          (fun k e => x4 (ix2 k e)) (fun k e => x5 (ix2 k e)) (fun e k => x6 (ix2 e k)) j := by
  pointwise [val_main_v45, val_main_v44, val_main_v43, val_main_v42, val_main_v41, val_main_cst_1, val_main_v11]
  simp only [prompt_gate x0 x1, prompt_routed, prompt_shared]
  rfl

theorem prompt_out (x0 : Vec Ideal S20480x1024 .f32) (x1 : Vec Ideal S8x6x1024 .f32) (x2 : Vec Ideal S20480x8 .f32) (x3 : Vec Ideal S2x8x20480x256 .i32) (x4 x5 : Vec Ideal S1024x256 .f32) (x6 : Vec Ideal S256x1024 .f32) (x7 x8 : Vec Ideal S1024 .f32) (t : Fin 4096) (j : Fin 1024) :
    val_main_v69 (F := Ideal) x0 x1 x2 x3 x4 x5 x6 x7 x8 (ix2 t j)
      = Cert.Token.out (fun k => x0 (ix2 (⟨t.val, by omega⟩ : Fin 20480) k)) (fun k => x1 (ix3 0 4 k)) (fun k => x1 (ix3 0 3 k)) (fun k => x1 (ix3 0 5 k)) (fun k => x2 (ix2 (⟨t.val, by omega⟩ : Fin 20480) k)) (rowOf x3 (⟨t.val, by omega⟩ : Fin 20480))
          (fun k e => x4 (ix2 k e)) (fun k e => x5 (ix2 k e)) (fun e k => x6 (ix2 e k)) (fun k => x7 (ix1 k)) (fun k => x8 (ix1 k)) j := by
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_cst_2, val_main_cst_3, val_main_cst_4, val_main_cst_5, val_main_cst_6]
  simp only [prompt_resid _ _ _ _ _ _ _ x7 x8]
  rfl

/-! The sample half. -/

theorem sample_hidden (x0 : Vec Ideal S20480x1024 .f32) (x1 : Vec Ideal S8x6x1024 .f32) (t : Fin 16384) (j : Fin 1024) :
    val_main_v89 (F := Ideal) x0 x1 (ix2 t j) = Cert.Token.hidden (fun k => x0 (ix2 (⟨4096 + t.val, by omega⟩ : Fin 20480) k)) (fun k => x1 (ix3 (⟨1 + t.val / 4096, by omega⟩ : Fin 8) 4 k)) (fun k => x1 (ix3 (⟨1 + t.val / 4096, by omega⟩ : Fin 8) 3 k)) j := by
  pointwise [val_main_v89, val_main_v88, val_main_v87, val_main_v86, val_main_cst_7, val_main_v81, val_main_v80, val_main_v79, val_main_v78, val_main_v77, val_main_v76, val_main_v75, val_main_v74, val_main_v70, val_main_v71]
  rfl

theorem sample_gate (x0 : Vec Ideal S20480x1024 .f32) (x1 : Vec Ideal S8x6x1024 .f32) (t : Fin 16384) (j : Fin 1024) :
    val_main_v85 (F := Ideal) x1 (ix2 t j) = x1 (ix3 (⟨1 + t.val / 4096, by omega⟩ : Fin 8) 5 j) := by
  pointwise [val_main_v85, val_main_v84, val_main_v83, val_main_v82, val_main_v71]

theorem sample_shared (x0 : Vec Ideal S20480x1024 .f32) (x1 : Vec Ideal S8x6x1024 .f32) (x4 x5 : Vec Ideal S1024x256 .f32) (x6 : Vec Ideal S256x1024 .f32) (t : Fin 16384) (j : Fin 1024) :
    val_main_v99 (F := Ideal) x0 x1 x4 x5 x6 (ix2 t j)
      = Cert.Token.shared (Cert.Token.hidden (fun k => x0 (ix2 (⟨4096 + t.val, by omega⟩ : Fin 20480) k)) (fun k => x1 (ix3 (⟨1 + t.val / 4096, by omega⟩ : Fin 8) 4 k)) (fun k => x1 (ix3 (⟨1 + t.val / 4096, by omega⟩ : Fin 8) 3 k))) (fun k e => x4 (ix2 k e)) (fun k e => x5 (ix2 k e)) (fun e k => x6 (ix2 e k)) j := by
  pointwise [val_main_v99, val_main_v98, val_main_v97, val_main_v96, val_main_v95, val_main_call1_v5, val_main_call1_v4, val_main_call1_cst_0, val_main_call1_v3, val_main_call1_v2, val_main_call1_cst, val_main_call1_v1, val_main_call1_v0]
  simp only [sample_hidden]
  rfl

theorem sample_routed (x2 : Vec Ideal S20480x8 .f32) (x3 : Vec Ideal S2x8x20480x256 .i32) (t : Fin 16384) (j : Fin 1024) :
    val_main_v94 (F := Ideal) x2 x3 (ix2 t j) = Cert.Token.routed (fun k => x2 (ix2 (⟨4096 + t.val, by omega⟩ : Fin 20480) k)) (rowOf x3 (⟨4096 + t.val, by omega⟩ : Fin 20480)) j := by
  pointwise [val_main_v94, val_main_cst_8, val_main_v93, val_main_v92, val_main_v91, val_main_v90, val_main_v73, val_main_v72]
  simp only [v10_apply]
  rfl

theorem sample_resid (x0 : Vec Ideal S20480x1024 .f32) (x1 : Vec Ideal S8x6x1024 .f32) (x2 : Vec Ideal S20480x8 .f32) (x3 : Vec Ideal S2x8x20480x256 .i32) (x4 x5 : Vec Ideal S1024x256 .f32) (x6 : Vec Ideal S256x1024 .f32) (x7 x8 : Vec Ideal S1024 .f32) (t : Fin 16384) (j : Fin 1024) :
    val_main_v104 (F := Ideal) x0 x1 x2 x3 x4 x5 x6 (ix2 t j)
      = Cert.Token.resid (fun k => x0 (ix2 (⟨4096 + t.val, by omega⟩ : Fin 20480) k)) (fun k => x1 (ix3 (⟨1 + t.val / 4096, by omega⟩ : Fin 8) 4 k)) (fun k => x1 (ix3 (⟨1 + t.val / 4096, by omega⟩ : Fin 8) 3 k)) (fun k => x1 (ix3 (⟨1 + t.val / 4096, by omega⟩ : Fin 8) 5 k)) (fun k => x2 (ix2 (⟨4096 + t.val, by omega⟩ : Fin 20480) k)) (rowOf x3 (⟨4096 + t.val, by omega⟩ : Fin 20480))
          (fun k e => x4 (ix2 k e)) (fun k e => x5 (ix2 k e)) (fun e k => x6 (ix2 e k)) j := by
  pointwise [val_main_v104, val_main_v103, val_main_v102, val_main_v101, val_main_v100, val_main_cst_9, val_main_v70]
  simp only [sample_gate x0 x1, sample_routed, sample_shared]
  rfl

theorem sample_out (x0 : Vec Ideal S20480x1024 .f32) (x1 : Vec Ideal S8x6x1024 .f32) (x2 : Vec Ideal S20480x8 .f32) (x3 : Vec Ideal S2x8x20480x256 .i32) (x4 x5 : Vec Ideal S1024x256 .f32) (x6 : Vec Ideal S256x1024 .f32) (x7 x8 : Vec Ideal S1024 .f32) (t : Fin 16384) (j : Fin 1024) :
    val_main_v128 (F := Ideal) x0 x1 x2 x3 x4 x5 x6 x7 x8 (ix2 t j)
      = Cert.Token.out (fun k => x0 (ix2 (⟨4096 + t.val, by omega⟩ : Fin 20480) k)) (fun k => x1 (ix3 (⟨1 + t.val / 4096, by omega⟩ : Fin 8) 4 k)) (fun k => x1 (ix3 (⟨1 + t.val / 4096, by omega⟩ : Fin 8) 3 k)) (fun k => x1 (ix3 (⟨1 + t.val / 4096, by omega⟩ : Fin 8) 5 k)) (fun k => x2 (ix2 (⟨4096 + t.val, by omega⟩ : Fin 20480) k)) (rowOf x3 (⟨4096 + t.val, by omega⟩ : Fin 20480))
          (fun k e => x4 (ix2 k e)) (fun k e => x5 (ix2 k e)) (fun e k => x6 (ix2 e k)) (fun k => x7 (ix1 k)) (fun k => x8 (ix1 k)) j := by
  pointwise [val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_cst_10, val_main_cst_11, val_main_cst_12, val_main_cst_13, val_main_cst_14]
  simp only [sample_resid _ _ _ _ _ _ _ x7 x8]
  rfl

end Cert.ReferenceIdeal.Combine

end
-- ==== Proof.Arrays.lean ====
/- The two result arrays after the run, over the extended reals, are the reference's two results at the same arguments. -/
module

public import proofs.«01_k».proof.Proof.Blocks
public import proofs.«01_k».proof.Proof.TileValue
public import proofs.«01_k».proof.Proof.RefValue

@[expose] public section

set_option maxRecDepth 16384

noncomputable section

namespace Cert.KernelIdeal.Combine

open Cert.KernelIdeal Cert.KernelIdeal.Gen
open Idealize.ShloMosaic Idealize.ShloMosaic.TcCoe Idealize.ShloMosaic.Tactic
open Idealize.ShloMosaic.Pipeline (Window Dat)

variable (m : (ℓ : Loc nD τ sig) → Buf (Elt Ideal) ℓ)

/-- The token function of token `s` under modulation row `r`, at the arguments. -/
def tokenVal (c : Dev nD) (r : Fin 8) (s : Fin 20480) (j : Fin 1024) : EReal :=
  Cert.Token.out (fun k => m (c.tc.loc main_arg0) (ix2 s k)) (fun k => m (c.tc.loc main_arg1) (ix3 r 4 k))
    (fun k => m (c.tc.loc main_arg1) (ix3 r 3 k)) (fun k => m (c.tc.loc main_arg1) (ix3 r 5 k))
    (fun k => m (c.tc.loc main_arg2) (ix2 s k)) (Cert.ReferenceIdeal.Combine.rowOf (m (c.tc.loc main_arg3)) s)
    (fun k e => m (c.tc.loc main_arg4) (ix2 k e)) (fun k e => m (c.tc.loc main_arg5) (ix2 k e)) (fun e k => m (c.tc.loc main_arg6) (ix2 e k))
    (fun k => m (c.tc.loc main_arg7) (ix1 k)) (fun k => m (c.tc.loc main_arg8) (ix1 k)) j

/-- Row `p` of the tile of point `t` is the token function of that token. -/
theorem blockTile_apply (c : Dev nD) (t : Fin cfg0.N) (p : Fin 512) (j : Fin 1024) :
    blockTile m c t (ix2 p j) = tokenVal m c (condRow t) (tok t p) j := by
  refine (tile_apply _ _ _ _ _ _ _ _ _ p j).trans ?_
  unfold tokenVal blockRow Cert.ReferenceIdeal.Combine.rowOf
  simp only [iblk_0, iblk_1, iblk_2, iblk_3, iblk_4, iblk_5, iblk_6, iblk_7, iblk_8]

/-- The reference's first result at the arguments, -/
abbrev promptVal (c : Dev nD) : Vec Ideal S4096x1024 .f32 :=
  Cert.ReferenceIdeal.Read.val_main_v69 (F := Ideal) (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7)) (m (c.tc.loc main_arg8))
/-- and its second. -/
abbrev sampleVal (c : Dev nD) : Vec Ideal S16384x1024 .f32 :=
  Cert.ReferenceIdeal.Read.val_main_v128 (F := Ideal) (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7)) (m (c.tc.loc main_arg8))

/-- What a point writes back to the prompt's array is its block of the reference's first result. -/
theorem flushed_prompt (c : Dev nD) (t : Fin cfg0.N) :
    (dats m 0 c).flushed 9 t = ((cfg0.win 9).blk t).view.read (Elt Ideal) (promptVal m c) := by
  show (cfg0.win 9).cut (grid0.coords t) ((dats m 0 c).after 9 t) = _
  rw [after_9]
  funext y
  have ht := point_lt t
  have hy : y = ix2 (y 0) (y 1) := by funext a; fin_cases a <;> rfl
  have h0 : (y 0).val < 512 := (y 0).isLt
  have e : ((cfg0.win 9).rect t).emb y = ix2 (⟨512 * min t.val 7 + (y 0).val, by omega⟩ : Fin 4096) (y 1) := by
    refine funext fun a => Fin.ext ?_
    match a with
    | ⟨0, _⟩ => exact (Window.rect_emb_val win0_9 t y 0).trans (by rw [(index_9 t).1]; show min t.val 7 * 512 + (y 0).val = 512 * min t.val 7 + (y 0).val; omega)
    | ⟨1, _⟩ => exact Window.rect_emb_val_of_index_zero win0_9 t 1 (index_9 t).2 y
  show blockTile m c (promptPoint t) y = promptVal m c (((cfg0.win 9).rect t).emb y)
  rw [e]
  refine ((congrArg _ hy).trans (blockTile_apply m c (promptPoint t) (y 0) (y 1))).trans ?_
  refine Eq.trans ?_ (Cert.ReferenceIdeal.Combine.prompt_out _ _ _ _ _ _ _ _ _ _ _).symm
  have hr : condRow (promptPoint t) = 0 := Fin.ext (by
    show (if min t.val 7 < 8 then 0 else _) = 0
    rw [if_pos (by omega)])
  rw [hr]
  rfl

/-- What a sample point writes back is its block of the reference's second result. -/
theorem flushed_sample (c : Dev nD) (t : Fin cfg0.N) (h8 : 8 ≤ t.val) :
    (dats m 0 c).flushed 10 t = ((cfg0.win 10).blk t).view.read (Elt Ideal) (sampleVal m c) := by
  show (cfg0.win 10).cut (grid0.coords t) ((dats m 0 c).after 10 t) = _
  rw [after_10]
  funext y
  have ht := point_lt t
  have hy : y = ix2 (y 0) (y 1) := by funext a; fin_cases a <;> rfl
  have h0 : (y 0).val < 512 := (y 0).isLt
  have e : ((cfg0.win 10).rect t).emb y = ix2 (⟨512 * (t.val - 8) + (y 0).val, by omega⟩ : Fin 16384) (y 1) := by
    refine funext fun a => Fin.ext ?_
    match a with
    | ⟨0, _⟩ => exact (Window.rect_emb_val win0_10 t y 0).trans (by rw [(index_10 t).1]; show (t.val - 8) * 512 + (y 0).val = 512 * (t.val - 8) + (y 0).val; omega)
    | ⟨1, _⟩ => exact Window.rect_emb_val_of_index_zero win0_10 t 1 (index_10 t).2 y
  show blockTile m c t y = sampleVal m c (((cfg0.win 10).rect t).emb y)
  rw [e]
  refine ((congrArg _ hy).trans (blockTile_apply m c t (y 0) (y 1))).trans ?_
  refine Eq.trans ?_ (Cert.ReferenceIdeal.Combine.sample_out _ _ _ _ _ _ _ _ _ _ _).symm
  have hr : condRow t = ⟨1 + (512 * (t.val - 8) + (y 0).val) / 4096, by omega⟩ := Fin.ext (by
    show (if t.val < 8 then 0 else 1 + (t.val - 8) / 8) = 1 + (512 * (t.val - 8) + (y 0).val) / 4096
    rw [if_neg (by omega)]; omega)
  have hs : tok t (y 0) = ⟨4096 + (512 * (t.val - 8) + (y 0).val), by omega⟩ := Fin.ext (by
    show 512 * t.val + (y 0).val = 4096 + (512 * (t.val - 8) + (y 0).val); omega)
  rw [hr, hs]
  rfl

/-- The prompt's blocks cover its array, -/
theorem cover_prompt (i : S4096x1024.Idx) : ∃ t : Fin cfg0.N, (cfg0.win 9).flush t = true ∧ i ∈ ((cfg0.win 9).blk t).view.set := by
  have h0 : (i 0 : Nat) < 4096 := (i 0).isLt
  have h1 : (i 1 : Nat) < 1024 := (i 1).isLt
  have hN : cfg0.N = 40 := N_0
  have key : ∀ t : Fin cfg0.N, min t.val 7 = (i 0 : Nat) / 512 → i ∈ ((cfg0.win 9).blk t).view.set := fun t h => by
    show i ∈ ((View.whole main_v5_0).slice (win0_9.rect t)).set
    rw [View.set_slice_whole, Rect.mem_set_unit]
    intro a
    match a with
    | ⟨0, _⟩ =>
      show win0_9.index t 0 * 512 ≤ (i 0 : Nat) ∧ (i 0 : Nat) < win0_9.index t 0 * 512 + 512
      rw [(index_9 t).1]; omega
    | ⟨1, _⟩ =>
      show win0_9.index t 1 * 1024 ≤ (i 1 : Nat) ∧ (i 1 : Nat) < win0_9.index t 1 * 1024 + 1024
      rw [(index_9 t).2]; omega
  by_cases h : (i 0 : Nat) / 512 < 7
  · exact ⟨⟨(i 0 : Nat) / 512, by omega⟩, by rw [flush_9]; simp only [decide_eq_true_eq]; exact Or.inl h, key _ (by show min ((i 0 : Nat) / 512) 7 = _; omega)⟩
  · exact ⟨⟨39, by omega⟩, by rw [flush_9]; simp only [decide_eq_true_eq]; exact Or.inr trivial, key _ (by show min 39 7 = _; omega)⟩

/-- the sample's theirs. -/
theorem cover_sample (i : S16384x1024.Idx) : ∃ t : Fin cfg0.N, (cfg0.win 10).flush t = true ∧ i ∈ ((cfg0.win 10).blk t).view.set := by
  have h0 : (i 0 : Nat) < 16384 := (i 0).isLt
  have h1 : (i 1 : Nat) < 1024 := (i 1).isLt
  have hN : cfg0.N = 40 := N_0
  have key : ∀ t : Fin cfg0.N, t.val - 8 = (i 0 : Nat) / 512 → i ∈ ((cfg0.win 10).blk t).view.set := fun t h => by
    show i ∈ ((View.whole main_v5_1).slice (win0_10.rect t)).set
    rw [View.set_slice_whole, Rect.mem_set_unit]
    intro a
    match a with
    | ⟨0, _⟩ =>
      show win0_10.index t 0 * 512 ≤ (i 0 : Nat) ∧ (i 0 : Nat) < win0_10.index t 0 * 512 + 512
      rw [(index_10 t).1]; omega
    | ⟨1, _⟩ =>
      show win0_10.index t 1 * 1024 ≤ (i 1 : Nat) ∧ (i 1 : Nat) < win0_10.index t 1 * 1024 + 1024
      rw [(index_10 t).2]; omega
  exact ⟨⟨8 + (i 0 : Nat) / 512, by omega⟩, by rw [flush_10]; simp only [decide_eq_true_eq]; omega, key _ (by show 8 + (i 0 : Nat) / 512 - 8 = _; omega)⟩

theorem final_prompt (c : Dev nD) : (dats m 0 c).arrAt 9 cfg0.N = promptVal m c :=
  (dats m 0 c).arrAt_eq_of_cover 9 (promptVal m c) (fun t _ => flushed_prompt m c t) cover_prompt

theorem final_sample (c : Dev nD) : (dats m 0 c).arrAt 10 cfg0.N = sampleVal m c :=
  (dats m 0 c).arrAt_eq_of_cover 10 (sampleVal m c)
    (fun t hf => flushed_sample m c t (by rw [flush_10] at hf; simpa using hf)) cover_sample

end Cert.KernelIdeal.Combine

end
-- ==== Proof.lean ====
module

public import proofs.«01_k».proof.Proof.Gen.Kernel2.Launch
public import proofs.«01_k».proof.Proof.Gen.Kernel2.Skeleton
public import proofs.«01_k».proof.Proof.Gen.Reference2.Frame
public import proofs.«01_k».proof.Proof.Gen.Kernel4.Launch
public import proofs.«01_k».proof.Proof.Gen.Kernel4.Skeleton
public import proofs.«01_k».proof.Proof.Gen.Reference4.Frame
public import proofs.«01_k».proof.Proof.FfnArrays
public import proofs.«01_k».proof.Proof.Ffn2Arrays
public import proofs.«01_k».proof.Proof.ProjBlocks
public import proofs.«01_k».proof.Proof.ProjABlocks
public import proofs.«01_k».proof.Proof.CombBlocks
public import proofs.«01_k».proof.Proof.OutBBlocks
public import proofs.«01_k».proof.Proof.OutABlocks
public import proofs.«01_k».proof.Proof.Gen.Kernel3.Frame
public import proofs.«01_k».proof.Proof.Gen.Kernel5.Frame
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal.Read
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Arrays
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Idealize.ShloMosaic.Tactic Idealize.SL.ProofMode

/-- At any float instance the run leaves the arguments and every counter as they were. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)
        ∧ r.2.mem (c.tc.loc Cert.KernelIdeal.main_arg3) = m (c.tc.loc Cert.KernelIdeal.main_arg3)
        ∧ r.2.mem (c.tc.loc Cert.KernelIdeal.main_arg4) = m (c.tc.loc Cert.KernelIdeal.main_arg4)
        ∧ r.2.mem (c.tc.loc Cert.KernelIdeal.main_arg5) = m (c.tc.loc Cert.KernelIdeal.main_arg5)
        ∧ r.2.mem (c.tc.loc Cert.KernelIdeal.main_arg6) = m (c.tc.loc Cert.KernelIdeal.main_arg6)
        ∧ r.2.mem (c.tc.loc Cert.KernelIdeal.main_arg7) = m (c.tc.loc Cert.KernelIdeal.main_arg7)
        ∧ r.2.mem (c.tc.loc Cert.KernelIdeal.main_arg8) = m (c.tc.loc Cert.KernelIdeal.main_arg8))
      ∧ r.2.sem = fun _ => 0) :=
  (θ_run _ _ _).mono (fun _ h => ⟨fun c => (h.1 c).2.2, h.2⟩) (Cert.KernelIdeal.Combine.run_results m ρ)

/-- The kernel and the idealized kernel have the same text: one run gives both frames. -/
theorem frame_kernel : Cert.quiescent_Kernel (hKernel := Cert.Kernel.Gen.facts) := fun m ρ _ =>
  Eq.mp (by sl_kernel_rfl) (frame_any (F := Bits) m ρ)

theorem frame_kernelIdeal : Cert.quiescent_KernelIdeal (hKernelIdeal := Cert.KernelIdeal.Gen.facts) := fun m ρ _ => frame_any (F := Ideal) m ρ

/-- The reference is host code without semaphores. -/
theorem frame_referenceIdeal : Cert.quiescent_ReferenceIdeal (hReferenceIdeal := Cert.ReferenceIdeal.Gen.facts) := fun m ρ _ =>
  (θ_run _ _ _).mono (fun r h => ⟨fun c => (h c).2.2, sem_eq_zero_of_no_sems rfl r.2⟩) (Cert.ReferenceIdeal.Value.run m ρ)

/-- Over the extended reals the combine's two results are the reference's. -/
theorem value : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Combine.promptVal m c, fun c => Cert.KernelIdeal.Combine.sampleVal m c, ?_, ?_⟩
  · exact (θ_run _ _ _).mono (fun r h c => ⟨(h.1 c).1.trans (Cert.KernelIdeal.Combine.final_prompt m c),
      (h.1 c).2.1.trans (Cert.KernelIdeal.Combine.final_sample m c), (h.1 c).2.2⟩) (Cert.KernelIdeal.Combine.run_results m g)
  · refine (θ_run _ _ _).mono (fun r h c => ⟨?_, ?_, (h c).2.2⟩) (Cert.ReferenceIdeal.Value.run m' g')
    · obtain ⟨a0, a1, a2, a3, a4, a5, a6, a7, a8⟩ := hargs c
      refine (h c).1.trans ((Cert.ReferenceIdeal.Read.val_main_v69_eq m' c).trans ?_)
      rw [a0, a1, a2, a3, a4, a5, a6, a7, a8]
    · obtain ⟨a0, a1, a2, a3, a4, a5, a6, a7, a8⟩ := hargs c
      refine (h c).2.1.trans ((Cert.ReferenceIdeal.Read.val_main_v128_eq m' c).trans ?_)
      rw [a0, a1, a2, a3, a4, a5, a6, a7, a8]

/-- The shapes the precondition's operations take. -/
theorem preFacts : Cert.Pre_experts_exist.Facts where
  bcast_S_S224 := by decide
  reducesTo_S224_S_d0 := by decide
  h_S_ := by decide

/-- The expert FFN leaves its arguments and every counter as they were. -/
theorem frame_kernel2 : Cert.quiescent_Kernel2 (hKernel2 := Cert.Kernel2.Gen.facts) (hPre_experts_exist := preFacts) := fun m ρ h =>
  haveI := preFacts
  (θ_run _ _ _).mono (fun _ hr => ⟨fun c => (hr.1 c).2, hr.2⟩) (Cert.Kernel2.Ffn.run_result m h ρ)

/-- So does its reference. -/
theorem frame_reference2 : Cert.quiescent_Reference2 (hReference2 := Cert.Reference2.Gen.facts) (hPre_experts_exist := preFacts) := fun m ρ h =>
  haveI := preFacts
  Cert.Reference2.Gen.frame m ρ (Cert.Reference2.Blocks.hyps m (Cert.Experts.experts_of_pre m h))

/-- The expert FFN's words are the reference's, bit for bit. -/
theorem bits : Cert.bitexact_Kernel2_Reference2 (hKernel2 := Cert.Kernel2.Gen.facts) (hReference2 := Cert.Reference2.Gen.facts) (hPre_experts_exist := preFacts) := by
  intro m g m' g' h hargs
  haveI := preFacts
  have he : Cert.Reference2.Blocks.Experts m' := fun c i => by
    rw [(hargs c).2.1]; exact Cert.Kernel2.Ffn.expert_lt m h c i
  refine ⟨fun c => Cert.Kernel2.Ffn.outArr m h c, ?_, ?_⟩
  · exact (θ_run _ _ _).mono (fun _ hr => hr.1) (Cert.Kernel2.Ffn.run_result m h g)
  · exact (θ_run _ _ _).mono (fun _ hr c => ⟨(hr c).1.trans (Cert.Experts.arrays_eq m h m' he hargs c), (hr c).2⟩) (Cert.Reference2.Blocks.run_result m' g' he)

/-- The second layer's input projection leaves its arguments and every counter as they were. -/
theorem frame_kernel3 : Cert.quiescent_Kernel3 (hKernel3 := Cert.Kernel3.Gen.facts) := fun m ρ _ => Cert.Kernel3.Gen.frame m ρ

/-- So does its idealized text. -/
theorem frame_kernel3Ideal : Cert.quiescent_Kernel3Ideal (hKernel3Ideal := Cert.Kernel3Ideal.Gen.facts) := fun m ρ _ => Cert.Kernel3Ideal.Gen.frame m ρ

/-- Its reference is host code without semaphores. -/
theorem frame_reference3Ideal : Cert.quiescent_Reference3Ideal (hReference3Ideal := Cert.Reference3Ideal.Gen.facts) := fun m ρ _ =>
  (θ_run _ _ _).mono (fun r h => ⟨fun c => (h c).2.2.2.2, sem_eq_zero_of_no_sems rfl r.2⟩) (Cert.Reference3Ideal.Value.run m ρ)

/-- Over the extended reals the projection's four results are the reference's. -/
theorem value3 : Cert.algebraic_Kernel3Ideal_Reference3Ideal (hKernel3Ideal := Cert.Kernel3Ideal.Gen.facts) (hReference3Ideal := Cert.Reference3Ideal.Gen.facts) := by
  intro m g m' g' _ hargs
  refine ⟨fun c => Cert.Kernel3Ideal.Proj.qVal m c, fun c => Cert.Kernel3Ideal.Proj.preVal m c, fun c => Cert.Kernel3Ideal.Proj.vVal m c,
    fun c => Cert.Kernel3Ideal.Proj.sgVal m c, ?_, ?_⟩
  · exact (θ_run _ _ _).mono (fun r h c => ⟨(h c).1.trans (Cert.Kernel3Ideal.Proj.final_3 m c),
      (h c).2.1.trans (Cert.Kernel3Ideal.Proj.final_4 m c), (h c).2.2.1.trans (Cert.Kernel3Ideal.Proj.final_5 m c),
      (h c).2.2.2.1.trans (Cert.Kernel3Ideal.Proj.final_6 m c), (h c).2.2.2.2⟩) (Cert.Kernel3Ideal.Value.run_blocks m g)
  · refine (θ_run _ _ _).mono (fun r h c => ?_) (Cert.Reference3Ideal.Value.run m' g')
    obtain ⟨a0, a1, a2⟩ := hargs c
    refine ⟨(h c).1.trans ((Cert.Reference3Ideal.Read.val_main_v20_eq _ _ _).trans ?_),
      (h c).2.1.trans ((Cert.Reference3Ideal.Read.val_main_v27_eq _ _ _).trans ?_),
      (h c).2.2.1.trans ((Cert.Reference3Ideal.Read.val_main_v30_eq _ _ _).trans ?_),
      (h c).2.2.2.1.trans ((Cert.Reference3Ideal.Read.val_main_v32_eq _ _ _).trans ?_), (h c).2.2.2.2⟩ <;> rw [a0, a1, a2]

/-- The second layer's expert FFN leaves its arguments and every counter as they were. -/
theorem frame_kernel4 : Cert.quiescent_Kernel4 (hKernel4 := Cert.Kernel4.Gen.facts) (hPre_experts_exist := preFacts) := fun m ρ h =>
  haveI := preFacts
  (θ_run _ _ _).mono (fun _ hr => ⟨fun c => (hr.1 c).2, hr.2⟩) (Cert.Kernel4.Ffn.run_result m h ρ)

/-- So does its reference. -/
theorem frame_reference4 : Cert.quiescent_Reference4 (hReference4 := Cert.Reference4.Gen.facts) (hPre_experts_exist := preFacts) := fun m ρ h =>
  haveI := preFacts
  Cert.Reference4.Gen.frame m ρ (Cert.Reference4.Blocks.hyps m (Cert.Experts2.experts_of_pre m h))

/-- The second layer's expert FFN's words are the reference's, bit for bit. -/
theorem bits4 : Cert.bitexact_Kernel4_Reference4 (hKernel4 := Cert.Kernel4.Gen.facts) (hReference4 := Cert.Reference4.Gen.facts) (hPre_experts_exist := preFacts) := by
  intro m g m' g' h hargs
  haveI := preFacts
  have he : Cert.Reference4.Blocks.Experts m' := fun c i => by
    rw [(hargs c).2.1]; exact Cert.Kernel4.Ffn.expert_lt m h c i
  refine ⟨fun c => Cert.Kernel4.Ffn.outArr m h c, ?_, ?_⟩
  · exact (θ_run _ _ _).mono (fun _ hr => hr.1) (Cert.Kernel4.Ffn.run_result m h g)
  · exact (θ_run _ _ _).mono (fun _ hr c => ⟨(hr c).1.trans (Cert.Experts2.arrays_eq m h m' he hargs c), (hr c).2⟩) (Cert.Reference4.Blocks.run_result m' g' he)

/-- The first layer's input projection leaves its arguments and every counter as they were, -/
theorem frame_kernel5 : Cert.quiescent_Kernel5 (hKernel5 := Cert.Kernel5.Gen.facts) := fun m ρ _ => Cert.Kernel5.Gen.frame m ρ

/-- so does its idealized text, -/
theorem frame_kernel5Ideal : Cert.quiescent_Kernel5Ideal (hKernel5Ideal := Cert.Kernel5Ideal.Gen.facts) := fun m ρ _ => Cert.Kernel5Ideal.Gen.frame m ρ

/-- and its reference is host code without semaphores. -/
theorem frame_reference5Ideal : Cert.quiescent_Reference5Ideal (hReference5Ideal := Cert.Reference5Ideal.Gen.facts) := fun m ρ _ =>
  (θ_run _ _ _).mono (fun r h => ⟨fun c => (h c).2.2.2.2.2, sem_eq_zero_of_no_sems rfl r.2⟩) (Cert.Reference5Ideal.Value.run m ρ)

/-- Over the extended reals that projection's five results are the reference's. -/
theorem value5 : Cert.algebraic_Kernel5Ideal_Reference5Ideal (hKernel5Ideal := Cert.Kernel5Ideal.Gen.facts) (hReference5Ideal := Cert.Reference5Ideal.Gen.facts) := by
  intro m g m' g' _ hargs
  refine ⟨fun c => Cert.Kernel5Ideal.ProjA.qVal m c, fun c => Cert.Kernel5Ideal.ProjA.ktVal m c, fun c => Cert.Kernel5Ideal.ProjA.vVal m c, fun c => Cert.Kernel5Ideal.ProjA.soVal m c,
    fun c => Cert.Kernel5Ideal.ProjA.grVal m c, ?_, ?_⟩
  · exact (θ_run _ _ _).mono (fun r h c => ⟨(h c).1.trans (Cert.Kernel5Ideal.ProjA.final_9 m c),
      (h c).2.1.trans (Cert.Kernel5Ideal.ProjA.final_10 m c), (h c).2.2.1.trans (Cert.Kernel5Ideal.ProjA.final_11 m c),
      (h c).2.2.2.1.trans (Cert.Kernel5Ideal.ProjA.final_12 m c), (h c).2.2.2.2.1.trans (Cert.Kernel5Ideal.ProjA.final_13 m c),
      (h c).2.2.2.2.2⟩) (Cert.Kernel5Ideal.Value.run_blocks m g)
  · refine (θ_run _ _ _).mono (fun r h c => ?_) (Cert.Reference5Ideal.Value.run m' g')
    obtain ⟨a0, a1, a2, a3, a4, a5⟩ := hargs c
    refine ⟨(h c).1.trans ((Cert.Reference5Ideal.Read.val_main_v28_eq _ _ _ _ _).trans ?_),
      (h c).2.1.trans ((Cert.Reference5Ideal.Read.val_main_v32_eq _ _ _ _ _).trans ?_),
      (h c).2.2.1.trans ((Cert.Reference5Ideal.Read.val_main_v33_eq _ _ _ _ _).trans ?_),
      (h c).2.2.2.1.trans ((Cert.Reference5Ideal.Read.val_main_v40_eq _ _ _ _ _).trans ?_),
      (h c).2.2.2.2.1.trans ((Cert.Reference5Ideal.Read.val_main_v42_eq _ _ _ _ _ _).trans ?_), (h c).2.2.2.2.2⟩
    · rw [a0, a1, a2, a3, a4]
    · rw [a0, a1, a2, a3, a4]
    · rw [a0, a1, a2, a3, a4]
    · rw [a0, a1, a2, a3, a4]
    · rw [a0, a1, a2, a3, a4, a5]

/-- The first layer's combine leaves its arguments and every counter as they were, -/
theorem frame_kernel8 : Cert.quiescent_Kernel8 (hKernel8 := Cert.Kernel8.Gen.facts) := fun m ρ _ => Cert.Kernel8.Gen.frame m ρ

/-- so does its idealized text, -/
theorem frame_kernel8Ideal : Cert.quiescent_Kernel8Ideal (hKernel8Ideal := Cert.Kernel8Ideal.Gen.facts) := fun m ρ _ => Cert.Kernel8Ideal.Gen.frame m ρ

/-- and its reference is host code without semaphores. -/
theorem frame_reference8Ideal : Cert.quiescent_Reference8Ideal (hReference8Ideal := Cert.Reference8Ideal.Gen.facts) := fun m ρ _ =>
  (θ_run _ _ _).mono (fun r h => ⟨fun c => (h c).2, sem_eq_zero_of_no_sems rfl r.2⟩) (Cert.Reference8Ideal.Value.run m ρ)

/-- Over the extended reals that combine's result is the reference's. -/
theorem value8 : Cert.algebraic_Kernel8Ideal_Reference8Ideal (hKernel8Ideal := Cert.Kernel8Ideal.Gen.facts) (hReference8Ideal := Cert.Reference8Ideal.Gen.facts) := by
  intro m g m' g' _ hargs
  refine ⟨fun c => Cert.Kernel8Ideal.Combine.outVal m c, ?_, ?_⟩
  · exact (θ_run _ _ _).mono (fun r h c => ⟨(h c).1.trans (Cert.Kernel8Ideal.Combine.final_9 m c), (h c).2⟩) (Cert.Kernel8Ideal.Combine.run_blocks m g)
  · refine (θ_run _ _ _).mono (fun r h c => ?_) (Cert.Reference8Ideal.Value.run m' g')
    obtain ⟨a0, a1, a2, a3, a4, a5, a6, a7, a8⟩ := hargs c
    refine ⟨(h c).1.trans ((Cert.Reference8Ideal.Read.val_main_v66_eq _ _).trans ?_), (h c).2⟩
    rw [a0, a1, a2, a3, a4, a5, a6, a7, a8]

/-- The second layer's output projection leaves its arguments and every counter as they were, -/
theorem frame_kernel6 : Cert.quiescent_Kernel6 (hKernel6 := Cert.Kernel6.Gen.facts) := fun m ρ _ => Cert.Kernel6.Gen.frame m ρ

/-- so does its idealized text, -/
theorem frame_kernel6Ideal : Cert.quiescent_Kernel6Ideal (hKernel6Ideal := Cert.Kernel6Ideal.Gen.facts) := fun m ρ _ => Cert.Kernel6Ideal.Gen.frame m ρ

/-- and its reference is host code without semaphores. -/
theorem frame_reference6Ideal : Cert.quiescent_Reference6Ideal (hReference6Ideal := Cert.Reference6Ideal.Gen.facts) := fun m ρ _ =>
  (θ_run _ _ _).mono (fun r h => ⟨fun c => (h c).2, sem_eq_zero_of_no_sems rfl r.2⟩) (Cert.Reference6Ideal.Value.run m ρ)

/-- Over the extended reals that projection's result is the reference's. -/
theorem value6 : Cert.algebraic_Kernel6Ideal_Reference6Ideal (hKernel6Ideal := Cert.Kernel6Ideal.Gen.facts) (hReference6Ideal := Cert.Reference6Ideal.Gen.facts) := by
  intro m g m' g' _ hargs
  refine ⟨fun c => Cert.Kernel6Ideal.OutB.outVal m c, ?_, ?_⟩
  · exact (θ_run _ _ _).mono (fun r h c => ⟨(h c).1.trans (Cert.Kernel6Ideal.OutB.final_9 m c), (h c).2⟩) (Cert.Kernel6Ideal.Value.run_blocks m g)
  · refine (θ_run _ _ _).mono (fun r h c => ?_) (Cert.Reference6Ideal.Value.run m' g')
    obtain ⟨a0, a1, a2, a3, a4, a5, a6, a7, a8⟩ := hargs c
    refine ⟨(h c).1.trans ((Cert.Reference6Ideal.Read.val_main_v56_eq _ _).trans ?_), (h c).2⟩
    rw [a0, a1, a2, a3, a4, a5, a6, a7, a8]

/-- The first layer's output projection leaves its arguments and every counter as they were, -/
theorem frame_kernel7 : Cert.quiescent_Kernel7 (hKernel7 := Cert.Kernel7.Gen.facts) := fun m ρ _ => Cert.Kernel7.Gen.frame m ρ

/-- so does its idealized text, -/
theorem frame_kernel7Ideal : Cert.quiescent_Kernel7Ideal (hKernel7Ideal := Cert.Kernel7Ideal.Gen.facts) := fun m ρ _ => Cert.Kernel7Ideal.Gen.frame m ρ

/-- and its reference is host code without semaphores. -/
theorem frame_reference7Ideal : Cert.quiescent_Reference7Ideal (hReference7Ideal := Cert.Reference7Ideal.Gen.facts) := fun m ρ _ =>
  (θ_run _ _ _).mono (fun r h => ⟨fun c => (h c).2, sem_eq_zero_of_no_sems rfl r.2⟩) (Cert.Reference7Ideal.Value.run m ρ)

/-- Over the extended reals that projection's result is the reference's. -/
theorem value7 : Cert.algebraic_Kernel7Ideal_Reference7Ideal (hKernel7Ideal := Cert.Kernel7Ideal.Gen.facts) (hReference7Ideal := Cert.Reference7Ideal.Gen.facts) := by
  intro m g m' g' _ hargs
  refine ⟨fun c => Cert.Kernel7Ideal.OutA.outVal m c, ?_, ?_⟩
  · exact (θ_run _ _ _).mono (fun r h c => ⟨(h c).1.trans (Cert.Kernel7Ideal.OutA.final_11 m c), (h c).2⟩) (Cert.Kernel7Ideal.Value.run_blocks m g)
  · refine (θ_run _ _ _).mono (fun r h c => ?_) (Cert.Reference7Ideal.Value.run m' g')
    obtain ⟨a0, a1, a2, a3, a4, a5, a6, a7, a8, a9, a10⟩ := hargs c
    refine ⟨(h c).1.trans ((Cert.Reference7Ideal.Read.val_main_v72_eq _ _).trans ?_), (h c).2⟩
    rw [a0, a1, a2, a3, a4, a5, a6, a7, a8, a9, a10]

theorem claim : Cert.Claim :=
  ⟨Cert.Kernel.Gen.facts, Cert.KernelIdeal.Gen.facts, Cert.ReferenceIdeal.Gen.facts, Cert.Kernel2.Gen.facts, Cert.Reference2.Gen.facts,
    Cert.Kernel3.Gen.facts, Cert.Kernel3Ideal.Gen.facts, Cert.Reference3Ideal.Gen.facts, Cert.Kernel4.Gen.facts, Cert.Reference4.Gen.facts,
    Cert.Kernel5.Gen.facts, Cert.Kernel5Ideal.Gen.facts, Cert.Reference5Ideal.Gen.facts,
    Cert.Kernel8.Gen.facts, Cert.Kernel8Ideal.Gen.facts, Cert.Reference8Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts,
    preFacts,
    frame_kernel, frame_kernelIdeal, frame_referenceIdeal, frame_kernel2, frame_reference2, frame_kernel3, frame_kernel3Ideal, frame_reference3Ideal,
    frame_kernel4, frame_reference4, frame_kernel5, frame_kernel5Ideal, frame_reference5Ideal,
    frame_kernel8, frame_kernel8Ideal, frame_reference8Ideal, frame_kernel6, frame_kernel6Ideal, frame_reference6Ideal, frame_kernel7, frame_kernel7Ideal, frame_reference7Ideal,
    trivial, value, bits, trivial, value3, bits4,
    trivial, value5, trivial, value8, trivial, value6, trivial, value7⟩

end Cert.Proof

end
